-- ==== Defs.lean ====
def Pre_Kernel [hPre_tokens_in_vocabulary : Cert.Pre_tokens_in_vocabulary.Facts] (m : (ℓ : Loc Cert.Kernel.nD Cert.Kernel.τ Cert.Kernel.sig) → Buf (Elt Bits) ℓ) : Prop :=
  ∀ c : Dev Cert.Kernel.nD,
    (Cert.Pre_tokens_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_tokens_in_vocabulary : Cert.Pre_tokens_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocabulary [hPre_tokens_in_vocabulary : Cert.Pre_tokens_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_tokens_in_vocabulary : Cert.Pre_tokens_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_tokens_in_vocabulary : Cert.Pre_tokens_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tokens_in_vocabulary [hReferenceIdeal : Cert.ReferenceIdeal.Facts] [hPre_tokens_in_vocabulary : Cert.Pre_tokens_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S16x128 Cert.KernelIdeal.S8x128
  ∧ IdealRules.bf16_pair.PackStatement Cert.KernelIdeal.S4x128
  ∧ IdealRules.bf16_pair.Statement Cert.KernelIdeal.S4x2x128 Cert.KernelIdeal.S4x1x128
  ∧ IdealRules.bf16_pair.Statement Cert.KernelIdeal.S8x128 Cert.KernelIdeal.S4x128
  ∧ IdealRules.named_const.Statement Cert.KernelIdeal.κ "inv_d_model" .f32 0x393A2E8C#32 ((1 / 5632 : ℝ) : EReal)

def algebraic_KernelIdeal_ReferenceIdeal [hKernelIdeal : Cert.KernelIdeal.Facts] [hReferenceIdeal : Cert.ReferenceIdeal.Facts] [hPre_tokens_in_vocabulary : Cert.Pre_tokens_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tokens_in_vocabulary : Cert.Pre_tokens_in_vocabulary.Facts),
    quiescent_Kernel (hKernel := hKernel) (hPre_tokens_in_vocabulary := hPre_tokens_in_vocabulary)
    ∧ quiescent_KernelIdeal (hKernelIdeal := hKernelIdeal) (hPre_tokens_in_vocabulary := hPre_tokens_in_vocabulary)
    ∧ quiescent_ReferenceIdeal (hReferenceIdeal := hReferenceIdeal)
    ∧ quiescent_ReferenceIdeal_pre_tokens_in_vocabulary (hReferenceIdeal := hReferenceIdeal) (hPre_tokens_in_vocabulary := hPre_tokens_in_vocabulary)
    ∧ preserves_Kernel_KernelIdeal
    ∧ algebraic_KernelIdeal_ReferenceIdeal (hKernelIdeal := hKernelIdeal) (hReferenceIdeal := hReferenceIdeal) (hPre_tokens_in_vocabulary := hPre_tokens_in_vocabulary)
-- ==== Pre_tokens_in_vocabulary.lean ====
abbrev S2x8192 : Shape := ⟨2, ![2, 8192]⟩
abbrev S64000x5632 : Shape := ⟨2, ![64000, 5632]⟩
abbrev S64000 : Shape := ⟨1, ![64000]⟩
abbrev S5632 : Shape := ⟨1, ![5632]⟩
abbrev S_ : Shape := ⟨0, ![]⟩

class Facts : Prop where
  bcast_S_S2x8192 : S_.BroadcastsInDim S2x8192 (![] : Fin 0 → Fin S2x8192.rank)

variable [Facts]

def fn {F : FTy → Type} [FloatOps F] (main_arg0 : IVec S2x8192 32) (main_arg1 : IVec S64000x5632 8) (main_arg2 : FVec F S64000 .f32) (main_arg3 : FVec F S5632 .bf16) : IVec S2x8192 1 :=
  let main_c : IVec S_ 32 := constantI S_ 32 0#32
  let main_v0 : IVec S2x8192 32 := broadcastInDim S2x8192 ![] bcast_S_S2x8192 main_c
  let main_v1 : IVec S2x8192 1 := cmpi .sge main_arg0 main_v0
  let main_c_0 : IVec S_ 32 := constantI S_ 32 64000#32
  let main_v2 : IVec S2x8192 32 := broadcastInDim S2x8192 ![] bcast_S_S2x8192 main_c_0
  let main_v3 : IVec S2x8192 1 := cmpi .slt main_arg0 main_v2
  let main_v4 : IVec S2x8192 1 := andi main_v1 main_v3
  main_v4
-- ==== Kernel.lean ====
abbrev S2x8192 : Shape := ⟨2, ![2, 8192]⟩
abbrev S64000x5632 : Shape := ⟨2, ![64000, 5632]⟩
abbrev S64000 : Shape := ⟨1, ![64000]⟩
abbrev S5632 : Shape := ⟨1, ![5632]⟩
abbrev S16384 : Shape := ⟨1, ![16384]⟩
abbrev S16000x4x5632 : Shape := ⟨3, ![16000, 4, 5632]⟩
abbrev S16000x5632x4 : Shape := ⟨3, ![16000, 5632, 4]⟩
abbrev S16000x5632 : Shape := ⟨2, ![16000, 5632]⟩
abbrev S44x128 : Shape := ⟨2, ![44, 128]⟩
abbrev S2048x44x8x128 : Shape := ⟨4, ![2048, 44, 8, 128]⟩
abbrev S512x1x5632 : Shape := ⟨3, ![512, 1, 5632]⟩
abbrev S1408x128 : Shape := ⟨2, ![1408, 128]⟩
abbrev S64 : Shape := ⟨1, ![64]⟩
abbrev S4 : Shape := ⟨1, ![4]⟩
abbrev S_ : Shape := ⟨0, ![]⟩
abbrev S1 : Shape := ⟨1, ![1]⟩
abbrev S1x1x5632 : Shape := ⟨3, ![1, 1, 5632]⟩
abbrev S1x5632 : Shape := ⟨2, ![1, 5632]⟩
abbrev S1x44x8x128 : Shape := ⟨4, ![1, 44, 8, 128]⟩
abbrev S44x8x128 : Shape := ⟨3, ![44, 8, 128]⟩
abbrev S352x128 : Shape := ⟨2, ![352, 128]⟩
abbrev S8x1x5632 : Shape := ⟨3, ![8, 1, 5632]⟩
abbrev S8x128 : Shape := ⟨2, ![8, 128]⟩
abbrev S22528x128 : Shape := ⟨2, ![22528, 128]⟩
abbrev S4x128 : Shape := ⟨2, ![4, 128]⟩
abbrev S704x128 : Shape := ⟨2, ![704, 128]⟩
abbrev S704x2x128 : Shape := ⟨3, ![704, 2, 128]⟩
abbrev S8x2x128 : Shape := ⟨3, ![8, 2, 128]⟩
abbrev S8x1x128 : Shape := ⟨3, ![8, 1, 128]⟩
abbrev S4x2x128 : Shape := ⟨3, ![4, 2, 128]⟩
abbrev S4x1x128 : Shape := ⟨3, ![4, 1, 128]⟩
abbrev S128 : Shape := ⟨1, ![128]⟩
abbrev S1x128 : Shape := ⟨2, ![1, 128]⟩
abbrev S1x1 : Shape := ⟨2, ![1, 1]⟩
abbrev S2048x8x44x128 : Shape := ⟨4, ![2048, 8, 44, 128]⟩
abbrev S2x8192x5632 : Shape := ⟨3, ![2, 8192, 5632]⟩

abbrev nBuf : Space → Nat
  | .hbm => 16
  | .vmem => 4
  | .smem => 2
  | _ => 0

abbrev bufTy : (tb : Table) → Fin (tcTables nBuf tb) → BufTy
  | .hbm, ⟨0, _⟩ => ⟨S2x8192, .i32⟩
  | .hbm, ⟨1, _⟩ => ⟨S64000x5632, .i8⟩
  | .hbm, ⟨2, _⟩ => ⟨S64000, .f32⟩
  | .hbm, ⟨3, _⟩ => ⟨S5632, .bf16⟩
  | .hbm, ⟨4, _⟩ => ⟨S16384, .i32⟩
  | .hbm, ⟨5, _⟩ => ⟨S16000x4x5632, .i8⟩
  | .hbm, ⟨6, _⟩ => ⟨S16000x5632x4, .i8⟩
  | .hbm, ⟨7, _⟩ => ⟨S16000x5632, .i32⟩
  | .hbm, ⟨8, _⟩ => ⟨S5632, .f32⟩
  | .hbm, ⟨9, _⟩ => ⟨S44x128, .f32⟩
  | .hbm, ⟨10, _⟩ => ⟨S2048x44x8x128, .bf16⟩
  | .hbm, ⟨11, _⟩ => ⟨S2048x44x8x128, .bf16⟩
  | .hbm, ⟨12, _⟩ => ⟨S2048x8x44x128, .bf16⟩
  | .hbm, ⟨13, _⟩ => ⟨S2x8192x5632, .bf16⟩
  | .hbm, ⟨14, _⟩ => ⟨S2048x8x44x128, .bf16⟩
  | .hbm, ⟨15, _⟩ => ⟨S2x8192x5632, .bf16⟩
  | .local _ .vmem, ⟨0, _⟩ => ⟨S44x128, .f32⟩
  | .local _ .vmem, ⟨1, _⟩ => ⟨S512x1x5632, .i32⟩
  | .local _ .vmem, ⟨2, _⟩ => ⟨S1408x128, .bf16⟩
  | .local _ .vmem, ⟨3, _⟩ => ⟨S1408x128, .bf16⟩
  | .local _ .smem, ⟨0, _⟩ => ⟨S16384, .i32⟩
  | .local _ .smem, ⟨1, _⟩ => ⟨S64000, .f32⟩
  | _, _ => ⟨S2x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_stg0_0 : Ref sig .tc := ⟨.smem, 0, rfl⟩
abbrev cc0_scratch3 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c63_i32 : BitVec 32 := 63#32
  let v0 : BitVec 32 := Scalar.addi c0_i32 c63_i32
  let c1_i32 : BitVec 32 := 1#32
  ⟨c0_i32, v0, c1_i32⟩
def k0_off1 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c8_i32 : BitVec 32 := 8#32
  let v24 : BitVec 32 := Scalar.muli v22 c8_i32
  let c0_i32_24 : BitVec 32 := 0#32
  let v25 : BitVec 32 := Scalar.addi v24 c0_i32_24
  let v26 : Index := Scalar.indexCast v25
  ![v26.toNat]
def k0_off2 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  ![v23.toNat]
def k0_off3 (k0_t1 : Fin k0_t1_loop.trips) : Fin 3 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  let c8_i32_26 : BitVec 32 := 8#32
  let v29 : BitVec 32 := Scalar.muli v23 c8_i32_26
  let c0_i32_27 : BitVec 32 := 0#32
  let v30 : BitVec 32 := Scalar.addi v29 c0_i32_27
  let c0_i32_28 : BitVec 32 := 0#32
  let c0_i32_29 : BitVec 32 := 0#32
  ![v30.toNat, 0, 0]
def k0_off4 (v27 : BitVec 32) : Fin 2 → Nat :=
  let c2_i32_25 : BitVec 32 := 2#32
  let v28 : BitVec 32 := Scalar.shrui v27 c2_i32_25
  let c0_i32_30 : BitVec 32 := 0#32
  ![v28.toNat, 0]

def k0_chk1 (v27 : BitVec 32) : Prop :=
  (∀ a, (k0_off4 v27) a + S1x5632.size a ≤ S16000x5632.size a)
theorem k0_off4_inb : ∀ (v27 : BitVec 32) (k0_hw1 : k0_chk1 v27), ∀ a, (k0_off4 v27) a + S1x5632.size a ≤ S16000x5632.size a := fun v27 k0_hw1 => k0_hw1

def k0_off5 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c8_i32_31 : BitVec 32 := 8#32
  let v36 : BitVec 32 := Scalar.muli v22 c8_i32_31
  let c1_i32_32 : BitVec 32 := 1#32
  let v37 : BitVec 32 := Scalar.addi v36 c1_i32_32
  let v38 : Index := Scalar.indexCast v37
  ![v38.toNat]
def k0_off6 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  ![v23.toNat]
def k0_off7 (k0_t1 : Fin k0_t1_loop.trips) : Fin 3 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  let c8_i32_34 : BitVec 32 := 8#32
  let v41 : BitVec 32 := Scalar.muli v23 c8_i32_34
  let c1_i32_35 : BitVec 32 := 1#32
  let v42 : BitVec 32 := Scalar.addi v41 c1_i32_35
  let c0_i32_36 : BitVec 32 := 0#32
  let c0_i32_37 : BitVec 32 := 0#32
  ![v42.toNat, 0, 0]
def k0_off8 (v39 : BitVec 32) : Fin 2 → Nat :=
  let c2_i32_33 : BitVec 32 := 2#32
  let v40 : BitVec 32 := Scalar.shrui v39 c2_i32_33
  let c0_i32_38 : BitVec 32 := 0#32
  ![v40.toNat, 0]

def k0_chk2 (v39 : BitVec 32) : Prop :=
  (∀ a, (k0_off8 v39) a + S1x5632.size a ≤ S16000x5632.size a)
theorem k0_off8_inb : ∀ (v39 : BitVec 32) (k0_hw2 : k0_chk2 v39), ∀ a, (k0_off8 v39) a + S1x5632.size a ≤ S16000x5632.size a := fun v39 k0_hw2 => k0_hw2

def k0_off9 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c8_i32_39 : BitVec 32 := 8#32
  let v48 : BitVec 32 := Scalar.muli v22 c8_i32_39
  let c2_i32_40 : BitVec 32 := 2#32
  let v49 : BitVec 32 := Scalar.addi v48 c2_i32_40
  let v50 : Index := Scalar.indexCast v49
  ![v50.toNat]
def k0_off10 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  ![v23.toNat]
def k0_off11 (k0_t1 : Fin k0_t1_loop.trips) : Fin 3 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  let c8_i32_42 : BitVec 32 := 8#32
  let v53 : BitVec 32 := Scalar.muli v23 c8_i32_42
  let c2_i32_43 : BitVec 32 := 2#32
  let v54 : BitVec 32 := Scalar.addi v53 c2_i32_43
  let c0_i32_44 : BitVec 32 := 0#32
  let c0_i32_45 : BitVec 32 := 0#32
  ![v54.toNat, 0, 0]
def k0_off12 (v51 : BitVec 32) : Fin 2 → Nat :=
  let c2_i32_41 : BitVec 32 := 2#32
  let v52 : BitVec 32 := Scalar.shrui v51 c2_i32_41
  let c0_i32_46 : BitVec 32 := 0#32
  ![v52.toNat, 0]

def k0_chk3 (v51 : BitVec 32) : Prop :=
  (∀ a, (k0_off12 v51) a + S1x5632.size a ≤ S16000x5632.size a)
theorem k0_off12_inb : ∀ (v51 : BitVec 32) (k0_hw3 : k0_chk3 v51), ∀ a, (k0_off12 v51) a + S1x5632.size a ≤ S16000x5632.size a := fun v51 k0_hw3 => k0_hw3

def k0_off13 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c8_i32_47 : BitVec 32 := 8#32
  let v60 : BitVec 32 := Scalar.muli v22 c8_i32_47
  let c3_i32 : BitVec 32 := 3#32
  let v61 : BitVec 32 := Scalar.addi v60 c3_i32
  let v62 : Index := Scalar.indexCast v61
  ![v62.toNat]
def k0_off14 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  ![v23.toNat]
def k0_off15 (k0_t1 : Fin k0_t1_loop.trips) : Fin 3 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  let c8_i32_49 : BitVec 32 := 8#32
  let v65 : BitVec 32 := Scalar.muli v23 c8_i32_49
  let c3_i32_50 : BitVec 32 := 3#32
  let v66 : BitVec 32 := Scalar.addi v65 c3_i32_50
  let c0_i32_51 : BitVec 32 := 0#32
  let c0_i32_52 : BitVec 32 := 0#32
  ![v66.toNat, 0, 0]
def k0_off16 (v63 : BitVec 32) : Fin 2 → Nat :=
  let c2_i32_48 : BitVec 32 := 2#32
  let v64 : BitVec 32 := Scalar.shrui v63 c2_i32_48
  let c0_i32_53 : BitVec 32 := 0#32
  ![v64.toNat, 0]

def k0_chk4 (v63 : BitVec 32) : Prop :=
  (∀ a, (k0_off16 v63) a + S1x5632.size a ≤ S16000x5632.size a)
theorem k0_off16_inb : ∀ (v63 : BitVec 32) (k0_hw4 : k0_chk4 v63), ∀ a, (k0_off16 v63) a + S1x5632.size a ≤ S16000x5632.size a := fun v63 k0_hw4 => k0_hw4

def k0_off17 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c8_i32_54 : BitVec 32 := 8#32
  let v72 : BitVec 32 := Scalar.muli v22 c8_i32_54
  let c4_i32_55 : BitVec 32 := 4#32
  let v73 : BitVec 32 := Scalar.addi v72 c4_i32_55
  let v74 : Index := Scalar.indexCast v73
  ![v74.toNat]
def k0_off18 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  ![v23.toNat]
def k0_off19 (k0_t1 : Fin k0_t1_loop.trips) : Fin 3 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  let c8_i32_57 : BitVec 32 := 8#32
  let v77 : BitVec 32 := Scalar.muli v23 c8_i32_57
  let c4_i32_58 : BitVec 32 := 4#32
  let v78 : BitVec 32 := Scalar.addi v77 c4_i32_58
  let c0_i32_59 : BitVec 32 := 0#32
  let c0_i32_60 : BitVec 32 := 0#32
  ![v78.toNat, 0, 0]
def k0_off20 (v75 : BitVec 32) : Fin 2 → Nat :=
  let c2_i32_56 : BitVec 32 := 2#32
  let v76 : BitVec 32 := Scalar.shrui v75 c2_i32_56
  let c0_i32_61 : BitVec 32 := 0#32
  ![v76.toNat, 0]

def k0_chk5 (v75 : BitVec 32) : Prop :=
  (∀ a, (k0_off20 v75) a + S1x5632.size a ≤ S16000x5632.size a)
theorem k0_off20_inb : ∀ (v75 : BitVec 32) (k0_hw5 : k0_chk5 v75), ∀ a, (k0_off20 v75) a + S1x5632.size a ≤ S16000x5632.size a := fun v75 k0_hw5 => k0_hw5

def k0_off21 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c8_i32_62 : BitVec 32 := 8#32
  let v84 : BitVec 32 := Scalar.muli v22 c8_i32_62
  let c5_i32 : BitVec 32 := 5#32
  let v85 : BitVec 32 := Scalar.addi v84 c5_i32
  let v86 : Index := Scalar.indexCast v85
  ![v86.toNat]
def k0_off22 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  ![v23.toNat]
def k0_off23 (k0_t1 : Fin k0_t1_loop.trips) : Fin 3 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  let c8_i32_64 : BitVec 32 := 8#32
  let v89 : BitVec 32 := Scalar.muli v23 c8_i32_64
  let c5_i32_65 : BitVec 32 := 5#32
  let v90 : BitVec 32 := Scalar.addi v89 c5_i32_65
  let c0_i32_66 : BitVec 32 := 0#32
  let c0_i32_67 : BitVec 32 := 0#32
  ![v90.toNat, 0, 0]
def k0_off24 (v87 : BitVec 32) : Fin 2 → Nat :=
  let c2_i32_63 : BitVec 32 := 2#32
  let v88 : BitVec 32 := Scalar.shrui v87 c2_i32_63
  let c0_i32_68 : BitVec 32 := 0#32
  ![v88.toNat, 0]

def k0_chk6 (v87 : BitVec 32) : Prop :=
  (∀ a, (k0_off24 v87) a + S1x5632.size a ≤ S16000x5632.size a)
theorem k0_off24_inb : ∀ (v87 : BitVec 32) (k0_hw6 : k0_chk6 v87), ∀ a, (k0_off24 v87) a + S1x5632.size a ≤ S16000x5632.size a := fun v87 k0_hw6 => k0_hw6

def k0_off25 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c8_i32_69 : BitVec 32 := 8#32
  let v96 : BitVec 32 := Scalar.muli v22 c8_i32_69
  let c6_i32 : BitVec 32 := 6#32
  let v97 : BitVec 32 := Scalar.addi v96 c6_i32
  let v98 : Index := Scalar.indexCast v97
  ![v98.toNat]
def k0_off26 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  ![v23.toNat]
def k0_off27 (k0_t1 : Fin k0_t1_loop.trips) : Fin 3 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  let c8_i32_71 : BitVec 32 := 8#32
  let v101 : BitVec 32 := Scalar.muli v23 c8_i32_71
  let c6_i32_72 : BitVec 32 := 6#32
  let v102 : BitVec 32 := Scalar.addi v101 c6_i32_72
  let c0_i32_73 : BitVec 32 := 0#32
  let c0_i32_74 : BitVec 32 := 0#32
  ![v102.toNat, 0, 0]
def k0_off28 (v99 : BitVec 32) : Fin 2 → Nat :=
  let c2_i32_70 : BitVec 32 := 2#32
  let v100 : BitVec 32 := Scalar.shrui v99 c2_i32_70
  let c0_i32_75 : BitVec 32 := 0#32
  ![v100.toNat, 0]

def k0_chk7 (v99 : BitVec 32) : Prop :=
  (∀ a, (k0_off28 v99) a + S1x5632.size a ≤ S16000x5632.size a)
theorem k0_off28_inb : ∀ (v99 : BitVec 32) (k0_hw7 : k0_chk7 v99), ∀ a, (k0_off28 v99) a + S1x5632.size a ≤ S16000x5632.size a := fun v99 k0_hw7 => k0_hw7

def k0_off29 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c8_i32_76 : BitVec 32 := 8#32
  let v108 : BitVec 32 := Scalar.muli v22 c8_i32_76
  let c7_i32 : BitVec 32 := 7#32
  let v109 : BitVec 32 := Scalar.addi v108 c7_i32
  let v110 : Index := Scalar.indexCast v109
  ![v110.toNat]
def k0_off30 (k0_t1 : Fin k0_t1_loop.trips) : Fin 1 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  ![v23.toNat]
def k0_off31 (k0_t1 : Fin k0_t1_loop.trips) : Fin 3 → Nat :=
  let c0_i32_23 : BitVec 32 := 0#32
  let c0_i32 : BitVec 32 := 0#32
  let c1_i32 : BitVec 32 := 1#32
  let arg14 : BitVec 32 := Scf.iv c0_i32 c1_i32 k0_t1
  let c1_i32_22 : BitVec 32 := 1#32
  let v21 : BitVec 32 := Scalar.muli arg14 c1_i32_22
  let v22 : BitVec 32 := Scalar.addi c0_i32_23 v21
  let c64_i32 : BitVec 32 := 64#32
  let v23 : BitVec 32 := Scalar.remsi v22 c64_i32
  let c8_i32_78 : BitVec 32 := 8#32
  let v113 : BitVec 32 := Scalar.muli v23 c8_i32_78
  let c7_i32_79 : BitVec 32 := 7#32
  let v114 : BitVec 32 := Scalar.addi v113 c7_i32_79
  let c0_i32_80 : BitVec 32 := 0#32
  let c0_i32_81 : BitVec 32 := 0#32
  ![v114.toNat, 0, 0]
def k0_off32 (v111 : BitVec 32) : Fin 2 → Nat :=
  let c2_i32_77 : BitVec 32 := 2#32
  let v112 : BitVec 32 := Scalar.shrui v111 c2_i32_77
  let c0_i32_82 : BitVec 32 := 0#32
  ![v112.toNat, 0]

def k0_chk8 (v111 : BitVec 32) : Prop :=
  (∀ a, (k0_off32 v111) a + S1x5632.size a ≤ S16000x5632.size a)
theorem k0_off32_inb : ∀ (v111 : BitVec 32) (k0_hw8 : k0_chk8 v111), ∀ a, (k0_off32 v111) a + S1x5632.size a ≤ S16000x5632.size a := fun v111 k0_hw8 => k0_hw8

@[reducible] def k0_t2_loop : Scf.Loop 32 :=
  let c0_i32_1 : BitVec 32 := 0#32
  let c2048_i32 : BitVec 32 := 2048#32
  let v1 : BitVec 32 := Scalar.addi c0_i32_1 c2048_i32
  let c1_i32_2 : BitVec 32 := 1#32
  ⟨c0_i32_1, v1, c1_i32_2⟩
def k0_cond1 (k0_t2 : Fin k0_t2_loop.trips) : BitVec 1 :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c1_i32_24 : BitVec 32 := 1#32
  let v23 : BitVec 1 := Scalar.cmpi .sge v22 c1_i32_24
  let v24 : BitVec 32 := Scalar.extui v23
  let c0_i32_25 : BitVec 32 := 0#32
  let v25 : BitVec 1 := Scalar.cmpi .ne v24 c0_i32_25
  v25

def k0_off33 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c1_i32_531 : BitVec 32 := 1#32
  let v1567 : BitVec 32 := Scalar.subi v22 c1_i32_531
  let c4_i32_532 : BitVec 32 := 4#32
  let v1568 : BitVec 32 := Scalar.remsi v1567 c4_i32_532
  ![v1568.toNat]
def k0_off34 (k0_t2 : Fin k0_t2_loop.trips) : Fin 4 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c1_i32_531 : BitVec 32 := 1#32
  let v1567 : BitVec 32 := Scalar.subi v22 c1_i32_531
  let c0_i32_535 : BitVec 32 := 0#32
  let c0_i32_536 : BitVec 32 := 0#32
  let c0_i32_537 : BitVec 32 := 0#32
  ![v1567.toNat, 0, 0, 0]
def k0_off35 (k0_t2 : Fin k0_t2_loop.trips) : Fin 2 → Nat :=
  let c2_i32_533 : BitVec 32 := 2#32
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c1_i32_531 : BitVec 32 := 1#32
  let v1567 : BitVec 32 := Scalar.subi v22 c1_i32_531
  let c4_i32_532 : BitVec 32 := 4#32
  let v1568 : BitVec 32 := Scalar.remsi v1567 c4_i32_532
  let v1569 : BitVec 32 := Scalar.muli c2_i32_533 v1568
  let c176_i32_534 : BitVec 32 := 176#32
  let v1570 : BitVec 32 := Scalar.muli v1569 c176_i32_534
  let c0_i32_538 : BitVec 32 := 0#32
  ![v1570.toNat, 0]
def k0_cond2 (k0_t2 : Fin k0_t2_loop.trips) : BitVec 1 :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32 : BitVec 32 := 64#32
  let v26 : BitVec 32 := Scalar.addi v22 c64_i32
  let c1_i32_26 : BitVec 32 := 1#32
  let v27 : BitVec 32 := Scalar.subi v26 c1_i32_26
  let c2048_i32_27 : BitVec 32 := 2048#32
  let v28 : BitVec 1 := Scalar.cmpi .slt v27 c2048_i32_27
  let v29 : BitVec 32 := Scalar.extui v28
  let c0_i32_28 : BitVec 32 := 0#32
  let v30 : BitVec 1 := Scalar.cmpi .ne v29 c0_i32_28
  v30

def k0_off36 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c8_i32_534 : BitVec 32 := 8#32
  let v1570 : BitVec 32 := Scalar.muli v1568 c8_i32_534
  let c0_i32_535 : BitVec 32 := 0#32
  let v1571 : BitVec 32 := Scalar.addi v1570 c0_i32_535
  let v1572 : Index := Scalar.indexCast v1571
  ![v1572.toNat]
def k0_off37 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  ![v1569.toNat]
def k0_off38 (k0_t2 : Fin k0_t2_loop.trips) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  let c8_i32_537 : BitVec 32 := 8#32
  let v1575 : BitVec 32 := Scalar.muli v1569 c8_i32_537
  let c0_i32_538 : BitVec 32 := 0#32
  let v1576 : BitVec 32 := Scalar.addi v1575 c0_i32_538
  let c0_i32_539 : BitVec 32 := 0#32
  let c0_i32_540 : BitVec 32 := 0#32
  ![v1576.toNat, 0, 0]
def k0_off39 (v1573 : BitVec 32) : Fin 2 → Nat :=
  let c2_i32_536 : BitVec 32 := 2#32
  let v1574 : BitVec 32 := Scalar.shrui v1573 c2_i32_536
  let c0_i32_541 : BitVec 32 := 0#32
  ![v1574.toNat, 0]

def k0_chk9 (k0_t2 : Fin k0_t2_loop.trips) (v1573 : BitVec 32) : Prop :=
  (∀ (k0_h2 : k0_cond2 k0_t2 = 1#1), ∀ a, (k0_off39 v1573) a + S1x5632.size a ≤ S16000x5632.size a)
theorem k0_off39_inb : ∀ (k0_t2 : Fin k0_t2_loop.trips) (v1573 : BitVec 32) (k0_hw9 : k0_chk9 k0_t2 v1573), ∀ (k0_h2 : k0_cond2 k0_t2 = 1#1), ∀ a, (k0_off39 v1573) a + S1x5632.size a ≤ S16000x5632.size a := fun k0_t2 v1573 k0_hw9 k0_h2 => k0_hw9 k0_h2

def k0_off40 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c8_i32_542 : BitVec 32 := 8#32
  let v1582 : BitVec 32 := Scalar.muli v1568 c8_i32_542
  let c1_i32_543 : BitVec 32 := 1#32
  let v1583 : BitVec 32 := Scalar.addi v1582 c1_i32_543
  let v1584 : Index := Scalar.indexCast v1583
  ![v1584.toNat]
def k0_off41 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  ![v1569.toNat]
def k0_off42 (k0_t2 : Fin k0_t2_loop.trips) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  let c8_i32_545 : BitVec 32 := 8#32
  let v1587 : BitVec 32 := Scalar.muli v1569 c8_i32_545
  let c1_i32_546 : BitVec 32 := 1#32
  let v1588 : BitVec 32 := Scalar.addi v1587 c1_i32_546
  let c0_i32_547 : BitVec 32 := 0#32
  let c0_i32_548 : BitVec 32 := 0#32
  ![v1588.toNat, 0, 0]
def k0_off43 (v1585 : BitVec 32) : Fin 2 → Nat :=
  let c2_i32_544 : BitVec 32 := 2#32
  let v1586 : BitVec 32 := Scalar.shrui v1585 c2_i32_544
  let c0_i32_549 : BitVec 32 := 0#32
  ![v1586.toNat, 0]

def k0_chk10 (k0_t2 : Fin k0_t2_loop.trips) (v1585 : BitVec 32) : Prop :=
  (∀ (k0_h2 : k0_cond2 k0_t2 = 1#1), ∀ a, (k0_off43 v1585) a + S1x5632.size a ≤ S16000x5632.size a)
theorem k0_off43_inb : ∀ (k0_t2 : Fin k0_t2_loop.trips) (v1585 : BitVec 32) (k0_hw10 : k0_chk10 k0_t2 v1585), ∀ (k0_h2 : k0_cond2 k0_t2 = 1#1), ∀ a, (k0_off43 v1585) a + S1x5632.size a ≤ S16000x5632.size a := fun k0_t2 v1585 k0_hw10 k0_h2 => k0_hw10 k0_h2

def k0_off44 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c8_i32_550 : BitVec 32 := 8#32
  let v1594 : BitVec 32 := Scalar.muli v1568 c8_i32_550
  let c2_i32_551 : BitVec 32 := 2#32
  let v1595 : BitVec 32 := Scalar.addi v1594 c2_i32_551
  let v1596 : Index := Scalar.indexCast v1595
  ![v1596.toNat]
def k0_off45 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  ![v1569.toNat]
def k0_off46 (k0_t2 : Fin k0_t2_loop.trips) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  let c8_i32_553 : BitVec 32 := 8#32
  let v1599 : BitVec 32 := Scalar.muli v1569 c8_i32_553
  let c2_i32_554 : BitVec 32 := 2#32
  let v1600 : BitVec 32 := Scalar.addi v1599 c2_i32_554
  let c0_i32_555 : BitVec 32 := 0#32
  let c0_i32_556 : BitVec 32 := 0#32
  ![v1600.toNat, 0, 0]
def k0_off47 (v1597 : BitVec 32) : Fin 2 → Nat :=
  let c2_i32_552 : BitVec 32 := 2#32
  let v1598 : BitVec 32 := Scalar.shrui v1597 c2_i32_552
  let c0_i32_557 : BitVec 32 := 0#32
  ![v1598.toNat, 0]

def k0_chk11 (k0_t2 : Fin k0_t2_loop.trips) (v1597 : BitVec 32) : Prop :=
  (∀ (k0_h2 : k0_cond2 k0_t2 = 1#1), ∀ a, (k0_off47 v1597) a + S1x5632.size a ≤ S16000x5632.size a)
theorem k0_off47_inb : ∀ (k0_t2 : Fin k0_t2_loop.trips) (v1597 : BitVec 32) (k0_hw11 : k0_chk11 k0_t2 v1597), ∀ (k0_h2 : k0_cond2 k0_t2 = 1#1), ∀ a, (k0_off47 v1597) a + S1x5632.size a ≤ S16000x5632.size a := fun k0_t2 v1597 k0_hw11 k0_h2 => k0_hw11 k0_h2

def k0_off48 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c8_i32_558 : BitVec 32 := 8#32
  let v1606 : BitVec 32 := Scalar.muli v1568 c8_i32_558
  let c3_i32_559 : BitVec 32 := 3#32
  let v1607 : BitVec 32 := Scalar.addi v1606 c3_i32_559
  let v1608 : Index := Scalar.indexCast v1607
  ![v1608.toNat]
def k0_off49 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  ![v1569.toNat]
def k0_off50 (k0_t2 : Fin k0_t2_loop.trips) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  let c8_i32_561 : BitVec 32 := 8#32
  let v1611 : BitVec 32 := Scalar.muli v1569 c8_i32_561
  let c3_i32_562 : BitVec 32 := 3#32
  let v1612 : BitVec 32 := Scalar.addi v1611 c3_i32_562
  let c0_i32_563 : BitVec 32 := 0#32
  let c0_i32_564 : BitVec 32 := 0#32
  ![v1612.toNat, 0, 0]
def k0_off51 (v1609 : BitVec 32) : Fin 2 → Nat :=
  let c2_i32_560 : BitVec 32 := 2#32
  let v1610 : BitVec 32 := Scalar.shrui v1609 c2_i32_560
  let c0_i32_565 : BitVec 32 := 0#32
  ![v1610.toNat, 0]

def k0_chk12 (k0_t2 : Fin k0_t2_loop.trips) (v1609 : BitVec 32) : Prop :=
  (∀ (k0_h2 : k0_cond2 k0_t2 = 1#1), ∀ a, (k0_off51 v1609) a + S1x5632.size a ≤ S16000x5632.size a)
theorem k0_off51_inb : ∀ (k0_t2 : Fin k0_t2_loop.trips) (v1609 : BitVec 32) (k0_hw12 : k0_chk12 k0_t2 v1609), ∀ (k0_h2 : k0_cond2 k0_t2 = 1#1), ∀ a, (k0_off51 v1609) a + S1x5632.size a ≤ S16000x5632.size a := fun k0_t2 v1609 k0_hw12 k0_h2 => k0_hw12 k0_h2

def k0_off52 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c8_i32_566 : BitVec 32 := 8#32
  let v1618 : BitVec 32 := Scalar.muli v1568 c8_i32_566
  let c4_i32_567 : BitVec 32 := 4#32
  let v1619 : BitVec 32 := Scalar.addi v1618 c4_i32_567
  let v1620 : Index := Scalar.indexCast v1619
  ![v1620.toNat]
def k0_off53 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  ![v1569.toNat]
def k0_off54 (k0_t2 : Fin k0_t2_loop.trips) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  let c8_i32_569 : BitVec 32 := 8#32
  let v1623 : BitVec 32 := Scalar.muli v1569 c8_i32_569
  let c4_i32_570 : BitVec 32 := 4#32
  let v1624 : BitVec 32 := Scalar.addi v1623 c4_i32_570
  let c0_i32_571 : BitVec 32 := 0#32
  let c0_i32_572 : BitVec 32 := 0#32
  ![v1624.toNat, 0, 0]
def k0_off55 (v1621 : BitVec 32) : Fin 2 → Nat :=
  let c2_i32_568 : BitVec 32 := 2#32
  let v1622 : BitVec 32 := Scalar.shrui v1621 c2_i32_568
  let c0_i32_573 : BitVec 32 := 0#32
  ![v1622.toNat, 0]

def k0_chk13 (k0_t2 : Fin k0_t2_loop.trips) (v1621 : BitVec 32) : Prop :=
  (∀ (k0_h2 : k0_cond2 k0_t2 = 1#1), ∀ a, (k0_off55 v1621) a + S1x5632.size a ≤ S16000x5632.size a)
theorem k0_off55_inb : ∀ (k0_t2 : Fin k0_t2_loop.trips) (v1621 : BitVec 32) (k0_hw13 : k0_chk13 k0_t2 v1621), ∀ (k0_h2 : k0_cond2 k0_t2 = 1#1), ∀ a, (k0_off55 v1621) a + S1x5632.size a ≤ S16000x5632.size a := fun k0_t2 v1621 k0_hw13 k0_h2 => k0_hw13 k0_h2

def k0_off56 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c8_i32_574 : BitVec 32 := 8#32
  let v1630 : BitVec 32 := Scalar.muli v1568 c8_i32_574
  let c5_i32 : BitVec 32 := 5#32
  let v1631 : BitVec 32 := Scalar.addi v1630 c5_i32
  let v1632 : Index := Scalar.indexCast v1631
  ![v1632.toNat]
def k0_off57 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  ![v1569.toNat]
def k0_off58 (k0_t2 : Fin k0_t2_loop.trips) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  let c8_i32_576 : BitVec 32 := 8#32
  let v1635 : BitVec 32 := Scalar.muli v1569 c8_i32_576
  let c5_i32_577 : BitVec 32 := 5#32
  let v1636 : BitVec 32 := Scalar.addi v1635 c5_i32_577
  let c0_i32_578 : BitVec 32 := 0#32
  let c0_i32_579 : BitVec 32 := 0#32
  ![v1636.toNat, 0, 0]
def k0_off59 (v1633 : BitVec 32) : Fin 2 → Nat :=
  let c2_i32_575 : BitVec 32 := 2#32
  let v1634 : BitVec 32 := Scalar.shrui v1633 c2_i32_575
  let c0_i32_580 : BitVec 32 := 0#32
  ![v1634.toNat, 0]

def k0_chk14 (k0_t2 : Fin k0_t2_loop.trips) (v1633 : BitVec 32) : Prop :=
  (∀ (k0_h2 : k0_cond2 k0_t2 = 1#1), ∀ a, (k0_off59 v1633) a + S1x5632.size a ≤ S16000x5632.size a)
theorem k0_off59_inb : ∀ (k0_t2 : Fin k0_t2_loop.trips) (v1633 : BitVec 32) (k0_hw14 : k0_chk14 k0_t2 v1633), ∀ (k0_h2 : k0_cond2 k0_t2 = 1#1), ∀ a, (k0_off59 v1633) a + S1x5632.size a ≤ S16000x5632.size a := fun k0_t2 v1633 k0_hw14 k0_h2 => k0_hw14 k0_h2

def k0_off60 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c8_i32_581 : BitVec 32 := 8#32
  let v1642 : BitVec 32 := Scalar.muli v1568 c8_i32_581
  let c6_i32_582 : BitVec 32 := 6#32
  let v1643 : BitVec 32 := Scalar.addi v1642 c6_i32_582
  let v1644 : Index := Scalar.indexCast v1643
  ![v1644.toNat]
def k0_off61 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  ![v1569.toNat]
def k0_off62 (k0_t2 : Fin k0_t2_loop.trips) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  let c8_i32_584 : BitVec 32 := 8#32
  let v1647 : BitVec 32 := Scalar.muli v1569 c8_i32_584
  let c6_i32_585 : BitVec 32 := 6#32
  let v1648 : BitVec 32 := Scalar.addi v1647 c6_i32_585
  let c0_i32_586 : BitVec 32 := 0#32
  let c0_i32_587 : BitVec 32 := 0#32
  ![v1648.toNat, 0, 0]
def k0_off63 (v1645 : BitVec 32) : Fin 2 → Nat :=
  let c2_i32_583 : BitVec 32 := 2#32
  let v1646 : BitVec 32 := Scalar.shrui v1645 c2_i32_583
  let c0_i32_588 : BitVec 32 := 0#32
  ![v1646.toNat, 0]

def k0_chk15 (k0_t2 : Fin k0_t2_loop.trips) (v1645 : BitVec 32) : Prop :=
  (∀ (k0_h2 : k0_cond2 k0_t2 = 1#1), ∀ a, (k0_off63 v1645) a + S1x5632.size a ≤ S16000x5632.size a)
theorem k0_off63_inb : ∀ (k0_t2 : Fin k0_t2_loop.trips) (v1645 : BitVec 32) (k0_hw15 : k0_chk15 k0_t2 v1645), ∀ (k0_h2 : k0_cond2 k0_t2 = 1#1), ∀ a, (k0_off63 v1645) a + S1x5632.size a ≤ S16000x5632.size a := fun k0_t2 v1645 k0_hw15 k0_h2 => k0_hw15 k0_h2

def k0_off64 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c8_i32_589 : BitVec 32 := 8#32
  let v1654 : BitVec 32 := Scalar.muli v1568 c8_i32_589
  let c7_i32 : BitVec 32 := 7#32
  let v1655 : BitVec 32 := Scalar.addi v1654 c7_i32
  let v1656 : Index := Scalar.indexCast v1655
  ![v1656.toNat]
def k0_off65 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  ![v1569.toNat]
def k0_off66 (k0_t2 : Fin k0_t2_loop.trips) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_531 : BitVec 32 := 64#32
  let v1567 : BitVec 32 := Scalar.addi v22 c64_i32_531
  let c1_i32_532 : BitVec 32 := 1#32
  let v1568 : BitVec 32 := Scalar.subi v1567 c1_i32_532
  let c64_i32_533 : BitVec 32 := 64#32
  let v1569 : BitVec 32 := Scalar.remsi v1568 c64_i32_533
  let c8_i32_591 : BitVec 32 := 8#32
  let v1659 : BitVec 32 := Scalar.muli v1569 c8_i32_591
  let c7_i32_592 : BitVec 32 := 7#32
  let v1660 : BitVec 32 := Scalar.addi v1659 c7_i32_592
  let c0_i32_593 : BitVec 32 := 0#32
  let c0_i32_594 : BitVec 32 := 0#32
  ![v1660.toNat, 0, 0]
def k0_off67 (v1657 : BitVec 32) : Fin 2 → Nat :=
  let c2_i32_590 : BitVec 32 := 2#32
  let v1658 : BitVec 32 := Scalar.shrui v1657 c2_i32_590
  let c0_i32_595 : BitVec 32 := 0#32
  ![v1658.toNat, 0]

def k0_chk16 (k0_t2 : Fin k0_t2_loop.trips) (v1657 : BitVec 32) : Prop :=
  (∀ (k0_h2 : k0_cond2 k0_t2 = 1#1), ∀ a, (k0_off67 v1657) a + S1x5632.size a ≤ S16000x5632.size a)
theorem k0_off67_inb : ∀ (k0_t2 : Fin k0_t2_loop.trips) (v1657 : BitVec 32) (k0_hw16 : k0_chk16 k0_t2 v1657), ∀ (k0_h2 : k0_cond2 k0_t2 = 1#1), ∀ a, (k0_off67 v1657) a + S1x5632.size a ≤ S16000x5632.size a := fun k0_t2 v1657 k0_hw16 k0_h2 => k0_hw16 k0_h2

def k0_cond3 (k0_t2 : Fin k0_t2_loop.trips) : BitVec 1 :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c4_i32_29 : BitVec 32 := 4#32
  let v31 : BitVec 1 := Scalar.cmpi .sge v22 c4_i32_29
  let v32 : BitVec 32 := Scalar.extui v31
  let c0_i32_30 : BitVec 32 := 0#32
  let v33 : BitVec 1 := Scalar.cmpi .ne v32 c0_i32_30
  v33

def k0_off68 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c4_i32_531 : BitVec 32 := 4#32
  let v1567 : BitVec 32 := Scalar.subi v22 c4_i32_531
  let c4_i32_532 : BitVec 32 := 4#32
  let v1568 : BitVec 32 := Scalar.remsi v1567 c4_i32_532
  ![v1568.toNat]
def k0_off69 (k0_t2 : Fin k0_t2_loop.trips) : Fin 4 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c4_i32_531 : BitVec 32 := 4#32
  let v1567 : BitVec 32 := Scalar.subi v22 c4_i32_531
  let c0_i32_535 : BitVec 32 := 0#32
  let c0_i32_536 : BitVec 32 := 0#32
  let c0_i32_537 : BitVec 32 := 0#32
  ![v1567.toNat, 0, 0, 0]
def k0_off70 (k0_t2 : Fin k0_t2_loop.trips) : Fin 2 → Nat :=
  let c2_i32_533 : BitVec 32 := 2#32
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c4_i32_531 : BitVec 32 := 4#32
  let v1567 : BitVec 32 := Scalar.subi v22 c4_i32_531
  let c4_i32_532 : BitVec 32 := 4#32
  let v1568 : BitVec 32 := Scalar.remsi v1567 c4_i32_532
  let v1569 : BitVec 32 := Scalar.muli c2_i32_533 v1568
  let c176_i32_534 : BitVec 32 := 176#32
  let v1570 : BitVec 32 := Scalar.muli v1569 c176_i32_534
  let c0_i32_538 : BitVec 32 := 0#32
  ![v1570.toNat, 0]
def k0_off71 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_31 : BitVec 32 := 64#32
  let v34 : BitVec 32 := Scalar.remsi v22 c64_i32_31
  ![v34.toNat]
def k0_off72 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c8_i32_40 : BitVec 32 := 8#32
  let v42 : BitVec 32 := Scalar.muli v22 c8_i32_40
  let c0_i32_41 : BitVec 32 := 0#32
  let v43 : BitVec 32 := Scalar.addi v42 c0_i32_41
  let c0_i32_42 : BitVec 32 := 0#32
  let v44 : BitVec 32 := Scalar.addi v43 c0_i32_42
  let v45 : Index := Scalar.indexCast v44
  ![v45.toNat]
def k0_off73 (v46 : BitVec 32) : Fin 1 → Nat :=
  let v50 : Index := Scalar.indexCast v46
  ![v50.toNat]

def k0_chk17 (v46 : BitVec 32) : Prop :=
  (∀ a, (k0_off73 v46) a + S1.size a ≤ S64000.size a)
theorem k0_off73_inb : ∀ (v46 : BitVec 32) (k0_hw17 : k0_chk17 v46), ∀ a, (k0_off73 v46) a + S1.size a ≤ S64000.size a := fun v46 k0_hw17 => k0_hw17

def k0_off74 (k0_t2 : Fin k0_t2_loop.trips) (c0_i32_45 : BitVec 32) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_38 : BitVec 32 := 64#32
  let v39 : BitVec 32 := Scalar.remsi v22 c64_i32_38
  let c8_i32 : BitVec 32 := 8#32
  let v40 : BitVec 32 := Scalar.muli v39 c8_i32
  let c0_i32_39 : BitVec 32 := 0#32
  let v41 : BitVec 32 := Scalar.addi v40 c0_i32_39
  let c0_i32_44 : BitVec 32 := 0#32
  let v55 : BitVec 32 := Scalar.addi v41 c0_i32_44
  let c44_i32 : BitVec 32 := 44#32
  let v56 : BitVec 32 := Scalar.muli v55 c44_i32
  let v57 : BitVec 32 := Scalar.addi v56 c0_i32_45
  let v59 : Index := Scalar.indexCast v57
  let c0 : Index := 0#32
  ![v59.toNat, 0]
def k0_off75 (k0_t2 : Fin k0_t2_loop.trips) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_38 : BitVec 32 := 64#32
  let v39 : BitVec 32 := Scalar.remsi v22 c64_i32_38
  let c8_i32 : BitVec 32 := 8#32
  let v40 : BitVec 32 := Scalar.muli v39 c8_i32
  let c0_i32_39 : BitVec 32 := 0#32
  let v41 : BitVec 32 := Scalar.addi v40 c0_i32_39
  let c0_i32_44 : BitVec 32 := 0#32
  let v55 : BitVec 32 := Scalar.addi v41 c0_i32_44
  let c44_i32 : BitVec 32 := 44#32
  let v56 : BitVec 32 := Scalar.muli v55 c44_i32
  let c40_i32 : BitVec 32 := 40#32
  let v107 : BitVec 32 := Scalar.addi v56 c40_i32
  let v109 : Index := Scalar.indexCast v107
  let c0_57 : Index := 0#32
  ![v109.toNat, 0]
def k0_off76 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c8_i32_59 : BitVec 32 := 8#32
  let v118 : BitVec 32 := Scalar.muli v22 c8_i32_59
  let c0_i32_60 : BitVec 32 := 0#32
  let v119 : BitVec 32 := Scalar.addi v118 c0_i32_60
  let c1_i32_61 : BitVec 32 := 1#32
  let v120 : BitVec 32 := Scalar.addi v119 c1_i32_61
  let v121 : Index := Scalar.indexCast v120
  ![v121.toNat]
def k0_off77 (v122 : BitVec 32) : Fin 1 → Nat :=
  let v126 : Index := Scalar.indexCast v122
  ![v126.toNat]

def k0_chk18 (v122 : BitVec 32) : Prop :=
  (∀ a, (k0_off77 v122) a + S1.size a ≤ S64000.size a)
theorem k0_off77_inb : ∀ (v122 : BitVec 32) (k0_hw18 : k0_chk18 v122), ∀ a, (k0_off77 v122) a + S1.size a ≤ S64000.size a := fun v122 k0_hw18 => k0_hw18

def k0_off78 (k0_t2 : Fin k0_t2_loop.trips) (c0_i32_67 : BitVec 32) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_38 : BitVec 32 := 64#32
  let v39 : BitVec 32 := Scalar.remsi v22 c64_i32_38
  let c8_i32 : BitVec 32 := 8#32
  let v40 : BitVec 32 := Scalar.muli v39 c8_i32
  let c0_i32_39 : BitVec 32 := 0#32
  let v41 : BitVec 32 := Scalar.addi v40 c0_i32_39
  let c1_i32_65 : BitVec 32 := 1#32
  let v131 : BitVec 32 := Scalar.addi v41 c1_i32_65
  let c44_i32_66 : BitVec 32 := 44#32
  let v132 : BitVec 32 := Scalar.muli v131 c44_i32_66
  let v133 : BitVec 32 := Scalar.addi v132 c0_i32_67
  let v135 : Index := Scalar.indexCast v133
  let c0_68 : Index := 0#32
  ![v135.toNat, 0]
def k0_off79 (k0_t2 : Fin k0_t2_loop.trips) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_38 : BitVec 32 := 64#32
  let v39 : BitVec 32 := Scalar.remsi v22 c64_i32_38
  let c8_i32 : BitVec 32 := 8#32
  let v40 : BitVec 32 := Scalar.muli v39 c8_i32
  let c0_i32_39 : BitVec 32 := 0#32
  let v41 : BitVec 32 := Scalar.addi v40 c0_i32_39
  let c1_i32_65 : BitVec 32 := 1#32
  let v131 : BitVec 32 := Scalar.addi v41 c1_i32_65
  let c44_i32_66 : BitVec 32 := 44#32
  let v132 : BitVec 32 := Scalar.muli v131 c44_i32_66
  let c40_i32_82 : BitVec 32 := 40#32
  let v183 : BitVec 32 := Scalar.addi v132 c40_i32_82
  let v185 : Index := Scalar.indexCast v183
  let c0_83 : Index := 0#32
  ![v185.toNat, 0]
def k0_off80 (k0_t2 : Fin k0_t2_loop.trips) (c0_i32_88 : BitVec 32) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c4_i32_85 : BitVec 32 := 4#32
  let v194 : BitVec 32 := Scalar.remsi v22 c4_i32_85
  let c176_i32_86 : BitVec 32 := 176#32
  let v195 : BitVec 32 := Scalar.muli v194 c176_i32_86
  let c0_i32_87 : BitVec 32 := 0#32
  let v196 : BitVec 32 := Scalar.addi v195 c0_i32_87
  let v198 : BitVec 32 := Scalar.addi v196 c0_i32_88
  let v200 : Index := Scalar.indexCast v198
  let c0_89 : Index := 0#32
  ![v200.toNat, 0, 0]
def k0_off81 (k0_t2 : Fin k0_t2_loop.trips) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c4_i32_85 : BitVec 32 := 4#32
  let v194 : BitVec 32 := Scalar.remsi v22 c4_i32_85
  let c176_i32_86 : BitVec 32 := 176#32
  let v195 : BitVec 32 := Scalar.muli v194 c176_i32_86
  let c0_i32_87 : BitVec 32 := 0#32
  let v196 : BitVec 32 := Scalar.addi v195 c0_i32_87
  let c160_i32 : BitVec 32 := 160#32
  let v263 : BitVec 32 := Scalar.addi v196 c160_i32
  let v265 : Index := Scalar.indexCast v263
  let c0_105 : Index := 0#32
  ![v265.toNat, 0, 0]
def k0_off82 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c8_i32_151 : BitVec 32 := 8#32
  let v424 : BitVec 32 := Scalar.muli v22 c8_i32_151
  let c2_i32_152 : BitVec 32 := 2#32
  let v425 : BitVec 32 := Scalar.addi v424 c2_i32_152
  let c0_i32_153 : BitVec 32 := 0#32
  let v426 : BitVec 32 := Scalar.addi v425 c0_i32_153
  let v427 : Index := Scalar.indexCast v426
  ![v427.toNat]
def k0_off83 (v428 : BitVec 32) : Fin 1 → Nat :=
  let v432 : Index := Scalar.indexCast v428
  ![v432.toNat]

def k0_chk19 (v428 : BitVec 32) : Prop :=
  (∀ a, (k0_off83 v428) a + S1.size a ≤ S64000.size a)
theorem k0_off83_inb : ∀ (v428 : BitVec 32) (k0_hw19 : k0_chk19 v428), ∀ a, (k0_off83 v428) a + S1.size a ≤ S64000.size a := fun v428 k0_hw19 => k0_hw19

def k0_off84 (k0_t2 : Fin k0_t2_loop.trips) (c0_i32_159 : BitVec 32) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_148 : BitVec 32 := 64#32
  let v421 : BitVec 32 := Scalar.remsi v22 c64_i32_148
  let c8_i32_149 : BitVec 32 := 8#32
  let v422 : BitVec 32 := Scalar.muli v421 c8_i32_149
  let c2_i32_150 : BitVec 32 := 2#32
  let v423 : BitVec 32 := Scalar.addi v422 c2_i32_150
  let c0_i32_157 : BitVec 32 := 0#32
  let v437 : BitVec 32 := Scalar.addi v423 c0_i32_157
  let c44_i32_158 : BitVec 32 := 44#32
  let v438 : BitVec 32 := Scalar.muli v437 c44_i32_158
  let v439 : BitVec 32 := Scalar.addi v438 c0_i32_159
  let v441 : Index := Scalar.indexCast v439
  let c0_160 : Index := 0#32
  ![v441.toNat, 0]
def k0_off85 (k0_t2 : Fin k0_t2_loop.trips) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_148 : BitVec 32 := 64#32
  let v421 : BitVec 32 := Scalar.remsi v22 c64_i32_148
  let c8_i32_149 : BitVec 32 := 8#32
  let v422 : BitVec 32 := Scalar.muli v421 c8_i32_149
  let c2_i32_150 : BitVec 32 := 2#32
  let v423 : BitVec 32 := Scalar.addi v422 c2_i32_150
  let c0_i32_157 : BitVec 32 := 0#32
  let v437 : BitVec 32 := Scalar.addi v423 c0_i32_157
  let c44_i32_158 : BitVec 32 := 44#32
  let v438 : BitVec 32 := Scalar.muli v437 c44_i32_158
  let c40_i32_174 : BitVec 32 := 40#32
  let v489 : BitVec 32 := Scalar.addi v438 c40_i32_174
  let v491 : Index := Scalar.indexCast v489
  let c0_175 : Index := 0#32
  ![v491.toNat, 0]
def k0_off86 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c8_i32_177 : BitVec 32 := 8#32
  let v500 : BitVec 32 := Scalar.muli v22 c8_i32_177
  let c2_i32_178 : BitVec 32 := 2#32
  let v501 : BitVec 32 := Scalar.addi v500 c2_i32_178
  let c1_i32_179 : BitVec 32 := 1#32
  let v502 : BitVec 32 := Scalar.addi v501 c1_i32_179
  let v503 : Index := Scalar.indexCast v502
  ![v503.toNat]
def k0_off87 (v504 : BitVec 32) : Fin 1 → Nat :=
  let v508 : Index := Scalar.indexCast v504
  ![v508.toNat]

def k0_chk20 (v504 : BitVec 32) : Prop :=
  (∀ a, (k0_off87 v504) a + S1.size a ≤ S64000.size a)
theorem k0_off87_inb : ∀ (v504 : BitVec 32) (k0_hw20 : k0_chk20 v504), ∀ a, (k0_off87 v504) a + S1.size a ≤ S64000.size a := fun v504 k0_hw20 => k0_hw20

def k0_off88 (k0_t2 : Fin k0_t2_loop.trips) (c0_i32_185 : BitVec 32) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_148 : BitVec 32 := 64#32
  let v421 : BitVec 32 := Scalar.remsi v22 c64_i32_148
  let c8_i32_149 : BitVec 32 := 8#32
  let v422 : BitVec 32 := Scalar.muli v421 c8_i32_149
  let c2_i32_150 : BitVec 32 := 2#32
  let v423 : BitVec 32 := Scalar.addi v422 c2_i32_150
  let c1_i32_183 : BitVec 32 := 1#32
  let v513 : BitVec 32 := Scalar.addi v423 c1_i32_183
  let c44_i32_184 : BitVec 32 := 44#32
  let v514 : BitVec 32 := Scalar.muli v513 c44_i32_184
  let v515 : BitVec 32 := Scalar.addi v514 c0_i32_185
  let v517 : Index := Scalar.indexCast v515
  let c0_186 : Index := 0#32
  ![v517.toNat, 0]
def k0_off89 (k0_t2 : Fin k0_t2_loop.trips) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_148 : BitVec 32 := 64#32
  let v421 : BitVec 32 := Scalar.remsi v22 c64_i32_148
  let c8_i32_149 : BitVec 32 := 8#32
  let v422 : BitVec 32 := Scalar.muli v421 c8_i32_149
  let c2_i32_150 : BitVec 32 := 2#32
  let v423 : BitVec 32 := Scalar.addi v422 c2_i32_150
  let c1_i32_183 : BitVec 32 := 1#32
  let v513 : BitVec 32 := Scalar.addi v423 c1_i32_183
  let c44_i32_184 : BitVec 32 := 44#32
  let v514 : BitVec 32 := Scalar.muli v513 c44_i32_184
  let c40_i32_200 : BitVec 32 := 40#32
  let v565 : BitVec 32 := Scalar.addi v514 c40_i32_200
  let v567 : Index := Scalar.indexCast v565
  let c0_201 : Index := 0#32
  ![v567.toNat, 0]
def k0_off90 (k0_t2 : Fin k0_t2_loop.trips) (c0_i32_206 : BitVec 32) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c4_i32_203 : BitVec 32 := 4#32
  let v576 : BitVec 32 := Scalar.remsi v22 c4_i32_203
  let c176_i32_204 : BitVec 32 := 176#32
  let v577 : BitVec 32 := Scalar.muli v576 c176_i32_204
  let c1_i32_205 : BitVec 32 := 1#32
  let v578 : BitVec 32 := Scalar.addi v577 c1_i32_205
  let v580 : BitVec 32 := Scalar.addi v578 c0_i32_206
  let v582 : Index := Scalar.indexCast v580
  let c0_207 : Index := 0#32
  ![v582.toNat, 0, 0]
def k0_off91 (k0_t2 : Fin k0_t2_loop.trips) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c4_i32_203 : BitVec 32 := 4#32
  let v576 : BitVec 32 := Scalar.remsi v22 c4_i32_203
  let c176_i32_204 : BitVec 32 := 176#32
  let v577 : BitVec 32 := Scalar.muli v576 c176_i32_204
  let c1_i32_205 : BitVec 32 := 1#32
  let v578 : BitVec 32 := Scalar.addi v577 c1_i32_205
  let c160_i32_226 : BitVec 32 := 160#32
  let v645 : BitVec 32 := Scalar.addi v578 c160_i32_226
  let v647 : Index := Scalar.indexCast v645
  let c0_227 : Index := 0#32
  ![v647.toNat, 0, 0]
def k0_off92 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c8_i32_279 : BitVec 32 := 8#32
  let v806 : BitVec 32 := Scalar.muli v22 c8_i32_279
  let c4_i32_280 : BitVec 32 := 4#32
  let v807 : BitVec 32 := Scalar.addi v806 c4_i32_280
  let c0_i32_281 : BitVec 32 := 0#32
  let v808 : BitVec 32 := Scalar.addi v807 c0_i32_281
  let v809 : Index := Scalar.indexCast v808
  ![v809.toNat]
def k0_off93 (v810 : BitVec 32) : Fin 1 → Nat :=
  let v814 : Index := Scalar.indexCast v810
  ![v814.toNat]

def k0_chk21 (v810 : BitVec 32) : Prop :=
  (∀ a, (k0_off93 v810) a + S1.size a ≤ S64000.size a)
theorem k0_off93_inb : ∀ (v810 : BitVec 32) (k0_hw21 : k0_chk21 v810), ∀ a, (k0_off93 v810) a + S1.size a ≤ S64000.size a := fun v810 k0_hw21 => k0_hw21

def k0_off94 (k0_t2 : Fin k0_t2_loop.trips) (c0_i32_287 : BitVec 32) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_276 : BitVec 32 := 64#32
  let v803 : BitVec 32 := Scalar.remsi v22 c64_i32_276
  let c8_i32_277 : BitVec 32 := 8#32
  let v804 : BitVec 32 := Scalar.muli v803 c8_i32_277
  let c4_i32_278 : BitVec 32 := 4#32
  let v805 : BitVec 32 := Scalar.addi v804 c4_i32_278
  let c0_i32_285 : BitVec 32 := 0#32
  let v819 : BitVec 32 := Scalar.addi v805 c0_i32_285
  let c44_i32_286 : BitVec 32 := 44#32
  let v820 : BitVec 32 := Scalar.muli v819 c44_i32_286
  let v821 : BitVec 32 := Scalar.addi v820 c0_i32_287
  let v823 : Index := Scalar.indexCast v821
  let c0_288 : Index := 0#32
  ![v823.toNat, 0]
def k0_off95 (k0_t2 : Fin k0_t2_loop.trips) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_276 : BitVec 32 := 64#32
  let v803 : BitVec 32 := Scalar.remsi v22 c64_i32_276
  let c8_i32_277 : BitVec 32 := 8#32
  let v804 : BitVec 32 := Scalar.muli v803 c8_i32_277
  let c4_i32_278 : BitVec 32 := 4#32
  let v805 : BitVec 32 := Scalar.addi v804 c4_i32_278
  let c0_i32_285 : BitVec 32 := 0#32
  let v819 : BitVec 32 := Scalar.addi v805 c0_i32_285
  let c44_i32_286 : BitVec 32 := 44#32
  let v820 : BitVec 32 := Scalar.muli v819 c44_i32_286
  let c40_i32_302 : BitVec 32 := 40#32
  let v871 : BitVec 32 := Scalar.addi v820 c40_i32_302
  let v873 : Index := Scalar.indexCast v871
  let c0_303 : Index := 0#32
  ![v873.toNat, 0]
def k0_off96 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c8_i32_305 : BitVec 32 := 8#32
  let v882 : BitVec 32 := Scalar.muli v22 c8_i32_305
  let c4_i32_306 : BitVec 32 := 4#32
  let v883 : BitVec 32 := Scalar.addi v882 c4_i32_306
  let c1_i32_307 : BitVec 32 := 1#32
  let v884 : BitVec 32 := Scalar.addi v883 c1_i32_307
  let v885 : Index := Scalar.indexCast v884
  ![v885.toNat]
def k0_off97 (v886 : BitVec 32) : Fin 1 → Nat :=
  let v890 : Index := Scalar.indexCast v886
  ![v890.toNat]

def k0_chk22 (v886 : BitVec 32) : Prop :=
  (∀ a, (k0_off97 v886) a + S1.size a ≤ S64000.size a)
theorem k0_off97_inb : ∀ (v886 : BitVec 32) (k0_hw22 : k0_chk22 v886), ∀ a, (k0_off97 v886) a + S1.size a ≤ S64000.size a := fun v886 k0_hw22 => k0_hw22

def k0_off98 (k0_t2 : Fin k0_t2_loop.trips) (c0_i32_313 : BitVec 32) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_276 : BitVec 32 := 64#32
  let v803 : BitVec 32 := Scalar.remsi v22 c64_i32_276
  let c8_i32_277 : BitVec 32 := 8#32
  let v804 : BitVec 32 := Scalar.muli v803 c8_i32_277
  let c4_i32_278 : BitVec 32 := 4#32
  let v805 : BitVec 32 := Scalar.addi v804 c4_i32_278
  let c1_i32_311 : BitVec 32 := 1#32
  let v895 : BitVec 32 := Scalar.addi v805 c1_i32_311
  let c44_i32_312 : BitVec 32 := 44#32
  let v896 : BitVec 32 := Scalar.muli v895 c44_i32_312
  let v897 : BitVec 32 := Scalar.addi v896 c0_i32_313
  let v899 : Index := Scalar.indexCast v897
  let c0_314 : Index := 0#32
  ![v899.toNat, 0]
def k0_off99 (k0_t2 : Fin k0_t2_loop.trips) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_276 : BitVec 32 := 64#32
  let v803 : BitVec 32 := Scalar.remsi v22 c64_i32_276
  let c8_i32_277 : BitVec 32 := 8#32
  let v804 : BitVec 32 := Scalar.muli v803 c8_i32_277
  let c4_i32_278 : BitVec 32 := 4#32
  let v805 : BitVec 32 := Scalar.addi v804 c4_i32_278
  let c1_i32_311 : BitVec 32 := 1#32
  let v895 : BitVec 32 := Scalar.addi v805 c1_i32_311
  let c44_i32_312 : BitVec 32 := 44#32
  let v896 : BitVec 32 := Scalar.muli v895 c44_i32_312
  let c40_i32_328 : BitVec 32 := 40#32
  let v947 : BitVec 32 := Scalar.addi v896 c40_i32_328
  let v949 : Index := Scalar.indexCast v947
  let c0_329 : Index := 0#32
  ![v949.toNat, 0]
def k0_off100 (k0_t2 : Fin k0_t2_loop.trips) (c0_i32_334 : BitVec 32) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c4_i32_331 : BitVec 32 := 4#32
  let v958 : BitVec 32 := Scalar.remsi v22 c4_i32_331
  let c176_i32_332 : BitVec 32 := 176#32
  let v959 : BitVec 32 := Scalar.muli v958 c176_i32_332
  let c2_i32_333 : BitVec 32 := 2#32
  let v960 : BitVec 32 := Scalar.addi v959 c2_i32_333
  let v962 : BitVec 32 := Scalar.addi v960 c0_i32_334
  let v964 : Index := Scalar.indexCast v962
  let c0_335 : Index := 0#32
  ![v964.toNat, 0, 0]
def k0_off101 (k0_t2 : Fin k0_t2_loop.trips) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c4_i32_331 : BitVec 32 := 4#32
  let v958 : BitVec 32 := Scalar.remsi v22 c4_i32_331
  let c176_i32_332 : BitVec 32 := 176#32
  let v959 : BitVec 32 := Scalar.muli v958 c176_i32_332
  let c2_i32_333 : BitVec 32 := 2#32
  let v960 : BitVec 32 := Scalar.addi v959 c2_i32_333
  let c160_i32_354 : BitVec 32 := 160#32
  let v1027 : BitVec 32 := Scalar.addi v960 c160_i32_354
  let v1029 : Index := Scalar.indexCast v1027
  let c0_355 : Index := 0#32
  ![v1029.toNat, 0, 0]
def k0_off102 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c8_i32_406 : BitVec 32 := 8#32
  let v1188 : BitVec 32 := Scalar.muli v22 c8_i32_406
  let c6_i32_407 : BitVec 32 := 6#32
  let v1189 : BitVec 32 := Scalar.addi v1188 c6_i32_407
  let c0_i32_408 : BitVec 32 := 0#32
  let v1190 : BitVec 32 := Scalar.addi v1189 c0_i32_408
  let v1191 : Index := Scalar.indexCast v1190
  ![v1191.toNat]
def k0_off103 (v1192 : BitVec 32) : Fin 1 → Nat :=
  let v1196 : Index := Scalar.indexCast v1192
  ![v1196.toNat]

def k0_chk23 (v1192 : BitVec 32) : Prop :=
  (∀ a, (k0_off103 v1192) a + S1.size a ≤ S64000.size a)
theorem k0_off103_inb : ∀ (v1192 : BitVec 32) (k0_hw23 : k0_chk23 v1192), ∀ a, (k0_off103 v1192) a + S1.size a ≤ S64000.size a := fun v1192 k0_hw23 => k0_hw23

def k0_off104 (k0_t2 : Fin k0_t2_loop.trips) (c0_i32_414 : BitVec 32) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_404 : BitVec 32 := 64#32
  let v1185 : BitVec 32 := Scalar.remsi v22 c64_i32_404
  let c8_i32_405 : BitVec 32 := 8#32
  let v1186 : BitVec 32 := Scalar.muli v1185 c8_i32_405
  let c6_i32 : BitVec 32 := 6#32
  let v1187 : BitVec 32 := Scalar.addi v1186 c6_i32
  let c0_i32_412 : BitVec 32 := 0#32
  let v1201 : BitVec 32 := Scalar.addi v1187 c0_i32_412
  let c44_i32_413 : BitVec 32 := 44#32
  let v1202 : BitVec 32 := Scalar.muli v1201 c44_i32_413
  let v1203 : BitVec 32 := Scalar.addi v1202 c0_i32_414
  let v1205 : Index := Scalar.indexCast v1203
  let c0_415 : Index := 0#32
  ![v1205.toNat, 0]
def k0_off105 (k0_t2 : Fin k0_t2_loop.trips) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_404 : BitVec 32 := 64#32
  let v1185 : BitVec 32 := Scalar.remsi v22 c64_i32_404
  let c8_i32_405 : BitVec 32 := 8#32
  let v1186 : BitVec 32 := Scalar.muli v1185 c8_i32_405
  let c6_i32 : BitVec 32 := 6#32
  let v1187 : BitVec 32 := Scalar.addi v1186 c6_i32
  let c0_i32_412 : BitVec 32 := 0#32
  let v1201 : BitVec 32 := Scalar.addi v1187 c0_i32_412
  let c44_i32_413 : BitVec 32 := 44#32
  let v1202 : BitVec 32 := Scalar.muli v1201 c44_i32_413
  let c40_i32_429 : BitVec 32 := 40#32
  let v1253 : BitVec 32 := Scalar.addi v1202 c40_i32_429
  let v1255 : Index := Scalar.indexCast v1253
  let c0_430 : Index := 0#32
  ![v1255.toNat, 0]
def k0_off106 (k0_t2 : Fin k0_t2_loop.trips) : Fin 1 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c8_i32_432 : BitVec 32 := 8#32
  let v1264 : BitVec 32 := Scalar.muli v22 c8_i32_432
  let c6_i32_433 : BitVec 32 := 6#32
  let v1265 : BitVec 32 := Scalar.addi v1264 c6_i32_433
  let c1_i32_434 : BitVec 32 := 1#32
  let v1266 : BitVec 32 := Scalar.addi v1265 c1_i32_434
  let v1267 : Index := Scalar.indexCast v1266
  ![v1267.toNat]
def k0_off107 (v1268 : BitVec 32) : Fin 1 → Nat :=
  let v1272 : Index := Scalar.indexCast v1268
  ![v1272.toNat]

def k0_chk24 (v1268 : BitVec 32) : Prop :=
  (∀ a, (k0_off107 v1268) a + S1.size a ≤ S64000.size a)
theorem k0_off107_inb : ∀ (v1268 : BitVec 32) (k0_hw24 : k0_chk24 v1268), ∀ a, (k0_off107 v1268) a + S1.size a ≤ S64000.size a := fun v1268 k0_hw24 => k0_hw24

def k0_off108 (k0_t2 : Fin k0_t2_loop.trips) (c0_i32_440 : BitVec 32) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_404 : BitVec 32 := 64#32
  let v1185 : BitVec 32 := Scalar.remsi v22 c64_i32_404
  let c8_i32_405 : BitVec 32 := 8#32
  let v1186 : BitVec 32 := Scalar.muli v1185 c8_i32_405
  let c6_i32 : BitVec 32 := 6#32
  let v1187 : BitVec 32 := Scalar.addi v1186 c6_i32
  let c1_i32_438 : BitVec 32 := 1#32
  let v1277 : BitVec 32 := Scalar.addi v1187 c1_i32_438
  let c44_i32_439 : BitVec 32 := 44#32
  let v1278 : BitVec 32 := Scalar.muli v1277 c44_i32_439
  let v1279 : BitVec 32 := Scalar.addi v1278 c0_i32_440
  let v1281 : Index := Scalar.indexCast v1279
  let c0_441 : Index := 0#32
  ![v1281.toNat, 0]
def k0_off109 (k0_t2 : Fin k0_t2_loop.trips) : Fin 2 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c64_i32_404 : BitVec 32 := 64#32
  let v1185 : BitVec 32 := Scalar.remsi v22 c64_i32_404
  let c8_i32_405 : BitVec 32 := 8#32
  let v1186 : BitVec 32 := Scalar.muli v1185 c8_i32_405
  let c6_i32 : BitVec 32 := 6#32
  let v1187 : BitVec 32 := Scalar.addi v1186 c6_i32
  let c1_i32_438 : BitVec 32 := 1#32
  let v1277 : BitVec 32 := Scalar.addi v1187 c1_i32_438
  let c44_i32_439 : BitVec 32 := 44#32
  let v1278 : BitVec 32 := Scalar.muli v1277 c44_i32_439
  let c40_i32_455 : BitVec 32 := 40#32
  let v1329 : BitVec 32 := Scalar.addi v1278 c40_i32_455
  let v1331 : Index := Scalar.indexCast v1329
  let c0_456 : Index := 0#32
  ![v1331.toNat, 0]
def k0_off110 (k0_t2 : Fin k0_t2_loop.trips) (c0_i32_461 : BitVec 32) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c4_i32_458 : BitVec 32 := 4#32
  let v1340 : BitVec 32 := Scalar.remsi v22 c4_i32_458
  let c176_i32_459 : BitVec 32 := 176#32
  let v1341 : BitVec 32 := Scalar.muli v1340 c176_i32_459
  let c3_i32_460 : BitVec 32 := 3#32
  let v1342 : BitVec 32 := Scalar.addi v1341 c3_i32_460
  let v1344 : BitVec 32 := Scalar.addi v1342 c0_i32_461
  let v1346 : Index := Scalar.indexCast v1344
  let c0_462 : Index := 0#32
  ![v1346.toNat, 0, 0]
def k0_off111 (k0_t2 : Fin k0_t2_loop.trips) : Fin 3 → Nat :=
  let c0_i32_23 : BitVec 32 := 0#32
  let c0_i32_1 : BitVec 32 := 0#32
  let c1_i32_2 : BitVec 32 := 1#32
  let arg14 : BitVec 32 := Scf.iv c0_i32_1 c1_i32_2 k0_t2
  let c1_i32_22 : BitVec 32 := 1#32
  let v21 : BitVec 32 := Scalar.muli arg14 c1_i32_22
  let v22 : BitVec 32 := Scalar.addi c0_i32_23 v21
  let c4_i32_458 : BitVec 32 := 4#32
  let v1340 : BitVec 32 := Scalar.remsi v22 c4_i32_458
  let c176_i32_459 : BitVec 32 := 176#32
  let v1341 : BitVec 32 := Scalar.muli v1340 c176_i32_459
  let c3_i32_460 : BitVec 32 := 3#32
  let v1342 : BitVec 32 := Scalar.addi v1341 c3_i32_460
  let c160_i32_481 : BitVec 32 := 160#32
  let v1409 : BitVec 32 := Scalar.addi v1342 c160_i32_481
  let v1411 : Index := Scalar.indexCast v1409
  let c0_482 : Index := 0#32
  ![v1411.toNat, 0, 0]
def k0_off112 : Fin 1 → Nat :=
  let c2047_i32 : BitVec 32 := 2047#32
  let c4_i32 : BitVec 32 := 4#32
  let v2 : BitVec 32 := Scalar.remsi c2047_i32 c4_i32
  ![v2.toNat]
def k0_off113 : Fin 2 → Nat :=
  let c2_i32 : BitVec 32 := 2#32
  let c2047_i32 : BitVec 32 := 2047#32
  let c4_i32 : BitVec 32 := 4#32
  let v2 : BitVec 32 := Scalar.remsi c2047_i32 c4_i32
  let v3 : BitVec 32 := Scalar.muli c2_i32 v2
  let c176_i32 : BitVec 32 := 176#32
  let v4 : BitVec 32 := Scalar.muli v3 c176_i32
  let c0_i32_8 : BitVec 32 := 0#32
  ![v4.toNat, 0]
@[reducible] def k0_t3_loop : Scf.Loop 32 :=
  let c0_i32_18 : BitVec 32 := 0#32
  let c4_i32_19 : BitVec 32 := 4#32
  let v20 : BitVec 32 := Scalar.addi c0_i32_18 c4_i32_19
  let c1_i32_20 : BitVec 32 := 1#32
  ⟨c0_i32_18, v20, c1_i32_20⟩
def k0_off114 (k0_t3 : Fin k0_t3_loop.trips) : Fin 1 → Nat :=
  let c2044_i32 : BitVec 32 := 2044#32
  let c0_i32_18 : BitVec 32 := 0#32
  let c1_i32_20 : BitVec 32 := 1#32
  let arg14 : BitVec 32 := Scf.iv c0_i32_18 c1_i32_20 k0_t3
  let c1_i32_22 : BitVec 32 := 1#32
  let v21 : BitVec 32 := Scalar.muli arg14 c1_i32_22
  let v22 : BitVec 32 := Scalar.addi c2044_i32 v21
  let c4_i32_23 : BitVec 32 := 4#32
  let v23 : BitVec 32 := Scalar.remsi v22 c4_i32_23
  ![v23.toNat]
def k0_off115 (k0_t3 : Fin k0_t3_loop.trips) : Fin 4 → Nat :=
  let c2044_i32 : BitVec 32 := 2044#32
  let c0_i32_18 : BitVec 32 := 0#32
  let c1_i32_20 : BitVec 32 := 1#32
  let arg14 : BitVec 32 := Scf.iv c0_i32_18 c1_i32_20 k0_t3
  let c1_i32_22 : BitVec 32 := 1#32
  let v21 : BitVec 32 := Scalar.muli arg14 c1_i32_22
  let v22 : BitVec 32 := Scalar.addi c2044_i32 v21
  let c0_i32_26 : BitVec 32 := 0#32
  let c0_i32_27 : BitVec 32 := 0#32
  let c0_i32_28 : BitVec 32 := 0#32
  ![v22.toNat, 0, 0, 0]
def k0_off116 (k0_t3 : Fin k0_t3_loop.trips) : Fin 2 → Nat :=
  let c2_i32_24 : BitVec 32 := 2#32
  let c2044_i32 : BitVec 32 := 2044#32
  let c0_i32_18 : BitVec 32 := 0#32
  let c1_i32_20 : BitVec 32 := 1#32
  let arg14 : BitVec 32 := Scf.iv c0_i32_18 c1_i32_20 k0_t3
  let c1_i32_22 : BitVec 32 := 1#32
  let v21 : BitVec 32 := Scalar.muli arg14 c1_i32_22
  let v22 : BitVec 32 := Scalar.addi c2044_i32 v21
  let c4_i32_23 : BitVec 32 := 4#32
  let v23 : BitVec 32 := Scalar.remsi v22 c4_i32_23
  let v24 : BitVec 32 := Scalar.muli c2_i32_24 v23
  let c176_i32_25 : BitVec 32 := 176#32
  let v25 : BitVec 32 := Scalar.muli v24 c176_i32_25
  let c0_i32_29 : BitVec 32 := 0#32
  ![v25.toNat, 0]
abbrev stage0_0 : Fin 1 → Memref sig .tc .smem S16384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S44x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
abbrev S16x128 : Shape := ⟨2, ![16, 128]⟩
variable {F : FTy → Type} [FloatOps F] [Named F]
def κ : String → Option EReal := fun
  | "inv_d_model" => some ((1 / 5632 : ℝ) : EReal)
  | _ => none
-- ==== ReferenceIdeal.lean ====
abbrev S2x8192 : Shape := ⟨2, ![2, 8192]⟩
abbrev S64000x5632 : Shape := ⟨2, ![64000, 5632]⟩
abbrev S64000 : Shape := ⟨1, ![64000]⟩
abbrev S5632 : Shape := ⟨1, ![5632]⟩
abbrev S_ : Shape := ⟨0, ![]⟩
abbrev S2x8192x1 : Shape := ⟨3, ![2, 8192, 1]⟩
abbrev S2x8192x5632 : Shape := ⟨3, ![2, 8192, 5632]⟩
abbrev S1x1x5632 : Shape := ⟨3, ![1, 1, 5632]⟩

abbrev nBuf : Space → Nat
  | .hbm => 48
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S64000x5632, .i8⟩
  | .hbm, ⟨2, _⟩ => ⟨S64000, .f32⟩
  | .hbm, ⟨3, _⟩ => ⟨S5632, .bf16⟩
  | .hbm, ⟨4, _⟩ => ⟨S_, .i32⟩
  | .hbm, ⟨5, _⟩ => ⟨S2x8192, .i32⟩
  | .hbm, ⟨6, _⟩ => ⟨S2x8192, .i1⟩
  | .hbm, ⟨7, _⟩ => ⟨S_, .i32⟩
  | .hbm, ⟨8, _⟩ => ⟨S2x8192, .i32⟩
  | .hbm, ⟨9, _⟩ => ⟨S2x8192, .i32⟩
  | .hbm, ⟨10, _⟩ => ⟨S2x8192, .i32⟩
  | .hbm, ⟨11, _⟩ => ⟨S2x8192x1, .i32⟩
  | .hbm, ⟨12, _⟩ => ⟨S2x8192x5632, .i8⟩
  | .hbm, ⟨13, _⟩ => ⟨S_, .i32⟩
  | .hbm, ⟨14, _⟩ => ⟨S2x8192, .i32⟩
  | .hbm, ⟨15, _⟩ => ⟨S2x8192, .i1⟩
  | .hbm, ⟨16, _⟩ => ⟨S_, .i32⟩
  | .hbm, ⟨17, _⟩ => ⟨S2x8192, .i32⟩
  | .hbm, ⟨18, _⟩ => ⟨S2x8192, .i32⟩
  | .hbm, ⟨19, _⟩ => ⟨S2x8192, .i32⟩
  | .hbm, ⟨20, _⟩ => ⟨S2x8192x1, .i32⟩
  | .hbm, ⟨21, _⟩ => ⟨S2x8192, .f32⟩
  | .hbm, ⟨22, _⟩ => ⟨S2x8192x5632, .i32⟩
  | .hbm, ⟨23, _⟩ => ⟨S2x8192x5632, .f32⟩
  | .hbm, ⟨24, _⟩ => ⟨S2x8192x5632, .bf16⟩
  | .hbm, ⟨25, _⟩ => ⟨S2x8192, .bf16⟩
  | .hbm, ⟨26, _⟩ => ⟨S2x8192x1, .bf16⟩
  | .hbm, ⟨27, _⟩ => ⟨S2x8192x5632, .bf16⟩
  | .hbm, ⟨28, _⟩ => ⟨S2x8192x5632, .bf16⟩
  | .hbm, ⟨29, _⟩ => ⟨S2x8192x5632, .f32⟩
  | .hbm, ⟨30, _⟩ => ⟨S2x8192x5632, .f32⟩
  | .hbm, ⟨31, _⟩ => ⟨S_, .f32⟩
  | .hbm, ⟨32, _⟩ => ⟨S2x8192, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x1, .f32⟩
  | .hbm, ⟨41, _⟩ => ⟨S2x8192x5632, .f32⟩
  | .hbm, ⟨42, _⟩ => ⟨S2x8192x5632, .f32⟩
  | .hbm, ⟨43, _⟩ => ⟨S5632, .f32⟩
  | .hbm, ⟨44, _⟩ => ⟨S1x1x5632, .f32⟩
  | .hbm, ⟨45, _⟩ => ⟨S2x8192x5632, .f32⟩
  | .hbm, ⟨46, _⟩ => ⟨S2x8192x5632, .f32⟩
  | .hbm, ⟨47, _⟩ => ⟨S2x8192x5632, .bf16⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.Pre.lean ====
/-
  The precondition, read: every token is a row of the table.
-/
module

public import proofs.«01_k».proof.Pre_tokens_in_vocabulary
public import Idealize.ShloMosaic.Lib.WordCmp

@[expose] public section

noncomputable section

namespace Cert.Pre_tokens_in_vocabulary.Hand

open Idealize.ShloMosaic

/-- The side condition of the precondition's one broadcast. -/
theorem facts : Cert.Pre_tokens_in_vocabulary.Facts := ⟨by decide⟩

/-- A bit made of a proposition is one just where the proposition holds. -/
theorem of_and (a b : Bool) (h : (BitVec.ofBool a &&& BitVec.ofBool b : BitVec 1) = 1#1) : a = true ∧ b = true := by
  cases a <;> cases b <;> simp_all

/-- Where the precondition is all ones, each token read unsigned is below the table's height. -/
theorem range {F : FTy → Type} [FloatOps F] (a0 : IVec S2x8192 32) (a1 : IVec S64000x5632 8) (a2 : FVec F S64000 .f32) (a3 : FVec F S5632 .bf16)
    (h : (letI := facts; Cert.Pre_tokens_in_vocabulary.fn (F := F) a0 a1 a2 a3) = fun _ => 1#1) (x : S2x8192.Idx) : (a0 x : BitVec 32).toNat < 64000 := by
  have h' := congrFun h x
  have h2 : (BitVec.ofBool ((0#32 : BitVec 32).sle (a0 x)) &&& BitVec.ofBool ((a0 x : BitVec 32).slt 64000#32) : BitVec 1) = 1#1 := h'
  obtain ⟨hge, hlt⟩ := of_and _ _ h2
  simp only [BitVec.sle, BitVec.slt, decide_eq_true_eq, BitVec.toInt, BitVec.toNat_ofNat] at hge hlt
  have := (a0 x : BitVec 32).isLt
  split at hlt <;> simp_all <;> omega

end Cert.Pre_tokens_in_vocabulary.Hand

end
-- ==== Proof.Ref.lean ====
/-
  The reference's run: a straight line of host operations, no kernel. Its arguments end as they were, and every other
  buffer ends at what its operation wrote there.
-/
module

public import proofs.«01_k».proof.Proof.Gen.ReferenceIdeal
public import Idealize.ShloMosaic.Lib.StableHlo.Run
public import Idealize.ShloMosaic.Lib.Tactic
public import Idealize.ShloMosaic.Adequacy
public import Idealize.ShloMosaic.Init
public import Idealize.ShloMosaic.Lib.Quiescent

@[expose] public section

set_option maxHeartbeats 4000000

noncomputable section

namespace Cert.ReferenceIdeal.Hand

open Cert.ReferenceIdeal Cert.ReferenceIdeal.Gen Cert.ReferenceIdeal.Facts
open Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ nullary main_c (constantI S_ 32 0#32),
    unary main_c main_v0 (broadcastInDim S2x8192 ![] bcast_S_S2x8192 : (⟨S_, .i32⟩ : BufTy).Contents (Elt F) → (⟨S2x8192, .i32⟩ : BufTy).Contents (Elt F)),
    binary main_arg0 main_v0 main_v1 (cmpi .slt : (⟨S2x8192, .i32⟩ : BufTy).Contents (Elt F) → (⟨S2x8192, .i32⟩ : BufTy).Contents (Elt F) → (⟨S2x8192, .i1⟩ : BufTy).Contents (Elt F)),
    nullary main_c_0 (constantI S_ 32 64000#32),
    unary main_c_0 main_v2 (broadcastInDim S2x8192 ![] bcast_S_S2x8192 : (⟨S_, .i32⟩ : BufTy).Contents (Elt F) → (⟨S2x8192, .i32⟩ : BufTy).Contents (Elt F)),
    binary main_arg0 main_v2 main_v3 (addi : (⟨S2x8192, .i32⟩ : BufTy).Contents (Elt F) → (⟨S2x8192, .i32⟩ : BufTy).Contents (Elt F) → (⟨S2x8192, .i32⟩ : BufTy).Contents (Elt F)),
    ternary main_v1 main_v3 main_arg0 main_v4 (select : (⟨S2x8192, .i1⟩ : BufTy).Contents (Elt F) → (⟨S2x8192, .i32⟩ : BufTy).Contents (Elt F) → (⟨S2x8192, .i32⟩ : BufTy).Contents (Elt F) → (⟨S2x8192, .i32⟩ : BufTy).Contents (Elt F)),
    unary main_v4 main_v5 (broadcastInDim S2x8192x1 ![0, 1] bcast_S2x8192_S2x8192x1_0_1 : (⟨S2x8192, .i32⟩ : BufTy).Contents (Elt F) → (⟨S2x8192x1, .i32⟩ : BufTy).Contents (Elt F)),
    binary main_arg1 main_v5 main_v6 ((fun x i => Host.gather gather_S64000x5632_S2x8192x1_S2x8192x5632_2_0_n_n_0_2_15632 x i) : (⟨S64000x5632, .i8⟩ : BufTy).Contents (Elt F) → (⟨S2x8192x1, .i32⟩ : BufTy).Contents (Elt F) → (⟨S2x8192x5632, .i8⟩ : BufTy).Contents (Elt F)),
    nullary main_c_1 (constantI S_ 32 0#32),
    unary main_c_1 main_v7 (broadcastInDim S2x8192 ![] bcast_S_S2x8192 : (⟨S_, .i32⟩ : BufTy).Contents (Elt F) → (⟨S2x8192, .i32⟩ : BufTy).Contents (Elt F)),
    binary main_arg0 main_v7 main_v8 (cmpi .slt : (⟨S2x8192, .i32⟩ : BufTy).Contents (Elt F) → (⟨S2x8192, .i32⟩ : BufTy).Contents (Elt F) → (⟨S2x8192, .i1⟩ : BufTy).Contents (Elt F)),
    nullary main_c_2 (constantI S_ 32 64000#32),
    unary main_c_2 main_v9 (broadcastInDim S2x8192 ![] bcast_S_S2x8192 : (⟨S_, .i32⟩ : BufTy).Contents (Elt F) → (⟨S2x8192, .i32⟩ : BufTy).Contents (Elt F)),
    binary main_arg0 main_v9 main_v10 (addi : (⟨S2x8192, .i32⟩ : BufTy).Contents (Elt F) → (⟨S2x8192, .i32⟩ : BufTy).Contents (Elt F) → (⟨S2x8192, .i32⟩ : BufTy).Contents (Elt F)),
    ternary main_v8 main_v10 main_arg0 main_v11 (select : (⟨S2x8192, .i1⟩ : BufTy).Contents (Elt F) → (⟨S2x8192, .i32⟩ : BufTy).Contents (Elt F) → (⟨S2x8192, .i32⟩ : BufTy).Contents (Elt F) → (⟨S2x8192, .i32⟩ : BufTy).Contents (Elt F)),
    unary main_v11 main_v12 (broadcastInDim S2x8192x1 ![0, 1] bcast_S2x8192_S2x8192x1_0_1 : (⟨S2x8192, .i32⟩ : BufTy).Contents (Elt F) → (⟨S2x8192x1, .i32⟩ : BufTy).Contents (Elt F)),
    binary main_arg2 main_v12 main_v13 ((fun x i => Host.gather gather_S64000_S2x8192x1_S2x8192_n_0_n_n_0_2_1 x i) : (⟨S64000, .f32⟩ : BufTy).Contents (Elt F) → (⟨S2x8192x1, .i32⟩ : BufTy).Contents (Elt F) → (⟨S2x8192, .f32⟩ : BufTy).Contents (Elt F)),
    unary main_v6 main_v14 ((extsi 32 · natLt_8_32) : (⟨S2x8192x5632, .i8⟩ : BufTy).Contents (Elt F) → (⟨S2x8192x5632, .i32⟩ : BufTy).Contents (Elt F)),
    unary main_v14 main_v15 (sitofp .f32 : (⟨S2x8192x5632, .i32⟩ : BufTy).Contents (Elt F) → (⟨S2x8192x5632, .f32⟩ : BufTy).Contents (Elt F)),
    unary main_v15 main_v16 ((truncf .bf16 · bitsLt_bf16_f32) : (⟨S2x8192x5632, .f32⟩ : BufTy).Contents (Elt F) → (⟨S2x8192x5632, .bf16⟩ : BufTy).Contents (Elt F)),
    unary main_v13 main_v17 ((truncf .bf16 · bitsLt_bf16_f32) : (⟨S2x8192, .f32⟩ : BufTy).Contents (Elt F) → (⟨S2x8192, .bf16⟩ : BufTy).Contents (Elt F)),
    unary main_v17 main_v18 (broadcastInDim S2x8192x1 ![0, 1] bcast_S2x8192_S2x8192x1_0_1 : (⟨S2x8192, .bf16⟩ : BufTy).Contents (Elt F) → (⟨S2x8192x1, .bf16⟩ : BufTy).Contents (Elt F)),
    unary main_v18 main_v19 (broadcastInDim S2x8192x5632 ![0, 1, 2] bcast_S2x8192x1_S2x8192x5632_0_1_2 : (⟨S2x8192x1, .bf16⟩ : BufTy).Contents (Elt F) → (⟨S2x8192x5632, .bf16⟩ : BufTy).Contents (Elt F)),
    binary main_v16 main_v19 main_v20 (mulf : (⟨S2x8192x5632, .bf16⟩ : BufTy).Contents (Elt F) → (⟨S2x8192x5632, .bf16⟩ : BufTy).Contents (Elt F) → (⟨S2x8192x5632, .bf16⟩ : BufTy).Contents (Elt F)),
    unary main_v20 main_v21 ((extf .f32 · bitsLt_bf16_f32) : (⟨S2x8192x5632, .bf16⟩ : BufTy).Contents (Elt F) → (⟨S2x8192x5632, .f32⟩ : BufTy).Contents (Elt F)),
    binary main_v21 main_v21 main_v22 (mulf : (⟨S2x8192x5632, .f32⟩ : BufTy).Contents (Elt F) → (⟨S2x8192x5632, .f32⟩ : BufTy).Contents (Elt F) → (⟨S2x8192x5632, .f32⟩ : BufTy).Contents (Elt F)),
    nullary main_cst (constant S_ .f32 0x00000000#32),
    binary main_v22 main_cst main_v23 ((fun x v => Host.reduceAdd x v reducesTo_S2x8192x5632_S2x8192_d2 h_S_) : (⟨S2x8192x5632, .f32⟩ : BufTy).Contents (Elt F) → (⟨S_, .f32⟩ : BufTy).Contents (Elt F) → (⟨S2x8192, .f32⟩ : BufTy).Contents (Elt F)),
    unary main_v23 main_v24 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_3 (constant S_ .f32 0x45B00000#32),
    unary main_cst_3 main_v25 (broadcastInDim S2x8192x1 ![] bcast_S_S2x8192x1 : (⟨S_, .f32⟩ : BufTy).Contents (Elt F) → (⟨S2x8192x1, .f32⟩ : BufTy).Contents (Elt F)),
    binary main_v24 main_v25 main_v26 (Host.divf : (⟨S2x8192x1, .f32⟩ : BufTy).Contents (Elt F) → (⟨S2x8192x1, .f32⟩ : BufTy).Contents (Elt F) → (⟨S2x8192x1, .f32⟩ : BufTy).Contents (Elt F)),
    nullary main_cst_4 (constant S_ .f32 0x358637BD#32),
    unary main_cst_4 main_v27 (broadcastInDim S2x8192x1 ![] bcast_S_S2x8192x1 : (⟨S_, .f32⟩ : BufTy).Contents (Elt F) → (⟨S2x8192x1, .f32⟩ : BufTy).Contents (Elt F)),
    binary main_v26 main_v27 main_v28 (addf : (⟨S2x8192x1, .f32⟩ : BufTy).Contents (Elt F) → (⟨S2x8192x1, .f32⟩ : BufTy).Contents (Elt F) → (⟨S2x8192x1, .f32⟩ : BufTy).Contents (Elt F)),
    unary main_v28 main_v29 (Host.rsqrt : (⟨S2x8192x1, .f32⟩ : BufTy).Contents (Elt F) → (⟨S2x8192x1, .f32⟩ : BufTy).Contents (Elt F)),
    unary main_v29 main_v30 (broadcastInDim S2x8192x5632 ![0, 1, 2] bcast_S2x8192x1_S2x8192x5632_0_1_2 : (⟨S2x8192x1, .f32⟩ : BufTy).Contents (Elt F) → (⟨S2x8192x5632, .f32⟩ : BufTy).Contents (Elt F)),
    binary main_v21 main_v30 main_v31 (mulf : (⟨S2x8192x5632, .f32⟩ : BufTy).Contents (Elt F) → (⟨S2x8192x5632, .f32⟩ : BufTy).Contents (Elt F) → (⟨S2x8192x5632, .f32⟩ : BufTy).Contents (Elt F)),
    unary main_arg3 main_v32 ((extf .f32 · bitsLt_bf16_f32) : (⟨S5632, .bf16⟩ : BufTy).Contents (Elt F) → (⟨S5632, .f32⟩ : BufTy).Contents (Elt F)),
    unary main_v32 main_v33 (broadcastInDim S1x1x5632 ![2] bcast_S5632_S1x1x5632_2 : (⟨S5632, .f32⟩ : BufTy).Contents (Elt F) → (⟨S1x1x5632, .f32⟩ : BufTy).Contents (Elt F)),
    unary main_v33 main_v34 (broadcastInDim S2x8192x5632 ![0, 1, 2] bcast_S1x1x5632_S2x8192x5632_0_1_2 : (⟨S1x1x5632, .f32⟩ : BufTy).Contents (Elt F) → (⟨S2x8192x5632, .f32⟩ : BufTy).Contents (Elt F)),
    binary main_v31 main_v34 main_v35 (mulf : (⟨S2x8192x5632, .f32⟩ : BufTy).Contents (Elt F) → (⟨S2x8192x5632, .f32⟩ : BufTy).Contents (Elt F) → (⟨S2x8192x5632, .f32⟩ : BufTy).Contents (Elt F)),
    unary main_v35 main_v36 ((truncf .bf16 · bitsLt_bf16_f32) : (⟨S2x8192x5632, .f32⟩ : BufTy).Contents (Elt F) → (⟨S2x8192x5632, .bf16⟩ : BufTy).Contents (Elt F)) ]

theorem main_eq (c : Dev nD) : main (F := F) c = seq ops := by
  simp only [main, seq]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., unary_bufs_sub .., unary_bufs_sub .., binary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., unary_bufs_sub ..⟩

/-- The run: every buffer ends at what the operations leave there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes an argument. -/
theorem arg_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig) := by
  refine ⟨?_, ?_, ?_, ?_⟩ <;> after_results

/-- The reference's frame. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h c main_arg0).trans (arg_eq _).1, (h c main_arg1).trans (arg_eq _).2.1,
      (h c main_arg2).trans (arg_eq _).2.2.1, (h c main_arg3).trans (arg_eq _).2.2.2⟩,
      Idealize.ShloMosaic.sem_eq_zero_of_no_sems (by decide) r.2⟩) (run_main m ρ)

end Cert.ReferenceIdeal.Hand

end
-- ==== Proof.KB.Geom.lean ====
/-
  The sets of buffer elements the kernel's copies and loads go through, named by plain arithmetic on the first
  coordinate: a table row, a row or a slot of the input ring, a block of a result, a slot of a staging ring.
-/
module

public import proofs.«01_k».proof.Proof.Gen.Kernel.Skeleton
public import Idealize.ShloMosaic.Lib.ViewIndex

@[expose] public section

noncomputable section

namespace Cert.Kernel.Hand

open Cert.Kernel Cert.Kernel.Gen
open Idealize.ShloMosaic Idealize.ShloMosaic.TcCoe

/-- Row `r` of the table of words. -/
def tRow (r : ℕ) : Finset S16000x5632.Idx := Finset.univ.filter fun i => (i 0).val = r
/-- Row `r` of the input ring. -/
def bRow (r : ℕ) : Finset S512x1x5632.Idx := Finset.univ.filter fun i => (i 0).val = r
/-- Slot `s` of the input ring: eight rows. -/
def bSlot (s : ℕ) : Finset S512x1x5632.Idx := Finset.univ.filter fun i => (i 0).val / 8 = s
/-- Block `g` of a result. -/
def oBlk (g : ℕ) : Finset S2048x44x8x128.Idx := Finset.univ.filter fun i => (i 0).val = g
/-- Slot `s` of a staging ring: 352 rows. -/
def sSlot (s : ℕ) : Finset S1408x128.Idx := Finset.univ.filter fun i => (i 0).val / 352 = s

theorem mem_tRow {r : ℕ} {i : S16000x5632.Idx} : i ∈ tRow r ↔ (i 0).val = r := by simp [tRow]
theorem mem_bRow {r : ℕ} {i : S512x1x5632.Idx} : i ∈ bRow r ↔ (i 0).val = r := by simp [bRow]
theorem mem_bSlot {r : ℕ} {i : S512x1x5632.Idx} : i ∈ bSlot r ↔ (i 0).val / 8 = r := by simp [bSlot]
theorem mem_oBlk {r : ℕ} {i : S2048x44x8x128.Idx} : i ∈ oBlk r ↔ (i 0).val = r := by simp [oBlk]
theorem mem_sSlot {r : ℕ} {i : S1408x128.Idx} : i ∈ sSlot r ↔ (i 0).val / 352 = r := by simp [sSlot]

abbrev hbT : Memref sig .tc .hbm S16000x5632 .i32 := Memref.whole main_v3
abbrev bufM : Memref sig .tc .vmem S512x1x5632 .i32 := Memref.whole cc0_scratch0
abbrev seM : Memref sig .tc .vmem S1408x128 .bf16 := Memref.whole cc0_scratch1
abbrev soM : Memref sig .tc .vmem S1408x128 .bf16 := Memref.whole cc0_scratch2
abbrev oM : Memref sig .tc .hbm S2048x44x8x128 .bf16 := Memref.whole main_v6_0
abbrev eM : Memref sig .tc .hbm S2048x44x8x128 .bf16 := Memref.whole main_v6_1

theorem tRow_set {off : Fin 2 → ℕ} (r : ℕ) (hoff : off = ![r, 0])
    (inb : ∀ a, off a + S1x5632.size a ≤ S16000x5632.size a) (hp) :
    (hbT.slice (Rect.unit (s := S16000x5632) off S1x5632.size inb) hp).view.set = tRow r := by
  subst hoff
  refine (View.set_slice_whole main_v3 _).trans ?_
  ext i
  rw [Rect.mem_set_unit, mem_tRow]
  refine Fin.forall_fin_two.trans ?_
  have h1 : (i 1).val < 5632 := (i 1).isLt
  show (r ≤ (i 0).val ∧ (i 0).val < r + 1) ∧ (0 ≤ (i 1).val ∧ (i 1).val < 0 + 5632) ↔ _
  omega

theorem bRow_set {off : Fin 3 → ℕ} (r : ℕ) (hoff : off = ![r, 0, 0])
    (inb : ∀ a, off a + S1x1x5632.size a ≤ S512x1x5632.size a) (hp) (hq) :
    ((bufM.slice (Rect.unit (s := S512x1x5632) off S1x1x5632.size inb) hp).squeeze S1x5632 hq).view.set = bRow r := by
  subst hoff
  refine (View.set_reshape ((bufM.slice (Rect.unit (s := S512x1x5632) ![r, 0, 0] S1x1x5632.size inb) hp).view) _).trans ?_
  refine (View.set_slice_whole cc0_scratch0 _).trans ?_
  ext i
  rw [Rect.mem_set_unit, mem_bRow]
  have h1 : (i 1).val < 1 := (i 1).isLt
  have h2 : (i 2).val < 5632 := (i 2).isLt
  constructor
  · intro h
    have h0 := h 0
    change r ≤ (i 0).val ∧ (i 0).val < r + 1 at h0
    omega
  · intro h a
    fin_cases a
    · change r ≤ (i 0).val ∧ (i 0).val < r + 1; omega
    · change 0 ≤ (i 1).val ∧ (i 1).val < 0 + 1; omega
    · change 0 ≤ (i 2).val ∧ (i 2).val < 0 + 5632; omega

theorem bSlot_set {off : Fin 3 → ℕ} (s : ℕ) (hoff : off = ![8 * s, 0, 0])
    (inb : ∀ a, off a + S8x1x5632.size a ≤ S512x1x5632.size a) :
    (Rect.unit (s := S512x1x5632) off S8x1x5632.size inb).set = bSlot s := by
  subst hoff
  ext i
  rw [Rect.mem_set_unit, mem_bSlot]
  have h1 : (i 1).val < 1 := (i 1).isLt
  have h2 : (i 2).val < 5632 := (i 2).isLt
  constructor
  · intro h
    have h0 := h 0
    change 8 * s ≤ (i 0).val ∧ (i 0).val < 8 * s + 8 at h0
    omega
  · intro h a
    fin_cases a
    · change 8 * s ≤ (i 0).val ∧ (i 0).val < 8 * s + 8; omega
    · change 0 ≤ (i 1).val ∧ (i 1).val < 0 + 1; omega
    · change 0 ≤ (i 2).val ∧ (i 2).val < 0 + 5632; omega

/-- The elements of one block of the array shape of a result. -/
theorem oBlk_rect {off : Fin 4 → ℕ} (g : ℕ) (hoff : off = ![g, 0, 0, 0])
    (inb : ∀ a, off a + S1x44x8x128.size a ≤ S2048x44x8x128.size a) :
    (Rect.unit (s := S2048x44x8x128) off S1x44x8x128.size inb).set = oBlk g := by
  subst hoff
  ext i
  rw [Rect.mem_set_unit, mem_oBlk]
  have h1 : (i 1).val < 44 := (i 1).isLt
  have h2 : (i 2).val < 8 := (i 2).isLt
  have h3 : (i 3).val < 128 := (i 3).isLt
  constructor
  · intro h
    have h0 := h 0
    change g ≤ (i 0).val ∧ (i 0).val < g + 1 at h0
    omega
  · intro h a
    fin_cases a
    · change g ≤ (i 0).val ∧ (i 0).val < g + 1; omega
    · change 0 ≤ (i 1).val ∧ (i 1).val < 0 + 44; omega
    · change 0 ≤ (i 2).val ∧ (i 2).val < 0 + 8; omega
    · change 0 ≤ (i 3).val ∧ (i 3).val < 0 + 128; omega

theorem oBlk_set_o {off : Fin 4 → ℕ} (g : ℕ) (hoff : off = ![g, 0, 0, 0])
    (inb : ∀ a, off a + S1x44x8x128.size a ≤ S2048x44x8x128.size a) (hp) (hq) :
    ((oM.slice (Rect.unit (s := S2048x44x8x128) off S1x44x8x128.size inb) hp).squeeze S44x8x128 hq).view.set = oBlk g :=
  (View.set_reshape ((oM.slice (Rect.unit (s := S2048x44x8x128) off S1x44x8x128.size inb) hp).view) _).trans
    ((View.set_slice_whole main_v6_0 _).trans (oBlk_rect g hoff inb))

theorem oBlk_set_e {off : Fin 4 → ℕ} (g : ℕ) (hoff : off = ![g, 0, 0, 0])
    (inb : ∀ a, off a + S1x44x8x128.size a ≤ S2048x44x8x128.size a) (hp) (hq) :
    ((eM.slice (Rect.unit (s := S2048x44x8x128) off S1x44x8x128.size inb) hp).squeeze S44x8x128 hq).view.set = oBlk g :=
  (View.set_reshape ((eM.slice (Rect.unit (s := S2048x44x8x128) off S1x44x8x128.size inb) hp).view) _).trans
    ((View.set_slice_whole main_v6_1 _).trans (oBlk_rect g hoff inb))

/-- The elements of one slot of the array shape of a staging ring. -/
theorem sSlot_rect {off : Fin 2 → ℕ} (s : ℕ) (hoff : off = ![352 * s, 0])
    (inb : ∀ a, off a + S352x128.size a ≤ S1408x128.size a) :
    (Rect.unit (s := S1408x128) off S352x128.size inb).set = sSlot s := by
  subst hoff
  ext i
  rw [Rect.mem_set_unit, mem_sSlot, Fin.forall_fin_two]
  have h1 : (i 1).val < 128 := (i 1).isLt
  show (352 * s ≤ (i 0).val ∧ (i 0).val < 352 * s + 352) ∧ (0 ≤ (i 1).val ∧ (i 1).val < 0 + 128) ↔ _
  omega

theorem sSlot_set_e {off : Fin 2 → ℕ} (s : ℕ) (hoff : off = ![352 * s, 0])
    (inb : ∀ a, off a + S352x128.size a ≤ S1408x128.size a) (hp) (h1) (h2) (h3) :
    ((seM.slice (Rect.unit (s := S1408x128) off S352x128.size inb) hp).reshape S44x8x128 h1 h2 h3).view.set = sSlot s :=
  (View.set_reshape ((seM.slice (Rect.unit (s := S1408x128) off S352x128.size inb) hp).view) _).trans
    ((View.set_slice_whole cc0_scratch1 _).trans (sSlot_rect s hoff inb))

theorem sSlot_set_o {off : Fin 2 → ℕ} (s : ℕ) (hoff : off = ![352 * s, 0])
    (inb : ∀ a, off a + S352x128.size a ≤ S1408x128.size a) (hp) (h1) (h2) (h3) :
    ((soM.slice (Rect.unit (s := S1408x128) off S352x128.size inb) hp).reshape S44x8x128 h1 h2 h3).view.set = sSlot s :=
  (View.set_reshape ((soM.slice (Rect.unit (s := S1408x128) off S352x128.size inb) hp).view) _).trans
    ((View.set_slice_whole cc0_scratch2 _).trans (sSlot_rect s hoff inb))

/-! ## The offsets and the conditions of the main loop's trip, in closed form -/

theorem off33 : ∀ k : Fin k0_t2_loop.trips, 1 ≤ k.val → k0_off33 k = ![(k.val - 1) % 4] := by decide +kernel
theorem off34 : ∀ k : Fin k0_t2_loop.trips, 1 ≤ k.val → k0_off34 k = ![k.val - 1, 0, 0, 0] := by decide +kernel
theorem off35 : ∀ k : Fin k0_t2_loop.trips, 1 ≤ k.val → k0_off35 k = ![352 * ((k.val - 1) % 4), 0] := by decide +kernel
theorem off68 : ∀ k : Fin k0_t2_loop.trips, 4 ≤ k.val → k0_off68 k = ![(k.val - 4) % 4] := by decide +kernel
theorem off69 : ∀ k : Fin k0_t2_loop.trips, 4 ≤ k.val → k0_off69 k = ![k.val - 4, 0, 0, 0] := by decide +kernel
theorem off70 : ∀ k : Fin k0_t2_loop.trips, 4 ≤ k.val → k0_off70 k = ![352 * ((k.val - 4) % 4), 0] := by decide +kernel

theorem cond1 : ∀ k : Fin k0_t2_loop.trips, k0_cond1 k = 1#1 ↔ 1 ≤ k.val := by decide +kernel
theorem cond2 : ∀ k : Fin k0_t2_loop.trips, k0_cond2 k = 1#1 ↔ k.val + 63 < 2048 := by decide +kernel
theorem cond3 : ∀ k : Fin k0_t2_loop.trips, k0_cond3 k = 1#1 ↔ 4 ≤ k.val := by decide +kernel
theorem trips1 : k0_t1_loop.trips = 63 := by decide +kernel
theorem trips2 : k0_t2_loop.trips = 2048 := by decide +kernel
theorem trips3 : k0_t3_loop.trips = 4 := by decide +kernel

end Cert.Kernel.Hand
-- ==== Proof.KB.Ring.lean ====
/-
  The kernel's two rings as propositions, and the rule of each of the steps that move them.

  The INPUT ring has 64 slots of eight rows: slot `s` is FREE (its eight rows at anything, its counter at zero, its
  eight shares of the table whole) or holds the eight row copies of a group IN FLIGHT (a `Batch` of eight deliveries,
  and what is left of each share of the table). The two STAGING rings have four slots each: a slot is free, holds a
  computed group, or is being copied out to its block of the result (a `Batch` of one delivery).
-/
module

public import proofs.«01_k».proof.Proof.KB.Geom
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ValueIdx

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [BitOps F]

/-- The proof's user algebra: the pipeline library's beside the transfers' counters. -/
local notation "𝕄" => MT nD τ sig Unit (Elt F) ℕ (Pipeline.UD sig nD τ) ℕ

/-- The counters of the transfers. -/
abbrev EC : UEmb Counters 𝕄 := countersEmb (U := Pipeline.UD sig nD τ)

/-- The run of a piece of the body on core `c`. -/
abbrev wpK (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## The semaphores by number -/

/-- The counter of input slot `s`, of the emb copies' slot `s`, of the out copies' slot `s`. -/
def semIn (s : ℕ) : DmaSem sig := ⟨2 + s % 64, by have : s % 64 < 64 := Nat.mod_lt _ (by decide); show _ < 75; omega⟩
def semE (s : ℕ) : DmaSem sig := ⟨66 + s % 4, by have : s % 4 < 4 := Nat.mod_lt _ (by decide); show _ < 75; omega⟩
def semO (s : ℕ) : DmaSem sig := ⟨70 + s % 4, by have : s % 4 < 4 := Nat.mod_lt _ (by decide); show _ < 75; omega⟩

theorem semIn_eq {off : Fin 1 → ℕ} (s : ℕ) (hs : s < 64) (hoff : off = ![s]) (inb) :
    ((cc0_scratch4.slice (Rect.unit (s := S64) off S1.size inb)).squeeze S_ squeezes_S1_S_).sem = semIn s := by
  subst hoff
  apply Fin.ext
  show 2 + (S64.rowMajor _).val = 2 + s % 64
  rw [Nat.mod_eq_of_lt hs]
  congr 1
  refine (Shape.rowMajor_val_one (d := ![64]) _).trans ?_
  exact (show ∀ z : ℕ, z < 1 → s + 1 * z = s by omega) _ ((Shape.reshapeEquiv (s := (Rect.unit (s := S64) ![s] S1.size inb).shape) squeezes_S1_S_.numel_eq fun i : Fin 0 => i.elim0) 0).isLt

theorem semE_eq {off : Fin 1 → ℕ} (s : ℕ) (hs : s < 4) (hoff : off = ![s]) (inb) :
    ((cc0_scratch5.slice (Rect.unit (s := S4) off S1.size inb)).squeeze S_ squeezes_S1_S_).sem = semE s := by
  subst hoff
  apply Fin.ext
  show 66 + (S4.rowMajor _).val = 66 + s % 4
  rw [Nat.mod_eq_of_lt hs]
  congr 1
  refine (Shape.rowMajor_val_one (d := ![4]) _).trans ?_
  exact (show ∀ z : ℕ, z < 1 → s + 1 * z = s by omega) _ ((Shape.reshapeEquiv (s := (Rect.unit (s := S4) ![s] S1.size inb).shape) squeezes_S1_S_.numel_eq fun i : Fin 0 => i.elim0) 0).isLt

theorem semO_eq {off : Fin 1 → ℕ} (s : ℕ) (hs : s < 4) (hoff : off = ![s]) (inb) :
    ((cc0_scratch6.slice (Rect.unit (s := S4) off S1.size inb)).squeeze S_ squeezes_S1_S_).sem = semO s := by
  subst hoff
  apply Fin.ext
  show 70 + (S4.rowMajor _).val = 70 + s % 4
  rw [Nat.mod_eq_of_lt hs]
  congr 1
  refine (Shape.rowMajor_val_one (d := ![4]) _).trans ?_
  exact (show ∀ z : ℕ, z < 1 → s + 1 * z = s by omega) _ ((Shape.reshapeEquiv (s := (Rect.unit (s := S4) ![s] S1.size inb).shape) squeezes_S1_S_.numel_eq fun i : Fin 0 => i.elim0) 0).isLt

/-! ## The credits -/

/-- What a row copy credits, and what a copy out credits. -/
def NR : ℕ := (cc0_scratch0).dmaCredit S1x5632 .i32
def NO : ℕ := (main_v6_0).dmaCredit S44x8x128 .bf16
theorem NR8 : (cc0_scratch0).dmaCredit S8x1x5632 .i32 = NR * 8 := by decide +kernel
theorem NR_pos : 0 < NR := by decide +kernel
theorem NO_pos : 0 < NO := by decide +kernel
theorem NOe : (main_v6_1).dmaCredit S44x8x128 .bf16 = NO := by decide +kernel

/-! ## The points-tos -/

/-- The table at share `q`, on the elements `S`. -/
abbrev ptT (c : Dev nD) (q : PosShare TreeShare) (S : Finset S16000x5632.Idx) (f : S16000x5632.Idx → BitVec 32) : sProp 𝕄 :=
  (c : Thread nD τ).loc main_v3 ↦[S]{q} f
abbrev ptB (c : Dev nD) (S : Finset S512x1x5632.Idx) (f : S512x1x5632.Idx → BitVec 32) : sProp 𝕄 :=
  (c : Thread nD τ).loc cc0_scratch0 ↦[S]{fullShare} f
abbrev ptSE (c : Dev nD) (S : Finset S1408x128.Idx) (f : S1408x128.Idx → Elt F .bf16) : sProp 𝕄 :=
  (c : Thread nD τ).loc cc0_scratch1 ↦[S]{fullShare} f
abbrev ptSO (c : Dev nD) (S : Finset S1408x128.Idx) (f : S1408x128.Idx → Elt F .bf16) : sProp 𝕄 :=
  (c : Thread nD τ).loc cc0_scratch2 ↦[S]{fullShare} f
abbrev ptO (c : Dev nD) (S : Finset S2048x44x8x128.Idx) (f : S2048x44x8x128.Idx → Elt F .bf16) : sProp 𝕄 :=
  (c : Thread nD τ).loc main_v6_0 ↦[S]{fullShare} f
abbrev ptE (c : Dev nD) (S : Finset S2048x44x8x128.Idx) (f : S2048x44x8x128.Idx → Elt F .bf16) : sProp 𝕄 :=
  (c : Thread nD τ).loc main_v6_1 ↦[S]{fullShare} f

/-- The share of the table that row `R` of the ring's copies read through. -/
def shR (R : ℕ) : PosShare TreeShare := if h : R < 512 then Transfers.dealOf fullShare (Finset.range 512) R else fullShare

/-- The row of the table of words that holds token word `w`'s row. -/
def rowOf (w : BitVec 32) : ℕ := (w >>> (2 : ℕ)).toNat

/-- Row `R` of the ring at contents `f` holds row `r` of the table. -/
def RowGood (fT : S16000x5632.Idx → BitVec 32) (R r : ℕ) (f : S512x1x5632.Idx → BitVec 32) : Prop :=
  ∀ (j : S512x1x5632.Idx) (x : S16000x5632.Idx), (j 0).val = R → (x 0).val = r → (x 1).val = (j 2).val → f j = fT x

/-- Delivery `i` of group `g`'s row copies. -/
def DRow (c : Dev nD) (fT : S16000x5632.Idx → BitVec 32) (tk : ℕ → BitVec 32) (g : ℕ) (i : Fin 8) : sProp 𝕄 :=
  iprop((∃ f, ⌜RowGood fT (8 * (g % 64) + i.val) (rowOf (tk (8 * g + i.val))) f⌝ ∗ ptB c (bRow (8 * (g % 64) + i.val)) f)
    ∗ ptT c (shR (8 * (g % 64) + i.val)) (tRow (rowOf (tk (8 * g + i.val)))) fT)

instance DRow_storable (c : Dev nD) (fT) (tk : ℕ → BitVec 32) (g : ℕ) (i : Fin 8) :
    Storable (upEmb : UEmb _ 𝕄) (DRow (F := F) c fT tk g i) := by unfold DRow; infer_instance

/-- The batch of group `g`'s row copies, `k` of them issued. -/
abbrev BRow (c : Dev nD) (fT : S16000x5632.Idx → BitVec 32) (tk : ℕ → BitVec 32) (g k : ℕ) : sProp 𝕄 :=
  Transfers.Batch EC (c : Thread nD τ) (.dma (semIn (g % 64))) () NR (DRow (F := F) c fT tk g) k 0

/-- What a row copy lands is the table's row. -/
theorem rowGood_write (fT : S16000x5632.Idx → BitVec 32) (R r : ℕ) {o2 : Fin 3 → ℕ} {o3 : Fin 2 → ℕ}
    (h2 : o2 = ![R, 0, 0]) (h3 : o3 = ![r, 0]) (inb2) (inb3) (p2) (p3) (f0 : S512x1x5632.Idx → BitVec 32) :
    RowGood fT R r (((bufM.slice (Rect.unit (s := S512x1x5632) o2 S1x1x5632.size inb2) p2).squeeze S1x5632 squeezes_S1x1x5632_S1x5632).view.write
      (Elt F) f0 (ReadAs.same.apply ((hbT.slice (Rect.unit (s := S16000x5632) o3 S1x5632.size inb3) p3).view.read (Elt F) fT)) Finset.univ) := by
  subst h2 h3
  intro j x hj hx0 hx1
  have hj2 : (j 2).val < 5632 := (j 2).isLt
  have hj1 : (j 1).val < 1 := (j 1).isLt
  let y : S1x5632.Idx := ix2 (0 : Fin 1) (⟨(j 2).val, hj2⟩ : Fin 5632)
  let z : S1x1x5632.Idx := ix3 (0 : Fin 1) (0 : Fin 1) (⟨(j 2).val, hj2⟩ : Fin 5632)
  have hyz : Shape.reshapeEquiv (s := S1x1x5632) squeezes_S1x1x5632_S1x5632.numel_eq y = z := by
    apply Shape.reshapeEquiv_eq_of_rowMajor
    rw [show (S1x1x5632.rowMajor z).val = _ from Shape.rowMajor_val_three (d := ![1, 1, 5632]) z,
      show (S1x5632.rowMajor y).val = _ from Shape.rowMajor_val_two (d := ![1, 5632]) y]
    show (0 * 1 + 0) * 5632 + (j 2).val = 0 * 5632 + (j 2).val
    omega
  have hz : ((bufM.slice (Rect.unit (s := S512x1x5632) ![R, 0, 0] S1x1x5632.size inb2) p2).squeeze S1x5632 squeezes_S1x1x5632_S1x5632).view.emb y = j := by
    show (Rect.unit (s := S512x1x5632) ![R, 0, 0] S1x1x5632.size inb2).emb
      (Shape.reshapeEquiv (s := S1x1x5632) squeezes_S1x1x5632_S1x5632.numel_eq y) = j
    rw [hyz]
    funext a
    apply Fin.ext
    fin_cases a
    · show R + 1 * 0 = (j 0).val; omega
    · show 0 + 1 * 0 = (j 1).val; omega
    · show 0 + 1 * (j 2).val = (j 2).val; omega
  have hx : (hbT.slice (Rect.unit (s := S16000x5632) ![r, 0] S1x5632.size inb3) p3).view.emb y = x := by
    show (Rect.unit (s := S16000x5632) ![r, 0] S1x5632.size inb3).emb y = x
    funext a
    apply Fin.ext
    fin_cases a
    · show r + 1 * 0 = (x 0).val; omega
    · show 0 + 1 * (j 2).val = (x 1).val; omega
  rw [← hz, ← hx]
  exact View.write_emb_of_mem _ _ (Finset.mem_univ y)

/-- The step that issues a row copy. -/
theorem wp_row (c : Dev nD) (fT : S16000x5632.Idx → BitVec 32) (tk : ℕ → BitVec 32) (g i : ℕ) (hi : i < 8)
    {o1 : Fin 1 → ℕ} {o2 : Fin 3 → ℕ} {o3 : Fin 2 → ℕ}
    (h1 : o1 = ![g % 64]) (h2 : o2 = ![8 * (g % 64) + i, 0, 0]) (h3 : o3 = ![rowOf (tk (8 * g + i)), 0])
    (inb1) (inb2) (inb3) (p2) (p3) (hw1) (hw2) (hw3) (f0 : S512x1x5632.Idx → BitVec 32) (Q : PUnit → sProp 𝕄) :
    iprop(ptT (F := F) c (shR (8 * (g % 64) + i)) Finset.univ fT ∗ ptB c (bRow (8 * (g % 64) + i)) f0 ∗ BRow c fT tk g i)
      ⊢ iprop((iprop(BRow c fT tk g (i + 1) ∗ ptT (F := F) c (shR (8 * (g % 64) + i)) (Finset.univ \ tRow (rowOf (tk (8 * g + i)))) fT) -∗ Q ⟨⟩)
        -∗ wpK c (Prog.lift (.enqueueDma (hbT.slice (Rect.unit (s := S16000x5632) o3 S1x5632.size inb3) p3)
            (.here ((bufM.slice (Rect.unit (s := S512x1x5632) o2 S1x1x5632.size inb2) p2).squeeze S1x5632 squeezes_S1x1x5632_S1x5632))
            (.dma ((cc0_scratch4.slice (Rect.unit (s := S64) o1 S1.size inb1)).squeeze S_ squeezes_S1_S_).sem) hw1 hw2 hw3)) Q) := by
  have hm : g % 64 < 64 := Nat.mod_lt _ (by decide)
  have hT := tRow_set (rowOf (tk (8 * g + i))) h3 inb3 p3
  have hB := bRow_set (8 * (g % 64) + i) h2 inb2 p2 squeezes_S1x1x5632_S1x5632
  revert hw3
  rw [semIn_eq (g % 64) hm h1 inb1]
  intro hw3
  iintro ⟨HT, HB, HBt⟩ Hk
  ihave HT' := (pointsTo_split_subset (Finset.subset_univ (tRow (rowOf (tk (8 * g + i)))))).1 $$ HT
  icases HT' with ⟨HT1, HT2⟩
  iapply (Transfers.wp_dmaBatch (defs := defs₀ (F := F)) (Q := Q) EC Variants.none (c : Thread nD τ) none () NR
    (src := hbT.slice (Rect.unit (s := S16000x5632) o3 S1x5632.size inb3) p3)
    (dst := (bufM.slice (Rect.unit (s := S512x1x5632) o2 S1x1x5632.size inb2) p2).squeeze S1x5632 squeezes_S1x1x5632_S1x5632)
    (q := shR (8 * (g % 64) + i)) (fs := fT) (fd := f0) (D := DRow (F := F) c fT tk g)
    rfl (Sd := bRow (8 * (g % 64) + i)) hB.subset hi (Nat.zero_le _) ?hD) $$ [HT1 HB HBt]
  case hD =>
    unfold DRow
    iintro ⟨Hd, Hs⟩
    isplitl [Hd]
    · iexists _
      isplitr; swap; · iexact Hd
      ipureintro
      exact rowGood_write fT _ _ h2 h3 inb2 inb3 p2 p3 f0
    · rw [hT]; iexact Hs
  · isplitl [HT1]; · rw [hT]; iexact HT1
    isplitl [HB]; · iexact HB
    iexact HBt
  iintro HBt
  rw [wp_ret]
  imodintro
  iapply Hk
  isplitl [HBt]; · iexact HBt
  iexact HT2

/-! ## The token words and the side conditions on them -/

/-- The token words by number. -/
def tkOf (tokF : S16384.Idx → BitVec 32) (n : ℕ) : BitVec 32 := if h : n < 16384 then tokF (ix1 (⟨n, h⟩ : Fin 16384)) else 0

/-- The step that loads token word `n`. -/
theorem wp_tok (c : Dev nD) (arg0 : Memref sig .tc .smem S16384 .i32) {fA : Buf (Elt F) (arg0.view.loc (c : Thread nD τ))} (tokF : S16384.Idx → BitVec 32)
    (hf : arg0.view.read (Elt F) fA = tokF) {o : Fin 1 → ℕ} (n : ℕ) (hn : n < 16384) (ho : o = ![n]) (inb) (h1) (hp) (Q : BitVec 32 → sProp 𝕄) :
    (arg0.view.loc (c : Thread nD τ) ↦[arg0.view.set]{fullShare} fA)
      ⊢ iprop(((arg0.view.loc (c : Thread nD τ) ↦[arg0.view.set]{fullShare} fA) -∗ Q (tkOf tokF n))
        -∗ wpK c (smemLoad arg0 (Rect.unit (s := S16384) o S1.size inb) h1 hp) Q) := by
  subst ho
  unfold smemLoad
  iintro HA Hk
  iapply (wp_smemLoadElt Variants.none (c : Thread nD τ) none Set.univ (S := arg0.view.set) (f := fA)
    (r := Rect.unit (s := S16384) ![n] S1.size inb) (m := arg0) (View.set_slice_subset _ _)) $$ [HA]
  · iexact HA
  iintro HA
  rw [wp_ret]
  imodintro
  have hv : (arg0.access (Rect.unit (s := S16384) ![n] S1.size inb)).read (Elt F) fA (Shape.Idx.first (h1.symm ▸ Nat.one_pos)) = tkOf tokF n := by
    have e : ((Rect.unit (s := S16384) ![n] S1.size inb).emb (Shape.Idx.first (h1.symm ▸ Nat.one_pos))) = ix1 (⟨n, hn⟩ : Fin 16384) := by
      funext a
      apply Fin.ext
      fin_cases a
      show n + 1 * _ = n
      exact (show ∀ z : ℕ, z < 1 → n + 1 * z = n by omega) _ ((Shape.Idx.first (s := (Rect.unit (s := S16384) ![n] S1.size inb).shape) (h1.symm ▸ Nat.one_pos)) 0).isLt
    rw [show (arg0.access (Rect.unit (s := S16384) ![n] S1.size inb)).read (Elt F) fA (Shape.Idx.first (h1.symm ▸ Nat.one_pos))
      = arg0.view.read (Elt F) fA ((Rect.unit (s := S16384) ![n] S1.size inb).emb (Shape.Idx.first (h1.symm ▸ Nat.one_pos))) from rfl, e, hf, tkOf, dif_pos hn]
  rw [hv]
  iapply Hk
  iexact HA

/-- An assumption that holds. -/
theorem wp_asm (c : Dev nD) {P : Prop} {d : Decidable P} (h : P) (Q : PLift P → sProp 𝕄) :
    Q ⟨h⟩ ⊢ wpK c (Prog.lift (TpuEff.assume P d)) Q := by
  iintro H
  iapply (wp_assume Variants.none (c : Thread nD τ) none Set.univ h)
  rw [wp_ret]
  imodintro
  iexact H

/-! ## The staging rings and the results -/

/-- A staging slot that holds computed group `g`, and a result's block that holds it, element by element. -/
def sGood (P : ℕ → ℕ → ℕ → Elt F .bf16 → Prop) (g : ℕ) (f : S1408x128.Idx → Elt F .bf16) : Prop :=
  ∀ i : S1408x128.Idx, (i 0).val / 352 = g % 4 → P g ((i 0).val - 352 * (g % 4)) (i 1).val (f i)
def oGood (P : ℕ → ℕ → ℕ → Elt F .bf16 → Prop) (g : ℕ) (f : S2048x44x8x128.Idx → Elt F .bf16) : Prop :=
  ∀ i : S2048x44x8x128.Idx, (i 0).val = g → P g (8 * (i 1).val + (i 2).val) (i 3).val (f i)

/-- The delivery of group `g`'s copy out of the emb staging ring. -/
def DE (c : Dev nD) (P : ℕ → ℕ → ℕ → Elt F .bf16 → Prop) (g : ℕ) (_ : Fin 1) : sProp 𝕄 :=
  iprop((∃ f, ⌜oGood P g f⌝ ∗ ptE c (oBlk g) f) ∗ (∃ f, ptSE c (sSlot (g % 4)) f))

instance DE_storable (c : Dev nD) (P : ℕ → ℕ → ℕ → Elt F .bf16 → Prop) (g : ℕ) (i : Fin 1) :
    Storable (upEmb : UEmb _ 𝕄) (DE c P g i) := by unfold DE; infer_instance

/-- Group `g`'s copy out of the emb staging ring, in flight. -/
abbrev FlE (c : Dev nD) (P : ℕ → ℕ → ℕ → Elt F .bf16 → Prop) (g : ℕ) : sProp 𝕄 :=
  Transfers.Batch EC (c : Thread nD τ) (.dma (semE (g % 4))) () NO (DE c P g) 1 0

/-- What a copy out lands is the staged group. -/
theorem good_writeE (P : ℕ → ℕ → ℕ → Elt F .bf16 → Prop) (g : ℕ) {o2 : Fin 4 → ℕ} {o3 : Fin 2 → ℕ}
    (h2 : o2 = ![g, 0, 0, 0]) (h3 : o3 = ![352 * (g % 4), 0]) (inb2) (inb3) (p2) (p3) (q1) (q2) (q3)
    (f0 : S2048x44x8x128.Idx → Elt F .bf16) (fs : S1408x128.Idx → Elt F .bf16) (hs : sGood P g fs) :
    oGood P g (((eM.slice (Rect.unit (s := S2048x44x8x128) o2 S1x44x8x128.size inb2) p2).squeeze S44x8x128 squeezes_S1x44x8x128_S44x8x128).view.write
      (Elt F) f0 (ReadAs.same.apply (((seM.slice (Rect.unit (s := S1408x128) o3 S352x128.size inb3) p3).reshape S44x8x128 q1 q2 q3).view.read (Elt F) fs)) Finset.univ) := by
  subst h2 h3
  intro i hi
  have b1 : (i 1).val < 44 := (i 1).isLt
  have b2 : (i 2).val < 8 := (i 2).isLt
  have b3 : (i 3).val < 128 := (i 3).isLt
  let y : S44x8x128.Idx := ix3 (⟨(i 1).val, b1⟩ : Fin 44) (⟨(i 2).val, b2⟩ : Fin 8) (⟨(i 3).val, b3⟩ : Fin 128)
  let z : S1x44x8x128.Idx := ix4 (0 : Fin 1) (⟨(i 1).val, b1⟩ : Fin 44) (⟨(i 2).val, b2⟩ : Fin 8) (⟨(i 3).val, b3⟩ : Fin 128)
  let x : S352x128.Idx := ix2 (⟨8 * (i 1).val + (i 2).val, by omega⟩ : Fin 352) (⟨(i 3).val, b3⟩ : Fin 128)
  have hyz : Shape.reshapeEquiv (s := S1x44x8x128) squeezes_S1x44x8x128_S44x8x128.numel_eq y = z := by
    apply Shape.reshapeEquiv_eq_of_rowMajor
    rw [show (S1x44x8x128.rowMajor z).val = _ from Shape.rowMajor_val_four (d := ![1, 44, 8, 128]) z,
      show (S44x8x128.rowMajor y).val = _ from Shape.rowMajor_val_three (d := ![44, 8, 128]) y]
    show ((0 * 44 + (i 1).val) * 8 + (i 2).val) * 128 + (i 3).val = ((i 1).val * 8 + (i 2).val) * 128 + (i 3).val
    omega
  have hyx : Shape.reshapeEquiv (s := S352x128) q1 y = x := by
    apply Shape.reshapeEquiv_eq_of_rowMajor
    rw [show (S352x128.rowMajor x).val = _ from Shape.rowMajor_val_two (d := ![352, 128]) x,
      show (S44x8x128.rowMajor y).val = _ from Shape.rowMajor_val_three (d := ![44, 8, 128]) y]
    show (8 * (i 1).val + (i 2).val) * 128 + (i 3).val = ((i 1).val * 8 + (i 2).val) * 128 + (i 3).val
    omega
  have hz : ((eM.slice (Rect.unit (s := S2048x44x8x128) ![g, 0, 0, 0] S1x44x8x128.size inb2) p2).squeeze S44x8x128 squeezes_S1x44x8x128_S44x8x128).view.emb y = i := by
    show (Rect.unit (s := S2048x44x8x128) ![g, 0, 0, 0] S1x44x8x128.size inb2).emb
      (Shape.reshapeEquiv (s := S1x44x8x128) squeezes_S1x44x8x128_S44x8x128.numel_eq y) = i
    rw [hyz]
    funext a
    apply Fin.ext
    fin_cases a
    · show g + 1 * 0 = (i 0).val; omega
    · show 0 + 1 * (i 1).val = (i 1).val; omega
    · show 0 + 1 * (i 2).val = (i 2).val; omega
    · show 0 + 1 * (i 3).val = (i 3).val; omega
  let w : S1408x128.Idx := ix2 (⟨352 * (g % 4) + (8 * (i 1).val + (i 2).val), by omega⟩ : Fin 1408) (⟨(i 3).val, b3⟩ : Fin 128)
  have hx : ((seM.slice (Rect.unit (s := S1408x128) ![352 * (g % 4), 0] S352x128.size inb3) p3).reshape S44x8x128 q1 q2 q3).view.emb y = w := by
    show (Rect.unit (s := S1408x128) ![352 * (g % 4), 0] S352x128.size inb3).emb (Shape.reshapeEquiv (s := S352x128) q1 y) = w
    rw [hyx]
    funext a
    apply Fin.ext
    fin_cases a
    · show 352 * (g % 4) + 1 * (8 * (i 1).val + (i 2).val) = 352 * (g % 4) + (8 * (i 1).val + (i 2).val); omega
    · show 0 + 1 * (i 3).val = (i 3).val; omega
  have hw := hs w (by show (352 * (g % 4) + (8 * (i 1).val + (i 2).val)) / 352 = g % 4; omega)
  have e1 : (w 0).val - 352 * (g % 4) = 8 * (i 1).val + (i 2).val := by
    show 352 * (g % 4) + (8 * (i 1).val + (i 2).val) - 352 * (g % 4) = _; omega
  rw [e1] at hw
  have e2 : (((eM.slice (Rect.unit (s := S2048x44x8x128) ![g, 0, 0, 0] S1x44x8x128.size inb2) p2).squeeze S44x8x128 squeezes_S1x44x8x128_S44x8x128).view.write
      (Elt F) f0 (ReadAs.same.apply (((seM.slice (Rect.unit (s := S1408x128) ![352 * (g % 4), 0] S352x128.size inb3) p3).reshape S44x8x128 q1 q2 q3).view.read (Elt F) fs)) Finset.univ) i = fs w := by
    rw [← hz, ← hx]
    exact View.write_emb_of_mem _ _ (Finset.mem_univ y)
  rw [e2]
  exact hw

/-- The step that issues group `g`'s copy out of the emb staging ring. -/
theorem wp_outE (c : Dev nD) (P : ℕ → ℕ → ℕ → Elt F .bf16 → Prop) (g : ℕ)
    {o1 : Fin 1 → ℕ} {o2 : Fin 4 → ℕ} {o3 : Fin 2 → ℕ}
    (h1 : o1 = ![g % 4]) (h2 : o2 = ![g, 0, 0, 0]) (h3 : o3 = ![352 * (g % 4), 0])
    (inb1) (inb2) (inb3) (p2) (p3) (q1) (q2) (q3) (hw1) (hw2) (hw3) (Q : PUnit → sProp 𝕄) :
    iprop((∃ f, ⌜sGood P g f⌝ ∗ ptSE c (sSlot (g % 4)) f) ∗ (∃ f, ptE c (oBlk g) f) ∗ semVal ((c : Thread nD τ), SemLoc.dma (semE (g % 4))) 0)
      ⊢ iprop((FlE c P g -∗ Q ⟨⟩)
        -∗ wpK c (Prog.lift (.enqueueDma ((seM.slice (Rect.unit (s := S1408x128) o3 S352x128.size inb3) p3).reshape S44x8x128 q1 q2 q3)
            (.here ((eM.slice (Rect.unit (s := S2048x44x8x128) o2 S1x44x8x128.size inb2) p2).squeeze S44x8x128 squeezes_S1x44x8x128_S44x8x128))
            (.dma ((cc0_scratch5.slice (Rect.unit (s := S4) o1 S1.size inb1)).squeeze S_ squeezes_S1_S_).sem) hw1 hw2 hw3)) Q) := by
  have hm : g % 4 < 4 := Nat.mod_lt _ (by decide)
  have hT := sSlot_set_e (g % 4) h3 inb3 p3 q1 q2 q3
  have hB := oBlk_set_e g h2 inb2 p2 squeezes_S1x44x8x128_S44x8x128
  revert hw3
  rw [semE_eq (g % 4) hm h1 inb1]
  intro hw3
  iintro ⟨⟨%fs, %hs, HT⟩, ⟨%f0, HB⟩, Hq⟩ Hk
  imod (Transfers.batch_alloc' (Lvl := ℕ) (EC (F := F)) (c : Thread nD τ) () NO (DE c P g) (sm := SemLoc.dma (semE (g % 4))) (E := Set.univ)) $$ Hq with HBt
  iapply (Transfers.wp_dmaBatch (defs := defs₀ (F := F)) (Q := Q) EC Variants.none (c : Thread nD τ) none () NO
    (src := (seM.slice (Rect.unit (s := S1408x128) o3 S352x128.size inb3) p3).reshape S44x8x128 q1 q2 q3)
    (dst := (eM.slice (Rect.unit (s := S2048x44x8x128) o2 S1x44x8x128.size inb2) p2).squeeze S44x8x128 squeezes_S1x44x8x128_S44x8x128)
    (q := fullShare) (fs := fs) (fd := f0) (D := DE c P g)
    (by exact NOe) (Sd := oBlk g) hB.subset Nat.one_pos (Nat.zero_le _) ?hD) $$ [HT HB HBt]
  case hD =>
    unfold DE
    iintro ⟨Hd, Hs⟩
    isplitl [Hd]
    · iexists _
      isplitr; swap; · iexact Hd
      ipureintro
      exact good_writeE P g h2 h3 inb2 inb3 p2 p3 q1 q2 q3 f0 fs hs
    · iexists fs; rw [hT]; iexact Hs
  · isplitl [HT]; · rw [hT]; iexact HT
    isplitl [HB]; · iexact HB
    iexact HBt
  iintro HBt
  rw [wp_ret]
  imodintro
  iapply Hk
  iexact HBt

/-- The step that waits for group `g`'s copy out of the emb staging ring. -/
theorem wp_outwaitE (c : Dev nD) (P : ℕ → ℕ → ℕ → Elt F .bf16 → Prop) (g : ℕ) {o1 : Fin 1 → ℕ} (h1 : o1 = ![g % 4])
    (inb1) (src : Memref sig .tc .vmem S44x8x128 .bf16) {o2 : Fin 4 → ℕ} (inb2) (p2) (hw1) (hw2) (Q : PUnit → sProp 𝕄) :
    iprop(FlE c P g ∗ (∃ W, owes (c : Thread nD τ) 0 W))
      ⊢ iprop((iprop((∃ f, ⌜oGood P g f⌝ ∗ ptE c (oBlk g) f) ∗ (∃ f, ptSE c (sSlot (g % 4)) f)
            ∗ semVal ((c : Thread nD τ), SemLoc.dma (semE (g % 4))) 0 ∗ (∃ W, owes (c : Thread nD τ) 0 W)) -∗ Q ⟨⟩)
        -∗ wpK c (Prog.lift (.waitDma2 ((cc0_scratch5.slice (Rect.unit (s := S4) o1 S1.size inb1)).squeeze S_ squeezes_S1_S_).sem src
            ((eM.slice (Rect.unit (s := S2048x44x8x128) o2 S1x44x8x128.size inb2) p2).squeeze S44x8x128 squeezes_S1x44x8x128_S44x8x128) hw1 hw2)) Q) := by
  have hm : g % 4 < 4 := Nat.mod_lt _ (by decide)
  rw [semE_eq (g % 4) hm h1 inb1]
  iintro ⟨HBt, ⟨%W, HW⟩⟩ Hk
  iapply (Transfers.wp_waitBatchAll (defs := defs₀ (F := F)) (Q := Q) EC Variants.none (c : Thread nD τ) none ()
    (srcw := src)
    (dstw := (eM.slice (Rect.unit (s := S2048x44x8x128) o2 S1x44x8x128.size inb2) p2).squeeze S44x8x128 squeezes_S1x44x8x128_S44x8x128)
    (N := NO) (J := NO) NOe NO_pos (D := DE c P g) (u := 0) (by omega) (W := W)) $$ [HBt HW]
  · isplitl [HBt]; · iexact HBt
    iexact HW
  iintro ⟨HD, Hq, HW⟩
  rw [wp_ret]
  imodintro
  ihave HD' := (Entails.of_eq (show bigSep Finset.univ (DE c P g) = DE c P g 0 by
    rw [Finset.univ_unique, bigSep_singleton]; rfl)) $$ HD
  unfold DE
  icases HD' with ⟨H1, H2⟩
  iapply Hk
  isplitl [H1]; · iexact H1
  isplitl [H2]; · iexact H2
  isplitl [Hq]; · iexact Hq
  iexists _
  iexact HW

/-- The delivery of group `g`'s copy out of the normed staging ring. -/
def DO (c : Dev nD) (P : ℕ → ℕ → ℕ → Elt F .bf16 → Prop) (g : ℕ) (_ : Fin 1) : sProp 𝕄 :=
  iprop((∃ f, ⌜oGood P g f⌝ ∗ ptO c (oBlk g) f) ∗ (∃ f, ptSO c (sSlot (g % 4)) f))

instance DO_storable (c : Dev nD) (P : ℕ → ℕ → ℕ → Elt F .bf16 → Prop) (g : ℕ) (i : Fin 1) :
    Storable (upEmb : UEmb _ 𝕄) (DO c P g i) := by unfold DO; infer_instance

/-- Group `g`'s copy out of the normed staging ring, in flight. -/
abbrev FlO (c : Dev nD) (P : ℕ → ℕ → ℕ → Elt F .bf16 → Prop) (g : ℕ) : sProp 𝕄 :=
  Transfers.Batch EC (c : Thread nD τ) (.dma (semO (g % 4))) () NO (DO c P g) 1 0

/-- What a copy out lands is the staged group. -/
theorem good_writeO (P : ℕ → ℕ → ℕ → Elt F .bf16 → Prop) (g : ℕ) {o2 : Fin 4 → ℕ} {o3 : Fin 2 → ℕ}
    (h2 : o2 = ![g, 0, 0, 0]) (h3 : o3 = ![352 * (g % 4), 0]) (inb2) (inb3) (p2) (p3) (q1) (q2) (q3)
    (f0 : S2048x44x8x128.Idx → Elt F .bf16) (fs : S1408x128.Idx → Elt F .bf16) (hs : sGood P g fs) :
    oGood P g (((oM.slice (Rect.unit (s := S2048x44x8x128) o2 S1x44x8x128.size inb2) p2).squeeze S44x8x128 squeezes_S1x44x8x128_S44x8x128).view.write
      (Elt F) f0 (ReadAs.same.apply (((soM.slice (Rect.unit (s := S1408x128) o3 S352x128.size inb3) p3).reshape S44x8x128 q1 q2 q3).view.read (Elt F) fs)) Finset.univ) := by
  subst h2 h3
  intro i hi
  have b1 : (i 1).val < 44 := (i 1).isLt
  have b2 : (i 2).val < 8 := (i 2).isLt
  have b3 : (i 3).val < 128 := (i 3).isLt
  let y : S44x8x128.Idx := ix3 (⟨(i 1).val, b1⟩ : Fin 44) (⟨(i 2).val, b2⟩ : Fin 8) (⟨(i 3).val, b3⟩ : Fin 128)
  let z : S1x44x8x128.Idx := ix4 (0 : Fin 1) (⟨(i 1).val, b1⟩ : Fin 44) (⟨(i 2).val, b2⟩ : Fin 8) (⟨(i 3).val, b3⟩ : Fin 128)
  let x : S352x128.Idx := ix2 (⟨8 * (i 1).val + (i 2).val, by omega⟩ : Fin 352) (⟨(i 3).val, b3⟩ : Fin 128)
  have hyz : Shape.reshapeEquiv (s := S1x44x8x128) squeezes_S1x44x8x128_S44x8x128.numel_eq y = z := by
    apply Shape.reshapeEquiv_eq_of_rowMajor
    rw [show (S1x44x8x128.rowMajor z).val = _ from Shape.rowMajor_val_four (d := ![1, 44, 8, 128]) z,
      show (S44x8x128.rowMajor y).val = _ from Shape.rowMajor_val_three (d := ![44, 8, 128]) y]
    show ((0 * 44 + (i 1).val) * 8 + (i 2).val) * 128 + (i 3).val = ((i 1).val * 8 + (i 2).val) * 128 + (i 3).val
    omega
  have hyx : Shape.reshapeEquiv (s := S352x128) q1 y = x := by
    apply Shape.reshapeEquiv_eq_of_rowMajor
    rw [show (S352x128.rowMajor x).val = _ from Shape.rowMajor_val_two (d := ![352, 128]) x,
      show (S44x8x128.rowMajor y).val = _ from Shape.rowMajor_val_three (d := ![44, 8, 128]) y]
    show (8 * (i 1).val + (i 2).val) * 128 + (i 3).val = ((i 1).val * 8 + (i 2).val) * 128 + (i 3).val
    omega
  have hz : ((oM.slice (Rect.unit (s := S2048x44x8x128) ![g, 0, 0, 0] S1x44x8x128.size inb2) p2).squeeze S44x8x128 squeezes_S1x44x8x128_S44x8x128).view.emb y = i := by
    show (Rect.unit (s := S2048x44x8x128) ![g, 0, 0, 0] S1x44x8x128.size inb2).emb
      (Shape.reshapeEquiv (s := S1x44x8x128) squeezes_S1x44x8x128_S44x8x128.numel_eq y) = i
    rw [hyz]
    funext a
    apply Fin.ext
    fin_cases a
    · show g + 1 * 0 = (i 0).val; omega
    · show 0 + 1 * (i 1).val = (i 1).val; omega
    · show 0 + 1 * (i 2).val = (i 2).val; omega
    · show 0 + 1 * (i 3).val = (i 3).val; omega
  let w : S1408x128.Idx := ix2 (⟨352 * (g % 4) + (8 * (i 1).val + (i 2).val), by omega⟩ : Fin 1408) (⟨(i 3).val, b3⟩ : Fin 128)
  have hx : ((soM.slice (Rect.unit (s := S1408x128) ![352 * (g % 4), 0] S352x128.size inb3) p3).reshape S44x8x128 q1 q2 q3).view.emb y = w := by
    show (Rect.unit (s := S1408x128) ![352 * (g % 4), 0] S352x128.size inb3).emb (Shape.reshapeEquiv (s := S352x128) q1 y) = w
    rw [hyx]
    funext a
    apply Fin.ext
    fin_cases a
    · show 352 * (g % 4) + 1 * (8 * (i 1).val + (i 2).val) = 352 * (g % 4) + (8 * (i 1).val + (i 2).val); omega
    · show 0 + 1 * (i 3).val = (i 3).val; omega
  have hw := hs w (by show (352 * (g % 4) + (8 * (i 1).val + (i 2).val)) / 352 = g % 4; omega)
  have e1 : (w 0).val - 352 * (g % 4) = 8 * (i 1).val + (i 2).val := by
    show 352 * (g % 4) + (8 * (i 1).val + (i 2).val) - 352 * (g % 4) = _; omega
  rw [e1] at hw
  have e2 : (((oM.slice (Rect.unit (s := S2048x44x8x128) ![g, 0, 0, 0] S1x44x8x128.size inb2) p2).squeeze S44x8x128 squeezes_S1x44x8x128_S44x8x128).view.write
      (Elt F) f0 (ReadAs.same.apply (((soM.slice (Rect.unit (s := S1408x128) ![352 * (g % 4), 0] S352x128.size inb3) p3).reshape S44x8x128 q1 q2 q3).view.read (Elt F) fs)) Finset.univ) i = fs w := by
    rw [← hz, ← hx]
    exact View.write_emb_of_mem _ _ (Finset.mem_univ y)
  rw [e2]
  exact hw

/-- The step that issues group `g`'s copy out of the normed staging ring. -/
theorem wp_outO (c : Dev nD) (P : ℕ → ℕ → ℕ → Elt F .bf16 → Prop) (g : ℕ)
    {o1 : Fin 1 → ℕ} {o2 : Fin 4 → ℕ} {o3 : Fin 2 → ℕ}
    (h1 : o1 = ![g % 4]) (h2 : o2 = ![g, 0, 0, 0]) (h3 : o3 = ![352 * (g % 4), 0])
    (inb1) (inb2) (inb3) (p2) (p3) (q1) (q2) (q3) (hw1) (hw2) (hw3) (Q : PUnit → sProp 𝕄) :
    iprop((∃ f, ⌜sGood P g f⌝ ∗ ptSO c (sSlot (g % 4)) f) ∗ (∃ f, ptO c (oBlk g) f) ∗ semVal ((c : Thread nD τ), SemLoc.dma (semO (g % 4))) 0)
      ⊢ iprop((FlO c P g -∗ Q ⟨⟩)
        -∗ wpK c (Prog.lift (.enqueueDma ((soM.slice (Rect.unit (s := S1408x128) o3 S352x128.size inb3) p3).reshape S44x8x128 q1 q2 q3)
            (.here ((oM.slice (Rect.unit (s := S2048x44x8x128) o2 S1x44x8x128.size inb2) p2).squeeze S44x8x128 squeezes_S1x44x8x128_S44x8x128))
            (.dma ((cc0_scratch6.slice (Rect.unit (s := S4) o1 S1.size inb1)).squeeze S_ squeezes_S1_S_).sem) hw1 hw2 hw3)) Q) := by
  have hm : g % 4 < 4 := Nat.mod_lt _ (by decide)
  have hT := sSlot_set_o (g % 4) h3 inb3 p3 q1 q2 q3
  have hB := oBlk_set_o g h2 inb2 p2 squeezes_S1x44x8x128_S44x8x128
  revert hw3
  rw [semO_eq (g % 4) hm h1 inb1]
  intro hw3
  iintro ⟨⟨%fs, %hs, HT⟩, ⟨%f0, HB⟩, Hq⟩ Hk
  imod (Transfers.batch_alloc' (Lvl := ℕ) (EC (F := F)) (c : Thread nD τ) () NO (DO c P g) (sm := SemLoc.dma (semO (g % 4))) (E := Set.univ)) $$ Hq with HBt
  iapply (Transfers.wp_dmaBatch (defs := defs₀ (F := F)) (Q := Q) EC Variants.none (c : Thread nD τ) none () NO
    (src := (soM.slice (Rect.unit (s := S1408x128) o3 S352x128.size inb3) p3).reshape S44x8x128 q1 q2 q3)
    (dst := (oM.slice (Rect.unit (s := S2048x44x8x128) o2 S1x44x8x128.size inb2) p2).squeeze S44x8x128 squeezes_S1x44x8x128_S44x8x128)
    (q := fullShare) (fs := fs) (fd := f0) (D := DO c P g)
    rfl (Sd := oBlk g) hB.subset Nat.one_pos (Nat.zero_le _) ?hD) $$ [HT HB HBt]
  case hD =>
    unfold DO
    iintro ⟨Hd, Hs⟩
    isplitl [Hd]
    · iexists _
      isplitr; swap; · iexact Hd
      ipureintro
      exact good_writeO P g h2 h3 inb2 inb3 p2 p3 q1 q2 q3 f0 fs hs
    · iexists fs; rw [hT]; iexact Hs
  · isplitl [HT]; · rw [hT]; iexact HT
    isplitl [HB]; · iexact HB
    iexact HBt
  iintro HBt
  rw [wp_ret]
  imodintro
  iapply Hk
  iexact HBt

/-- The step that waits for group `g`'s copy out of the normed staging ring. -/
theorem wp_outwaitO (c : Dev nD) (P : ℕ → ℕ → ℕ → Elt F .bf16 → Prop) (g : ℕ) {o1 : Fin 1 → ℕ} (h1 : o1 = ![g % 4])
    (inb1) (src : Memref sig .tc .vmem S44x8x128 .bf16) {o2 : Fin 4 → ℕ} (inb2) (p2) (hw1) (hw2) (Q : PUnit → sProp 𝕄) :
    iprop(FlO c P g ∗ (∃ W, owes (c : Thread nD τ) 0 W))
      ⊢ iprop((iprop((∃ f, ⌜oGood P g f⌝ ∗ ptO c (oBlk g) f) ∗ (∃ f, ptSO c (sSlot (g % 4)) f)
            ∗ semVal ((c : Thread nD τ), SemLoc.dma (semO (g % 4))) 0 ∗ (∃ W, owes (c : Thread nD τ) 0 W)) -∗ Q ⟨⟩)
        -∗ wpK c (Prog.lift (.waitDma2 ((cc0_scratch6.slice (Rect.unit (s := S4) o1 S1.size inb1)).squeeze S_ squeezes_S1_S_).sem src
            ((oM.slice (Rect.unit (s := S2048x44x8x128) o2 S1x44x8x128.size inb2) p2).squeeze S44x8x128 squeezes_S1x44x8x128_S44x8x128) hw1 hw2)) Q) := by
  have hm : g % 4 < 4 := Nat.mod_lt _ (by decide)
  rw [semO_eq (g % 4) hm h1 inb1]
  iintro ⟨HBt, ⟨%W, HW⟩⟩ Hk
  iapply (Transfers.wp_waitBatchAll (defs := defs₀ (F := F)) (Q := Q) EC Variants.none (c : Thread nD τ) none ()
    (srcw := src)
    (dstw := (oM.slice (Rect.unit (s := S2048x44x8x128) o2 S1x44x8x128.size inb2) p2).squeeze S44x8x128 squeezes_S1x44x8x128_S44x8x128)
    (N := NO) (J := NO) rfl NO_pos (D := DO c P g) (u := 0) (by omega) (W := W)) $$ [HBt HW]
  · isplitl [HBt]; · iexact HBt
    iexact HW
  iintro ⟨HD, Hq, HW⟩
  rw [wp_ret]
  imodintro
  ihave HD' := (Entails.of_eq (show bigSep Finset.univ (DO c P g) = DO c P g 0 by
    rw [Finset.univ_unique, bigSep_singleton]; rfl)) $$ HD
  unfold DO
  icases HD' with ⟨H1, H2⟩
  iapply Hk
  isplitl [H1]; · iexact H1
  isplitl [H2]; · iexact H2
  isplitl [Hq]; · iexact Hq
  iexists _
  iexact HW

/-- The step that waits for a group's eight row copies at once. -/
theorem wp_rowwait (c : Dev nD) (fT : S16000x5632.Idx → BitVec 32) (tk : ℕ → BitVec 32) (g : ℕ) {o1 : Fin 1 → ℕ} (h1 : o1 = ![g % 64])
    (inb1) (src : Memref sig .tc .vmem S8x1x5632 .i32) {o2 : Fin 3 → ℕ} (inb2) (p2) (hw1) (hw2) (Q : PUnit → sProp 𝕄) :
    iprop(BRow (F := F) c fT tk g 8 ∗ (∃ W, owes (c : Thread nD τ) 0 W))
      ⊢ iprop((iprop(bigSep Finset.univ (DRow (F := F) c fT tk g)
            ∗ semVal ((c : Thread nD τ), SemLoc.dma (semIn (g % 64))) 0 ∗ (∃ W, owes (c : Thread nD τ) 0 W)) -∗ Q ⟨⟩)
        -∗ wpK c (Prog.lift (.waitDma2 ((cc0_scratch4.slice (Rect.unit (s := S64) o1 S1.size inb1)).squeeze S_ squeezes_S1_S_).sem src
            (bufM.slice (Rect.unit (s := S512x1x5632) o2 S8x1x5632.size inb2) p2) hw1 hw2)) Q) := by
  have hm : g % 64 < 64 := Nat.mod_lt _ (by decide)
  rw [semIn_eq (g % 64) hm h1 inb1]
  iintro ⟨HBt, ⟨%W, HW⟩⟩ Hk
  iapply (Transfers.wp_waitBatchAll (defs := defs₀ (F := F)) (Q := Q) EC Variants.none (c : Thread nD τ) none ()
    (srcw := src)
    (dstw := bufM.slice (Rect.unit (s := S512x1x5632) o2 S8x1x5632.size inb2) p2)
    (N := NR) (J := NR * 8) NR8 NR_pos (D := DRow (F := F) c fT tk g) (u := 0) (by omega) (W := W)) $$ [HBt HW]
  · isplitl [HBt]; · iexact HBt
    iexact HW
  iintro ⟨HD, Hq, HW⟩
  rw [wp_ret]
  imodintro
  iapply Hk
  isplitl [HD]; · iexact HD
  isplitl [Hq]; · iexact Hq
  iexists _
  iexact HW

end Cert.Kernel.Hand
-- ==== Proof.KB.Compute.lean ====
/-
  The steps of a group's computation. They read the tokens, the scales, the norm weights and the group's slot of the
  input ring, none of which they change, and store into the group's two staging slots. A step is a triple `Tr`: from
  the staging slots' contents within `DE` and `DO` to contents within `DE'` and `DO'`, returning a value within `P`.
-/
module

public import proofs.«01_k».proof.Proof.KB.Ring

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [BitOps F]

/-- The proof's user algebra: the pipeline library's beside the transfers' counters. -/
local notation "𝕄" => MT nD τ sig Unit (Elt F) ℕ (Pipeline.UD sig nD τ) ℕ

/-- The contents of a staging ring. -/
abbrev Stage (F : FTy → Type) := S1408x128.Idx → Elt F .bf16

/-- What one group's computation reads: the tokens and the weights (through the staged blocks), the scales, the
    input ring (at contents within `DB`); and the group's slots of the input ring and of the staging rings. -/
structure Cx (F : FTy → Type) where
  c : Dev nD
  arg0 : Memref sig .tc .smem S16384 .i32
  fA : Buf (Elt F) (arg0.view.loc (c : Thread nD τ))
  arg3 : Memref sig .tc .vmem S44x128 .f32
  fW : Buf (Elt F) (arg3.view.loc (c : Thread nD τ))
  DB : (S512x1x5632.Idx → BitVec 32) → Prop
  fS : S64000.Idx → Elt F .f32
  s : ℕ
  s4 : ℕ

/-- The resources of one group's computation. -/
def CRes (X : Cx F) (DE DO : Stage F → Prop) : sProp 𝕄 :=
  iprop((X.arg0.view.loc (X.c : Thread nD τ) ↦[X.arg0.view.set]{fullShare} X.fA)
    ∗ (X.arg3.view.loc (X.c : Thread nD τ) ↦[X.arg3.view.set]{fullShare} X.fW)
    ∗ ((X.c : Thread nD τ).loc cc0_scratch3 ↦[Finset.univ]{fullShare} X.fS)
    ∗ (∃ f, ⌜X.DB f⌝ ∗ ptB X.c (bSlot X.s) f)
    ∗ (∃ f, ⌜DE f⌝ ∗ ptSE X.c (sSlot X.s4) f)
    ∗ (∃ f, ⌜DO f⌝ ∗ ptSO X.c (sSlot X.s4) f))

/-- One piece of a group's computation. -/
def Tr (X : Cx F) (DE DO : Stage F → Prop) {α : Type} (p : Prog (TpuEff nD τ sig (Elt F) Λ₀ .tc) α) (P : α → Prop)
    (DE' DO' : Stage F → Prop) : Prop :=
  CRes X DE DO ⊢ wpK X.c p (fun r => iprop(⌜P r⌝ ∗ CRes X DE' DO'))

variable {X : Cx F} {DE DO DE1 DO1 DE' DO' : Stage F → Prop}

/-- Nothing more to do. -/
theorem Tr.ret {α : Type} (a : α) {P : α → Prop} (h : P a) : Tr X DE DO (pure a) P DE DO := by
  unfold Tr wpK
  iintro H
  rw [show (pure a : Prog (TpuEff nD τ sig (Elt F) Λ₀ .tc) α) = .ret a from rfl, wp_ret]
  imodintro
  isplitr
  · ipureintro; exact h
  · iexact H

/-- One piece after another. -/
theorem Tr.bind {α β : Type} {p : Prog (TpuEff nD τ sig (Elt F) Λ₀ .tc) α} {k : α → Prog (TpuEff nD τ sig (Elt F) Λ₀ .tc) β}
    {P : α → Prop} {P' : β → Prop} (h1 : Tr X DE DO p P DE1 DO1) (h2 : ∀ a, P a → Tr X DE1 DO1 (k a) P' DE' DO') :
    Tr X DE DO (p >>= k) P' DE' DO' := by
  unfold Tr wpK at *
  rw [wp_bind]
  refine h1.trans (wp_mono _ _ _ fun a => ?_)
  iintro ⟨%ha, H⟩
  iapply (h2 a ha)
  iexact H

/-- A piece of the computation beside whatever else is held. -/
theorem Tr.frame {α : Type} {p : Prog (TpuEff nD τ sig (Elt F) Λ₀ .tc) α} {P : α → Prop} {G : sProp 𝕄} {Q : α → sProp 𝕄}
    (h : Tr X DE DO p P DE' DO') (hQ : ∀ r, P r → iprop(CRes X DE' DO' ∗ G) ⊢ Q r) :
    iprop(CRes X DE DO ∗ G) ⊢ wpK X.c p Q := by
  unfold Tr at h
  refine (sep_mono_left h).trans ((wp_frame_r _ _ _).trans (wp_mono _ _ _ fun r => ?_))
  iintro ⟨⟨%hr, H⟩, HG⟩
  iapply (hQ r hr)
  isplitl [H]
  · iexact H
  · iexact HG

/-- A load of a token word. -/
theorem Tr.tok {off : Fin 1 → ℕ} (inb) (h1) (hp) :
    Tr X DE DO (smemLoad X.arg0 (Rect.unit (s := S16384) off S1.size inb) h1 hp)
      (fun v => v = (X.arg0.access (Rect.unit (s := S16384) off S1.size inb)).read (Elt F) X.fA (Shape.Idx.first (h1.symm ▸ Nat.one_pos))) DE DO := by
  unfold Tr CRes smemLoad
  iintro ⟨HA, HR⟩
  iapply (wp_smemLoadElt Variants.none (X.c : Thread nD τ) none Set.univ (S := X.arg0.view.set) (f := X.fA)
    (r := Rect.unit (s := S16384) off S1.size inb) (m := X.arg0) (View.set_slice_subset _ _)) $$ [HA]
  · iexact HA
  iintro HA
  rw [wp_ret]
  imodintro
  isplitr
  · ipureintro; rfl
  isplitl [HA]; · iexact HA
  iexact HR

/-- An assumption that holds. -/
theorem Tr.asm {P : Prop} {d : Decidable P} (h : P) : Tr X DE DO (Prog.lift (TpuEff.assume P d)) (fun _ => True) DE DO := by
  unfold Tr
  iintro H
  iapply (wp_assume Variants.none (X.c : Thread nD τ) none Set.univ h)
  rw [wp_ret]
  imodintro
  isplitr
  · ipureintro; trivial
  iexact H

/-- A load of a scale. -/
theorem Tr.scale {off : Fin 1 → ℕ} (inb) (h1) (hp) :
    Tr X DE DO (smemLoad (Memref.whole cc0_scratch3) (Rect.unit (s := S64000) off S1.size inb) h1 hp)
      (fun v => v = X.fS ((Rect.unit (s := S64000) off S1.size inb).emb (Shape.Idx.first (h1.symm ▸ Nat.one_pos)))) DE DO := by
  unfold Tr CRes smemLoad
  iintro ⟨HA, HW, HS, HR⟩
  iapply (wp_smemLoadElt Variants.none (X.c : Thread nD τ) none Set.univ (S := Finset.univ) (f := X.fS)
    (r := Rect.unit (s := S64000) off S1.size inb) (m := Memref.whole cc0_scratch3) (Finset.subset_univ _)) $$ [HS]
  · iexact HS
  iintro HS
  rw [wp_ret]
  imodintro
  isplitr
  · ipureintro; rfl
  isplitl [HA]; · iexact HA
  isplitl [HW]; · iexact HW
  isplitl [HS]; · iexact HS
  iexact HR

/-- A load of weights. -/
theorem Tr.wts (r : LoadRect S44x128) (hl) :
    Tr X DE DO (Prog.lift (.load X.arg3 r hl)) (fun v => v = X.arg3.view.readAt (Elt F) r X.fW) DE DO := by
  unfold Tr CRes
  iintro ⟨HA, HW, HR⟩
  iapply (wp_load Variants.none (X.c : Thread nD τ) none Set.univ (m := X.arg3) (r := r) (S := X.arg3.view.set) (f := X.fW)
    (View.setOn_subset_set _ _)) $$ [HW]
  · iexact HW
  iintro HW
  rw [wp_ret]
  imodintro
  isplitr
  · ipureintro; rfl
  isplitl [HA]; · iexact HA
  isplitl [HW]; · iexact HW
  iexact HR

/-- Where an element of the input ring's view as rows of 128 words lies. -/
theorem words_emb (q1) (q2) (q3) (y : S22528x128.Idx) :
    (((bufM.reshape S22528x128 q1 q2 q3).view.emb y) 0).val = (y 0).val / 44
      ∧ (((bufM.reshape S22528x128 q1 q2 q3).view.emb y) 2).val = ((y 0).val % 44) * 128 + (y 1).val := by
  have b0 : (y 0).val < 22528 := (y 0).isLt
  have b1 : (y 1).val < 128 := (y 1).isLt
  let z : S512x1x5632.Idx := ix3 (⟨(y 0).val / 44, by omega⟩ : Fin 512) (0 : Fin 1) (⟨((y 0).val % 44) * 128 + (y 1).val, by omega⟩ : Fin 5632)
  have e : (bufM.reshape S22528x128 q1 q2 q3).view.emb y = z := by
    show Shape.reshapeEquiv (s := S512x1x5632) q1 y = z
    apply Shape.reshapeEquiv_eq_of_rowMajor
    rw [show (S512x1x5632.rowMajor z).val = _ from Shape.rowMajor_val_three (d := ![512, 1, 5632]) z,
      show (S22528x128.rowMajor y).val = _ from Shape.rowMajor_val_two (d := ![22528, 128]) y]
    show ((y 0).val / 44 * 1 + 0) * 5632 + (((y 0).val % 44) * 128 + (y 1).val) = (y 0).val * 128 + (y 1).val
    omega
  rw [e]
  exact ⟨rfl, rfl⟩

/-- A load of some rows of 128 words of the group's slot. -/
theorem Tr.words {off size : Fin 2 → ℕ} {a n : ℕ} (ho : off = ![a, 0]) (hn : size 0 = n) (h1 : 352 * X.s ≤ a) (h2 : a + n ≤ 352 * X.s + 352)
    (inb) (q1) (q2) (q3) (hl) :
    Tr X DE DO (Prog.lift (.load (bufM.reshape S22528x128 q1 q2 q3) (Rect.unit (s := S22528x128) off size inb).toLoadRect hl))
      (fun v => ∃ f, X.DB f ∧ v = (bufM.reshape S22528x128 q1 q2 q3).view.readAt (Elt F) (Rect.unit (s := S22528x128) off size inb).toLoadRect f) DE DO := by
  subst ho hn
  have hS : (bufM.reshape S22528x128 q1 q2 q3).view.setOn (Rect.unit (s := S22528x128) ![a, 0] size inb).toLoadRect.set ⊆ bSlot X.s := by
    intro i hi
    obtain ⟨y, hy, rfl⟩ := Finset.mem_map.1 hi
    rw [mem_bSlot, (words_emb q1 q2 q3 y).1]
    obtain ⟨j, hj, e⟩ := (LoadRect.mem_set _).1 hy 0
    have e' : (y 0).val = a + 1 * j := e
    have hj' : j < size 0 := hj
    omega
  unfold Tr CRes
  iintro ⟨HA, HW, HSc, ⟨%fB, %hB, HB⟩, HR⟩
  iapply (wp_load Variants.none (X.c : Thread nD τ) none Set.univ (m := bufM.reshape S22528x128 q1 q2 q3)
    (r := (Rect.unit (s := S22528x128) ![a, 0] size inb).toLoadRect) (S := bSlot X.s) (f := fB) hS) $$ [HB]
  · iexact HB
  iintro HB
  rw [wp_ret]
  imodintro
  isplitr
  · ipureintro; exact ⟨fB, hB, rfl⟩
  isplitl [HA]; · iexact HA
  isplitl [HW]; · iexact HW
  isplitl [HSc]; · iexact HSc
  isplitl [HB]
  · iexists fB
    isplitr
    · ipureintro; exact hB
    · iexact HB
  iexact HR

/-- Where an element of the emb staging ring's view as pairs of rows lies. -/
theorem stageE_emb (q1) (q2) (q3) (y : S704x2x128.Idx) :
    (((seM.reshape S704x2x128 q1 q2 q3).view.emb y) 0).val = 2 * (y 0).val + (y 1).val
      ∧ (((seM.reshape S704x2x128 q1 q2 q3).view.emb y) 1).val = (y 2).val := by
  have b0 : (y 0).val < 704 := (y 0).isLt
  have b1 : (y 1).val < 2 := (y 1).isLt
  have b2 : (y 2).val < 128 := (y 2).isLt
  let z : S1408x128.Idx := ix2 (⟨2 * (y 0).val + (y 1).val, by omega⟩ : Fin 1408) (⟨(y 2).val, b2⟩ : Fin 128)
  have e : (seM.reshape S704x2x128 q1 q2 q3).view.emb y = z := by
    show Shape.reshapeEquiv (s := S1408x128) q1 y = z
    apply Shape.reshapeEquiv_eq_of_rowMajor
    rw [show (S1408x128.rowMajor z).val = _ from Shape.rowMajor_val_two (d := ![1408, 128]) z,
      show (S704x2x128.rowMajor y).val = _ from Shape.rowMajor_val_three (d := ![704, 2, 128]) y]
    show (2 * (y 0).val + (y 1).val) * 128 + (y 2).val = ((y 0).val * 2 + (y 1).val) * 128 + (y 2).val
    omega
  rw [e]
  exact ⟨rfl, rfl⟩

/-- Every fourth pair of rows of a staging slot lies in the slot. -/
theorem stageE_sub {s4 : ℕ} {off size : Fin 3 → ℕ} {a n : ℕ} (ho : off = ![a, 0, 0]) (hn : size 0 = n) (h1 : 176 * s4 ≤ a) (h2 : a + 4 * n ≤ 176 * s4 + 179)
    (inb) (q1) (q2) (q3) :
    (seM.reshape S704x2x128 q1 q2 q3).view.setOn (⟨off, size, ![4, 1, 1], inb⟩ : LoadRect S704x2x128).set ⊆ sSlot s4 := by
  subst ho hn
  intro i hi
  obtain ⟨y, hy, rfl⟩ := Finset.mem_map.1 hi
  have b1 : (y 1).val < 2 := (y 1).isLt
  rw [mem_sSlot, (stageE_emb q1 q2 q3 y).1]
  obtain ⟨j, hj, e⟩ := (LoadRect.mem_set _).1 hy 0
  have e' : (y 0).val = a + 4 * j := e
  have hj' : j < size 0 := hj
  omega

/-- A load from the group's emb staging slot. -/
theorem Tr.loadE {off size : Fin 3 → ℕ} {a n : ℕ} (ho : off = ![a, 0, 0]) (hn : size 0 = n) (h1 : 176 * X.s4 ≤ a) (h2 : a + 4 * n ≤ 176 * X.s4 + 179)
    (inb) (q1) (q2) (q3) (hl) :
    Tr X DE DO (Prog.lift (.load (seM.reshape S704x2x128 q1 q2 q3) (⟨off, size, ![4, 1, 1], inb⟩ : LoadRect S704x2x128) hl)) (fun _ => True) DE DO := by
  have hS := stageE_sub (s4 := X.s4) ho hn h1 h2 inb q1 q2 q3
  unfold Tr CRes
  iintro ⟨HA, HW, HSc, HB, ⟨%fE, %hE, HE⟩, ⟨%fO, %hO, HO⟩⟩
  iapply (wp_load Variants.none (X.c : Thread nD τ) none Set.univ (m := seM.reshape S704x2x128 q1 q2 q3)
    (r := (⟨off, size, ![4, 1, 1], inb⟩ : LoadRect S704x2x128)) (S := sSlot X.s4) (f := fE) hS) $$ [HE]
  · iexact HE
  iintro HE
  rw [wp_ret]
  imodintro
  isplitr
  · ipureintro; trivial
  isplitl [HA]; · iexact HA
  isplitl [HW]; · iexact HW
  isplitl [HSc]; · iexact HSc
  isplitl [HB]; · iexact HB
  isplitl [HE]
  · iexists fE
    isplitr
    · ipureintro; exact hE
    · iexact HE
  · iexists fO
    isplitr
    · ipureintro; exact hO
    · iexact HO

/-- A store into the group's emb staging slot. -/
theorem Tr.storeE {off size : Fin 3 → ℕ} {a n : ℕ} (ho : off = ![a, 0, 0]) (hn : size 0 = n) (h1 : 176 * X.s4 ≤ a) (h2 : a + 4 * n ≤ 176 * X.s4 + 179)
    (inb) (q1) (q2) (q3) (sp) (w) (hx) (hm)
    (hD : ∀ f, DE f → DE' (((seM.reshape S704x2x128 q1 q2 q3).access ⟨(⟨off, size, ![4, 1, 1], inb⟩ : LoadRect S704x2x128), sp⟩).write (Elt F) f w Finset.univ)) :
    Tr X DE DO (Prog.lift (.store (seM.reshape S704x2x128 q1 q2 q3) ⟨(⟨off, size, ![4, 1, 1], inb⟩ : LoadRect S704x2x128), sp⟩ w Finset.univ hx hm))
      (fun _ => True) DE' DO := by
  have hS : ((seM.reshape S704x2x128 q1 q2 q3).access ⟨(⟨off, size, ![4, 1, 1], inb⟩ : LoadRect S704x2x128), sp⟩).setOn Finset.univ ⊆ sSlot X.s4 := by
    refine Finset.Subset.trans ?_ (stageE_sub (s4 := X.s4) ho hn h1 h2 inb q1 q2 q3)
    intro i hi
    obtain ⟨x, -, rfl⟩ := Finset.mem_map.1 hi
    exact Finset.mem_map_of_mem _ (LoadRect.idx_mem _ x)
  unfold Tr CRes
  iintro ⟨HA, HW, HSc, HB, ⟨%fE, %hE, HE⟩, ⟨%fO, %hO, HO⟩⟩
  iapply (wp_store Variants.none (X.c : Thread nD τ) none Set.univ (m := seM.reshape S704x2x128 q1 q2 q3)
    (r := ⟨(⟨off, size, ![4, 1, 1], inb⟩ : LoadRect S704x2x128), sp⟩) (S := sSlot X.s4) (f := fE) hS) $$ [HE]
  · iexact HE
  iintro HE
  rw [wp_ret]
  imodintro
  isplitr
  · ipureintro; trivial
  isplitl [HA]; · iexact HA
  isplitl [HW]; · iexact HW
  isplitl [HSc]; · iexact HSc
  isplitl [HB]; · iexact HB
  isplitl [HE]
  · iexists _
    isplitr; swap; · iexact HE
    ipureintro; exact hD _ hE
  · iexists _
    isplitr; swap; · iexact HO
    ipureintro; exact hO

/-- Where an element of the normed staging ring's view as pairs of rows lies. -/
theorem stageO_emb (q1) (q2) (q3) (y : S704x2x128.Idx) :
    (((soM.reshape S704x2x128 q1 q2 q3).view.emb y) 0).val = 2 * (y 0).val + (y 1).val
      ∧ (((soM.reshape S704x2x128 q1 q2 q3).view.emb y) 1).val = (y 2).val := by
  have b0 : (y 0).val < 704 := (y 0).isLt
  have b1 : (y 1).val < 2 := (y 1).isLt
  have b2 : (y 2).val < 128 := (y 2).isLt
  let z : S1408x128.Idx := ix2 (⟨2 * (y 0).val + (y 1).val, by omega⟩ : Fin 1408) (⟨(y 2).val, b2⟩ : Fin 128)
  have e : (soM.reshape S704x2x128 q1 q2 q3).view.emb y = z := by
    show Shape.reshapeEquiv (s := S1408x128) q1 y = z
    apply Shape.reshapeEquiv_eq_of_rowMajor
    rw [show (S1408x128.rowMajor z).val = _ from Shape.rowMajor_val_two (d := ![1408, 128]) z,
      show (S704x2x128.rowMajor y).val = _ from Shape.rowMajor_val_three (d := ![704, 2, 128]) y]
    show (2 * (y 0).val + (y 1).val) * 128 + (y 2).val = ((y 0).val * 2 + (y 1).val) * 128 + (y 2).val
    omega
  rw [e]
  exact ⟨rfl, rfl⟩

/-- Every fourth pair of rows of a staging slot lies in the slot. -/
theorem stageO_sub {s4 : ℕ} {off size : Fin 3 → ℕ} {a n : ℕ} (ho : off = ![a, 0, 0]) (hn : size 0 = n) (h1 : 176 * s4 ≤ a) (h2 : a + 4 * n ≤ 176 * s4 + 179)
    (inb) (q1) (q2) (q3) :
    (soM.reshape S704x2x128 q1 q2 q3).view.setOn (⟨off, size, ![4, 1, 1], inb⟩ : LoadRect S704x2x128).set ⊆ sSlot s4 := by
  subst ho hn
  intro i hi
  obtain ⟨y, hy, rfl⟩ := Finset.mem_map.1 hi
  have b1 : (y 1).val < 2 := (y 1).isLt
  rw [mem_sSlot, (stageO_emb q1 q2 q3 y).1]
  obtain ⟨j, hj, e⟩ := (LoadRect.mem_set _).1 hy 0
  have e' : (y 0).val = a + 4 * j := e
  have hj' : j < size 0 := hj
  omega

/-- A load from the group's normed staging slot. -/
theorem Tr.loadO {off size : Fin 3 → ℕ} {a n : ℕ} (ho : off = ![a, 0, 0]) (hn : size 0 = n) (h1 : 176 * X.s4 ≤ a) (h2 : a + 4 * n ≤ 176 * X.s4 + 179)
    (inb) (q1) (q2) (q3) (hl) :
    Tr X DE DO (Prog.lift (.load (soM.reshape S704x2x128 q1 q2 q3) (⟨off, size, ![4, 1, 1], inb⟩ : LoadRect S704x2x128) hl)) (fun _ => True) DE DO := by
  have hS := stageO_sub (s4 := X.s4) ho hn h1 h2 inb q1 q2 q3
  unfold Tr CRes
  iintro ⟨HA, HW, HSc, HB, ⟨%fE, %hE, HE⟩, ⟨%fO, %hO, HO⟩⟩
  iapply (wp_load Variants.none (X.c : Thread nD τ) none Set.univ (m := soM.reshape S704x2x128 q1 q2 q3)
    (r := (⟨off, size, ![4, 1, 1], inb⟩ : LoadRect S704x2x128)) (S := sSlot X.s4) (f := fO) hS) $$ [HO]
  · iexact HO
  iintro HO
  rw [wp_ret]
  imodintro
  isplitr
  · ipureintro; trivial
  isplitl [HA]; · iexact HA
  isplitl [HW]; · iexact HW
  isplitl [HSc]; · iexact HSc
  isplitl [HB]; · iexact HB
  isplitl [HE]
  · iexists fE
    isplitr
    · ipureintro; exact hE
    · iexact HE
  · iexists fO
    isplitr
    · ipureintro; exact hO
    · iexact HO

/-- A store into the group's normed staging slot. -/
theorem Tr.storeO {off size : Fin 3 → ℕ} {a n : ℕ} (ho : off = ![a, 0, 0]) (hn : size 0 = n) (h1 : 176 * X.s4 ≤ a) (h2 : a + 4 * n ≤ 176 * X.s4 + 179)
    (inb) (q1) (q2) (q3) (sp) (w) (hx) (hm)
    (hD : ∀ f, DO f → DO' (((soM.reshape S704x2x128 q1 q2 q3).access ⟨(⟨off, size, ![4, 1, 1], inb⟩ : LoadRect S704x2x128), sp⟩).write (Elt F) f w Finset.univ)) :
    Tr X DE DO (Prog.lift (.store (soM.reshape S704x2x128 q1 q2 q3) ⟨(⟨off, size, ![4, 1, 1], inb⟩ : LoadRect S704x2x128), sp⟩ w Finset.univ hx hm))
      (fun _ => True) DE DO' := by
  have hS : ((soM.reshape S704x2x128 q1 q2 q3).access ⟨(⟨off, size, ![4, 1, 1], inb⟩ : LoadRect S704x2x128), sp⟩).setOn Finset.univ ⊆ sSlot X.s4 := by
    refine Finset.Subset.trans ?_ (stageO_sub (s4 := X.s4) ho hn h1 h2 inb q1 q2 q3)
    intro i hi
    obtain ⟨x, -, rfl⟩ := Finset.mem_map.1 hi
    exact Finset.mem_map_of_mem _ (LoadRect.idx_mem _ x)
  unfold Tr CRes
  iintro ⟨HA, HW, HSc, HB, ⟨%fE, %hE, HE⟩, ⟨%fO, %hO, HO⟩⟩
  iapply (wp_store Variants.none (X.c : Thread nD τ) none Set.univ (m := soM.reshape S704x2x128 q1 q2 q3)
    (r := ⟨(⟨off, size, ![4, 1, 1], inb⟩ : LoadRect S704x2x128), sp⟩) (S := sSlot X.s4) (f := fO) hS) $$ [HO]
  · iexact HO
  iintro HO
  rw [wp_ret]
  imodintro
  isplitr
  · ipureintro; trivial
  isplitl [HA]; · iexact HA
  isplitl [HW]; · iexact HW
  isplitl [HSc]; · iexact HSc
  isplitl [HB]; · iexact HB
  isplitl [HE]
  · iexists _
    isplitr; swap; · iexact HE
    ipureintro; exact hE
  · iexists _
    isplitr; swap; · iexact HO
    ipureintro; exact hD _ hO

end Cert.Kernel.Hand
-- ==== Proof.KB.Parts.lean ====
/-
  A trip's computation, part by part: no part changes what it reads, and each leaves the group's staging slots at some
  contents. Every address a part goes through is in closed form in the trip's number; the scales' addresses are token
  words, which are in range.
-/
module

public import proofs.«01_k».proof.Proof.KB.Compute

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [BitOps F]

/-- Any contents. -/
abbrev Any : Stage F → Prop := fun _ => True

/-! ## The side conditions on a token word -/

theorem chk1 (w : BitVec 32) (h : w.toNat < 64000) : k0_chk1 w := by
  intro a
  fin_cases a
  · show (w >>> (2 : ℕ)).toNat + 1 ≤ 16000
    rw [BitVec.toNat_ushiftRight, Nat.shiftRight_eq_div_pow]; omega
  · show 0 + 5632 ≤ 5632; omega

theorem chk2 (w : BitVec 32) (h : w.toNat < 64000) : k0_chk2 w := by
  intro a
  fin_cases a
  · show (w >>> (2 : ℕ)).toNat + 1 ≤ 16000
    rw [BitVec.toNat_ushiftRight, Nat.shiftRight_eq_div_pow]; omega
  · show 0 + 5632 ≤ 5632; omega

theorem chk3 (w : BitVec 32) (h : w.toNat < 64000) : k0_chk3 w := by
  intro a
  fin_cases a
  · show (w >>> (2 : ℕ)).toNat + 1 ≤ 16000
    rw [BitVec.toNat_ushiftRight, Nat.shiftRight_eq_div_pow]; omega
  · show 0 + 5632 ≤ 5632; omega

theorem chk4 (w : BitVec 32) (h : w.toNat < 64000) : k0_chk4 w := by
  intro a
  fin_cases a
  · show (w >>> (2 : ℕ)).toNat + 1 ≤ 16000
    rw [BitVec.toNat_ushiftRight, Nat.shiftRight_eq_div_pow]; omega
  · show 0 + 5632 ≤ 5632; omega

theorem chk5 (w : BitVec 32) (h : w.toNat < 64000) : k0_chk5 w := by
  intro a
  fin_cases a
  · show (w >>> (2 : ℕ)).toNat + 1 ≤ 16000
    rw [BitVec.toNat_ushiftRight, Nat.shiftRight_eq_div_pow]; omega
  · show 0 + 5632 ≤ 5632; omega

theorem chk6 (w : BitVec 32) (h : w.toNat < 64000) : k0_chk6 w := by
  intro a
  fin_cases a
  · show (w >>> (2 : ℕ)).toNat + 1 ≤ 16000
    rw [BitVec.toNat_ushiftRight, Nat.shiftRight_eq_div_pow]; omega
  · show 0 + 5632 ≤ 5632; omega

theorem chk7 (w : BitVec 32) (h : w.toNat < 64000) : k0_chk7 w := by
  intro a
  fin_cases a
  · show (w >>> (2 : ℕ)).toNat + 1 ≤ 16000
    rw [BitVec.toNat_ushiftRight, Nat.shiftRight_eq_div_pow]; omega
  · show 0 + 5632 ≤ 5632; omega

theorem chk8 (w : BitVec 32) (h : w.toNat < 64000) : k0_chk8 w := by
  intro a
  fin_cases a
  · show (w >>> (2 : ℕ)).toNat + 1 ≤ 16000
    rw [BitVec.toNat_ushiftRight, Nat.shiftRight_eq_div_pow]; omega
  · show 0 + 5632 ≤ 5632; omega

theorem chk9 (k : Fin k0_t2_loop.trips) (w : BitVec 32) (h : w.toNat < 64000) : k0_chk9 k w := by
  intro _ a
  fin_cases a
  · show (w >>> (2 : ℕ)).toNat + 1 ≤ 16000
    rw [BitVec.toNat_ushiftRight, Nat.shiftRight_eq_div_pow]; omega
  · show 0 + 5632 ≤ 5632; omega

theorem chk10 (k : Fin k0_t2_loop.trips) (w : BitVec 32) (h : w.toNat < 64000) : k0_chk10 k w := by
  intro _ a
  fin_cases a
  · show (w >>> (2 : ℕ)).toNat + 1 ≤ 16000
    rw [BitVec.toNat_ushiftRight, Nat.shiftRight_eq_div_pow]; omega
  · show 0 + 5632 ≤ 5632; omega

theorem chk11 (k : Fin k0_t2_loop.trips) (w : BitVec 32) (h : w.toNat < 64000) : k0_chk11 k w := by
  intro _ a
  fin_cases a
  · show (w >>> (2 : ℕ)).toNat + 1 ≤ 16000
    rw [BitVec.toNat_ushiftRight, Nat.shiftRight_eq_div_pow]; omega
  · show 0 + 5632 ≤ 5632; omega

theorem chk12 (k : Fin k0_t2_loop.trips) (w : BitVec 32) (h : w.toNat < 64000) : k0_chk12 k w := by
  intro _ a
  fin_cases a
  · show (w >>> (2 : ℕ)).toNat + 1 ≤ 16000
    rw [BitVec.toNat_ushiftRight, Nat.shiftRight_eq_div_pow]; omega
  · show 0 + 5632 ≤ 5632; omega

theorem chk13 (k : Fin k0_t2_loop.trips) (w : BitVec 32) (h : w.toNat < 64000) : k0_chk13 k w := by
  intro _ a
  fin_cases a
  · show (w >>> (2 : ℕ)).toNat + 1 ≤ 16000
    rw [BitVec.toNat_ushiftRight, Nat.shiftRight_eq_div_pow]; omega
  · show 0 + 5632 ≤ 5632; omega

theorem chk14 (k : Fin k0_t2_loop.trips) (w : BitVec 32) (h : w.toNat < 64000) : k0_chk14 k w := by
  intro _ a
  fin_cases a
  · show (w >>> (2 : ℕ)).toNat + 1 ≤ 16000
    rw [BitVec.toNat_ushiftRight, Nat.shiftRight_eq_div_pow]; omega
  · show 0 + 5632 ≤ 5632; omega

theorem chk15 (k : Fin k0_t2_loop.trips) (w : BitVec 32) (h : w.toNat < 64000) : k0_chk15 k w := by
  intro _ a
  fin_cases a
  · show (w >>> (2 : ℕ)).toNat + 1 ≤ 16000
    rw [BitVec.toNat_ushiftRight, Nat.shiftRight_eq_div_pow]; omega
  · show 0 + 5632 ≤ 5632; omega

theorem chk16 (k : Fin k0_t2_loop.trips) (w : BitVec 32) (h : w.toNat < 64000) : k0_chk16 k w := by
  intro _ a
  fin_cases a
  · show (w >>> (2 : ℕ)).toNat + 1 ≤ 16000
    rw [BitVec.toNat_ushiftRight, Nat.shiftRight_eq_div_pow]; omega
  · show 0 + 5632 ≤ 5632; omega

theorem chk17 (w : BitVec 32) (h : w.toNat < 64000) : k0_chk17 w := by
  intro a
  fin_cases a
  show w.toNat + 1 ≤ 64000
  omega

theorem chk18 (w : BitVec 32) (h : w.toNat < 64000) : k0_chk18 w := by
  intro a
  fin_cases a
  show w.toNat + 1 ≤ 64000
  omega

theorem chk19 (w : BitVec 32) (h : w.toNat < 64000) : k0_chk19 w := by
  intro a
  fin_cases a
  show w.toNat + 1 ≤ 64000
  omega

theorem chk20 (w : BitVec 32) (h : w.toNat < 64000) : k0_chk20 w := by
  intro a
  fin_cases a
  show w.toNat + 1 ≤ 64000
  omega

theorem chk21 (w : BitVec 32) (h : w.toNat < 64000) : k0_chk21 w := by
  intro a
  fin_cases a
  show w.toNat + 1 ≤ 64000
  omega

theorem chk22 (w : BitVec 32) (h : w.toNat < 64000) : k0_chk22 w := by
  intro a
  fin_cases a
  show w.toNat + 1 ≤ 64000
  omega

theorem chk23 (w : BitVec 32) (h : w.toNat < 64000) : k0_chk23 w := by
  intro a
  fin_cases a
  show w.toNat + 1 ≤ 64000
  omega

theorem chk24 (w : BitVec 32) (h : w.toNat < 64000) : k0_chk24 w := by
  intro a
  fin_cases a
  show w.toNat + 1 ≤ 64000
  omega

/-! ## The parts -/

variable {X : Cx F} (htok : ∀ x, (X.arg0.view.read (Elt F) X.fA x).toNat < 64000)
  (harg0 : X.arg0.IsWhole) (harg3 : X.arg3.IsWhole) (k0_t2 : Fin k0_t2_loop.trips) (hs : X.s = k0_t2.val % 64) (hs4 : X.s4 = k0_t2.val % 4)
include htok hs hs4

theorem fr_part8 (v41 : BitVec 32) (v46 : Elt F .i32) (k0_hw17 : k0_chk17 v46) (v48 : BitVec 32) (c24_i32 : BitVec 32) :
    Tr X Any Any (k0_part8 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v41 v46 k0_hw17 v48 c24_i32) (fun _ => True) Any Any := by
  rw [k0_part8_eq_skeleton]
  unfold k0_part8_skel
  refine .bind (.scale _ _ _) fun v51 _ => ?_
  refine .bind (.words (k0_off74_eq k0_t2 ⟨0, by decide⟩) (n := 8) rfl (by omega) (by omega) _ _ _ _ _) fun v60 _ => ?_
  refine .bind (.words (k0_off74_eq k0_t2 ⟨1, by decide⟩) (n := 8) rfl (by omega) (by omega) _ _ _ _ _) fun v70 _ => ?_
  refine .bind (.words (k0_off74_eq k0_t2 ⟨2, by decide⟩) (n := 8) rfl (by omega) (by omega) _ _ _ _ _) fun v80 _ => ?_
  refine .bind (.words (k0_off74_eq k0_t2 ⟨3, by decide⟩) (n := 8) rfl (by omega) (by omega) _ _ _ _ _) fun v90 _ => ?_
  exact .ret _ trivial

theorem fr_part9 (v22 : BitVec 32) (v41 : BitVec 32) (v49 : BitVec 32) (v54 : FVec F S8x128 .f32) (v56 : BitVec 32) (v94 : IVec S8x128 32) :
    Tr X Any Any (k0_part9 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v41 v49 v54 v56 v94) (fun _ => True) Any Any := by
  rw [k0_part9_eq_skeleton]
  unfold k0_part9_skel
  refine .bind (.words (k0_off74_eq k0_t2 ⟨4, by decide⟩) (n := 8) rfl (by omega) (by omega) _ _ _ _ _) fun v100 _ => ?_
  refine .bind (.words (k0_off75_eq k0_t2) (n := 4) rfl (by omega) (by omega) _ _ _ _ _) fun v110 _ => ?_
  refine .bind (.tok _ _ _) fun v122 ev122 => ?_
  have tv122 : v122.toNat < 64000 := by rw [ev122]; exact htok _
  refine .bind (.asm (chk18 _ tv122)) fun _ _ => ?_
  refine .bind (.scale _ _ _) fun v127 _ => ?_
  refine .bind (.words (k0_off78_eq k0_t2 ⟨0, by decide⟩) (n := 8) rfl (by omega) (by omega) _ _ _ _ _) fun v136 _ => ?_
  exact .ret _ trivial

theorem fr_part10 (v125 : BitVec 32) (v130 : FVec F S8x128 .f32) (v132 : BitVec 32) (v136 : Vec F S8x128 .i32) (v137 : IVec S8x128 32) :
    Tr X Any Any (k0_part10 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v125 v130 v132 v136 v137) (fun _ => True) Any Any := by
  rw [k0_part10_eq_skeleton]
  unfold k0_part10_skel
  refine .bind (.words (k0_off78_eq k0_t2 ⟨1, by decide⟩) (n := 8) rfl (by omega) (by omega) _ _ _ _ _) fun v146 _ => ?_
  refine .bind (.words (k0_off78_eq k0_t2 ⟨2, by decide⟩) (n := 8) rfl (by omega) (by omega) _ _ _ _ _) fun v156 _ => ?_
  refine .bind (.words (k0_off78_eq k0_t2 ⟨3, by decide⟩) (n := 8) rfl (by omega) (by omega) _ _ _ _ _) fun v166 _ => ?_
  refine .bind (.words (k0_off78_eq k0_t2 ⟨4, by decide⟩) (n := 8) rfl (by omega) (by omega) _ _ _ _ _) fun v176 _ => ?_
  exact .ret _ trivial

theorem fr_part11 (v22 : BitVec 32) (v66 : FVec F S8x128 .f32) (v76 : FVec F S8x128 .f32) (v86 : FVec F S8x128 .f32) (v125 : BitVec 32) (v130 : FVec F S8x128 .f32) (v142 : FVec F S8x128 .f32) (v152 : FVec F S8x128 .f32) (v162 : FVec F S8x128 .f32) (v183 : BitVec 32) :
    Tr X Any Any (k0_part11 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v66 v76 v86 v125 v130 v142 v152 v162 v183) (fun _ => True) Any Any := by
  rw [k0_part11_eq_skeleton]
  unfold k0_part11_skel
  refine .bind (.words (k0_off79_eq k0_t2) (n := 4) rfl (by omega) (by omega) _ _ _ _ _) fun v186 _ => ?_
  refine .bind (.loadE (k0_off80_eq k0_t2 ⟨0, by decide⟩) (n := 8) rfl (by omega) (by omega) _ _ _ _ _) fun v201_raw _ => ?_
  refine .bind (.storeE (DE' := Any) (k0_off80_eq k0_t2 ⟨0, by decide⟩) (n := 8) rfl (by omega) (by omega) _ _ _ _ _ _ _ _ fun _ _ => trivial) fun _ _ => ?_
  refine .bind (.loadE (k0_off80_eq k0_t2 ⟨1, by decide⟩) (n := 8) rfl (by omega) (by omega) _ _ _ _ _) fun v214_raw _ => ?_
  refine .bind (.storeE (DE' := Any) (k0_off80_eq k0_t2 ⟨1, by decide⟩) (n := 8) rfl (by omega) (by omega) _ _ _ _ _ _ _ _ fun _ _ => trivial) fun _ _ => ?_
  exact .ret _ trivial

theorem fr_part12 (v96 : FVec F S8x128 .f32) (v106 : FVec F S8x128 .f32) (v117 : FVec F S4x128 .f32) (v172 : FVec F S8x128 .f32) (v182 : FVec F S8x128 .f32) (v193 : FVec F S4x128 .f32) (v196 : BitVec 32) (v223 : IVec S8x128 32) :
    Tr X Any Any (k0_part12 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v96 v106 v117 v172 v182 v193 v196 v223) (fun _ => True) Any Any := by
  rw [k0_part12_eq_skeleton]
  unfold k0_part12_skel
  refine .bind (.loadE (k0_off80_eq k0_t2 ⟨2, by decide⟩) (n := 8) rfl (by omega) (by omega) _ _ _ _ _) fun v227_raw _ => ?_
  refine .bind (.storeE (DE' := Any) (k0_off80_eq k0_t2 ⟨2, by decide⟩) (n := 8) rfl (by omega) (by omega) _ _ _ _ _ _ _ _ fun _ _ => trivial) fun _ _ => ?_
  refine .bind (.loadE (k0_off80_eq k0_t2 ⟨3, by decide⟩) (n := 8) rfl (by omega) (by omega) _ _ _ _ _) fun v240_raw _ => ?_
  refine .bind (.storeE (DE' := Any) (k0_off80_eq k0_t2 ⟨3, by decide⟩) (n := 8) rfl (by omega) (by omega) _ _ _ _ _ _ _ _ fun _ _ => trivial) fun _ _ => ?_
  refine .bind (.loadE (k0_off80_eq k0_t2 ⟨4, by decide⟩) (n := 8) rfl (by omega) (by omega) _ _ _ _ _) fun v253_raw _ => ?_
  refine .bind (.storeE (DE' := Any) (k0_off80_eq k0_t2 ⟨4, by decide⟩) (n := 8) rfl (by omega) (by omega) _ _ _ _ _ _ _ _ fun _ _ => trivial) fun _ _ => ?_
  refine .bind (.loadE (k0_off81_eq k0_t2) (n := 4) rfl (by omega) (by omega) _ _ _ _ _) fun v266_raw _ => ?_
  exact .ret _ trivial

theorem fr_part13 (v206 : FVec F S8x128 .f32) (v219 : FVec F S8x128 .f32) (v232 : FVec F S8x128 .f32) (v245 : FVec F S8x128 .f32) (v258 : FVec F S8x128 .f32) (v262 : IVec S4x128 32) (v266 : IVec S4x128 32) :
    Tr X Any Any (k0_part13 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v206 v219 v232 v245 v258 v262 v266) (fun _ => True) Any Any := by
  rw [k0_part13_eq_skeleton]
  unfold k0_part13_skel
  refine .bind (.storeE (DE' := Any) (k0_off81_eq k0_t2) (n := 4) rfl (by omega) (by omega) _ _ _ _ _ _ _ _ fun _ _ => trivial) fun _ _ => ?_
  refine .bind (.wts _ _) fun v299 _ => ?_
  refine .bind (.wts _ _) fun v304 _ => ?_
  refine .bind (.wts _ _) fun v309 _ => ?_
  exact .ret _ trivial

theorem fr_part14 (v209 : FVec F S8x128 .f32) (v222 : FVec F S8x128 .f32) (v235 : FVec F S8x128 .f32) (v245 : FVec F S8x128 .f32) (v248 : FVec F S8x128 .f32) (v258 : FVec F S8x128 .f32) (v261 : FVec F S8x128 .f32) (v271 : FVec F S4x128 .f32) (v274 : FVec F S4x128 .f32) (v296 : FVec F S1x1 .f32) :
    Tr X Any Any (k0_part14 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v209 v222 v235 v245 v248 v258 v261 v271 v274 v296) (fun _ => True) Any Any := by
  rw [k0_part14_eq_skeleton]
  unfold k0_part14_skel
  refine .bind (.wts _ _) fun v314 _ => ?_
  refine .bind (.wts _ _) fun v319 _ => ?_
  refine .bind (.wts _ _) fun v324 _ => ?_
  refine .bind (.wts _ _) fun v351 _ => ?_
  refine .bind (.wts _ _) fun v356 _ => ?_
  exact .ret _ trivial

theorem fr_part15 (v196 : BitVec 32) (v235 : FVec F S8x128 .f32) (v248 : FVec F S8x128 .f32) (v261 : FVec F S8x128 .f32) (v274 : FVec F S4x128 .f32) (v301 : FVec F S8x128 .f32) (v306 : FVec F S8x128 .f32) (v311 : FVec F S8x128 .f32) (v348 : FVec F S1x1 .f32) (v353 : FVec F S8x128 .f32) (v355 : FVec F S8x128 .f32) (v356 : Vec F S8x128 .f32) :
    Tr X Any Any (k0_part15 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v196 v235 v248 v261 v274 v301 v306 v311 v348 v353 v355 v356) (fun _ => True) Any Any := by
  rw [k0_part15_eq_skeleton]
  unfold k0_part15_skel
  refine .bind (.wts _ _) fun v361 _ => ?_
  refine .bind (.wts _ _) fun v366 _ => ?_
  refine .bind (.wts _ _) fun v371 _ => ?_
  refine .bind (.wts _ _) fun v376 _ => ?_
  refine .bind (.loadO (k0_off80_eq k0_t2 ⟨0, by decide⟩) (n := 8) rfl (by omega) (by omega) _ _ _ _ _) fun v383_raw _ => ?_
  refine .bind (.storeO (DO' := Any) (k0_off80_eq k0_t2 ⟨0, by decide⟩) (n := 8) rfl (by omega) (by omega) _ _ _ _ _ _ _ _ fun _ _ => trivial) fun _ _ => ?_
  refine .bind (.loadO (k0_off80_eq k0_t2 ⟨1, by decide⟩) (n := 8) rfl (by omega) (by omega) _ _ _ _ _) fun v390_raw _ => ?_
  refine .bind (.storeO (DO' := Any) (k0_off80_eq k0_t2 ⟨1, by decide⟩) (n := 8) rfl (by omega) (by omega) _ _ _ _ _ _ _ _ fun _ _ => trivial) fun _ _ => ?_
  refine .bind (.loadO (k0_off80_eq k0_t2 ⟨2, by decide⟩) (n := 8) rfl (by omega) (by omega) _ _ _ _ _) fun v397_raw _ => ?_
  exact .ret _ trivial

theorem fr_part16 (v22 : BitVec 32) (v196 : BitVec 32) (v316 : FVec F S8x128 .f32) (v321 : FVec F S8x128 .f32) (v326 : FVec F S4x128 .f32) (v368 : FVec F S8x128 .f32) (v373 : FVec F S8x128 .f32) (v378 : FVec F S4x128 .f32) (v393 : IVec S8x128 32) :
    Tr X Any Any (k0_part16 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v196 v316 v321 v326 v368 v373 v378 v393) (fun _ => True) Any Any := by
  rw [k0_part16_eq_skeleton]
  unfold k0_part16_skel
  refine .bind (.storeO (DO' := Any) (k0_off80_eq k0_t2 ⟨2, by decide⟩) (n := 8) rfl (by omega) (by omega) _ _ _ _ _ _ _ _ fun _ _ => trivial) fun _ _ => ?_
  refine .bind (.loadO (k0_off80_eq k0_t2 ⟨3, by decide⟩) (n := 8) rfl (by omega) (by omega) _ _ _ _ _) fun v404_raw _ => ?_
  refine .bind (.storeO (DO' := Any) (k0_off80_eq k0_t2 ⟨3, by decide⟩) (n := 8) rfl (by omega) (by omega) _ _ _ _ _ _ _ _ fun _ _ => trivial) fun _ _ => ?_
  refine .bind (.loadO (k0_off80_eq k0_t2 ⟨4, by decide⟩) (n := 8) rfl (by omega) (by omega) _ _ _ _ _) fun v411_raw _ => ?_
  refine .bind (.storeO (DO' := Any) (k0_off80_eq k0_t2 ⟨4, by decide⟩) (n := 8) rfl (by omega) (by omega) _ _ _ _ _ _ _ _ fun _ _ => trivial) fun _ _ => ?_
  refine .bind (.loadO (k0_off81_eq k0_t2) (n := 4) rfl (by omega) (by omega) _ _ _ _ _) fun v418_raw _ => ?_
  refine .bind (.storeO (DO' := Any) (k0_off81_eq k0_t2) (n := 4) rfl (by omega) (by omega) _ _ _ _ _ _ _ _ fun _ _ => trivial) fun _ _ => ?_
  refine .bind (.tok _ _ _) fun v428 ev428 => ?_
  have tv428 : v428.toNat < 64000 := by rw [ev428]; exact htok _
  refine .bind (.asm (chk19 _ tv428)) fun _ _ => ?_
  refine .bind (.scale _ _ _) fun v433 _ => ?_
  exact .ret _ trivial

theorem fr_part17 (v423 : BitVec 32) (v431 : BitVec 32) (v434 : FVec F S8x128 .f32) :
    Tr X Any Any (k0_part17 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v423 v431 v434) (fun _ => True) Any Any := by
  rw [k0_part17_eq_skeleton]
  unfold k0_part17_skel
  refine .bind (.words (k0_off84_eq k0_t2 ⟨0, by decide⟩) (n := 8) rfl (by omega) (by omega) _ _ _ _ _) fun v442 _ => ?_
  refine .bind (.words (k0_off84_eq k0_t2 ⟨1, by decide⟩) (n := 8) rfl (by omega) (by omega) _ _ _ _ _) fun v452 _ => ?_
  refine .bind (.words (k0_off84_eq k0_t2 ⟨2, by decide⟩) (n := 8) rfl (by omega) (by omega) _ _ _ _ _) fun v462 _ => ?_
  refine .bind (.words (k0_off84_eq k0_t2 ⟨3, by decide⟩) (n := 8) rfl (by omega) (by omega) _ _ _ _ _) fun v472 _ => ?_
  exact .ret _ trivial

theorem fr_part18 (v22 : BitVec 32) (v423 : BitVec 32) (v431 : BitVec 32) (v436 : FVec F S8x128 .f32) (v438 : BitVec 32) (v479 : BitVec 32) :
    Tr X Any Any (k0_part18 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v423 v431 v436 v438 v479) (fun _ => True) Any Any := by
  rw [k0_part18_eq_skeleton]
  unfold k0_part18_skel
  refine .bind (.words (k0_off84_eq k0_t2 ⟨4, by decide⟩) (n := 8) rfl (by omega) (by omega) _ _ _ _ _) fun v482 _ => ?_
  refine .bind (.words (k0_off85_eq k0_t2) (n := 4) rfl (by omega) (by omega) _ _ _ _ _) fun v492 _ => ?_
  refine .bind (.tok _ _ _) fun v504 ev504 => ?_
  have tv504 : v504.toNat < 64000 := by rw [ev504]; exact htok _
  refine .bind (.asm (chk20 _ tv504)) fun _ _ => ?_
  refine .bind (.scale _ _ _) fun v509 _ => ?_
  refine .bind (.words (k0_off88_eq k0_t2 ⟨0, by decide⟩) (n := 8) rfl (by omega) (by omega) _ _ _ _ _) fun v518 _ => ?_
  exact .ret _ trivial

theorem fr_part19 (v507 : BitVec 32) (v512 : FVec F S8x128 .f32) (v514 : BitVec 32) (v522 : IVec S8x128 32) :
    Tr X Any Any (k0_part19 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v507 v512 v514 v522) (fun _ => True) Any Any := by
  rw [k0_part19_eq_skeleton]
  unfold k0_part19_skel
  refine .bind (.words (k0_off88_eq k0_t2 ⟨1, by decide⟩) (n := 8) rfl (by omega) (by omega) _ _ _ _ _) fun v528 _ => ?_
  refine .bind (.words (k0_off88_eq k0_t2 ⟨2, by decide⟩) (n := 8) rfl (by omega) (by omega) _ _ _ _ _) fun v538 _ => ?_
  refine .bind (.words (k0_off88_eq k0_t2 ⟨3, by decide⟩) (n := 8) rfl (by omega) (by omega) _ _ _ _ _) fun v548 _ => ?_
  refine .bind (.words (k0_off88_eq k0_t2 ⟨4, by decide⟩) (n := 8) rfl (by omega) (by omega) _ _ _ _ _) fun v558 _ => ?_
  refine .bind (.words (k0_off89_eq k0_t2) (n := 4) rfl (by omega) (by omega) _ _ _ _ _) fun v568 _ => ?_
  exact .ret _ trivial

theorem fr_part20 (v22 : BitVec 32) (v448 : FVec F S8x128 .f32) (v458 : FVec F S8x128 .f32) (v468 : FVec F S8x128 .f32) (v507 : BitVec 32) (v512 : FVec F S8x128 .f32) (v524 : FVec F S8x128 .f32) (v534 : FVec F S8x128 .f32) (v544 : FVec F S8x128 .f32) (v568 : Vec F S4x128 .i32) :
    Tr X Any Any (k0_part20 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v448 v458 v468 v507 v512 v524 v534 v544 v568) (fun _ => True) Any Any := by
  rw [k0_part20_eq_skeleton]
  unfold k0_part20_skel
  refine .bind (.loadE (k0_off90_eq k0_t2 ⟨0, by decide⟩) (n := 8) rfl (by omega) (by omega) _ _ _ _ _) fun v583_raw _ => ?_
  refine .bind (.storeE (DE' := Any) (k0_off90_eq k0_t2 ⟨0, by decide⟩) (n := 8) rfl (by omega) (by omega) _ _ _ _ _ _ _ _ fun _ _ => trivial) fun _ _ => ?_
  refine .bind (.loadE (k0_off90_eq k0_t2 ⟨1, by decide⟩) (n := 8) rfl (by omega) (by omega) _ _ _ _ _) fun v596_raw _ => ?_
  refine .bind (.storeE (DE' := Any) (k0_off90_eq k0_t2 ⟨1, by decide⟩) (n := 8) rfl (by omega) (by omega) _ _ _ _ _ _ _ _ fun _ _ => trivial) fun _ _ => ?_
  refine .bind (.loadE (k0_off90_eq k0_t2 ⟨2, by decide⟩) (n := 8) rfl (by omega) (by omega) _ _ _ _ _) fun v609_raw _ => ?_
  exact .ret _ trivial

theorem fr_part21 (v478 : FVec F S8x128 .f32) (v488 : FVec F S8x128 .f32) (v499 : FVec F S4x128 .f32) (v554 : FVec F S8x128 .f32) (v564 : FVec F S8x128 .f32) (v575 : FVec F S4x128 .f32) (v578 : BitVec 32) (v605 : IVec S8x128 32) :
    Tr X Any Any (k0_part21 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v478 v488 v499 v554 v564 v575 v578 v605) (fun _ => True) Any Any := by
  rw [k0_part21_eq_skeleton]
  unfold k0_part21_skel
  refine .bind (.storeE (DE' := Any) (k0_off90_eq k0_t2 ⟨2, by decide⟩) (n := 8) rfl (by omega) (by omega) _ _ _ _ _ _ _ _ fun _ _ => trivial) fun _ _ => ?_
  refine .bind (.loadE (k0_off90_eq k0_t2 ⟨3, by decide⟩) (n := 8) rfl (by omega) (by omega) _ _ _ _ _) fun v622_raw _ => ?_
  refine .bind (.storeE (DE' := Any) (k0_off90_eq k0_t2 ⟨3, by decide⟩) (n := 8) rfl (by omega) (by omega) _ _ _ _ _ _ _ _ fun _ _ => trivial) fun _ _ => ?_
  refine .bind (.loadE (k0_off90_eq k0_t2 ⟨4, by decide⟩) (n := 8) rfl (by omega) (by omega) _ _ _ _ _) fun v635_raw _ => ?_
  refine .bind (.storeE (DE' := Any) (k0_off90_eq k0_t2 ⟨4, by decide⟩) (n := 8) rfl (by omega) (by omega) _ _ _ _ _ _ _ _ fun _ _ => trivial) fun _ _ => ?_
  refine .bind (.loadE (k0_off91_eq k0_t2) (n := 4) rfl (by omega) (by omega) _ _ _ _ _) fun v648_raw _ => ?_
  refine .bind (.storeE (DE' := Any) (k0_off91_eq k0_t2) (n := 4) rfl (by omega) (by omega) _ _ _ _ _ _ _ _ fun _ _ => trivial) fun _ _ => ?_
  exact .ret _ trivial

theorem fr_part22 (v588 : FVec F S8x128 .f32) (v601 : FVec F S8x128 .f32) (v614 : FVec F S8x128 .f32) (v627 : FVec F S8x128 .f32) (v640 : FVec F S8x128 .f32) (v644 : IVec S4x128 32) :
    Tr X Any Any (k0_part22 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v588 v601 v614 v627 v640 v644) (fun _ => True) Any Any := by
  rw [k0_part22_eq_skeleton]
  unfold k0_part22_skel
  refine .bind (.wts _ _) fun v681 _ => ?_
  refine .bind (.wts _ _) fun v686 _ => ?_
  refine .bind (.wts _ _) fun v691 _ => ?_
  exact .ret _ trivial

theorem fr_part23 (v591 : FVec F S8x128 .f32) (v604 : FVec F S8x128 .f32) (v617 : FVec F S8x128 .f32) (v630 : FVec F S8x128 .f32) (v640 : FVec F S8x128 .f32) (v643 : FVec F S8x128 .f32) (v653 : FVec F S4x128 .f32) (v656 : FVec F S4x128 .f32) (v678 : FVec F S1x1 .f32) (v695 : FVec F S8x128 .f32) :
    Tr X Any Any (k0_part23 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v591 v604 v617 v630 v640 v643 v653 v656 v678 v695) (fun _ => True) Any Any := by
  rw [k0_part23_eq_skeleton]
  unfold k0_part23_skel
  refine .bind (.wts _ _) fun v696 _ => ?_
  refine .bind (.wts _ _) fun v701 _ => ?_
  refine .bind (.wts _ _) fun v706 _ => ?_
  refine .bind (.wts _ _) fun v733 _ => ?_
  refine .bind (.wts _ _) fun v738 _ => ?_
  exact .ret _ trivial

theorem fr_part24 (v578 : BitVec 32) (v630 : FVec F S8x128 .f32) (v643 : FVec F S8x128 .f32) (v656 : FVec F S4x128 .f32) (v683 : FVec F S8x128 .f32) (v688 : FVec F S8x128 .f32) (v693 : FVec F S8x128 .f32) (v698 : FVec F S8x128 .f32) (v730 : FVec F S1x1 .f32) (v735 : FVec F S8x128 .f32) (v740 : FVec F S8x128 .f32) (v742 : FVec F S8x128 .f32) :
    Tr X Any Any (k0_part24 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v578 v630 v643 v656 v683 v688 v693 v698 v730 v735 v740 v742) (fun _ => True) Any Any := by
  rw [k0_part24_eq_skeleton]
  unfold k0_part24_skel
  refine .bind (.wts _ _) fun v743 _ => ?_
  refine .bind (.wts _ _) fun v748 _ => ?_
  refine .bind (.wts _ _) fun v753 _ => ?_
  refine .bind (.wts _ _) fun v758 _ => ?_
  refine .bind (.loadO (k0_off90_eq k0_t2 ⟨0, by decide⟩) (n := 8) rfl (by omega) (by omega) _ _ _ _ _) fun v765_raw _ => ?_
  refine .bind (.storeO (DO' := Any) (k0_off90_eq k0_t2 ⟨0, by decide⟩) (n := 8) rfl (by omega) (by omega) _ _ _ _ _ _ _ _ fun _ _ => trivial) fun _ _ => ?_
  refine .bind (.loadO (k0_off90_eq k0_t2 ⟨1, by decide⟩) (n := 8) rfl (by omega) (by omega) _ _ _ _ _) fun v772_raw _ => ?_
  refine .bind (.storeO (DO' := Any) (k0_off90_eq k0_t2 ⟨1, by decide⟩) (n := 8) rfl (by omega) (by omega) _ _ _ _ _ _ _ _ fun _ _ => trivial) fun _ _ => ?_
  refine .bind (.loadO (k0_off90_eq k0_t2 ⟨2, by decide⟩) (n := 8) rfl (by omega) (by omega) _ _ _ _ _) fun v779_raw _ => ?_
  refine .bind (.storeO (DO' := Any) (k0_off90_eq k0_t2 ⟨2, by decide⟩) (n := 8) rfl (by omega) (by omega) _ _ _ _ _ _ _ _ fun _ _ => trivial) fun _ _ => ?_
  exact .ret _ trivial

theorem fr_part25 (v22 : BitVec 32) (v578 : BitVec 32) (v703 : FVec F S8x128 .f32) (v708 : FVec F S4x128 .f32) (v755 : FVec F S8x128 .f32) (v760 : FVec F S4x128 .f32) (v782 : IVec S8x128 32) :
    Tr X Any Any (k0_part25 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v578 v703 v708 v755 v760 v782) (fun _ => True) Any Any := by
  rw [k0_part25_eq_skeleton]
  unfold k0_part25_skel
  refine .bind (.loadO (k0_off90_eq k0_t2 ⟨3, by decide⟩) (n := 8) rfl (by omega) (by omega) _ _ _ _ _) fun v786_raw _ => ?_
  refine .bind (.storeO (DO' := Any) (k0_off90_eq k0_t2 ⟨3, by decide⟩) (n := 8) rfl (by omega) (by omega) _ _ _ _ _ _ _ _ fun _ _ => trivial) fun _ _ => ?_
  refine .bind (.loadO (k0_off90_eq k0_t2 ⟨4, by decide⟩) (n := 8) rfl (by omega) (by omega) _ _ _ _ _) fun v793_raw _ => ?_
  refine .bind (.storeO (DO' := Any) (k0_off90_eq k0_t2 ⟨4, by decide⟩) (n := 8) rfl (by omega) (by omega) _ _ _ _ _ _ _ _ fun _ _ => trivial) fun _ _ => ?_
  refine .bind (.loadO (k0_off91_eq k0_t2) (n := 4) rfl (by omega) (by omega) _ _ _ _ _) fun v800_raw _ => ?_
  refine .bind (.storeO (DO' := Any) (k0_off91_eq k0_t2) (n := 4) rfl (by omega) (by omega) _ _ _ _ _ _ _ _ fun _ _ => trivial) fun _ _ => ?_
  refine .bind (.tok _ _ _) fun v810 ev810 => ?_
  have tv810 : v810.toNat < 64000 := by rw [ev810]; exact htok _
  refine .bind (.asm (chk21 _ tv810)) fun _ _ => ?_
  refine .bind (.scale _ _ _) fun v815 _ => ?_
  exact .ret _ trivial

theorem fr_part26 (v813 : BitVec 32) (v818 : FVec F S8x128 .f32) (v819 : BitVec 32) :
    Tr X Any Any (k0_part26 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v813 v818 v819) (fun _ => True) Any Any := by
  rw [k0_part26_eq_skeleton]
  unfold k0_part26_skel
  refine .bind (.words (k0_off94_eq k0_t2 ⟨0, by decide⟩) (n := 8) rfl (by omega) (by omega) _ _ _ _ _) fun v824 _ => ?_
  refine .bind (.words (k0_off94_eq k0_t2 ⟨1, by decide⟩) (n := 8) rfl (by omega) (by omega) _ _ _ _ _) fun v834 _ => ?_
  refine .bind (.words (k0_off94_eq k0_t2 ⟨2, by decide⟩) (n := 8) rfl (by omega) (by omega) _ _ _ _ _) fun v844 _ => ?_
  refine .bind (.words (k0_off94_eq k0_t2 ⟨3, by decide⟩) (n := 8) rfl (by omega) (by omega) _ _ _ _ _) fun v854 _ => ?_
  refine .bind (.words (k0_off94_eq k0_t2 ⟨4, by decide⟩) (n := 8) rfl (by omega) (by omega) _ _ _ _ _) fun v864 _ => ?_
  exact .ret _ trivial

theorem fr_part27 (v22 : BitVec 32) (v805 : BitVec 32) (v813 : BitVec 32) (v818 : FVec F S8x128 .f32) (v820 : BitVec 32) (v864 : Vec F S8x128 .i32) :
    Tr X Any Any (k0_part27 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v805 v813 v818 v820 v864) (fun _ => True) Any Any := by
  rw [k0_part27_eq_skeleton]
  unfold k0_part27_skel
  refine .bind (.words (k0_off95_eq k0_t2) (n := 4) rfl (by omega) (by omega) _ _ _ _ _) fun v874 _ => ?_
  refine .bind (.tok _ _ _) fun v886 ev886 => ?_
  have tv886 : v886.toNat < 64000 := by rw [ev886]; exact htok _
  refine .bind (.asm (chk22 _ tv886)) fun _ _ => ?_
  refine .bind (.scale _ _ _) fun v891 _ => ?_
  refine .bind (.words (k0_off98_eq k0_t2 ⟨0, by decide⟩) (n := 8) rfl (by omega) (by omega) _ _ _ _ _) fun v900 _ => ?_
  exact .ret _ trivial

theorem fr_part28 (v889 : BitVec 32) (v894 : FVec F S8x128 .f32) (v896 : BitVec 32) (v907 : BitVec 32) :
    Tr X Any Any (k0_part28 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v889 v894 v896 v907) (fun _ => True) Any Any := by
  rw [k0_part28_eq_skeleton]
  unfold k0_part28_skel
  refine .bind (.words (k0_off98_eq k0_t2 ⟨1, by decide⟩) (n := 8) rfl (by omega) (by omega) _ _ _ _ _) fun v910 _ => ?_
  refine .bind (.words (k0_off98_eq k0_t2 ⟨2, by decide⟩) (n := 8) rfl (by omega) (by omega) _ _ _ _ _) fun v920 _ => ?_
  refine .bind (.words (k0_off98_eq k0_t2 ⟨3, by decide⟩) (n := 8) rfl (by omega) (by omega) _ _ _ _ _) fun v930 _ => ?_
  refine .bind (.words (k0_off98_eq k0_t2 ⟨4, by decide⟩) (n := 8) rfl (by omega) (by omega) _ _ _ _ _) fun v940 _ => ?_
  refine .bind (.words (k0_off99_eq k0_t2) (n := 4) rfl (by omega) (by omega) _ _ _ _ _) fun v950 _ => ?_
  exact .ret _ trivial

theorem fr_part29 (v22 : BitVec 32) (v830 : FVec F S8x128 .f32) (v840 : FVec F S8x128 .f32) (v850 : FVec F S8x128 .f32) (v894 : FVec F S8x128 .f32) (v906 : FVec F S8x128 .f32) (v916 : FVec F S8x128 .f32) (v926 : FVec F S8x128 .f32) (v952 : IVec S4x128 32) (v953 : IVec S4x128 32) :
    Tr X Any Any (k0_part29 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v830 v840 v850 v894 v906 v916 v926 v952 v953) (fun _ => True) Any Any := by
  rw [k0_part29_eq_skeleton]
  unfold k0_part29_skel
  refine .bind (.loadE (k0_off100_eq k0_t2 ⟨0, by decide⟩) (n := 8) rfl (by omega) (by omega) _ _ _ _ _) fun v965_raw _ => ?_
  refine .bind (.storeE (DE' := Any) (k0_off100_eq k0_t2 ⟨0, by decide⟩) (n := 8) rfl (by omega) (by omega) _ _ _ _ _ _ _ _ fun _ _ => trivial) fun _ _ => ?_
  refine .bind (.loadE (k0_off100_eq k0_t2 ⟨1, by decide⟩) (n := 8) rfl (by omega) (by omega) _ _ _ _ _) fun v978_raw _ => ?_
  refine .bind (.storeE (DE' := Any) (k0_off100_eq k0_t2 ⟨1, by decide⟩) (n := 8) rfl (by omega) (by omega) _ _ _ _ _ _ _ _ fun _ _ => trivial) fun _ _ => ?_
  refine .bind (.loadE (k0_off100_eq k0_t2 ⟨2, by decide⟩) (n := 8) rfl (by omega) (by omega) _ _ _ _ _) fun v991_raw _ => ?_
  refine .bind (.storeE (DE' := Any) (k0_off100_eq k0_t2 ⟨2, by decide⟩) (n := 8) rfl (by omega) (by omega) _ _ _ _ _ _ _ _ fun _ _ => trivial) fun _ _ => ?_
  exact .ret _ trivial

theorem fr_part30 (v860 : FVec F S8x128 .f32) (v870 : FVec F S8x128 .f32) (v881 : FVec F S4x128 .f32) (v936 : FVec F S8x128 .f32) (v946 : FVec F S8x128 .f32) (v957 : FVec F S4x128 .f32) (v960 : BitVec 32) (v987 : IVec S8x128 32) (c16_i32_344 : BitVec 32) :
    Tr X Any Any (k0_part30 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v860 v870 v881 v936 v946 v957 v960 v987 c16_i32_344) (fun _ => True) Any Any := by
  rw [k0_part30_eq_skeleton]
  unfold k0_part30_skel
  refine .bind (.loadE (k0_off100_eq k0_t2 ⟨3, by decide⟩) (n := 8) rfl (by omega) (by omega) _ _ _ _ _) fun v1004_raw _ => ?_
  refine .bind (.storeE (DE' := Any) (k0_off100_eq k0_t2 ⟨3, by decide⟩) (n := 8) rfl (by omega) (by omega) _ _ _ _ _ _ _ _ fun _ _ => trivial) fun _ _ => ?_
  refine .bind (.loadE (k0_off100_eq k0_t2 ⟨4, by decide⟩) (n := 8) rfl (by omega) (by omega) _ _ _ _ _) fun v1017_raw _ => ?_
  refine .bind (.storeE (DE' := Any) (k0_off100_eq k0_t2 ⟨4, by decide⟩) (n := 8) rfl (by omega) (by omega) _ _ _ _ _ _ _ _ fun _ _ => trivial) fun _ _ => ?_
  refine .bind (.loadE (k0_off101_eq k0_t2) (n := 4) rfl (by omega) (by omega) _ _ _ _ _) fun v1030_raw _ => ?_
  refine .bind (.storeE (DE' := Any) (k0_off101_eq k0_t2) (n := 4) rfl (by omega) (by omega) _ _ _ _ _ _ _ _ fun _ _ => trivial) fun _ _ => ?_
  exact .ret _ trivial

theorem fr_part31 (v970 : FVec F S8x128 .f32) (v983 : FVec F S8x128 .f32) (v996 : FVec F S8x128 .f32) (v1009 : FVec F S8x128 .f32) (v1022 : FVec F S8x128 .f32) (v1026 : IVec S4x128 32) (v1035 : FVec F S4x128 .f32) :
    Tr X Any Any (k0_part31 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v970 v983 v996 v1009 v1022 v1026 v1035) (fun _ => True) Any Any := by
  rw [k0_part31_eq_skeleton]
  unfold k0_part31_skel
  refine .bind (.wts _ _) fun v1063 _ => ?_
  refine .bind (.wts _ _) fun v1068 _ => ?_
  refine .bind (.wts _ _) fun v1073 _ => ?_
  refine .bind (.wts _ _) fun v1078 _ => ?_
  exact .ret _ trivial

theorem fr_part32 (v973 : FVec F S8x128 .f32) (v986 : FVec F S8x128 .f32) (v999 : FVec F S8x128 .f32) (v1012 : FVec F S8x128 .f32) (v1022 : FVec F S8x128 .f32) (v1025 : FVec F S8x128 .f32) (v1035 : FVec F S4x128 .f32) (v1038 : FVec F S4x128 .f32) (v1060 : FVec F S1x1 .f32) (v1081 : FVec F S8x128 .f32) :
    Tr X Any Any (k0_part32 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v973 v986 v999 v1012 v1022 v1025 v1035 v1038 v1060 v1081) (fun _ => True) Any Any := by
  rw [k0_part32_eq_skeleton]
  unfold k0_part32_skel
  refine .bind (.wts _ _) fun v1083 _ => ?_
  refine .bind (.wts _ _) fun v1088 _ => ?_
  refine .bind (.wts _ _) fun v1115 _ => ?_
  refine .bind (.wts _ _) fun v1120 _ => ?_
  refine .bind (.wts _ _) fun v1125 _ => ?_
  exact .ret _ trivial

theorem fr_part33 (v960 : BitVec 32) (v1012 : FVec F S8x128 .f32) (v1025 : FVec F S8x128 .f32) (v1038 : FVec F S4x128 .f32) (v1065 : FVec F S8x128 .f32) (v1070 : FVec F S8x128 .f32) (v1075 : FVec F S8x128 .f32) (v1080 : FVec F S8x128 .f32) (v1112 : FVec F S1x1 .f32) (v1117 : FVec F S8x128 .f32) (v1122 : FVec F S8x128 .f32) (v1124 : FVec F S8x128 .f32) (v1126 : FVec F S8x128 .f32) :
    Tr X Any Any (k0_part33 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v960 v1012 v1025 v1038 v1065 v1070 v1075 v1080 v1112 v1117 v1122 v1124 v1126) (fun _ => True) Any Any := by
  rw [k0_part33_eq_skeleton]
  unfold k0_part33_skel
  refine .bind (.wts _ _) fun v1130 _ => ?_
  refine .bind (.wts _ _) fun v1135 _ => ?_
  refine .bind (.wts _ _) fun v1140 _ => ?_
  refine .bind (.loadO (k0_off100_eq k0_t2 ⟨0, by decide⟩) (n := 8) rfl (by omega) (by omega) _ _ _ _ _) fun v1147_raw _ => ?_
  refine .bind (.storeO (DO' := Any) (k0_off100_eq k0_t2 ⟨0, by decide⟩) (n := 8) rfl (by omega) (by omega) _ _ _ _ _ _ _ _ fun _ _ => trivial) fun _ _ => ?_
  refine .bind (.loadO (k0_off100_eq k0_t2 ⟨1, by decide⟩) (n := 8) rfl (by omega) (by omega) _ _ _ _ _) fun v1154_raw _ => ?_
  refine .bind (.storeO (DO' := Any) (k0_off100_eq k0_t2 ⟨1, by decide⟩) (n := 8) rfl (by omega) (by omega) _ _ _ _ _ _ _ _ fun _ _ => trivial) fun _ _ => ?_
  refine .bind (.loadO (k0_off100_eq k0_t2 ⟨2, by decide⟩) (n := 8) rfl (by omega) (by omega) _ _ _ _ _) fun v1161_raw _ => ?_
  refine .bind (.storeO (DO' := Any) (k0_off100_eq k0_t2 ⟨2, by decide⟩) (n := 8) rfl (by omega) (by omega) _ _ _ _ _ _ _ _ fun _ _ => trivial) fun _ _ => ?_
  exact .ret _ trivial

theorem fr_part34 (v22 : BitVec 32) (v960 : BitVec 32) (v1085 : FVec F S8x128 .f32) (v1090 : FVec F S4x128 .f32) (v1137 : FVec F S8x128 .f32) (v1142 : FVec F S4x128 .f32) (v1164 : IVec S8x128 32) :
    Tr X Any Any (k0_part34 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v960 v1085 v1090 v1137 v1142 v1164) (fun _ => True) Any Any := by
  rw [k0_part34_eq_skeleton]
  unfold k0_part34_skel
  refine .bind (.loadO (k0_off100_eq k0_t2 ⟨3, by decide⟩) (n := 8) rfl (by omega) (by omega) _ _ _ _ _) fun v1168_raw _ => ?_
  refine .bind (.storeO (DO' := Any) (k0_off100_eq k0_t2 ⟨3, by decide⟩) (n := 8) rfl (by omega) (by omega) _ _ _ _ _ _ _ _ fun _ _ => trivial) fun _ _ => ?_
  refine .bind (.loadO (k0_off100_eq k0_t2 ⟨4, by decide⟩) (n := 8) rfl (by omega) (by omega) _ _ _ _ _) fun v1175_raw _ => ?_
  refine .bind (.storeO (DO' := Any) (k0_off100_eq k0_t2 ⟨4, by decide⟩) (n := 8) rfl (by omega) (by omega) _ _ _ _ _ _ _ _ fun _ _ => trivial) fun _ _ => ?_
  refine .bind (.loadO (k0_off101_eq k0_t2) (n := 4) rfl (by omega) (by omega) _ _ _ _ _) fun v1182_raw _ => ?_
  refine .bind (.storeO (DO' := Any) (k0_off101_eq k0_t2) (n := 4) rfl (by omega) (by omega) _ _ _ _ _ _ _ _ fun _ _ => trivial) fun _ _ => ?_
  refine .bind (.tok _ _ _) fun v1192 ev1192 => ?_
  have tv1192 : v1192.toNat < 64000 := by rw [ev1192]; exact htok _
  refine .bind (.asm (chk23 _ tv1192)) fun _ _ => ?_
  refine .bind (.scale _ _ _) fun v1197 _ => ?_
  exact .ret _ trivial

theorem fr_part35 (v1195 : BitVec 32) (v1200 : FVec F S8x128 .f32) (v1202 : BitVec 32) (v1203 : BitVec 32) :
    Tr X Any Any (k0_part35 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v1195 v1200 v1202 v1203) (fun _ => True) Any Any := by
  rw [k0_part35_eq_skeleton]
  unfold k0_part35_skel
  refine .bind (.words (k0_off104_eq k0_t2 ⟨0, by decide⟩) (n := 8) rfl (by omega) (by omega) _ _ _ _ _) fun v1206 _ => ?_
  refine .bind (.words (k0_off104_eq k0_t2 ⟨1, by decide⟩) (n := 8) rfl (by omega) (by omega) _ _ _ _ _) fun v1216 _ => ?_
  refine .bind (.words (k0_off104_eq k0_t2 ⟨2, by decide⟩) (n := 8) rfl (by omega) (by omega) _ _ _ _ _) fun v1226 _ => ?_
  refine .bind (.words (k0_off104_eq k0_t2 ⟨3, by decide⟩) (n := 8) rfl (by omega) (by omega) _ _ _ _ _) fun v1236 _ => ?_
  refine .bind (.words (k0_off104_eq k0_t2 ⟨4, by decide⟩) (n := 8) rfl (by omega) (by omega) _ _ _ _ _) fun v1246 _ => ?_
  exact .ret _ trivial

theorem fr_part36 (v22 : BitVec 32) (v1187 : BitVec 32) (v1195 : BitVec 32) (v1200 : FVec F S8x128 .f32) (v1202 : BitVec 32) (v1248 : IVec S8x128 32) (v1249 : IVec S8x128 32) :
    Tr X Any Any (k0_part36 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v1187 v1195 v1200 v1202 v1248 v1249) (fun _ => True) Any Any := by
  rw [k0_part36_eq_skeleton]
  unfold k0_part36_skel
  refine .bind (.words (k0_off105_eq k0_t2) (n := 4) rfl (by omega) (by omega) _ _ _ _ _) fun v1256 _ => ?_
  refine .bind (.tok _ _ _) fun v1268 ev1268 => ?_
  have tv1268 : v1268.toNat < 64000 := by rw [ev1268]; exact htok _
  refine .bind (.asm (chk24 _ tv1268)) fun _ _ => ?_
  refine .bind (.scale _ _ _) fun v1273 _ => ?_
  refine .bind (.words (k0_off108_eq k0_t2 ⟨0, by decide⟩) (n := 8) rfl (by omega) (by omega) _ _ _ _ _) fun v1282 _ => ?_
  refine .bind (.words (k0_off108_eq k0_t2 ⟨1, by decide⟩) (n := 8) rfl (by omega) (by omega) _ _ _ _ _) fun v1292 _ => ?_
  exact .ret _ trivial

theorem fr_part37 (v1271 : BitVec 32) (v1276 : FVec F S8x128 .f32) (v1278 : BitVec 32) (v1292 : Vec F S8x128 .i32) :
    Tr X Any Any (k0_part37 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v1271 v1276 v1278 v1292) (fun _ => True) Any Any := by
  rw [k0_part37_eq_skeleton]
  unfold k0_part37_skel
  refine .bind (.words (k0_off108_eq k0_t2 ⟨2, by decide⟩) (n := 8) rfl (by omega) (by omega) _ _ _ _ _) fun v1302 _ => ?_
  refine .bind (.words (k0_off108_eq k0_t2 ⟨3, by decide⟩) (n := 8) rfl (by omega) (by omega) _ _ _ _ _) fun v1312 _ => ?_
  refine .bind (.words (k0_off108_eq k0_t2 ⟨4, by decide⟩) (n := 8) rfl (by omega) (by omega) _ _ _ _ _) fun v1322 _ => ?_
  refine .bind (.words (k0_off109_eq k0_t2) (n := 4) rfl (by omega) (by omega) _ _ _ _ _) fun v1332 _ => ?_
  exact .ret _ trivial

theorem fr_part38 (v22 : BitVec 32) (v1212 : FVec F S8x128 .f32) (v1222 : FVec F S8x128 .f32) (v1232 : FVec F S8x128 .f32) (v1288 : FVec F S8x128 .f32) (v1298 : FVec F S8x128 .f32) (v1308 : FVec F S8x128 .f32) :
    Tr X Any Any (k0_part38 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v1212 v1222 v1232 v1288 v1298 v1308) (fun _ => True) Any Any := by
  rw [k0_part38_eq_skeleton]
  unfold k0_part38_skel
  refine .bind (.loadE (k0_off110_eq k0_t2 ⟨0, by decide⟩) (n := 8) rfl (by omega) (by omega) _ _ _ _ _) fun v1347_raw _ => ?_
  refine .bind (.storeE (DE' := Any) (k0_off110_eq k0_t2 ⟨0, by decide⟩) (n := 8) rfl (by omega) (by omega) _ _ _ _ _ _ _ _ fun _ _ => trivial) fun _ _ => ?_
  refine .bind (.loadE (k0_off110_eq k0_t2 ⟨1, by decide⟩) (n := 8) rfl (by omega) (by omega) _ _ _ _ _) fun v1360_raw _ => ?_
  refine .bind (.storeE (DE' := Any) (k0_off110_eq k0_t2 ⟨1, by decide⟩) (n := 8) rfl (by omega) (by omega) _ _ _ _ _ _ _ _ fun _ _ => trivial) fun _ _ => ?_
  refine .bind (.loadE (k0_off110_eq k0_t2 ⟨2, by decide⟩) (n := 8) rfl (by omega) (by omega) _ _ _ _ _) fun v1373_raw _ => ?_
  refine .bind (.storeE (DE' := Any) (k0_off110_eq k0_t2 ⟨2, by decide⟩) (n := 8) rfl (by omega) (by omega) _ _ _ _ _ _ _ _ fun _ _ => trivial) fun _ _ => ?_
  exact .ret _ trivial

theorem fr_part39 (v1242 : FVec F S8x128 .f32) (v1252 : FVec F S8x128 .f32) (v1263 : FVec F S4x128 .f32) (v1318 : FVec F S8x128 .f32) (v1328 : FVec F S8x128 .f32) (v1339 : FVec F S4x128 .f32) (v1342 : BitVec 32) (v1369 : IVec S8x128 32) (c_m65536_i32_472 : BitVec 32) :
    Tr X Any Any (k0_part39 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v1242 v1252 v1263 v1318 v1328 v1339 v1342 v1369 c_m65536_i32_472) (fun _ => True) Any Any := by
  rw [k0_part39_eq_skeleton]
  unfold k0_part39_skel
  refine .bind (.loadE (k0_off110_eq k0_t2 ⟨3, by decide⟩) (n := 8) rfl (by omega) (by omega) _ _ _ _ _) fun v1386_raw _ => ?_
  refine .bind (.storeE (DE' := Any) (k0_off110_eq k0_t2 ⟨3, by decide⟩) (n := 8) rfl (by omega) (by omega) _ _ _ _ _ _ _ _ fun _ _ => trivial) fun _ _ => ?_
  refine .bind (.loadE (k0_off110_eq k0_t2 ⟨4, by decide⟩) (n := 8) rfl (by omega) (by omega) _ _ _ _ _) fun v1399_raw _ => ?_
  refine .bind (.storeE (DE' := Any) (k0_off110_eq k0_t2 ⟨4, by decide⟩) (n := 8) rfl (by omega) (by omega) _ _ _ _ _ _ _ _ fun _ _ => trivial) fun _ _ => ?_
  refine .bind (.loadE (k0_off111_eq k0_t2) (n := 4) rfl (by omega) (by omega) _ _ _ _ _) fun v1412_raw _ => ?_
  refine .bind (.storeE (DE' := Any) (k0_off111_eq k0_t2) (n := 4) rfl (by omega) (by omega) _ _ _ _ _ _ _ _ fun _ _ => trivial) fun _ _ => ?_
  exact .ret _ trivial

theorem fr_part40 (v1352 : FVec F S8x128 .f32) (v1365 : FVec F S8x128 .f32) (v1378 : FVec F S8x128 .f32) (v1391 : FVec F S8x128 .f32) (v1404 : FVec F S8x128 .f32) (v1417 : FVec F S4x128 .f32) :
    Tr X Any Any (k0_part40 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v1352 v1365 v1378 v1391 v1404 v1417) (fun _ => True) Any Any := by
  rw [k0_part40_eq_skeleton]
  unfold k0_part40_skel
  refine .bind (.wts _ _) fun v1445 _ => ?_
  refine .bind (.wts _ _) fun v1450 _ => ?_
  refine .bind (.wts _ _) fun v1455 _ => ?_
  refine .bind (.wts _ _) fun v1460 _ => ?_
  refine .bind (.wts _ _) fun v1465 _ => ?_
  exact .ret _ trivial

theorem fr_part41 (v1355 : FVec F S8x128 .f32) (v1368 : FVec F S8x128 .f32) (v1381 : FVec F S8x128 .f32) (v1394 : FVec F S8x128 .f32) (v1407 : FVec F S8x128 .f32) (v1417 : FVec F S4x128 .f32) (v1420 : FVec F S4x128 .f32) (v1442 : FVec F S1x1 .f32) (v1464 : FVec F S8x128 .f32) (v1465 : Vec F S8x128 .f32) :
    Tr X Any Any (k0_part41 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v1355 v1368 v1381 v1394 v1407 v1417 v1420 v1442 v1464 v1465) (fun _ => True) Any Any := by
  rw [k0_part41_eq_skeleton]
  unfold k0_part41_skel
  refine .bind (.wts _ _) fun v1470 _ => ?_
  refine .bind (.wts _ _) fun v1497 _ => ?_
  refine .bind (.wts _ _) fun v1502 _ => ?_
  refine .bind (.wts _ _) fun v1507 _ => ?_
  exact .ret _ trivial

theorem fr_part42 (v1342 : BitVec 32) (v1407 : FVec F S8x128 .f32) (v1420 : FVec F S4x128 .f32) (v1447 : FVec F S8x128 .f32) (v1452 : FVec F S8x128 .f32) (v1457 : FVec F S8x128 .f32) (v1462 : FVec F S8x128 .f32) (v1494 : FVec F S1x1 .f32) (v1499 : FVec F S8x128 .f32) (v1504 : FVec F S8x128 .f32) (v1509 : FVec F S8x128 .f32) (v1511 : FVec F S8x128 .f32) :
    Tr X Any Any (k0_part42 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v1342 v1407 v1420 v1447 v1452 v1457 v1462 v1494 v1499 v1504 v1509 v1511) (fun _ => True) Any Any := by
  rw [k0_part42_eq_skeleton]
  unfold k0_part42_skel
  refine .bind (.wts _ _) fun v1512 _ => ?_
  refine .bind (.wts _ _) fun v1517 _ => ?_
  refine .bind (.wts _ _) fun v1522 _ => ?_
  refine .bind (.loadO (k0_off110_eq k0_t2 ⟨0, by decide⟩) (n := 8) rfl (by omega) (by omega) _ _ _ _ _) fun v1529_raw _ => ?_
  refine .bind (.storeO (DO' := Any) (k0_off110_eq k0_t2 ⟨0, by decide⟩) (n := 8) rfl (by omega) (by omega) _ _ _ _ _ _ _ _ fun _ _ => trivial) fun _ _ => ?_
  refine .bind (.loadO (k0_off110_eq k0_t2 ⟨1, by decide⟩) (n := 8) rfl (by omega) (by omega) _ _ _ _ _) fun v1536_raw _ => ?_
  refine .bind (.storeO (DO' := Any) (k0_off110_eq k0_t2 ⟨1, by decide⟩) (n := 8) rfl (by omega) (by omega) _ _ _ _ _ _ _ _ fun _ _ => trivial) fun _ _ => ?_
  refine .bind (.loadO (k0_off110_eq k0_t2 ⟨2, by decide⟩) (n := 8) rfl (by omega) (by omega) _ _ _ _ _) fun v1543_raw _ => ?_
  refine .bind (.storeO (DO' := Any) (k0_off110_eq k0_t2 ⟨2, by decide⟩) (n := 8) rfl (by omega) (by omega) _ _ _ _ _ _ _ _ fun _ _ => trivial) fun _ _ => ?_
  refine .bind (.loadO (k0_off110_eq k0_t2 ⟨3, by decide⟩) (n := 8) rfl (by omega) (by omega) _ _ _ _ _) fun v1550_raw _ => ?_
  exact .ret _ trivial

/-- A trip: whatever its first part (the copies and waits) brings the resources of the computation from, the trip
    brings them back. -/
theorem fr_body {H G : sProp (MT nD τ sig Unit (Elt F) ℕ (Pipeline.UD sig nD τ) ℕ)} (u : Unit)
    (h7 : H ⊢ wpK X.c (k0_part7 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 0#32 1#32 k0_t2) (fun _ => iprop(CRes X Any Any ∗ G))) :
    H ⊢ wpK X.c (k0_t2_body (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 u) (fun _ => iprop(CRes X Any Any ∗ G)) := by
  unfold k0_t2_body wpK
  rw [wp_bind, k0_part43_eq_skeleton]
  unfold k0_part43_skel
  rw [wp_bind]
  unfold wpK at h7
  refine h7.trans (wp_mono _ _ _ fun r7 => ?_)
  obtain ⟨v22, v41, v46, k0_hw17, v48, c24_i32⟩ := r7
  dsimp only
  refine Tr.frame (P := fun _ => True) (DE' := Any) (DO' := Any) ?_ fun rb _ => Tr.frame (P := fun _ => True) (DE' := Any) (DO' := Any) ?_ fun _ _ => .rfl
  · refine .bind (fr_part8 htok harg0 harg3 k0_t2 hs hs4 v41 v46 k0_hw17 v48 c24_i32) fun r8 _ => ?_
    obtain ⟨v49, v54, v56, v66, v76, v86, v94⟩ := r8
    refine .bind (fr_part9 htok harg0 harg3 k0_t2 hs hs4 v22 v41 v49 v54 v56 v94) fun r9 _ => ?_
    obtain ⟨v96, v106, v117, v125, v130, v132, v136, v137⟩ := r9
    refine .bind (fr_part10 htok harg0 harg3 k0_t2 hs hs4 v125 v130 v132 v136 v137) fun r10 _ => ?_
    obtain ⟨v142, v152, v162, v172, v182, v183⟩ := r10
    refine .bind (fr_part11 htok harg0 harg3 k0_t2 hs hs4 v22 v66 v76 v86 v125 v130 v142 v152 v162 v183) fun r11 _ => ?_
    obtain ⟨v193, v196, v206, v209, v219, v222, v223⟩ := r11
    refine .bind (fr_part12 htok harg0 harg3 k0_t2 hs hs4 v96 v106 v117 v172 v182 v193 v196 v223) fun r12 _ => ?_
    obtain ⟨v232, v235, v245, v248, v258, v261, v262, v266⟩ := r12
    refine .bind (fr_part13 htok harg0 harg3 k0_t2 hs hs4 v206 v219 v232 v245 v258 v262 v266) fun r13 _ => ?_
    obtain ⟨v271, v274, v296, v301, v306, v311⟩ := r13
    refine .bind (fr_part14 htok harg0 harg3 k0_t2 hs hs4 v209 v222 v235 v245 v248 v258 v261 v271 v274 v296) fun r14 _ => ?_
    obtain ⟨v316, v321, v326, v348, v353, v355, v356⟩ := r14
    refine .bind (fr_part15 htok harg0 harg3 k0_t2 hs hs4 v196 v235 v248 v261 v274 v301 v306 v311 v348 v353 v355 v356) fun r15 _ => ?_
    obtain ⟨v368, v373, v378, v393⟩ := r15
    refine .bind (fr_part16 htok harg0 harg3 k0_t2 hs hs4 v22 v196 v316 v321 v326 v368 v373 v378 v393) fun r16 _ => ?_
    obtain ⟨v423, v431, v434⟩ := r16
    refine .bind (fr_part17 htok harg0 harg3 k0_t2 hs hs4 v423 v431 v434) fun r17 _ => ?_
    obtain ⟨v436, v438, v448, v458, v468, v478, v479⟩ := r17
    refine .bind (fr_part18 htok harg0 harg3 k0_t2 hs hs4 v22 v423 v431 v436 v438 v479) fun r18 _ => ?_
    obtain ⟨v488, v499, v507, v512, v514, v522⟩ := r18
    refine .bind (fr_part19 htok harg0 harg3 k0_t2 hs hs4 v507 v512 v514 v522) fun r19 _ => ?_
    obtain ⟨v524, v534, v544, v554, v564, v568⟩ := r19
    refine .bind (fr_part20 htok harg0 harg3 k0_t2 hs hs4 v22 v448 v458 v468 v507 v512 v524 v534 v544 v568) fun r20 _ => ?_
    obtain ⟨v575, v578, v588, v591, v601, v604, v605⟩ := r20
    refine .bind (fr_part21 htok harg0 harg3 k0_t2 hs hs4 v478 v488 v499 v554 v564 v575 v578 v605) fun r21 _ => ?_
    obtain ⟨v614, v617, v627, v630, v640, v643, v644⟩ := r21
    refine .bind (fr_part22 htok harg0 harg3 k0_t2 hs hs4 v588 v601 v614 v627 v640 v644) fun r22 _ => ?_
    obtain ⟨v653, v656, v678, v683, v688, v693, v695⟩ := r22
    refine .bind (fr_part23 htok harg0 harg3 k0_t2 hs hs4 v591 v604 v617 v630 v640 v643 v653 v656 v678 v695) fun r23 _ => ?_
    obtain ⟨v698, v703, v708, v730, v735, v740, v742⟩ := r23
    refine .bind (fr_part24 htok harg0 harg3 k0_t2 hs hs4 v578 v630 v643 v656 v683 v688 v693 v698 v730 v735 v740 v742) fun r24 _ => ?_
    obtain ⟨v755, v760, v782⟩ := r24
    refine .bind (fr_part25 htok harg0 harg3 k0_t2 hs hs4 v22 v578 v703 v708 v755 v760 v782) fun r25 _ => ?_
    obtain ⟨v805, v813, v818, v819⟩ := r25
    refine .bind (fr_part26 htok harg0 harg3 k0_t2 hs hs4 v813 v818 v819) fun r26 _ => ?_
    obtain ⟨v820, v830, v840, v850, v860, v864⟩ := r26
    refine .bind (fr_part27 htok harg0 harg3 k0_t2 hs hs4 v22 v805 v813 v818 v820 v864) fun r27 _ => ?_
    obtain ⟨v870, v881, v889, v894, v896, v906, v907⟩ := r27
    refine .bind (fr_part28 htok harg0 harg3 k0_t2 hs hs4 v889 v894 v896 v907) fun r28 _ => ?_
    obtain ⟨v916, v926, v936, v946, v952, v953⟩ := r28
    refine .bind (fr_part29 htok harg0 harg3 k0_t2 hs hs4 v22 v830 v840 v850 v894 v906 v916 v926 v952 v953) fun r29 _ => ?_
    obtain ⟨v957, v960, v970, v973, v983, v986, v987, c16_i32_344⟩ := r29
    refine .bind (fr_part30 htok harg0 harg3 k0_t2 hs hs4 v860 v870 v881 v936 v946 v957 v960 v987 c16_i32_344) fun r30 _ => ?_
    obtain ⟨v996, v999, v1009, v1012, v1022, v1025, v1026, v1035⟩ := r30
    refine .bind (fr_part31 htok harg0 harg3 k0_t2 hs hs4 v970 v983 v996 v1009 v1022 v1026 v1035) fun r31 _ => ?_
    obtain ⟨v1038, v1060, v1065, v1070, v1075, v1080, v1081⟩ := r31
    refine .bind (fr_part32 htok harg0 harg3 k0_t2 hs hs4 v973 v986 v999 v1012 v1022 v1025 v1035 v1038 v1060 v1081) fun r32 _ => ?_
    obtain ⟨v1085, v1090, v1112, v1117, v1122, v1124, v1126⟩ := r32
    refine .bind (fr_part33 htok harg0 harg3 k0_t2 hs hs4 v960 v1012 v1025 v1038 v1065 v1070 v1075 v1080 v1112 v1117 v1122 v1124 v1126) fun r33 _ => ?_
    obtain ⟨v1137, v1142, v1164⟩ := r33
    refine .bind (fr_part34 htok harg0 harg3 k0_t2 hs hs4 v22 v960 v1085 v1090 v1137 v1142 v1164) fun r34 _ => ?_
    obtain ⟨v1187, v1195, v1200, v1202, v1203⟩ := r34
    refine .bind (fr_part35 htok harg0 harg3 k0_t2 hs hs4 v1195 v1200 v1202 v1203) fun r35 _ => ?_
    obtain ⟨v1212, v1222, v1232, v1242, v1248, v1249⟩ := r35
    refine .bind (fr_part36 htok harg0 harg3 k0_t2 hs hs4 v22 v1187 v1195 v1200 v1202 v1248 v1249) fun r36 _ => ?_
    obtain ⟨v1252, v1263, v1271, v1276, v1278, v1288, v1292⟩ := r36
    refine .bind (fr_part37 htok harg0 harg3 k0_t2 hs hs4 v1271 v1276 v1278 v1292) fun r37 _ => ?_
    obtain ⟨v1298, v1308, v1318, v1328, v1339⟩ := r37
    refine .bind (fr_part38 htok harg0 harg3 k0_t2 hs hs4 v22 v1212 v1222 v1232 v1288 v1298 v1308) fun r38 _ => ?_
    obtain ⟨v1342, v1352, v1355, v1365, v1368, v1369, v1378, c_m65536_i32_472⟩ := r38
    refine .bind (fr_part39 htok harg0 harg3 k0_t2 hs hs4 v1242 v1252 v1263 v1318 v1328 v1339 v1342 v1369 c_m65536_i32_472) fun r39 _ => ?_
    obtain ⟨v1381, v1391, v1394, v1404, v1407, v1417, v1420⟩ := r39
    refine .bind (fr_part40 htok harg0 harg3 k0_t2 hs hs4 v1352 v1365 v1378 v1391 v1404 v1417) fun r40 _ => ?_
    obtain ⟨v1442, v1447, v1452, v1457, v1462, v1464, v1465⟩ := r40
    refine .bind (fr_part41 htok harg0 harg3 k0_t2 hs hs4 v1355 v1368 v1381 v1394 v1407 v1417 v1420 v1442 v1464 v1465) fun r41 _ => ?_
    obtain ⟨v1467, v1472, v1494, v1499, v1504, v1509, v1511⟩ := r41
    refine .bind (fr_part42 htok harg0 harg3 k0_t2 hs hs4 v1342 v1407 v1420 v1447 v1452 v1457 v1462 v1494 v1499 v1504 v1509 v1511) fun r42 _ => ?_
    obtain ⟨v1519, v1524, v1552⟩ := r42
    refine .bind (.storeO (DO' := Any) (k0_off110_eq k0_t2 ⟨3, by decide⟩) (n := 8) rfl (by omega) (by omega) _ _ _ _ _ _ _ _ fun _ _ => trivial) fun _ _ => ?_
    refine .bind (.loadO (k0_off110_eq k0_t2 ⟨4, by decide⟩) (n := 8) rfl (by omega) (by omega) _ _ _ _ _) fun v1557_raw _ => ?_
    refine .bind (.storeO (DO' := Any) (k0_off110_eq k0_t2 ⟨4, by decide⟩) (n := 8) rfl (by omega) (by omega) _ _ _ _ _ _ _ _ fun _ _ => trivial) fun _ _ => ?_
    refine .bind (.loadO (k0_off111_eq k0_t2) (n := 4) rfl (by omega) (by omega) _ _ _ _ _) fun v1564_raw _ => ?_
    refine .bind (.storeO (DO' := Any) (k0_off111_eq k0_t2) (n := 4) rfl (by omega) (by omega) _ _ _ _ _ _ _ _ fun _ _ => trivial) fun _ _ => ?_
    exact .ret _ trivial
  · exact .ret _ trivial

end Cert.Kernel.Hand
-- ==== Proof.KB.Issue.lean ====
/-
  The steps that issue a group's eight row copies into its slot of the input ring: a free slot opens into a batch with
  nothing issued, each row's token word is loaded and checked, and its copy issued; after eight the group is in flight.
-/
module

public import proofs.«01_k».proof.Proof.KB.Parts
public import Idealize.SL.BI.BigOpNat
public import Idealize.SL.ProofMode.BigOp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [BitOps F]

/-- The proof's user algebra: the pipeline library's beside the transfers' counters. -/
local notation "𝕄" => MT nD τ sig Unit (Elt F) ℕ (Pipeline.UD sig nD τ) ℕ

/-! ## Running one piece after another -/

theorem ent_bind {c : Dev nD} {α β : Type} {A C : sProp 𝕄} {Q : β → sProp 𝕄} {P : α → Prop} {p : Prog (TpuEff nD τ sig (Elt F) Λ₀ .tc) α}
    {k : α → Prog (TpuEff nD τ sig (Elt F) Λ₀ .tc) β} (h1 : A ⊢ wpK c p (fun a => iprop(⌜P a⌝ ∗ C))) (h2 : ∀ a, P a → C ⊢ wpK c (k a) Q) :
    A ⊢ wpK c (p >>= k) Q := by
  unfold wpK at *
  rw [wp_bind]
  refine h1.trans (wp_mono _ _ _ fun a => ?_)
  iintro ⟨%ha, H⟩
  iapply (h2 a ha)
  iexact H

theorem ent_bind' {c : Dev nD} {α β : Type} {A : sProp 𝕄} {C : α → sProp 𝕄} {Q : β → sProp 𝕄} {p : Prog (TpuEff nD τ sig (Elt F) Λ₀ .tc) α}
    {k : α → Prog (TpuEff nD τ sig (Elt F) Λ₀ .tc) β} (h1 : A ⊢ wpK c p C) (h2 : ∀ a, C a ⊢ wpK c (k a) Q) :
    A ⊢ wpK c (p >>= k) Q := by
  unfold wpK at *
  rw [wp_bind]
  exact h1.trans (wp_mono _ _ _ h2)

theorem ent_ret {c : Dev nD} {α : Type} {A : sProp 𝕄} {Q : α → sProp 𝕄} {a : α} (h : A ⊢ Q a) :
    A ⊢ wpK c (pure a : Prog (TpuEff nD τ sig (Elt F) Λ₀ .tc) α) Q := by
  unfold wpK
  rw [show (pure a : Prog (TpuEff nD τ sig (Elt F) Λ₀ .tc) α) = .ret a from rfl, wp_ret]
  iintro H
  imodintro
  iapply h
  iexact H

theorem ent_frame {c : Dev nD} {α : Type} {A G : sProp 𝕄} {C : α → sProp 𝕄} {p : Prog (TpuEff nD τ sig (Elt F) Λ₀ .tc) α}
    (h : A ⊢ wpK c p C) : iprop(A ∗ G) ⊢ wpK c p (fun a => iprop(C a ∗ G)) := by
  unfold wpK at *
  exact (sep_mono_left h).trans (wp_frame_r _ _ _)

theorem ent_asm {c : Dev nD} {A : sProp 𝕄} {P : Prop} {d : Decidable P} (h : P) :
    A ⊢ wpK c (Prog.lift (TpuEff.assume P d)) (fun _ => iprop(⌜True⌝ ∗ A)) := by
  refine BIBase.Entails.trans ?_ (wp_asm c h _)
  iintro H
  isplitr
  · ipureintro; trivial
  · iexact H

theorem vec1 {a b : ℕ} (h : a = b) : (![a] : Fin 1 → ℕ) = ![b] := by rw [h]
theorem vec3 {a b : ℕ} (h : a = b) : (![a, 0, 0] : Fin 3 → ℕ) = ![b, 0, 0] := by rw [h]
theorem vec2 {a b : ℕ} (h : a = b) : (![a, 0] : Fin 2 → ℕ) = ![b, 0] := by rw [h]
theorem vec4 {a b : ℕ} (h : a = b) : (![a, 0, 0, 0] : Fin 4 → ℕ) = ![b, 0, 0, 0] := by rw [h]

/-! ## A slot while its copies are being issued -/

/-- A row of the ring that no copy is writing, with its share of the table. -/
def FreeRow (c : Dev nD) (fT : S16000x5632.Idx → BitVec 32) (R : ℕ) : sProp 𝕄 :=
  iprop((∃ f, ptB (F := F) c (bRow R) f) ∗ ptT c (shR R) Finset.univ fT)
/-- What is left of row `i`'s share of the table while its copy is in flight. -/
def LeftRow (c : Dev nD) (fT : S16000x5632.Idx → BitVec 32) (tk : ℕ → BitVec 32) (g i : ℕ) : sProp 𝕄 :=
  ptT (F := F) c (shR (8 * (g % 64) + i)) (Finset.univ \ tRow (rowOf (tk (8 * g + i)))) fT
/-- The tokens, and group `g`'s slot with `i` copies issued. -/
def IRes (c : Dev nD) (arg0 : Memref sig .tc .smem S16384 .i32) (fA : Buf (Elt F) (arg0.view.loc (c : Thread nD τ)))
    (fT : S16000x5632.Idx → BitVec 32) (tk : ℕ → BitVec 32) (g i : ℕ) : sProp 𝕄 :=
  iprop((arg0.view.loc (c : Thread nD τ) ↦[arg0.view.set]{fullShare} fA)
    ∗ BRow (F := F) c fT tk g i
    ∗ bigSep (Finset.Ico 0 i) (LeftRow (F := F) c fT tk g) ∗ bigSep (Finset.Ico i 8) (fun j => FreeRow (F := F) c fT (8 * (g % 64) + j)))
/-- A free slot. -/
def FreeIn (c : Dev nD) (fT : S16000x5632.Idx → BitVec 32) (g : ℕ) : sProp 𝕄 :=
  iprop(semVal ((c : Thread nD τ), SemLoc.dma (semIn (g % 64))) 0 ∗ bigSep (Finset.Ico 0 8) (fun j => FreeRow (F := F) c fT (8 * (g % 64) + j)))
/-- A group in flight. -/
def FlightIn (c : Dev nD) (fT : S16000x5632.Idx → BitVec 32) (tk : ℕ → BitVec 32) (g : ℕ) : sProp 𝕄 :=
  iprop(BRow (F := F) c fT tk g 8 ∗ bigSep (Finset.Ico 0 8) (LeftRow (F := F) c fT tk g))

section
variable {c : Dev nD} {arg0 : Memref sig .tc .smem S16384 .i32} {fA : Buf (Elt F) (arg0.view.loc (c : Thread nD τ))}
  {fT : S16000x5632.Idx → BitVec 32} {tokF : S16384.Idx → BitVec 32} (hf : arg0.view.read (Elt F) fA = tokF)
  {arg3 : Memref sig .tc .vmem S44x128 .f32} (harg0 : arg0.IsWhole) (harg3 : arg3.IsWhole)
  (htk : ∀ n, n < 16384 → (tkOf tokF n).toNat < 64000)

/-- A free slot opens. -/
theorem open_in {α : Type} {p : Prog (TpuEff nD τ sig (Elt F) Λ₀ .tc) α} {Q : α → sProp 𝕄} (tk : ℕ → BitVec 32) (g : ℕ)
    (h : IRes c arg0 fA fT tk g 0 ⊢ wpK c p Q) :
    iprop((arg0.view.loc (c : Thread nD τ) ↦[arg0.view.set]{fullShare} fA) ∗ FreeIn (F := F) c fT g) ⊢ wpK c p Q := by
  unfold FreeIn
  iintro ⟨HA, Hq, HR⟩
  imod (Transfers.batch_alloc' (Lvl := ℕ) (EC (F := F)) (c : Thread nD τ) () NR (DRow (F := F) c fT tk g) (sm := SemLoc.dma (semIn (g % 64))) (E := Set.univ)) $$ Hq with HBt
  iapply h
  unfold IRes
  isplitl [HA]; · iexact HA
  isplitl [HBt]; · iexact HBt
  isplitr
  · rw [Finset.Ico_self, bigSep_empty]; iempintro
  · iexact HR

/-- A slot with all its copies issued is in flight. -/
theorem close_in (tk : ℕ → BitVec 32) (g : ℕ) :
    IRes c arg0 fA fT tk g 8 ⊢ iprop((arg0.view.loc (c : Thread nD τ) ↦[arg0.view.set]{fullShare} fA) ∗ FlightIn (F := F) c fT tk g) := by
  unfold IRes FlightIn
  iintro ⟨HA, HB, HL, _⟩
  isplitl [HA]; · iexact HA
  isplitl [HB]; · iexact HB
  iexact HL

include hf in
/-- The step that loads a row's token word. -/
theorem i_tok (g i n : ℕ) (hn : n < 16384) {o : Fin 1 → ℕ} (ho : o = ![n]) (inb) (h1) (hp) :
    IRes c arg0 fA fT (tkOf tokF) g i ⊢ wpK c (smemLoad arg0 (Rect.unit (s := S16384) o S1.size inb) h1 hp)
      (fun v => iprop(⌜v = tkOf tokF n⌝ ∗ IRes c arg0 fA fT (tkOf tokF) g i)) := by
  unfold IRes
  iintro ⟨HA, HR⟩
  iapply (wp_tok c arg0 tokF hf n hn ho inb h1 hp _) $$ [HA]
  · iexact HA
  iintro HA
  isplitr
  · ipureintro; rfl
  isplitl [HA]; · iexact HA
  iexact HR

/-- The step that issues a row's copy. -/
theorem i_row (tk : ℕ → BitVec 32) (g i : ℕ) (hi : i < 8)
    {o1 : Fin 1 → ℕ} {o2 : Fin 3 → ℕ} {o3 : Fin 2 → ℕ}
    (h1 : o1 = ![g % 64]) (h2 : o2 = ![8 * (g % 64) + i, 0, 0]) (h3 : o3 = ![rowOf (tk (8 * g + i)), 0])
    (inb1) (inb2) (inb3) (p2) (p3) (hw1) (hw2) (hw3) :
    IRes c arg0 fA fT tk g i ⊢ wpK c (Prog.lift (.enqueueDma (hbT.slice (Rect.unit (s := S16000x5632) o3 S1x5632.size inb3) p3)
            (.here ((bufM.slice (Rect.unit (s := S512x1x5632) o2 S1x1x5632.size inb2) p2).squeeze S1x5632 squeezes_S1x1x5632_S1x5632))
            (.dma ((cc0_scratch4.slice (Rect.unit (s := S64) o1 S1.size inb1)).squeeze S_ squeezes_S1_S_).sem) hw1 hw2 hw3))
      (fun _ => iprop(⌜True⌝ ∗ IRes c arg0 fA fT tk g (i + 1))) := by
  unfold IRes
  rw [bigSep_Ico_succ_bot hi, bigSep_Ico_succ_top (Nat.zero_le i)]
  iintro ⟨HA, HB, HL, HF, HR⟩
  unfold FreeRow
  icases HF with ⟨⟨%f0, HF⟩, HT⟩
  iapply (wp_row c fT tk g i hi h1 h2 h3 inb1 inb2 inb3 p2 p3 hw1 hw2 hw3 f0 _) $$ [HB HF HT]
  · isplitl [HT]; · iexact HT
    isplitl [HF]; · iexact HF
    iexact HB
  iintro ⟨HB, HT⟩
  isplitr
  · ipureintro; trivial
  isplitl [HA]; · iexact HA
  isplitl [HB]; · iexact HB
  isplitl [HL HT]
  · isplitl [HT]
    · unfold LeftRow
      iexact HT
    · iexact HL
  · iexact HR

include hf htk in
/-- Part 1 of the body: it issues copies 0 to 1. -/
theorem fr_part1 (c0_i32 : BitVec 32) (c1_i32 : BitVec 32) (k0_t1 : Fin k0_t1_loop.trips) (hk : k0_t1.val < 63) :
    IRes c arg0 fA fT (tkOf tokF) k0_t1.val 0 ⊢ wpK c (k0_part1 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c0_i32 c1_i32 k0_t1) (fun r => iprop(⌜r.2.2.1 = tkOf tokF (8 * k0_t1.val + 2)⌝ ∗ IRes c arg0 fA fT (tkOf tokF) k0_t1.val 2)) := by
  rw [k0_part1_eq_skeleton]
  unfold k0_part1_skel
  refine ent_bind (i_tok hf k0_t1.val _ (8 * k0_t1.val + 0) (by omega) ((k0_off1_eq k0_t1).trans (vec1 (by omega))) _ _ _) fun v27 e0 => ?_
  refine ent_bind (ent_asm (chk1 _ (by rw [e0]; exact htk _ (by omega)))) fun _ _ => ?_
  refine ent_bind (i_row (tkOf tokF) k0_t1.val 0 (by decide) ((k0_off2_eq k0_t1).trans (vec1 (by omega))) ((k0_off3_eq k0_t1).trans (vec3 (by omega))) (by rw [← e0]; rfl) _ _ _ _ _ _ _ _) fun _ _ => ?_
  refine ent_bind (i_tok hf k0_t1.val _ (8 * k0_t1.val + 1) (by omega) ((k0_off5_eq k0_t1).trans (vec1 (by omega))) _ _ _) fun v39 e1 => ?_
  refine ent_bind (ent_asm (chk2 _ (by rw [e1]; exact htk _ (by omega)))) fun _ _ => ?_
  refine ent_bind (i_row (tkOf tokF) k0_t1.val 1 (by decide) ((k0_off6_eq k0_t1).trans (vec1 (by omega))) ((k0_off7_eq k0_t1).trans (vec3 (by omega))) (by rw [← e1]; rfl) _ _ _ _ _ _ _ _) fun _ _ => ?_
  refine ent_bind (i_tok hf k0_t1.val _ (8 * k0_t1.val + 2) (by omega) ((k0_off9_eq k0_t1).trans (vec1 (by omega))) _ _ _) fun v51 e2 => ?_
  refine ent_bind (ent_asm (chk3 _ (by rw [e2]; exact htk _ (by omega)))) fun _ _ => ?_
  refine ent_ret ?_
  iintro H
  isplitr
  · ipureintro; exact e2
  · iexact H

include hf htk in
/-- Part 2 of the body: it issues copies 2 to 4. -/
theorem fr_part2 (k0_t1 : Fin k0_t1_loop.trips) (v22 : BitVec 32) (v23 : BitVec 32) (v51 : Elt F .i32) (k0_hw3 : k0_chk3 v51) (hk : k0_t1.val < 63) (e2 : v51 = tkOf tokF (8 * k0_t1.val + 2)) :
    IRes c arg0 fA fT (tkOf tokF) k0_t1.val 2 ⊢ wpK c (k0_part2 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t1 v22 v23 v51 k0_hw3) (fun _ => iprop(⌜True⌝ ∗ IRes c arg0 fA fT (tkOf tokF) k0_t1.val 5)) := by
  rw [k0_part2_eq_skeleton]
  unfold k0_part2_skel
  refine ent_bind (i_row (tkOf tokF) k0_t1.val 2 (by decide) ((k0_off10_eq k0_t1).trans (vec1 (by omega))) ((k0_off11_eq k0_t1).trans (vec3 (by omega))) (by rw [← e2]; rfl) _ _ _ _ _ _ _ _) fun _ _ => ?_
  refine ent_bind (i_tok hf k0_t1.val _ (8 * k0_t1.val + 3) (by omega) ((k0_off13_eq k0_t1).trans (vec1 (by omega))) _ _ _) fun v63 e3 => ?_
  refine ent_bind (ent_asm (chk4 _ (by rw [e3]; exact htk _ (by omega)))) fun _ _ => ?_
  refine ent_bind (i_row (tkOf tokF) k0_t1.val 3 (by decide) ((k0_off14_eq k0_t1).trans (vec1 (by omega))) ((k0_off15_eq k0_t1).trans (vec3 (by omega))) (by rw [← e3]; rfl) _ _ _ _ _ _ _ _) fun _ _ => ?_
  refine ent_bind (i_tok hf k0_t1.val _ (8 * k0_t1.val + 4) (by omega) ((k0_off17_eq k0_t1).trans (vec1 (by omega))) _ _ _) fun v75 e4 => ?_
  refine ent_bind (ent_asm (chk5 _ (by rw [e4]; exact htk _ (by omega)))) fun _ _ => ?_
  refine ent_bind (i_row (tkOf tokF) k0_t1.val 4 (by decide) ((k0_off18_eq k0_t1).trans (vec1 (by omega))) ((k0_off19_eq k0_t1).trans (vec3 (by omega))) (by rw [← e4]; rfl) _ _ _ _ _ _ _ _) fun _ _ => ?_
  refine ent_ret ?_
  iintro H
  isplitr
  · ipureintro; trivial
  · iexact H

include hf htk in
/-- Part 3 of the body: it issues copies 5 to 6. -/
theorem fr_part3 (k0_t1 : Fin k0_t1_loop.trips) (v22 : BitVec 32) (v23 : BitVec 32) (v84 : BitVec 32) (c5_i32 : BitVec 32) (hk : k0_t1.val < 63) :
    IRes c arg0 fA fT (tkOf tokF) k0_t1.val 5 ⊢ wpK c (k0_part3 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t1 v22 v23 v84 c5_i32) (fun r => iprop(⌜r.1 = tkOf tokF (8 * k0_t1.val + 7)⌝ ∗ IRes c arg0 fA fT (tkOf tokF) k0_t1.val 7)) := by
  rw [k0_part3_eq_skeleton]
  unfold k0_part3_skel
  refine ent_bind (i_tok hf k0_t1.val _ (8 * k0_t1.val + 5) (by omega) ((k0_off21_eq k0_t1).trans (vec1 (by omega))) _ _ _) fun v87 e5 => ?_
  refine ent_bind (ent_asm (chk6 _ (by rw [e5]; exact htk _ (by omega)))) fun _ _ => ?_
  refine ent_bind (i_row (tkOf tokF) k0_t1.val 5 (by decide) ((k0_off22_eq k0_t1).trans (vec1 (by omega))) ((k0_off23_eq k0_t1).trans (vec3 (by omega))) (by rw [← e5]; rfl) _ _ _ _ _ _ _ _) fun _ _ => ?_
  refine ent_bind (i_tok hf k0_t1.val _ (8 * k0_t1.val + 6) (by omega) ((k0_off25_eq k0_t1).trans (vec1 (by omega))) _ _ _) fun v99 e6 => ?_
  refine ent_bind (ent_asm (chk7 _ (by rw [e6]; exact htk _ (by omega)))) fun _ _ => ?_
  refine ent_bind (i_row (tkOf tokF) k0_t1.val 6 (by decide) ((k0_off26_eq k0_t1).trans (vec1 (by omega))) ((k0_off27_eq k0_t1).trans (vec3 (by omega))) (by rw [← e6]; rfl) _ _ _ _ _ _ _ _) fun _ _ => ?_
  refine ent_bind (i_tok hf k0_t1.val _ (8 * k0_t1.val + 7) (by omega) ((k0_off29_eq k0_t1).trans (vec1 (by omega))) _ _ _) fun v111 e7 => ?_
  refine ent_bind (ent_asm (chk8 _ (by rw [e7]; exact htk _ (by omega)))) fun _ _ => ?_
  refine ent_ret ?_
  iintro H
  isplitr
  · ipureintro; exact e7
  · iexact H

include hf htk in
/-- Part 4 of the body: it issues copies 0 to 1. -/
theorem fr_part4 (k0_t2 : Fin k0_t2_loop.trips) (v22 : BitVec 32) (k0_h2 : k0_cond2 k0_t2 = 1#1) (hk : k0_t2.val + 63 < 2048) :
    IRes c arg0 fA fT (tkOf tokF) (k0_t2.val + 63) 0 ⊢ wpK c (k0_part4 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 k0_h2) (fun r => iprop(⌜r.2.2.1 = tkOf tokF (8 * (k0_t2.val + 63) + 2)⌝ ∗ IRes c arg0 fA fT (tkOf tokF) (k0_t2.val + 63) 2)) := by
  rw [k0_part4_eq_skeleton]
  unfold k0_part4_skel
  refine ent_bind (i_tok hf (k0_t2.val + 63) _ (8 * (k0_t2.val + 63) + 0) (by omega) ((k0_off36_eq k0_t2).trans (vec1 (by omega))) _ _ _) fun v1573 e0 => ?_
  refine ent_bind (ent_asm (chk9 k0_t2 _ (by rw [e0]; exact htk _ (by omega)))) fun _ _ => ?_
  refine ent_bind (i_row (tkOf tokF) (k0_t2.val + 63) 0 (by decide) ((k0_off37_eq k0_t2).trans (vec1 (by omega))) ((k0_off38_eq k0_t2).trans (vec3 (by omega))) (by rw [← e0]; rfl) _ _ _ _ _ _ _ _) fun _ _ => ?_
  refine ent_bind (i_tok hf (k0_t2.val + 63) _ (8 * (k0_t2.val + 63) + 1) (by omega) ((k0_off40_eq k0_t2).trans (vec1 (by omega))) _ _ _) fun v1585 e1 => ?_
  refine ent_bind (ent_asm (chk10 k0_t2 _ (by rw [e1]; exact htk _ (by omega)))) fun _ _ => ?_
  refine ent_bind (i_row (tkOf tokF) (k0_t2.val + 63) 1 (by decide) ((k0_off41_eq k0_t2).trans (vec1 (by omega))) ((k0_off42_eq k0_t2).trans (vec3 (by omega))) (by rw [← e1]; rfl) _ _ _ _ _ _ _ _) fun _ _ => ?_
  refine ent_bind (i_tok hf (k0_t2.val + 63) _ (8 * (k0_t2.val + 63) + 2) (by omega) ((k0_off44_eq k0_t2).trans (vec1 (by omega))) _ _ _) fun v1597 e2 => ?_
  refine ent_bind (ent_asm (chk11 k0_t2 _ (by rw [e2]; exact htk _ (by omega)))) fun _ _ => ?_
  refine ent_ret ?_
  iintro H
  isplitr
  · ipureintro; exact e2
  · iexact H

include hf htk in
/-- Part 5 of the body: it issues copies 2 to 4. -/
theorem fr_part5 (k0_t2 : Fin k0_t2_loop.trips) (k0_h2 : k0_cond2 k0_t2 = 1#1) (v1568 : BitVec 32) (v1569 : BitVec 32) (v1597 : Elt F .i32) (k0_hw11 : k0_chk11 k0_t2 v1597) (c8_i32_553 : BitVec 32) (hk : k0_t2.val + 63 < 2048) (e2 : v1597 = tkOf tokF (8 * (k0_t2.val + 63) + 2)) :
    IRes c arg0 fA fT (tkOf tokF) (k0_t2.val + 63) 2 ⊢ wpK c (k0_part5 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 k0_h2 v1568 v1569 v1597 k0_hw11 c8_i32_553) (fun _ => iprop(⌜True⌝ ∗ IRes c arg0 fA fT (tkOf tokF) (k0_t2.val + 63) 5)) := by
  rw [k0_part5_eq_skeleton]
  unfold k0_part5_skel
  refine ent_bind (i_row (tkOf tokF) (k0_t2.val + 63) 2 (by decide) ((k0_off45_eq k0_t2).trans (vec1 (by omega))) ((k0_off46_eq k0_t2).trans (vec3 (by omega))) (by rw [← e2]; rfl) _ _ _ _ _ _ _ _) fun _ _ => ?_
  refine ent_bind (i_tok hf (k0_t2.val + 63) _ (8 * (k0_t2.val + 63) + 3) (by omega) ((k0_off48_eq k0_t2).trans (vec1 (by omega))) _ _ _) fun v1609 e3 => ?_
  refine ent_bind (ent_asm (chk12 k0_t2 _ (by rw [e3]; exact htk _ (by omega)))) fun _ _ => ?_
  refine ent_bind (i_row (tkOf tokF) (k0_t2.val + 63) 3 (by decide) ((k0_off49_eq k0_t2).trans (vec1 (by omega))) ((k0_off50_eq k0_t2).trans (vec3 (by omega))) (by rw [← e3]; rfl) _ _ _ _ _ _ _ _) fun _ _ => ?_
  refine ent_bind (i_tok hf (k0_t2.val + 63) _ (8 * (k0_t2.val + 63) + 4) (by omega) ((k0_off52_eq k0_t2).trans (vec1 (by omega))) _ _ _) fun v1621 e4 => ?_
  refine ent_bind (ent_asm (chk13 k0_t2 _ (by rw [e4]; exact htk _ (by omega)))) fun _ _ => ?_
  refine ent_bind (i_row (tkOf tokF) (k0_t2.val + 63) 4 (by decide) ((k0_off53_eq k0_t2).trans (vec1 (by omega))) ((k0_off54_eq k0_t2).trans (vec3 (by omega))) (by rw [← e4]; rfl) _ _ _ _ _ _ _ _) fun _ _ => ?_
  refine ent_ret ?_
  iintro H
  isplitr
  · ipureintro; trivial
  · iexact H

include hf htk in
/-- Part 6 of the body: it issues copies 5 to 6. -/
theorem fr_part6 (k0_t2 : Fin k0_t2_loop.trips) (k0_h2 : k0_cond2 k0_t2 = 1#1) (v1568 : BitVec 32) (v1569 : BitVec 32) (v1631 : BitVec 32) (hk : k0_t2.val + 63 < 2048) :
    IRes c arg0 fA fT (tkOf tokF) (k0_t2.val + 63) 5 ⊢ wpK c (k0_part6 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 k0_h2 v1568 v1569 v1631) (fun r => iprop(⌜r.1 = tkOf tokF (8 * (k0_t2.val + 63) + 7)⌝ ∗ IRes c arg0 fA fT (tkOf tokF) (k0_t2.val + 63) 7)) := by
  rw [k0_part6_eq_skeleton]
  unfold k0_part6_skel
  refine ent_bind (i_tok hf (k0_t2.val + 63) _ (8 * (k0_t2.val + 63) + 5) (by omega) ((k0_off56_eq k0_t2).trans (vec1 (by omega))) _ _ _) fun v1633 e5 => ?_
  refine ent_bind (ent_asm (chk14 k0_t2 _ (by rw [e5]; exact htk _ (by omega)))) fun _ _ => ?_
  refine ent_bind (i_row (tkOf tokF) (k0_t2.val + 63) 5 (by decide) ((k0_off57_eq k0_t2).trans (vec1 (by omega))) ((k0_off58_eq k0_t2).trans (vec3 (by omega))) (by rw [← e5]; rfl) _ _ _ _ _ _ _ _) fun _ _ => ?_
  refine ent_bind (i_tok hf (k0_t2.val + 63) _ (8 * (k0_t2.val + 63) + 6) (by omega) ((k0_off60_eq k0_t2).trans (vec1 (by omega))) _ _ _) fun v1645 e6 => ?_
  refine ent_bind (ent_asm (chk15 k0_t2 _ (by rw [e6]; exact htk _ (by omega)))) fun _ _ => ?_
  refine ent_bind (i_row (tkOf tokF) (k0_t2.val + 63) 6 (by decide) ((k0_off61_eq k0_t2).trans (vec1 (by omega))) ((k0_off62_eq k0_t2).trans (vec3 (by omega))) (by rw [← e6]; rfl) _ _ _ _ _ _ _ _) fun _ _ => ?_
  refine ent_bind (i_tok hf (k0_t2.val + 63) _ (8 * (k0_t2.val + 63) + 7) (by omega) ((k0_off64_eq k0_t2).trans (vec1 (by omega))) _ _ _) fun v1657 e7 => ?_
  refine ent_bind (ent_asm (chk16 k0_t2 _ (by rw [e7]; exact htk _ (by omega)))) fun _ _ => ?_
  refine ent_ret ?_
  iintro H
  isplitr
  · ipureintro; exact e7
  · iexact H

include hf htk in
/-- A trip of the first loop issues a group. -/
theorem fr_t1 (k0_t1 : Fin k0_t1_loop.trips) (u : Unit) (hk : k0_t1.val < 63) :
    iprop((arg0.view.loc (c : Thread nD τ) ↦[arg0.view.set]{fullShare} fA) ∗ FreeIn (F := F) c fT k0_t1.val)
      ⊢ wpK c (k0_t1_body (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t1 u)
        (fun _ => iprop((arg0.view.loc (c : Thread nD τ) ↦[arg0.view.set]{fullShare} fA) ∗ FlightIn (F := F) c fT (tkOf tokF) k0_t1.val)) := by
  refine open_in (tkOf tokF) k0_t1.val ?_
  unfold k0_t1_body
  refine ent_bind (fr_part1 hf harg0 harg3 htk 0#32 1#32 k0_t1 hk) fun r1 e2 => ?_
  obtain ⟨v22, v23, v51, k0_hw3⟩ := r1
  refine ent_bind (fr_part2 hf harg0 harg3 htk k0_t1 v22 v23 v51 k0_hw3 hk e2) fun r2 _ => ?_
  obtain ⟨v84, c5⟩ := r2
  refine ent_bind (fr_part3 hf harg0 harg3 htk k0_t1 v22 v23 v84 c5 hk) fun r3 e7 => ?_
  obtain ⟨v111, k0_hw8⟩ := r3
  dsimp only at e2 e7
  refine ent_bind (i_row (tkOf tokF) k0_t1.val 7 (by decide) ((k0_off30_eq k0_t1).trans (vec1 (by omega))) ((k0_off31_eq k0_t1).trans (vec3 (by omega))) (by rw [← e7]; rfl) _ _ _ _ _ _ _ _) fun _ _ => ?_
  exact ent_ret (close_in _ _)
end

end Cert.Kernel.Hand
-- ==== Proof.KB.Flow.lean ====
/-
  The rings between the steps: what each ring holds before trip `k` of the main loop, and how a slot passes from one
  state to the next. The input ring holds the groups from `k` on in flight, and the rest of its slots free. Of the
  results, a first run of blocks has landed, up to four are being copied out, and the rest is still to be written.
-/
module

public import proofs.«01_k».proof.Proof.KB.Issue

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [BitOps F]

/-- The proof's user algebra: the pipeline library's beside the transfers' counters. -/
local notation "𝕄" => MT nD τ sig Unit (Elt F) ℕ (Pipeline.UD sig nD τ) ℕ

/-! ## Many regions into one -/

/-- Pairwise disjoint regions, each at contents with a property of that region alone, are one region at contents with
    all the properties. -/
theorem gather {ℓ : Loc nD τ sig} {q : PosShare TreeShare} (S : Finset ℕ) (K : ℕ → Finset (Idx ℓ)) (G : ℕ → Buf (Elt F) ℓ → Prop)
    (f₀ : Buf (Elt F) ℓ) (hK : ∀ i ∈ S, ∀ j ∈ S, i ≠ j → Disjoint (K i) (K j)) (hG : ∀ i f f', (∀ x ∈ K i, f' x = f x) → G i f → G i f') :
    bigSep S (fun i => iprop(∃ f, ⌜G i f⌝ ∗ ℓ ↦[K i]{q} f)) ⊢ (iprop(∃ f, ⌜∀ i ∈ S, G i f⌝ ∗ ℓ ↦[S.biUnion K]{q} f) : sProp 𝕄) := by
  haveI : Nonempty (Buf (Elt F) ℓ) := ⟨f₀⟩
  refine (bigSep_exists_pi S (fun i f => iprop(⌜G i f⌝ ∗ ℓ ↦[K i]{q} f))).trans ?_
  iintro ⟨%fs, H⟩
  ihave H2 := (bigSep_pure_sep S (fun i => G i (fs i)) (fun i => iprop(ℓ ↦[K i]{q} fs i))) $$ H
  icases H2 with ⟨%hP, H⟩
  ihave H3 := (pointsTo_biUnion_join S K fs f₀ hK) $$ H
  icases H3 with ⟨%g, %hg, H⟩
  iexists g
  isplitr
  · ipureintro
    intro i hi
    exact hG i (fs i) g (hg i hi) (hP i hi)
  · iexact H

theorem rows_disj (s : ℕ) (i j : ℕ) (h : i ≠ j) : Disjoint (bRow (8 * s + i)) (bRow (8 * s + j)) := by
  rw [Finset.disjoint_left]; intro x h1 h2; rw [mem_bRow] at h1 h2; omega
theorem rows_slot (s : ℕ) : (Finset.Ico 0 8).biUnion (fun i => bRow (8 * s + i)) = bSlot s := by
  ext x
  simp only [Finset.mem_biUnion, Finset.mem_Ico, mem_bRow, mem_bSlot]
  constructor
  · rintro ⟨i, hi, h⟩; omega
  · intro h; exact ⟨(x 0).val - 8 * s, by omega, by omega⟩

theorem bigSep_fin8 (A : ℕ → sProp 𝕄) : bigSep Finset.univ (fun i : Fin 8 => A i.val) = bigSep (Finset.Ico 0 8) A := by
  have e : Finset.Ico 0 8 = (Finset.univ : Finset (Fin 8)).map Fin.valEmbedding := by decide
  rw [e, bigSep_map]
  rfl

/-! ## A slot of the input ring -/

/-- The slot of group `g` holds the table's rows of the group's tokens. -/
def DBg (fT : S16000x5632.Idx → BitVec 32) (tk : ℕ → BitVec 32) (g : ℕ) (f : S512x1x5632.Idx → BitVec 32) : Prop :=
  ∀ i ∈ Finset.Ico 0 8, RowGood fT (8 * (g % 64) + i) (rowOf (tk (8 * g + i))) f
/-- What stays of a slot beside its elements while its group is computed. -/
def KeepIn (c : Dev nD) (fT : S16000x5632.Idx → BitVec 32) (g : ℕ) : sProp 𝕄 :=
  iprop(semVal ((c : Thread nD τ), SemLoc.dma (semIn (g % 64))) 0
    ∗ bigSep (Finset.Ico 0 8) (fun j => ptT (F := F) c (shR (8 * (g % 64) + j)) Finset.univ fT))

theorem land_in (c : Dev nD) (fT : S16000x5632.Idx → BitVec 32) (tk : ℕ → BitVec 32) (g : ℕ) :
    iprop(bigSep Finset.univ (DRow (F := F) c fT tk g) ∗ bigSep (Finset.Ico 0 8) (LeftRow (F := F) c fT tk g))
      ⊢ iprop((∃ f, ⌜DBg fT tk g f⌝ ∗ ptB (F := F) c (bSlot (g % 64)) f)
        ∗ bigSep (Finset.Ico 0 8) (fun j => ptT (F := F) c (shR (8 * (g % 64) + j)) Finset.univ fT)) := by
  have e1 : bigSep Finset.univ (DRow (F := F) c fT tk g) = bigSep (Finset.Ico 0 8) (fun i =>
      iprop((∃ f, ⌜RowGood fT (8 * (g % 64) + i) (rowOf (tk (8 * g + i))) f⌝ ∗ ptB (F := F) c (bRow (8 * (g % 64) + i)) f)
        ∗ ptT c (shR (8 * (g % 64) + i)) (tRow (rowOf (tk (8 * g + i)))) fT)) :=
    bigSep_fin8 (F := F) (fun i =>
      iprop((∃ f, ⌜RowGood fT (8 * (g % 64) + i) (rowOf (tk (8 * g + i))) f⌝ ∗ ptB (F := F) c (bRow (8 * (g % 64) + i)) f)
        ∗ ptT c (shR (8 * (g % 64) + i)) (tRow (rowOf (tk (8 * g + i)))) fT))
  rw [e1, bigSep_sep']
  iintro ⟨⟨HB, HT⟩, HL⟩
  isplitl [HB]
  · ihave H := (gather (F := F) (ℓ := (c : Thread nD τ).loc cc0_scratch0) (q := fullShare) (Finset.Ico 0 8) (fun i => bRow (8 * (g % 64) + i))
      (fun i f => RowGood fT (8 * (g % 64) + i) (rowOf (tk (8 * g + i))) f) (fun _ => (0 : BitVec 32))
      (fun i _ j _ h => rows_disj _ i j h)
      (fun i f f' hff hR j x h0 h1 h2 => by rw [hff j (mem_bRow.2 h0)]; exact hR j x h0 h1 h2)) $$ HB
    icases H with ⟨%f, %hf, H⟩
    iexists f
    isplitr
    · ipureintro; exact hf
    · rw [← rows_slot (g % 64)]; iexact H
  · ihave H := (Entails.of_eq (bigSep_sep' (M := 𝕄) (Finset.Ico 0 8)
      (fun i => ptT c (shR (8 * (g % 64) + i)) (tRow (rowOf (tk (8 * g + i)))) fT) (LeftRow (F := F) c fT tk g)).symm) $$ [HT HL]
    · isplitl [HT]; · iexact HT
      iexact HL
    have hm : bigSep (Finset.Ico 0 8) (fun i => iprop(ptT (F := F) c (shR (8 * (g % 64) + i)) (tRow (rowOf (tk (8 * g + i)))) fT ∗ LeftRow (F := F) c fT tk g i))
        ⊢ (bigSep (Finset.Ico 0 8) (fun i => ptT (F := F) c (shR (8 * (g % 64) + i)) Finset.univ fT) : sProp 𝕄) :=
      BI.bigSep_mono (fun i _ => (pointsTo_split_subset (Finset.subset_univ (tRow (rowOf (tk (8 * g + i)))))).2)
    iapply hm
    iexact H

/-- A computed group's slot is free again. -/
theorem free_in (c : Dev nD) (fT : S16000x5632.Idx → BitVec 32) (g : ℕ) :
    iprop((∃ f, ptB (F := F) c (bSlot (g % 64)) f) ∗ KeepIn (F := F) c fT g) ⊢ FreeIn (F := F) c fT (g + 64) := by
  unfold FreeIn KeepIn FreeRow
  rw [Nat.add_mod_right, bigSep_sep']
  iintro ⟨⟨%f, HB⟩, Hq, HT⟩
  isplitl [Hq]; · iexact Hq
  isplitl [HB]
  · ihave H := (Entails.of_eq (pointsTo_biUnion (Val := Elt F) (ℓ := (c : Thread nD τ).loc cc0_scratch0) (q := fullShare) (f := f) (Finset.Ico 0 8)
      (fun i => bRow (8 * (g % 64) + i)) (fun i _ j _ h => rows_disj _ i j h))) $$ [HB]
    · rw [rows_slot]; iexact HB
    have hm : bigSep (Finset.Ico 0 8) (fun i => ptB (F := F) c (bRow (8 * (g % 64) + i)) f)
        ⊢ (bigSep (Finset.Ico 0 8) (fun i => iprop(∃ f, ptB (F := F) c (bRow (8 * (g % 64) + i)) f)) : sProp 𝕄) :=
      BI.bigSep_mono (fun i _ => (show ptB (F := F) c (bRow (8 * (g % 64) + i)) f ⊢ (iprop(∃ f, ptB (F := F) c (bRow (8 * (g % 64) + i)) f) : sProp 𝕄) by iintro H; iexists f; iexact H))
    iapply hm
    iexact H
  · iexact HT

/-- The input ring before trip `k`, and after the trip's new group is issued. -/
def InR (c : Dev nD) (fT : S16000x5632.Idx → BitVec 32) (tk : ℕ → BitVec 32) (k n : ℕ) : sProp 𝕄 :=
  iprop(bigSep (Finset.Ico k n) (FlightIn (F := F) c fT tk) ∗ bigSep (Finset.Ico n (k + 64)) (FreeIn (F := F) c fT))

/-! ## The staging rings and the results -/

section
variable (c : Dev nD) (PE PO : ℕ → ℕ → ℕ → Elt F .bf16 → Prop)

/-- A staging slot with nothing in it. -/
def FreeOut (g : ℕ) : sProp 𝕄 :=
  iprop((∃ f, ptSE (F := F) c (sSlot (g % 4)) f) ∗ (∃ f, ptSO (F := F) c (sSlot (g % 4)) f)
    ∗ semVal ((c : Thread nD τ), SemLoc.dma (semE (g % 4))) 0 ∗ semVal ((c : Thread nD τ), SemLoc.dma (semO (g % 4))) 0)
/-- A block of each result still to be written; a block of each that has landed. -/
def Todo (g : ℕ) : sProp 𝕄 := iprop((∃ f, ptE (F := F) c (oBlk g) f) ∗ (∃ f, ptO (F := F) c (oBlk g) f))
def Landed (g : ℕ) : sProp 𝕄 :=
  iprop((∃ f, ⌜oGood PE g f⌝ ∗ ptE c (oBlk g) f) ∗ (∃ f, ⌜oGood PO g f⌝ ∗ ptO c (oBlk g) f))
/-- A group's two copies out, in flight. -/
def Fl (g : ℕ) : sProp 𝕄 := iprop(FlE c PE g ∗ FlO c PO g)
/-- Blocks below `j` landed, `j` to `i` in flight, the rest to do, and the staging slots of `f` to `j + 4` free. -/
def Obase (j i f : ℕ) : sProp 𝕄 :=
  iprop(bigSep (Finset.Ico 0 j) (Landed c PE PO) ∗ bigSep (Finset.Ico j i) (Fl c PE PO) ∗ bigSep (Finset.Ico i 2048) (Todo (F := F) c)
    ∗ bigSep (Finset.Ico f (j + 4)) (FreeOut (F := F) c))
/-- A computed group in its staging slots. -/
def Staged (g : ℕ) : sProp 𝕄 :=
  iprop((∃ f, ⌜sGood PE g f⌝ ∗ ptSE c (sSlot (g % 4)) f) ∗ (∃ f, ⌜sGood PO g f⌝ ∗ ptSO c (sSlot (g % 4)) f)
    ∗ semVal ((c : Thread nD τ), SemLoc.dma (semE (g % 4))) 0 ∗ semVal ((c : Thread nD τ), SemLoc.dma (semO (g % 4))) 0)
/-- The staging rings and the results before trip `k`. -/
def OS : ℕ → sProp 𝕄
  | 0 => Obase c PE PO 0 0 0
  | k + 1 => iprop(Staged c PE PO k ∗ Obase c PE PO (k - 3) k (k + 1))

def AE (g : ℕ) : sProp 𝕄 := iprop((∃ f, ⌜sGood PE g f⌝ ∗ ptSE c (sSlot (g % 4)) f) ∗ (∃ f, ptE (F := F) c (oBlk g) f) ∗ semVal ((c : Thread nD τ), SemLoc.dma (semE (g % 4))) 0)
def AO (g : ℕ) : sProp 𝕄 := iprop((∃ f, ⌜sGood PO g f⌝ ∗ ptSO c (sSlot (g % 4)) f) ∗ (∃ f, ptO (F := F) c (oBlk g) f) ∗ semVal ((c : Thread nD τ), SemLoc.dma (semO (g % 4))) 0)
def BE (g : ℕ) : sProp 𝕄 := iprop((∃ f, ⌜oGood PE g f⌝ ∗ ptE c (oBlk g) f) ∗ (∃ f, ptSE (F := F) c (sSlot (g % 4)) f) ∗ semVal ((c : Thread nD τ), SemLoc.dma (semE (g % 4))) 0)
def BO (g : ℕ) : sProp 𝕄 := iprop((∃ f, ⌜oGood PO g f⌝ ∗ ptO c (oBlk g) f) ∗ (∃ f, ptSO (F := F) c (sSlot (g % 4)) f) ∗ semVal ((c : Thread nD τ), SemLoc.dma (semO (g % 4))) 0)
def SRest (j i f : ℕ) : sProp 𝕄 :=
  iprop(bigSep (Finset.Ico 0 j) (Landed c PE PO) ∗ bigSep (Finset.Ico j i) (Fl c PE PO) ∗ bigSep (Finset.Ico (i + 1) 2048) (Todo (F := F) c)
    ∗ bigSep (Finset.Ico f (j + 4)) (FreeOut (F := F) c))
def WRest (j i f : ℕ) : sProp 𝕄 :=
  iprop(bigSep (Finset.Ico 0 j) (Landed c PE PO) ∗ bigSep (Finset.Ico (j + 1) i) (Fl c PE PO) ∗ bigSep (Finset.Ico i 2048) (Todo (F := F) c)
    ∗ bigSep (Finset.Ico f (j + 4)) (FreeOut (F := F) c))

theorem start_pre (j g f : ℕ) (hg : g < 2048) :
    iprop(Staged c PE PO g ∗ Obase c PE PO j g f) ⊢ iprop(AE c PE g ∗ AO c PO g ∗ SRest c PE PO j g f) := by
  unfold Staged Obase SRest AE AO
  rw [bigSep_Ico_succ_bot hg]
  iintro ⟨⟨H1, H2, H3, H4⟩, H5, H6, HT, H8⟩
  unfold Todo
  icases HT with ⟨⟨HT1, HT2⟩, HT3⟩
  isplitl [H1 HT1 H3]
  · isplitl [H1]; · iexact H1
    isplitl [HT1]; · iexact HT1
    iexact H3
  isplitl [H2 HT2 H4]
  · isplitl [H2]; · iexact H2
    isplitl [HT2]; · iexact HT2
    iexact H4
  isplitl [H5]; · iexact H5
  isplitl [H6]; · iexact H6
  isplitl [HT3]; · iexact HT3
  iexact H8

theorem start_post (j g f : ℕ) (hj : j ≤ g) :
    iprop(FlE c PE g ∗ FlO c PO g ∗ SRest c PE PO j g f) ⊢ Obase c PE PO j (g + 1) f := by
  unfold Obase SRest
  rw [bigSep_Ico_succ_top hj]
  iintro ⟨H1, H2, H3, H4, H5, H6⟩
  isplitl [H3]; · iexact H3
  isplitl [H1 H2 H4]
  · isplitl [H1 H2]
    · unfold Fl
      isplitl [H1]; · iexact H1
      iexact H2
    iexact H4
  isplitl [H5]; · iexact H5
  iexact H6

theorem wait_pre (j i f : ℕ) (hj : j < i) : Obase c PE PO j i f ⊢ iprop(FlE c PE j ∗ FlO c PO j ∗ WRest c PE PO j i f) := by
  unfold Obase WRest
  rw [bigSep_Ico_succ_bot hj]
  iintro ⟨H1, ⟨HF, H2⟩, H3, H4⟩
  unfold Fl
  icases HF with ⟨HF1, HF2⟩
  isplitl [HF1]; · iexact HF1
  isplitl [HF2]; · iexact HF2
  isplitl [H1]; · iexact H1
  isplitl [H2]; · iexact H2
  isplitl [H3]; · iexact H3
  iexact H4

theorem wait_post (j i f : ℕ) (hf : f ≤ j + 4) : iprop(BE c PE j ∗ BO c PO j ∗ WRest c PE PO j i f) ⊢ Obase c PE PO (j + 1) i f := by
  unfold Obase WRest BE BO
  rw [bigSep_Ico_succ_top (Nat.zero_le j), show j + 1 + 4 = j + 4 + 1 by omega, bigSep_Ico_succ_top hf]
  iintro ⟨⟨H1, H2, H3⟩, ⟨H4, H5, H6⟩, H7, H8, H9, H10⟩
  isplitl [H1 H4 H7]
  · isplitl [H1 H4]
    · unfold Landed
      isplitl [H1]; · iexact H1
      iexact H4
    iexact H7
  isplitl [H8]; · iexact H8
  isplitl [H9]; · iexact H9
  isplitl [H2 H3 H5 H6]
  · unfold FreeOut
    rw [Nat.add_mod_right]
    isplitl [H2]; · iexact H2
    isplitl [H5]; · iexact H5
    isplitl [H3]; · iexact H3
    iexact H6
  iexact H10

end

/-! ## The steps on the staging rings, beside whatever else is held -/

theorem st_E (c : Dev nD) (P : ℕ → ℕ → ℕ → Elt F .bf16 → Prop) (g : ℕ) {R : sProp 𝕄}
    {o1 : Fin 1 → ℕ} {o2 : Fin 4 → ℕ} {o3 : Fin 2 → ℕ}
    (h1 : o1 = ![g % 4]) (h2 : o2 = ![g, 0, 0, 0]) (h3 : o3 = ![352 * (g % 4), 0])
    (inb1) (inb2) (inb3) (p2) (p3) (q1) (q2) (q3) (hw1) (hw2) (hw3) :
    iprop(AE c P g ∗ R)
      ⊢ wpK c (Prog.lift (.enqueueDma ((seM.slice (Rect.unit (s := S1408x128) o3 S352x128.size inb3) p3).reshape S44x8x128 q1 q2 q3)
            (.here ((eM.slice (Rect.unit (s := S2048x44x8x128) o2 S1x44x8x128.size inb2) p2).squeeze S44x8x128 squeezes_S1x44x8x128_S44x8x128))
            (.dma ((cc0_scratch5.slice (Rect.unit (s := S4) o1 S1.size inb1)).squeeze S_ squeezes_S1_S_).sem) hw1 hw2 hw3))
        (fun _ => iprop(⌜True⌝ ∗ FlE c P g ∗ R)) := by
  unfold AE
  iintro ⟨HA, HR⟩
  iapply (wp_outE c P g h1 h2 h3 inb1 inb2 inb3 p2 p3 q1 q2 q3 hw1 hw2 hw3 _) $$ [HA]
  · iexact HA
  iintro HF
  isplitr
  · ipureintro; trivial
  isplitl [HF]; · iexact HF
  iexact HR

theorem wt_E (c : Dev nD) (P : ℕ → ℕ → ℕ → Elt F .bf16 → Prop) (g : ℕ) {R : sProp 𝕄} {o1 : Fin 1 → ℕ} (h1 : o1 = ![g % 4])
    (inb1) (src : Memref sig .tc .vmem S44x8x128 .bf16) {o2 : Fin 4 → ℕ} (inb2) (p2) (hw1) (hw2) :
    iprop(FlE c P g ∗ (∃ W, owes (c : Thread nD τ) 0 W) ∗ R)
      ⊢ wpK c (Prog.lift (.waitDma2 ((cc0_scratch5.slice (Rect.unit (s := S4) o1 S1.size inb1)).squeeze S_ squeezes_S1_S_).sem src
            ((eM.slice (Rect.unit (s := S2048x44x8x128) o2 S1x44x8x128.size inb2) p2).squeeze S44x8x128 squeezes_S1x44x8x128_S44x8x128) hw1 hw2))
        (fun _ => iprop(⌜True⌝ ∗ BE c P g ∗ (∃ W, owes (c : Thread nD τ) 0 W) ∗ R)) := by
  unfold BE
  iintro ⟨HA, HW, HR⟩
  iapply (wp_outwaitE c P g h1 inb1 src inb2 p2 hw1 hw2 _) $$ [HA HW]
  · isplitl [HA]; · iexact HA
    iexact HW
  iintro ⟨H1, H2, H3, HW⟩
  isplitr
  · ipureintro; trivial
  isplitl [H1 H2 H3]
  · isplitl [H1]; · iexact H1
    isplitl [H2]; · iexact H2
    iexact H3
  isplitl [HW]; · iexact HW
  iexact HR

theorem st_O (c : Dev nD) (P : ℕ → ℕ → ℕ → Elt F .bf16 → Prop) (g : ℕ) {R : sProp 𝕄}
    {o1 : Fin 1 → ℕ} {o2 : Fin 4 → ℕ} {o3 : Fin 2 → ℕ}
    (h1 : o1 = ![g % 4]) (h2 : o2 = ![g, 0, 0, 0]) (h3 : o3 = ![352 * (g % 4), 0])
    (inb1) (inb2) (inb3) (p2) (p3) (q1) (q2) (q3) (hw1) (hw2) (hw3) :
    iprop(AO c P g ∗ R)
      ⊢ wpK c (Prog.lift (.enqueueDma ((soM.slice (Rect.unit (s := S1408x128) o3 S352x128.size inb3) p3).reshape S44x8x128 q1 q2 q3)
            (.here ((oM.slice (Rect.unit (s := S2048x44x8x128) o2 S1x44x8x128.size inb2) p2).squeeze S44x8x128 squeezes_S1x44x8x128_S44x8x128))
            (.dma ((cc0_scratch6.slice (Rect.unit (s := S4) o1 S1.size inb1)).squeeze S_ squeezes_S1_S_).sem) hw1 hw2 hw3))
        (fun _ => iprop(⌜True⌝ ∗ FlO c P g ∗ R)) := by
  unfold AO
  iintro ⟨HA, HR⟩
  iapply (wp_outO c P g h1 h2 h3 inb1 inb2 inb3 p2 p3 q1 q2 q3 hw1 hw2 hw3 _) $$ [HA]
  · iexact HA
  iintro HF
  isplitr
  · ipureintro; trivial
  isplitl [HF]; · iexact HF
  iexact HR

theorem wt_O (c : Dev nD) (P : ℕ → ℕ → ℕ → Elt F .bf16 → Prop) (g : ℕ) {R : sProp 𝕄} {o1 : Fin 1 → ℕ} (h1 : o1 = ![g % 4])
    (inb1) (src : Memref sig .tc .vmem S44x8x128 .bf16) {o2 : Fin 4 → ℕ} (inb2) (p2) (hw1) (hw2) :
    iprop(FlO c P g ∗ (∃ W, owes (c : Thread nD τ) 0 W) ∗ R)
      ⊢ wpK c (Prog.lift (.waitDma2 ((cc0_scratch6.slice (Rect.unit (s := S4) o1 S1.size inb1)).squeeze S_ squeezes_S1_S_).sem src
            ((oM.slice (Rect.unit (s := S2048x44x8x128) o2 S1x44x8x128.size inb2) p2).squeeze S44x8x128 squeezes_S1x44x8x128_S44x8x128) hw1 hw2))
        (fun _ => iprop(⌜True⌝ ∗ BO c P g ∗ (∃ W, owes (c : Thread nD τ) 0 W) ∗ R)) := by
  unfold BO
  iintro ⟨HA, HW, HR⟩
  iapply (wp_outwaitO c P g h1 inb1 src inb2 p2 hw1 hw2 _) $$ [HA HW]
  · isplitl [HA]; · iexact HA
    iexact HW
  iintro ⟨H1, H2, H3, HW⟩
  isplitr
  · ipureintro; trivial
  isplitl [H1 H2 H3]
  · isplitl [H1]; · iexact H1
    isplitl [H2]; · iexact H2
    iexact H3
  isplitl [HW]; · iexact HW
  iexact HR

/-- The step that waits for a group's rows, beside whatever else is held. -/
theorem wt_in (c : Dev nD) (fT : S16000x5632.Idx → BitVec 32) (tk : ℕ → BitVec 32) (g : ℕ) {R : sProp 𝕄} {o1 : Fin 1 → ℕ} (h1 : o1 = ![g % 64])
    (inb1) (src : Memref sig .tc .vmem S8x1x5632 .i32) {o2 : Fin 3 → ℕ} (inb2) (p2) (hw1) (hw2) :
    iprop(FlightIn (F := F) c fT tk g ∗ (∃ W, owes (c : Thread nD τ) 0 W) ∗ R)
      ⊢ wpK c (Prog.lift (.waitDma2 ((cc0_scratch4.slice (Rect.unit (s := S64) o1 S1.size inb1)).squeeze S_ squeezes_S1_S_).sem src
            (bufM.slice (Rect.unit (s := S512x1x5632) o2 S8x1x5632.size inb2) p2) hw1 hw2))
        (fun _ => iprop(⌜True⌝ ∗ (∃ f, ⌜DBg fT tk g f⌝ ∗ ptB (F := F) c (bSlot (g % 64)) f) ∗ KeepIn (F := F) c fT g ∗ (∃ W, owes (c : Thread nD τ) 0 W) ∗ R)) := by
  unfold FlightIn KeepIn
  iintro ⟨⟨HB, HL⟩, HW, HR⟩
  iapply (wp_rowwait c fT tk g h1 inb1 src inb2 p2 hw1 hw2 _) $$ [HB HW]
  · isplitl [HB]; · iexact HB
    iexact HW
  iintro ⟨HD, Hq, HW⟩
  ihave H := (land_in (F := F) c fT tk g) $$ [HD HL]
  · isplitl [HD]; · iexact HD
    iexact HL
  icases H with ⟨HB, HT⟩
  isplitr
  · ipureintro; trivial
  isplitl [HB]; · iexact HB
  isplitl [Hq HT]
  · isplitl [Hq]; · iexact Hq
    iexact HT
  isplitl [HW]; · iexact HW
  iexact HR

end Cert.Kernel.Hand
-- ==== Proof.KB.Trip.lean ====
/-
  A trip of the main loop: the last group's copies out start, the group 63 ahead is issued, the copies out of four
  groups ago are waited for, this group's rows are waited for, and the group is computed into its staging slots.
-/
module

public import proofs.«01_k».proof.Proof.KB.Flow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [BitOps F]

/-- The proof's user algebra: the pipeline library's beside the transfers' counters. -/
local notation "𝕄" => MT nD τ sig Unit (Elt F) ℕ (Pipeline.UD sig nD τ) ℕ

theorem ent_frame2 {c : Dev nD} {α : Type} {A B G : sProp 𝕄} {P : α → Prop} {p : Prog (TpuEff nD τ sig (Elt F) Λ₀ .tc) α}
    (h : A ⊢ wpK c p (fun a => iprop(⌜P a⌝ ∗ B))) : iprop(A ∗ G) ⊢ wpK c p (fun a => iprop(⌜P a⌝ ∗ B ∗ G)) := by
  unfold wpK at *
  refine (sep_mono_left h).trans ((wp_frame_r _ _ _).trans (wp_mono _ _ _ fun a => ?_))
  iintro ⟨⟨H1, H2⟩, H3⟩
  isplitl [H1]; · iexact H1
  isplitl [H2]; · iexact H2
  iexact H3

/-- A free slot opens, beside whatever else is held. -/
theorem open_in2 {c : Dev nD} {arg0 : Memref sig .tc .smem S16384 .i32} {fA : Buf (Elt F) (arg0.view.loc (c : Thread nD τ))}
    {fT : S16000x5632.Idx → BitVec 32} {α : Type} {p : Prog (TpuEff nD τ sig (Elt F) Λ₀ .tc) α} {Q : α → sProp 𝕄} {G : sProp 𝕄} (tk : ℕ → BitVec 32) (g : ℕ)
    (h : iprop(IRes c arg0 fA fT tk g 0 ∗ G) ⊢ wpK c p Q) :
    iprop(((arg0.view.loc (c : Thread nD τ) ↦[arg0.view.set]{fullShare} fA) ∗ FreeIn (F := F) c fT g) ∗ G) ⊢ wpK c p Q := by
  unfold FreeIn
  iintro ⟨⟨HA, Hq, HR⟩, HG⟩
  imod (Transfers.batch_alloc' (Lvl := ℕ) (EC (F := F)) (c : Thread nD τ) () NR (DRow (F := F) c fT tk g) (sm := SemLoc.dma (semIn (g % 64))) (E := Set.univ)) $$ Hq with HBt
  iapply h
  unfold IRes
  isplitr [HG]
  · isplitl [HA]; · iexact HA
    isplitl [HBt]; · iexact HBt
    isplitr
    · rw [Finset.Ico_self, bigSep_empty]; iempintro
    · iexact HR
  · iexact HG

/-- Every token word names a row of the table. -/
theorem htokX {c : Dev nD} {arg0 : Memref sig .tc .smem S16384 .i32} {fA : Buf (Elt F) (arg0.view.loc (c : Thread nD τ))} {tokF : S16384.Idx → BitVec 32}
    (hf : arg0.view.read (Elt F) fA = tokF) (htk : ∀ n, n < 16384 → (tkOf tokF n).toNat < 64000) (x : S16384.Idx) :
    (arg0.view.read (Elt F) fA x).toNat < 64000 := by
  have h0 : (x 0).val < 16384 := (x 0).isLt
  have h := htk (x 0).val h0
  rw [tkOf, dif_pos h0] at h
  rw [hf]
  have e : ix1 (⟨(x 0).val, h0⟩ : Fin 16384) = x := by
    funext a; fin_cases a; rfl
  rw [e] at h
  exact h

section
variable {c : Dev nD} {arg0 : Memref sig .tc .smem S16384 .i32} {fA : Buf (Elt F) (arg0.view.loc (c : Thread nD τ))}
  {fT : S16000x5632.Idx → BitVec 32} {tokF : S16384.Idx → BitVec 32} (hf : arg0.view.read (Elt F) fA = tokF)
  {arg3 : Memref sig .tc .vmem S44x128 .f32} {fW : Buf (Elt F) (arg3.view.loc (c : Thread nD τ))} {fS : S64000.Idx → Elt F .f32}
  (harg0 : arg0.IsWhole) (harg3 : arg3.IsWhole)
  (htk : ∀ n, n < 16384 → (tkOf tokF n).toNat < 64000) (PE PO : ℕ → ℕ → ℕ → Elt F .bf16 → Prop)

/-- What every trip reads: the tokens, the weights, the scales. -/
def T3 (c : Dev nD) (arg0 : Memref sig .tc .smem S16384 .i32) (fA : Buf (Elt F) (arg0.view.loc (c : Thread nD τ)))
    (arg3 : Memref sig .tc .vmem S44x128 .f32) (fW : Buf (Elt F) (arg3.view.loc (c : Thread nD τ))) (fS : S64000.Idx → Elt F .f32) : sProp 𝕄 :=
  iprop((arg0.view.loc (c : Thread nD τ) ↦[arg0.view.set]{fullShare} fA)
    ∗ (arg3.view.loc (c : Thread nD τ) ↦[arg3.view.set]{fullShare} fW)
    ∗ ((c : Thread nD τ).loc cc0_scratch3 ↦[Finset.univ]{fullShare} fS))

/-- What group `k`'s computation works on. -/
def Cg (c : Dev nD) (arg0 : Memref sig .tc .smem S16384 .i32) (fA : Buf (Elt F) (arg0.view.loc (c : Thread nD τ)))
    (arg3 : Memref sig .tc .vmem S44x128 .f32) (fW : Buf (Elt F) (arg3.view.loc (c : Thread nD τ))) (fS : S64000.Idx → Elt F .f32)
    (fT : S16000x5632.Idx → BitVec 32) (tk : ℕ → BitVec 32) (k : ℕ) : Cx F where
  c := c
  arg0 := arg0
  fA := fA
  arg3 := arg3
  fW := fW
  DB := DBg fT tk k
  fS := fS
  s := k % 64
  s4 := k % 4

/-- Before trip `k`, the tokens being the words `tk`. -/
def Trip (c : Dev nD) (arg0 : Memref sig .tc .smem S16384 .i32) (fA : Buf (Elt F) (arg0.view.loc (c : Thread nD τ)))
    (arg3 : Memref sig .tc .vmem S44x128 .f32) (fW : Buf (Elt F) (arg3.view.loc (c : Thread nD τ))) (fS : S64000.Idx → Elt F .f32)
    (fT : S16000x5632.Idx → BitVec 32) (tk : ℕ → BitVec 32) (PE PO : ℕ → ℕ → ℕ → Elt F .bf16 → Prop) (k : ℕ) : sProp 𝕄 :=
  iprop(T3 c arg0 fA arg3 fW fS ∗ (∃ W, owes (c : Thread nD τ) 0 W) ∗ InR (F := F) c fT tk k (min (k + 63) 2048) ∗ OS c PE PO k)

/-- What stays beside group `k`'s computation. -/
def Beside (c : Dev nD) (fT : S16000x5632.Idx → BitVec 32) (tk : ℕ → BitVec 32) (PE PO : ℕ → ℕ → ℕ → Elt F .bf16 → Prop) (k : ℕ) : sProp 𝕄 :=
  iprop((∃ W, owes (c : Thread nD τ) 0 W) ∗ KeepIn (F := F) c fT k
    ∗ (bigSep (Finset.Ico (k + 1) (min (k + 64) 2048)) (FlightIn (F := F) c fT tk) ∗ bigSep (Finset.Ico (min (k + 64) 2048) (k + 64)) (FreeIn (F := F) c fT))
    ∗ Obase c PE PO (k - 3) k (k + 1)
    ∗ semVal ((c : Thread nD τ), SemLoc.dma (semE (k % 4))) 0 ∗ semVal ((c : Thread nD τ), SemLoc.dma (semO (k % 4))) 0)

include hf htk in
/-- The moves of the rings before a group's computation. -/
theorem fr_part7 (k0_t2 : Fin k0_t2_loop.trips) :
    Trip c arg0 fA arg3 fW fS fT (tkOf tokF) PE PO k0_t2.val
      ⊢ wpK c (k0_part7 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 0#32 1#32 k0_t2)
        (fun _ => iprop(CRes (Cg c arg0 fA arg3 fW fS fT (tkOf tokF) k0_t2.val) Any Any ∗ Beside c fT (tkOf tokF) PE PO k0_t2.val)) := by
  have hk : k0_t2.val < 2048 := lt_of_lt_of_eq k0_t2.isLt trips2
  rw [k0_part7_eq_skeleton]
  unfold k0_part7_skel
  extract_lets arg14 v21 v22 v35 v36 v37 v38 v39 v41 jp3 jp2 jp1
  have hjp1 : ∀ r, iprop(T3 c arg0 fA arg3 fW fS ∗ (∃ W, owes (c : Thread nD τ) 0 W) ∗ InR (F := F) c fT (tkOf tokF) k0_t2.val (min (k0_t2.val + 63) 2048)
      ∗ Obase c PE PO (k0_t2.val - 4) k0_t2.val k0_t2.val) ⊢ wpK c (jp1 r)
        (fun _ => iprop(CRes (Cg c arg0 fA arg3 fW fS fT (tkOf tokF) k0_t2.val) Any Any ∗ Beside c fT (tkOf tokF) PE PO k0_t2.val)) := by
    intro r
    simp only [jp1]
    clear jp1
    have hjp2 : ∀ r, iprop(T3 c arg0 fA arg3 fW fS ∗ (∃ W, owes (c : Thread nD τ) 0 W) ∗ InR (F := F) c fT (tkOf tokF) k0_t2.val (min (k0_t2.val + 64) 2048)
        ∗ Obase c PE PO (k0_t2.val - 4) k0_t2.val k0_t2.val) ⊢ wpK c (jp2 r)
          (fun _ => iprop(CRes (Cg c arg0 fA arg3 fW fS fT (tkOf tokF) k0_t2.val) Any Any ∗ Beside c fT (tkOf tokF) PE PO k0_t2.val)) := by
      intro r
      simp only [jp2]
      clear jp2
      have hjp3 : ∀ r, iprop(T3 c arg0 fA arg3 fW fS ∗ (∃ W, owes (c : Thread nD τ) 0 W) ∗ InR (F := F) c fT (tkOf tokF) k0_t2.val (min (k0_t2.val + 64) 2048)
          ∗ Obase c PE PO (k0_t2.val - 3) k0_t2.val k0_t2.val) ⊢ wpK c (jp3 r)
            (fun _ => iprop(CRes (Cg c arg0 fA arg3 fW fS fT (tkOf tokF) k0_t2.val) Any Any ∗ Beside c fT (tkOf tokF) PE PO k0_t2.val)) := by
        intro r
        simp only [jp3]
        clear jp3
        refine BIBase.Entails.trans ?_ (ent_bind (wt_in c fT (tkOf tokF) k0_t2.val (k0_off71_eq k0_t2) _ _ _ _ _ _
          (R := iprop(T3 c arg0 fA arg3 fW fS
            ∗ (bigSep (Finset.Ico (k0_t2.val + 1) (min (k0_t2.val + 64) 2048)) (FlightIn (F := F) c fT (tkOf tokF)) ∗ bigSep (Finset.Ico (min (k0_t2.val + 64) 2048) (k0_t2.val + 64)) (FreeIn (F := F) c fT))
            ∗ Obase c PE PO (k0_t2.val - 3) k0_t2.val k0_t2.val))) fun _ _ => ?_)
        · unfold InR
          rw [bigSep_Ico_succ_bot (show k0_t2.val < min (k0_t2.val + 64) 2048 by omega)]
          iintro ⟨H3, HW, ⟨⟨HF, HIn⟩, HFr⟩, HO⟩
          isplitl [HF]; · iexact HF
          isplitl [HW]; · iexact HW
          isplitl [H3]; · iexact H3
          isplitl [HIn HFr]
          · isplitl [HIn]; · iexact HIn
            iexact HFr
          iexact HO
        refine BIBase.Entails.trans (Q := iprop(CRes (Cg c arg0 fA arg3 fW fS fT (tkOf tokF) k0_t2.val) Any Any ∗ Beside c fT (tkOf tokF) PE PO k0_t2.val)) ?_ ?_
        · unfold T3 CRes Beside Obase
          rw [bigSep_Ico_succ_bot (show k0_t2.val < k0_t2.val - 3 + 4 by omega)]
          unfold FreeOut
          iintro ⟨HB, HK, HW, ⟨HA, HWt, HS⟩, HIn, HO1, HO2, HO3, ⟨⟨%fe, He⟩, ⟨%fo, Ho⟩, Hqe, Hqo⟩, HO4⟩
          isplitl [HB HA HWt HS He Ho]
          · isplitl [HA]; · iexact HA
            isplitl [HWt]; · iexact HWt
            isplitl [HS]; · iexact HS
            isplitl [HB]; · iexact HB
            isplitl [He]
            · iexists fe
              isplitr
              · ipureintro; trivial
              · iexact He
            · iexists fo
              isplitr
              · ipureintro; trivial
              · iexact Ho
          isplitl [HW]; · iexact HW
          isplitl [HK]; · iexact HK
          isplitl [HIn]; · iexact HIn
          isplitl [HO1 HO2 HO3 HO4]
          · isplitl [HO1]; · iexact HO1
            isplitl [HO2]; · iexact HO2
            isplitl [HO3]; · iexact HO3
            iexact HO4
          isplitl [Hqe]; · iexact Hqe
          iexact Hqo
        refine Tr.frame (P := fun _ => True) (DE' := Any) (DO' := Any) ?_ fun rb _ => .rfl
        refine Tr.bind (Tr.tok (X := Cg c arg0 fA arg3 fW fS fT (tkOf tokF) k0_t2.val) _ _ _) fun v46 ev46 => ?_
        have tv46 : v46.toNat < 64000 := by
          rw [ev46]
          exact (htokX hf htk _)
        refine Tr.bind (Tr.asm (chk17 _ tv46)) fun _ _ => ?_
        exact .ret _ trivial
      clear_value jp3
      by_cases h3 : k0_cond3 k0_t2 = 1#1
      · have h4 := (cond3 k0_t2).1 h3
        rw [dif_pos h3]
        refine BIBase.Entails.trans ?_ (ent_bind (wt_E c PE (k0_t2.val - 4) (off68 k0_t2 h4) _ _ _ _ _ _
          (R := iprop(FlO c PO (k0_t2.val - 4) ∗ WRest c PE PO (k0_t2.val - 4) k0_t2.val k0_t2.val ∗ T3 c arg0 fA arg3 fW fS ∗ InR (F := F) c fT (tkOf tokF) k0_t2.val (min (k0_t2.val + 64) 2048)))) fun _ _ => ?_)
        · iintro ⟨H3, HW, HIn, HO⟩
          ihave H := (wait_pre (F := F) c PE PO (k0_t2.val - 4) k0_t2.val k0_t2.val (by omega)) $$ HO
          icases H with ⟨H1, H2, HO⟩
          isplitl [H1]; · iexact H1
          isplitl [HW]; · iexact HW
          isplitl [H2]; · iexact H2
          isplitl [HO]; · iexact HO
          isplitl [H3]; · iexact H3
          iexact HIn
        refine BIBase.Entails.trans ?_ (ent_bind (wt_O c PO (k0_t2.val - 4) (off68 k0_t2 h4) _ _ _ _ _ _
          (R := iprop(BE c PE (k0_t2.val - 4) ∗ WRest c PE PO (k0_t2.val - 4) k0_t2.val k0_t2.val ∗ T3 c arg0 fA arg3 fW fS ∗ InR (F := F) c fT (tkOf tokF) k0_t2.val (min (k0_t2.val + 64) 2048)))) fun _ _ => ?_)
        · iintro ⟨HB, HW, HF, HR⟩
          isplitl [HF]; · iexact HF
          isplitl [HW]; · iexact HW
          isplitl [HB]; · iexact HB
          iexact HR
        refine BIBase.Entails.trans ?_ (hjp3 _)
        iintro ⟨HBO, HW, HBE, HR, H3, HIn⟩
        isplitl [H3]; · iexact H3
        isplitl [HW]; · iexact HW
        isplitl [HIn]; · iexact HIn
        rw [show k0_t2.val - 3 = k0_t2.val - 4 + 1 by omega]
        iapply (wait_post (F := F) c PE PO (k0_t2.val - 4) k0_t2.val k0_t2.val (by omega))
        isplitl [HBE]; · iexact HBE
        isplitl [HBO]; · iexact HBO
        iexact HR
      · have h4 : ¬ 4 ≤ k0_t2.val := fun h => h3 ((cond3 k0_t2).2 h)
        rw [dif_neg h3]
        have h := hjp3 PUnit.unit
        rw [show k0_t2.val - 3 = k0_t2.val - 4 by omega] at h
        exact h
    clear_value jp2
    by_cases h2 : k0_cond2 k0_t2 = 1#1
    · have h4 := (cond2 k0_t2).1 h2
      rw [dif_pos h2]
      refine BIBase.Entails.trans ?_ (open_in2 (arg0 := arg0) (fA := fA) (fT := fT) (tkOf tokF) (k0_t2.val + 63) (G := iprop((arg3.view.loc (c : Thread nD τ) ↦[arg3.view.set]{fullShare} fW)
            ∗ ((c : Thread nD τ).loc cc0_scratch3 ↦[Finset.univ]{fullShare} fS) ∗ (∃ W, owes (c : Thread nD τ) 0 W)
            ∗ bigSep (Finset.Ico k0_t2.val (k0_t2.val + 63)) (FlightIn (F := F) c fT (tkOf tokF)) ∗ Obase c PE PO (k0_t2.val - 4) k0_t2.val k0_t2.val)) ?_)
      · unfold T3 InR
        rw [show min (k0_t2.val + 63) 2048 = k0_t2.val + 63 by omega, show k0_t2.val + 64 = k0_t2.val + 63 + 1 by omega, bigSep_Ico_one]
        iintro ⟨⟨HA, HWt, HS⟩, HW, ⟨HF, HFr⟩, HO⟩
        isplitl [HA HFr]
        · isplitl [HA]; · iexact HA
          iexact HFr
        isplitl [HWt]; · iexact HWt
        isplitl [HS]; · iexact HS
        isplitl [HW]; · iexact HW
        isplitl [HF]; · iexact HF
        iexact HO
      refine ent_bind (ent_frame2 (fr_part4 hf harg0 harg3 htk k0_t2 v22 h2 h4)) fun r4 e2 => ?_
      obtain ⟨v1568, v1569, v1597, k0_hw11, c8⟩ := r4
      refine ent_bind (ent_frame2 (fr_part5 hf harg0 harg3 htk k0_t2 h2 v1568 v1569 v1597 k0_hw11 c8 h4 e2)) fun v1631 _ => ?_
      refine ent_bind (ent_frame2 (fr_part6 hf harg0 harg3 htk k0_t2 h2 v1568 v1569 v1631 h4)) fun r6 e7 => ?_
      obtain ⟨v1657, k0_hw16⟩ := r6
      dsimp only at e7
      refine ent_bind (ent_frame2 (i_row (tkOf tokF) (k0_t2.val + 63) 7 (by decide) ((k0_off65_eq k0_t2).trans (vec1 (by omega))) ((k0_off66_eq k0_t2).trans (vec3 (by omega))) (by rw [← e7]; rfl) _ _ _ _ _ _ _ _)) fun _ _ => ?_
      refine BIBase.Entails.trans ?_ (hjp2 _)
      rw [show min (k0_t2.val + 64) 2048 = k0_t2.val + 63 + 1 by omega]
      iintro ⟨HI, HWt, HS, HW, HF, HO⟩
      ihave H := (close_in (F := F) (tkOf tokF) (k0_t2.val + 63)) $$ HI
      icases H with ⟨HA, HFl⟩
      unfold T3 InR
      rw [bigSep_Ico_succ_top (show k0_t2.val ≤ k0_t2.val + 63 by omega), show k0_t2.val + 64 = k0_t2.val + 63 + 1 by omega, Finset.Ico_self, bigSep_empty]
      isplitl [HA HWt HS]
      · isplitl [HA]; · iexact HA
        isplitl [HWt]; · iexact HWt
        iexact HS
      isplitl [HW]; · iexact HW
      isplitl [HF HFl]
      · isplitl [HF HFl]
        · isplitl [HFl]; · iexact HFl
          iexact HF
        · iempintro
      iexact HO
    · have h4 : ¬ k0_t2.val + 63 < 2048 := fun h => h2 ((cond2 k0_t2).2 h)
      rw [dif_neg h2]
      have h := hjp2 PUnit.unit
      rw [show min (k0_t2.val + 64) 2048 = min (k0_t2.val + 63) 2048 by omega] at h
      exact h
  clear_value jp1
  by_cases h1 : k0_cond1 k0_t2 = 1#1
  · have h4 := (cond1 k0_t2).1 h1
    obtain ⟨g, hg⟩ : ∃ g, k0_t2.val = g + 1 := ⟨k0_t2.val - 1, by omega⟩
    have hg1 : k0_t2.val - 1 = g := by omega
    have o33 := off33 k0_t2 h4
    have o34 := off34 k0_t2 h4
    have o35 := off35 k0_t2 h4
    rw [hg1] at o33 o34 o35
    rw [dif_pos h1]
    refine BIBase.Entails.trans ?_ (ent_bind (st_E c PE g o33 o34 o35 _ _ _ _ _ _ _ _ _ _ _
      (R := iprop(AO c PO g ∗ SRest c PE PO (g - 3) g (g + 1) ∗ T3 c arg0 fA arg3 fW fS ∗ (∃ W, owes (c : Thread nD τ) 0 W) ∗ InR (F := F) c fT (tkOf tokF) k0_t2.val (min (k0_t2.val + 63) 2048)))) fun _ _ => ?_)
    · unfold Trip
      rw [hg]
      iintro ⟨H3, HW, HIn, HO⟩
      ihave H := (start_pre (F := F) c PE PO (g - 3) g (g + 1) (by omega)) $$ [HO]
      · unfold OS; iexact HO
      icases H with ⟨H1, H2, HO⟩
      isplitl [H1]; · iexact H1
      isplitl [H2]; · iexact H2
      isplitl [HO]; · iexact HO
      isplitl [H3]; · iexact H3
      isplitl [HW]; · iexact HW
      iexact HIn
    refine BIBase.Entails.trans ?_ (ent_bind (st_O c PO g o33 o34 o35 _ _ _ _ _ _ _ _ _ _ _
      (R := iprop(FlE c PE g ∗ SRest c PE PO (g - 3) g (g + 1) ∗ T3 c arg0 fA arg3 fW fS ∗ (∃ W, owes (c : Thread nD τ) 0 W) ∗ InR (F := F) c fT (tkOf tokF) k0_t2.val (min (k0_t2.val + 63) 2048)))) fun _ _ => ?_)
    · iintro ⟨HF, HA, HR⟩
      isplitl [HA]; · iexact HA
      isplitl [HF]; · iexact HF
      iexact HR
    refine BIBase.Entails.trans ?_ (hjp1 _)
    iintro ⟨HFO, HFE, HR, H3, HW, HIn⟩
    isplitl [H3]; · iexact H3
    isplitl [HW]; · iexact HW
    isplitl [HIn]; · iexact HIn
    rw [hg, show g + 1 - 4 = g - 3 by omega]
    iapply (start_post (F := F) c PE PO (g - 3) g (g + 1) (by omega))
    isplitl [HFE]; · iexact HFE
    isplitl [HFO]; · iexact HFO
    iexact HR
  · have h4 : k0_t2.val = 0 := by
      by_contra h
      exact h1 ((cond1 k0_t2).2 (by omega))
    rw [dif_neg h1]
    refine BIBase.Entails.trans ?_ (hjp1 PUnit.unit)
    unfold Trip
    rw [h4]
    unfold OS
    exact .rfl
end

end Cert.Kernel.Hand
-- ==== Proof.KB.Ends.lean ====
/-
  The two ends of the body's run: whole buffers, semaphores at zero and the table's one share become the rings' slots,
  all free, and the results' blocks, all to do; and back.
-/
module

public import proofs.«01_k».proof.Proof.KB.Trip

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [BitOps F]

/-- The proof's user algebra: the pipeline library's beside the transfers' counters. -/
local notation "𝕄" => MT nD τ sig Unit (Elt F) ℕ (Pipeline.UD sig nD τ) ℕ

/-! ## Long separating conjunctions -/

theorem sep_consec {a b n : ℕ} (hab : a ≤ b) (hbn : b ≤ n) (A : ℕ → sProp 𝕄) :
    bigSep (Finset.Ico a n) A = iprop(bigSep (Finset.Ico a b) A ∗ bigSep (Finset.Ico b n) A) := by
  rw [← Finset.Ico_union_Ico_eq_Ico hab hbn, bigSep_union (Finset.Ico_disjoint_Ico_consecutive a b n)]
  rfl
theorem sep_shift (n m : ℕ) (A : ℕ → sProp 𝕄) :
    bigSep (Finset.Ico n (n + m)) A = bigSep (Finset.Ico 0 m) (fun j => A (n + j)) := by
  have e : Finset.Ico n (n + m) = (Finset.Ico 0 m).map (addLeftEmbedding n) := by
    rw [Finset.map_add_left_Ico, Nat.add_zero]
  rw [e, bigSep_map]
  rfl
theorem sep_swap (X Y : sProp 𝕄) : iprop(X ∗ Y) = iprop(Y ∗ X) := by
  have h : ∀ A B : sProp 𝕄, iprop(A ∗ B) ⊢ iprop(B ∗ A) := by
    intro A B
    iintro ⟨H1, H2⟩
    isplitl [H2]; · iexact H2
    iexact H1
  exact BI.Entails.antisymm (h X Y) (h Y X)
theorem sep_blocks (A : ℕ → sProp 𝕄) (n : ℕ) :
    bigSep (Finset.Ico 0 n) (fun g => bigSep (Finset.Ico 0 8) (fun j => A (8 * g + j))) = bigSep (Finset.Ico 0 (8 * n)) A := by
  induction n with
  | zero => rfl
  | succ n ih =>
    rw [bigSep_Ico_succ_top (Nat.zero_le n), ih, show 8 * (n + 1) = 8 * n + 8 by omega,
      sep_consec (Nat.zero_le (8 * n)) (Nat.le_add_right (8 * n) 8), sep_shift]
    exact sep_swap _ _

/-- A buffer whole at some contents is its parts, each at some contents. -/
theorem split_all {ℓ : Loc nD τ sig} (S : Finset ℕ) (K : ℕ → Finset (Idx ℓ)) (hU : S.biUnion K = Finset.univ)
    (hK : ∀ i ∈ S, ∀ j ∈ S, i ≠ j → Disjoint (K i) (K j)) :
    (iprop(∃ f : Buf (Elt F) ℓ, ℓ ↦[Finset.univ]{fullShare} f) : sProp 𝕄) ⊢ bigSep S (fun i => iprop(∃ f : Buf (Elt F) ℓ, ℓ ↦[K i]{fullShare} f)) := by
  iintro ⟨%f, H⟩
  have hm : bigSep S (fun i => (ℓ ↦[K i]{fullShare} f : sProp 𝕄)) ⊢ bigSep S (fun i => iprop(∃ f : Buf (Elt F) ℓ, ℓ ↦[K i]{fullShare} f)) :=
    BI.bigSep_mono (fun i _ => (show (ℓ ↦[K i]{fullShare} f : sProp 𝕄) ⊢ iprop(∃ f : Buf (Elt F) ℓ, ℓ ↦[K i]{fullShare} f) by iintro H; iexists f; iexact H))
  iapply hm
  ihave H2 := (Entails.of_eq (pointsTo_biUnion (Val := Elt F) (ℓ := ℓ) (q := fullShare) (f := f) S K hK)) $$ [H]
  · rw [hU]; iexact H
  iexact H2

/-- And back, the properties of the parts kept. -/
theorem merge_all {ℓ : Loc nD τ sig} (S : Finset ℕ) (K : ℕ → Finset (Idx ℓ)) (G : ℕ → Buf (Elt F) ℓ → Prop) (f₀ : Buf (Elt F) ℓ)
    (hU : S.biUnion K = Finset.univ)
    (hK : ∀ i ∈ S, ∀ j ∈ S, i ≠ j → Disjoint (K i) (K j)) (hG : ∀ i f f', (∀ x ∈ K i, f' x = f x) → G i f → G i f') :
    bigSep S (fun i => iprop(∃ f, ⌜G i f⌝ ∗ ℓ ↦[K i]{fullShare} f)) ⊢ (iprop(∃ f, ⌜∀ i ∈ S, G i f⌝ ∗ ℓ ↦[Finset.univ]{fullShare} f) : sProp 𝕄) := by
  rw [← hU]
  exact gather S K G f₀ hK hG
theorem merge_all0 {ℓ : Loc nD τ sig} (S : Finset ℕ) (K : ℕ → Finset (Idx ℓ)) (f₀ : Buf (Elt F) ℓ)
    (hU : S.biUnion K = Finset.univ) (hK : ∀ i ∈ S, ∀ j ∈ S, i ≠ j → Disjoint (K i) (K j)) :
    bigSep S (fun i => iprop(∃ f : Buf (Elt F) ℓ, ℓ ↦[K i]{fullShare} f)) ⊢ (iprop(∃ f : Buf (Elt F) ℓ, ℓ ↦[Finset.univ]{fullShare} f) : sProp 𝕄) := by
  have hm : bigSep S (fun i => iprop(∃ f : Buf (Elt F) ℓ, ℓ ↦[K i]{fullShare} f)) ⊢ (bigSep S (fun i => iprop(∃ f : Buf (Elt F) ℓ, ⌜True⌝ ∗ ℓ ↦[K i]{fullShare} f)) : sProp 𝕄) :=
    BI.bigSep_mono (fun i _ => (show (iprop(∃ f : Buf (Elt F) ℓ, ℓ ↦[K i]{fullShare} f) : sProp 𝕄) ⊢ iprop(∃ f : Buf (Elt F) ℓ, ⌜True⌝ ∗ ℓ ↦[K i]{fullShare} f) by
      iintro ⟨%f, H⟩
      iexists f
      isplitr
      · ipureintro; trivial
      iexact H))
  refine hm.trans ((merge_all S K (fun _ _ => True) f₀ hU hK (fun _ _ _ _ _ => trivial)).trans ?_)
  iintro ⟨%f, -, H⟩
  iexists f
  iexact H

/-! ## The parts of each buffer -/

theorem rows_all : (Finset.Ico 0 512).biUnion bRow = Finset.univ := by
  ext x
  have h : (x 0).val < 512 := (x 0).isLt
  simp only [Finset.mem_biUnion, Finset.mem_Ico, mem_bRow, Finset.mem_univ, iff_true]
  exact ⟨(x 0).val, ⟨Nat.zero_le _, h⟩, rfl⟩
theorem rows_dis : ∀ i ∈ Finset.Ico 0 512, ∀ j ∈ Finset.Ico 0 512, i ≠ j → Disjoint (bRow i) (bRow j) := by
  intro i _ j _ h
  rw [Finset.disjoint_left]; intro x h1 h2; rw [mem_bRow] at h1 h2; omega
theorem slots_all : (Finset.Ico 0 4).biUnion (fun g => sSlot (g % 4)) = Finset.univ := by
  ext x
  have h : (x 0).val < 1408 := (x 0).isLt
  simp only [Finset.mem_biUnion, Finset.mem_Ico, mem_sSlot, Finset.mem_univ, iff_true]
  exact ⟨(x 0).val / 352, ⟨Nat.zero_le _, by omega⟩, by omega⟩
theorem slots_dis : ∀ i ∈ Finset.Ico 0 4, ∀ j ∈ Finset.Ico 0 4, i ≠ j → Disjoint (sSlot (i % 4)) (sSlot (j % 4)) := by
  intro i hi j hj h
  rw [Finset.mem_Ico] at hi hj
  rw [Finset.disjoint_left]; intro x h1 h2; rw [mem_sSlot] at h1 h2; omega
theorem blks_all : (Finset.Ico 0 2048).biUnion oBlk = Finset.univ := by
  ext x
  have h : (x 0).val < 2048 := (x 0).isLt
  simp only [Finset.mem_biUnion, Finset.mem_Ico, mem_oBlk, Finset.mem_univ, iff_true]
  exact ⟨(x 0).val, ⟨Nat.zero_le _, h⟩, rfl⟩
theorem blks_dis : ∀ i ∈ Finset.Ico 0 2048, ∀ j ∈ Finset.Ico 0 2048, i ≠ j → Disjoint (oBlk i) (oBlk j) := by
  intro i _ j _ h
  rw [Finset.disjoint_left]; intro x h1 h2; rw [mem_oBlk] at h1 h2; omega

/-! ## The input ring -/

theorem table_shares (c : Dev nD) (fT : S16000x5632.Idx → BitVec 32) :
    (ptT (F := F) c fullShare Finset.univ fT : sProp 𝕄) = bigSep (Finset.Ico 0 512) (fun R => ptT (F := F) c (shR R) Finset.univ fT) := by
  refine (Transfers.pointsTo_deal (Val := Elt F) (ℓ := (c : Thread nD τ).loc main_v3) (S := Finset.univ) (f := fT) (Finset.range 512) ⟨0, by simp⟩ fullShare).trans ?_
  rw [Finset.range_eq_Ico]
  refine BI.bigSep_congr fun i hi => ?_
  rw [Finset.mem_Ico] at hi
  rw [shR, dif_pos hi.2, Finset.range_eq_Ico]

theorem frees_eq (c : Dev nD) (fT : S16000x5632.Idx → BitVec 32) :
    bigSep (Finset.Ico 0 64) (FreeIn (F := F) c fT)
      = iprop(bigSep (Finset.Ico 0 64) (fun g => semVal ((c : Thread nD τ), SemLoc.dma (semIn (g % 64))) 0)
        ∗ bigSep (Finset.Ico 0 512) (fun R => iprop(∃ f, ptB (F := F) c (bRow R) f)) ∗ ptT (F := F) c fullShare Finset.univ fT) := by
  unfold FreeIn
  rw [bigSep_sep']
  have e : bigSep (Finset.Ico 0 64) (fun g => bigSep (Finset.Ico 0 8) (fun j => FreeRow (F := F) c fT (8 * (g % 64) + j)))
      = bigSep (Finset.Ico 0 64) (fun g => bigSep (Finset.Ico 0 8) (fun j => FreeRow (F := F) c fT (8 * g + j))) :=
    BI.bigSep_congr fun g hg => by
      rw [Finset.mem_Ico] at hg
      rw [Nat.mod_eq_of_lt hg.2]
  rw [e, sep_blocks (F := F) (FreeRow (F := F) c fT) 64]
  unfold FreeRow
  rw [bigSep_sep', ← table_shares]

theorem in_open (c : Dev nD) (fT : S16000x5632.Idx → BitVec 32) :
    iprop(bigSep (Finset.Ico 0 64) (fun g => semVal ((c : Thread nD τ), SemLoc.dma (semIn (g % 64))) 0)
      ∗ (∃ f, ptB (F := F) c Finset.univ f) ∗ ptT (F := F) c fullShare Finset.univ fT) ⊢ bigSep (Finset.Ico 0 64) (FreeIn (F := F) c fT) := by
  rw [frees_eq]
  iintro ⟨H1, H2, H3⟩
  isplitl [H1]; · iexact H1
  isplitl [H2]
  · iapply (split_all (F := F) (ℓ := (c : Thread nD τ).loc cc0_scratch0) (Finset.Ico 0 512) bRow rows_all rows_dis)
    iexact H2
  iexact H3

theorem in_close (c : Dev nD) (fT : S16000x5632.Idx → BitVec 32) (n : ℕ) (hn : n % 64 = 0) :
    bigSep (Finset.Ico n (n + 64)) (FreeIn (F := F) c fT)
      ⊢ iprop(bigSep (Finset.Ico 0 64) (fun g => semVal ((c : Thread nD τ), SemLoc.dma (semIn (g % 64))) 0)
        ∗ (∃ f, ptB (F := F) c Finset.univ f) ∗ ptT (F := F) c fullShare Finset.univ fT) := by
  rw [sep_shift]
  have e : bigSep (Finset.Ico 0 64) (fun j => FreeIn (F := F) c fT (n + j)) = bigSep (Finset.Ico 0 64) (FreeIn (F := F) c fT) :=
    BI.bigSep_congr fun g _ => by unfold FreeIn; rw [show (n + g) % 64 = g % 64 by omega]
  rw [e, frees_eq]
  iintro ⟨H1, H2, H3⟩
  isplitl [H1]; · iexact H1
  isplitl [H2]
  · iapply (merge_all0 (F := F) (ℓ := (c : Thread nD τ).loc cc0_scratch0) (Finset.Ico 0 512) bRow (fun _ => (0 : BitVec 32)) rows_all rows_dis)
    iexact H2
  iexact H3

/-! ## The staging rings and the results -/

section
variable (c : Dev nD) (PE PO : ℕ → ℕ → ℕ → Elt F .bf16 → Prop)

theorem out_open :
    iprop((∃ f, ptSE (F := F) c Finset.univ f) ∗ (∃ f, ptSO (F := F) c Finset.univ f) ∗ (∃ f, ptE (F := F) c Finset.univ f) ∗ (∃ f, ptO (F := F) c Finset.univ f)
      ∗ bigSep (Finset.Ico 0 4) (fun g => semVal ((c : Thread nD τ), SemLoc.dma (semE (g % 4))) 0)
      ∗ bigSep (Finset.Ico 0 4) (fun g => semVal ((c : Thread nD τ), SemLoc.dma (semO (g % 4))) 0)) ⊢ Obase c PE PO 0 0 0 := by
  unfold Obase Todo FreeOut
  rw [Finset.Ico_self, bigSep_empty, bigSep_empty, bigSep_sep', Nat.zero_add, bigSep_sep', bigSep_sep', bigSep_sep']
  iintro ⟨H1, H2, H3, H4, H5, H6⟩
  isplitr; · iempintro
  isplitr; · iempintro
  isplitl [H3 H4]
  · isplitl [H3]
    · iapply (split_all (F := F) (ℓ := (c : Thread nD τ).loc main_v6_1) (Finset.Ico 0 2048) oBlk blks_all blks_dis); iexact H3
    · iapply (split_all (F := F) (ℓ := (c : Thread nD τ).loc main_v6_0) (Finset.Ico 0 2048) oBlk blks_all blks_dis); iexact H4
  isplitl [H1]
  · iapply (split_all (F := F) (ℓ := (c : Thread nD τ).loc cc0_scratch1) (Finset.Ico 0 4) (fun g => sSlot (g % 4)) slots_all slots_dis); iexact H1
  isplitl [H2]
  · iapply (split_all (F := F) (ℓ := (c : Thread nD τ).loc cc0_scratch2) (Finset.Ico 0 4) (fun g => sSlot (g % 4)) slots_all slots_dis); iexact H2
  isplitl [H5]; · iexact H5
  iexact H6

theorem oGood_local (P : ℕ → ℕ → ℕ → Elt F .bf16 → Prop) (g : ℕ) (f f' : S2048x44x8x128.Idx → Elt F .bf16) (h : ∀ x ∈ oBlk g, f' x = f x)
    (hf : oGood P g f) : oGood P g f' := fun i hi => by rw [h i (mem_oBlk.2 hi)]; exact hf i hi

theorem out_close (f₀ : Elt F .bf16) :
    Obase c PE PO 2048 2048 2048 ⊢
    iprop((∃ f, ptSE (F := F) c Finset.univ f) ∗ (∃ f, ptSO (F := F) c Finset.univ f)
      ∗ (∃ f, ⌜∀ g ∈ Finset.Ico 0 2048, oGood PE g f⌝ ∗ ptE c Finset.univ f) ∗ (∃ f, ⌜∀ g ∈ Finset.Ico 0 2048, oGood PO g f⌝ ∗ ptO c Finset.univ f)
      ∗ bigSep (Finset.Ico 0 4) (fun g => semVal ((c : Thread nD τ), SemLoc.dma (semE (g % 4))) 0)
      ∗ bigSep (Finset.Ico 0 4) (fun g => semVal ((c : Thread nD τ), SemLoc.dma (semO (g % 4))) 0)) := by
  unfold Obase Landed
  rw [sep_shift 2048 4]
  have e : bigSep (Finset.Ico 0 4) (fun j => FreeOut (F := F) c (2048 + j)) = bigSep (Finset.Ico 0 4) (FreeOut (F := F) c) :=
    BI.bigSep_congr fun g _ => by unfold FreeOut; rw [show (2048 + g) % 4 = g % 4 by omega]
  rw [e]
  unfold FreeOut
  rw [bigSep_sep', bigSep_sep', bigSep_sep', bigSep_sep']
  iintro ⟨⟨HE, HO⟩, -, -, H1, H2, H5, H6⟩
  isplitl [H1]
  · iapply (merge_all0 (F := F) (ℓ := (c : Thread nD τ).loc cc0_scratch1) (Finset.Ico 0 4) (fun g => sSlot (g % 4)) (fun _ => f₀) slots_all slots_dis); iexact H1
  isplitl [H2]
  · iapply (merge_all0 (F := F) (ℓ := (c : Thread nD τ).loc cc0_scratch2) (Finset.Ico 0 4) (fun g => sSlot (g % 4)) (fun _ => f₀) slots_all slots_dis); iexact H2
  isplitl [HE]
  · iapply (merge_all (F := F) (ℓ := (c : Thread nD τ).loc main_v6_1) (Finset.Ico 0 2048) oBlk (oGood PE) (fun _ => f₀) blks_all blks_dis (oGood_local PE)); iexact HE
  isplitl [HO]
  · iapply (merge_all (F := F) (ℓ := (c : Thread nD τ).loc main_v6_0) (Finset.Ico 0 2048) oBlk (oGood PO) (fun _ => f₀) blks_all blks_dis (oGood_local PO)); iexact HO
  isplitl [H5]; · iexact H5
  iexact H6
end

end Cert.Kernel.Hand
-- ==== Proof.KB.Body.lean ====
/-
  The body's run: the copy of the scales, the three loops, and the last group's copies out.
-/
module

public import proofs.«01_k».proof.Proof.KB.Ends

@[expose] public section

set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [BitOps F]

/-- The proof's user algebra: the pipeline library's beside the transfers' counters. -/
local notation "𝕄" => MT nD τ sig Unit (Elt F) ℕ (Pipeline.UD sig nD τ) ℕ

/-- A counted loop from its invariant. -/
theorem ent_loop {c : Dev nD} {w : ℕ} {σ : Type} (l : Scf.Loop w) (hok : l.OK) (init : σ) (body : Fin l.trips → σ → Prog (TpuEff nD τ sig (Elt F) Λ₀ .tc) σ)
    (I : ℕ → sProp 𝕄) (n : ℕ) (hn : l.trips = n) (h : ∀ (k : Fin l.trips) (u : σ), I k.val ⊢ wpK c (body k u) (fun _ => I (k.val + 1))) :
    I 0 ⊢ wpK c (Scf.Loop.for l hok init body) (fun _ => I n) := by
  subst hn
  refine BIBase.Entails.trans ?_ (Scf.wp_for frame (wpE (defs₀ (F := F)) Variants.none (c : Thread nD τ) none) Set.univ l.lb l.ub l.st hok init body (fun k _ => I k) h)
  iintro H
  isplitl [H]; · iexact H
  iintro %acc H
  iexact H

/-! ## The copy of the scales -/

/-- What the copy of the scales credits. -/
def NS : ℕ := (cc0_scratch3).dmaCredit S64000 .f32
theorem NS_pos : 0 < NS := by decide +kernel

/-- The delivery of the copy of the scales. -/
def DS (c : Dev nD) (fS : S64000.Idx → Elt F .f32) (_ : Fin 1) : sProp 𝕄 :=
  iprop((∃ f : S64000.Idx → Elt F .f32, ⌜f = fS⌝ ∗ ((c : Thread nD τ).loc cc0_scratch3 ↦[Finset.univ]{fullShare} f)) ∗ ((c : Thread nD τ).loc main_arg2 ↦[Finset.univ]{fullShare} fS))

instance DS_storable (c : Dev nD) (fS : S64000.Idx → Elt F .f32) (i : Fin 1) : Storable (upEmb : UEmb _ 𝕄) (DS c fS i) := by unfold DS; infer_instance

/-- The copy of the scales, in flight. -/
abbrev FlS (c : Dev nD) (fS : S64000.Idx → Elt F .f32) : sProp 𝕄 :=
  Transfers.Batch EC (c : Thread nD τ) (.dma cc0_scratch7.sem) () NS (DS c fS) 1 0

theorem fr_scale (c : Dev nD) (fS : S64000.Idx → Elt F .f32) (hw1) (hw2) (hw3) :
    iprop(((c : Thread nD τ).loc main_arg2 ↦[Finset.univ]{fullShare} fS) ∗ (∃ f : S64000.Idx → Elt F .f32, (c : Thread nD τ).loc cc0_scratch3 ↦[Finset.univ]{fullShare} f)
        ∗ semVal ((c : Thread nD τ), SemLoc.dma cc0_scratch7.sem) 0)
      ⊢ wpK c (Prog.lift (.enqueueDma (Memref.whole main_arg2 : Memref sig .tc .hbm S64000 .f32) (.here (Memref.whole cc0_scratch3 : Memref sig .tc .smem S64000 .f32)) (.dma cc0_scratch7.sem) hw1 hw2 hw3)) (fun _ => FlS c fS) := by
  have hT : (Memref.whole main_arg2 : Memref sig .tc .hbm S64000 .f32).view.set = Finset.univ := View.set_whole _
  have hB : (Memref.whole cc0_scratch3 : Memref sig .tc .smem S64000 .f32).view.set = Finset.univ := View.set_whole _
  iintro ⟨HT, ⟨%f0, HB⟩, Hq⟩
  imod (Transfers.batch_alloc' (Lvl := ℕ) (EC (F := F)) (c : Thread nD τ) () NS (DS c fS) (sm := SemLoc.dma cc0_scratch7.sem) (E := Set.univ)) $$ Hq with HBt
  iapply (Transfers.wp_dmaBatch (defs := defs₀ (F := F)) (Q := fun _ => FlS c fS) EC Variants.none (c : Thread nD τ) none () NS
    (src := (Memref.whole main_arg2 : Memref sig .tc .hbm S64000 .f32))
    (dst := (Memref.whole cc0_scratch3 : Memref sig .tc .smem S64000 .f32))
    (q := fullShare) (fs := fS) (fd := f0) (D := DS c fS)
    rfl (Sd := Finset.univ) hB.subset Nat.one_pos (Nat.zero_le _) ?hD) $$ [HT HB HBt]
  case hD =>
    unfold DS
    iintro ⟨Hd, Hs⟩
    isplitl [Hd]
    · iexists _
      isplitr; swap; · iexact Hd
      ipureintro
      exact View.write_whole_univ cc0_scratch3 f0 fS
    · rw [← hT]; iexact Hs
  · isplitl [HT]; · rw [hT]; iexact HT
    isplitl [HB]; · iexact HB
    iexact HBt
  iintro HBt
  rw [wp_ret]
  imodintro
  iexact HBt

theorem fr_scalewait (c : Dev nD) (fS : S64000.Idx → Elt F .f32) (hw1) (hw2) :
    iprop(FlS c fS ∗ (∃ W, owes (c : Thread nD τ) 0 W))
      ⊢ wpK c (Prog.lift (.waitDma2 cc0_scratch7.sem (Memref.whole main_arg2 : Memref sig .tc .hbm S64000 .f32) (Memref.whole cc0_scratch3 : Memref sig .tc .smem S64000 .f32) hw1 hw2))
        (fun _ => iprop((((c : Thread nD τ).loc cc0_scratch3 ↦[Finset.univ]{fullShare} fS) ∗ ((c : Thread nD τ).loc main_arg2 ↦[Finset.univ]{fullShare} fS))
          ∗ semVal ((c : Thread nD τ), SemLoc.dma cc0_scratch7.sem) 0 ∗ (∃ W, owes (c : Thread nD τ) 0 W))) := by
  iintro ⟨HBt, ⟨%W, HW⟩⟩
  iapply (Transfers.wp_waitBatchAll (defs := defs₀ (F := F)) EC Variants.none (c : Thread nD τ) none ()
    (srcw := (Memref.whole main_arg2 : Memref sig .tc .hbm S64000 .f32))
    (dstw := (Memref.whole cc0_scratch3 : Memref sig .tc .smem S64000 .f32))
    (N := NS) (J := NS) rfl NS_pos (D := DS c fS) (u := 0) (by omega) (W := W)) $$ [HBt HW]
  · isplitl [HBt]; · iexact HBt
    iexact HW
  iintro ⟨HD, Hq, HW⟩
  rw [wp_ret]
  imodintro
  ihave HD' := (Entails.of_eq (show bigSep Finset.univ (DS c fS) = DS c fS 0 by
    rw [Finset.univ_unique, bigSep_singleton]; rfl)) $$ HD
  unfold DS
  icases HD' with ⟨⟨%f, %hf, HD1⟩, HD2⟩
  subst hf
  isplitl [HD1 HD2]
  · isplitl [HD1]; · iexact HD1
    iexact HD2
  isplitl [Hq]; · iexact Hq
  iexists _
  iexact HW

section
variable {c : Dev nD} {arg0 : Memref sig .tc .smem S16384 .i32} {fA : Buf (Elt F) (arg0.view.loc (c : Thread nD τ))}
  {fT : S16000x5632.Idx → BitVec 32} {tokF : S16384.Idx → BitVec 32} (hf : arg0.view.read (Elt F) fA = tokF)
  {arg3 : Memref sig .tc .vmem S44x128 .f32} {fW : Buf (Elt F) (arg3.view.loc (c : Thread nD τ))} {fS : S64000.Idx → Elt F .f32}
  (harg0 : arg0.IsWhole) (harg3 : arg3.IsWhole)
  (htk : ∀ n, n < 16384 → (tkOf tokF n).toNat < 64000) (PE PO : ℕ → ℕ → ℕ → Elt F .bf16 → Prop)

/-! ## A trip of the main loop -/

set_option maxHeartbeats 4000000

/-- A computed group, beside the rest of the rings, is the state before the next trip. -/
theorem close_trip (tk : ℕ → BitVec 32) (k : ℕ) {DE DO : Stage F → Prop} (hE : ∀ f, DE f → sGood PE k f) (hO : ∀ f, DO f → sGood PO k f) :
    iprop(CRes (Cg c arg0 fA arg3 fW fS fT tk k) DE DO ∗ Beside c fT tk PE PO k) ⊢ Trip c arg0 fA arg3 fW fS fT tk PE PO (k + 1) := by
  unfold CRes Beside Trip T3
  rw [show OS c PE PO (k + 1) = iprop(Staged c PE PO k ∗ Obase c PE PO (k - 3) k (k + 1)) from rfl, show k + 1 + 63 = k + 64 by omega]
  unfold InR Staged
  rw [show k + 1 + 64 = k + 64 + 1 by omega, bigSep_Ico_succ_top (show min (k + 64) 2048 ≤ k + 64 from Nat.min_le_left _ _)]
  iintro ⟨⟨HA, HWt, HS, ⟨%fb, %hb, HB⟩, ⟨%fe, %he, HE⟩, ⟨%fo, %ho, HO⟩⟩, HW, HK, ⟨HF, HR⟩, HOb, Hqe, Hqo⟩
  ihave HN := (free_in (F := F) c fT k) $$ [HB HK]
  · isplitl [HB]
    · iexists fb; iexact HB
    iexact HK
  isplitl [HA HWt HS]
  · isplitl [HA]; · iexact HA
    isplitl [HWt]; · iexact HWt
    iexact HS
  isplitl [HW]; · iexact HW
  isplitl [HF HR HN]
  · isplitl [HF]; · iexact HF
    isplitl [HN]; · iexact HN
    iexact HR
  isplitr [HOb]
  · isplitl [HE]
    · iexists fe
      isplitr
      · ipureintro; exact hE fe he
      · iexact HE
    isplitl [HO]
    · iexists fo
      isplitr
      · ipureintro; exact hO fo ho
      · iexact HO
    isplitl [Hqe]; · iexact Hqe
    iexact Hqo
  · iexact HOb

include hf htk in
/-- A trip of the main loop, whatever it computes. -/
theorem fr_t2 (hPE : ∀ g r l v, PE g r l v) (hPO : ∀ g r l v, PO g r l v) (k0_t2 : Fin k0_t2_loop.trips) (u : Unit) :
    Trip c arg0 fA arg3 fW fS fT (tkOf tokF) PE PO k0_t2.val
      ⊢ wpK c (k0_t2_body (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 u)
        (fun _ => Trip c arg0 fA arg3 fW fS fT (tkOf tokF) PE PO (k0_t2.val + 1)) :=
  (fr_body (X := Cg c arg0 fA arg3 fW fS fT (tkOf tokF) k0_t2.val) (htokX hf htk) harg0 harg3 k0_t2 rfl rfl u
    (fr_part7 hf harg0 harg3 htk PE PO k0_t2)).trans
    (wp_mono _ _ _ fun _ => close_trip PE PO (tkOf tokF) k0_t2.val (fun _ _ _ _ => hPE _ _ _ _) (fun _ _ _ _ => hPO _ _ _ _))

/-! ## The drain -/

/-- A trip of the last loop waits for a group's copies out. -/
theorem fr_t3 (k0_t3 : Fin k0_t3_loop.trips) (u : Unit) :
    iprop((∃ W, owes (c : Thread nD τ) 0 W) ∗ Obase c PE PO (2044 + k0_t3.val) 2048 2048)
      ⊢ wpK c (k0_t3_body (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t3 u)
        (fun _ => iprop((∃ W, owes (c : Thread nD τ) 0 W) ∗ Obase c PE PO (2044 + (k0_t3.val + 1)) 2048 2048)) := by
  have hk : k0_t3.val < 4 := lt_of_lt_of_eq k0_t3.isLt trips3
  have h1 : k0_off114 k0_t3 = ![(2044 + k0_t3.val) % 4] := (k0_off114_eq k0_t3).trans (vec1 (by omega))
  unfold k0_t3_body
  refine BIBase.Entails.trans ?_ (ent_bind (wt_E c PE (2044 + k0_t3.val) h1 _ _ _ _ _ _
    (R := iprop(FlO c PO (2044 + k0_t3.val) ∗ WRest c PE PO (2044 + k0_t3.val) 2048 2048))) fun _ _ => ?_)
  · iintro ⟨HW, HO⟩
    ihave H := (wait_pre (F := F) c PE PO (2044 + k0_t3.val) 2048 2048 (by omega)) $$ HO
    icases H with ⟨H1, H2, HO⟩
    isplitl [H1]; · iexact H1
    isplitl [HW]; · iexact HW
    isplitl [H2]; · iexact H2
    iexact HO
  refine BIBase.Entails.trans ?_ (ent_bind (wt_O c PO (2044 + k0_t3.val) h1 _ _ _ _ _ _
    (R := iprop(BE c PE (2044 + k0_t3.val) ∗ WRest c PE PO (2044 + k0_t3.val) 2048 2048))) fun _ _ => ?_)
  · iintro ⟨HB, HW, HF, HR⟩
    isplitl [HF]; · iexact HF
    isplitl [HW]; · iexact HW
    isplitl [HB]; · iexact HB
    iexact HR
  refine ent_ret ?_
  iintro ⟨HBO, HW, HBE, HR⟩
  isplitl [HW]; · iexact HW
  iapply (wait_post (F := F) c PE PO (2044 + k0_t3.val) 2048 2048 (by omega))
  isplitl [HBE]; · iexact HBE
  isplitl [HBO]; · iexact HBO
  iexact HR

/-! ## The whole body -/

/-- Before trip `k` of the first loop. -/
def L1 (c : Dev nD) (arg0 : Memref sig .tc .smem S16384 .i32) (fA : Buf (Elt F) (arg0.view.loc (c : Thread nD τ))) (fT : S16000x5632.Idx → BitVec 32) (tk : ℕ → BitVec 32) (k : ℕ) : sProp 𝕄 :=
  iprop((arg0.view.loc (c : Thread nD τ) ↦[arg0.view.set]{fullShare} fA)
    ∗ bigSep (Finset.Ico 0 k) (FlightIn (F := F) c fT tk) ∗ bigSep (Finset.Ico k 64) (FreeIn (F := F) c fT))

include hf htk in
theorem fr_t1' (k0_t1 : Fin k0_t1_loop.trips) (u : Unit) :
    L1 c arg0 fA fT (tkOf tokF) k0_t1.val
      ⊢ wpK c (k0_t1_body (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t1 u)
        (fun _ => L1 c arg0 fA fT (tkOf tokF) (k0_t1.val + 1)) := by
  have hk : k0_t1.val < 63 := lt_of_lt_of_eq k0_t1.isLt trips1
  refine BIBase.Entails.trans ?_ ((ent_frame (G := iprop(bigSep (Finset.Ico 0 k0_t1.val) (FlightIn (F := F) c fT (tkOf tokF)) ∗ bigSep (Finset.Ico (k0_t1.val + 1) 64) (FreeIn (F := F) c fT)))
    (fr_t1 (fT := fT) hf harg0 harg3 htk k0_t1 u hk)).trans (wp_mono _ _ _ fun _ => ?_))
  · unfold L1
    rw [bigSep_Ico_succ_bot (show k0_t1.val < 64 by omega)]
    iintro ⟨HA, HF, HN, HR⟩
    isplitl [HA HN]
    · isplitl [HA]; · iexact HA
      iexact HN
    isplitl [HF]; · iexact HF
    iexact HR
  · unfold L1
    rw [bigSep_Ico_succ_top (Nat.zero_le k0_t1.val)]
    iintro ⟨⟨HA, HN⟩, HF, HR⟩
    isplitl [HA]; · iexact HA
    isplitl [HN HF]
    · isplitl [HN]; · iexact HN
      iexact HF
    iexact HR

/-- The body's semaphores at zero. -/
def Sems (c : Dev nD) : sProp 𝕄 :=
  iprop(bigSep (Finset.Ico 0 64) (fun g => semVal ((c : Thread nD τ), SemLoc.dma (semIn (g % 64))) 0)
    ∗ bigSep (Finset.Ico 0 4) (fun g => semVal ((c : Thread nD τ), SemLoc.dma (semE (g % 4))) 0)
    ∗ bigSep (Finset.Ico 0 4) (fun g => semVal ((c : Thread nD τ), SemLoc.dma (semO (g % 4))) 0)
    ∗ semVal ((c : Thread nD τ), SemLoc.dma cc0_scratch7.sem) 0)

/-- What the body starts from. -/
def BodyIn (c : Dev nD) (arg0 : Memref sig .tc .smem S16384 .i32) (fA : Buf (Elt F) (arg0.view.loc (c : Thread nD τ)))
    (arg3 : Memref sig .tc .vmem S44x128 .f32) (fW : Buf (Elt F) (arg3.view.loc (c : Thread nD τ))) (fS : S64000.Idx → Elt F .f32)
    (fT : S16000x5632.Idx → BitVec 32) : sProp 𝕄 :=
  iprop((arg0.view.loc (c : Thread nD τ) ↦[arg0.view.set]{fullShare} fA)
    ∗ (arg3.view.loc (c : Thread nD τ) ↦[arg3.view.set]{fullShare} fW)
    ∗ ptT (F := F) c fullShare Finset.univ fT
    ∗ ((c : Thread nD τ).loc main_arg2 ↦[Finset.univ]{fullShare} fS)
    ∗ (∃ f : S64000.Idx → Elt F .f32, (c : Thread nD τ).loc cc0_scratch3 ↦[Finset.univ]{fullShare} f)
    ∗ (∃ f, ptB (F := F) c Finset.univ f) ∗ (∃ f, ptSE (F := F) c Finset.univ f) ∗ (∃ f, ptSO (F := F) c Finset.univ f)
    ∗ (∃ f, ptE (F := F) c Finset.univ f) ∗ (∃ f, ptO (F := F) c Finset.univ f)
    ∗ Sems (F := F) c ∗ (∃ W, owes (c : Thread nD τ) 0 W))

/-- What it ends at: the results hold every group. -/
def BodyOut (c : Dev nD) (arg0 : Memref sig .tc .smem S16384 .i32) (fA : Buf (Elt F) (arg0.view.loc (c : Thread nD τ)))
    (arg3 : Memref sig .tc .vmem S44x128 .f32) (fW : Buf (Elt F) (arg3.view.loc (c : Thread nD τ))) (fS : S64000.Idx → Elt F .f32)
    (fT : S16000x5632.Idx → BitVec 32) (PE PO : ℕ → ℕ → ℕ → Elt F .bf16 → Prop) : sProp 𝕄 :=
  iprop((arg0.view.loc (c : Thread nD τ) ↦[arg0.view.set]{fullShare} fA)
    ∗ (arg3.view.loc (c : Thread nD τ) ↦[arg3.view.set]{fullShare} fW)
    ∗ ptT (F := F) c fullShare Finset.univ fT
    ∗ ((c : Thread nD τ).loc main_arg2 ↦[Finset.univ]{fullShare} fS)
    ∗ (∃ f : S64000.Idx → Elt F .f32, (c : Thread nD τ).loc cc0_scratch3 ↦[Finset.univ]{fullShare} f)
    ∗ (∃ f, ptB (F := F) c Finset.univ f) ∗ (∃ f, ptSE (F := F) c Finset.univ f) ∗ (∃ f, ptSO (F := F) c Finset.univ f)
    ∗ (∃ f, ⌜∀ g ∈ Finset.Ico 0 2048, oGood PE g f⌝ ∗ ptE c Finset.univ f) ∗ (∃ f, ⌜∀ g ∈ Finset.Ico 0 2048, oGood PO g f⌝ ∗ ptO c Finset.univ f)
    ∗ Sems (F := F) c ∗ (∃ W, owes (c : Thread nD τ) 0 W))

include hf htk in
/-- The body's run, from the run of a trip of its main loop. -/
theorem fr_kernel (f₀ : Elt F .bf16)
    (h2 : ∀ (k0_t2 : Fin k0_t2_loop.trips) (u : Unit), Trip c arg0 fA arg3 fW fS fT (tkOf tokF) PE PO k0_t2.val
      ⊢ wpK c (k0_t2_body (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 u)
        (fun _ => Trip c arg0 fA arg3 fW fS fT (tkOf tokF) PE PO (k0_t2.val + 1))) :
    BodyIn c arg0 fA arg3 fW fS fT
      ⊢ wpK c (cc0_embed_rmsnorm (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7)
        (fun _ => BodyOut c arg0 fA arg3 fW fS fT PE PO) := by
  rw [cc0_embed_rmsnorm_eq_skeleton]
  unfold cc0_embed_rmsnorm_skel
  refine BIBase.Entails.trans ?_ (ent_bind' (ent_frame (fr_scale c fS _ _ _)
    (G := iprop(L1 c arg0 fA fT (tkOf tokF) 0 ∗ (arg3.view.loc (c : Thread nD τ) ↦[arg3.view.set]{fullShare} fW) ∗ Obase c PE PO 0 0 0 ∗ (∃ W, owes (c : Thread nD τ) 0 W)))) fun _ => ?_)
  · unfold BodyIn Sems L1
    iintro ⟨HA, HWt, HT, H2, H3, HB, HSE, HSO, HE, HO, ⟨HqI, HqE, HqO, HqS⟩, HW⟩
    ihave HIn := (in_open (F := F) c fT) $$ [HqI HB HT]
    · isplitl [HqI]; · iexact HqI
      isplitl [HB]; · iexact HB
      iexact HT
    ihave HOut := (out_open (F := F) c PE PO) $$ [HSE HSO HE HO HqE HqO]
    · isplitl [HSE]; · iexact HSE
      isplitl [HSO]; · iexact HSO
      isplitl [HE]; · iexact HE
      isplitl [HO]; · iexact HO
      isplitl [HqE]; · iexact HqE
      iexact HqO
    isplitl [H2 H3 HqS]
    · isplitl [H2]; · iexact H2
      isplitl [H3]; · iexact H3
      iexact HqS
    isplitl [HA HIn]
    · isplitl [HA]; · iexact HA
      isplitr
      · rw [Finset.Ico_self, bigSep_empty]; iempintro
      iexact HIn
    isplitl [HWt]; · iexact HWt
    isplitl [HOut]; · iexact HOut
    iexact HW
  refine BIBase.Entails.trans ?_ (ent_bind' (ent_frame (ent_loop k0_t1_loop k0_t1_ok _ _ (L1 c arg0 fA fT (tkOf tokF)) 63 trips1 (fr_t1' hf harg0 harg3 htk))
    (G := iprop(FlS c fS ∗ (arg3.view.loc (c : Thread nD τ) ↦[arg3.view.set]{fullShare} fW) ∗ Obase c PE PO 0 0 0 ∗ (∃ W, owes (c : Thread nD τ) 0 W)))) fun _ => ?_)
  · iintro ⟨HF, HL, HR⟩
    isplitl [HL]; · iexact HL
    isplitl [HF]; · iexact HF
    iexact HR
  refine BIBase.Entails.trans ?_ (ent_bind' (ent_frame (fr_scalewait c fS _ _)
    (G := iprop(L1 c arg0 fA fT (tkOf tokF) 63 ∗ (arg3.view.loc (c : Thread nD τ) ↦[arg3.view.set]{fullShare} fW) ∗ Obase c PE PO 0 0 0))) fun _ => ?_)
  · iintro ⟨HL, HF, HWt, HO, HW⟩
    isplitl [HF HW]
    · isplitl [HF]; · iexact HF
      iexact HW
    isplitl [HL]; · iexact HL
    isplitl [HWt]; · iexact HWt
    iexact HO
  refine BIBase.Entails.trans ?_ (ent_bind' (ent_frame (ent_loop k0_t2_loop k0_t2_ok _ _ (Trip c arg0 fA arg3 fW fS fT (tkOf tokF) PE PO) 2048 trips2 h2)
    (G := iprop(((c : Thread nD τ).loc main_arg2 ↦[Finset.univ]{fullShare} fS) ∗ semVal ((c : Thread nD τ), SemLoc.dma cc0_scratch7.sem) 0))) fun _ => ?_)
  · unfold L1 Trip T3 InR
    rw [show OS c PE PO 0 = Obase c PE PO 0 0 0 from rfl, show min (0 + 63) 2048 = 63 by omega, show 0 + 64 = 64 by omega]
    iintro ⟨⟨⟨HS, H2⟩, HqS, HW⟩, ⟨HA, HF, HR⟩, HWt, HO⟩
    isplitr [H2 HqS]
    · isplitl [HA HWt HS]
      · isplitl [HA]; · iexact HA
        isplitl [HWt]; · iexact HWt
        iexact HS
      isplitl [HW]; · iexact HW
      isplitl [HF HR]
      · isplitl [HF]; · iexact HF
        iexact HR
      iexact HO
    isplitl [H2]; · iexact H2
    iexact HqS
  refine BIBase.Entails.trans ?_ (ent_bind (st_E c PE 2047 (R := iprop(AO c PO 2047 ∗ SRest c PE PO 2044 2047 2048
      ∗ T3 c arg0 fA arg3 fW fS ∗ (∃ W, owes (c : Thread nD τ) 0 W) ∗ InR (F := F) c fT (tkOf tokF) 2048 2048
      ∗ ((c : Thread nD τ).loc main_arg2 ↦[Finset.univ]{fullShare} fS) ∗ semVal ((c : Thread nD τ), SemLoc.dma cc0_scratch7.sem) 0))
    k0_off112_eq rfl k0_off113_eq _ _ _ _ _ _ _ _ _ _ _) fun _ _ => ?_)
  · unfold Trip
    rw [show OS c PE PO 2048 = iprop(Staged c PE PO 2047 ∗ Obase c PE PO 2044 2047 2048) from rfl, show min (2048 + 63) 2048 = 2048 by omega]
    iintro ⟨⟨H3, HW, HIn, HO⟩, H2, HqS⟩
    ihave H := (start_pre (F := F) c PE PO 2044 2047 2048 (by omega)) $$ HO
    icases H with ⟨HE, HO, HR⟩
    isplitl [HE]; · iexact HE
    isplitl [HO]; · iexact HO
    isplitl [HR]; · iexact HR
    isplitl [H3]; · iexact H3
    isplitl [HW]; · iexact HW
    isplitl [HIn]; · iexact HIn
    isplitl [H2]; · iexact H2
    iexact HqS
  refine BIBase.Entails.trans ?_ (ent_bind (st_O c PO 2047 (R := iprop(FlE c PE 2047 ∗ SRest c PE PO 2044 2047 2048
      ∗ T3 c arg0 fA arg3 fW fS ∗ (∃ W, owes (c : Thread nD τ) 0 W) ∗ InR (F := F) c fT (tkOf tokF) 2048 2048
      ∗ ((c : Thread nD τ).loc main_arg2 ↦[Finset.univ]{fullShare} fS) ∗ semVal ((c : Thread nD τ), SemLoc.dma cc0_scratch7.sem) 0))
    k0_off112_eq rfl k0_off113_eq _ _ _ _ _ _ _ _ _ _ _) fun _ _ => ?_)
  · iintro ⟨HE, HO, HR⟩
    isplitl [HO]; · iexact HO
    isplitl [HE]; · iexact HE
    iexact HR
  refine BIBase.Entails.trans ?_ (ent_bind' (ent_frame (ent_loop k0_t3_loop k0_t3_ok _ _ (fun t => iprop((∃ W, owes (c : Thread nD τ) 0 W) ∗ Obase c PE PO (2044 + t) 2048 2048)) 4 trips3 (fr_t3 harg0 harg3 PE PO))
    (G := iprop(T3 c arg0 fA arg3 fW fS ∗ InR (F := F) c fT (tkOf tokF) 2048 2048
      ∗ ((c : Thread nD τ).loc main_arg2 ↦[Finset.univ]{fullShare} fS) ∗ semVal ((c : Thread nD τ), SemLoc.dma cc0_scratch7.sem) 0))) fun _ => ?_)
  · iintro ⟨HFO, HFE, HR, H3, HW, HIn, H2, HqS⟩
    isplitl [HFO HFE HR HW]
    · isplitl [HW]; · iexact HW
      iapply (start_post (F := F) c PE PO 2044 2047 2048 (by omega))
      isplitl [HFE]; · iexact HFE
      isplitl [HFO]; · iexact HFO
      iexact HR
    isplitl [H3]; · iexact H3
    isplitl [HIn]; · iexact HIn
    isplitl [H2]; · iexact H2
    iexact HqS
  refine ent_ret ?_
  unfold BodyOut T3 InR Sems
  rw [show 2044 + 4 = 2048 by omega]
  iintro ⟨⟨HW, HO⟩, ⟨HA, HWt, HS⟩, ⟨-, HIn⟩, H2, HqS⟩
  ihave HIn' := (in_close (F := F) c fT 2048 (by omega)) $$ HIn
  ihave HO' := (out_close (F := F) c PE PO f₀) $$ HO
  icases HIn' with ⟨HqI, HB, HT⟩
  icases HO' with ⟨HSE, HSO, HE, HO, HqE, HqO⟩
  isplitl [HA]; · iexact HA
  isplitl [HWt]; · iexact HWt
  isplitl [HT]; · iexact HT
  isplitl [H2]; · iexact H2
  isplitl [HS]; · iexists fS; iexact HS
  isplitl [HB]; · iexact HB
  isplitl [HSE]; · iexact HSE
  isplitl [HSO]; · iexact HSO
  isplitl [HE]; · iexact HE
  isplitl [HO]; · iexact HO
  isplitr [HW]
  · isplitl [HqI]; · iexact HqI
    isplitl [HqE]; · iexact HqE
    isplitl [HqO]; · iexact HqO
    iexact HqS
  iexact HW
end

end Cert.Kernel.Hand
-- ==== Proof.KB.Launch.lean ====
/-
  The region around the body: what the launch hands the body, cell by cell and buffer by buffer, and the body's run from it.
-/
module

public import proofs.«01_k».proof.Proof.Gen.Kernel.Frame
public import Idealize.ShloMosaic.Lib.Pipeline.FrameBody
public import Idealize.ShloMosaic.Lib.Pipeline.FrameSuffixV
public import proofs.«01_k».proof.Proof.KB.Body

@[expose] public section

set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [BitOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The body's own cells and buffers -/

/-- The body's own semaphores: every one but the two staging ones. -/
abbrev osem0 : Fin 73 → SemLoc sig := fun j => .dma ⟨2 + j.val, by have := j.isLt; show _ < 75; omega⟩
theorem ownSemFacts0 : Pipeline.OwnSemFacts spec0 osem0 := by decide +kernel

/-- The semaphore of a number. -/
def dcell (s : ℕ) : DmaSem sig := ⟨(2 + s) % 75, by show _ < 75; exact Nat.mod_lt _ (by decide)⟩
theorem dcell_in (g : ℕ) (h : g < 64) : dcell g = semIn (g % 64) := by
  apply Fin.ext; show (2 + g) % 75 = 2 + g % 64 % 64; omega
theorem dcell_E (g : ℕ) (h : g < 4) : dcell (64 + g) = semE (g % 4) := by
  apply Fin.ext; show (2 + (64 + g)) % 75 = 66 + g % 4 % 4; omega
theorem dcell_O (g : ℕ) (h : g < 4) : dcell (68 + g) = semO (g % 4) := by
  apply Fin.ext; show (2 + (68 + g)) % 75 = 70 + g % 4 % 4; omega
theorem dcell_S : dcell 72 = cc0_scratch7.sem := by decide +kernel

theorem ownSems_eq (c : Dev nD) :
    (Pipeline.ownSems0 (Ix := Unit) (Name := ℕ) (U := Pipeline.UD sig nD τ) (Lvl := ℕ) (Val := Elt F) (τ := τ) osem0 c : sProp 𝕄)
      = Sems (F := F) c := by
  have e1 : (Pipeline.ownSems0 (Ix := Unit) (Name := ℕ) (U := Pipeline.UD sig nD τ) (Lvl := ℕ) (Val := Elt F) (τ := τ) osem0 c : sProp 𝕄)
      = bigSep (Finset.Ico 0 73) (fun g => semVal ((c : Thread nD τ), SemLoc.dma (dcell g)) 0) := by
    have hm : Finset.Ico 0 73 = (Finset.univ : Finset (Fin 73)).map Fin.valEmbedding := by decide +kernel
    rw [hm, bigSep_map]
    unfold Pipeline.ownSems0
    refine BI.bigSep_congr fun j _ => ?_
    have hj : (osem0 j) = SemLoc.dma (dcell (Fin.valEmbedding j)) := by
      show SemLoc.dma _ = SemLoc.dma _
      congr 1
      apply Fin.ext
      show 2 + j.val = (2 + j.val) % 75
      have := j.isLt
      omega
    rw [hj]
  rw [e1, sep_consec (show 0 ≤ 64 by omega) (show 64 ≤ 73 by omega), sep_consec (show 64 ≤ 68 by omega) (show 68 ≤ 73 by omega),
    sep_consec (show 68 ≤ 72 by omega) (show 72 ≤ 73 by omega)]
  have a1 : (bigSep (Finset.Ico 0 64) (fun g => semVal ((c : Thread nD τ), SemLoc.dma (dcell g)) 0) : sProp 𝕄)
      = bigSep (Finset.Ico 0 64) (fun g => semVal ((c : Thread nD τ), SemLoc.dma (semIn (g % 64))) 0) :=
    BI.bigSep_congr fun g hg => by rw [dcell_in g (Finset.mem_Ico.mp hg).2]
  have a2 : (bigSep (Finset.Ico 64 68) (fun g => semVal ((c : Thread nD τ), SemLoc.dma (dcell g)) 0) : sProp 𝕄)
      = bigSep (Finset.Ico 0 4) (fun g => semVal ((c : Thread nD τ), SemLoc.dma (semE (g % 4))) 0) :=
    (sep_shift 64 4 _).trans (BI.bigSep_congr fun g hg => by rw [dcell_E g (Finset.mem_Ico.mp hg).2])
  have a3 : (bigSep (Finset.Ico 68 72) (fun g => semVal ((c : Thread nD τ), SemLoc.dma (dcell g)) 0) : sProp 𝕄)
      = bigSep (Finset.Ico 0 4) (fun g => semVal ((c : Thread nD τ), SemLoc.dma (semO (g % 4))) 0) :=
    (sep_shift 68 4 _).trans (BI.bigSep_congr fun g hg => by rw [dcell_O g (Finset.mem_Ico.mp hg).2])
  have a4 : (bigSep (Finset.Ico 72 73) (fun g => semVal ((c : Thread nD τ), SemLoc.dma (dcell g)) 0) : sProp 𝕄)
      = semVal ((c : Thread nD τ), SemLoc.dma cc0_scratch7.sem) 0 := by
    rw [show Finset.Ico 72 73 = {72} by decide, bigSep_singleton, dcell_S]
  rw [a1, a2, a3, a4]
  rfl

/-- The operands the body's copies read, and those they write. -/
def H0 : Finset (Ref sig .tc) := {main_v3, main_arg2}
def R0 : Finset (Ref sig .tc) := {main_v6_0, main_v6_1}
/-- What the host writes after the region. -/
def T0 : Finset (Ref sig .tc) := {main_v7, main_v8, main_v9, main_v10}
theorem H0_sub : H0 ⊆ Pipeline.restRefs sig spec0 := by decide
theorem R0_sub : R0 ⊆ Pipeline.restRefs sig spec0 \ H0 := by decide

theorem hbmPts0_eq (c : Dev nD) (V : (b : Ref sig .tc) → Buf (Elt F) ((c : Thread nD τ).loc b)) :
    (bigSep H0 (fun b => ((c : Thread nD τ).loc b) ↦{fullShare} V b) : sProp 𝕄)
      = iprop((((c : Thread nD τ).loc main_v3) ↦{fullShare} V main_v3) ∗ (((c : Thread nD τ).loc main_arg2) ↦{fullShare} V main_arg2)) := by
  rw [BI.bigSep_eq_bigSepL_of_eq [main_v3, main_arg2] (by decide) (by decide)]; rfl
theorem resPts0_eq (c : Dev nD) (V : (b : Ref sig .tc) → Buf (Elt F) ((c : Thread nD τ).loc b)) :
    (bigSep R0 (fun b => ((c : Thread nD τ).loc b) ↦{fullShare} V b) : sProp 𝕄)
      = iprop((((c : Thread nD τ).loc main_v6_0) ↦{fullShare} V main_v6_0) ∗ (((c : Thread nD τ).loc main_v6_1) ↦{fullShare} V main_v6_1)) := by
  rw [BI.bigSep_eq_bigSepL_of_eq [main_v6_0, main_v6_1] (by decide) (by decide)]; rfl
theorem ownedPts0_eq (c : Dev nD) :
    (Pipeline.owned R0 c : sProp 𝕄)
      = iprop((∃ f, ((c : Thread nD τ).loc main_v6_0) ↦{fullShare} f) ∗ (∃ f, ((c : Thread nD τ).loc main_v6_1) ↦{fullShare} f)) := by
  unfold Pipeline.owned; rw [BI.bigSep_eq_bigSepL_of_eq [main_v6_0, main_v6_1] (by decide) (by decide)]; rfl

/-! ## @main around the region, at this algebra -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The host lines after the region write `T0` only. -/
theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl | rfl <;>
    simp only [StableHlo.unary_writes, StableHlo.reshape_writes, Finset.mem_singleton] at hb <;>
    (have := Proc.devRef_injective _ hb; subst this; decide)

/-- The token array as the region finds it: the argument's words. -/
theorem V_tokens (c : Dev nD) :
    V m c main_v0 = (shapeCast S16384 (m ((c : Thread nD τ).loc main_arg0)) shapeCasts_S2x8192_S16384 : S16384.Idx → BitVec 32) := by
  show StableHlo.after hostOps0 _ (Proc.devRef .tc main_v0) = _
  after_results
  rfl

/-- A window's block holds only its array's words. -/
theorem iblk_range {c : Dev nD} (h : ∀ x, (m ((c : Thread nD τ).loc main_arg0) x : BitVec 32).toNat < 64000) (t : Fin cfg0.N) (n : ℕ) (hn : n < 16384) :
    (tkOf (iblk m c 0 t : S16384.Idx → BitVec 32) n).toNat < 64000 := by
  have hx : ∀ y : S16384.Idx, ((iblk m c 0 t : S16384.Idx → BitVec 32) y).toNat < 64000 := by
    intro y
    show ((V m c main_v0 : S16384.Idx → BitVec 32) _).toNat < 64000
    rw [V_tokens]
    exact h _
  unfold tkOf
  first
  | exact hx _
  | (split
     · exact hx _
     · exact hx _)
  | (rw [dif_pos hn]; exact hx _)

/-! ## The windows -/

theorem beforeD0_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD0_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The current staging memrefs. -/
abbrev ms0_0 (t : Fin cfg0.N) : Memref sig .tc .smem S16384 .i32 := win0_0.stage (cfg0.slots t 0)
abbrev ms0_1 (t : Fin cfg0.N) : Memref sig .tc .vmem S44x128 .f32 := win0_1.stage (cfg0.slots t 1)

/-! ## The body's run at a point -/

/-- What the point starts from, beside the pipeline's own: the scoped buffers at anything, the cells at zero, the operands
    the copies read, the results at anything, the windows' blocks, no debt. -/
def PtIn (c : Dev nD) (t : Fin cfg0.N) : sProp 𝕄 :=
  iprop(Pipeline.scopedRest (Ix := Unit) (Name := ℕ) (U := Pipeline.UD sig nD τ) (Lvl := ℕ) (Val := Elt F) spec0 c
    ∗ Pipeline.ownSems0 (Ix := Unit) (Name := ℕ) (U := Pipeline.UD sig nD τ) (Lvl := ℕ) (Val := Elt F) (τ := τ) osem0 c
    ∗ bigSep H0 (fun b => ((c : Thread nD τ).loc b) ↦{fullShare} V m c b)
    ∗ (∃ f, ((c : Thread nD τ).loc main_v6_0) ↦{fullShare} f) ∗ (∃ f, ((c : Thread nD τ).loc main_v6_1) ↦{fullShare} f)
    ∗ owns (c : Thread nD τ) (ms0_0 t) fullShare (iblk m c 0 t) ∗ owns (c : Thread nD τ) (ms0_1 t) fullShare (iblk m c 1 t)
    ∗ (∃ W, owes (c : Thread nD τ) 0 W))

/-- What it ends at: the same, with the results holding every group. -/
def PtOut (c : Dev nD) (t : Fin cfg0.N) (PE PO : ℕ → ℕ → ℕ → Elt F .bf16 → Prop) : sProp 𝕄 :=
  iprop(Pipeline.scopedRest (Ix := Unit) (Name := ℕ) (U := Pipeline.UD sig nD τ) (Lvl := ℕ) (Val := Elt F) spec0 c
    ∗ Pipeline.ownSems0 (Ix := Unit) (Name := ℕ) (U := Pipeline.UD sig nD τ) (Lvl := ℕ) (Val := Elt F) (τ := τ) osem0 c
    ∗ bigSep H0 (fun b => ((c : Thread nD τ).loc b) ↦{fullShare} V m c b)
    ∗ (∃ f, ⌜∀ g ∈ Finset.Ico 0 2048, oGood PO g f⌝ ∗ ((c : Thread nD τ).loc main_v6_0) ↦{fullShare} f)
    ∗ (∃ f, ⌜∀ g ∈ Finset.Ico 0 2048, oGood PE g f⌝ ∗ ((c : Thread nD τ).loc main_v6_1) ↦{fullShare} f)
    ∗ owns (c : Thread nD τ) (ms0_0 t) fullShare (iblk m c 0 t) ∗ owns (c : Thread nD τ) (ms0_1 t) fullShare (iblk m c 1 t)
    ∗ (∃ W, owes (c : Thread nD τ) 0 W))

/-- The run of a trip of the main loop, whatever the staging buffers the windows are on. -/
abbrev TripRuns (c : Dev nD) (t : Fin cfg0.N) (PE PO : ℕ → ℕ → ℕ → Elt F .bf16 → Prop) : Prop :=
  ∀ (fA : Buf (Elt F) ((ms0_0 t).view.loc (c : Thread nD τ))) (fW : Buf (Elt F) ((ms0_1 t).view.loc (c : Thread nD τ))),
    (ms0_0 t).view.read (Elt F) fA = iblk m c 0 t → (ms0_1 t).view.read (Elt F) fW = iblk m c 1 t →
    ∀ (k0_t2 : Fin k0_t2_loop.trips) (u : Unit), Trip c (ms0_0 t) fA (ms0_1 t) fW (V m c main_arg2) (V m c main_v3) (tkOf (iblk m c 0 t : S16384.Idx → BitVec 32)) PE PO k0_t2.val
      ⊢ wpK c (k0_t2_body (F := F) (ms0_0 t) (hstage0_0 0) (Memref.whole main_v3) (Memref.isWhole_whole _) (Memref.whole main_arg2) (Memref.isWhole_whole _) (ms0_1 t) (hstage0_1 0) (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 u)
        (fun _ => Trip c (ms0_0 t) fA (ms0_1 t) fW (V m c main_arg2) (V m c main_v3) (tkOf (iblk m c 0 t : S16384.Idx → BitVec 32)) PE PO (k0_t2.val + 1))

theorem run_point (c : Dev nD) (t : Fin cfg0.N) (PE PO : ℕ → ℕ → ℕ → Elt F .bf16 → Prop)
    (h : ∀ x, (m ((c : Thread nD τ).loc main_arg0) x : BitVec 32).toNat < 64000) (h2 : TripRuns m c t PE PO) :
    PtIn m c t ⊢ wpK c (bodyAt0 t) (fun _ => PtOut m c t PE PO) := by
  unfold PtIn
  rw [scopedRest0_eq, ownSems_eq, hbmPts0_eq]
  unfold owns
  iintro ⟨⟨HB, HSE, HSO, HS⟩, Hq, ⟨HT, H2⟩, HO, HE, ⟨%fA, %hA, HA⟩, ⟨%fW, %hW, HWt⟩, HW⟩
  have f₀ : Elt F .bf16 := (V m c main_v6_0 : S2048x44x8x128.Idx → Elt F .bf16) (ix4 (0 : Fin 2048) (0 : Fin 44) (0 : Fin 8) (0 : Fin 128))
  have hk := fr_kernel (c := c) (arg0 := ms0_0 t) (arg3 := ms0_1 t) (tokF := (iblk m c 0 t : S16384.Idx → BitVec 32)) (fA := fA) (fW := fW) (fT := V m c main_v3) (fS := V m c main_arg2) hA (hstage0_0 0) (hstage0_1 0)
    (fun n hn => iblk_range m h t n hn) PE PO f₀ (h2 fA fW hA hW)
  have hk' := hk.trans (wp_mono _ _ _ fun _ => (show BodyOut c (ms0_0 t) fA (ms0_1 t) fW (V m c main_arg2) (V m c main_v3) PE PO ⊢ PtOut m c t PE PO from by
    unfold BodyOut PtOut
    rw [scopedRest0_eq, ownSems_eq, hbmPts0_eq]
    unfold owns
    iintro ⟨HA, HWt, HT, H2, HS, HB, HSE, HSO, HE, HO, Hq, HW⟩
    isplitl [HB HSE HSO HS]
    · isplitl [HB]; · iexact HB
      isplitl [HSE]; · iexact HSE
      isplitl [HSO]; · iexact HSO
      iexact HS
    isplitl [Hq]; · iexact Hq
    isplitl [HT H2]
    · isplitl [HT]; · iexact HT
      iexact H2
    isplitl [HO]; · iexact HO
    isplitl [HE]; · iexact HE
    isplitl [HA]
    · iexists fA; isplitr; swap; · iexact HA
      ipureintro; exact hA
    isplitl [HWt]
    · iexists fW; isplitr; swap; · iexact HWt
      ipureintro; exact hW
    iexact HW))
  iapply hk'
  unfold BodyIn
  isplitl [HA]; · iexact HA
  isplitl [HWt]; · iexact HWt
  isplitl [HT]; · iexact HT
  isplitl [H2]; · iexact H2
  isplitl [HS]; · iexact HS
  isplitl [HB]; · iexact HB
  isplitl [HSE]; · iexact HSE
  isplitl [HSO]; · iexact HSO
  isplitl [HE]; · iexact HE
  isplitl [HO]; · iexact HO
  isplitl [Hq]; · iexact Hq
  iexact HW

theorem defs₀_row (t : Fin cfg0.N) :
    defs₀ (F := F) .tc cfg0.body (cfg0.bodyArgs t (cfg0.slots t)) = bodyAt0 t := by
  unfold defs₀; rw [Defs.onTc_tc]

end Cert.Kernel.Hand
-- ==== Proof.KB.Frame.lean ====
/-
  The frame of the program: it runs, its arguments end as they were, every semaphore counter ends at zero.
-/
module

public import proofs.«01_k».proof.Proof.Gen.Kernel.Frame
public import Idealize.ShloMosaic.Lib.Pipeline.FrameBody
public import Idealize.ShloMosaic.Lib.Pipeline.FrameSuffixV
public import proofs.«01_k».proof.Proof.KB.Launch

@[expose] public section

set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [BitOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The proof data of the one pipeline on core `c`: the arrays as the region finds them, each window's block left in place,
    the two results owned, nothing owed. -/
def dats (_ : Fin 1) (c : Dev nD) : Dat τ (Elt F) Unit ℕ (Pipeline.UD sig nD τ) ℕ cfg0 c where
  A w := V m c (Pipeline.arrRef spec0 w)
  after
    | 0, t => iblk m c 0 t
    | 1, t => iblk m c 1 t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

variable (hm : ∀ (c : Dev nD) x, (m ((c : Thread nD τ).loc main_arg0) x : BitVec 32).toNat < 64000)

/-- Nothing is asked of the results' values. -/
abbrev PT : ℕ → ℕ → ℕ → Elt F .bf16 → Prop := fun _ _ _ _ => True

include hm in
theorem trips_run (c : Dev nD) (t : Fin cfg0.N) : TripRuns m c t PT PT := fun fA fW hA hW k0_t2 u =>
  fr_t2 hA (hstage0_0 0) (hstage0_1 0) (fun n hn => iblk_range m (hm c) t n hn) PT PT (fun _ _ _ _ => trivial) (fun _ _ _ _ => trivial) k0_t2 u

include hm in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Pipeline.ΦDR osem0 spec0 H0 R0 (V m) c from rfl,
    show (dats m 0 c).Φ t.castSucc = Pipeline.ΦDR osem0 spec0 H0 R0 (V m) c from rfl, Pipeline.ΦDR_eq, ownedPts0_eq]
  unfold Dat.owesAt Pipeline.owesWithin
  rw [show (dats m 0 c).owed t.castSucc = 0 from rfl, show (dats m 0 c).owed t.succ = 0 from rfl,
    show (dats m 0 c).after 0 t = iblk m c 0 t from rfl, show (dats m 0 c).after 1 t = iblk m c 1 t from rfl]
  have hpost : iprop(PtOut m c t PT PT ∗ (∃ r, prngReg c r)) ⊢ iprop((Pipeline.scopedRest (Ix := Unit) (Name := ℕ) (U := Pipeline.UD sig nD τ) (Lvl := ℕ) (Val := Elt F) spec0 c
      ∗ (∃ r, prngReg c r)
      ∗ Pipeline.ownSems0 (Ix := Unit) (Name := ℕ) (U := Pipeline.UD sig nD τ) (Lvl := ℕ) (Val := Elt F) (τ := τ) osem0 c
      ∗ (bigSep H0 fun b => ((c : Thread nD τ).loc b) ↦{fullShare} V m c b)
      ∗ (∃ f, ((c : Thread nD τ).loc main_v6_0) ↦{fullShare} f) ∗ (∃ f, ((c : Thread nD τ).loc main_v6_1) ↦{fullShare} f))
      ∗ (∃ W, owes (c : Thread nD τ) 0 W)
      ∗ owns (c : Thread nD τ) (ms0_0 t) fullShare (iblk m c 0 t) ∗ owns (c : Thread nD τ) (ms0_1 t) fullShare (iblk m c 1 t)) := by
    unfold PtOut
    iintro ⟨⟨HS, Hq, HH, ⟨%fo, -, HO⟩, ⟨%fe, -, HE⟩, H0, H1, HW⟩, Hg⟩
    isplitl [HS Hg Hq HH HO HE]
    · isplitl [HS]; · iexact HS
      isplitl [Hg]; · iexact Hg
      isplitl [Hq]; · iexact Hq
      isplitl [HH]; · iexact HH
      isplitl [HO]; · iexists fo; iexact HO
      iexists fe; iexact HE
    isplitl [HW]; · iexact HW
    isplitl [H0]; · iexact H0
    iexact H1
  have hk := (ent_frame (run_point m c t PT PT (hm c) (trips_run m hm c t)) (G := iprop(∃ r, prngReg c r))).trans (wp_mono _ _ _ fun _ => hpost)
  refine BIBase.Entails.trans ?_ (hk.trans (wp_mono _ _ _ fun _ => ?_))
  · unfold PtIn
    iintro ⟨⟨HS, Hg, Hq, HH, HO, HE⟩, ⟨%W, -, HW⟩, ⟨%d0, H0⟩, ⟨%d1, H1⟩⟩
    rw [beforeD0_0 m (dats m 0 c) (A_eq m c 0) (fun _ => rfl) t d0, beforeD0_1 m (dats m 0 c) (A_eq m c 1) (fun _ => rfl) t d1]
    isplitr [Hg]; swap; · iexact Hg
    isplitl [HS]; · iexact HS
    isplitl [Hq]; · iexact Hq
    isplitl [HH]; · iexact HH
    isplitl [HO]; · iexact HO
    isplitl [HE]; · iexact HE
    isplitl [H0]; · iexact H0
    isplitl [H1]; · iexact H1
    iexists W; iexact HW
  · iintro ⟨HP, ⟨%W', HW'⟩, HR⟩
    isplitl [HP]; · iexact HP
    isplitl [HW']
    · iexists W'; isplitr; · ipureintro; exact fun _ _ => Or.inl trivial
      iexact HW'
    iexact HR

include hm in
theorem body_obligation (c : Dev nD) : BodyObligation (dats (F := F) m 0 c) (defs₀ (F := F)) Variants.none () Set.univ := fun t => by
  rw [bigSep_W0, bigSep_W0, defs₀_row]
  exact triple_restated (sound_body m hm c t) rfl .rfl fun _ => .rfl

/-! ## The run and the frame -/

include hm in
set_option backward.isDefEq.respectTransparency.types false in
theorem run_main : θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m hm c).loose) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmainD m Variants.none) (hA := A_eq m)
    (hin := fun _ => .rfl) (hout := fun _ => .rfl)

include hm in
/-- The frame at any number system. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩) (run_main m ρ hm)

end Cert.Kernel.Hand
-- ==== Proof.KI.Geom.lean ====
/-
  The sets of buffer elements the kernel's copies and loads go through, named by plain arithmetic on the first
  coordinate: a table row, a row or a slot of the input ring, a block of a result, a slot of a staging ring.
-/
module

public import proofs.«01_k».proof.Proof.Gen.KernelIdeal.Skeleton
public import Idealize.ShloMosaic.Lib.ViewIndex

@[expose] public section

noncomputable section

namespace Cert.KernelIdeal.Hand

open Cert.KernelIdeal Cert.KernelIdeal.Gen
open Idealize.ShloMosaic Idealize.ShloMosaic.TcCoe

/-- Row `r` of the table of words. -/
def tRow (r : ℕ) : Finset S16000x5632.Idx := Finset.univ.filter fun i => (i 0).val = r
/-- Row `r` of the input ring. -/
def bRow (r : ℕ) : Finset S512x1x5632.Idx := Finset.univ.filter fun i => (i 0).val = r
/-- Slot `s` of the input ring: eight rows. -/
def bSlot (s : ℕ) : Finset S512x1x5632.Idx := Finset.univ.filter fun i => (i 0).val / 8 = s
/-- Block `g` of a result. -/
def oBlk (g : ℕ) : Finset S2048x44x8x128.Idx := Finset.univ.filter fun i => (i 0).val = g
/-- Slot `s` of a staging ring: 352 rows. -/
def sSlot (s : ℕ) : Finset S1408x128.Idx := Finset.univ.filter fun i => (i 0).val / 352 = s

theorem mem_tRow {r : ℕ} {i : S16000x5632.Idx} : i ∈ tRow r ↔ (i 0).val = r := by simp [tRow]
theorem mem_bRow {r : ℕ} {i : S512x1x5632.Idx} : i ∈ bRow r ↔ (i 0).val = r := by simp [bRow]
theorem mem_bSlot {r : ℕ} {i : S512x1x5632.Idx} : i ∈ bSlot r ↔ (i 0).val / 8 = r := by simp [bSlot]
theorem mem_oBlk {r : ℕ} {i : S2048x44x8x128.Idx} : i ∈ oBlk r ↔ (i 0).val = r := by simp [oBlk]
theorem mem_sSlot {r : ℕ} {i : S1408x128.Idx} : i ∈ sSlot r ↔ (i 0).val / 352 = r := by simp [sSlot]

abbrev hbT : Memref sig .tc .hbm S16000x5632 .i32 := Memref.whole main_v3
abbrev bufM : Memref sig .tc .vmem S512x1x5632 .i32 := Memref.whole cc0_scratch0
abbrev seM : Memref sig .tc .vmem S1408x128 .bf16 := Memref.whole cc0_scratch1
abbrev soM : Memref sig .tc .vmem S1408x128 .bf16 := Memref.whole cc0_scratch2
abbrev oM : Memref sig .tc .hbm S2048x44x8x128 .bf16 := Memref.whole main_v6_0
abbrev eM : Memref sig .tc .hbm S2048x44x8x128 .bf16 := Memref.whole main_v6_1

theorem tRow_set {off : Fin 2 → ℕ} (r : ℕ) (hoff : off = ![r, 0])
    (inb : ∀ a, off a + S1x5632.size a ≤ S16000x5632.size a) (hp) :
    (hbT.slice (Rect.unit (s := S16000x5632) off S1x5632.size inb) hp).view.set = tRow r := by
  subst hoff
  refine (View.set_slice_whole main_v3 _).trans ?_
  ext i
  rw [Rect.mem_set_unit, mem_tRow]
  refine Fin.forall_fin_two.trans ?_
  have h1 : (i 1).val < 5632 := (i 1).isLt
  show (r ≤ (i 0).val ∧ (i 0).val < r + 1) ∧ (0 ≤ (i 1).val ∧ (i 1).val < 0 + 5632) ↔ _
  omega

theorem bRow_set {off : Fin 3 → ℕ} (r : ℕ) (hoff : off = ![r, 0, 0])
    (inb : ∀ a, off a + S1x1x5632.size a ≤ S512x1x5632.size a) (hp) (hq) :
    ((bufM.slice (Rect.unit (s := S512x1x5632) off S1x1x5632.size inb) hp).squeeze S1x5632 hq).view.set = bRow r := by
  subst hoff
  refine (View.set_reshape ((bufM.slice (Rect.unit (s := S512x1x5632) ![r, 0, 0] S1x1x5632.size inb) hp).view) _).trans ?_
  refine (View.set_slice_whole cc0_scratch0 _).trans ?_
  ext i
  rw [Rect.mem_set_unit, mem_bRow]
  have h1 : (i 1).val < 1 := (i 1).isLt
  have h2 : (i 2).val < 5632 := (i 2).isLt
  constructor
  · intro h
    have h0 := h 0
    change r ≤ (i 0).val ∧ (i 0).val < r + 1 at h0
    omega
  · intro h a
    fin_cases a
    · change r ≤ (i 0).val ∧ (i 0).val < r + 1; omega
    · change 0 ≤ (i 1).val ∧ (i 1).val < 0 + 1; omega
    · change 0 ≤ (i 2).val ∧ (i 2).val < 0 + 5632; omega

theorem bSlot_set {off : Fin 3 → ℕ} (s : ℕ) (hoff : off = ![8 * s, 0, 0])
    (inb : ∀ a, off a + S8x1x5632.size a ≤ S512x1x5632.size a) :
    (Rect.unit (s := S512x1x5632) off S8x1x5632.size inb).set = bSlot s := by
  subst hoff
  ext i
  rw [Rect.mem_set_unit, mem_bSlot]
  have h1 : (i 1).val < 1 := (i 1).isLt
  have h2 : (i 2).val < 5632 := (i 2).isLt
  constructor
  · intro h
    have h0 := h 0
    change 8 * s ≤ (i 0).val ∧ (i 0).val < 8 * s + 8 at h0
    omega
  · intro h a
    fin_cases a
    · change 8 * s ≤ (i 0).val ∧ (i 0).val < 8 * s + 8; omega
    · change 0 ≤ (i 1).val ∧ (i 1).val < 0 + 1; omega
    · change 0 ≤ (i 2).val ∧ (i 2).val < 0 + 5632; omega

/-- The elements of one block of the array shape of a result. -/
theorem oBlk_rect {off : Fin 4 → ℕ} (g : ℕ) (hoff : off = ![g, 0, 0, 0])
    (inb : ∀ a, off a + S1x44x8x128.size a ≤ S2048x44x8x128.size a) :
    (Rect.unit (s := S2048x44x8x128) off S1x44x8x128.size inb).set = oBlk g := by
  subst hoff
  ext i
  rw [Rect.mem_set_unit, mem_oBlk]
  have h1 : (i 1).val < 44 := (i 1).isLt
  have h2 : (i 2).val < 8 := (i 2).isLt
  have h3 : (i 3).val < 128 := (i 3).isLt
  constructor
  · intro h
    have h0 := h 0
    change g ≤ (i 0).val ∧ (i 0).val < g + 1 at h0
    omega
  · intro h a
    fin_cases a
    · change g ≤ (i 0).val ∧ (i 0).val < g + 1; omega
    · change 0 ≤ (i 1).val ∧ (i 1).val < 0 + 44; omega
    · change 0 ≤ (i 2).val ∧ (i 2).val < 0 + 8; omega
    · change 0 ≤ (i 3).val ∧ (i 3).val < 0 + 128; omega

theorem oBlk_set_o {off : Fin 4 → ℕ} (g : ℕ) (hoff : off = ![g, 0, 0, 0])
    (inb : ∀ a, off a + S1x44x8x128.size a ≤ S2048x44x8x128.size a) (hp) (hq) :
    ((oM.slice (Rect.unit (s := S2048x44x8x128) off S1x44x8x128.size inb) hp).squeeze S44x8x128 hq).view.set = oBlk g :=
  (View.set_reshape ((oM.slice (Rect.unit (s := S2048x44x8x128) off S1x44x8x128.size inb) hp).view) _).trans
    ((View.set_slice_whole main_v6_0 _).trans (oBlk_rect g hoff inb))

theorem oBlk_set_e {off : Fin 4 → ℕ} (g : ℕ) (hoff : off = ![g, 0, 0, 0])
    (inb : ∀ a, off a + S1x44x8x128.size a ≤ S2048x44x8x128.size a) (hp) (hq) :
    ((eM.slice (Rect.unit (s := S2048x44x8x128) off S1x44x8x128.size inb) hp).squeeze S44x8x128 hq).view.set = oBlk g :=
  (View.set_reshape ((eM.slice (Rect.unit (s := S2048x44x8x128) off S1x44x8x128.size inb) hp).view) _).trans
    ((View.set_slice_whole main_v6_1 _).trans (oBlk_rect g hoff inb))

/-- The elements of one slot of the array shape of a staging ring. -/
theorem sSlot_rect {off : Fin 2 → ℕ} (s : ℕ) (hoff : off = ![352 * s, 0])
    (inb : ∀ a, off a + S352x128.size a ≤ S1408x128.size a) :
    (Rect.unit (s := S1408x128) off S352x128.size inb).set = sSlot s := by
  subst hoff
  ext i
  rw [Rect.mem_set_unit, mem_sSlot, Fin.forall_fin_two]
  have h1 : (i 1).val < 128 := (i 1).isLt
  show (352 * s ≤ (i 0).val ∧ (i 0).val < 352 * s + 352) ∧ (0 ≤ (i 1).val ∧ (i 1).val < 0 + 128) ↔ _
  omega

theorem sSlot_set_e {off : Fin 2 → ℕ} (s : ℕ) (hoff : off = ![352 * s, 0])
    (inb : ∀ a, off a + S352x128.size a ≤ S1408x128.size a) (hp) (h1) (h2) (h3) :
    ((seM.slice (Rect.unit (s := S1408x128) off S352x128.size inb) hp).reshape S44x8x128 h1 h2 h3).view.set = sSlot s :=
  (View.set_reshape ((seM.slice (Rect.unit (s := S1408x128) off S352x128.size inb) hp).view) _).trans
    ((View.set_slice_whole cc0_scratch1 _).trans (sSlot_rect s hoff inb))

theorem sSlot_set_o {off : Fin 2 → ℕ} (s : ℕ) (hoff : off = ![352 * s, 0])
    (inb : ∀ a, off a + S352x128.size a ≤ S1408x128.size a) (hp) (h1) (h2) (h3) :
    ((soM.slice (Rect.unit (s := S1408x128) off S352x128.size inb) hp).reshape S44x8x128 h1 h2 h3).view.set = sSlot s :=
  (View.set_reshape ((soM.slice (Rect.unit (s := S1408x128) off S352x128.size inb) hp).view) _).trans
    ((View.set_slice_whole cc0_scratch2 _).trans (sSlot_rect s hoff inb))

/-! ## The offsets and the conditions of the main loop's trip, in closed form -/

theorem off33 : ∀ k : Fin k0_t2_loop.trips, 1 ≤ k.val → k0_off33 k = ![(k.val - 1) % 4] := by decide +kernel
theorem off34 : ∀ k : Fin k0_t2_loop.trips, 1 ≤ k.val → k0_off34 k = ![k.val - 1, 0, 0, 0] := by decide +kernel
theorem off35 : ∀ k : Fin k0_t2_loop.trips, 1 ≤ k.val → k0_off35 k = ![352 * ((k.val - 1) % 4), 0] := by decide +kernel
theorem off68 : ∀ k : Fin k0_t2_loop.trips, 4 ≤ k.val → k0_off68 k = ![(k.val - 4) % 4] := by decide +kernel
theorem off69 : ∀ k : Fin k0_t2_loop.trips, 4 ≤ k.val → k0_off69 k = ![k.val - 4, 0, 0, 0] := by decide +kernel
theorem off70 : ∀ k : Fin k0_t2_loop.trips, 4 ≤ k.val → k0_off70 k = ![352 * ((k.val - 4) % 4), 0] := by decide +kernel

theorem cond1 : ∀ k : Fin k0_t2_loop.trips, k0_cond1 k = 1#1 ↔ 1 ≤ k.val := by decide +kernel
theorem cond2 : ∀ k : Fin k0_t2_loop.trips, k0_cond2 k = 1#1 ↔ k.val + 63 < 2048 := by decide +kernel
theorem cond3 : ∀ k : Fin k0_t2_loop.trips, k0_cond3 k = 1#1 ↔ 4 ≤ k.val := by decide +kernel
theorem trips1 : k0_t1_loop.trips = 63 := by decide +kernel
theorem trips2 : k0_t2_loop.trips = 2048 := by decide +kernel
theorem trips3 : k0_t3_loop.trips = 4 := by decide +kernel

end Cert.KernelIdeal.Hand
-- ==== Proof.KI.Ring.lean ====
/-
  The kernel's two rings as propositions, and the rule of each of the steps that move them.

  The INPUT ring has 64 slots of eight rows: slot `s` is FREE (its eight rows at anything, its counter at zero, its
  eight shares of the table whole) or holds the eight row copies of a group IN FLIGHT (a `Batch` of eight deliveries,
  and what is left of each share of the table). The two STAGING rings have four slots each: a slot is free, holds a
  computed group, or is being copied out to its block of the result (a `Batch` of one delivery).
-/
module

public import proofs.«01_k».proof.Proof.KI.Geom
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ValueIdx

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

/-- The proof's user algebra: the pipeline library's beside the transfers' counters. -/
local notation "𝕄" => MT nD τ sig Unit (Elt F) ℕ (Pipeline.UD sig nD τ) ℕ

/-- The counters of the transfers. -/
abbrev EC : UEmb Counters 𝕄 := countersEmb (U := Pipeline.UD sig nD τ)

/-- The run of a piece of the body on core `c`. -/
abbrev wpK (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## The semaphores by number -/

/-- The counter of input slot `s`, of the emb copies' slot `s`, of the out copies' slot `s`. -/
def semIn (s : ℕ) : DmaSem sig := ⟨2 + s % 64, by have : s % 64 < 64 := Nat.mod_lt _ (by decide); show _ < 75; omega⟩
def semE (s : ℕ) : DmaSem sig := ⟨66 + s % 4, by have : s % 4 < 4 := Nat.mod_lt _ (by decide); show _ < 75; omega⟩
def semO (s : ℕ) : DmaSem sig := ⟨70 + s % 4, by have : s % 4 < 4 := Nat.mod_lt _ (by decide); show _ < 75; omega⟩

theorem semIn_eq {off : Fin 1 → ℕ} (s : ℕ) (hs : s < 64) (hoff : off = ![s]) (inb) :
    ((cc0_scratch4.slice (Rect.unit (s := S64) off S1.size inb)).squeeze S_ squeezes_S1_S_).sem = semIn s := by
  subst hoff
  apply Fin.ext
  show 2 + (S64.rowMajor _).val = 2 + s % 64
  rw [Nat.mod_eq_of_lt hs]
  congr 1
  refine (Shape.rowMajor_val_one (d := ![64]) _).trans ?_
  exact (show ∀ z : ℕ, z < 1 → s + 1 * z = s by omega) _ ((Shape.reshapeEquiv (s := (Rect.unit (s := S64) ![s] S1.size inb).shape) squeezes_S1_S_.numel_eq fun i : Fin 0 => i.elim0) 0).isLt

theorem semE_eq {off : Fin 1 → ℕ} (s : ℕ) (hs : s < 4) (hoff : off = ![s]) (inb) :
    ((cc0_scratch5.slice (Rect.unit (s := S4) off S1.size inb)).squeeze S_ squeezes_S1_S_).sem = semE s := by
  subst hoff
  apply Fin.ext
  show 66 + (S4.rowMajor _).val = 66 + s % 4
  rw [Nat.mod_eq_of_lt hs]
  congr 1
  refine (Shape.rowMajor_val_one (d := ![4]) _).trans ?_
  exact (show ∀ z : ℕ, z < 1 → s + 1 * z = s by omega) _ ((Shape.reshapeEquiv (s := (Rect.unit (s := S4) ![s] S1.size inb).shape) squeezes_S1_S_.numel_eq fun i : Fin 0 => i.elim0) 0).isLt

theorem semO_eq {off : Fin 1 → ℕ} (s : ℕ) (hs : s < 4) (hoff : off = ![s]) (inb) :
    ((cc0_scratch6.slice (Rect.unit (s := S4) off S1.size inb)).squeeze S_ squeezes_S1_S_).sem = semO s := by
  subst hoff
  apply Fin.ext
  show 70 + (S4.rowMajor _).val = 70 + s % 4
  rw [Nat.mod_eq_of_lt hs]
  congr 1
  refine (Shape.rowMajor_val_one (d := ![4]) _).trans ?_
  exact (show ∀ z : ℕ, z < 1 → s + 1 * z = s by omega) _ ((Shape.reshapeEquiv (s := (Rect.unit (s := S4) ![s] S1.size inb).shape) squeezes_S1_S_.numel_eq fun i : Fin 0 => i.elim0) 0).isLt

/-! ## The credits -/

/-- What a row copy credits, and what a copy out credits. -/
def NR : ℕ := (cc0_scratch0).dmaCredit S1x5632 .i32
def NO : ℕ := (main_v6_0).dmaCredit S44x8x128 .bf16
theorem NR8 : (cc0_scratch0).dmaCredit S8x1x5632 .i32 = NR * 8 := by decide +kernel
theorem NR_pos : 0 < NR := by decide +kernel
theorem NO_pos : 0 < NO := by decide +kernel
theorem NOe : (main_v6_1).dmaCredit S44x8x128 .bf16 = NO := by decide +kernel

/-! ## The points-tos -/

/-- The table at share `q`, on the elements `S`. -/
abbrev ptT (c : Dev nD) (q : PosShare TreeShare) (S : Finset S16000x5632.Idx) (f : S16000x5632.Idx → BitVec 32) : sProp 𝕄 :=
  (c : Thread nD τ).loc main_v3 ↦[S]{q} f
abbrev ptB (c : Dev nD) (S : Finset S512x1x5632.Idx) (f : S512x1x5632.Idx → BitVec 32) : sProp 𝕄 :=
  (c : Thread nD τ).loc cc0_scratch0 ↦[S]{fullShare} f
abbrev ptSE (c : Dev nD) (S : Finset S1408x128.Idx) (f : S1408x128.Idx → Elt F .bf16) : sProp 𝕄 :=
  (c : Thread nD τ).loc cc0_scratch1 ↦[S]{fullShare} f
abbrev ptSO (c : Dev nD) (S : Finset S1408x128.Idx) (f : S1408x128.Idx → Elt F .bf16) : sProp 𝕄 :=
  (c : Thread nD τ).loc cc0_scratch2 ↦[S]{fullShare} f
abbrev ptO (c : Dev nD) (S : Finset S2048x44x8x128.Idx) (f : S2048x44x8x128.Idx → Elt F .bf16) : sProp 𝕄 :=
  (c : Thread nD τ).loc main_v6_0 ↦[S]{fullShare} f
abbrev ptE (c : Dev nD) (S : Finset S2048x44x8x128.Idx) (f : S2048x44x8x128.Idx → Elt F .bf16) : sProp 𝕄 :=
  (c : Thread nD τ).loc main_v6_1 ↦[S]{fullShare} f

/-- The share of the table that row `R` of the ring's copies read through. -/
def shR (R : ℕ) : PosShare TreeShare := if h : R < 512 then Transfers.dealOf fullShare (Finset.range 512) R else fullShare

/-- The row of the table of words that holds token word `w`'s row. -/
def rowOf (w : BitVec 32) : ℕ := (w >>> (2 : ℕ)).toNat

/-- Row `R` of the ring at contents `f` holds row `r` of the table. -/
def RowGood (fT : S16000x5632.Idx → BitVec 32) (R r : ℕ) (f : S512x1x5632.Idx → BitVec 32) : Prop :=
  ∀ (j : S512x1x5632.Idx) (x : S16000x5632.Idx), (j 0).val = R → (x 0).val = r → (x 1).val = (j 2).val → f j = fT x

/-- Delivery `i` of group `g`'s row copies. -/
def DRow (c : Dev nD) (fT : S16000x5632.Idx → BitVec 32) (tk : ℕ → BitVec 32) (g : ℕ) (i : Fin 8) : sProp 𝕄 :=
  iprop((∃ f, ⌜RowGood fT (8 * (g % 64) + i.val) (rowOf (tk (8 * g + i.val))) f⌝ ∗ ptB c (bRow (8 * (g % 64) + i.val)) f)
    ∗ ptT c (shR (8 * (g % 64) + i.val)) (tRow (rowOf (tk (8 * g + i.val)))) fT)

instance DRow_storable (c : Dev nD) (fT) (tk : ℕ → BitVec 32) (g : ℕ) (i : Fin 8) :
    Storable (upEmb : UEmb _ 𝕄) (DRow (F := F) c fT tk g i) := by unfold DRow; infer_instance

/-- The batch of group `g`'s row copies, `k` of them issued. -/
abbrev BRow (c : Dev nD) (fT : S16000x5632.Idx → BitVec 32) (tk : ℕ → BitVec 32) (g k : ℕ) : sProp 𝕄 :=
  Transfers.Batch EC (c : Thread nD τ) (.dma (semIn (g % 64))) () NR (DRow (F := F) c fT tk g) k 0

/-- What a row copy lands is the table's row. -/
theorem rowGood_write (fT : S16000x5632.Idx → BitVec 32) (R r : ℕ) {o2 : Fin 3 → ℕ} {o3 : Fin 2 → ℕ}
    (h2 : o2 = ![R, 0, 0]) (h3 : o3 = ![r, 0]) (inb2) (inb3) (p2) (p3) (f0 : S512x1x5632.Idx → BitVec 32) :
    RowGood fT R r (((bufM.slice (Rect.unit (s := S512x1x5632) o2 S1x1x5632.size inb2) p2).squeeze S1x5632 squeezes_S1x1x5632_S1x5632).view.write
      (Elt F) f0 (ReadAs.same.apply ((hbT.slice (Rect.unit (s := S16000x5632) o3 S1x5632.size inb3) p3).view.read (Elt F) fT)) Finset.univ) := by
  subst h2 h3
  intro j x hj hx0 hx1
  have hj2 : (j 2).val < 5632 := (j 2).isLt
  have hj1 : (j 1).val < 1 := (j 1).isLt
  let y : S1x5632.Idx := ix2 (0 : Fin 1) (⟨(j 2).val, hj2⟩ : Fin 5632)
  let z : S1x1x5632.Idx := ix3 (0 : Fin 1) (0 : Fin 1) (⟨(j 2).val, hj2⟩ : Fin 5632)
  have hyz : Shape.reshapeEquiv (s := S1x1x5632) squeezes_S1x1x5632_S1x5632.numel_eq y = z := by
    apply Shape.reshapeEquiv_eq_of_rowMajor
    rw [show (S1x1x5632.rowMajor z).val = _ from Shape.rowMajor_val_three (d := ![1, 1, 5632]) z,
      show (S1x5632.rowMajor y).val = _ from Shape.rowMajor_val_two (d := ![1, 5632]) y]
    show (0 * 1 + 0) * 5632 + (j 2).val = 0 * 5632 + (j 2).val
    omega
  have hz : ((bufM.slice (Rect.unit (s := S512x1x5632) ![R, 0, 0] S1x1x5632.size inb2) p2).squeeze S1x5632 squeezes_S1x1x5632_S1x5632).view.emb y = j := by
    show (Rect.unit (s := S512x1x5632) ![R, 0, 0] S1x1x5632.size inb2).emb
      (Shape.reshapeEquiv (s := S1x1x5632) squeezes_S1x1x5632_S1x5632.numel_eq y) = j
    rw [hyz]
    funext a
    apply Fin.ext
    fin_cases a
    · show R + 1 * 0 = (j 0).val; omega
    · show 0 + 1 * 0 = (j 1).val; omega
    · show 0 + 1 * (j 2).val = (j 2).val; omega
  have hx : (hbT.slice (Rect.unit (s := S16000x5632) ![r, 0] S1x5632.size inb3) p3).view.emb y = x := by
    show (Rect.unit (s := S16000x5632) ![r, 0] S1x5632.size inb3).emb y = x
    funext a
    apply Fin.ext
    fin_cases a
    · show r + 1 * 0 = (x 0).val; omega
    · show 0 + 1 * (j 2).val = (x 1).val; omega
  rw [← hz, ← hx]
  exact View.write_emb_of_mem _ _ (Finset.mem_univ y)

/-- The step that issues a row copy. -/
theorem wp_row (c : Dev nD) (fT : S16000x5632.Idx → BitVec 32) (tk : ℕ → BitVec 32) (g i : ℕ) (hi : i < 8)
    {o1 : Fin 1 → ℕ} {o2 : Fin 3 → ℕ} {o3 : Fin 2 → ℕ}
    (h1 : o1 = ![g % 64]) (h2 : o2 = ![8 * (g % 64) + i, 0, 0]) (h3 : o3 = ![rowOf (tk (8 * g + i)), 0])
    (inb1) (inb2) (inb3) (p2) (p3) (hw1) (hw2) (hw3) (f0 : S512x1x5632.Idx → BitVec 32) (Q : PUnit → sProp 𝕄) :
    iprop(ptT (F := F) c (shR (8 * (g % 64) + i)) Finset.univ fT ∗ ptB c (bRow (8 * (g % 64) + i)) f0 ∗ BRow c fT tk g i)
      ⊢ iprop((iprop(BRow c fT tk g (i + 1) ∗ ptT (F := F) c (shR (8 * (g % 64) + i)) (Finset.univ \ tRow (rowOf (tk (8 * g + i)))) fT) -∗ Q ⟨⟩)
        -∗ wpK c (Prog.lift (.enqueueDma (hbT.slice (Rect.unit (s := S16000x5632) o3 S1x5632.size inb3) p3)
            (.here ((bufM.slice (Rect.unit (s := S512x1x5632) o2 S1x1x5632.size inb2) p2).squeeze S1x5632 squeezes_S1x1x5632_S1x5632))
            (.dma ((cc0_scratch4.slice (Rect.unit (s := S64) o1 S1.size inb1)).squeeze S_ squeezes_S1_S_).sem) hw1 hw2 hw3)) Q) := by
  have hm : g % 64 < 64 := Nat.mod_lt _ (by decide)
  have hT := tRow_set (rowOf (tk (8 * g + i))) h3 inb3 p3
  have hB := bRow_set (8 * (g % 64) + i) h2 inb2 p2 squeezes_S1x1x5632_S1x5632
  revert hw3
  rw [semIn_eq (g % 64) hm h1 inb1]
  intro hw3
  iintro ⟨HT, HB, HBt⟩ Hk
  ihave HT' := (pointsTo_split_subset (Finset.subset_univ (tRow (rowOf (tk (8 * g + i)))))).1 $$ HT
  icases HT' with ⟨HT1, HT2⟩
  iapply (Transfers.wp_dmaBatch (defs := defs₀ (F := F)) (Q := Q) EC Variants.none (c : Thread nD τ) none () NR
    (src := hbT.slice (Rect.unit (s := S16000x5632) o3 S1x5632.size inb3) p3)
    (dst := (bufM.slice (Rect.unit (s := S512x1x5632) o2 S1x1x5632.size inb2) p2).squeeze S1x5632 squeezes_S1x1x5632_S1x5632)
    (q := shR (8 * (g % 64) + i)) (fs := fT) (fd := f0) (D := DRow (F := F) c fT tk g)
    rfl (Sd := bRow (8 * (g % 64) + i)) hB.subset hi (Nat.zero_le _) ?hD) $$ [HT1 HB HBt]
  case hD =>
    unfold DRow
    iintro ⟨Hd, Hs⟩
    isplitl [Hd]
    · iexists _
      isplitr; swap; · iexact Hd
      ipureintro
      exact rowGood_write fT _ _ h2 h3 inb2 inb3 p2 p3 f0
    · rw [hT]; iexact Hs
  · isplitl [HT1]; · rw [hT]; iexact HT1
    isplitl [HB]; · iexact HB
    iexact HBt
  iintro HBt
  rw [wp_ret]
  imodintro
  iapply Hk
  isplitl [HBt]; · iexact HBt
  iexact HT2

/-! ## The token words and the side conditions on them -/

/-- The token words by number. -/
def tkOf (tokF : S16384.Idx → BitVec 32) (n : ℕ) : BitVec 32 := if h : n < 16384 then tokF (ix1 (⟨n, h⟩ : Fin 16384)) else 0

/-- The step that loads token word `n`. -/
theorem wp_tok (c : Dev nD) (arg0 : Memref sig .tc .smem S16384 .i32) {fA : Buf (Elt F) (arg0.view.loc (c : Thread nD τ))} (tokF : S16384.Idx → BitVec 32)
    (hf : arg0.view.read (Elt F) fA = tokF) {o : Fin 1 → ℕ} (n : ℕ) (hn : n < 16384) (ho : o = ![n]) (inb) (h1) (hp) (Q : BitVec 32 → sProp 𝕄) :
    (arg0.view.loc (c : Thread nD τ) ↦[arg0.view.set]{fullShare} fA)
      ⊢ iprop(((arg0.view.loc (c : Thread nD τ) ↦[arg0.view.set]{fullShare} fA) -∗ Q (tkOf tokF n))
        -∗ wpK c (smemLoad arg0 (Rect.unit (s := S16384) o S1.size inb) h1 hp) Q) := by
  subst ho
  unfold smemLoad
  iintro HA Hk
  iapply (wp_smemLoadElt Variants.none (c : Thread nD τ) none Set.univ (S := arg0.view.set) (f := fA)
    (r := Rect.unit (s := S16384) ![n] S1.size inb) (m := arg0) (View.set_slice_subset _ _)) $$ [HA]
  · iexact HA
  iintro HA
  rw [wp_ret]
  imodintro
  have hv : (arg0.access (Rect.unit (s := S16384) ![n] S1.size inb)).read (Elt F) fA (Shape.Idx.first (h1.symm ▸ Nat.one_pos)) = tkOf tokF n := by
    have e : ((Rect.unit (s := S16384) ![n] S1.size inb).emb (Shape.Idx.first (h1.symm ▸ Nat.one_pos))) = ix1 (⟨n, hn⟩ : Fin 16384) := by
      funext a
      apply Fin.ext
      fin_cases a
      show n + 1 * _ = n
      exact (show ∀ z : ℕ, z < 1 → n + 1 * z = n by omega) _ ((Shape.Idx.first (s := (Rect.unit (s := S16384) ![n] S1.size inb).shape) (h1.symm ▸ Nat.one_pos)) 0).isLt
    rw [show (arg0.access (Rect.unit (s := S16384) ![n] S1.size inb)).read (Elt F) fA (Shape.Idx.first (h1.symm ▸ Nat.one_pos))
      = arg0.view.read (Elt F) fA ((Rect.unit (s := S16384) ![n] S1.size inb).emb (Shape.Idx.first (h1.symm ▸ Nat.one_pos))) from rfl, e, hf, tkOf, dif_pos hn]
  rw [hv]
  iapply Hk
  iexact HA

/-- An assumption that holds. -/
theorem wp_asm (c : Dev nD) {P : Prop} {d : Decidable P} (h : P) (Q : PLift P → sProp 𝕄) :
    Q ⟨h⟩ ⊢ wpK c (Prog.lift (TpuEff.assume P d)) Q := by
  iintro H
  iapply (wp_assume Variants.none (c : Thread nD τ) none Set.univ h)
  rw [wp_ret]
  imodintro
  iexact H

/-! ## The staging rings and the results -/

/-- A staging slot that holds computed group `g`, and a result's block that holds it, element by element. -/
def sGood (P : ℕ → ℕ → ℕ → Elt F .bf16 → Prop) (g : ℕ) (f : S1408x128.Idx → Elt F .bf16) : Prop :=
  ∀ i : S1408x128.Idx, (i 0).val / 352 = g % 4 → P g ((i 0).val - 352 * (g % 4)) (i 1).val (f i)
def oGood (P : ℕ → ℕ → ℕ → Elt F .bf16 → Prop) (g : ℕ) (f : S2048x44x8x128.Idx → Elt F .bf16) : Prop :=
  ∀ i : S2048x44x8x128.Idx, (i 0).val = g → P g (8 * (i 1).val + (i 2).val) (i 3).val (f i)

/-- The delivery of group `g`'s copy out of the emb staging ring. -/
def DE (c : Dev nD) (P : ℕ → ℕ → ℕ → Elt F .bf16 → Prop) (g : ℕ) (_ : Fin 1) : sProp 𝕄 :=
  iprop((∃ f, ⌜oGood P g f⌝ ∗ ptE c (oBlk g) f) ∗ (∃ f, ptSE c (sSlot (g % 4)) f))

instance DE_storable (c : Dev nD) (P : ℕ → ℕ → ℕ → Elt F .bf16 → Prop) (g : ℕ) (i : Fin 1) :
    Storable (upEmb : UEmb _ 𝕄) (DE c P g i) := by unfold DE; infer_instance

/-- Group `g`'s copy out of the emb staging ring, in flight. -/
abbrev FlE (c : Dev nD) (P : ℕ → ℕ → ℕ → Elt F .bf16 → Prop) (g : ℕ) : sProp 𝕄 :=
  Transfers.Batch EC (c : Thread nD τ) (.dma (semE (g % 4))) () NO (DE c P g) 1 0

/-- What a copy out lands is the staged group. -/
theorem good_writeE (P : ℕ → ℕ → ℕ → Elt F .bf16 → Prop) (g : ℕ) {o2 : Fin 4 → ℕ} {o3 : Fin 2 → ℕ}
    (h2 : o2 = ![g, 0, 0, 0]) (h3 : o3 = ![352 * (g % 4), 0]) (inb2) (inb3) (p2) (p3) (q1) (q2) (q3)
    (f0 : S2048x44x8x128.Idx → Elt F .bf16) (fs : S1408x128.Idx → Elt F .bf16) (hs : sGood P g fs) :
    oGood P g (((eM.slice (Rect.unit (s := S2048x44x8x128) o2 S1x44x8x128.size inb2) p2).squeeze S44x8x128 squeezes_S1x44x8x128_S44x8x128).view.write
      (Elt F) f0 (ReadAs.same.apply (((seM.slice (Rect.unit (s := S1408x128) o3 S352x128.size inb3) p3).reshape S44x8x128 q1 q2 q3).view.read (Elt F) fs)) Finset.univ) := by
  subst h2 h3
  intro i hi
  have b1 : (i 1).val < 44 := (i 1).isLt
  have b2 : (i 2).val < 8 := (i 2).isLt
  have b3 : (i 3).val < 128 := (i 3).isLt
  let y : S44x8x128.Idx := ix3 (⟨(i 1).val, b1⟩ : Fin 44) (⟨(i 2).val, b2⟩ : Fin 8) (⟨(i 3).val, b3⟩ : Fin 128)
  let z : S1x44x8x128.Idx := ix4 (0 : Fin 1) (⟨(i 1).val, b1⟩ : Fin 44) (⟨(i 2).val, b2⟩ : Fin 8) (⟨(i 3).val, b3⟩ : Fin 128)
  let x : S352x128.Idx := ix2 (⟨8 * (i 1).val + (i 2).val, by omega⟩ : Fin 352) (⟨(i 3).val, b3⟩ : Fin 128)
  have hyz : Shape.reshapeEquiv (s := S1x44x8x128) squeezes_S1x44x8x128_S44x8x128.numel_eq y = z := by
    apply Shape.reshapeEquiv_eq_of_rowMajor
    rw [show (S1x44x8x128.rowMajor z).val = _ from Shape.rowMajor_val_four (d := ![1, 44, 8, 128]) z,
      show (S44x8x128.rowMajor y).val = _ from Shape.rowMajor_val_three (d := ![44, 8, 128]) y]
    show ((0 * 44 + (i 1).val) * 8 + (i 2).val) * 128 + (i 3).val = ((i 1).val * 8 + (i 2).val) * 128 + (i 3).val
    omega
  have hyx : Shape.reshapeEquiv (s := S352x128) q1 y = x := by
    apply Shape.reshapeEquiv_eq_of_rowMajor
    rw [show (S352x128.rowMajor x).val = _ from Shape.rowMajor_val_two (d := ![352, 128]) x,
      show (S44x8x128.rowMajor y).val = _ from Shape.rowMajor_val_three (d := ![44, 8, 128]) y]
    show (8 * (i 1).val + (i 2).val) * 128 + (i 3).val = ((i 1).val * 8 + (i 2).val) * 128 + (i 3).val
    omega
  have hz : ((eM.slice (Rect.unit (s := S2048x44x8x128) ![g, 0, 0, 0] S1x44x8x128.size inb2) p2).squeeze S44x8x128 squeezes_S1x44x8x128_S44x8x128).view.emb y = i := by
    show (Rect.unit (s := S2048x44x8x128) ![g, 0, 0, 0] S1x44x8x128.size inb2).emb
      (Shape.reshapeEquiv (s := S1x44x8x128) squeezes_S1x44x8x128_S44x8x128.numel_eq y) = i
    rw [hyz]
    funext a
    apply Fin.ext
    fin_cases a
    · show g + 1 * 0 = (i 0).val; omega
    · show 0 + 1 * (i 1).val = (i 1).val; omega
    · show 0 + 1 * (i 2).val = (i 2).val; omega
    · show 0 + 1 * (i 3).val = (i 3).val; omega
  let w : S1408x128.Idx := ix2 (⟨352 * (g % 4) + (8 * (i 1).val + (i 2).val), by omega⟩ : Fin 1408) (⟨(i 3).val, b3⟩ : Fin 128)
  have hx : ((seM.slice (Rect.unit (s := S1408x128) ![352 * (g % 4), 0] S352x128.size inb3) p3).reshape S44x8x128 q1 q2 q3).view.emb y = w := by
    show (Rect.unit (s := S1408x128) ![352 * (g % 4), 0] S352x128.size inb3).emb (Shape.reshapeEquiv (s := S352x128) q1 y) = w
    rw [hyx]
    funext a
    apply Fin.ext
    fin_cases a
    · show 352 * (g % 4) + 1 * (8 * (i 1).val + (i 2).val) = 352 * (g % 4) + (8 * (i 1).val + (i 2).val); omega
    · show 0 + 1 * (i 3).val = (i 3).val; omega
  have hw := hs w (by show (352 * (g % 4) + (8 * (i 1).val + (i 2).val)) / 352 = g % 4; omega)
  have e1 : (w 0).val - 352 * (g % 4) = 8 * (i 1).val + (i 2).val := by
    show 352 * (g % 4) + (8 * (i 1).val + (i 2).val) - 352 * (g % 4) = _; omega
  rw [e1] at hw
  have e2 : (((eM.slice (Rect.unit (s := S2048x44x8x128) ![g, 0, 0, 0] S1x44x8x128.size inb2) p2).squeeze S44x8x128 squeezes_S1x44x8x128_S44x8x128).view.write
      (Elt F) f0 (ReadAs.same.apply (((seM.slice (Rect.unit (s := S1408x128) ![352 * (g % 4), 0] S352x128.size inb3) p3).reshape S44x8x128 q1 q2 q3).view.read (Elt F) fs)) Finset.univ) i = fs w := by
    rw [← hz, ← hx]
    exact View.write_emb_of_mem _ _ (Finset.mem_univ y)
  rw [e2]
  exact hw

/-- The step that issues group `g`'s copy out of the emb staging ring. -/
theorem wp_outE (c : Dev nD) (P : ℕ → ℕ → ℕ → Elt F .bf16 → Prop) (g : ℕ)
    {o1 : Fin 1 → ℕ} {o2 : Fin 4 → ℕ} {o3 : Fin 2 → ℕ}
    (h1 : o1 = ![g % 4]) (h2 : o2 = ![g, 0, 0, 0]) (h3 : o3 = ![352 * (g % 4), 0])
    (inb1) (inb2) (inb3) (p2) (p3) (q1) (q2) (q3) (hw1) (hw2) (hw3) (Q : PUnit → sProp 𝕄) :
    iprop((∃ f, ⌜sGood P g f⌝ ∗ ptSE c (sSlot (g % 4)) f) ∗ (∃ f, ptE c (oBlk g) f) ∗ semVal ((c : Thread nD τ), SemLoc.dma (semE (g % 4))) 0)
      ⊢ iprop((FlE c P g -∗ Q ⟨⟩)
        -∗ wpK c (Prog.lift (.enqueueDma ((seM.slice (Rect.unit (s := S1408x128) o3 S352x128.size inb3) p3).reshape S44x8x128 q1 q2 q3)
            (.here ((eM.slice (Rect.unit (s := S2048x44x8x128) o2 S1x44x8x128.size inb2) p2).squeeze S44x8x128 squeezes_S1x44x8x128_S44x8x128))
            (.dma ((cc0_scratch5.slice (Rect.unit (s := S4) o1 S1.size inb1)).squeeze S_ squeezes_S1_S_).sem) hw1 hw2 hw3)) Q) := by
  have hm : g % 4 < 4 := Nat.mod_lt _ (by decide)
  have hT := sSlot_set_e (g % 4) h3 inb3 p3 q1 q2 q3
  have hB := oBlk_set_e g h2 inb2 p2 squeezes_S1x44x8x128_S44x8x128
  revert hw3
  rw [semE_eq (g % 4) hm h1 inb1]
  intro hw3
  iintro ⟨⟨%fs, %hs, HT⟩, ⟨%f0, HB⟩, Hq⟩ Hk
  imod (Transfers.batch_alloc' (Lvl := ℕ) (EC (F := F)) (c : Thread nD τ) () NO (DE c P g) (sm := SemLoc.dma (semE (g % 4))) (E := Set.univ)) $$ Hq with HBt
  iapply (Transfers.wp_dmaBatch (defs := defs₀ (F := F)) (Q := Q) EC Variants.none (c : Thread nD τ) none () NO
    (src := (seM.slice (Rect.unit (s := S1408x128) o3 S352x128.size inb3) p3).reshape S44x8x128 q1 q2 q3)
    (dst := (eM.slice (Rect.unit (s := S2048x44x8x128) o2 S1x44x8x128.size inb2) p2).squeeze S44x8x128 squeezes_S1x44x8x128_S44x8x128)
    (q := fullShare) (fs := fs) (fd := f0) (D := DE c P g)
    (by exact NOe) (Sd := oBlk g) hB.subset Nat.one_pos (Nat.zero_le _) ?hD) $$ [HT HB HBt]
  case hD =>
    unfold DE
    iintro ⟨Hd, Hs⟩
    isplitl [Hd]
    · iexists _
      isplitr; swap; · iexact Hd
      ipureintro
      exact good_writeE P g h2 h3 inb2 inb3 p2 p3 q1 q2 q3 f0 fs hs
    · iexists fs; rw [hT]; iexact Hs
  · isplitl [HT]; · rw [hT]; iexact HT
    isplitl [HB]; · iexact HB
    iexact HBt
  iintro HBt
  rw [wp_ret]
  imodintro
  iapply Hk
  iexact HBt

/-- The step that waits for group `g`'s copy out of the emb staging ring. -/
theorem wp_outwaitE (c : Dev nD) (P : ℕ → ℕ → ℕ → Elt F .bf16 → Prop) (g : ℕ) {o1 : Fin 1 → ℕ} (h1 : o1 = ![g % 4])
    (inb1) (src : Memref sig .tc .vmem S44x8x128 .bf16) {o2 : Fin 4 → ℕ} (inb2) (p2) (hw1) (hw2) (Q : PUnit → sProp 𝕄) :
    iprop(FlE c P g ∗ (∃ W, owes (c : Thread nD τ) 0 W))
      ⊢ iprop((iprop((∃ f, ⌜oGood P g f⌝ ∗ ptE c (oBlk g) f) ∗ (∃ f, ptSE c (sSlot (g % 4)) f)
            ∗ semVal ((c : Thread nD τ), SemLoc.dma (semE (g % 4))) 0 ∗ (∃ W, owes (c : Thread nD τ) 0 W)) -∗ Q ⟨⟩)
        -∗ wpK c (Prog.lift (.waitDma2 ((cc0_scratch5.slice (Rect.unit (s := S4) o1 S1.size inb1)).squeeze S_ squeezes_S1_S_).sem src
            ((eM.slice (Rect.unit (s := S2048x44x8x128) o2 S1x44x8x128.size inb2) p2).squeeze S44x8x128 squeezes_S1x44x8x128_S44x8x128) hw1 hw2)) Q) := by
  have hm : g % 4 < 4 := Nat.mod_lt _ (by decide)
  rw [semE_eq (g % 4) hm h1 inb1]
  iintro ⟨HBt, ⟨%W, HW⟩⟩ Hk
  iapply (Transfers.wp_waitBatchAll (defs := defs₀ (F := F)) (Q := Q) EC Variants.none (c : Thread nD τ) none ()
    (srcw := src)
    (dstw := (eM.slice (Rect.unit (s := S2048x44x8x128) o2 S1x44x8x128.size inb2) p2).squeeze S44x8x128 squeezes_S1x44x8x128_S44x8x128)
    (N := NO) (J := NO) NOe NO_pos (D := DE c P g) (u := 0) (by omega) (W := W)) $$ [HBt HW]
  · isplitl [HBt]; · iexact HBt
    iexact HW
  iintro ⟨HD, Hq, HW⟩
  rw [wp_ret]
  imodintro
  ihave HD' := (Entails.of_eq (show bigSep Finset.univ (DE c P g) = DE c P g 0 by
    rw [Finset.univ_unique, bigSep_singleton]; rfl)) $$ HD
  unfold DE
  icases HD' with ⟨H1, H2⟩
  iapply Hk
  isplitl [H1]; · iexact H1
  isplitl [H2]; · iexact H2
  isplitl [Hq]; · iexact Hq
  iexists _
  iexact HW

/-- The delivery of group `g`'s copy out of the normed staging ring. -/
def DO (c : Dev nD) (P : ℕ → ℕ → ℕ → Elt F .bf16 → Prop) (g : ℕ) (_ : Fin 1) : sProp 𝕄 :=
  iprop((∃ f, ⌜oGood P g f⌝ ∗ ptO c (oBlk g) f) ∗ (∃ f, ptSO c (sSlot (g % 4)) f))

instance DO_storable (c : Dev nD) (P : ℕ → ℕ → ℕ → Elt F .bf16 → Prop) (g : ℕ) (i : Fin 1) :
    Storable (upEmb : UEmb _ 𝕄) (DO c P g i) := by unfold DO; infer_instance

/-- Group `g`'s copy out of the normed staging ring, in flight. -/
abbrev FlO (c : Dev nD) (P : ℕ → ℕ → ℕ → Elt F .bf16 → Prop) (g : ℕ) : sProp 𝕄 :=
  Transfers.Batch EC (c : Thread nD τ) (.dma (semO (g % 4))) () NO (DO c P g) 1 0

/-- What a copy out lands is the staged group. -/
theorem good_writeO (P : ℕ → ℕ → ℕ → Elt F .bf16 → Prop) (g : ℕ) {o2 : Fin 4 → ℕ} {o3 : Fin 2 → ℕ}
    (h2 : o2 = ![g, 0, 0, 0]) (h3 : o3 = ![352 * (g % 4), 0]) (inb2) (inb3) (p2) (p3) (q1) (q2) (q3)
    (f0 : S2048x44x8x128.Idx → Elt F .bf16) (fs : S1408x128.Idx → Elt F .bf16) (hs : sGood P g fs) :
    oGood P g (((oM.slice (Rect.unit (s := S2048x44x8x128) o2 S1x44x8x128.size inb2) p2).squeeze S44x8x128 squeezes_S1x44x8x128_S44x8x128).view.write
      (Elt F) f0 (ReadAs.same.apply (((soM.slice (Rect.unit (s := S1408x128) o3 S352x128.size inb3) p3).reshape S44x8x128 q1 q2 q3).view.read (Elt F) fs)) Finset.univ) := by
  subst h2 h3
  intro i hi
  have b1 : (i 1).val < 44 := (i 1).isLt
  have b2 : (i 2).val < 8 := (i 2).isLt
  have b3 : (i 3).val < 128 := (i 3).isLt
  let y : S44x8x128.Idx := ix3 (⟨(i 1).val, b1⟩ : Fin 44) (⟨(i 2).val, b2⟩ : Fin 8) (⟨(i 3).val, b3⟩ : Fin 128)
  let z : S1x44x8x128.Idx := ix4 (0 : Fin 1) (⟨(i 1).val, b1⟩ : Fin 44) (⟨(i 2).val, b2⟩ : Fin 8) (⟨(i 3).val, b3⟩ : Fin 128)
  let x : S352x128.Idx := ix2 (⟨8 * (i 1).val + (i 2).val, by omega⟩ : Fin 352) (⟨(i 3).val, b3⟩ : Fin 128)
  have hyz : Shape.reshapeEquiv (s := S1x44x8x128) squeezes_S1x44x8x128_S44x8x128.numel_eq y = z := by
    apply Shape.reshapeEquiv_eq_of_rowMajor
    rw [show (S1x44x8x128.rowMajor z).val = _ from Shape.rowMajor_val_four (d := ![1, 44, 8, 128]) z,
      show (S44x8x128.rowMajor y).val = _ from Shape.rowMajor_val_three (d := ![44, 8, 128]) y]
    show ((0 * 44 + (i 1).val) * 8 + (i 2).val) * 128 + (i 3).val = ((i 1).val * 8 + (i 2).val) * 128 + (i 3).val
    omega
  have hyx : Shape.reshapeEquiv (s := S352x128) q1 y = x := by
    apply Shape.reshapeEquiv_eq_of_rowMajor
    rw [show (S352x128.rowMajor x).val = _ from Shape.rowMajor_val_two (d := ![352, 128]) x,
      show (S44x8x128.rowMajor y).val = _ from Shape.rowMajor_val_three (d := ![44, 8, 128]) y]
    show (8 * (i 1).val + (i 2).val) * 128 + (i 3).val = ((i 1).val * 8 + (i 2).val) * 128 + (i 3).val
    omega
  have hz : ((oM.slice (Rect.unit (s := S2048x44x8x128) ![g, 0, 0, 0] S1x44x8x128.size inb2) p2).squeeze S44x8x128 squeezes_S1x44x8x128_S44x8x128).view.emb y = i := by
    show (Rect.unit (s := S2048x44x8x128) ![g, 0, 0, 0] S1x44x8x128.size inb2).emb
      (Shape.reshapeEquiv (s := S1x44x8x128) squeezes_S1x44x8x128_S44x8x128.numel_eq y) = i
    rw [hyz]
    funext a
    apply Fin.ext
    fin_cases a
    · show g + 1 * 0 = (i 0).val; omega
    · show 0 + 1 * (i 1).val = (i 1).val; omega
    · show 0 + 1 * (i 2).val = (i 2).val; omega
    · show 0 + 1 * (i 3).val = (i 3).val; omega
  let w : S1408x128.Idx := ix2 (⟨352 * (g % 4) + (8 * (i 1).val + (i 2).val), by omega⟩ : Fin 1408) (⟨(i 3).val, b3⟩ : Fin 128)
  have hx : ((soM.slice (Rect.unit (s := S1408x128) ![352 * (g % 4), 0] S352x128.size inb3) p3).reshape S44x8x128 q1 q2 q3).view.emb y = w := by
    show (Rect.unit (s := S1408x128) ![352 * (g % 4), 0] S352x128.size inb3).emb (Shape.reshapeEquiv (s := S352x128) q1 y) = w
    rw [hyx]
    funext a
    apply Fin.ext
    fin_cases a
    · show 352 * (g % 4) + 1 * (8 * (i 1).val + (i 2).val) = 352 * (g % 4) + (8 * (i 1).val + (i 2).val); omega
    · show 0 + 1 * (i 3).val = (i 3).val; omega
  have hw := hs w (by show (352 * (g % 4) + (8 * (i 1).val + (i 2).val)) / 352 = g % 4; omega)
  have e1 : (w 0).val - 352 * (g % 4) = 8 * (i 1).val + (i 2).val := by
    show 352 * (g % 4) + (8 * (i 1).val + (i 2).val) - 352 * (g % 4) = _; omega
  rw [e1] at hw
  have e2 : (((oM.slice (Rect.unit (s := S2048x44x8x128) ![g, 0, 0, 0] S1x44x8x128.size inb2) p2).squeeze S44x8x128 squeezes_S1x44x8x128_S44x8x128).view.write
      (Elt F) f0 (ReadAs.same.apply (((soM.slice (Rect.unit (s := S1408x128) ![352 * (g % 4), 0] S352x128.size inb3) p3).reshape S44x8x128 q1 q2 q3).view.read (Elt F) fs)) Finset.univ) i = fs w := by
    rw [← hz, ← hx]
    exact View.write_emb_of_mem _ _ (Finset.mem_univ y)
  rw [e2]
  exact hw

/-- The step that issues group `g`'s copy out of the normed staging ring. -/
theorem wp_outO (c : Dev nD) (P : ℕ → ℕ → ℕ → Elt F .bf16 → Prop) (g : ℕ)
    {o1 : Fin 1 → ℕ} {o2 : Fin 4 → ℕ} {o3 : Fin 2 → ℕ}
    (h1 : o1 = ![g % 4]) (h2 : o2 = ![g, 0, 0, 0]) (h3 : o3 = ![352 * (g % 4), 0])
    (inb1) (inb2) (inb3) (p2) (p3) (q1) (q2) (q3) (hw1) (hw2) (hw3) (Q : PUnit → sProp 𝕄) :
    iprop((∃ f, ⌜sGood P g f⌝ ∗ ptSO c (sSlot (g % 4)) f) ∗ (∃ f, ptO c (oBlk g) f) ∗ semVal ((c : Thread nD τ), SemLoc.dma (semO (g % 4))) 0)
      ⊢ iprop((FlO c P g -∗ Q ⟨⟩)
        -∗ wpK c (Prog.lift (.enqueueDma ((soM.slice (Rect.unit (s := S1408x128) o3 S352x128.size inb3) p3).reshape S44x8x128 q1 q2 q3)
            (.here ((oM.slice (Rect.unit (s := S2048x44x8x128) o2 S1x44x8x128.size inb2) p2).squeeze S44x8x128 squeezes_S1x44x8x128_S44x8x128))
            (.dma ((cc0_scratch6.slice (Rect.unit (s := S4) o1 S1.size inb1)).squeeze S_ squeezes_S1_S_).sem) hw1 hw2 hw3)) Q) := by
  have hm : g % 4 < 4 := Nat.mod_lt _ (by decide)
  have hT := sSlot_set_o (g % 4) h3 inb3 p3 q1 q2 q3
  have hB := oBlk_set_o g h2 inb2 p2 squeezes_S1x44x8x128_S44x8x128
  revert hw3
  rw [semO_eq (g % 4) hm h1 inb1]
  intro hw3
  iintro ⟨⟨%fs, %hs, HT⟩, ⟨%f0, HB⟩, Hq⟩ Hk
  imod (Transfers.batch_alloc' (Lvl := ℕ) (EC (F := F)) (c : Thread nD τ) () NO (DO c P g) (sm := SemLoc.dma (semO (g % 4))) (E := Set.univ)) $$ Hq with HBt
  iapply (Transfers.wp_dmaBatch (defs := defs₀ (F := F)) (Q := Q) EC Variants.none (c : Thread nD τ) none () NO
    (src := (soM.slice (Rect.unit (s := S1408x128) o3 S352x128.size inb3) p3).reshape S44x8x128 q1 q2 q3)
    (dst := (oM.slice (Rect.unit (s := S2048x44x8x128) o2 S1x44x8x128.size inb2) p2).squeeze S44x8x128 squeezes_S1x44x8x128_S44x8x128)
    (q := fullShare) (fs := fs) (fd := f0) (D := DO c P g)
    rfl (Sd := oBlk g) hB.subset Nat.one_pos (Nat.zero_le _) ?hD) $$ [HT HB HBt]
  case hD =>
    unfold DO
    iintro ⟨Hd, Hs⟩
    isplitl [Hd]
    · iexists _
      isplitr; swap; · iexact Hd
      ipureintro
      exact good_writeO P g h2 h3 inb2 inb3 p2 p3 q1 q2 q3 f0 fs hs
    · iexists fs; rw [hT]; iexact Hs
  · isplitl [HT]; · rw [hT]; iexact HT
    isplitl [HB]; · iexact HB
    iexact HBt
  iintro HBt
  rw [wp_ret]
  imodintro
  iapply Hk
  iexact HBt

/-- The step that waits for group `g`'s copy out of the normed staging ring. -/
theorem wp_outwaitO (c : Dev nD) (P : ℕ → ℕ → ℕ → Elt F .bf16 → Prop) (g : ℕ) {o1 : Fin 1 → ℕ} (h1 : o1 = ![g % 4])
    (inb1) (src : Memref sig .tc .vmem S44x8x128 .bf16) {o2 : Fin 4 → ℕ} (inb2) (p2) (hw1) (hw2) (Q : PUnit → sProp 𝕄) :
    iprop(FlO c P g ∗ (∃ W, owes (c : Thread nD τ) 0 W))
      ⊢ iprop((iprop((∃ f, ⌜oGood P g f⌝ ∗ ptO c (oBlk g) f) ∗ (∃ f, ptSO c (sSlot (g % 4)) f)
            ∗ semVal ((c : Thread nD τ), SemLoc.dma (semO (g % 4))) 0 ∗ (∃ W, owes (c : Thread nD τ) 0 W)) -∗ Q ⟨⟩)
        -∗ wpK c (Prog.lift (.waitDma2 ((cc0_scratch6.slice (Rect.unit (s := S4) o1 S1.size inb1)).squeeze S_ squeezes_S1_S_).sem src
            ((oM.slice (Rect.unit (s := S2048x44x8x128) o2 S1x44x8x128.size inb2) p2).squeeze S44x8x128 squeezes_S1x44x8x128_S44x8x128) hw1 hw2)) Q) := by
  have hm : g % 4 < 4 := Nat.mod_lt _ (by decide)
  rw [semO_eq (g % 4) hm h1 inb1]
  iintro ⟨HBt, ⟨%W, HW⟩⟩ Hk
  iapply (Transfers.wp_waitBatchAll (defs := defs₀ (F := F)) (Q := Q) EC Variants.none (c : Thread nD τ) none ()
    (srcw := src)
    (dstw := (oM.slice (Rect.unit (s := S2048x44x8x128) o2 S1x44x8x128.size inb2) p2).squeeze S44x8x128 squeezes_S1x44x8x128_S44x8x128)
    (N := NO) (J := NO) rfl NO_pos (D := DO c P g) (u := 0) (by omega) (W := W)) $$ [HBt HW]
  · isplitl [HBt]; · iexact HBt
    iexact HW
  iintro ⟨HD, Hq, HW⟩
  rw [wp_ret]
  imodintro
  ihave HD' := (Entails.of_eq (show bigSep Finset.univ (DO c P g) = DO c P g 0 by
    rw [Finset.univ_unique, bigSep_singleton]; rfl)) $$ HD
  unfold DO
  icases HD' with ⟨H1, H2⟩
  iapply Hk
  isplitl [H1]; · iexact H1
  isplitl [H2]; · iexact H2
  isplitl [Hq]; · iexact Hq
  iexists _
  iexact HW

/-- The step that waits for a group's eight row copies at once. -/
theorem wp_rowwait (c : Dev nD) (fT : S16000x5632.Idx → BitVec 32) (tk : ℕ → BitVec 32) (g : ℕ) {o1 : Fin 1 → ℕ} (h1 : o1 = ![g % 64])
    (inb1) (src : Memref sig .tc .vmem S8x1x5632 .i32) {o2 : Fin 3 → ℕ} (inb2) (p2) (hw1) (hw2) (Q : PUnit → sProp 𝕄) :
    iprop(BRow (F := F) c fT tk g 8 ∗ (∃ W, owes (c : Thread nD τ) 0 W))
      ⊢ iprop((iprop(bigSep Finset.univ (DRow (F := F) c fT tk g)
            ∗ semVal ((c : Thread nD τ), SemLoc.dma (semIn (g % 64))) 0 ∗ (∃ W, owes (c : Thread nD τ) 0 W)) -∗ Q ⟨⟩)
        -∗ wpK c (Prog.lift (.waitDma2 ((cc0_scratch4.slice (Rect.unit (s := S64) o1 S1.size inb1)).squeeze S_ squeezes_S1_S_).sem src
            (bufM.slice (Rect.unit (s := S512x1x5632) o2 S8x1x5632.size inb2) p2) hw1 hw2)) Q) := by
  have hm : g % 64 < 64 := Nat.mod_lt _ (by decide)
  rw [semIn_eq (g % 64) hm h1 inb1]
  iintro ⟨HBt, ⟨%W, HW⟩⟩ Hk
  iapply (Transfers.wp_waitBatchAll (defs := defs₀ (F := F)) (Q := Q) EC Variants.none (c : Thread nD τ) none ()
    (srcw := src)
    (dstw := bufM.slice (Rect.unit (s := S512x1x5632) o2 S8x1x5632.size inb2) p2)
    (N := NR) (J := NR * 8) NR8 NR_pos (D := DRow (F := F) c fT tk g) (u := 0) (by omega) (W := W)) $$ [HBt HW]
  · isplitl [HBt]; · iexact HBt
    iexact HW
  iintro ⟨HD, Hq, HW⟩
  rw [wp_ret]
  imodintro
  iapply Hk
  isplitl [HD]; · iexact HD
  isplitl [Hq]; · iexact Hq
  iexists _
  iexact HW

end Cert.KernelIdeal.Hand
-- ==== Proof.KI.Compute.lean ====
/-
  The steps of a group's computation. They read the tokens, the scales, the norm weights and the group's slot of the
  input ring, none of which they change, and store into the group's two staging slots. A step is a triple `Tr`: from
  the staging slots' contents within `DE` and `DO` to contents within `DE'` and `DO'`, returning a value within `P`.
-/
module

public import proofs.«01_k».proof.Proof.KI.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

/-- The proof's user algebra: the pipeline library's beside the transfers' counters. -/
local notation "𝕄" => MT nD τ sig Unit (Elt F) ℕ (Pipeline.UD sig nD τ) ℕ

/-- The contents of a staging ring. -/
abbrev Stage (F : FTy → Type) := S1408x128.Idx → Elt F .bf16

/-- What one group's computation reads: the tokens and the weights (through the staged blocks), the scales, the
    input ring (at contents within `DB`); and the group's slots of the input ring and of the staging rings. -/
structure Cx (F : FTy → Type) where
  c : Dev nD
  arg0 : Memref sig .tc .smem S16384 .i32
  fA : Buf (Elt F) (arg0.view.loc (c : Thread nD τ))
  arg3 : Memref sig .tc .vmem S44x128 .f32
  fW : Buf (Elt F) (arg3.view.loc (c : Thread nD τ))
  DB : (S512x1x5632.Idx → BitVec 32) → Prop
  fS : S64000.Idx → Elt F .f32
  s : ℕ
  s4 : ℕ

/-- The resources of one group's computation. -/
def CRes (X : Cx F) (DE DO : Stage F → Prop) : sProp 𝕄 :=
  iprop((X.arg0.view.loc (X.c : Thread nD τ) ↦[X.arg0.view.set]{fullShare} X.fA)
    ∗ (X.arg3.view.loc (X.c : Thread nD τ) ↦[X.arg3.view.set]{fullShare} X.fW)
    ∗ ((X.c : Thread nD τ).loc cc0_scratch3 ↦[Finset.univ]{fullShare} X.fS)
    ∗ (∃ f, ⌜X.DB f⌝ ∗ ptB X.c (bSlot X.s) f)
    ∗ (∃ f, ⌜DE f⌝ ∗ ptSE X.c (sSlot X.s4) f)
    ∗ (∃ f, ⌜DO f⌝ ∗ ptSO X.c (sSlot X.s4) f))

/-- One piece of a group's computation. -/
def Tr (X : Cx F) (DE DO : Stage F → Prop) {α : Type} (p : Prog (TpuEff nD τ sig (Elt F) Λ₀ .tc) α) (P : α → Prop)
    (DE' DO' : Stage F → Prop) : Prop :=
  CRes X DE DO ⊢ wpK X.c p (fun r => iprop(⌜P r⌝ ∗ CRes X DE' DO'))

variable {X : Cx F} {DE DO DE1 DO1 DE' DO' : Stage F → Prop}

/-- Nothing more to do. -/
theorem Tr.ret {α : Type} (a : α) {P : α → Prop} (h : P a) : Tr X DE DO (pure a) P DE DO := by
  unfold Tr wpK
  iintro H
  rw [show (pure a : Prog (TpuEff nD τ sig (Elt F) Λ₀ .tc) α) = .ret a from rfl, wp_ret]
  imodintro
  isplitr
  · ipureintro; exact h
  · iexact H

/-- One piece after another. -/
theorem Tr.bind {α β : Type} {p : Prog (TpuEff nD τ sig (Elt F) Λ₀ .tc) α} {k : α → Prog (TpuEff nD τ sig (Elt F) Λ₀ .tc) β}
    {P : α → Prop} {P' : β → Prop} (h1 : Tr X DE DO p P DE1 DO1) (h2 : ∀ a, P a → Tr X DE1 DO1 (k a) P' DE' DO') :
    Tr X DE DO (p >>= k) P' DE' DO' := by
  unfold Tr wpK at *
  rw [wp_bind]
  refine h1.trans (wp_mono _ _ _ fun a => ?_)
  iintro ⟨%ha, H⟩
  iapply (h2 a ha)
  iexact H

/-- A piece of the computation beside whatever else is held. -/
theorem Tr.frame {α : Type} {p : Prog (TpuEff nD τ sig (Elt F) Λ₀ .tc) α} {P : α → Prop} {G : sProp 𝕄} {Q : α → sProp 𝕄}
    (h : Tr X DE DO p P DE' DO') (hQ : ∀ r, P r → iprop(CRes X DE' DO' ∗ G) ⊢ Q r) :
    iprop(CRes X DE DO ∗ G) ⊢ wpK X.c p Q := by
  unfold Tr at h
  refine (sep_mono_left h).trans ((wp_frame_r _ _ _).trans (wp_mono _ _ _ fun r => ?_))
  iintro ⟨⟨%hr, H⟩, HG⟩
  iapply (hQ r hr)
  isplitl [H]
  · iexact H
  · iexact HG

/-- A load of a token word. -/
theorem Tr.tok {off : Fin 1 → ℕ} (inb) (h1) (hp) :
    Tr X DE DO (smemLoad X.arg0 (Rect.unit (s := S16384) off S1.size inb) h1 hp)
      (fun v => v = (X.arg0.access (Rect.unit (s := S16384) off S1.size inb)).read (Elt F) X.fA (Shape.Idx.first (h1.symm ▸ Nat.one_pos))) DE DO := by
  unfold Tr CRes smemLoad
  iintro ⟨HA, HR⟩
  iapply (wp_smemLoadElt Variants.none (X.c : Thread nD τ) none Set.univ (S := X.arg0.view.set) (f := X.fA)
    (r := Rect.unit (s := S16384) off S1.size inb) (m := X.arg0) (View.set_slice_subset _ _)) $$ [HA]
  · iexact HA
  iintro HA
  rw [wp_ret]
  imodintro
  isplitr
  · ipureintro; rfl
  isplitl [HA]; · iexact HA
  iexact HR

/-- An assumption that holds. -/
theorem Tr.asm {P : Prop} {d : Decidable P} (h : P) : Tr X DE DO (Prog.lift (TpuEff.assume P d)) (fun _ => True) DE DO := by
  unfold Tr
  iintro H
  iapply (wp_assume Variants.none (X.c : Thread nD τ) none Set.univ h)
  rw [wp_ret]
  imodintro
  isplitr
  · ipureintro; trivial
  iexact H

/-- A load of a scale. -/
theorem Tr.scale {off : Fin 1 → ℕ} (inb) (h1) (hp) :
    Tr X DE DO (smemLoad (Memref.whole cc0_scratch3) (Rect.unit (s := S64000) off S1.size inb) h1 hp)
      (fun v => v = X.fS ((Rect.unit (s := S64000) off S1.size inb).emb (Shape.Idx.first (h1.symm ▸ Nat.one_pos)))) DE DO := by
  unfold Tr CRes smemLoad
  iintro ⟨HA, HW, HS, HR⟩
  iapply (wp_smemLoadElt Variants.none (X.c : Thread nD τ) none Set.univ (S := Finset.univ) (f := X.fS)
    (r := Rect.unit (s := S64000) off S1.size inb) (m := Memref.whole cc0_scratch3) (Finset.subset_univ _)) $$ [HS]
  · iexact HS
  iintro HS
  rw [wp_ret]
  imodintro
  isplitr
  · ipureintro; rfl
  isplitl [HA]; · iexact HA
  isplitl [HW]; · iexact HW
  isplitl [HS]; · iexact HS
  iexact HR

/-- A load of weights. -/
theorem Tr.wts (r : LoadRect S44x128) (hl) :
    Tr X DE DO (Prog.lift (.load X.arg3 r hl)) (fun v => v = X.arg3.view.readAt (Elt F) r X.fW) DE DO := by
  unfold Tr CRes
  iintro ⟨HA, HW, HR⟩
  iapply (wp_load Variants.none (X.c : Thread nD τ) none Set.univ (m := X.arg3) (r := r) (S := X.arg3.view.set) (f := X.fW)
    (View.setOn_subset_set _ _)) $$ [HW]
  · iexact HW
  iintro HW
  rw [wp_ret]
  imodintro
  isplitr
  · ipureintro; rfl
  isplitl [HA]; · iexact HA
  isplitl [HW]; · iexact HW
  iexact HR

/-- Where an element of the input ring's view as rows of 128 words lies. -/
theorem words_emb (q1) (q2) (q3) (y : S22528x128.Idx) :
    (((bufM.reshape S22528x128 q1 q2 q3).view.emb y) 0).val = (y 0).val / 44
      ∧ (((bufM.reshape S22528x128 q1 q2 q3).view.emb y) 2).val = ((y 0).val % 44) * 128 + (y 1).val := by
  have b0 : (y 0).val < 22528 := (y 0).isLt
  have b1 : (y 1).val < 128 := (y 1).isLt
  let z : S512x1x5632.Idx := ix3 (⟨(y 0).val / 44, by omega⟩ : Fin 512) (0 : Fin 1) (⟨((y 0).val % 44) * 128 + (y 1).val, by omega⟩ : Fin 5632)
  have e : (bufM.reshape S22528x128 q1 q2 q3).view.emb y = z := by
    show Shape.reshapeEquiv (s := S512x1x5632) q1 y = z
    apply Shape.reshapeEquiv_eq_of_rowMajor
    rw [show (S512x1x5632.rowMajor z).val = _ from Shape.rowMajor_val_three (d := ![512, 1, 5632]) z,
      show (S22528x128.rowMajor y).val = _ from Shape.rowMajor_val_two (d := ![22528, 128]) y]
    show ((y 0).val / 44 * 1 + 0) * 5632 + (((y 0).val % 44) * 128 + (y 1).val) = (y 0).val * 128 + (y 1).val
    omega
  rw [e]
  exact ⟨rfl, rfl⟩

/-- A load of some rows of 128 words of the group's slot. -/
theorem Tr.words {off size : Fin 2 → ℕ} {a n : ℕ} (ho : off = ![a, 0]) (hn : size 0 = n) (h1 : 352 * X.s ≤ a) (h2 : a + n ≤ 352 * X.s + 352)
    (inb) (q1) (q2) (q3) (hl) :
    Tr X DE DO (Prog.lift (.load (bufM.reshape S22528x128 q1 q2 q3) (Rect.unit (s := S22528x128) off size inb).toLoadRect hl))
      (fun v => ∃ f, X.DB f ∧ v = (bufM.reshape S22528x128 q1 q2 q3).view.readAt (Elt F) (Rect.unit (s := S22528x128) off size inb).toLoadRect f) DE DO := by
  subst ho hn
  have hS : (bufM.reshape S22528x128 q1 q2 q3).view.setOn (Rect.unit (s := S22528x128) ![a, 0] size inb).toLoadRect.set ⊆ bSlot X.s := by
    intro i hi
    obtain ⟨y, hy, rfl⟩ := Finset.mem_map.1 hi
    rw [mem_bSlot, (words_emb q1 q2 q3 y).1]
    obtain ⟨j, hj, e⟩ := (LoadRect.mem_set _).1 hy 0
    have e' : (y 0).val = a + 1 * j := e
    have hj' : j < size 0 := hj
    omega
  unfold Tr CRes
  iintro ⟨HA, HW, HSc, ⟨%fB, %hB, HB⟩, HR⟩
  iapply (wp_load Variants.none (X.c : Thread nD τ) none Set.univ (m := bufM.reshape S22528x128 q1 q2 q3)
    (r := (Rect.unit (s := S22528x128) ![a, 0] size inb).toLoadRect) (S := bSlot X.s) (f := fB) hS) $$ [HB]
  · iexact HB
  iintro HB
  rw [wp_ret]
  imodintro
  isplitr
  · ipureintro; exact ⟨fB, hB, rfl⟩
  isplitl [HA]; · iexact HA
  isplitl [HW]; · iexact HW
  isplitl [HSc]; · iexact HSc
  isplitl [HB]
  · iexists fB
    isplitr
    · ipureintro; exact hB
    · iexact HB
  iexact HR

/-- Where an element of the emb staging ring's view as pairs of rows lies. -/
theorem stageE_emb (q1) (q2) (q3) (y : S704x2x128.Idx) :
    (((seM.reshape S704x2x128 q1 q2 q3).view.emb y) 0).val = 2 * (y 0).val + (y 1).val
      ∧ (((seM.reshape S704x2x128 q1 q2 q3).view.emb y) 1).val = (y 2).val := by
  have b0 : (y 0).val < 704 := (y 0).isLt
  have b1 : (y 1).val < 2 := (y 1).isLt
  have b2 : (y 2).val < 128 := (y 2).isLt
  let z : S1408x128.Idx := ix2 (⟨2 * (y 0).val + (y 1).val, by omega⟩ : Fin 1408) (⟨(y 2).val, b2⟩ : Fin 128)
  have e : (seM.reshape S704x2x128 q1 q2 q3).view.emb y = z := by
    show Shape.reshapeEquiv (s := S1408x128) q1 y = z
    apply Shape.reshapeEquiv_eq_of_rowMajor
    rw [show (S1408x128.rowMajor z).val = _ from Shape.rowMajor_val_two (d := ![1408, 128]) z,
      show (S704x2x128.rowMajor y).val = _ from Shape.rowMajor_val_three (d := ![704, 2, 128]) y]
    show (2 * (y 0).val + (y 1).val) * 128 + (y 2).val = ((y 0).val * 2 + (y 1).val) * 128 + (y 2).val
    omega
  rw [e]
  exact ⟨rfl, rfl⟩

/-- Every fourth pair of rows of a staging slot lies in the slot. -/
theorem stageE_sub {s4 : ℕ} {off size : Fin 3 → ℕ} {a n : ℕ} (ho : off = ![a, 0, 0]) (hn : size 0 = n) (h1 : 176 * s4 ≤ a) (h2 : a + 4 * n ≤ 176 * s4 + 179)
    (inb) (q1) (q2) (q3) :
    (seM.reshape S704x2x128 q1 q2 q3).view.setOn (⟨off, size, ![4, 1, 1], inb⟩ : LoadRect S704x2x128).set ⊆ sSlot s4 := by
  subst ho hn
  intro i hi
  obtain ⟨y, hy, rfl⟩ := Finset.mem_map.1 hi
  have b1 : (y 1).val < 2 := (y 1).isLt
  rw [mem_sSlot, (stageE_emb q1 q2 q3 y).1]
  obtain ⟨j, hj, e⟩ := (LoadRect.mem_set _).1 hy 0
  have e' : (y 0).val = a + 4 * j := e
  have hj' : j < size 0 := hj
  omega

/-- A load from the group's emb staging slot. -/
theorem Tr.loadE {off size : Fin 3 → ℕ} {a n : ℕ} (ho : off = ![a, 0, 0]) (hn : size 0 = n) (h1 : 176 * X.s4 ≤ a) (h2 : a + 4 * n ≤ 176 * X.s4 + 179)
    (inb) (q1) (q2) (q3) (hl) :
    Tr X DE DO (Prog.lift (.load (seM.reshape S704x2x128 q1 q2 q3) (⟨off, size, ![4, 1, 1], inb⟩ : LoadRect S704x2x128) hl)) (fun _ => True) DE DO := by
  have hS := stageE_sub (s4 := X.s4) ho hn h1 h2 inb q1 q2 q3
  unfold Tr CRes
  iintro ⟨HA, HW, HSc, HB, ⟨%fE, %hE, HE⟩, ⟨%fO, %hO, HO⟩⟩
  iapply (wp_load Variants.none (X.c : Thread nD τ) none Set.univ (m := seM.reshape S704x2x128 q1 q2 q3)
    (r := (⟨off, size, ![4, 1, 1], inb⟩ : LoadRect S704x2x128)) (S := sSlot X.s4) (f := fE) hS) $$ [HE]
  · iexact HE
  iintro HE
  rw [wp_ret]
  imodintro
  isplitr
  · ipureintro; trivial
  isplitl [HA]; · iexact HA
  isplitl [HW]; · iexact HW
  isplitl [HSc]; · iexact HSc
  isplitl [HB]; · iexact HB
  isplitl [HE]
  · iexists fE
    isplitr
    · ipureintro; exact hE
    · iexact HE
  · iexists fO
    isplitr
    · ipureintro; exact hO
    · iexact HO

/-- A store into the group's emb staging slot. -/
theorem Tr.storeE {off size : Fin 3 → ℕ} {a n : ℕ} (ho : off = ![a, 0, 0]) (hn : size 0 = n) (h1 : 176 * X.s4 ≤ a) (h2 : a + 4 * n ≤ 176 * X.s4 + 179)
    (inb) (q1) (q2) (q3) (sp) (w) (hx) (hm)
    (hD : ∀ f, DE f → DE' (((seM.reshape S704x2x128 q1 q2 q3).access ⟨(⟨off, size, ![4, 1, 1], inb⟩ : LoadRect S704x2x128), sp⟩).write (Elt F) f w Finset.univ)) :
    Tr X DE DO (Prog.lift (.store (seM.reshape S704x2x128 q1 q2 q3) ⟨(⟨off, size, ![4, 1, 1], inb⟩ : LoadRect S704x2x128), sp⟩ w Finset.univ hx hm))
      (fun _ => True) DE' DO := by
  have hS : ((seM.reshape S704x2x128 q1 q2 q3).access ⟨(⟨off, size, ![4, 1, 1], inb⟩ : LoadRect S704x2x128), sp⟩).setOn Finset.univ ⊆ sSlot X.s4 := by
    refine Finset.Subset.trans ?_ (stageE_sub (s4 := X.s4) ho hn h1 h2 inb q1 q2 q3)
    intro i hi
    obtain ⟨x, -, rfl⟩ := Finset.mem_map.1 hi
    exact Finset.mem_map_of_mem _ (LoadRect.idx_mem _ x)
  unfold Tr CRes
  iintro ⟨HA, HW, HSc, HB, ⟨%fE, %hE, HE⟩, ⟨%fO, %hO, HO⟩⟩
  iapply (wp_store Variants.none (X.c : Thread nD τ) none Set.univ (m := seM.reshape S704x2x128 q1 q2 q3)
    (r := ⟨(⟨off, size, ![4, 1, 1], inb⟩ : LoadRect S704x2x128), sp⟩) (S := sSlot X.s4) (f := fE) hS) $$ [HE]
  · iexact HE
  iintro HE
  rw [wp_ret]
  imodintro
  isplitr
  · ipureintro; trivial
  isplitl [HA]; · iexact HA
  isplitl [HW]; · iexact HW
  isplitl [HSc]; · iexact HSc
  isplitl [HB]; · iexact HB
  isplitl [HE]
  · iexists _
    isplitr; swap; · iexact HE
    ipureintro; exact hD _ hE
  · iexists _
    isplitr; swap; · iexact HO
    ipureintro; exact hO

/-- Where an element of the normed staging ring's view as pairs of rows lies. -/
theorem stageO_emb (q1) (q2) (q3) (y : S704x2x128.Idx) :
    (((soM.reshape S704x2x128 q1 q2 q3).view.emb y) 0).val = 2 * (y 0).val + (y 1).val
      ∧ (((soM.reshape S704x2x128 q1 q2 q3).view.emb y) 1).val = (y 2).val := by
  have b0 : (y 0).val < 704 := (y 0).isLt
  have b1 : (y 1).val < 2 := (y 1).isLt
  have b2 : (y 2).val < 128 := (y 2).isLt
  let z : S1408x128.Idx := ix2 (⟨2 * (y 0).val + (y 1).val, by omega⟩ : Fin 1408) (⟨(y 2).val, b2⟩ : Fin 128)
  have e : (soM.reshape S704x2x128 q1 q2 q3).view.emb y = z := by
    show Shape.reshapeEquiv (s := S1408x128) q1 y = z
    apply Shape.reshapeEquiv_eq_of_rowMajor
    rw [show (S1408x128.rowMajor z).val = _ from Shape.rowMajor_val_two (d := ![1408, 128]) z,
      show (S704x2x128.rowMajor y).val = _ from Shape.rowMajor_val_three (d := ![704, 2, 128]) y]
    show (2 * (y 0).val + (y 1).val) * 128 + (y 2).val = ((y 0).val * 2 + (y 1).val) * 128 + (y 2).val
    omega
  rw [e]
  exact ⟨rfl, rfl⟩

/-- Every fourth pair of rows of a staging slot lies in the slot. -/
theorem stageO_sub {s4 : ℕ} {off size : Fin 3 → ℕ} {a n : ℕ} (ho : off = ![a, 0, 0]) (hn : size 0 = n) (h1 : 176 * s4 ≤ a) (h2 : a + 4 * n ≤ 176 * s4 + 179)
    (inb) (q1) (q2) (q3) :
    (soM.reshape S704x2x128 q1 q2 q3).view.setOn (⟨off, size, ![4, 1, 1], inb⟩ : LoadRect S704x2x128).set ⊆ sSlot s4 := by
  subst ho hn
  intro i hi
  obtain ⟨y, hy, rfl⟩ := Finset.mem_map.1 hi
  have b1 : (y 1).val < 2 := (y 1).isLt
  rw [mem_sSlot, (stageO_emb q1 q2 q3 y).1]
  obtain ⟨j, hj, e⟩ := (LoadRect.mem_set _).1 hy 0
  have e' : (y 0).val = a + 4 * j := e
  have hj' : j < size 0 := hj
  omega

/-- A load from the group's normed staging slot. -/
theorem Tr.loadO {off size : Fin 3 → ℕ} {a n : ℕ} (ho : off = ![a, 0, 0]) (hn : size 0 = n) (h1 : 176 * X.s4 ≤ a) (h2 : a + 4 * n ≤ 176 * X.s4 + 179)
    (inb) (q1) (q2) (q3) (hl) :
    Tr X DE DO (Prog.lift (.load (soM.reshape S704x2x128 q1 q2 q3) (⟨off, size, ![4, 1, 1], inb⟩ : LoadRect S704x2x128) hl)) (fun _ => True) DE DO := by
  have hS := stageO_sub (s4 := X.s4) ho hn h1 h2 inb q1 q2 q3
  unfold Tr CRes
  iintro ⟨HA, HW, HSc, HB, ⟨%fE, %hE, HE⟩, ⟨%fO, %hO, HO⟩⟩
  iapply (wp_load Variants.none (X.c : Thread nD τ) none Set.univ (m := soM.reshape S704x2x128 q1 q2 q3)
    (r := (⟨off, size, ![4, 1, 1], inb⟩ : LoadRect S704x2x128)) (S := sSlot X.s4) (f := fO) hS) $$ [HO]
  · iexact HO
  iintro HO
  rw [wp_ret]
  imodintro
  isplitr
  · ipureintro; trivial
  isplitl [HA]; · iexact HA
  isplitl [HW]; · iexact HW
  isplitl [HSc]; · iexact HSc
  isplitl [HB]; · iexact HB
  isplitl [HE]
  · iexists fE
    isplitr
    · ipureintro; exact hE
    · iexact HE
  · iexists fO
    isplitr
    · ipureintro; exact hO
    · iexact HO

/-- A store into the group's normed staging slot. -/
theorem Tr.storeO {off size : Fin 3 → ℕ} {a n : ℕ} (ho : off = ![a, 0, 0]) (hn : size 0 = n) (h1 : 176 * X.s4 ≤ a) (h2 : a + 4 * n ≤ 176 * X.s4 + 179)
    (inb) (q1) (q2) (q3) (sp) (w) (hx) (hm)
    (hD : ∀ f, DO f → DO' (((soM.reshape S704x2x128 q1 q2 q3).access ⟨(⟨off, size, ![4, 1, 1], inb⟩ : LoadRect S704x2x128), sp⟩).write (Elt F) f w Finset.univ)) :
    Tr X DE DO (Prog.lift (.store (soM.reshape S704x2x128 q1 q2 q3) ⟨(⟨off, size, ![4, 1, 1], inb⟩ : LoadRect S704x2x128), sp⟩ w Finset.univ hx hm))
      (fun _ => True) DE DO' := by
  have hS : ((soM.reshape S704x2x128 q1 q2 q3).access ⟨(⟨off, size, ![4, 1, 1], inb⟩ : LoadRect S704x2x128), sp⟩).setOn Finset.univ ⊆ sSlot X.s4 := by
    refine Finset.Subset.trans ?_ (stageO_sub (s4 := X.s4) ho hn h1 h2 inb q1 q2 q3)
    intro i hi
    obtain ⟨x, -, rfl⟩ := Finset.mem_map.1 hi
    exact Finset.mem_map_of_mem _ (LoadRect.idx_mem _ x)
  unfold Tr CRes
  iintro ⟨HA, HW, HSc, HB, ⟨%fE, %hE, HE⟩, ⟨%fO, %hO, HO⟩⟩
  iapply (wp_store Variants.none (X.c : Thread nD τ) none Set.univ (m := soM.reshape S704x2x128 q1 q2 q3)
    (r := ⟨(⟨off, size, ![4, 1, 1], inb⟩ : LoadRect S704x2x128), sp⟩) (S := sSlot X.s4) (f := fO) hS) $$ [HO]
  · iexact HO
  iintro HO
  rw [wp_ret]
  imodintro
  isplitr
  · ipureintro; trivial
  isplitl [HA]; · iexact HA
  isplitl [HW]; · iexact HW
  isplitl [HSc]; · iexact HSc
  isplitl [HB]; · iexact HB
  isplitl [HE]
  · iexists _
    isplitr; swap; · iexact HE
    ipureintro; exact hE
  · iexists _
    isplitr; swap; · iexact HO
    ipureintro; exact hD _ hO

end Cert.KernelIdeal.Hand
-- ==== Proof.KI.Parts.lean ====
/-
  The side conditions on the token words: a table row and a scale at a token's address are in range because the token is.
-/
module

public import proofs.«01_k».proof.Proof.KI.Compute

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Any contents. -/
abbrev Any : Stage F → Prop := fun _ => True

/-! ## The side conditions on a token word -/

theorem chk1 (w : BitVec 32) (h : w.toNat < 64000) : k0_chk1 w := by
  intro a
  fin_cases a
  · show (w >>> (2 : ℕ)).toNat + 1 ≤ 16000
    rw [BitVec.toNat_ushiftRight, Nat.shiftRight_eq_div_pow]; omega
  · show 0 + 5632 ≤ 5632; omega

theorem chk2 (w : BitVec 32) (h : w.toNat < 64000) : k0_chk2 w := by
  intro a
  fin_cases a
  · show (w >>> (2 : ℕ)).toNat + 1 ≤ 16000
    rw [BitVec.toNat_ushiftRight, Nat.shiftRight_eq_div_pow]; omega
  · show 0 + 5632 ≤ 5632; omega

theorem chk3 (w : BitVec 32) (h : w.toNat < 64000) : k0_chk3 w := by
  intro a
  fin_cases a
  · show (w >>> (2 : ℕ)).toNat + 1 ≤ 16000
    rw [BitVec.toNat_ushiftRight, Nat.shiftRight_eq_div_pow]; omega
  · show 0 + 5632 ≤ 5632; omega

theorem chk4 (w : BitVec 32) (h : w.toNat < 64000) : k0_chk4 w := by
  intro a
  fin_cases a
  · show (w >>> (2 : ℕ)).toNat + 1 ≤ 16000
    rw [BitVec.toNat_ushiftRight, Nat.shiftRight_eq_div_pow]; omega
  · show 0 + 5632 ≤ 5632; omega

theorem chk5 (w : BitVec 32) (h : w.toNat < 64000) : k0_chk5 w := by
  intro a
  fin_cases a
  · show (w >>> (2 : ℕ)).toNat + 1 ≤ 16000
    rw [BitVec.toNat_ushiftRight, Nat.shiftRight_eq_div_pow]; omega
  · show 0 + 5632 ≤ 5632; omega

theorem chk6 (w : BitVec 32) (h : w.toNat < 64000) : k0_chk6 w := by
  intro a
  fin_cases a
  · show (w >>> (2 : ℕ)).toNat + 1 ≤ 16000
    rw [BitVec.toNat_ushiftRight, Nat.shiftRight_eq_div_pow]; omega
  · show 0 + 5632 ≤ 5632; omega

theorem chk7 (w : BitVec 32) (h : w.toNat < 64000) : k0_chk7 w := by
  intro a
  fin_cases a
  · show (w >>> (2 : ℕ)).toNat + 1 ≤ 16000
    rw [BitVec.toNat_ushiftRight, Nat.shiftRight_eq_div_pow]; omega
  · show 0 + 5632 ≤ 5632; omega

theorem chk8 (w : BitVec 32) (h : w.toNat < 64000) : k0_chk8 w := by
  intro a
  fin_cases a
  · show (w >>> (2 : ℕ)).toNat + 1 ≤ 16000
    rw [BitVec.toNat_ushiftRight, Nat.shiftRight_eq_div_pow]; omega
  · show 0 + 5632 ≤ 5632; omega

theorem chk9 (k : Fin k0_t2_loop.trips) (w : BitVec 32) (h : w.toNat < 64000) : k0_chk9 k w := by
  intro _ a
  fin_cases a
  · show (w >>> (2 : ℕ)).toNat + 1 ≤ 16000
    rw [BitVec.toNat_ushiftRight, Nat.shiftRight_eq_div_pow]; omega
  · show 0 + 5632 ≤ 5632; omega

theorem chk10 (k : Fin k0_t2_loop.trips) (w : BitVec 32) (h : w.toNat < 64000) : k0_chk10 k w := by
  intro _ a
  fin_cases a
  · show (w >>> (2 : ℕ)).toNat + 1 ≤ 16000
    rw [BitVec.toNat_ushiftRight, Nat.shiftRight_eq_div_pow]; omega
  · show 0 + 5632 ≤ 5632; omega

theorem chk11 (k : Fin k0_t2_loop.trips) (w : BitVec 32) (h : w.toNat < 64000) : k0_chk11 k w := by
  intro _ a
  fin_cases a
  · show (w >>> (2 : ℕ)).toNat + 1 ≤ 16000
    rw [BitVec.toNat_ushiftRight, Nat.shiftRight_eq_div_pow]; omega
  · show 0 + 5632 ≤ 5632; omega

theorem chk12 (k : Fin k0_t2_loop.trips) (w : BitVec 32) (h : w.toNat < 64000) : k0_chk12 k w := by
  intro _ a
  fin_cases a
  · show (w >>> (2 : ℕ)).toNat + 1 ≤ 16000
    rw [BitVec.toNat_ushiftRight, Nat.shiftRight_eq_div_pow]; omega
  · show 0 + 5632 ≤ 5632; omega

theorem chk13 (k : Fin k0_t2_loop.trips) (w : BitVec 32) (h : w.toNat < 64000) : k0_chk13 k w := by
  intro _ a
  fin_cases a
  · show (w >>> (2 : ℕ)).toNat + 1 ≤ 16000
    rw [BitVec.toNat_ushiftRight, Nat.shiftRight_eq_div_pow]; omega
  · show 0 + 5632 ≤ 5632; omega

theorem chk14 (k : Fin k0_t2_loop.trips) (w : BitVec 32) (h : w.toNat < 64000) : k0_chk14 k w := by
  intro _ a
  fin_cases a
  · show (w >>> (2 : ℕ)).toNat + 1 ≤ 16000
    rw [BitVec.toNat_ushiftRight, Nat.shiftRight_eq_div_pow]; omega
  · show 0 + 5632 ≤ 5632; omega

theorem chk15 (k : Fin k0_t2_loop.trips) (w : BitVec 32) (h : w.toNat < 64000) : k0_chk15 k w := by
  intro _ a
  fin_cases a
  · show (w >>> (2 : ℕ)).toNat + 1 ≤ 16000
    rw [BitVec.toNat_ushiftRight, Nat.shiftRight_eq_div_pow]; omega
  · show 0 + 5632 ≤ 5632; omega

theorem chk16 (k : Fin k0_t2_loop.trips) (w : BitVec 32) (h : w.toNat < 64000) : k0_chk16 k w := by
  intro _ a
  fin_cases a
  · show (w >>> (2 : ℕ)).toNat + 1 ≤ 16000
    rw [BitVec.toNat_ushiftRight, Nat.shiftRight_eq_div_pow]; omega
  · show 0 + 5632 ≤ 5632; omega

theorem chk17 (w : BitVec 32) (h : w.toNat < 64000) : k0_chk17 w := by
  intro a
  fin_cases a
  show w.toNat + 1 ≤ 64000
  omega

theorem chk18 (w : BitVec 32) (h : w.toNat < 64000) : k0_chk18 w := by
  intro a
  fin_cases a
  show w.toNat + 1 ≤ 64000
  omega

theorem chk19 (w : BitVec 32) (h : w.toNat < 64000) : k0_chk19 w := by
  intro a
  fin_cases a
  show w.toNat + 1 ≤ 64000
  omega

theorem chk20 (w : BitVec 32) (h : w.toNat < 64000) : k0_chk20 w := by
  intro a
  fin_cases a
  show w.toNat + 1 ≤ 64000
  omega

theorem chk21 (w : BitVec 32) (h : w.toNat < 64000) : k0_chk21 w := by
  intro a
  fin_cases a
  show w.toNat + 1 ≤ 64000
  omega

theorem chk22 (w : BitVec 32) (h : w.toNat < 64000) : k0_chk22 w := by
  intro a
  fin_cases a
  show w.toNat + 1 ≤ 64000
  omega

theorem chk23 (w : BitVec 32) (h : w.toNat < 64000) : k0_chk23 w := by
  intro a
  fin_cases a
  show w.toNat + 1 ≤ 64000
  omega

theorem chk24 (w : BitVec 32) (h : w.toNat < 64000) : k0_chk24 w := by
  intro a
  fin_cases a
  show w.toNat + 1 ≤ 64000
  omega

end Cert.KernelIdeal.Hand
-- ==== Proof.KI.Issue.lean ====
/-
  The steps that issue a group's eight row copies into its slot of the input ring: a free slot opens into a batch with
  nothing issued, each row's token word is loaded and checked, and its copy issued; after eight the group is in flight.
-/
module

public import proofs.«01_k».proof.Proof.KI.Parts
public import Idealize.SL.BI.BigOpNat
public import Idealize.SL.ProofMode.BigOp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

/-- The proof's user algebra: the pipeline library's beside the transfers' counters. -/
local notation "𝕄" => MT nD τ sig Unit (Elt F) ℕ (Pipeline.UD sig nD τ) ℕ

/-! ## Running one piece after another -/

theorem ent_bind {c : Dev nD} {α β : Type} {A C : sProp 𝕄} {Q : β → sProp 𝕄} {P : α → Prop} {p : Prog (TpuEff nD τ sig (Elt F) Λ₀ .tc) α}
    {k : α → Prog (TpuEff nD τ sig (Elt F) Λ₀ .tc) β} (h1 : A ⊢ wpK c p (fun a => iprop(⌜P a⌝ ∗ C))) (h2 : ∀ a, P a → C ⊢ wpK c (k a) Q) :
    A ⊢ wpK c (p >>= k) Q := by
  unfold wpK at *
  rw [wp_bind]
  refine h1.trans (wp_mono _ _ _ fun a => ?_)
  iintro ⟨%ha, H⟩
  iapply (h2 a ha)
  iexact H

theorem ent_bind' {c : Dev nD} {α β : Type} {A : sProp 𝕄} {C : α → sProp 𝕄} {Q : β → sProp 𝕄} {p : Prog (TpuEff nD τ sig (Elt F) Λ₀ .tc) α}
    {k : α → Prog (TpuEff nD τ sig (Elt F) Λ₀ .tc) β} (h1 : A ⊢ wpK c p C) (h2 : ∀ a, C a ⊢ wpK c (k a) Q) :
    A ⊢ wpK c (p >>= k) Q := by
  unfold wpK at *
  rw [wp_bind]
  exact h1.trans (wp_mono _ _ _ h2)

theorem ent_ret {c : Dev nD} {α : Type} {A : sProp 𝕄} {Q : α → sProp 𝕄} {a : α} (h : A ⊢ Q a) :
    A ⊢ wpK c (pure a : Prog (TpuEff nD τ sig (Elt F) Λ₀ .tc) α) Q := by
  unfold wpK
  rw [show (pure a : Prog (TpuEff nD τ sig (Elt F) Λ₀ .tc) α) = .ret a from rfl, wp_ret]
  iintro H
  imodintro
  iapply h
  iexact H

theorem ent_frame {c : Dev nD} {α : Type} {A G : sProp 𝕄} {C : α → sProp 𝕄} {p : Prog (TpuEff nD τ sig (Elt F) Λ₀ .tc) α}
    (h : A ⊢ wpK c p C) : iprop(A ∗ G) ⊢ wpK c p (fun a => iprop(C a ∗ G)) := by
  unfold wpK at *
  exact (sep_mono_left h).trans (wp_frame_r _ _ _)

theorem ent_asm {c : Dev nD} {A : sProp 𝕄} {P : Prop} {d : Decidable P} (h : P) :
    A ⊢ wpK c (Prog.lift (TpuEff.assume P d)) (fun _ => iprop(⌜True⌝ ∗ A)) := by
  refine BIBase.Entails.trans ?_ (wp_asm c h _)
  iintro H
  isplitr
  · ipureintro; trivial
  · iexact H

theorem vec1 {a b : ℕ} (h : a = b) : (![a] : Fin 1 → ℕ) = ![b] := by rw [h]
theorem vec3 {a b : ℕ} (h : a = b) : (![a, 0, 0] : Fin 3 → ℕ) = ![b, 0, 0] := by rw [h]
theorem vec2 {a b : ℕ} (h : a = b) : (![a, 0] : Fin 2 → ℕ) = ![b, 0] := by rw [h]
theorem vec4 {a b : ℕ} (h : a = b) : (![a, 0, 0, 0] : Fin 4 → ℕ) = ![b, 0, 0, 0] := by rw [h]

/-! ## A slot while its copies are being issued -/

/-- A row of the ring that no copy is writing, with its share of the table. -/
def FreeRow (c : Dev nD) (fT : S16000x5632.Idx → BitVec 32) (R : ℕ) : sProp 𝕄 :=
  iprop((∃ f, ptB (F := F) c (bRow R) f) ∗ ptT c (shR R) Finset.univ fT)
/-- What is left of row `i`'s share of the table while its copy is in flight. -/
def LeftRow (c : Dev nD) (fT : S16000x5632.Idx → BitVec 32) (tk : ℕ → BitVec 32) (g i : ℕ) : sProp 𝕄 :=
  ptT (F := F) c (shR (8 * (g % 64) + i)) (Finset.univ \ tRow (rowOf (tk (8 * g + i)))) fT
/-- The tokens, and group `g`'s slot with `i` copies issued. -/
def IRes (c : Dev nD) (arg0 : Memref sig .tc .smem S16384 .i32) (fA : Buf (Elt F) (arg0.view.loc (c : Thread nD τ)))
    (fT : S16000x5632.Idx → BitVec 32) (tk : ℕ → BitVec 32) (g i : ℕ) : sProp 𝕄 :=
  iprop((arg0.view.loc (c : Thread nD τ) ↦[arg0.view.set]{fullShare} fA)
    ∗ BRow (F := F) c fT tk g i
    ∗ bigSep (Finset.Ico 0 i) (LeftRow (F := F) c fT tk g) ∗ bigSep (Finset.Ico i 8) (fun j => FreeRow (F := F) c fT (8 * (g % 64) + j)))
/-- A free slot. -/
def FreeIn (c : Dev nD) (fT : S16000x5632.Idx → BitVec 32) (g : ℕ) : sProp 𝕄 :=
  iprop(semVal ((c : Thread nD τ), SemLoc.dma (semIn (g % 64))) 0 ∗ bigSep (Finset.Ico 0 8) (fun j => FreeRow (F := F) c fT (8 * (g % 64) + j)))
/-- A group in flight. -/
def FlightIn (c : Dev nD) (fT : S16000x5632.Idx → BitVec 32) (tk : ℕ → BitVec 32) (g : ℕ) : sProp 𝕄 :=
  iprop(BRow (F := F) c fT tk g 8 ∗ bigSep (Finset.Ico 0 8) (LeftRow (F := F) c fT tk g))

section
variable {c : Dev nD} {arg0 : Memref sig .tc .smem S16384 .i32} {fA : Buf (Elt F) (arg0.view.loc (c : Thread nD τ))}
  {fT : S16000x5632.Idx → BitVec 32} {tokF : S16384.Idx → BitVec 32} (hf : arg0.view.read (Elt F) fA = tokF)
  {arg3 : Memref sig .tc .vmem S44x128 .f32} (harg0 : arg0.IsWhole) (harg3 : arg3.IsWhole)
  (htk : ∀ n, n < 16384 → (tkOf tokF n).toNat < 64000)

/-- A free slot opens. -/
theorem open_in {α : Type} {p : Prog (TpuEff nD τ sig (Elt F) Λ₀ .tc) α} {Q : α → sProp 𝕄} (tk : ℕ → BitVec 32) (g : ℕ)
    (h : IRes c arg0 fA fT tk g 0 ⊢ wpK c p Q) :
    iprop((arg0.view.loc (c : Thread nD τ) ↦[arg0.view.set]{fullShare} fA) ∗ FreeIn (F := F) c fT g) ⊢ wpK c p Q := by
  unfold FreeIn
  iintro ⟨HA, Hq, HR⟩
  imod (Transfers.batch_alloc' (Lvl := ℕ) (EC (F := F)) (c : Thread nD τ) () NR (DRow (F := F) c fT tk g) (sm := SemLoc.dma (semIn (g % 64))) (E := Set.univ)) $$ Hq with HBt
  iapply h
  unfold IRes
  isplitl [HA]; · iexact HA
  isplitl [HBt]; · iexact HBt
  isplitr
  · rw [Finset.Ico_self, bigSep_empty]; iempintro
  · iexact HR

/-- A slot with all its copies issued is in flight. -/
theorem close_in (tk : ℕ → BitVec 32) (g : ℕ) :
    IRes c arg0 fA fT tk g 8 ⊢ iprop((arg0.view.loc (c : Thread nD τ) ↦[arg0.view.set]{fullShare} fA) ∗ FlightIn (F := F) c fT tk g) := by
  unfold IRes FlightIn
  iintro ⟨HA, HB, HL, _⟩
  isplitl [HA]; · iexact HA
  isplitl [HB]; · iexact HB
  iexact HL

include hf in
/-- The step that loads a row's token word. -/
theorem i_tok (g i n : ℕ) (hn : n < 16384) {o : Fin 1 → ℕ} (ho : o = ![n]) (inb) (h1) (hp) :
    IRes c arg0 fA fT (tkOf tokF) g i ⊢ wpK c (smemLoad arg0 (Rect.unit (s := S16384) o S1.size inb) h1 hp)
      (fun v => iprop(⌜v = tkOf tokF n⌝ ∗ IRes c arg0 fA fT (tkOf tokF) g i)) := by
  unfold IRes
  iintro ⟨HA, HR⟩
  iapply (wp_tok c arg0 tokF hf n hn ho inb h1 hp _) $$ [HA]
  · iexact HA
  iintro HA
  isplitr
  · ipureintro; rfl
  isplitl [HA]; · iexact HA
  iexact HR

/-- The step that issues a row's copy. -/
theorem i_row (tk : ℕ → BitVec 32) (g i : ℕ) (hi : i < 8)
    {o1 : Fin 1 → ℕ} {o2 : Fin 3 → ℕ} {o3 : Fin 2 → ℕ}
    (h1 : o1 = ![g % 64]) (h2 : o2 = ![8 * (g % 64) + i, 0, 0]) (h3 : o3 = ![rowOf (tk (8 * g + i)), 0])
    (inb1) (inb2) (inb3) (p2) (p3) (hw1) (hw2) (hw3) :
    IRes c arg0 fA fT tk g i ⊢ wpK c (Prog.lift (.enqueueDma (hbT.slice (Rect.unit (s := S16000x5632) o3 S1x5632.size inb3) p3)
            (.here ((bufM.slice (Rect.unit (s := S512x1x5632) o2 S1x1x5632.size inb2) p2).squeeze S1x5632 squeezes_S1x1x5632_S1x5632))
            (.dma ((cc0_scratch4.slice (Rect.unit (s := S64) o1 S1.size inb1)).squeeze S_ squeezes_S1_S_).sem) hw1 hw2 hw3))
      (fun _ => iprop(⌜True⌝ ∗ IRes c arg0 fA fT tk g (i + 1))) := by
  unfold IRes
  rw [bigSep_Ico_succ_bot hi, bigSep_Ico_succ_top (Nat.zero_le i)]
  iintro ⟨HA, HB, HL, HF, HR⟩
  unfold FreeRow
  icases HF with ⟨⟨%f0, HF⟩, HT⟩
  iapply (wp_row c fT tk g i hi h1 h2 h3 inb1 inb2 inb3 p2 p3 hw1 hw2 hw3 f0 _) $$ [HB HF HT]
  · isplitl [HT]; · iexact HT
    isplitl [HF]; · iexact HF
    iexact HB
  iintro ⟨HB, HT⟩
  isplitr
  · ipureintro; trivial
  isplitl [HA]; · iexact HA
  isplitl [HB]; · iexact HB
  isplitl [HL HT]
  · isplitl [HT]
    · unfold LeftRow
      iexact HT
    · iexact HL
  · iexact HR

include hf htk in
/-- Part 1 of the body: it issues copies 0 to 1. -/
theorem fr_part1 (c0_i32 : BitVec 32) (c1_i32 : BitVec 32) (k0_t1 : Fin k0_t1_loop.trips) (hk : k0_t1.val < 63) :
    IRes c arg0 fA fT (tkOf tokF) k0_t1.val 0 ⊢ wpK c (k0_part1 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c0_i32 c1_i32 k0_t1) (fun r => iprop(⌜r.2.2.1 = tkOf tokF (8 * k0_t1.val + 2)⌝ ∗ IRes c arg0 fA fT (tkOf tokF) k0_t1.val 2)) := by
  rw [k0_part1_eq_skeleton]
  unfold k0_part1_skel
  refine ent_bind (i_tok hf k0_t1.val _ (8 * k0_t1.val + 0) (by omega) ((k0_off1_eq k0_t1).trans (vec1 (by omega))) _ _ _) fun v27 e0 => ?_
  refine ent_bind (ent_asm (chk1 _ (by rw [e0]; exact htk _ (by omega)))) fun _ _ => ?_
  refine ent_bind (i_row (tkOf tokF) k0_t1.val 0 (by decide) ((k0_off2_eq k0_t1).trans (vec1 (by omega))) ((k0_off3_eq k0_t1).trans (vec3 (by omega))) (by rw [← e0]; rfl) _ _ _ _ _ _ _ _) fun _ _ => ?_
  refine ent_bind (i_tok hf k0_t1.val _ (8 * k0_t1.val + 1) (by omega) ((k0_off5_eq k0_t1).trans (vec1 (by omega))) _ _ _) fun v39 e1 => ?_
  refine ent_bind (ent_asm (chk2 _ (by rw [e1]; exact htk _ (by omega)))) fun _ _ => ?_
  refine ent_bind (i_row (tkOf tokF) k0_t1.val 1 (by decide) ((k0_off6_eq k0_t1).trans (vec1 (by omega))) ((k0_off7_eq k0_t1).trans (vec3 (by omega))) (by rw [← e1]; rfl) _ _ _ _ _ _ _ _) fun _ _ => ?_
  refine ent_bind (i_tok hf k0_t1.val _ (8 * k0_t1.val + 2) (by omega) ((k0_off9_eq k0_t1).trans (vec1 (by omega))) _ _ _) fun v51 e2 => ?_
  refine ent_bind (ent_asm (chk3 _ (by rw [e2]; exact htk _ (by omega)))) fun _ _ => ?_
  refine ent_ret ?_
  iintro H
  isplitr
  · ipureintro; exact e2
  · iexact H

include hf htk in
/-- Part 2 of the body: it issues copies 2 to 4. -/
theorem fr_part2 (k0_t1 : Fin k0_t1_loop.trips) (v22 : BitVec 32) (v23 : BitVec 32) (v51 : Elt F .i32) (k0_hw3 : k0_chk3 v51) (hk : k0_t1.val < 63) (e2 : v51 = tkOf tokF (8 * k0_t1.val + 2)) :
    IRes c arg0 fA fT (tkOf tokF) k0_t1.val 2 ⊢ wpK c (k0_part2 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t1 v22 v23 v51 k0_hw3) (fun _ => iprop(⌜True⌝ ∗ IRes c arg0 fA fT (tkOf tokF) k0_t1.val 5)) := by
  rw [k0_part2_eq_skeleton]
  unfold k0_part2_skel
  refine ent_bind (i_row (tkOf tokF) k0_t1.val 2 (by decide) ((k0_off10_eq k0_t1).trans (vec1 (by omega))) ((k0_off11_eq k0_t1).trans (vec3 (by omega))) (by rw [← e2]; rfl) _ _ _ _ _ _ _ _) fun _ _ => ?_
  refine ent_bind (i_tok hf k0_t1.val _ (8 * k0_t1.val + 3) (by omega) ((k0_off13_eq k0_t1).trans (vec1 (by omega))) _ _ _) fun v63 e3 => ?_
  refine ent_bind (ent_asm (chk4 _ (by rw [e3]; exact htk _ (by omega)))) fun _ _ => ?_
  refine ent_bind (i_row (tkOf tokF) k0_t1.val 3 (by decide) ((k0_off14_eq k0_t1).trans (vec1 (by omega))) ((k0_off15_eq k0_t1).trans (vec3 (by omega))) (by rw [← e3]; rfl) _ _ _ _ _ _ _ _) fun _ _ => ?_
  refine ent_bind (i_tok hf k0_t1.val _ (8 * k0_t1.val + 4) (by omega) ((k0_off17_eq k0_t1).trans (vec1 (by omega))) _ _ _) fun v75 e4 => ?_
  refine ent_bind (ent_asm (chk5 _ (by rw [e4]; exact htk _ (by omega)))) fun _ _ => ?_
  refine ent_bind (i_row (tkOf tokF) k0_t1.val 4 (by decide) ((k0_off18_eq k0_t1).trans (vec1 (by omega))) ((k0_off19_eq k0_t1).trans (vec3 (by omega))) (by rw [← e4]; rfl) _ _ _ _ _ _ _ _) fun _ _ => ?_
  refine ent_ret ?_
  iintro H
  isplitr
  · ipureintro; trivial
  · iexact H

include hf htk in
/-- Part 3 of the body: it issues copies 5 to 6. -/
theorem fr_part3 (k0_t1 : Fin k0_t1_loop.trips) (v22 : BitVec 32) (v23 : BitVec 32) (v84 : BitVec 32) (c5_i32 : BitVec 32) (hk : k0_t1.val < 63) :
    IRes c arg0 fA fT (tkOf tokF) k0_t1.val 5 ⊢ wpK c (k0_part3 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t1 v22 v23 v84 c5_i32) (fun r => iprop(⌜r.1 = tkOf tokF (8 * k0_t1.val + 7)⌝ ∗ IRes c arg0 fA fT (tkOf tokF) k0_t1.val 7)) := by
  rw [k0_part3_eq_skeleton]
  unfold k0_part3_skel
  refine ent_bind (i_tok hf k0_t1.val _ (8 * k0_t1.val + 5) (by omega) ((k0_off21_eq k0_t1).trans (vec1 (by omega))) _ _ _) fun v87 e5 => ?_
  refine ent_bind (ent_asm (chk6 _ (by rw [e5]; exact htk _ (by omega)))) fun _ _ => ?_
  refine ent_bind (i_row (tkOf tokF) k0_t1.val 5 (by decide) ((k0_off22_eq k0_t1).trans (vec1 (by omega))) ((k0_off23_eq k0_t1).trans (vec3 (by omega))) (by rw [← e5]; rfl) _ _ _ _ _ _ _ _) fun _ _ => ?_
  refine ent_bind (i_tok hf k0_t1.val _ (8 * k0_t1.val + 6) (by omega) ((k0_off25_eq k0_t1).trans (vec1 (by omega))) _ _ _) fun v99 e6 => ?_
  refine ent_bind (ent_asm (chk7 _ (by rw [e6]; exact htk _ (by omega)))) fun _ _ => ?_
  refine ent_bind (i_row (tkOf tokF) k0_t1.val 6 (by decide) ((k0_off26_eq k0_t1).trans (vec1 (by omega))) ((k0_off27_eq k0_t1).trans (vec3 (by omega))) (by rw [← e6]; rfl) _ _ _ _ _ _ _ _) fun _ _ => ?_
  refine ent_bind (i_tok hf k0_t1.val _ (8 * k0_t1.val + 7) (by omega) ((k0_off29_eq k0_t1).trans (vec1 (by omega))) _ _ _) fun v111 e7 => ?_
  refine ent_bind (ent_asm (chk8 _ (by rw [e7]; exact htk _ (by omega)))) fun _ _ => ?_
  refine ent_ret ?_
  iintro H
  isplitr
  · ipureintro; exact e7
  · iexact H

include hf htk in
/-- Part 4 of the body: it issues copies 0 to 1. -/
theorem fr_part4 (k0_t2 : Fin k0_t2_loop.trips) (v22 : BitVec 32) (k0_h2 : k0_cond2 k0_t2 = 1#1) (hk : k0_t2.val + 63 < 2048) :
    IRes c arg0 fA fT (tkOf tokF) (k0_t2.val + 63) 0 ⊢ wpK c (k0_part4 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 k0_h2) (fun r => iprop(⌜r.2.2.1 = tkOf tokF (8 * (k0_t2.val + 63) + 2)⌝ ∗ IRes c arg0 fA fT (tkOf tokF) (k0_t2.val + 63) 2)) := by
  rw [k0_part4_eq_skeleton]
  unfold k0_part4_skel
  refine ent_bind (i_tok hf (k0_t2.val + 63) _ (8 * (k0_t2.val + 63) + 0) (by omega) ((k0_off36_eq k0_t2).trans (vec1 (by omega))) _ _ _) fun v1573 e0 => ?_
  refine ent_bind (ent_asm (chk9 k0_t2 _ (by rw [e0]; exact htk _ (by omega)))) fun _ _ => ?_
  refine ent_bind (i_row (tkOf tokF) (k0_t2.val + 63) 0 (by decide) ((k0_off37_eq k0_t2).trans (vec1 (by omega))) ((k0_off38_eq k0_t2).trans (vec3 (by omega))) (by rw [← e0]; rfl) _ _ _ _ _ _ _ _) fun _ _ => ?_
  refine ent_bind (i_tok hf (k0_t2.val + 63) _ (8 * (k0_t2.val + 63) + 1) (by omega) ((k0_off40_eq k0_t2).trans (vec1 (by omega))) _ _ _) fun v1585 e1 => ?_
  refine ent_bind (ent_asm (chk10 k0_t2 _ (by rw [e1]; exact htk _ (by omega)))) fun _ _ => ?_
  refine ent_bind (i_row (tkOf tokF) (k0_t2.val + 63) 1 (by decide) ((k0_off41_eq k0_t2).trans (vec1 (by omega))) ((k0_off42_eq k0_t2).trans (vec3 (by omega))) (by rw [← e1]; rfl) _ _ _ _ _ _ _ _) fun _ _ => ?_
  refine ent_bind (i_tok hf (k0_t2.val + 63) _ (8 * (k0_t2.val + 63) + 2) (by omega) ((k0_off44_eq k0_t2).trans (vec1 (by omega))) _ _ _) fun v1597 e2 => ?_
  refine ent_bind (ent_asm (chk11 k0_t2 _ (by rw [e2]; exact htk _ (by omega)))) fun _ _ => ?_
  refine ent_ret ?_
  iintro H
  isplitr
  · ipureintro; exact e2
  · iexact H

include hf htk in
/-- Part 5 of the body: it issues copies 2 to 4. -/
theorem fr_part5 (k0_t2 : Fin k0_t2_loop.trips) (k0_h2 : k0_cond2 k0_t2 = 1#1) (v1568 : BitVec 32) (v1569 : BitVec 32) (v1597 : Elt F .i32) (k0_hw11 : k0_chk11 k0_t2 v1597) (c8_i32_553 : BitVec 32) (hk : k0_t2.val + 63 < 2048) (e2 : v1597 = tkOf tokF (8 * (k0_t2.val + 63) + 2)) :
    IRes c arg0 fA fT (tkOf tokF) (k0_t2.val + 63) 2 ⊢ wpK c (k0_part5 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 k0_h2 v1568 v1569 v1597 k0_hw11 c8_i32_553) (fun _ => iprop(⌜True⌝ ∗ IRes c arg0 fA fT (tkOf tokF) (k0_t2.val + 63) 5)) := by
  rw [k0_part5_eq_skeleton]
  unfold k0_part5_skel
  refine ent_bind (i_row (tkOf tokF) (k0_t2.val + 63) 2 (by decide) ((k0_off45_eq k0_t2).trans (vec1 (by omega))) ((k0_off46_eq k0_t2).trans (vec3 (by omega))) (by rw [← e2]; rfl) _ _ _ _ _ _ _ _) fun _ _ => ?_
  refine ent_bind (i_tok hf (k0_t2.val + 63) _ (8 * (k0_t2.val + 63) + 3) (by omega) ((k0_off48_eq k0_t2).trans (vec1 (by omega))) _ _ _) fun v1609 e3 => ?_
  refine ent_bind (ent_asm (chk12 k0_t2 _ (by rw [e3]; exact htk _ (by omega)))) fun _ _ => ?_
  refine ent_bind (i_row (tkOf tokF) (k0_t2.val + 63) 3 (by decide) ((k0_off49_eq k0_t2).trans (vec1 (by omega))) ((k0_off50_eq k0_t2).trans (vec3 (by omega))) (by rw [← e3]; rfl) _ _ _ _ _ _ _ _) fun _ _ => ?_
  refine ent_bind (i_tok hf (k0_t2.val + 63) _ (8 * (k0_t2.val + 63) + 4) (by omega) ((k0_off52_eq k0_t2).trans (vec1 (by omega))) _ _ _) fun v1621 e4 => ?_
  refine ent_bind (ent_asm (chk13 k0_t2 _ (by rw [e4]; exact htk _ (by omega)))) fun _ _ => ?_
  refine ent_bind (i_row (tkOf tokF) (k0_t2.val + 63) 4 (by decide) ((k0_off53_eq k0_t2).trans (vec1 (by omega))) ((k0_off54_eq k0_t2).trans (vec3 (by omega))) (by rw [← e4]; rfl) _ _ _ _ _ _ _ _) fun _ _ => ?_
  refine ent_ret ?_
  iintro H
  isplitr
  · ipureintro; trivial
  · iexact H

include hf htk in
/-- Part 6 of the body: it issues copies 5 to 6. -/
theorem fr_part6 (k0_t2 : Fin k0_t2_loop.trips) (k0_h2 : k0_cond2 k0_t2 = 1#1) (v1568 : BitVec 32) (v1569 : BitVec 32) (v1631 : BitVec 32) (hk : k0_t2.val + 63 < 2048) :
    IRes c arg0 fA fT (tkOf tokF) (k0_t2.val + 63) 5 ⊢ wpK c (k0_part6 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 k0_h2 v1568 v1569 v1631) (fun r => iprop(⌜r.1 = tkOf tokF (8 * (k0_t2.val + 63) + 7)⌝ ∗ IRes c arg0 fA fT (tkOf tokF) (k0_t2.val + 63) 7)) := by
  rw [k0_part6_eq_skeleton]
  unfold k0_part6_skel
  refine ent_bind (i_tok hf (k0_t2.val + 63) _ (8 * (k0_t2.val + 63) + 5) (by omega) ((k0_off56_eq k0_t2).trans (vec1 (by omega))) _ _ _) fun v1633 e5 => ?_
  refine ent_bind (ent_asm (chk14 k0_t2 _ (by rw [e5]; exact htk _ (by omega)))) fun _ _ => ?_
  refine ent_bind (i_row (tkOf tokF) (k0_t2.val + 63) 5 (by decide) ((k0_off57_eq k0_t2).trans (vec1 (by omega))) ((k0_off58_eq k0_t2).trans (vec3 (by omega))) (by rw [← e5]; rfl) _ _ _ _ _ _ _ _) fun _ _ => ?_
  refine ent_bind (i_tok hf (k0_t2.val + 63) _ (8 * (k0_t2.val + 63) + 6) (by omega) ((k0_off60_eq k0_t2).trans (vec1 (by omega))) _ _ _) fun v1645 e6 => ?_
  refine ent_bind (ent_asm (chk15 k0_t2 _ (by rw [e6]; exact htk _ (by omega)))) fun _ _ => ?_
  refine ent_bind (i_row (tkOf tokF) (k0_t2.val + 63) 6 (by decide) ((k0_off61_eq k0_t2).trans (vec1 (by omega))) ((k0_off62_eq k0_t2).trans (vec3 (by omega))) (by rw [← e6]; rfl) _ _ _ _ _ _ _ _) fun _ _ => ?_
  refine ent_bind (i_tok hf (k0_t2.val + 63) _ (8 * (k0_t2.val + 63) + 7) (by omega) ((k0_off64_eq k0_t2).trans (vec1 (by omega))) _ _ _) fun v1657 e7 => ?_
  refine ent_bind (ent_asm (chk16 k0_t2 _ (by rw [e7]; exact htk _ (by omega)))) fun _ _ => ?_
  refine ent_ret ?_
  iintro H
  isplitr
  · ipureintro; exact e7
  · iexact H

include hf htk in
/-- A trip of the first loop issues a group. -/
theorem fr_t1 (k0_t1 : Fin k0_t1_loop.trips) (u : Unit) (hk : k0_t1.val < 63) :
    iprop((arg0.view.loc (c : Thread nD τ) ↦[arg0.view.set]{fullShare} fA) ∗ FreeIn (F := F) c fT k0_t1.val)
      ⊢ wpK c (k0_t1_body (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t1 u)
        (fun _ => iprop((arg0.view.loc (c : Thread nD τ) ↦[arg0.view.set]{fullShare} fA) ∗ FlightIn (F := F) c fT (tkOf tokF) k0_t1.val)) := by
  refine open_in (tkOf tokF) k0_t1.val ?_
  unfold k0_t1_body
  refine ent_bind (fr_part1 hf harg0 harg3 htk 0#32 1#32 k0_t1 hk) fun r1 e2 => ?_
  obtain ⟨v22, v23, v51, k0_hw3⟩ := r1
  refine ent_bind (fr_part2 hf harg0 harg3 htk k0_t1 v22 v23 v51 k0_hw3 hk e2) fun r2 _ => ?_
  obtain ⟨v84, c5⟩ := r2
  refine ent_bind (fr_part3 hf harg0 harg3 htk k0_t1 v22 v23 v84 c5 hk) fun r3 e7 => ?_
  obtain ⟨v111, k0_hw8⟩ := r3
  dsimp only at e2 e7
  refine ent_bind (i_row (tkOf tokF) k0_t1.val 7 (by decide) ((k0_off30_eq k0_t1).trans (vec1 (by omega))) ((k0_off31_eq k0_t1).trans (vec3 (by omega))) (by rw [← e7]; rfl) _ _ _ _ _ _ _ _) fun _ _ => ?_
  exact ent_ret (close_in _ _)
end

end Cert.KernelIdeal.Hand
-- ==== Proof.KI.Flow.lean ====
/-
  The rings between the steps: what each ring holds before trip `k` of the main loop, and how a slot passes from one
  state to the next. The input ring holds the groups from `k` on in flight, and the rest of its slots free. Of the
  results, a first run of blocks has landed, up to four are being copied out, and the rest is still to be written.
-/
module

public import proofs.«01_k».proof.Proof.KI.Issue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

/-- The proof's user algebra: the pipeline library's beside the transfers' counters. -/
local notation "𝕄" => MT nD τ sig Unit (Elt F) ℕ (Pipeline.UD sig nD τ) ℕ

/-! ## Many regions into one -/

/-- Pairwise disjoint regions, each at contents with a property of that region alone, are one region at contents with
    all the properties. -/
theorem gather {ℓ : Loc nD τ sig} {q : PosShare TreeShare} (S : Finset ℕ) (K : ℕ → Finset (Idx ℓ)) (G : ℕ → Buf (Elt F) ℓ → Prop)
    (f₀ : Buf (Elt F) ℓ) (hK : ∀ i ∈ S, ∀ j ∈ S, i ≠ j → Disjoint (K i) (K j)) (hG : ∀ i f f', (∀ x ∈ K i, f' x = f x) → G i f → G i f') :
    bigSep S (fun i => iprop(∃ f, ⌜G i f⌝ ∗ ℓ ↦[K i]{q} f)) ⊢ (iprop(∃ f, ⌜∀ i ∈ S, G i f⌝ ∗ ℓ ↦[S.biUnion K]{q} f) : sProp 𝕄) := by
  haveI : Nonempty (Buf (Elt F) ℓ) := ⟨f₀⟩
  refine (bigSep_exists_pi S (fun i f => iprop(⌜G i f⌝ ∗ ℓ ↦[K i]{q} f))).trans ?_
  iintro ⟨%fs, H⟩
  ihave H2 := (bigSep_pure_sep S (fun i => G i (fs i)) (fun i => iprop(ℓ ↦[K i]{q} fs i))) $$ H
  icases H2 with ⟨%hP, H⟩
  ihave H3 := (pointsTo_biUnion_join S K fs f₀ hK) $$ H
  icases H3 with ⟨%g, %hg, H⟩
  iexists g
  isplitr
  · ipureintro
    intro i hi
    exact hG i (fs i) g (hg i hi) (hP i hi)
  · iexact H

theorem rows_disj (s : ℕ) (i j : ℕ) (h : i ≠ j) : Disjoint (bRow (8 * s + i)) (bRow (8 * s + j)) := by
  rw [Finset.disjoint_left]; intro x h1 h2; rw [mem_bRow] at h1 h2; omega
theorem rows_slot (s : ℕ) : (Finset.Ico 0 8).biUnion (fun i => bRow (8 * s + i)) = bSlot s := by
  ext x
  simp only [Finset.mem_biUnion, Finset.mem_Ico, mem_bRow, mem_bSlot]
  constructor
  · rintro ⟨i, hi, h⟩; omega
  · intro h; exact ⟨(x 0).val - 8 * s, by omega, by omega⟩

theorem bigSep_fin8 (A : ℕ → sProp 𝕄) : bigSep Finset.univ (fun i : Fin 8 => A i.val) = bigSep (Finset.Ico 0 8) A := by
  have e : Finset.Ico 0 8 = (Finset.univ : Finset (Fin 8)).map Fin.valEmbedding := by decide
  rw [e, bigSep_map]
  rfl

/-! ## A slot of the input ring -/

/-- The slot of group `g` holds the table's rows of the group's tokens. -/
def DBg (fT : S16000x5632.Idx → BitVec 32) (tk : ℕ → BitVec 32) (g : ℕ) (f : S512x1x5632.Idx → BitVec 32) : Prop :=
  ∀ i ∈ Finset.Ico 0 8, RowGood fT (8 * (g % 64) + i) (rowOf (tk (8 * g + i))) f
/-- What stays of a slot beside its elements while its group is computed. -/
def KeepIn (c : Dev nD) (fT : S16000x5632.Idx → BitVec 32) (g : ℕ) : sProp 𝕄 :=
  iprop(semVal ((c : Thread nD τ), SemLoc.dma (semIn (g % 64))) 0
    ∗ bigSep (Finset.Ico 0 8) (fun j => ptT (F := F) c (shR (8 * (g % 64) + j)) Finset.univ fT))

theorem land_in (c : Dev nD) (fT : S16000x5632.Idx → BitVec 32) (tk : ℕ → BitVec 32) (g : ℕ) :
    iprop(bigSep Finset.univ (DRow (F := F) c fT tk g) ∗ bigSep (Finset.Ico 0 8) (LeftRow (F := F) c fT tk g))
      ⊢ iprop((∃ f, ⌜DBg fT tk g f⌝ ∗ ptB (F := F) c (bSlot (g % 64)) f)
        ∗ bigSep (Finset.Ico 0 8) (fun j => ptT (F := F) c (shR (8 * (g % 64) + j)) Finset.univ fT)) := by
  have e1 : bigSep Finset.univ (DRow (F := F) c fT tk g) = bigSep (Finset.Ico 0 8) (fun i =>
      iprop((∃ f, ⌜RowGood fT (8 * (g % 64) + i) (rowOf (tk (8 * g + i))) f⌝ ∗ ptB (F := F) c (bRow (8 * (g % 64) + i)) f)
        ∗ ptT c (shR (8 * (g % 64) + i)) (tRow (rowOf (tk (8 * g + i)))) fT)) :=
    bigSep_fin8 (F := F) (fun i =>
      iprop((∃ f, ⌜RowGood fT (8 * (g % 64) + i) (rowOf (tk (8 * g + i))) f⌝ ∗ ptB (F := F) c (bRow (8 * (g % 64) + i)) f)
        ∗ ptT c (shR (8 * (g % 64) + i)) (tRow (rowOf (tk (8 * g + i)))) fT))
  rw [e1, bigSep_sep']
  iintro ⟨⟨HB, HT⟩, HL⟩
  isplitl [HB]
  · ihave H := (gather (F := F) (ℓ := (c : Thread nD τ).loc cc0_scratch0) (q := fullShare) (Finset.Ico 0 8) (fun i => bRow (8 * (g % 64) + i))
      (fun i f => RowGood fT (8 * (g % 64) + i) (rowOf (tk (8 * g + i))) f) (fun _ => (0 : BitVec 32))
      (fun i _ j _ h => rows_disj _ i j h)
      (fun i f f' hff hR j x h0 h1 h2 => by rw [hff j (mem_bRow.2 h0)]; exact hR j x h0 h1 h2)) $$ HB
    icases H with ⟨%f, %hf, H⟩
    iexists f
    isplitr
    · ipureintro; exact hf
    · rw [← rows_slot (g % 64)]; iexact H
  · ihave H := (Entails.of_eq (bigSep_sep' (M := 𝕄) (Finset.Ico 0 8)
      (fun i => ptT c (shR (8 * (g % 64) + i)) (tRow (rowOf (tk (8 * g + i)))) fT) (LeftRow (F := F) c fT tk g)).symm) $$ [HT HL]
    · isplitl [HT]; · iexact HT
      iexact HL
    have hm : bigSep (Finset.Ico 0 8) (fun i => iprop(ptT (F := F) c (shR (8 * (g % 64) + i)) (tRow (rowOf (tk (8 * g + i)))) fT ∗ LeftRow (F := F) c fT tk g i))
        ⊢ (bigSep (Finset.Ico 0 8) (fun i => ptT (F := F) c (shR (8 * (g % 64) + i)) Finset.univ fT) : sProp 𝕄) :=
      BI.bigSep_mono (fun i _ => (pointsTo_split_subset (Finset.subset_univ (tRow (rowOf (tk (8 * g + i)))))).2)
    iapply hm
    iexact H

/-- A computed group's slot is free again. -/
theorem free_in (c : Dev nD) (fT : S16000x5632.Idx → BitVec 32) (g : ℕ) :
    iprop((∃ f, ptB (F := F) c (bSlot (g % 64)) f) ∗ KeepIn (F := F) c fT g) ⊢ FreeIn (F := F) c fT (g + 64) := by
  unfold FreeIn KeepIn FreeRow
  rw [Nat.add_mod_right, bigSep_sep']
  iintro ⟨⟨%f, HB⟩, Hq, HT⟩
  isplitl [Hq]; · iexact Hq
  isplitl [HB]
  · ihave H := (Entails.of_eq (pointsTo_biUnion (Val := Elt F) (ℓ := (c : Thread nD τ).loc cc0_scratch0) (q := fullShare) (f := f) (Finset.Ico 0 8)
      (fun i => bRow (8 * (g % 64) + i)) (fun i _ j _ h => rows_disj _ i j h))) $$ [HB]
    · rw [rows_slot]; iexact HB
    have hm : bigSep (Finset.Ico 0 8) (fun i => ptB (F := F) c (bRow (8 * (g % 64) + i)) f)
        ⊢ (bigSep (Finset.Ico 0 8) (fun i => iprop(∃ f, ptB (F := F) c (bRow (8 * (g % 64) + i)) f)) : sProp 𝕄) :=
      BI.bigSep_mono (fun i _ => (show ptB (F := F) c (bRow (8 * (g % 64) + i)) f ⊢ (iprop(∃ f, ptB (F := F) c (bRow (8 * (g % 64) + i)) f) : sProp 𝕄) by iintro H; iexists f; iexact H))
    iapply hm
    iexact H
  · iexact HT

/-- The input ring before trip `k`, and after the trip's new group is issued. -/
def InR (c : Dev nD) (fT : S16000x5632.Idx → BitVec 32) (tk : ℕ → BitVec 32) (k n : ℕ) : sProp 𝕄 :=
  iprop(bigSep (Finset.Ico k n) (FlightIn (F := F) c fT tk) ∗ bigSep (Finset.Ico n (k + 64)) (FreeIn (F := F) c fT))

/-! ## The staging rings and the results -/

section
variable (c : Dev nD) (PE PO : ℕ → ℕ → ℕ → Elt F .bf16 → Prop)

/-- A staging slot with nothing in it. -/
def FreeOut (g : ℕ) : sProp 𝕄 :=
  iprop((∃ f, ptSE (F := F) c (sSlot (g % 4)) f) ∗ (∃ f, ptSO (F := F) c (sSlot (g % 4)) f)
    ∗ semVal ((c : Thread nD τ), SemLoc.dma (semE (g % 4))) 0 ∗ semVal ((c : Thread nD τ), SemLoc.dma (semO (g % 4))) 0)
/-- A block of each result still to be written; a block of each that has landed. -/
def Todo (g : ℕ) : sProp 𝕄 := iprop((∃ f, ptE (F := F) c (oBlk g) f) ∗ (∃ f, ptO (F := F) c (oBlk g) f))
def Landed (g : ℕ) : sProp 𝕄 :=
  iprop((∃ f, ⌜oGood PE g f⌝ ∗ ptE c (oBlk g) f) ∗ (∃ f, ⌜oGood PO g f⌝ ∗ ptO c (oBlk g) f))
/-- A group's two copies out, in flight. -/
def Fl (g : ℕ) : sProp 𝕄 := iprop(FlE c PE g ∗ FlO c PO g)
/-- Blocks below `j` landed, `j` to `i` in flight, the rest to do, and the staging slots of `f` to `j + 4` free. -/
def Obase (j i f : ℕ) : sProp 𝕄 :=
  iprop(bigSep (Finset.Ico 0 j) (Landed c PE PO) ∗ bigSep (Finset.Ico j i) (Fl c PE PO) ∗ bigSep (Finset.Ico i 2048) (Todo (F := F) c)
    ∗ bigSep (Finset.Ico f (j + 4)) (FreeOut (F := F) c))
/-- A computed group in its staging slots. -/
def Staged (g : ℕ) : sProp 𝕄 :=
  iprop((∃ f, ⌜sGood PE g f⌝ ∗ ptSE c (sSlot (g % 4)) f) ∗ (∃ f, ⌜sGood PO g f⌝ ∗ ptSO c (sSlot (g % 4)) f)
    ∗ semVal ((c : Thread nD τ), SemLoc.dma (semE (g % 4))) 0 ∗ semVal ((c : Thread nD τ), SemLoc.dma (semO (g % 4))) 0)
/-- The staging rings and the results before trip `k`. -/
def OS : ℕ → sProp 𝕄
  | 0 => Obase c PE PO 0 0 0
  | k + 1 => iprop(Staged c PE PO k ∗ Obase c PE PO (k - 3) k (k + 1))

def AE (g : ℕ) : sProp 𝕄 := iprop((∃ f, ⌜sGood PE g f⌝ ∗ ptSE c (sSlot (g % 4)) f) ∗ (∃ f, ptE (F := F) c (oBlk g) f) ∗ semVal ((c : Thread nD τ), SemLoc.dma (semE (g % 4))) 0)
def AO (g : ℕ) : sProp 𝕄 := iprop((∃ f, ⌜sGood PO g f⌝ ∗ ptSO c (sSlot (g % 4)) f) ∗ (∃ f, ptO (F := F) c (oBlk g) f) ∗ semVal ((c : Thread nD τ), SemLoc.dma (semO (g % 4))) 0)
def BE (g : ℕ) : sProp 𝕄 := iprop((∃ f, ⌜oGood PE g f⌝ ∗ ptE c (oBlk g) f) ∗ (∃ f, ptSE (F := F) c (sSlot (g % 4)) f) ∗ semVal ((c : Thread nD τ), SemLoc.dma (semE (g % 4))) 0)
def BO (g : ℕ) : sProp 𝕄 := iprop((∃ f, ⌜oGood PO g f⌝ ∗ ptO c (oBlk g) f) ∗ (∃ f, ptSO (F := F) c (sSlot (g % 4)) f) ∗ semVal ((c : Thread nD τ), SemLoc.dma (semO (g % 4))) 0)
def SRest (j i f : ℕ) : sProp 𝕄 :=
  iprop(bigSep (Finset.Ico 0 j) (Landed c PE PO) ∗ bigSep (Finset.Ico j i) (Fl c PE PO) ∗ bigSep (Finset.Ico (i + 1) 2048) (Todo (F := F) c)
    ∗ bigSep (Finset.Ico f (j + 4)) (FreeOut (F := F) c))
def WRest (j i f : ℕ) : sProp 𝕄 :=
  iprop(bigSep (Finset.Ico 0 j) (Landed c PE PO) ∗ bigSep (Finset.Ico (j + 1) i) (Fl c PE PO) ∗ bigSep (Finset.Ico i 2048) (Todo (F := F) c)
    ∗ bigSep (Finset.Ico f (j + 4)) (FreeOut (F := F) c))

theorem start_pre (j g f : ℕ) (hg : g < 2048) :
    iprop(Staged c PE PO g ∗ Obase c PE PO j g f) ⊢ iprop(AE c PE g ∗ AO c PO g ∗ SRest c PE PO j g f) := by
  unfold Staged Obase SRest AE AO
  rw [bigSep_Ico_succ_bot hg]
  iintro ⟨⟨H1, H2, H3, H4⟩, H5, H6, HT, H8⟩
  unfold Todo
  icases HT with ⟨⟨HT1, HT2⟩, HT3⟩
  isplitl [H1 HT1 H3]
  · isplitl [H1]; · iexact H1
    isplitl [HT1]; · iexact HT1
    iexact H3
  isplitl [H2 HT2 H4]
  · isplitl [H2]; · iexact H2
    isplitl [HT2]; · iexact HT2
    iexact H4
  isplitl [H5]; · iexact H5
  isplitl [H6]; · iexact H6
  isplitl [HT3]; · iexact HT3
  iexact H8

theorem start_post (j g f : ℕ) (hj : j ≤ g) :
    iprop(FlE c PE g ∗ FlO c PO g ∗ SRest c PE PO j g f) ⊢ Obase c PE PO j (g + 1) f := by
  unfold Obase SRest
  rw [bigSep_Ico_succ_top hj]
  iintro ⟨H1, H2, H3, H4, H5, H6⟩
  isplitl [H3]; · iexact H3
  isplitl [H1 H2 H4]
  · isplitl [H1 H2]
    · unfold Fl
      isplitl [H1]; · iexact H1
      iexact H2
    iexact H4
  isplitl [H5]; · iexact H5
  iexact H6

theorem wait_pre (j i f : ℕ) (hj : j < i) : Obase c PE PO j i f ⊢ iprop(FlE c PE j ∗ FlO c PO j ∗ WRest c PE PO j i f) := by
  unfold Obase WRest
  rw [bigSep_Ico_succ_bot hj]
  iintro ⟨H1, ⟨HF, H2⟩, H3, H4⟩
  unfold Fl
  icases HF with ⟨HF1, HF2⟩
  isplitl [HF1]; · iexact HF1
  isplitl [HF2]; · iexact HF2
  isplitl [H1]; · iexact H1
  isplitl [H2]; · iexact H2
  isplitl [H3]; · iexact H3
  iexact H4

theorem wait_post (j i f : ℕ) (hf : f ≤ j + 4) : iprop(BE c PE j ∗ BO c PO j ∗ WRest c PE PO j i f) ⊢ Obase c PE PO (j + 1) i f := by
  unfold Obase WRest BE BO
  rw [bigSep_Ico_succ_top (Nat.zero_le j), show j + 1 + 4 = j + 4 + 1 by omega, bigSep_Ico_succ_top hf]
  iintro ⟨⟨H1, H2, H3⟩, ⟨H4, H5, H6⟩, H7, H8, H9, H10⟩
  isplitl [H1 H4 H7]
  · isplitl [H1 H4]
    · unfold Landed
      isplitl [H1]; · iexact H1
      iexact H4
    iexact H7
  isplitl [H8]; · iexact H8
  isplitl [H9]; · iexact H9
  isplitl [H2 H3 H5 H6]
  · unfold FreeOut
    rw [Nat.add_mod_right]
    isplitl [H2]; · iexact H2
    isplitl [H5]; · iexact H5
    isplitl [H3]; · iexact H3
    iexact H6
  iexact H10

end

/-! ## The steps on the staging rings, beside whatever else is held -/

theorem st_E (c : Dev nD) (P : ℕ → ℕ → ℕ → Elt F .bf16 → Prop) (g : ℕ) {R : sProp 𝕄}
    {o1 : Fin 1 → ℕ} {o2 : Fin 4 → ℕ} {o3 : Fin 2 → ℕ}
    (h1 : o1 = ![g % 4]) (h2 : o2 = ![g, 0, 0, 0]) (h3 : o3 = ![352 * (g % 4), 0])
    (inb1) (inb2) (inb3) (p2) (p3) (q1) (q2) (q3) (hw1) (hw2) (hw3) :
    iprop(AE c P g ∗ R)
      ⊢ wpK c (Prog.lift (.enqueueDma ((seM.slice (Rect.unit (s := S1408x128) o3 S352x128.size inb3) p3).reshape S44x8x128 q1 q2 q3)
            (.here ((eM.slice (Rect.unit (s := S2048x44x8x128) o2 S1x44x8x128.size inb2) p2).squeeze S44x8x128 squeezes_S1x44x8x128_S44x8x128))
            (.dma ((cc0_scratch5.slice (Rect.unit (s := S4) o1 S1.size inb1)).squeeze S_ squeezes_S1_S_).sem) hw1 hw2 hw3))
        (fun _ => iprop(⌜True⌝ ∗ FlE c P g ∗ R)) := by
  unfold AE
  iintro ⟨HA, HR⟩
  iapply (wp_outE c P g h1 h2 h3 inb1 inb2 inb3 p2 p3 q1 q2 q3 hw1 hw2 hw3 _) $$ [HA]
  · iexact HA
  iintro HF
  isplitr
  · ipureintro; trivial
  isplitl [HF]; · iexact HF
  iexact HR

theorem wt_E (c : Dev nD) (P : ℕ → ℕ → ℕ → Elt F .bf16 → Prop) (g : ℕ) {R : sProp 𝕄} {o1 : Fin 1 → ℕ} (h1 : o1 = ![g % 4])
    (inb1) (src : Memref sig .tc .vmem S44x8x128 .bf16) {o2 : Fin 4 → ℕ} (inb2) (p2) (hw1) (hw2) :
    iprop(FlE c P g ∗ (∃ W, owes (c : Thread nD τ) 0 W) ∗ R)
      ⊢ wpK c (Prog.lift (.waitDma2 ((cc0_scratch5.slice (Rect.unit (s := S4) o1 S1.size inb1)).squeeze S_ squeezes_S1_S_).sem src
            ((eM.slice (Rect.unit (s := S2048x44x8x128) o2 S1x44x8x128.size inb2) p2).squeeze S44x8x128 squeezes_S1x44x8x128_S44x8x128) hw1 hw2))
        (fun _ => iprop(⌜True⌝ ∗ BE c P g ∗ (∃ W, owes (c : Thread nD τ) 0 W) ∗ R)) := by
  unfold BE
  iintro ⟨HA, HW, HR⟩
  iapply (wp_outwaitE c P g h1 inb1 src inb2 p2 hw1 hw2 _) $$ [HA HW]
  · isplitl [HA]; · iexact HA
    iexact HW
  iintro ⟨H1, H2, H3, HW⟩
  isplitr
  · ipureintro; trivial
  isplitl [H1 H2 H3]
  · isplitl [H1]; · iexact H1
    isplitl [H2]; · iexact H2
    iexact H3
  isplitl [HW]; · iexact HW
  iexact HR

theorem st_O (c : Dev nD) (P : ℕ → ℕ → ℕ → Elt F .bf16 → Prop) (g : ℕ) {R : sProp 𝕄}
    {o1 : Fin 1 → ℕ} {o2 : Fin 4 → ℕ} {o3 : Fin 2 → ℕ}
    (h1 : o1 = ![g % 4]) (h2 : o2 = ![g, 0, 0, 0]) (h3 : o3 = ![352 * (g % 4), 0])
    (inb1) (inb2) (inb3) (p2) (p3) (q1) (q2) (q3) (hw1) (hw2) (hw3) :
    iprop(AO c P g ∗ R)
      ⊢ wpK c (Prog.lift (.enqueueDma ((soM.slice (Rect.unit (s := S1408x128) o3 S352x128.size inb3) p3).reshape S44x8x128 q1 q2 q3)
            (.here ((oM.slice (Rect.unit (s := S2048x44x8x128) o2 S1x44x8x128.size inb2) p2).squeeze S44x8x128 squeezes_S1x44x8x128_S44x8x128))
            (.dma ((cc0_scratch6.slice (Rect.unit (s := S4) o1 S1.size inb1)).squeeze S_ squeezes_S1_S_).sem) hw1 hw2 hw3))
        (fun _ => iprop(⌜True⌝ ∗ FlO c P g ∗ R)) := by
  unfold AO
  iintro ⟨HA, HR⟩
  iapply (wp_outO c P g h1 h2 h3 inb1 inb2 inb3 p2 p3 q1 q2 q3 hw1 hw2 hw3 _) $$ [HA]
  · iexact HA
  iintro HF
  isplitr
  · ipureintro; trivial
  isplitl [HF]; · iexact HF
  iexact HR

theorem wt_O (c : Dev nD) (P : ℕ → ℕ → ℕ → Elt F .bf16 → Prop) (g : ℕ) {R : sProp 𝕄} {o1 : Fin 1 → ℕ} (h1 : o1 = ![g % 4])
    (inb1) (src : Memref sig .tc .vmem S44x8x128 .bf16) {o2 : Fin 4 → ℕ} (inb2) (p2) (hw1) (hw2) :
    iprop(FlO c P g ∗ (∃ W, owes (c : Thread nD τ) 0 W) ∗ R)
      ⊢ wpK c (Prog.lift (.waitDma2 ((cc0_scratch6.slice (Rect.unit (s := S4) o1 S1.size inb1)).squeeze S_ squeezes_S1_S_).sem src
            ((oM.slice (Rect.unit (s := S2048x44x8x128) o2 S1x44x8x128.size inb2) p2).squeeze S44x8x128 squeezes_S1x44x8x128_S44x8x128) hw1 hw2))
        (fun _ => iprop(⌜True⌝ ∗ BO c P g ∗ (∃ W, owes (c : Thread nD τ) 0 W) ∗ R)) := by
  unfold BO
  iintro ⟨HA, HW, HR⟩
  iapply (wp_outwaitO c P g h1 inb1 src inb2 p2 hw1 hw2 _) $$ [HA HW]
  · isplitl [HA]; · iexact HA
    iexact HW
  iintro ⟨H1, H2, H3, HW⟩
  isplitr
  · ipureintro; trivial
  isplitl [H1 H2 H3]
  · isplitl [H1]; · iexact H1
    isplitl [H2]; · iexact H2
    iexact H3
  isplitl [HW]; · iexact HW
  iexact HR

/-- The step that waits for a group's rows, beside whatever else is held. -/
theorem wt_in (c : Dev nD) (fT : S16000x5632.Idx → BitVec 32) (tk : ℕ → BitVec 32) (g : ℕ) {R : sProp 𝕄} {o1 : Fin 1 → ℕ} (h1 : o1 = ![g % 64])
    (inb1) (src : Memref sig .tc .vmem S8x1x5632 .i32) {o2 : Fin 3 → ℕ} (inb2) (p2) (hw1) (hw2) :
    iprop(FlightIn (F := F) c fT tk g ∗ (∃ W, owes (c : Thread nD τ) 0 W) ∗ R)
      ⊢ wpK c (Prog.lift (.waitDma2 ((cc0_scratch4.slice (Rect.unit (s := S64) o1 S1.size inb1)).squeeze S_ squeezes_S1_S_).sem src
            (bufM.slice (Rect.unit (s := S512x1x5632) o2 S8x1x5632.size inb2) p2) hw1 hw2))
        (fun _ => iprop(⌜True⌝ ∗ (∃ f, ⌜DBg fT tk g f⌝ ∗ ptB (F := F) c (bSlot (g % 64)) f) ∗ KeepIn (F := F) c fT g ∗ (∃ W, owes (c : Thread nD τ) 0 W) ∗ R)) := by
  unfold FlightIn KeepIn
  iintro ⟨⟨HB, HL⟩, HW, HR⟩
  iapply (wp_rowwait c fT tk g h1 inb1 src inb2 p2 hw1 hw2 _) $$ [HB HW]
  · isplitl [HB]; · iexact HB
    iexact HW
  iintro ⟨HD, Hq, HW⟩
  ihave H := (land_in (F := F) c fT tk g) $$ [HD HL]
  · isplitl [HD]; · iexact HD
    iexact HL
  icases H with ⟨HB, HT⟩
  isplitr
  · ipureintro; trivial
  isplitl [HB]; · iexact HB
  isplitl [Hq HT]
  · isplitl [Hq]; · iexact Hq
    iexact HT
  isplitl [HW]; · iexact HW
  iexact HR

end Cert.KernelIdeal.Hand
-- ==== Proof.KI.Vals.lean ====
/-
  The values of a group's computation: what every vector of the kernel's arithmetic is, as a function of the tokens,
  the words, the scales and the weights. Tiles are named by the token in its group and the first chunk row.
-/
module

public import proofs.«01_k».proof.Proof.KI.Compute

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

/-- The proof's user algebra: the pipeline library's beside the transfers' counters. -/
local notation "𝕄" => MT nD τ sig Unit (Elt F) ℕ (Pipeline.UD sig nD τ) ℕ

/-- What a group's computation reads, by plain numbers: token `i` of the group, its row's words, its scale; the weights. -/
structure Vl (F : FTy → Type) where
  tk : ℕ → BitVec 32
  wd : ℕ → ℕ → BitVec 32
  sc : ℕ → F .f32
  W : ℕ → ℕ → F .f32

namespace Vl
variable (V : Vl F)

/-- How far left a token's byte is shifted. -/
def up (i : ℕ) : BitVec 32 := Scalar.subi 24#32 (Scalar.muli 8#32 (Scalar.andi (V.tk i) 3#32))
/-- A token's scale, through bf16, on a tile. -/
def s8 (i : ℕ) : FVec F S8x128 .f32 := extf .f32 (truncf .bf16 (broadcast S8x128 (V.sc i)) bitsLt_bf16_f32) bitsLt_bf16_f32
/-- A tile of words. -/
def w8 (i r : ℕ) : IVec S8x128 32 := fun y => V.wd i ((r + (y 0).val) * 128 + (y 1).val)
def w4 (i r : ℕ) : IVec S4x128 32 := fun y => V.wd i ((r + (y 0).val) * 128 + (y 1).val)
/-- The dequantized tile. -/
def x8 (i r : ℕ) : FVec F S8x128 .f32 := mulf (sitofp .f32 (shrsi (shli (V.w8 i r) (broadcast S8x128 (V.up i))) (broadcast S8x128 24#32))) (V.s8 i)
def x4 (i r : ℕ) : FVec F S4x128 .f32 := mulf (sitofp .f32 (shrsi (shli (V.w4 i r) (broadcast S4x128 (V.up i))) (broadcast S4x128 24#32))) (extractStridedSlice S4x128 ![0, 0] (V.s8 i) slices_S8x128_o0_0_S4x128)
/-- The emb tile. -/
def t8 (i r : ℕ) : FVec F S8x128 .bf16 := truncf .bf16 (V.x8 i r)
def t4 (i r : ℕ) : FVec F S4x128 .bf16 := truncf .bf16 (V.x4 i r)
def e8 (i r : ℕ) : FVec F S8x128 .f32 := extf .f32 (V.t8 i r)
def e4 (i r : ℕ) : FVec F S4x128 .f32 := extf .f32 (V.t4 i r)
/-- The sum of the squares over a token's whole tiles, tile by tile. -/
def acc (i : ℕ) : FVec F S8x128 .f32 :=
  addf (addf (addf (addf (mulf (V.e8 i 0) (V.e8 i 0)) (mulf (V.e8 i 8) (V.e8 i 8))) (mulf (V.e8 i 16) (V.e8 i 16))) (mulf (V.e8 i 24) (V.e8 i 24))) (mulf (V.e8 i 32) (V.e8 i 32))
def col (i : ℕ) : FVec F S1x128 .f32 :=
  addf (shapeCast S1x128 (multiReduction .add [0] S128 (V.acc i) 0x00000000#32 reduces_S8x128_S128 (.inl rfl) rfl) shapeCasts_S128_S1x128)
    (shapeCast S1x128 (multiReduction .add [0] S128 (mulf (V.e4 i 40) (V.e4 i 40)) 0x00000000#32 reduces_S4x128_S128 (.inl rfl) rfl) shapeCasts_S128_S1x128)
/-- The reciprocal root mean square. -/
def inv (i : ℕ) : FVec F S1x1 .f32 :=
  rsqrt (addf (mulf (shapeCast S1x1 (multiReduction .add [1] S1 (V.col i) 0x00000000#32 reduces_S1x128_S1 (.inl rfl) rfl) shapeCasts_S1_S1x1)
    (broadcast S1x1 (Named.named κ "inv_d_model" 0x393A2E8C#32))) (broadcast S1x1 (Scalar.ofBits .f32 0x358637BD#32)))
/-- A tile of weights. -/
def W8 (r : ℕ) : FVec F S8x128 .f32 := fun y => V.W (r + (y 0).val) (y 1).val
def W4 (r : ℕ) : FVec F S4x128 .f32 := fun y => V.W (r + (y 0).val) (y 1).val
/-- The normed tile. -/
def n8 (i r : ℕ) : FVec F S8x128 .f32 := mulf (mulf (V.e8 i r) (broadcastTo S8x128 (V.inv i) broadcasts_S1x1_S8x128)) (shapeCast S8x128 (V.W8 r) shapeCasts_S8x128_S8x128)
def n4 (i r : ℕ) : FVec F S4x128 .f32 := mulf (mulf (V.e4 i r) (broadcastTo S4x128 (V.inv i) broadcasts_S1x1_S4x128)) (shapeCast S4x128 (V.W4 r) shapeCasts_S4x128_S4x128)
def u8 (i r : ℕ) : FVec F S8x128 .bf16 := truncf .bf16 (V.n8 i r)
def u4 (i r : ℕ) : FVec F S4x128 .bf16 := truncf .bf16 (V.n4 i r)
/-- Two tokens' tiles, their rows alternating. -/
def il8 (a b : FVec F S8x128 .bf16) : Vec F S8x2x128 .bf16 :=
  interleaveRows S8x2x128 (shapeCast S8x1x128 a shapeCasts_S8x128_S8x1x128) (shapeCast S8x1x128 b shapeCasts_S8x128_S8x1x128) bitcasts_S8x2x128_w16_S8x1x128_w32
def il4 (a b : FVec F S4x128 .bf16) : Vec F S4x2x128 .bf16 :=
  interleaveRows S4x2x128 (shapeCast S4x1x128 a shapeCasts_S4x128_S4x1x128) (shapeCast S4x1x128 b shapeCasts_S4x128_S4x1x128) bitcasts_S4x2x128_w16_S4x1x128_w32

/-! ## One element of each -/

/-- The dequantized element `d` of token `i`. -/
def x (i d : ℕ) : F .f32 :=
  mulf (s := S1x1) (sitofp .f32 (shrsi (shli (fun _ => V.wd i d) (broadcast S1x1 (V.up i))) (broadcast S1x1 24#32)))
    (extf .f32 (truncf .bf16 (broadcast S1x1 (V.sc i)) bitsLt_bf16_f32) bitsLt_bf16_f32) (ix2 0 0)
/-- The emb element. -/
def t (i d : ℕ) : F .bf16 := truncf (s := S1x1) .bf16 (fun _ => V.x i d) bitsLt_bf16_f32 (ix2 0 0)
def e (i d : ℕ) : F .f32 := extf (s := S1x1) .f32 (fun _ => V.t i d) bitsLt_bf16_f32 (ix2 0 0)
/-- The normed element. -/
def u (i d : ℕ) : F .bf16 :=
  truncf (s := S1x1) .bf16 (mulf (mulf (fun _ => V.e i d) (V.inv i)) (fun _ => V.W (d / 128) (d % 128))) bitsLt_bf16_f32 (ix2 0 0)

theorem e8_at (i r : ℕ) (y : S8x128.Idx) : V.e8 i r y = V.e i ((r + (y 0).val) * 128 + (y 1).val) := rfl
theorem e4_at (i r : ℕ) (y : S4x128.Idx) : V.e4 i r y = V.e i ((r + (y 0).val) * 128 + (y 1).val) := rfl
theorem t8_at (i r : ℕ) (y : S8x128.Idx) : V.t8 i r y = V.t i ((r + (y 0).val) * 128 + (y 1).val) := rfl
theorem t4_at (i r : ℕ) (y : S4x128.Idx) : V.t4 i r y = V.t i ((r + (y 0).val) * 128 + (y 1).val) := rfl

theorem u8_at (i r : ℕ) (y : S8x128.Idx) : V.u8 i r y = V.u i ((r + (y 0).val) * 128 + (y 1).val) := by
  have h1 : (y 1).val < 128 := (y 1).isLt
  have ed : ((r + (y 0).val) * 128 + (y 1).val) / 128 = r + (y 0).val := by omega
  have em : ((r + (y 0).val) * 128 + (y 1).val) % 128 = (y 1).val := by omega
  have es : shapeCast S8x128 (V.W8 r) shapeCasts_S8x128_S8x128 = V.W8 r := funext fun z => congrArg (V.W8 r) (Shape.reshapeEquiv_self _ z)
  unfold u8 u n8
  rw [es, ed, em]
  have eb : broadcastTo S8x128 (V.inv i) broadcasts_S1x1_S8x128 y = V.inv i (ix2 0 0) := by
    refine congrArg (V.inv i) ?_
    funext a; apply Fin.ext; fin_cases a <;> rfl
  show truncf (s := S1x1) .bf16 (mulf (mulf (fun _ => V.e8 i r y) (fun _ => broadcastTo S8x128 (V.inv i) broadcasts_S1x1_S8x128 y)) (fun _ => V.W8 r y)) bitsLt_bf16_f32 (ix2 0 0) = _
  rw [eb]
  rfl

theorem u4_at (i r : ℕ) (y : S4x128.Idx) : V.u4 i r y = V.u i ((r + (y 0).val) * 128 + (y 1).val) := by
  have h1 : (y 1).val < 128 := (y 1).isLt
  have ed : ((r + (y 0).val) * 128 + (y 1).val) / 128 = r + (y 0).val := by omega
  have em : ((r + (y 0).val) * 128 + (y 1).val) % 128 = (y 1).val := by omega
  have es : shapeCast S4x128 (V.W4 r) shapeCasts_S4x128_S4x128 = V.W4 r := funext fun z => congrArg (V.W4 r) (Shape.reshapeEquiv_self _ z)
  unfold u4 u n4
  rw [es, ed, em]
  have eb : broadcastTo S4x128 (V.inv i) broadcasts_S1x1_S4x128 y = V.inv i (ix2 0 0) := by
    refine congrArg (V.inv i) ?_
    funext a; apply Fin.ext; fin_cases a <;> rfl
  show truncf (s := S1x1) .bf16 (mulf (mulf (fun _ => V.e4 i r y) (fun _ => broadcastTo S4x128 (V.inv i) broadcasts_S1x1_S4x128 y)) (fun _ => V.W4 r y)) bitsLt_bf16_f32 (ix2 0 0) = _
  rw [eb]
  rfl

/-- Two tiles of rows `2q` and `2q + 1`, alternating, element by element. -/
theorem il8_at (a b : FVec F S8x128 .bf16) (y : S8x2x128.Idx) (P : F .bf16 → Prop)
    (h0 : (y 1).val = 0 → P (a (ix2 (⟨(y 0).val, (y 0).isLt⟩ : Fin 8) (⟨(y 2).val, (y 2).isLt⟩ : Fin 128))))
    (h1 : (y 1).val = 1 → P (b (ix2 (⟨(y 0).val, (y 0).isLt⟩ : Fin 8) (⟨(y 2).val, (y 2).isLt⟩ : Fin 128)))) : P (il8 a b y) := by
  have hy : (y 1).val < 2 := (y 1).isLt
  have hz : ∀ c : FVec F S8x128 .bf16, ∀ j : S8x1x128.Idx, (j 0).val = (y 0).val → (j 2).val = (y 2).val →
      shapeCast S8x1x128 c shapeCasts_S8x128_S8x1x128 j = c (ix2 (⟨(y 0).val, (y 0).isLt⟩ : Fin 8) (⟨(y 2).val, (y 2).isLt⟩ : Fin 128)) := by
    intro c j e0 e2
    have hj : (j 1).val < 1 := (j 1).isLt
    refine congrArg c ?_
    apply Shape.reshapeEquiv_eq_of_rowMajor
    rw [show (S8x128.rowMajor _).val = _ from Shape.rowMajor_val_two (d := ![8, 128]) _,
      show (S8x1x128.rowMajor j).val = _ from Shape.rowMajor_val_three (d := ![8, 1, 128]) j]
    show (y 0).val * 128 + (y 2).val = ((j 0).val * 1 + (j 1).val) * 128 + (j 2).val
    omega
  unfold il8 interleaveRows
  dsimp only
  have hrow : S8x2x128.row y = (y 1).val := rfl
  rw [hrow]
  by_cases h : (y 1).val = 0
  · rw [if_pos (by omega), hz _ _ rfl rfl]; exact h0 h
  · rw [if_neg (by omega), hz _ _ rfl rfl]; exact h1 (by omega)

theorem il4_at (a b : FVec F S4x128 .bf16) (y : S4x2x128.Idx) (P : F .bf16 → Prop)
    (h0 : (y 1).val = 0 → P (a (ix2 (⟨(y 0).val, (y 0).isLt⟩ : Fin 4) (⟨(y 2).val, (y 2).isLt⟩ : Fin 128))))
    (h1 : (y 1).val = 1 → P (b (ix2 (⟨(y 0).val, (y 0).isLt⟩ : Fin 4) (⟨(y 2).val, (y 2).isLt⟩ : Fin 128)))) : P (il4 a b y) := by
  have hy : (y 1).val < 2 := (y 1).isLt
  have hz : ∀ c : FVec F S4x128 .bf16, ∀ j : S4x1x128.Idx, (j 0).val = (y 0).val → (j 2).val = (y 2).val →
      shapeCast S4x1x128 c shapeCasts_S4x128_S4x1x128 j = c (ix2 (⟨(y 0).val, (y 0).isLt⟩ : Fin 4) (⟨(y 2).val, (y 2).isLt⟩ : Fin 128)) := by
    intro c j e0 e2
    have hj : (j 1).val < 1 := (j 1).isLt
    refine congrArg c ?_
    apply Shape.reshapeEquiv_eq_of_rowMajor
    rw [show (S4x128.rowMajor _).val = _ from Shape.rowMajor_val_two (d := ![4, 128]) _,
      show (S4x1x128.rowMajor j).val = _ from Shape.rowMajor_val_three (d := ![4, 1, 128]) j]
    show (y 0).val * 128 + (y 2).val = ((j 0).val * 1 + (j 1).val) * 128 + (j 2).val
    omega
  unfold il4 interleaveRows
  dsimp only
  have hrow : S4x2x128.row y = (y 1).val := rfl
  rw [hrow]
  by_cases h : (y 1).val = 0
  · rw [if_pos (by omega), hz _ _ rfl rfl]; exact h0 h
  · rw [if_neg (by omega), hz _ _ rfl rfl]; exact h1 (by omega)

end Vl

/-! ## The steps, with their values -/

/-- What a computation reads is `V`'s, for group `k`. -/
structure Reads (X : Cx F) (V : Vl F) (k : ℕ) : Prop where
  s : X.s = k % 64
  s4 : X.s4 = k % 4
  tok : ∀ i, i < 8 → ∀ y : S16384.Idx, (y 0).val = 8 * k + i → X.arg0.view.read (Elt F) X.fA y = V.tk i
  wd : ∀ f, X.DB f → ∀ i, i < 8 → ∀ y : S512x1x5632.Idx, (y 0).val = 8 * X.s + i → f y = V.wd i (y 2).val
  sc : ∀ i, i < 8 → ∀ y : S64000.Idx, (y 0).val = (V.tk i).toNat → X.fS y = V.sc i
  W : ∀ y : S44x128.Idx, X.arg3.view.read (Elt F) X.fW y = V.W (y 0).val (y 1).val
  lt : ∀ i, i < 8 → (V.tk i).toNat < 64000

variable {X : Cx F} {V : Vl F} {k : ℕ} {DE DO : Stage F → Prop}

/-- A weaker account of a step's value. -/
theorem Tr.mono {α : Type} {p : Prog (TpuEff nD τ sig (Elt F) Λ₀ .tc) α} {P P' : α → Prop} {DE' DO' : Stage F → Prop}
    (h : Tr X DE DO p P DE' DO') (hP : ∀ a, P a → P' a) : Tr X DE DO p P' DE' DO' := by
  unfold Tr wpK at *
  refine h.trans (wp_mono _ _ _ fun a => ?_)
  iintro ⟨%ha, H⟩
  isplitr
  · ipureintro; exact hP a ha
  iexact H

/-- Token `i`. -/
theorem Reads.tokV (h : Reads X V k) (i : ℕ) (hi : i < 8) {off : Fin 1 → ℕ} (ho : off = ![8 * k + i]) (inb) (h1) (hp) :
    Tr X DE DO (smemLoad X.arg0 (Rect.unit (s := S16384) off S1.size inb) h1 hp) (fun v => v = V.tk i) DE DO := by
  subst ho
  refine Tr.mono (Tr.tok inb h1 hp) fun v e => e.trans ?_
  refine h.tok i hi ((Rect.unit (s := S16384) ![8 * k + i] S1.size inb).emb (Shape.Idx.first (h1.symm ▸ Nat.one_pos))) ?_
  show 8 * k + i + 1 * _ = 8 * k + i
  exact (show ∀ z : ℕ, z < 1 → 8 * k + i + 1 * z = 8 * k + i by omega) _ ((Shape.Idx.first (s := (Rect.unit (s := S16384) ![8 * k + i] S1.size inb).shape) (h1.symm ▸ Nat.one_pos)) 0).isLt

/-- Token `i`'s scale. -/
theorem Reads.scaleV (h : Reads X V k) (i : ℕ) (hi : i < 8) {off : Fin 1 → ℕ} (ho : off = ![(V.tk i).toNat]) (inb) (h1) (hp) :
    Tr X DE DO (smemLoad (Memref.whole cc0_scratch3) (Rect.unit (s := S64000) off S1.size inb) h1 hp) (fun v => v = V.sc i) DE DO := by
  subst ho
  refine Tr.mono (Tr.scale inb h1 hp) fun v e => e.trans ?_
  refine h.sc i hi _ ?_
  show (V.tk i).toNat + 1 * _ = (V.tk i).toNat
  exact (show ∀ z : ℕ, z < 1 → (V.tk i).toNat + 1 * z = (V.tk i).toNat by omega) _ ((Shape.Idx.first (s := (Rect.unit (s := S64000) ![(V.tk i).toNat] S1.size inb).shape) (h1.symm ▸ Nat.one_pos)) 0).isLt

/-- A tile of weights. -/
theorem Reads.wts8 (h : Reads X V k) (r : ℕ) (inb) (hl) :
    Tr X DE DO (Prog.lift (.load X.arg3 (Rect.unit (s := S44x128) ![r, 0] S8x128.size inb).toLoadRect hl)) (fun v => v = V.W8 r) DE DO := by
  refine Tr.mono (Tr.wts _ hl) fun v e => e.trans (funext fun y => ?_)
  refine (h.W ((Rect.unit (s := S44x128) ![r, 0] S8x128.size inb).toLoadRect.idx y)).trans ?_
  show V.W (r + 1 * (y 0).val) (0 + 1 * (y 1).val) = V.W (r + (y 0).val) (y 1).val
  simp only [one_mul, Nat.zero_add]

theorem Reads.wts4 (h : Reads X V k) (r : ℕ) (inb) (hl) :
    Tr X DE DO (Prog.lift (.load X.arg3 (Rect.unit (s := S44x128) ![r, 0] S4x128.size inb).toLoadRect hl)) (fun v => v = V.W4 r) DE DO := by
  refine Tr.mono (Tr.wts _ hl) fun v e => e.trans (funext fun y => ?_)
  refine (h.W ((Rect.unit (s := S44x128) ![r, 0] S4x128.size inb).toLoadRect.idx y)).trans ?_
  show V.W (r + 1 * (y 0).val) (0 + 1 * (y 1).val) = V.W (r + (y 0).val) (y 1).val
  simp only [one_mul, Nat.zero_add]

theorem Reads.wordAt (h : Reads X V k) (i : ℕ) (hi : i < 8) (r a : ℕ) (ha : a = 352 * X.s + 44 * i + r) (q1) (q2) (q3)
    (f) (hf : X.DB f) (z : S22528x128.Idx) (j l : ℕ) (h0 : (z 0).val = a + 1 * j) (h1 : (z 1).val = 0 + 1 * l) (hj : r + j < 44) :
    f ((bufM.reshape S22528x128 q1 q2 q3).view.emb z) = V.wd i ((r + j) * 128 + l) := by
  obtain ⟨e0, e2⟩ := words_emb q1 q2 q3 z
  rw [h.wd f hf i hi _ (by rw [e0]; omega), e2]
  congr 2
  · congr 1; omega
  · omega

/-- A tile of token `i`'s words. -/
theorem Reads.words8 (h : Reads X V k) (i r : ℕ) (hi : i < 8) (hr : r + 8 ≤ 44) {off : Fin 2 → ℕ} {a : ℕ} (ho : off = ![a, 0])
    (ha : a = 352 * X.s + 44 * i + r) (inb) (q1) (q2) (q3) (hl) :
    Tr X DE DO (Prog.lift (.load (bufM.reshape S22528x128 q1 q2 q3) (Rect.unit (s := S22528x128) off S8x128.size inb).toLoadRect hl))
      (fun v => v = V.w8 i r) DE DO := by
  refine Tr.mono (Tr.words ho (n := 8) rfl (by omega) (by omega) inb q1 q2 q3 hl) fun v e => ?_
  subst ho
  obtain ⟨f, hf, e⟩ := e
  refine e.trans (funext fun y => ?_)
  have b0 : (y 0).val < 8 := (y 0).isLt
  exact h.wordAt i hi r a ha q1 q2 q3 f hf _ (y 0).val (y 1).val rfl rfl (by omega)

theorem Reads.words4 (h : Reads X V k) (i r : ℕ) (hi : i < 8) (hr : r + 4 ≤ 44) {off : Fin 2 → ℕ} {a : ℕ} (ho : off = ![a, 0])
    (ha : a = 352 * X.s + 44 * i + r) (inb) (q1) (q2) (q3) (hl) :
    Tr X DE DO (Prog.lift (.load (bufM.reshape S22528x128 q1 q2 q3) (Rect.unit (s := S22528x128) off S4x128.size inb).toLoadRect hl))
      (fun v => v = V.w4 i r) DE DO := by
  refine Tr.mono (Tr.words ho (n := 4) rfl (by omega) (by omega) inb q1 q2 q3 hl) fun v e => ?_
  subst ho
  obtain ⟨f, hf, e⟩ := e
  refine e.trans (funext fun y => ?_)
  have b0 : (y 0).val < 4 := (y 0).isLt
  exact h.wordAt i hi r a ha q1 q2 q3 f hf _ (y 0).val (y 1).val rfl rfl (by omega)

/-- The staging slot once the first `n` of a group's twenty-four stores are done: their elements are `T`'s. -/
def Done (T : ℕ → ℕ → F .bf16) (s4 n : ℕ) : Stage F → Prop := fun f =>
  ∀ i : S1408x128.Idx, (i 0).val / 352 = s4 → 6 * ((((i 0).val - 352 * s4) % 8) / 2) + (((i 0).val - 352 * s4) / 8) / 8 < n →
    f i = T (((i 0).val - 352 * s4) % 8) ((((i 0).val - 352 * s4) / 8) * 128 + (i 1).val)

/-- Store `6p + j` of a group writes rows `8j` on of tokens `2p` and `2p + 1`. -/
theorem Tr.putE (T : ℕ → ℕ → F .bf16) (p j n : ℕ) (hp : p < 4) (hn : (j < 5 ∧ n = 8) ∨ (j = 5 ∧ n = 4))
    {off size : Fin 3 → ℕ} {a : ℕ} (ho : off = ![a, 0, 0]) (h0 : size 0 = n) (h1 : size 1 = 2) (h2 : size 2 = 128)
    (ha : a = 176 * X.s4 + p + 32 * j) (hs4 : X.s4 < 4) (inb) (q1) (q2) (q3) (sp)
    (w : Vec F (⟨off, size, ![4, 1, 1], inb⟩ : LoadRect S704x2x128).shape .bf16)
    (hw : ∀ y, w y = T (2 * p + (y 1).val) ((8 * j + (y 0).val) * 128 + (y 2).val)) (hx) (hm) :
    Tr X (Done T X.s4 (6 * p + j)) DO (Prog.lift (.store (seM.reshape S704x2x128 q1 q2 q3) ⟨(⟨off, size, ![4, 1, 1], inb⟩ : LoadRect S704x2x128), sp⟩ w Finset.univ hx hm))
      (fun _ => True) (Done T X.s4 (6 * p + j + 1)) DO := by
  refine Tr.storeE ho h0 (by omega) (by omega) inb q1 q2 q3 sp w hx hm fun f hf i hi hc => ?_
  subst ho
  have hi1 : (i 1).val < 128 := (i 1).isLt
  have emb : ∀ y, ((((seM.reshape S704x2x128 q1 q2 q3).access ⟨(⟨![a, 0, 0], size, ![4, 1, 1], inb⟩ : LoadRect S704x2x128), sp⟩).emb y) 0).val = 2 * (a + 4 * (y 0).val) + (y 1).val
      ∧ ((((seM.reshape S704x2x128 q1 q2 q3).access ⟨(⟨![a, 0, 0], size, ![4, 1, 1], inb⟩ : LoadRect S704x2x128), sp⟩).emb y) 1).val = (y 2).val := by
    intro y
    obtain ⟨e0, e1⟩ := stageE_emb q1 q2 q3 ((⟨![a, 0, 0], size, ![4, 1, 1], inb⟩ : LoadRect S704x2x128).idx y)
    refine ⟨e0.trans ?_, e1.trans ?_⟩
    · show 2 * (a + 4 * (y 0).val) + (0 + 1 * (y 1).val) = _; omega
    · show 0 + 1 * (y 2).val = _; omega
  by_cases hlt : 6 * ((((i 0).val - 352 * X.s4) % 8) / 2) + (((i 0).val - 352 * X.s4) / 8) / 8 < 6 * p + j
  · rw [View.write_of_not_mem, hf i hi hlt]
    intro hmem
    obtain ⟨y, -, rfl⟩ := Finset.mem_map.1 hmem
    have b0 : (y 0).val < size 0 := (y 0).isLt
    have b1 : (y 1).val < size 1 := (y 1).isLt
    rw [(emb y).1] at hlt hi
    omega
  · have hr : (i 0).val - 352 * X.s4 < 352 := by omega
    have h6 : ((i 0).val - 352 * X.s4) / 8 / 8 ≤ 5 := by omega
    obtain ⟨hA, hB⟩ := (show ∀ q1 q2 : ℕ, q2 ≤ 5 → q1 ≤ 3 → 6 * q1 + q2 < 6 * p + j + 1 → ¬ 6 * q1 + q2 < 6 * p + j → q1 = p ∧ q2 = j by omega)
      (((i 0).val - 352 * X.s4) % 8 / 2) (((i 0).val - 352 * X.s4) / 8 / 8) h6 (by omega) hc hlt
    have hρ : (i 0).val = 2 * (a + 4 * (((i 0).val - 352 * X.s4) / 8 - 8 * j)) + ((i 0).val - 352 * X.s4) % 8 % 2 := by omega
    let y : (⟨![a, 0, 0], size, ![4, 1, 1], inb⟩ : LoadRect S704x2x128).shape.Idx := fun b => match b with
      | ⟨0, _⟩ => ⟨((i 0).val - 352 * X.s4) / 8 - 8 * j, by show _ < size 0; omega⟩
      | ⟨1, _⟩ => ⟨((i 0).val - 352 * X.s4) % 8 % 2, by show _ < size 1; omega⟩
      | ⟨2, _⟩ => ⟨(i 1).val, by show _ < size 2; omega⟩
    have hy : ((seM.reshape S704x2x128 q1 q2 q3).access ⟨(⟨![a, 0, 0], size, ![4, 1, 1], inb⟩ : LoadRect S704x2x128), sp⟩).emb y = i := by
      obtain ⟨e0, e1⟩ := emb y
      funext b
      apply Fin.ext
      fin_cases b
      · exact e0.trans hρ.symm
      · exact e1
    have hwr := View.write_emb_of_mem (v := (seM.reshape S704x2x128 q1 q2 q3).access ⟨(⟨![a, 0, 0], size, ![4, 1, 1], inb⟩ : LoadRect S704x2x128), sp⟩) f w (Finset.mem_univ y)
    rw [hy] at hwr
    refine hwr.trans ((hw y).trans ?_)
    show T (2 * p + ((i 0).val - 352 * X.s4) % 8 % 2) ((8 * j + (((i 0).val - 352 * X.s4) / 8 - 8 * j)) * 128 + (i 1).val) = _
    congr 2
    · omega
    · congr 1; omega

/-- The same store into the normed staging slot: `6p + j` of a group writes rows `8j` on of tokens `2p` and `2p + 1`. -/
theorem Tr.putO (T : ℕ → ℕ → F .bf16) (p j n : ℕ) (hp : p < 4) (hn : (j < 5 ∧ n = 8) ∨ (j = 5 ∧ n = 4))
    {off size : Fin 3 → ℕ} {a : ℕ} (ho : off = ![a, 0, 0]) (h0 : size 0 = n) (h1 : size 1 = 2) (h2 : size 2 = 128)
    (ha : a = 176 * X.s4 + p + 32 * j) (hs4 : X.s4 < 4) (inb) (q1) (q2) (q3) (sp)
    (w : Vec F (⟨off, size, ![4, 1, 1], inb⟩ : LoadRect S704x2x128).shape .bf16)
    (hw : ∀ y, w y = T (2 * p + (y 1).val) ((8 * j + (y 0).val) * 128 + (y 2).val)) (hx) (hm) :
    Tr X DE (Done T X.s4 (6 * p + j)) (Prog.lift (.store (soM.reshape S704x2x128 q1 q2 q3) ⟨(⟨off, size, ![4, 1, 1], inb⟩ : LoadRect S704x2x128), sp⟩ w Finset.univ hx hm))
      (fun _ => True) DE (Done T X.s4 (6 * p + j + 1)) := by
  refine Tr.storeO ho h0 (by omega) (by omega) inb q1 q2 q3 sp w hx hm fun f hf i hi hc => ?_
  subst ho
  have hi1 : (i 1).val < 128 := (i 1).isLt
  have emb : ∀ y, ((((soM.reshape S704x2x128 q1 q2 q3).access ⟨(⟨![a, 0, 0], size, ![4, 1, 1], inb⟩ : LoadRect S704x2x128), sp⟩).emb y) 0).val = 2 * (a + 4 * (y 0).val) + (y 1).val
      ∧ ((((soM.reshape S704x2x128 q1 q2 q3).access ⟨(⟨![a, 0, 0], size, ![4, 1, 1], inb⟩ : LoadRect S704x2x128), sp⟩).emb y) 1).val = (y 2).val := by
    intro y
    obtain ⟨e0, e1⟩ := stageO_emb q1 q2 q3 ((⟨![a, 0, 0], size, ![4, 1, 1], inb⟩ : LoadRect S704x2x128).idx y)
    refine ⟨e0.trans ?_, e1.trans ?_⟩
    · show 2 * (a + 4 * (y 0).val) + (0 + 1 * (y 1).val) = _; omega
    · show 0 + 1 * (y 2).val = _; omega
  by_cases hlt : 6 * ((((i 0).val - 352 * X.s4) % 8) / 2) + (((i 0).val - 352 * X.s4) / 8) / 8 < 6 * p + j
  · rw [View.write_of_not_mem, hf i hi hlt]
    intro hmem
    obtain ⟨y, -, rfl⟩ := Finset.mem_map.1 hmem
    have b0 : (y 0).val < size 0 := (y 0).isLt
    have b1 : (y 1).val < size 1 := (y 1).isLt
    rw [(emb y).1] at hlt hi
    omega
  · have hr : (i 0).val - 352 * X.s4 < 352 := by omega
    have h6 : ((i 0).val - 352 * X.s4) / 8 / 8 ≤ 5 := by omega
    obtain ⟨hA, hB⟩ := (show ∀ q1 q2 : ℕ, q2 ≤ 5 → q1 ≤ 3 → 6 * q1 + q2 < 6 * p + j + 1 → ¬ 6 * q1 + q2 < 6 * p + j → q1 = p ∧ q2 = j by omega)
      (((i 0).val - 352 * X.s4) % 8 / 2) (((i 0).val - 352 * X.s4) / 8 / 8) h6 (by omega) hc hlt
    have hρ : (i 0).val = 2 * (a + 4 * (((i 0).val - 352 * X.s4) / 8 - 8 * j)) + ((i 0).val - 352 * X.s4) % 8 % 2 := by omega
    let y : (⟨![a, 0, 0], size, ![4, 1, 1], inb⟩ : LoadRect S704x2x128).shape.Idx := fun b => match b with
      | ⟨0, _⟩ => ⟨((i 0).val - 352 * X.s4) / 8 - 8 * j, by show _ < size 0; omega⟩
      | ⟨1, _⟩ => ⟨((i 0).val - 352 * X.s4) % 8 % 2, by show _ < size 1; omega⟩
      | ⟨2, _⟩ => ⟨(i 1).val, by show _ < size 2; omega⟩
    have hy : ((soM.reshape S704x2x128 q1 q2 q3).access ⟨(⟨![a, 0, 0], size, ![4, 1, 1], inb⟩ : LoadRect S704x2x128), sp⟩).emb y = i := by
      obtain ⟨e0, e1⟩ := emb y
      funext b
      apply Fin.ext
      fin_cases b
      · exact e0.trans hρ.symm
      · exact e1
    have hwr := View.write_emb_of_mem (v := (soM.reshape S704x2x128 q1 q2 q3).access ⟨(⟨![a, 0, 0], size, ![4, 1, 1], inb⟩ : LoadRect S704x2x128), sp⟩) f w (Finset.mem_univ y)
    rw [hy] at hwr
    refine hwr.trans ((hw y).trans ?_)
    show T (2 * p + ((i 0).val - 352 * X.s4) % 8 % 2) ((8 * j + (((i 0).val - 352 * X.s4) / 8 - 8 * j)) * 128 + (i 1).val) = _
    congr 2
    · omega
    · congr 1; omega

/-- The staging slots' stores of pairs of tiles. -/
theorem Reads.putE8 (h : Reads X V k) (p j : ℕ) (hp : p < 4) (hj : j < 5) {off : Fin 3 → ℕ} {a : ℕ} (ho : off = ![a, 0, 0])
    (ha : a = 176 * X.s4 + p + 32 * j) (inb) (q1) (q2) (q3) (sp) {w : Vec F S8x2x128 .bf16} (hx) (hm)
    (hw : w = Vl.il8 (V.t8 (2 * p) (8 * j)) (V.t8 (2 * p + 1) (8 * j))) :
    Tr X (Done V.t X.s4 (6 * p + j)) DO (Prog.lift (.store (seM.reshape S704x2x128 q1 q2 q3) ⟨(⟨off, S8x2x128.size, ![4, 1, 1], inb⟩ : LoadRect S704x2x128), sp⟩ w Finset.univ hx hm))
      (fun _ => True) (Done V.t X.s4 (6 * p + j + 1)) DO := by
  refine Tr.putE V.t p j 8 hp (by omega) ho rfl rfl rfl ha (by rw [h.s4]; exact Nat.mod_lt _ (by decide)) inb q1 q2 q3 sp w (fun y => ?_) hx hm
  rw [hw]
  refine Vl.il8_at _ _ y (fun z => z = V.t (2 * p + (y 1).val) ((8 * j + (y 0).val) * 128 + (y 2).val)) (fun e => ?_) (fun e => ?_)
  · rw [V.t8_at, e] <;> rfl
  · rw [V.t8_at, e] <;> rfl

/-- The staging slots' stores of pairs of tiles. -/
theorem Reads.putE4 (h : Reads X V k) (p j : ℕ) (hp : p < 4) (hj : j = 5) {off : Fin 3 → ℕ} {a : ℕ} (ho : off = ![a, 0, 0])
    (ha : a = 176 * X.s4 + p + 32 * j) (inb) (q1) (q2) (q3) (sp) {w : Vec F S4x2x128 .bf16} (hx) (hm)
    (hw : w = Vl.il4 (V.t4 (2 * p) (8 * j)) (V.t4 (2 * p + 1) (8 * j))) :
    Tr X (Done V.t X.s4 (6 * p + j)) DO (Prog.lift (.store (seM.reshape S704x2x128 q1 q2 q3) ⟨(⟨off, S4x2x128.size, ![4, 1, 1], inb⟩ : LoadRect S704x2x128), sp⟩ w Finset.univ hx hm))
      (fun _ => True) (Done V.t X.s4 (6 * p + j + 1)) DO := by
  refine Tr.putE V.t p j 4 hp (by omega) ho rfl rfl rfl ha (by rw [h.s4]; exact Nat.mod_lt _ (by decide)) inb q1 q2 q3 sp w (fun y => ?_) hx hm
  rw [hw]
  refine Vl.il4_at _ _ y (fun z => z = V.t (2 * p + (y 1).val) ((8 * j + (y 0).val) * 128 + (y 2).val)) (fun e => ?_) (fun e => ?_)
  · rw [V.t4_at, e] <;> rfl
  · rw [V.t4_at, e] <;> rfl

/-- The staging slots' stores of pairs of tiles. -/
theorem Reads.putO8 (h : Reads X V k) (p j : ℕ) (hp : p < 4) (hj : j < 5) {off : Fin 3 → ℕ} {a : ℕ} (ho : off = ![a, 0, 0])
    (ha : a = 176 * X.s4 + p + 32 * j) (inb) (q1) (q2) (q3) (sp) {w : Vec F S8x2x128 .bf16} (hx) (hm)
    (hw : w = Vl.il8 (V.u8 (2 * p) (8 * j)) (V.u8 (2 * p + 1) (8 * j))) :
    Tr X DE (Done V.u X.s4 (6 * p + j)) (Prog.lift (.store (soM.reshape S704x2x128 q1 q2 q3) ⟨(⟨off, S8x2x128.size, ![4, 1, 1], inb⟩ : LoadRect S704x2x128), sp⟩ w Finset.univ hx hm))
      (fun _ => True) DE (Done V.u X.s4 (6 * p + j + 1)) := by
  refine Tr.putO V.u p j 8 hp (by omega) ho rfl rfl rfl ha (by rw [h.s4]; exact Nat.mod_lt _ (by decide)) inb q1 q2 q3 sp w (fun y => ?_) hx hm
  rw [hw]
  refine Vl.il8_at _ _ y (fun z => z = V.u (2 * p + (y 1).val) ((8 * j + (y 0).val) * 128 + (y 2).val)) (fun e => ?_) (fun e => ?_)
  · rw [V.u8_at, e] <;> rfl
  · rw [V.u8_at, e] <;> rfl

/-- The staging slots' stores of pairs of tiles. -/
theorem Reads.putO4 (h : Reads X V k) (p j : ℕ) (hp : p < 4) (hj : j = 5) {off : Fin 3 → ℕ} {a : ℕ} (ho : off = ![a, 0, 0])
    (ha : a = 176 * X.s4 + p + 32 * j) (inb) (q1) (q2) (q3) (sp) {w : Vec F S4x2x128 .bf16} (hx) (hm)
    (hw : w = Vl.il4 (V.u4 (2 * p) (8 * j)) (V.u4 (2 * p + 1) (8 * j))) :
    Tr X DE (Done V.u X.s4 (6 * p + j)) (Prog.lift (.store (soM.reshape S704x2x128 q1 q2 q3) ⟨(⟨off, S4x2x128.size, ![4, 1, 1], inb⟩ : LoadRect S704x2x128), sp⟩ w Finset.univ hx hm))
      (fun _ => True) DE (Done V.u X.s4 (6 * p + j + 1)) := by
  refine Tr.putO V.u p j 4 hp (by omega) ho rfl rfl rfl ha (by rw [h.s4]; exact Nat.mod_lt _ (by decide)) inb q1 q2 q3 sp w (fun y => ?_) hx hm
  rw [hw]
  refine Vl.il4_at _ _ y (fun z => z = V.u (2 * p + (y 1).val) ((8 * j + (y 0).val) * 128 + (y 2).val)) (fun e => ?_) (fun e => ?_)
  · rw [V.u4_at, e] <;> rfl
  · rw [V.u4_at, e] <;> rfl

/-- Nothing is asked of the staging slots before the first store. -/
theorem CRes_zero (V : Vl F) : CRes X (fun _ => True) (fun _ => True) ⊢ CRes X (Done V.t X.s4 0) (Done V.u X.s4 0) := by
  unfold CRes
  iintro ⟨HA, HW, HS, HB, ⟨%fe, -, HE⟩, ⟨%fo, -, HO⟩⟩
  isplitl [HA]; · iexact HA
  isplitl [HW]; · iexact HW
  isplitl [HS]; · iexact HS
  isplitl [HB]; · iexact HB
  isplitl [HE]
  · iexists fe
    isplitr
    · ipureintro; intro i _ h; omega
    · iexact HE
  · iexists fo
    isplitr
    · ipureintro; intro i _ h; omega
    · iexact HO

/-- A fact kept beside the computation's resources. -/
theorem pure_mid {A G Q : sProp 𝕄} {φ : Prop} (h : φ → iprop(A ∗ G) ⊢ Q) : iprop(A ∗ (⌜φ⌝ ∗ G)) ⊢ Q := by
  iintro ⟨HA, %hφ, HG⟩
  iapply (h hφ)
  isplitl [HA]; · iexact HA
  iexact HG

end Cert.KernelIdeal.Hand
-- ==== Proof.KI.Trip.lean ====
/-
  A trip of the main loop: the last group's copies out start, the group 63 ahead is issued, the copies out of four
  groups ago are waited for, this group's rows are waited for, and the group is computed into its staging slots.
-/
module

public import proofs.«01_k».proof.Proof.KI.Flow
public import proofs.«01_k».proof.Proof.KI.Vals

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

/-- The proof's user algebra: the pipeline library's beside the transfers' counters. -/
local notation "𝕄" => MT nD τ sig Unit (Elt F) ℕ (Pipeline.UD sig nD τ) ℕ

theorem ent_frame2 {c : Dev nD} {α : Type} {A B G : sProp 𝕄} {P : α → Prop} {p : Prog (TpuEff nD τ sig (Elt F) Λ₀ .tc) α}
    (h : A ⊢ wpK c p (fun a => iprop(⌜P a⌝ ∗ B))) : iprop(A ∗ G) ⊢ wpK c p (fun a => iprop(⌜P a⌝ ∗ B ∗ G)) := by
  unfold wpK at *
  refine (sep_mono_left h).trans ((wp_frame_r _ _ _).trans (wp_mono _ _ _ fun a => ?_))
  iintro ⟨⟨H1, H2⟩, H3⟩
  isplitl [H1]; · iexact H1
  isplitl [H2]; · iexact H2
  iexact H3

/-- A free slot opens, beside whatever else is held. -/
theorem open_in2 {c : Dev nD} {arg0 : Memref sig .tc .smem S16384 .i32} {fA : Buf (Elt F) (arg0.view.loc (c : Thread nD τ))}
    {fT : S16000x5632.Idx → BitVec 32} {α : Type} {p : Prog (TpuEff nD τ sig (Elt F) Λ₀ .tc) α} {Q : α → sProp 𝕄} {G : sProp 𝕄} (tk : ℕ → BitVec 32) (g : ℕ)
    (h : iprop(IRes c arg0 fA fT tk g 0 ∗ G) ⊢ wpK c p Q) :
    iprop(((arg0.view.loc (c : Thread nD τ) ↦[arg0.view.set]{fullShare} fA) ∗ FreeIn (F := F) c fT g) ∗ G) ⊢ wpK c p Q := by
  unfold FreeIn
  iintro ⟨⟨HA, Hq, HR⟩, HG⟩
  imod (Transfers.batch_alloc' (Lvl := ℕ) (EC (F := F)) (c : Thread nD τ) () NR (DRow (F := F) c fT tk g) (sm := SemLoc.dma (semIn (g % 64))) (E := Set.univ)) $$ Hq with HBt
  iapply h
  unfold IRes
  isplitr [HG]
  · isplitl [HA]; · iexact HA
    isplitl [HBt]; · iexact HBt
    isplitr
    · rw [Finset.Ico_self, bigSep_empty]; iempintro
    · iexact HR
  · iexact HG

/-- Every token word names a row of the table. -/
theorem htokX {c : Dev nD} {arg0 : Memref sig .tc .smem S16384 .i32} {fA : Buf (Elt F) (arg0.view.loc (c : Thread nD τ))} {tokF : S16384.Idx → BitVec 32}
    (hf : arg0.view.read (Elt F) fA = tokF) (htk : ∀ n, n < 16384 → (tkOf tokF n).toNat < 64000) (x : S16384.Idx) :
    (arg0.view.read (Elt F) fA x).toNat < 64000 := by
  have h0 : (x 0).val < 16384 := (x 0).isLt
  have h := htk (x 0).val h0
  rw [tkOf, dif_pos h0] at h
  rw [hf]
  have e : ix1 (⟨(x 0).val, h0⟩ : Fin 16384) = x := by
    funext a; fin_cases a; rfl
  rw [e] at h
  exact h

section
variable {c : Dev nD} {arg0 : Memref sig .tc .smem S16384 .i32} {fA : Buf (Elt F) (arg0.view.loc (c : Thread nD τ))}
  {fT : S16000x5632.Idx → BitVec 32} {tokF : S16384.Idx → BitVec 32} (hf : arg0.view.read (Elt F) fA = tokF)
  {arg3 : Memref sig .tc .vmem S44x128 .f32} {fW : Buf (Elt F) (arg3.view.loc (c : Thread nD τ))} {fS : S64000.Idx → Elt F .f32}
  (harg0 : arg0.IsWhole) (harg3 : arg3.IsWhole)
  (htk : ∀ n, n < 16384 → (tkOf tokF n).toNat < 64000) (PE PO : ℕ → ℕ → ℕ → Elt F .bf16 → Prop)

/-- What every trip reads: the tokens, the weights, the scales. -/
def T3 (c : Dev nD) (arg0 : Memref sig .tc .smem S16384 .i32) (fA : Buf (Elt F) (arg0.view.loc (c : Thread nD τ)))
    (arg3 : Memref sig .tc .vmem S44x128 .f32) (fW : Buf (Elt F) (arg3.view.loc (c : Thread nD τ))) (fS : S64000.Idx → Elt F .f32) : sProp 𝕄 :=
  iprop((arg0.view.loc (c : Thread nD τ) ↦[arg0.view.set]{fullShare} fA)
    ∗ (arg3.view.loc (c : Thread nD τ) ↦[arg3.view.set]{fullShare} fW)
    ∗ ((c : Thread nD τ).loc cc0_scratch3 ↦[Finset.univ]{fullShare} fS))

/-- What group `k`'s computation works on. -/
def Cg (c : Dev nD) (arg0 : Memref sig .tc .smem S16384 .i32) (fA : Buf (Elt F) (arg0.view.loc (c : Thread nD τ)))
    (arg3 : Memref sig .tc .vmem S44x128 .f32) (fW : Buf (Elt F) (arg3.view.loc (c : Thread nD τ))) (fS : S64000.Idx → Elt F .f32)
    (fT : S16000x5632.Idx → BitVec 32) (tk : ℕ → BitVec 32) (k : ℕ) : Cx F where
  c := c
  arg0 := arg0
  fA := fA
  arg3 := arg3
  fW := fW
  DB := DBg fT tk k
  fS := fS
  s := k % 64
  s4 := k % 4

/-- Before trip `k`, the tokens being the words `tk`. -/
def Trip (c : Dev nD) (arg0 : Memref sig .tc .smem S16384 .i32) (fA : Buf (Elt F) (arg0.view.loc (c : Thread nD τ)))
    (arg3 : Memref sig .tc .vmem S44x128 .f32) (fW : Buf (Elt F) (arg3.view.loc (c : Thread nD τ))) (fS : S64000.Idx → Elt F .f32)
    (fT : S16000x5632.Idx → BitVec 32) (tk : ℕ → BitVec 32) (PE PO : ℕ → ℕ → ℕ → Elt F .bf16 → Prop) (k : ℕ) : sProp 𝕄 :=
  iprop(T3 c arg0 fA arg3 fW fS ∗ (∃ W, owes (c : Thread nD τ) 0 W) ∗ InR (F := F) c fT tk k (min (k + 63) 2048) ∗ OS c PE PO k)

/-- What stays beside group `k`'s computation. -/
def Beside (c : Dev nD) (fT : S16000x5632.Idx → BitVec 32) (tk : ℕ → BitVec 32) (PE PO : ℕ → ℕ → ℕ → Elt F .bf16 → Prop) (k : ℕ) : sProp 𝕄 :=
  iprop((∃ W, owes (c : Thread nD τ) 0 W) ∗ KeepIn (F := F) c fT k
    ∗ (bigSep (Finset.Ico (k + 1) (min (k + 64) 2048)) (FlightIn (F := F) c fT tk) ∗ bigSep (Finset.Ico (min (k + 64) 2048) (k + 64)) (FreeIn (F := F) c fT))
    ∗ Obase c PE PO (k - 3) k (k + 1)
    ∗ semVal ((c : Thread nD τ), SemLoc.dma (semE (k % 4))) 0 ∗ semVal ((c : Thread nD τ), SemLoc.dma (semO (k % 4))) 0)

/-- What group `k`'s computation reads: its tokens, the words of their table rows, their scales, and the weights. -/
def Vk (tokF : S16384.Idx → BitVec 32) (fT : S16000x5632.Idx → BitVec 32) (fS : S64000.Idx → F .f32) (wF : S44x128.Idx → F .f32) (k : ℕ) : Vl F where
  tk i := tkOf tokF (8 * k + i)
  wd i d := fT (ix2 (⟨rowOf (tkOf tokF (8 * k + i)) % 16000, Nat.mod_lt _ (by decide)⟩ : Fin 16000) (⟨d % 5632, Nat.mod_lt _ (by decide)⟩ : Fin 5632))
  sc i := fS (ix1 (⟨(tkOf tokF (8 * k + i)).toNat % 64000, Nat.mod_lt _ (by decide)⟩ : Fin 64000))
  W r l := wF (ix2 (⟨r % 44, Nat.mod_lt _ (by decide)⟩ : Fin 44) (⟨l % 128, Nat.mod_lt _ (by decide)⟩ : Fin 128))

theorem rowOf_lt {w : BitVec 32} (h : w.toNat < 64000) : rowOf w < 16000 := by
  unfold rowOf
  rw [BitVec.toNat_ushiftRight, Nat.shiftRight_eq_div_pow]
  omega

include hf htk in
theorem reads_cg {wF : S44x128.Idx → F .f32} (hw : arg3.view.read (Elt F) fW = wF) (k : ℕ) (hk : k < 2048) :
    Reads (Cg c arg0 fA arg3 fW fS fT (tkOf tokF) k) (Vk tokF fT fS wF k) k where
  s := rfl
  s4 := rfl
  tok i hi y hy := by
    show arg0.view.read (Elt F) fA y = tkOf tokF (8 * k + i)
    rw [hf, tkOf, dif_pos (show 8 * k + i < 16384 by omega)]
    refine congrArg tokF ?_
    funext a; apply Fin.ext; fin_cases a; exact hy
  wd f hfb i hi y hy := by
    have h2 : (y 2).val < 5632 := (y 2).isLt
    have hr := rowOf_lt (htk (8 * k + i) (by omega))
    exact hfb i (Finset.mem_Ico.mpr ⟨Nat.zero_le _, hi⟩) y _ hy (Nat.mod_eq_of_lt hr) (Nat.mod_eq_of_lt h2)
  sc i hi y hy := by
    refine congrArg fS ?_
    funext a; apply Fin.ext; fin_cases a
    exact hy.trans (Nat.mod_eq_of_lt (htk (8 * k + i) (by omega))).symm
  W y := by
    have h0 : (y 0).val < 44 := (y 0).isLt
    have h1 : (y 1).val < 128 := (y 1).isLt
    show arg3.view.read (Elt F) fW y = _
    rw [hw]
    refine congrArg wF ?_
    funext a; apply Fin.ext; fin_cases a
    · exact (Nat.mod_eq_of_lt h0).symm
    · exact (Nat.mod_eq_of_lt h1).symm
  lt i hi := htk (8 * k + i) (by omega)

include hf htk in
/-- The moves of the rings before a group's computation. -/
theorem fr_part7 (k0_t2 : Fin k0_t2_loop.trips) :
    Trip c arg0 fA arg3 fW fS fT (tkOf tokF) PE PO k0_t2.val
      ⊢ wpK c (k0_part7 (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 0#32 1#32 k0_t2)
        (fun r => iprop(CRes (Cg c arg0 fA arg3 fW fS fT (tkOf tokF) k0_t2.val) Any Any ∗ (⌜r.2.2.1 = tkOf tokF (8 * k0_t2.val) ∧ r.2.2.2.2.1 = Scalar.muli 8#32 (Scalar.andi (tkOf tokF (8 * k0_t2.val)) 3#32) ∧ r.2.2.2.2.2 = 24#32⌝ ∗ Beside c fT (tkOf tokF) PE PO k0_t2.val))) := by
  have hk : k0_t2.val < 2048 := lt_of_lt_of_eq k0_t2.isLt trips2
  rw [k0_part7_eq_skeleton]
  unfold k0_part7_skel
  extract_lets arg14 v21 v22 v35 v36 v37 v38 v39 v41 jp3 jp2 jp1
  have hjp1 : ∀ r, iprop(T3 c arg0 fA arg3 fW fS ∗ (∃ W, owes (c : Thread nD τ) 0 W) ∗ InR (F := F) c fT (tkOf tokF) k0_t2.val (min (k0_t2.val + 63) 2048)
      ∗ Obase c PE PO (k0_t2.val - 4) k0_t2.val k0_t2.val) ⊢ wpK c (jp1 r)
        (fun r => iprop(CRes (Cg c arg0 fA arg3 fW fS fT (tkOf tokF) k0_t2.val) Any Any ∗ (⌜r.2.2.1 = tkOf tokF (8 * k0_t2.val) ∧ r.2.2.2.2.1 = Scalar.muli 8#32 (Scalar.andi (tkOf tokF (8 * k0_t2.val)) 3#32) ∧ r.2.2.2.2.2 = 24#32⌝ ∗ Beside c fT (tkOf tokF) PE PO k0_t2.val))) := by
    intro r
    simp only [jp1]
    clear jp1
    have hjp2 : ∀ r, iprop(T3 c arg0 fA arg3 fW fS ∗ (∃ W, owes (c : Thread nD τ) 0 W) ∗ InR (F := F) c fT (tkOf tokF) k0_t2.val (min (k0_t2.val + 64) 2048)
        ∗ Obase c PE PO (k0_t2.val - 4) k0_t2.val k0_t2.val) ⊢ wpK c (jp2 r)
          (fun r => iprop(CRes (Cg c arg0 fA arg3 fW fS fT (tkOf tokF) k0_t2.val) Any Any ∗ (⌜r.2.2.1 = tkOf tokF (8 * k0_t2.val) ∧ r.2.2.2.2.1 = Scalar.muli 8#32 (Scalar.andi (tkOf tokF (8 * k0_t2.val)) 3#32) ∧ r.2.2.2.2.2 = 24#32⌝ ∗ Beside c fT (tkOf tokF) PE PO k0_t2.val))) := by
      intro r
      simp only [jp2]
      clear jp2
      have hjp3 : ∀ r, iprop(T3 c arg0 fA arg3 fW fS ∗ (∃ W, owes (c : Thread nD τ) 0 W) ∗ InR (F := F) c fT (tkOf tokF) k0_t2.val (min (k0_t2.val + 64) 2048)
          ∗ Obase c PE PO (k0_t2.val - 3) k0_t2.val k0_t2.val) ⊢ wpK c (jp3 r)
            (fun r => iprop(CRes (Cg c arg0 fA arg3 fW fS fT (tkOf tokF) k0_t2.val) Any Any ∗ (⌜r.2.2.1 = tkOf tokF (8 * k0_t2.val) ∧ r.2.2.2.2.1 = Scalar.muli 8#32 (Scalar.andi (tkOf tokF (8 * k0_t2.val)) 3#32) ∧ r.2.2.2.2.2 = 24#32⌝ ∗ Beside c fT (tkOf tokF) PE PO k0_t2.val))) := by
        intro r
        simp only [jp3]
        clear jp3
        refine BIBase.Entails.trans ?_ (ent_bind (wt_in c fT (tkOf tokF) k0_t2.val (k0_off71_eq k0_t2) _ _ _ _ _ _
          (R := iprop(T3 c arg0 fA arg3 fW fS
            ∗ (bigSep (Finset.Ico (k0_t2.val + 1) (min (k0_t2.val + 64) 2048)) (FlightIn (F := F) c fT (tkOf tokF)) ∗ bigSep (Finset.Ico (min (k0_t2.val + 64) 2048) (k0_t2.val + 64)) (FreeIn (F := F) c fT))
            ∗ Obase c PE PO (k0_t2.val - 3) k0_t2.val k0_t2.val))) fun _ _ => ?_)
        · unfold InR
          rw [bigSep_Ico_succ_bot (show k0_t2.val < min (k0_t2.val + 64) 2048 by omega)]
          iintro ⟨H3, HW, ⟨⟨HF, HIn⟩, HFr⟩, HO⟩
          isplitl [HF]; · iexact HF
          isplitl [HW]; · iexact HW
          isplitl [H3]; · iexact H3
          isplitl [HIn HFr]
          · isplitl [HIn]; · iexact HIn
            iexact HFr
          iexact HO
        refine BIBase.Entails.trans (Q := iprop(CRes (Cg c arg0 fA arg3 fW fS fT (tkOf tokF) k0_t2.val) Any Any ∗ Beside c fT (tkOf tokF) PE PO k0_t2.val)) ?_ ?_
        · unfold T3 CRes Beside Obase
          rw [bigSep_Ico_succ_bot (show k0_t2.val < k0_t2.val - 3 + 4 by omega)]
          unfold FreeOut
          iintro ⟨HB, HK, HW, ⟨HA, HWt, HS⟩, HIn, HO1, HO2, HO3, ⟨⟨%fe, He⟩, ⟨%fo, Ho⟩, Hqe, Hqo⟩, HO4⟩
          isplitl [HB HA HWt HS He Ho]
          · isplitl [HA]; · iexact HA
            isplitl [HWt]; · iexact HWt
            isplitl [HS]; · iexact HS
            isplitl [HB]; · iexact HB
            isplitl [He]
            · iexists fe
              isplitr
              · ipureintro; trivial
              · iexact He
            · iexists fo
              isplitr
              · ipureintro; trivial
              · iexact Ho
          isplitl [HW]; · iexact HW
          isplitl [HK]; · iexact HK
          isplitl [HIn]; · iexact HIn
          isplitl [HO1 HO2 HO3 HO4]
          · isplitl [HO1]; · iexact HO1
            isplitl [HO2]; · iexact HO2
            isplitl [HO3]; · iexact HO3
            iexact HO4
          isplitl [Hqe]; · iexact Hqe
          iexact Hqo
        refine Tr.frame (P := fun r => r.2.2.1 = tkOf tokF (8 * k0_t2.val) ∧ r.2.2.2.2.1 = Scalar.muli 8#32 (Scalar.andi (tkOf tokF (8 * k0_t2.val)) 3#32) ∧ r.2.2.2.2.2 = 24#32)
          (DE' := Any) (DO' := Any) ?_ fun rb h => ?_
        · have hX := reads_cg (c := c) (arg3 := arg3) (fW := fW) (fS := fS) (fT := fT) hf htk rfl k0_t2.val hk
          refine Tr.bind (hX.tokV 0 (by omega) (k0_off72_eq k0_t2) _ _ _) fun v46 e => ?_
          subst e
          refine Tr.bind (Tr.asm (chk17 _ (hX.lt 0 (by omega)))) fun _ _ => ?_
          exact .ret _ ⟨rfl, rfl, rfl⟩
        · iintro ⟨H1, H2⟩
          isplitl [H1]; · iexact H1
          isplitr
          · ipureintro; exact h
          · iexact H2
      clear_value jp3
      by_cases h3 : k0_cond3 k0_t2 = 1#1
      · have h4 := (cond3 k0_t2).1 h3
        rw [dif_pos h3]
        refine BIBase.Entails.trans ?_ (ent_bind (wt_E c PE (k0_t2.val - 4) (off68 k0_t2 h4) _ _ _ _ _ _
          (R := iprop(FlO c PO (k0_t2.val - 4) ∗ WRest c PE PO (k0_t2.val - 4) k0_t2.val k0_t2.val ∗ T3 c arg0 fA arg3 fW fS ∗ InR (F := F) c fT (tkOf tokF) k0_t2.val (min (k0_t2.val + 64) 2048)))) fun _ _ => ?_)
        · iintro ⟨H3, HW, HIn, HO⟩
          ihave H := (wait_pre (F := F) c PE PO (k0_t2.val - 4) k0_t2.val k0_t2.val (by omega)) $$ HO
          icases H with ⟨H1, H2, HO⟩
          isplitl [H1]; · iexact H1
          isplitl [HW]; · iexact HW
          isplitl [H2]; · iexact H2
          isplitl [HO]; · iexact HO
          isplitl [H3]; · iexact H3
          iexact HIn
        refine BIBase.Entails.trans ?_ (ent_bind (wt_O c PO (k0_t2.val - 4) (off68 k0_t2 h4) _ _ _ _ _ _
          (R := iprop(BE c PE (k0_t2.val - 4) ∗ WRest c PE PO (k0_t2.val - 4) k0_t2.val k0_t2.val ∗ T3 c arg0 fA arg3 fW fS ∗ InR (F := F) c fT (tkOf tokF) k0_t2.val (min (k0_t2.val + 64) 2048)))) fun _ _ => ?_)
        · iintro ⟨HB, HW, HF, HR⟩
          isplitl [HF]; · iexact HF
          isplitl [HW]; · iexact HW
          isplitl [HB]; · iexact HB
          iexact HR
        refine BIBase.Entails.trans ?_ (hjp3 _)
        iintro ⟨HBO, HW, HBE, HR, H3, HIn⟩
        isplitl [H3]; · iexact H3
        isplitl [HW]; · iexact HW
        isplitl [HIn]; · iexact HIn
        rw [show k0_t2.val - 3 = k0_t2.val - 4 + 1 by omega]
        iapply (wait_post (F := F) c PE PO (k0_t2.val - 4) k0_t2.val k0_t2.val (by omega))
        isplitl [HBE]; · iexact HBE
        isplitl [HBO]; · iexact HBO
        iexact HR
      · have h4 : ¬ 4 ≤ k0_t2.val := fun h => h3 ((cond3 k0_t2).2 h)
        rw [dif_neg h3]
        have h := hjp3 PUnit.unit
        rw [show k0_t2.val - 3 = k0_t2.val - 4 by omega] at h
        exact h
    clear_value jp2
    by_cases h2 : k0_cond2 k0_t2 = 1#1
    · have h4 := (cond2 k0_t2).1 h2
      rw [dif_pos h2]
      refine BIBase.Entails.trans ?_ (open_in2 (arg0 := arg0) (fA := fA) (fT := fT) (tkOf tokF) (k0_t2.val + 63) (G := iprop((arg3.view.loc (c : Thread nD τ) ↦[arg3.view.set]{fullShare} fW)
            ∗ ((c : Thread nD τ).loc cc0_scratch3 ↦[Finset.univ]{fullShare} fS) ∗ (∃ W, owes (c : Thread nD τ) 0 W)
            ∗ bigSep (Finset.Ico k0_t2.val (k0_t2.val + 63)) (FlightIn (F := F) c fT (tkOf tokF)) ∗ Obase c PE PO (k0_t2.val - 4) k0_t2.val k0_t2.val)) ?_)
      · unfold T3 InR
        rw [show min (k0_t2.val + 63) 2048 = k0_t2.val + 63 by omega, show k0_t2.val + 64 = k0_t2.val + 63 + 1 by omega, bigSep_Ico_one]
        iintro ⟨⟨HA, HWt, HS⟩, HW, ⟨HF, HFr⟩, HO⟩
        isplitl [HA HFr]
        · isplitl [HA]; · iexact HA
          iexact HFr
        isplitl [HWt]; · iexact HWt
        isplitl [HS]; · iexact HS
        isplitl [HW]; · iexact HW
        isplitl [HF]; · iexact HF
        iexact HO
      refine ent_bind (ent_frame2 (fr_part4 hf harg0 harg3 htk k0_t2 v22 h2 h4)) fun r4 e2 => ?_
      obtain ⟨v1568, v1569, v1597, k0_hw11, c8⟩ := r4
      refine ent_bind (ent_frame2 (fr_part5 hf harg0 harg3 htk k0_t2 h2 v1568 v1569 v1597 k0_hw11 c8 h4 e2)) fun v1631 _ => ?_
      refine ent_bind (ent_frame2 (fr_part6 hf harg0 harg3 htk k0_t2 h2 v1568 v1569 v1631 h4)) fun r6 e7 => ?_
      obtain ⟨v1657, k0_hw16⟩ := r6
      dsimp only at e7
      refine ent_bind (ent_frame2 (i_row (tkOf tokF) (k0_t2.val + 63) 7 (by decide) ((k0_off65_eq k0_t2).trans (vec1 (by omega))) ((k0_off66_eq k0_t2).trans (vec3 (by omega))) (by rw [← e7]; rfl) _ _ _ _ _ _ _ _)) fun _ _ => ?_
      refine BIBase.Entails.trans ?_ (hjp2 _)
      rw [show min (k0_t2.val + 64) 2048 = k0_t2.val + 63 + 1 by omega]
      iintro ⟨HI, HWt, HS, HW, HF, HO⟩
      ihave H := (close_in (F := F) (tkOf tokF) (k0_t2.val + 63)) $$ HI
      icases H with ⟨HA, HFl⟩
      unfold T3 InR
      rw [bigSep_Ico_succ_top (show k0_t2.val ≤ k0_t2.val + 63 by omega), show k0_t2.val + 64 = k0_t2.val + 63 + 1 by omega, Finset.Ico_self, bigSep_empty]
      isplitl [HA HWt HS]
      · isplitl [HA]; · iexact HA
        isplitl [HWt]; · iexact HWt
        iexact HS
      isplitl [HW]; · iexact HW
      isplitl [HF HFl]
      · isplitl [HF HFl]
        · isplitl [HFl]; · iexact HFl
          iexact HF
        · iempintro
      iexact HO
    · have h4 : ¬ k0_t2.val + 63 < 2048 := fun h => h2 ((cond2 k0_t2).2 h)
      rw [dif_neg h2]
      have h := hjp2 PUnit.unit
      rw [show min (k0_t2.val + 64) 2048 = min (k0_t2.val + 63) 2048 by omega] at h
      exact h
  clear_value jp1
  by_cases h1 : k0_cond1 k0_t2 = 1#1
  · have h4 := (cond1 k0_t2).1 h1
    obtain ⟨g, hg⟩ : ∃ g, k0_t2.val = g + 1 := ⟨k0_t2.val - 1, by omega⟩
    have hg1 : k0_t2.val - 1 = g := by omega
    have o33 := off33 k0_t2 h4
    have o34 := off34 k0_t2 h4
    have o35 := off35 k0_t2 h4
    rw [hg1] at o33 o34 o35
    rw [dif_pos h1]
    refine BIBase.Entails.trans ?_ (ent_bind (st_E c PE g o33 o34 o35 _ _ _ _ _ _ _ _ _ _ _
      (R := iprop(AO c PO g ∗ SRest c PE PO (g - 3) g (g + 1) ∗ T3 c arg0 fA arg3 fW fS ∗ (∃ W, owes (c : Thread nD τ) 0 W) ∗ InR (F := F) c fT (tkOf tokF) k0_t2.val (min (k0_t2.val + 63) 2048)))) fun _ _ => ?_)
    · unfold Trip
      rw [hg]
      iintro ⟨H3, HW, HIn, HO⟩
      ihave H := (start_pre (F := F) c PE PO (g - 3) g (g + 1) (by omega)) $$ [HO]
      · unfold OS; iexact HO
      icases H with ⟨H1, H2, HO⟩
      isplitl [H1]; · iexact H1
      isplitl [H2]; · iexact H2
      isplitl [HO]; · iexact HO
      isplitl [H3]; · iexact H3
      isplitl [HW]; · iexact HW
      iexact HIn
    refine BIBase.Entails.trans ?_ (ent_bind (st_O c PO g o33 o34 o35 _ _ _ _ _ _ _ _ _ _ _
      (R := iprop(FlE c PE g ∗ SRest c PE PO (g - 3) g (g + 1) ∗ T3 c arg0 fA arg3 fW fS ∗ (∃ W, owes (c : Thread nD τ) 0 W) ∗ InR (F := F) c fT (tkOf tokF) k0_t2.val (min (k0_t2.val + 63) 2048)))) fun _ _ => ?_)
    · iintro ⟨HF, HA, HR⟩
      isplitl [HA]; · iexact HA
      isplitl [HF]; · iexact HF
      iexact HR
    refine BIBase.Entails.trans ?_ (hjp1 _)
    iintro ⟨HFO, HFE, HR, H3, HW, HIn⟩
    isplitl [H3]; · iexact H3
    isplitl [HW]; · iexact HW
    isplitl [HIn]; · iexact HIn
    rw [hg, show g + 1 - 4 = g - 3 by omega]
    iapply (start_post (F := F) c PE PO (g - 3) g (g + 1) (by omega))
    isplitl [HFE]; · iexact HFE
    isplitl [HFO]; · iexact HFO
    iexact HR
  · have h4 : k0_t2.val = 0 := by
      by_contra h
      exact h1 ((cond1 k0_t2).2 (by omega))
    rw [dif_neg h1]
    refine BIBase.Entails.trans ?_ (hjp1 PUnit.unit)
    unfold Trip
    rw [h4]
    unfold OS
    exact .rfl
end

end Cert.KernelIdeal.Hand
-- ==== Proof.KI.Ends.lean ====
/-
  The two ends of the body's run: whole buffers, semaphores at zero and the table's one share become the rings' slots,
  all free, and the results' blocks, all to do; and back.
-/
module

public import proofs.«01_k».proof.Proof.KI.Trip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

/-- The proof's user algebra: the pipeline library's beside the transfers' counters. -/
local notation "𝕄" => MT nD τ sig Unit (Elt F) ℕ (Pipeline.UD sig nD τ) ℕ

/-! ## Long separating conjunctions -/

theorem sep_consec {a b n : ℕ} (hab : a ≤ b) (hbn : b ≤ n) (A : ℕ → sProp 𝕄) :
    bigSep (Finset.Ico a n) A = iprop(bigSep (Finset.Ico a b) A ∗ bigSep (Finset.Ico b n) A) := by
  rw [← Finset.Ico_union_Ico_eq_Ico hab hbn, bigSep_union (Finset.Ico_disjoint_Ico_consecutive a b n)]
  rfl
theorem sep_shift (n m : ℕ) (A : ℕ → sProp 𝕄) :
    bigSep (Finset.Ico n (n + m)) A = bigSep (Finset.Ico 0 m) (fun j => A (n + j)) := by
  have e : Finset.Ico n (n + m) = (Finset.Ico 0 m).map (addLeftEmbedding n) := by
    rw [Finset.map_add_left_Ico, Nat.add_zero]
  rw [e, bigSep_map]
  rfl
theorem sep_swap (X Y : sProp 𝕄) : iprop(X ∗ Y) = iprop(Y ∗ X) := by
  have h : ∀ A B : sProp 𝕄, iprop(A ∗ B) ⊢ iprop(B ∗ A) := by
    intro A B
    iintro ⟨H1, H2⟩
    isplitl [H2]; · iexact H2
    iexact H1
  exact BI.Entails.antisymm (h X Y) (h Y X)
theorem sep_blocks (A : ℕ → sProp 𝕄) (n : ℕ) :
    bigSep (Finset.Ico 0 n) (fun g => bigSep (Finset.Ico 0 8) (fun j => A (8 * g + j))) = bigSep (Finset.Ico 0 (8 * n)) A := by
  induction n with
  | zero => rfl
  | succ n ih =>
    rw [bigSep_Ico_succ_top (Nat.zero_le n), ih, show 8 * (n + 1) = 8 * n + 8 by omega,
      sep_consec (Nat.zero_le (8 * n)) (Nat.le_add_right (8 * n) 8), sep_shift]
    exact sep_swap _ _

/-- A buffer whole at some contents is its parts, each at some contents. -/
theorem split_all {ℓ : Loc nD τ sig} (S : Finset ℕ) (K : ℕ → Finset (Idx ℓ)) (hU : S.biUnion K = Finset.univ)
    (hK : ∀ i ∈ S, ∀ j ∈ S, i ≠ j → Disjoint (K i) (K j)) :
    (iprop(∃ f : Buf (Elt F) ℓ, ℓ ↦[Finset.univ]{fullShare} f) : sProp 𝕄) ⊢ bigSep S (fun i => iprop(∃ f : Buf (Elt F) ℓ, ℓ ↦[K i]{fullShare} f)) := by
  iintro ⟨%f, H⟩
  have hm : bigSep S (fun i => (ℓ ↦[K i]{fullShare} f : sProp 𝕄)) ⊢ bigSep S (fun i => iprop(∃ f : Buf (Elt F) ℓ, ℓ ↦[K i]{fullShare} f)) :=
    BI.bigSep_mono (fun i _ => (show (ℓ ↦[K i]{fullShare} f : sProp 𝕄) ⊢ iprop(∃ f : Buf (Elt F) ℓ, ℓ ↦[K i]{fullShare} f) by iintro H; iexists f; iexact H))
  iapply hm
  ihave H2 := (Entails.of_eq (pointsTo_biUnion (Val := Elt F) (ℓ := ℓ) (q := fullShare) (f := f) S K hK)) $$ [H]
  · rw [hU]; iexact H
  iexact H2

/-- And back, the properties of the parts kept. -/
theorem merge_all {ℓ : Loc nD τ sig} (S : Finset ℕ) (K : ℕ → Finset (Idx ℓ)) (G : ℕ → Buf (Elt F) ℓ → Prop) (f₀ : Buf (Elt F) ℓ)
    (hU : S.biUnion K = Finset.univ)
    (hK : ∀ i ∈ S, ∀ j ∈ S, i ≠ j → Disjoint (K i) (K j)) (hG : ∀ i f f', (∀ x ∈ K i, f' x = f x) → G i f → G i f') :
    bigSep S (fun i => iprop(∃ f, ⌜G i f⌝ ∗ ℓ ↦[K i]{fullShare} f)) ⊢ (iprop(∃ f, ⌜∀ i ∈ S, G i f⌝ ∗ ℓ ↦[Finset.univ]{fullShare} f) : sProp 𝕄) := by
  rw [← hU]
  exact gather S K G f₀ hK hG
theorem merge_all0 {ℓ : Loc nD τ sig} (S : Finset ℕ) (K : ℕ → Finset (Idx ℓ)) (f₀ : Buf (Elt F) ℓ)
    (hU : S.biUnion K = Finset.univ) (hK : ∀ i ∈ S, ∀ j ∈ S, i ≠ j → Disjoint (K i) (K j)) :
    bigSep S (fun i => iprop(∃ f : Buf (Elt F) ℓ, ℓ ↦[K i]{fullShare} f)) ⊢ (iprop(∃ f : Buf (Elt F) ℓ, ℓ ↦[Finset.univ]{fullShare} f) : sProp 𝕄) := by
  have hm : bigSep S (fun i => iprop(∃ f : Buf (Elt F) ℓ, ℓ ↦[K i]{fullShare} f)) ⊢ (bigSep S (fun i => iprop(∃ f : Buf (Elt F) ℓ, ⌜True⌝ ∗ ℓ ↦[K i]{fullShare} f)) : sProp 𝕄) :=
    BI.bigSep_mono (fun i _ => (show (iprop(∃ f : Buf (Elt F) ℓ, ℓ ↦[K i]{fullShare} f) : sProp 𝕄) ⊢ iprop(∃ f : Buf (Elt F) ℓ, ⌜True⌝ ∗ ℓ ↦[K i]{fullShare} f) by
      iintro ⟨%f, H⟩
      iexists f
      isplitr
      · ipureintro; trivial
      iexact H))
  refine hm.trans ((merge_all S K (fun _ _ => True) f₀ hU hK (fun _ _ _ _ _ => trivial)).trans ?_)
  iintro ⟨%f, -, H⟩
  iexists f
  iexact H

/-! ## The parts of each buffer -/

theorem rows_all : (Finset.Ico 0 512).biUnion bRow = Finset.univ := by
  ext x
  have h : (x 0).val < 512 := (x 0).isLt
  simp only [Finset.mem_biUnion, Finset.mem_Ico, mem_bRow, Finset.mem_univ, iff_true]
  exact ⟨(x 0).val, ⟨Nat.zero_le _, h⟩, rfl⟩
theorem rows_dis : ∀ i ∈ Finset.Ico 0 512, ∀ j ∈ Finset.Ico 0 512, i ≠ j → Disjoint (bRow i) (bRow j) := by
  intro i _ j _ h
  rw [Finset.disjoint_left]; intro x h1 h2; rw [mem_bRow] at h1 h2; omega
theorem slots_all : (Finset.Ico 0 4).biUnion (fun g => sSlot (g % 4)) = Finset.univ := by
  ext x
  have h : (x 0).val < 1408 := (x 0).isLt
  simp only [Finset.mem_biUnion, Finset.mem_Ico, mem_sSlot, Finset.mem_univ, iff_true]
  exact ⟨(x 0).val / 352, ⟨Nat.zero_le _, by omega⟩, by omega⟩
theorem slots_dis : ∀ i ∈ Finset.Ico 0 4, ∀ j ∈ Finset.Ico 0 4, i ≠ j → Disjoint (sSlot (i % 4)) (sSlot (j % 4)) := by
  intro i hi j hj h
  rw [Finset.mem_Ico] at hi hj
  rw [Finset.disjoint_left]; intro x h1 h2; rw [mem_sSlot] at h1 h2; omega
theorem blks_all : (Finset.Ico 0 2048).biUnion oBlk = Finset.univ := by
  ext x
  have h : (x 0).val < 2048 := (x 0).isLt
  simp only [Finset.mem_biUnion, Finset.mem_Ico, mem_oBlk, Finset.mem_univ, iff_true]
  exact ⟨(x 0).val, ⟨Nat.zero_le _, h⟩, rfl⟩
theorem blks_dis : ∀ i ∈ Finset.Ico 0 2048, ∀ j ∈ Finset.Ico 0 2048, i ≠ j → Disjoint (oBlk i) (oBlk j) := by
  intro i _ j _ h
  rw [Finset.disjoint_left]; intro x h1 h2; rw [mem_oBlk] at h1 h2; omega

/-! ## The input ring -/

theorem table_shares (c : Dev nD) (fT : S16000x5632.Idx → BitVec 32) :
    (ptT (F := F) c fullShare Finset.univ fT : sProp 𝕄) = bigSep (Finset.Ico 0 512) (fun R => ptT (F := F) c (shR R) Finset.univ fT) := by
  refine (Transfers.pointsTo_deal (Val := Elt F) (ℓ := (c : Thread nD τ).loc main_v3) (S := Finset.univ) (f := fT) (Finset.range 512) ⟨0, by simp⟩ fullShare).trans ?_
  rw [Finset.range_eq_Ico]
  refine BI.bigSep_congr fun i hi => ?_
  rw [Finset.mem_Ico] at hi
  rw [shR, dif_pos hi.2, Finset.range_eq_Ico]

theorem frees_eq (c : Dev nD) (fT : S16000x5632.Idx → BitVec 32) :
    bigSep (Finset.Ico 0 64) (FreeIn (F := F) c fT)
      = iprop(bigSep (Finset.Ico 0 64) (fun g => semVal ((c : Thread nD τ), SemLoc.dma (semIn (g % 64))) 0)
        ∗ bigSep (Finset.Ico 0 512) (fun R => iprop(∃ f, ptB (F := F) c (bRow R) f)) ∗ ptT (F := F) c fullShare Finset.univ fT) := by
  unfold FreeIn
  rw [bigSep_sep']
  have e : bigSep (Finset.Ico 0 64) (fun g => bigSep (Finset.Ico 0 8) (fun j => FreeRow (F := F) c fT (8 * (g % 64) + j)))
      = bigSep (Finset.Ico 0 64) (fun g => bigSep (Finset.Ico 0 8) (fun j => FreeRow (F := F) c fT (8 * g + j))) :=
    BI.bigSep_congr fun g hg => by
      rw [Finset.mem_Ico] at hg
      rw [Nat.mod_eq_of_lt hg.2]
  rw [e, sep_blocks (F := F) (FreeRow (F := F) c fT) 64]
  unfold FreeRow
  rw [bigSep_sep', ← table_shares]

theorem in_open (c : Dev nD) (fT : S16000x5632.Idx → BitVec 32) :
    iprop(bigSep (Finset.Ico 0 64) (fun g => semVal ((c : Thread nD τ), SemLoc.dma (semIn (g % 64))) 0)
      ∗ (∃ f, ptB (F := F) c Finset.univ f) ∗ ptT (F := F) c fullShare Finset.univ fT) ⊢ bigSep (Finset.Ico 0 64) (FreeIn (F := F) c fT) := by
  rw [frees_eq]
  iintro ⟨H1, H2, H3⟩
  isplitl [H1]; · iexact H1
  isplitl [H2]
  · iapply (split_all (F := F) (ℓ := (c : Thread nD τ).loc cc0_scratch0) (Finset.Ico 0 512) bRow rows_all rows_dis)
    iexact H2
  iexact H3

theorem in_close (c : Dev nD) (fT : S16000x5632.Idx → BitVec 32) (n : ℕ) (hn : n % 64 = 0) :
    bigSep (Finset.Ico n (n + 64)) (FreeIn (F := F) c fT)
      ⊢ iprop(bigSep (Finset.Ico 0 64) (fun g => semVal ((c : Thread nD τ), SemLoc.dma (semIn (g % 64))) 0)
        ∗ (∃ f, ptB (F := F) c Finset.univ f) ∗ ptT (F := F) c fullShare Finset.univ fT) := by
  rw [sep_shift]
  have e : bigSep (Finset.Ico 0 64) (fun j => FreeIn (F := F) c fT (n + j)) = bigSep (Finset.Ico 0 64) (FreeIn (F := F) c fT) :=
    BI.bigSep_congr fun g _ => by unfold FreeIn; rw [show (n + g) % 64 = g % 64 by omega]
  rw [e, frees_eq]
  iintro ⟨H1, H2, H3⟩
  isplitl [H1]; · iexact H1
  isplitl [H2]
  · iapply (merge_all0 (F := F) (ℓ := (c : Thread nD τ).loc cc0_scratch0) (Finset.Ico 0 512) bRow (fun _ => (0 : BitVec 32)) rows_all rows_dis)
    iexact H2
  iexact H3

/-! ## The staging rings and the results -/

section
variable (c : Dev nD) (PE PO : ℕ → ℕ → ℕ → Elt F .bf16 → Prop)

theorem out_open :
    iprop((∃ f, ptSE (F := F) c Finset.univ f) ∗ (∃ f, ptSO (F := F) c Finset.univ f) ∗ (∃ f, ptE (F := F) c Finset.univ f) ∗ (∃ f, ptO (F := F) c Finset.univ f)
      ∗ bigSep (Finset.Ico 0 4) (fun g => semVal ((c : Thread nD τ), SemLoc.dma (semE (g % 4))) 0)
      ∗ bigSep (Finset.Ico 0 4) (fun g => semVal ((c : Thread nD τ), SemLoc.dma (semO (g % 4))) 0)) ⊢ Obase c PE PO 0 0 0 := by
  unfold Obase Todo FreeOut
  rw [Finset.Ico_self, bigSep_empty, bigSep_empty, bigSep_sep', Nat.zero_add, bigSep_sep', bigSep_sep', bigSep_sep']
  iintro ⟨H1, H2, H3, H4, H5, H6⟩
  isplitr; · iempintro
  isplitr; · iempintro
  isplitl [H3 H4]
  · isplitl [H3]
    · iapply (split_all (F := F) (ℓ := (c : Thread nD τ).loc main_v6_1) (Finset.Ico 0 2048) oBlk blks_all blks_dis); iexact H3
    · iapply (split_all (F := F) (ℓ := (c : Thread nD τ).loc main_v6_0) (Finset.Ico 0 2048) oBlk blks_all blks_dis); iexact H4
  isplitl [H1]
  · iapply (split_all (F := F) (ℓ := (c : Thread nD τ).loc cc0_scratch1) (Finset.Ico 0 4) (fun g => sSlot (g % 4)) slots_all slots_dis); iexact H1
  isplitl [H2]
  · iapply (split_all (F := F) (ℓ := (c : Thread nD τ).loc cc0_scratch2) (Finset.Ico 0 4) (fun g => sSlot (g % 4)) slots_all slots_dis); iexact H2
  isplitl [H5]; · iexact H5
  iexact H6

theorem oGood_local (P : ℕ → ℕ → ℕ → Elt F .bf16 → Prop) (g : ℕ) (f f' : S2048x44x8x128.Idx → Elt F .bf16) (h : ∀ x ∈ oBlk g, f' x = f x)
    (hf : oGood P g f) : oGood P g f' := fun i hi => by rw [h i (mem_oBlk.2 hi)]; exact hf i hi

theorem out_close (f₀ : Elt F .bf16) :
    Obase c PE PO 2048 2048 2048 ⊢
    iprop((∃ f, ptSE (F := F) c Finset.univ f) ∗ (∃ f, ptSO (F := F) c Finset.univ f)
      ∗ (∃ f, ⌜∀ g ∈ Finset.Ico 0 2048, oGood PE g f⌝ ∗ ptE c Finset.univ f) ∗ (∃ f, ⌜∀ g ∈ Finset.Ico 0 2048, oGood PO g f⌝ ∗ ptO c Finset.univ f)
      ∗ bigSep (Finset.Ico 0 4) (fun g => semVal ((c : Thread nD τ), SemLoc.dma (semE (g % 4))) 0)
      ∗ bigSep (Finset.Ico 0 4) (fun g => semVal ((c : Thread nD τ), SemLoc.dma (semO (g % 4))) 0)) := by
  unfold Obase Landed
  rw [sep_shift 2048 4]
  have e : bigSep (Finset.Ico 0 4) (fun j => FreeOut (F := F) c (2048 + j)) = bigSep (Finset.Ico 0 4) (FreeOut (F := F) c) :=
    BI.bigSep_congr fun g _ => by unfold FreeOut; rw [show (2048 + g) % 4 = g % 4 by omega]
  rw [e]
  unfold FreeOut
  rw [bigSep_sep', bigSep_sep', bigSep_sep', bigSep_sep']
  iintro ⟨⟨HE, HO⟩, -, -, H1, H2, H5, H6⟩
  isplitl [H1]
  · iapply (merge_all0 (F := F) (ℓ := (c : Thread nD τ).loc cc0_scratch1) (Finset.Ico 0 4) (fun g => sSlot (g % 4)) (fun _ => f₀) slots_all slots_dis); iexact H1
  isplitl [H2]
  · iapply (merge_all0 (F := F) (ℓ := (c : Thread nD τ).loc cc0_scratch2) (Finset.Ico 0 4) (fun g => sSlot (g % 4)) (fun _ => f₀) slots_all slots_dis); iexact H2
  isplitl [HE]
  · iapply (merge_all (F := F) (ℓ := (c : Thread nD τ).loc main_v6_1) (Finset.Ico 0 2048) oBlk (oGood PE) (fun _ => f₀) blks_all blks_dis (oGood_local PE)); iexact HE
  isplitl [HO]
  · iapply (merge_all (F := F) (ℓ := (c : Thread nD τ).loc main_v6_0) (Finset.Ico 0 2048) oBlk (oGood PO) (fun _ => f₀) blks_all blks_dis (oGood_local PO)); iexact HO
  isplitl [H5]; · iexact H5
  iexact H6
end

end Cert.KernelIdeal.Hand
-- ==== Proof.KI.Values.lean ====
/-
  A trip's computation, part by part, with its values: what each part hands on, and how many of the group's stores into
  each staging slot are done after it. Each part's values are definitionally those of `Vl`.
-/
module

public import proofs.«01_k».proof.Proof.KI.Parts
public import proofs.«01_k».proof.Proof.KI.Vals

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable {X : Cx F} {V : Vl F} (k0_t2 : Fin k0_t2_loop.trips) (hX : Reads X V k0_t2.val) (harg0 : X.arg0.IsWhole) (harg3 : X.arg3.IsWhole)
include hX

theorem vl_part8 (v41 : BitVec 32) (k0_hw17 : k0_chk17 (V.tk 0)) :
    Tr X (Done V.t X.s4 0) (Done V.u X.s4 0) (k0_part8 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v41 (V.tk 0) k0_hw17 (Scalar.muli 8#32 (Scalar.andi (V.tk 0) 3#32)) 24#32)
      (fun r => r.1 = V.up 0 ∧ r.2.1 = V.s8 0 ∧ r.2.2.2.1 = V.x8 0 0 ∧ r.2.2.2.2.1 = V.x8 0 8 ∧ r.2.2.2.2.2.1 = V.x8 0 16 ∧ r.2.2.2.2.2.2 = shrsi (shli (V.w8 0 24) (broadcast S8x128 (V.up 0))) (broadcast S8x128 24#32)) (Done V.t X.s4 0) (Done V.u X.s4 0) := by
  have hs := hX.s; have hs4 := hX.s4
  rw [k0_part8_eq_skeleton]
  unfold k0_part8_skel
  refine .bind (hX.scaleV 0 (by omega) rfl _ _ _) fun v51 e => ?_
  subst e
  refine .bind (hX.words8 0 0 (by omega) (by omega) (k0_off74_eq k0_t2 ⟨0, by decide⟩) (by first | omega | (dsimp only; omega)) _ _ _ _ _) fun v60 e => ?_
  subst e
  refine .bind (hX.words8 0 8 (by omega) (by omega) (k0_off74_eq k0_t2 ⟨1, by decide⟩) (by first | omega | (dsimp only; omega)) _ _ _ _ _) fun v70 e => ?_
  subst e
  refine .bind (hX.words8 0 16 (by omega) (by omega) (k0_off74_eq k0_t2 ⟨2, by decide⟩) (by first | omega | (dsimp only; omega)) _ _ _ _ _) fun v80 e => ?_
  subst e
  refine .bind (hX.words8 0 24 (by omega) (by omega) (k0_off74_eq k0_t2 ⟨3, by decide⟩) (by first | omega | (dsimp only; omega)) _ _ _ _ _) fun v90 e => ?_
  subst e
  exact .ret _ ⟨rfl, rfl, rfl, rfl, rfl, rfl⟩

theorem vl_part9 (v22 : BitVec 32) (v41 : BitVec 32) (v56 : BitVec 32) :
    Tr X (Done V.t X.s4 0) (Done V.u X.s4 0) (k0_part9 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v41 (V.up 0) (V.s8 0) v56 (shrsi (shli (V.w8 0 24) (broadcast S8x128 (V.up 0))) (broadcast S8x128 24#32)))
      (fun r => r.1 = V.x8 0 24 ∧ r.2.1 = V.x8 0 32 ∧ r.2.2.1 = V.x4 0 40 ∧ r.2.2.2.1 = V.up 1 ∧ r.2.2.2.2.1 = V.s8 1 ∧ r.2.2.2.2.2.2.1 = V.w8 1 0 ∧ r.2.2.2.2.2.2.2 = broadcast S8x128 (V.up 1)) (Done V.t X.s4 0) (Done V.u X.s4 0) := by
  have hs := hX.s; have hs4 := hX.s4
  rw [k0_part9_eq_skeleton]
  unfold k0_part9_skel
  refine .bind (hX.words8 0 32 (by omega) (by omega) (k0_off74_eq k0_t2 ⟨4, by decide⟩) (by first | omega | (dsimp only; omega)) _ _ _ _ _) fun v100 e => ?_
  subst e
  refine .bind (hX.words4 0 40 (by omega) (by omega) (k0_off75_eq k0_t2) (by first | omega | (dsimp only; omega)) _ _ _ _ _) fun v110 e => ?_
  subst e
  refine .bind (hX.tokV 1 (by omega) (k0_off76_eq k0_t2) _ _ _) fun v122 e => ?_
  subst e
  refine .bind (.asm (chk18 _ (hX.lt 1 (by omega)))) fun _ _ => ?_
  refine .bind (hX.scaleV 1 (by omega) rfl _ _ _) fun v127 e => ?_
  subst e
  refine .bind (hX.words8 1 0 (by omega) (by omega) (k0_off78_eq k0_t2 ⟨0, by decide⟩) (by first | omega | (dsimp only; omega)) _ _ _ _ _) fun v136 e => ?_
  subst e
  exact .ret _ ⟨rfl, rfl, rfl, rfl, rfl, rfl, rfl⟩

theorem vl_part10 (v132 : BitVec 32) :
    Tr X (Done V.t X.s4 0) (Done V.u X.s4 0) (k0_part10 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 (V.up 1) (V.s8 1) v132 (V.w8 1 0) (broadcast S8x128 (V.up 1)))
      (fun r => r.1 = V.x8 1 0 ∧ r.2.1 = V.x8 1 8 ∧ r.2.2.1 = V.x8 1 16 ∧ r.2.2.2.1 = V.x8 1 24 ∧ r.2.2.2.2.1 = V.x8 1 32) (Done V.t X.s4 0) (Done V.u X.s4 0) := by
  have hs := hX.s; have hs4 := hX.s4
  rw [k0_part10_eq_skeleton]
  unfold k0_part10_skel
  refine .bind (hX.words8 1 8 (by omega) (by omega) (k0_off78_eq k0_t2 ⟨1, by decide⟩) (by first | omega | (dsimp only; omega)) _ _ _ _ _) fun v146 e => ?_
  subst e
  refine .bind (hX.words8 1 16 (by omega) (by omega) (k0_off78_eq k0_t2 ⟨2, by decide⟩) (by first | omega | (dsimp only; omega)) _ _ _ _ _) fun v156 e => ?_
  subst e
  refine .bind (hX.words8 1 24 (by omega) (by omega) (k0_off78_eq k0_t2 ⟨3, by decide⟩) (by first | omega | (dsimp only; omega)) _ _ _ _ _) fun v166 e => ?_
  subst e
  refine .bind (hX.words8 1 32 (by omega) (by omega) (k0_off78_eq k0_t2 ⟨4, by decide⟩) (by first | omega | (dsimp only; omega)) _ _ _ _ _) fun v176 e => ?_
  subst e
  exact .ret _ ⟨rfl, rfl, rfl, rfl, rfl⟩

theorem vl_part11 (v22 : BitVec 32) (v183 : BitVec 32) :
    Tr X (Done V.t X.s4 0) (Done V.u X.s4 0) (k0_part11 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 (V.x8 0 0) (V.x8 0 8) (V.up 1) (V.s8 1) (V.x8 1 0) (V.x8 1 8) v183)
      (fun r => r.1 = V.x4 1 40 ∧ r.2.2.1 = V.e8 0 0 ∧ r.2.2.2.1 = V.e8 1 0 ∧ r.2.2.2.2.1 = V.e8 0 8 ∧ r.2.2.2.2.2 = V.e8 1 8) (Done V.t X.s4 2) (Done V.u X.s4 0) := by
  have hs := hX.s; have hs4 := hX.s4
  rw [k0_part11_eq_skeleton]
  unfold k0_part11_skel
  refine .bind (hX.words4 1 40 (by omega) (by omega) (k0_off79_eq k0_t2) (by first | omega | (dsimp only; omega)) _ _ _ _ _) fun v186 e => ?_
  subst e
  refine .bind (.loadE (k0_off80_eq k0_t2 ⟨0, by decide⟩) (n := 8) rfl (by omega) (by omega) _ _ _ _ _) fun v201_raw _ => ?_
  refine .bind (hX.putE8 0 0 (by omega) (by omega) (k0_off80_eq k0_t2 ⟨0, by decide⟩) (by first | omega | (dsimp only; omega)) _ _ _ _ _ _ _ rfl) fun _ _ => ?_
  refine .bind (.loadE (k0_off80_eq k0_t2 ⟨1, by decide⟩) (n := 8) rfl (by omega) (by omega) _ _ _ _ _) fun v214_raw _ => ?_
  refine .bind (hX.putE8 0 1 (by omega) (by omega) (k0_off80_eq k0_t2 ⟨1, by decide⟩) (by first | omega | (dsimp only; omega)) _ _ _ _ _ _ _ rfl) fun _ _ => ?_
  exact .ret _ ⟨rfl, rfl, rfl, rfl, rfl⟩

theorem vl_part12 (v196 : BitVec 32) :
    Tr X (Done V.t X.s4 2) (Done V.u X.s4 0) (k0_part12 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 (V.x8 0 16) (V.x8 0 24) (V.x8 0 32) (V.x8 1 16) (V.x8 1 24) (V.x8 1 32) v196)
      (fun r => r.1 = V.e8 0 16 ∧ r.2.1 = V.e8 1 16 ∧ r.2.2.1 = V.e8 0 24 ∧ r.2.2.2.1 = V.e8 1 24 ∧ r.2.2.2.2.1 = V.t8 1 32 ∧ r.2.2.2.2.2 = V.e8 0 32) (Done V.t X.s4 5) (Done V.u X.s4 0) := by
  have hs := hX.s; have hs4 := hX.s4
  rw [k0_part12_eq_skeleton]
  unfold k0_part12_skel
  refine .bind (.loadE (k0_off80_eq k0_t2 ⟨2, by decide⟩) (n := 8) rfl (by omega) (by omega) _ _ _ _ _) fun v227_raw _ => ?_
  refine .bind (hX.putE8 0 2 (by omega) (by omega) (k0_off80_eq k0_t2 ⟨2, by decide⟩) (by first | omega | (dsimp only; omega)) _ _ _ _ _ _ _ rfl) fun _ _ => ?_
  refine .bind (.loadE (k0_off80_eq k0_t2 ⟨3, by decide⟩) (n := 8) rfl (by omega) (by omega) _ _ _ _ _) fun v240_raw _ => ?_
  refine .bind (hX.putE8 0 3 (by omega) (by omega) (k0_off80_eq k0_t2 ⟨3, by decide⟩) (by first | omega | (dsimp only; omega)) _ _ _ _ _ _ _ rfl) fun _ _ => ?_
  refine .bind (.loadE (k0_off80_eq k0_t2 ⟨4, by decide⟩) (n := 8) rfl (by omega) (by omega) _ _ _ _ _) fun v253_raw _ => ?_
  refine .bind (hX.putE8 0 4 (by omega) (by omega) (k0_off80_eq k0_t2 ⟨4, by decide⟩) (by first | omega | (dsimp only; omega)) _ _ _ _ _ _ _ rfl) fun _ _ => ?_
  exact .ret _ ⟨rfl, rfl, rfl, rfl, rfl, rfl⟩

theorem vl_part13 (v196 : BitVec 32) :
    Tr X (Done V.t X.s4 5) (Done V.u X.s4 0) (k0_part13 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 (V.x4 0 40) (V.x4 1 40) v196 (V.e8 0 0) (V.e8 0 8) (V.e8 0 16) (V.e8 0 24) (V.t8 1 32) (V.e8 0 32))
      (fun r => r.1 = V.e8 1 32 ∧ r.2.1 = V.e4 0 40 ∧ r.2.2.1 = V.e4 1 40 ∧ r.2.2.2.1 = V.inv 0 ∧ r.2.2.2.2.1 = V.n8 0 0 ∧ r.2.2.2.2.2 = mulf (V.e8 0 8) (broadcastTo S8x128 (V.inv 0) broadcasts_S1x1_S8x128)) (Done V.t X.s4 6) (Done V.u X.s4 0) := by
  have hs := hX.s; have hs4 := hX.s4
  rw [k0_part13_eq_skeleton]
  unfold k0_part13_skel
  refine .bind (.loadE (k0_off81_eq k0_t2) (n := 4) rfl (by omega) (by omega) _ _ _ _ _) fun v266_raw _ => ?_
  refine .bind (hX.putE4 0 5 (by omega) (by omega) (k0_off81_eq k0_t2) (by first | omega | (dsimp only; omega)) _ _ _ _ _ _ _ rfl) fun _ _ => ?_
  refine .bind (hX.wts8 0 _ _) fun v299 e => ?_
  subst e
  exact .ret _ ⟨rfl, rfl, rfl, rfl, rfl, rfl⟩

theorem vl_part14  :
    Tr X (Done V.t X.s4 6) (Done V.u X.s4 0) (k0_part14 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (V.e8 1 0) (V.e8 1 8) (V.e8 0 16) (V.e8 1 16) (V.e8 0 24) (V.e8 1 24) (V.e8 0 32) (V.e8 1 32) (V.e4 0 40) (V.e4 1 40) (V.inv 0) (mulf (V.e8 0 8) (broadcastTo S8x128 (V.inv 0) broadcasts_S1x1_S8x128)))
      (fun r => r.1 = V.n8 0 8 ∧ r.2.1 = V.n8 0 16 ∧ r.2.2.1 = V.n8 0 24 ∧ r.2.2.2.1 = V.n8 0 32 ∧ r.2.2.2.2.1 = V.n4 0 40 ∧ r.2.2.2.2.2 = V.inv 1) (Done V.t X.s4 6) (Done V.u X.s4 0) := by
  have hs := hX.s; have hs4 := hX.s4
  rw [k0_part14_eq_skeleton]
  unfold k0_part14_skel
  refine .bind (hX.wts8 8 _ _) fun v304 e => ?_
  subst e
  refine .bind (hX.wts8 16 _ _) fun v309 e => ?_
  subst e
  refine .bind (hX.wts8 24 _ _) fun v314 e => ?_
  subst e
  refine .bind (hX.wts8 32 _ _) fun v319 e => ?_
  subst e
  refine .bind (hX.wts4 40 _ _) fun v324 e => ?_
  subst e
  exact .ret _ ⟨rfl, rfl, rfl, rfl, rfl, rfl⟩

theorem vl_part15 (v196 : BitVec 32) :
    Tr X (Done V.t X.s4 6) (Done V.u X.s4 0) (k0_part15 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v196 (V.e8 1 0) (V.e8 1 8) (V.e8 1 16) (V.e8 1 24) (V.e8 1 32) (V.e4 1 40) (V.n8 0 0) (V.n8 0 8) (V.inv 1))
      (fun r => r.1 = V.n8 1 16 ∧ r.2.1 = V.n8 1 24 ∧ r.2.2.1 = V.n8 1 32 ∧ r.2.2.2.1 = V.n4 1 40 ∧ r.2.2.2.2.1 = V.u8 0 8 ∧ r.2.2.2.2.2.1 = V.u8 1 8 ∧ r.2.2.2.2.2.2 = 32#32) (Done V.t X.s4 6) (Done V.u X.s4 1) := by
  have hs := hX.s; have hs4 := hX.s4
  rw [k0_part15_eq_skeleton]
  unfold k0_part15_skel
  refine .bind (hX.wts8 0 _ _) fun v351 e => ?_
  subst e
  refine .bind (hX.wts8 8 _ _) fun v356 e => ?_
  subst e
  refine .bind (hX.wts8 16 _ _) fun v361 e => ?_
  subst e
  refine .bind (hX.wts8 24 _ _) fun v366 e => ?_
  subst e
  refine .bind (hX.wts8 32 _ _) fun v371 e => ?_
  subst e
  refine .bind (hX.wts4 40 _ _) fun v376 e => ?_
  subst e
  refine .bind (.loadO (k0_off80_eq k0_t2 ⟨0, by decide⟩) (n := 8) rfl (by omega) (by omega) _ _ _ _ _) fun v383_raw _ => ?_
  refine .bind (hX.putO8 0 0 (by omega) (by omega) (k0_off80_eq k0_t2 ⟨0, by decide⟩) (by first | omega | (dsimp only; omega)) _ _ _ _ _ _ _ rfl) fun _ _ => ?_
  exact .ret _ ⟨rfl, rfl, rfl, rfl, rfl, rfl, rfl⟩

theorem vl_part16 (v196 : BitVec 32) :
    Tr X (Done V.t X.s4 6) (Done V.u X.s4 1) (k0_part16 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v196 (V.n8 0 16) (V.n8 0 24) (V.n8 0 32) (V.n4 0 40) (V.n8 1 16) (V.n8 1 24) (V.n8 1 32) (V.n4 1 40) (V.u8 0 8) (V.u8 1 8) 32#32)
      (fun r => r.1 = V.u4 0 40 ∧ r.2.1 = V.u4 1 40 ∧ r.2.2 = 160#32) (Done V.t X.s4 6) (Done V.u X.s4 5) := by
  have hs := hX.s; have hs4 := hX.s4
  rw [k0_part16_eq_skeleton]
  unfold k0_part16_skel
  refine .bind (.loadO (k0_off80_eq k0_t2 ⟨1, by decide⟩) (n := 8) rfl (by omega) (by omega) _ _ _ _ _) fun v390_raw _ => ?_
  refine .bind (hX.putO8 0 1 (by omega) (by omega) (k0_off80_eq k0_t2 ⟨1, by decide⟩) (by first | omega | (dsimp only; omega)) _ _ _ _ _ _ _ rfl) fun _ _ => ?_
  refine .bind (.loadO (k0_off80_eq k0_t2 ⟨2, by decide⟩) (n := 8) rfl (by omega) (by omega) _ _ _ _ _) fun v397_raw _ => ?_
  refine .bind (hX.putO8 0 2 (by omega) (by omega) (k0_off80_eq k0_t2 ⟨2, by decide⟩) (by first | omega | (dsimp only; omega)) _ _ _ _ _ _ _ rfl) fun _ _ => ?_
  refine .bind (.loadO (k0_off80_eq k0_t2 ⟨3, by decide⟩) (n := 8) rfl (by omega) (by omega) _ _ _ _ _) fun v404_raw _ => ?_
  refine .bind (hX.putO8 0 3 (by omega) (by omega) (k0_off80_eq k0_t2 ⟨3, by decide⟩) (by first | omega | (dsimp only; omega)) _ _ _ _ _ _ _ rfl) fun _ _ => ?_
  refine .bind (.loadO (k0_off80_eq k0_t2 ⟨4, by decide⟩) (n := 8) rfl (by omega) (by omega) _ _ _ _ _) fun v411_raw _ => ?_
  refine .bind (hX.putO8 0 4 (by omega) (by omega) (k0_off80_eq k0_t2 ⟨4, by decide⟩) (by first | omega | (dsimp only; omega)) _ _ _ _ _ _ _ rfl) fun _ _ => ?_
  exact .ret _ ⟨rfl, rfl, rfl⟩

theorem vl_part17 (v22 : BitVec 32) (v196 : BitVec 32) :
    Tr X (Done V.t X.s4 6) (Done V.u X.s4 5) (k0_part17 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v196 (V.u4 0 40) (V.u4 1 40) 160#32)
      (fun r => r.2.1 = V.up 2 ∧ r.2.2.1 = V.s8 2 ∧ r.2.2.2.2 = V.x8 2 0) (Done V.t X.s4 6) (Done V.u X.s4 6) := by
  have hs := hX.s; have hs4 := hX.s4
  rw [k0_part17_eq_skeleton]
  unfold k0_part17_skel
  refine .bind (.loadO (k0_off81_eq k0_t2) (n := 4) rfl (by omega) (by omega) _ _ _ _ _) fun v418_raw _ => ?_
  refine .bind (hX.putO4 0 5 (by omega) (by omega) (k0_off81_eq k0_t2) (by first | omega | (dsimp only; omega)) _ _ _ _ _ _ _ rfl) fun _ _ => ?_
  refine .bind (hX.tokV 2 (by omega) (k0_off82_eq k0_t2) _ _ _) fun v428 e => ?_
  subst e
  refine .bind (.asm (chk19 _ (hX.lt 2 (by omega)))) fun _ _ => ?_
  refine .bind (hX.scaleV 2 (by omega) rfl _ _ _) fun v433 e => ?_
  subst e
  refine .bind (hX.words8 2 0 (by omega) (by omega) (k0_off84_eq k0_t2 ⟨0, by decide⟩) (by first | omega | (dsimp only; omega)) _ _ _ _ _) fun v442 e => ?_
  subst e
  exact .ret _ ⟨rfl, rfl, rfl⟩

theorem vl_part18 (v438 : BitVec 32) :
    Tr X (Done V.t X.s4 6) (Done V.u X.s4 6) (k0_part18 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 (V.up 2) (V.s8 2) v438)
      (fun r => r.1 = V.x8 2 8 ∧ r.2.1 = V.x8 2 16 ∧ r.2.2.1 = V.x8 2 24 ∧ r.2.2.2.1 = V.x8 2 32 ∧ r.2.2.2.2.1 = sitofp .f32 (shrsi (shli (V.w4 2 40) (broadcast S4x128 (V.up 2))) (broadcast S4x128 24#32)) ∧ r.2.2.2.2.2 = extractStridedSlice S4x128 ![0, 0] (V.s8 2) slices_S8x128_o0_0_S4x128) (Done V.t X.s4 6) (Done V.u X.s4 6) := by
  have hs := hX.s; have hs4 := hX.s4
  rw [k0_part18_eq_skeleton]
  unfold k0_part18_skel
  refine .bind (hX.words8 2 8 (by omega) (by omega) (k0_off84_eq k0_t2 ⟨1, by decide⟩) (by first | omega | (dsimp only; omega)) _ _ _ _ _) fun v452 e => ?_
  subst e
  refine .bind (hX.words8 2 16 (by omega) (by omega) (k0_off84_eq k0_t2 ⟨2, by decide⟩) (by first | omega | (dsimp only; omega)) _ _ _ _ _) fun v462 e => ?_
  subst e
  refine .bind (hX.words8 2 24 (by omega) (by omega) (k0_off84_eq k0_t2 ⟨3, by decide⟩) (by first | omega | (dsimp only; omega)) _ _ _ _ _) fun v472 e => ?_
  subst e
  refine .bind (hX.words8 2 32 (by omega) (by omega) (k0_off84_eq k0_t2 ⟨4, by decide⟩) (by first | omega | (dsimp only; omega)) _ _ _ _ _) fun v482 e => ?_
  subst e
  refine .bind (hX.words4 2 40 (by omega) (by omega) (k0_off85_eq k0_t2) (by first | omega | (dsimp only; omega)) _ _ _ _ _) fun v492 e => ?_
  subst e
  exact .ret _ ⟨rfl, rfl, rfl, rfl, rfl, rfl⟩

theorem vl_part19 (v22 : BitVec 32) (v423 : BitVec 32) :
    Tr X (Done V.t X.s4 6) (Done V.u X.s4 6) (k0_part19 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v423 (sitofp .f32 (shrsi (shli (V.w4 2 40) (broadcast S4x128 (V.up 2))) (broadcast S4x128 24#32))) (extractStridedSlice S4x128 ![0, 0] (V.s8 2) slices_S8x128_o0_0_S4x128))
      (fun r => r.1 = V.x4 2 40 ∧ r.2.1 = V.up 3 ∧ r.2.2.1 = V.s8 3 ∧ r.2.2.2.2.1 = V.x8 3 0 ∧ r.2.2.2.2.2.1 = V.x8 3 8 ∧ r.2.2.2.2.2.2.1 = shli (V.w8 3 16) (broadcast S8x128 (V.up 3)) ∧ r.2.2.2.2.2.2.2 = 24#32) (Done V.t X.s4 6) (Done V.u X.s4 6) := by
  have hs := hX.s; have hs4 := hX.s4
  rw [k0_part19_eq_skeleton]
  unfold k0_part19_skel
  refine .bind (hX.tokV 3 (by omega) (k0_off86_eq k0_t2) _ _ _) fun v504 e => ?_
  subst e
  refine .bind (.asm (chk20 _ (hX.lt 3 (by omega)))) fun _ _ => ?_
  refine .bind (hX.scaleV 3 (by omega) rfl _ _ _) fun v509 e => ?_
  subst e
  refine .bind (hX.words8 3 0 (by omega) (by omega) (k0_off88_eq k0_t2 ⟨0, by decide⟩) (by first | omega | (dsimp only; omega)) _ _ _ _ _) fun v518 e => ?_
  subst e
  refine .bind (hX.words8 3 8 (by omega) (by omega) (k0_off88_eq k0_t2 ⟨1, by decide⟩) (by first | omega | (dsimp only; omega)) _ _ _ _ _) fun v528 e => ?_
  subst e
  refine .bind (hX.words8 3 16 (by omega) (by omega) (k0_off88_eq k0_t2 ⟨2, by decide⟩) (by first | omega | (dsimp only; omega)) _ _ _ _ _) fun v538 e => ?_
  subst e
  exact .ret _ ⟨rfl, rfl, rfl, rfl, rfl, rfl, rfl⟩

theorem vl_part20 (v22 : BitVec 32) (v514 : BitVec 32) :
    Tr X (Done V.t X.s4 6) (Done V.u X.s4 6) (k0_part20 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 (V.x8 2 0) (V.up 3) (V.s8 3) v514 (V.x8 3 0) (shli (V.w8 3 16) (broadcast S8x128 (V.up 3))) 24#32)
      (fun r => r.1 = V.x8 3 16 ∧ r.2.1 = V.x8 3 24 ∧ r.2.2.1 = V.x8 3 32 ∧ r.2.2.2.1 = V.x4 3 40 ∧ r.2.2.2.2.2.1 = V.t8 2 0 ∧ r.2.2.2.2.2.2.1 = V.t8 3 0) (Done V.t X.s4 6) (Done V.u X.s4 6) := by
  have hs := hX.s; have hs4 := hX.s4
  rw [k0_part20_eq_skeleton]
  unfold k0_part20_skel
  refine .bind (hX.words8 3 24 (by omega) (by omega) (k0_off88_eq k0_t2 ⟨3, by decide⟩) (by first | omega | (dsimp only; omega)) _ _ _ _ _) fun v548 e => ?_
  subst e
  refine .bind (hX.words8 3 32 (by omega) (by omega) (k0_off88_eq k0_t2 ⟨4, by decide⟩) (by first | omega | (dsimp only; omega)) _ _ _ _ _) fun v558 e => ?_
  subst e
  refine .bind (hX.words4 3 40 (by omega) (by omega) (k0_off89_eq k0_t2) (by first | omega | (dsimp only; omega)) _ _ _ _ _) fun v568 e => ?_
  subst e
  refine .bind (.loadE (k0_off90_eq k0_t2 ⟨0, by decide⟩) (n := 8) rfl (by omega) (by omega) _ _ _ _ _) fun v583_raw _ => ?_
  exact .ret _ ⟨rfl, rfl, rfl, rfl, rfl, rfl⟩

theorem vl_part21 (v578 : BitVec 32) (v583_hi : FVec F S8x128 .bf16) :
    Tr X (Done V.t X.s4 6) (Done V.u X.s4 6) (k0_part21 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 (V.x8 2 8) (V.x8 2 16) (V.x8 2 24) (V.x8 3 8) (V.x8 3 16) (V.x8 3 24) v578 (V.t8 2 0) (V.t8 3 0) v583_hi)
      (fun r => r.1 = V.e8 2 0 ∧ r.2.1 = V.e8 3 0 ∧ r.2.2.1 = V.e8 2 8 ∧ r.2.2.2.1 = V.e8 3 8 ∧ r.2.2.2.2.1 = V.e8 2 16 ∧ r.2.2.2.2.2.1 = V.e8 3 16 ∧ r.2.2.2.2.2.2.1 = V.t8 2 24 ∧ r.2.2.2.2.2.2.2.1 = V.t8 3 24) (Done V.t X.s4 9) (Done V.u X.s4 6) := by
  have hs := hX.s; have hs4 := hX.s4
  rw [k0_part21_eq_skeleton]
  unfold k0_part21_skel
  refine .bind (hX.putE8 1 0 (by omega) (by omega) (k0_off90_eq k0_t2 ⟨0, by decide⟩) (by first | omega | (dsimp only; omega)) _ _ _ _ _ _ _ rfl) fun _ _ => ?_
  refine .bind (.loadE (k0_off90_eq k0_t2 ⟨1, by decide⟩) (n := 8) rfl (by omega) (by omega) _ _ _ _ _) fun v596_raw _ => ?_
  refine .bind (hX.putE8 1 1 (by omega) (by omega) (k0_off90_eq k0_t2 ⟨1, by decide⟩) (by first | omega | (dsimp only; omega)) _ _ _ _ _ _ _ rfl) fun _ _ => ?_
  refine .bind (.loadE (k0_off90_eq k0_t2 ⟨2, by decide⟩) (n := 8) rfl (by omega) (by omega) _ _ _ _ _) fun v609_raw _ => ?_
  refine .bind (hX.putE8 1 2 (by omega) (by omega) (k0_off90_eq k0_t2 ⟨2, by decide⟩) (by first | omega | (dsimp only; omega)) _ _ _ _ _ _ _ rfl) fun _ _ => ?_
  refine .bind (.loadE (k0_off90_eq k0_t2 ⟨3, by decide⟩) (n := 8) rfl (by omega) (by omega) _ _ _ _ _) fun v622_raw _ => ?_
  exact .ret _ ⟨rfl, rfl, rfl, rfl, rfl, rfl, rfl, rfl⟩

theorem vl_part22 (v578 : BitVec 32) (v622_raw : Vec F S8x2x128 .bf16) :
    Tr X (Done V.t X.s4 9) (Done V.u X.s4 6) (k0_part22 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 (V.x8 2 32) (V.x4 2 40) (V.x8 3 32) (V.x4 3 40) v578 (V.e8 2 0) (V.e8 2 8) (V.e8 2 16) (V.t8 2 24) (V.t8 3 24) v622_raw)
      (fun r => r.1 = V.e8 2 24 ∧ r.2.1 = V.e8 3 24 ∧ r.2.2.1 = V.e8 2 32 ∧ r.2.2.2.1 = V.e8 3 32 ∧ r.2.2.2.2.1 = V.e4 2 40 ∧ r.2.2.2.2.2.1 = V.e4 3 40 ∧ r.2.2.2.2.2.2.1 = addf (mulf (V.e8 2 0) (V.e8 2 0)) (mulf (V.e8 2 8) (V.e8 2 8)) ∧ r.2.2.2.2.2.2.2 = mulf (V.e8 2 16) (V.e8 2 16)) (Done V.t X.s4 12) (Done V.u X.s4 6) := by
  have hs := hX.s; have hs4 := hX.s4
  rw [k0_part22_eq_skeleton]
  unfold k0_part22_skel
  refine .bind (hX.putE8 1 3 (by omega) (by omega) (k0_off90_eq k0_t2 ⟨3, by decide⟩) (by first | omega | (dsimp only; omega)) _ _ _ _ _ _ _ rfl) fun _ _ => ?_
  refine .bind (.loadE (k0_off90_eq k0_t2 ⟨4, by decide⟩) (n := 8) rfl (by omega) (by omega) _ _ _ _ _) fun v635_raw _ => ?_
  refine .bind (hX.putE8 1 4 (by omega) (by omega) (k0_off90_eq k0_t2 ⟨4, by decide⟩) (by first | omega | (dsimp only; omega)) _ _ _ _ _ _ _ rfl) fun _ _ => ?_
  refine .bind (.loadE (k0_off91_eq k0_t2) (n := 4) rfl (by omega) (by omega) _ _ _ _ _) fun v648_raw _ => ?_
  refine .bind (hX.putE4 1 5 (by omega) (by omega) (k0_off91_eq k0_t2) (by first | omega | (dsimp only; omega)) _ _ _ _ _ _ _ rfl) fun _ _ => ?_
  exact .ret _ ⟨rfl, rfl, rfl, rfl, rfl, rfl, rfl, rfl⟩

theorem vl_part23  :
    Tr X (Done V.t X.s4 12) (Done V.u X.s4 6) (k0_part23 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (V.e8 2 0) (V.e8 2 8) (V.e8 2 16) (V.e8 2 24) (V.e8 2 32) (V.e4 2 40) (addf (mulf (V.e8 2 0) (V.e8 2 0)) (mulf (V.e8 2 8) (V.e8 2 8))) (mulf (V.e8 2 16) (V.e8 2 16)))
      (fun r => r.1 = V.n8 2 0 ∧ r.2.1 = V.n8 2 8 ∧ r.2.2.1 = V.n8 2 16 ∧ r.2.2.2.1 = V.n8 2 24 ∧ r.2.2.2.2.1 = V.n8 2 32 ∧ r.2.2.2.2.2 = mulf (V.e4 2 40) (broadcastTo S4x128 (V.inv 2) broadcasts_S1x1_S4x128)) (Done V.t X.s4 12) (Done V.u X.s4 6) := by
  have hs := hX.s; have hs4 := hX.s4
  rw [k0_part23_eq_skeleton]
  unfold k0_part23_skel
  refine .bind (hX.wts8 0 _ _) fun v681 e => ?_
  subst e
  refine .bind (hX.wts8 8 _ _) fun v686 e => ?_
  subst e
  refine .bind (hX.wts8 16 _ _) fun v691 e => ?_
  subst e
  refine .bind (hX.wts8 24 _ _) fun v696 e => ?_
  subst e
  refine .bind (hX.wts8 32 _ _) fun v701 e => ?_
  subst e
  exact .ret _ ⟨rfl, rfl, rfl, rfl, rfl, rfl⟩

theorem vl_part24  :
    Tr X (Done V.t X.s4 12) (Done V.u X.s4 6) (k0_part24 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (V.e8 3 0) (V.e8 3 8) (V.e8 3 16) (V.e8 3 24) (V.e8 3 32) (V.e4 3 40) (mulf (V.e4 2 40) (broadcastTo S4x128 (V.inv 2) broadcasts_S1x1_S4x128)))
      (fun r => r.1 = V.n4 2 40 ∧ r.2.1 = V.inv 3 ∧ r.2.2.1 = V.n8 3 0 ∧ r.2.2.2.1 = V.n8 3 8 ∧ r.2.2.2.2.1 = V.n8 3 16 ∧ r.2.2.2.2.2 = V.n8 3 24) (Done V.t X.s4 12) (Done V.u X.s4 6) := by
  have hs := hX.s; have hs4 := hX.s4
  rw [k0_part24_eq_skeleton]
  unfold k0_part24_skel
  refine .bind (hX.wts4 40 _ _) fun v706 e => ?_
  subst e
  refine .bind (hX.wts8 0 _ _) fun v733 e => ?_
  subst e
  refine .bind (hX.wts8 8 _ _) fun v738 e => ?_
  subst e
  refine .bind (hX.wts8 16 _ _) fun v743 e => ?_
  subst e
  refine .bind (hX.wts8 24 _ _) fun v748 e => ?_
  subst e
  exact .ret _ ⟨rfl, rfl, rfl, rfl, rfl, rfl⟩

theorem vl_part25 (v578 : BitVec 32) :
    Tr X (Done V.t X.s4 12) (Done V.u X.s4 6) (k0_part25 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v578 (V.e8 3 32) (V.e4 3 40) (V.n8 2 0) (V.n8 2 8) (V.n8 2 16) (V.n8 2 24) (V.inv 3) (V.n8 3 0) (V.n8 3 8) (V.n8 3 16))
      (fun r => r.1 = V.n8 3 32 ∧ r.2.1 = V.n4 3 40 ∧ r.2.2 = V.u8 2 24) (Done V.t X.s4 12) (Done V.u X.s4 9) := by
  have hs := hX.s; have hs4 := hX.s4
  rw [k0_part25_eq_skeleton]
  unfold k0_part25_skel
  refine .bind (hX.wts8 32 _ _) fun v753 e => ?_
  subst e
  refine .bind (hX.wts4 40 _ _) fun v758 e => ?_
  subst e
  refine .bind (.loadO (k0_off90_eq k0_t2 ⟨0, by decide⟩) (n := 8) rfl (by omega) (by omega) _ _ _ _ _) fun v765_raw _ => ?_
  refine .bind (hX.putO8 1 0 (by omega) (by omega) (k0_off90_eq k0_t2 ⟨0, by decide⟩) (by first | omega | (dsimp only; omega)) _ _ _ _ _ _ _ rfl) fun _ _ => ?_
  refine .bind (.loadO (k0_off90_eq k0_t2 ⟨1, by decide⟩) (n := 8) rfl (by omega) (by omega) _ _ _ _ _) fun v772_raw _ => ?_
  refine .bind (hX.putO8 1 1 (by omega) (by omega) (k0_off90_eq k0_t2 ⟨1, by decide⟩) (by first | omega | (dsimp only; omega)) _ _ _ _ _ _ _ rfl) fun _ _ => ?_
  refine .bind (.loadO (k0_off90_eq k0_t2 ⟨2, by decide⟩) (n := 8) rfl (by omega) (by omega) _ _ _ _ _) fun v779_raw _ => ?_
  refine .bind (hX.putO8 1 2 (by omega) (by omega) (k0_off90_eq k0_t2 ⟨2, by decide⟩) (by first | omega | (dsimp only; omega)) _ _ _ _ _ _ _ rfl) fun _ _ => ?_
  exact .ret _ ⟨rfl, rfl, rfl⟩

theorem vl_part26 (v22 : BitVec 32) (v578 : BitVec 32) :
    Tr X (Done V.t X.s4 12) (Done V.u X.s4 9) (k0_part26 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v578 (V.n8 2 32) (V.n4 2 40) (V.n8 3 24) (V.n8 3 32) (V.n4 3 40) (V.u8 2 24))
      (fun r => r.2.1 = V.tk 4 ∧ r.2.2.2 = 3#32) (Done V.t X.s4 12) (Done V.u X.s4 12) := by
  have hs := hX.s; have hs4 := hX.s4
  rw [k0_part26_eq_skeleton]
  unfold k0_part26_skel
  refine .bind (.loadO (k0_off90_eq k0_t2 ⟨3, by decide⟩) (n := 8) rfl (by omega) (by omega) _ _ _ _ _) fun v786_raw _ => ?_
  refine .bind (hX.putO8 1 3 (by omega) (by omega) (k0_off90_eq k0_t2 ⟨3, by decide⟩) (by first | omega | (dsimp only; omega)) _ _ _ _ _ _ _ rfl) fun _ _ => ?_
  refine .bind (.loadO (k0_off90_eq k0_t2 ⟨4, by decide⟩) (n := 8) rfl (by omega) (by omega) _ _ _ _ _) fun v793_raw _ => ?_
  refine .bind (hX.putO8 1 4 (by omega) (by omega) (k0_off90_eq k0_t2 ⟨4, by decide⟩) (by first | omega | (dsimp only; omega)) _ _ _ _ _ _ _ rfl) fun _ _ => ?_
  refine .bind (.loadO (k0_off91_eq k0_t2) (n := 4) rfl (by omega) (by omega) _ _ _ _ _) fun v800_raw _ => ?_
  refine .bind (hX.putO4 1 5 (by omega) (by omega) (k0_off91_eq k0_t2) (by first | omega | (dsimp only; omega)) _ _ _ _ _ _ _ rfl) fun _ _ => ?_
  refine .bind (hX.tokV 4 (by omega) (k0_off92_eq k0_t2) _ _ _) fun v810 e => ?_
  subst e
  refine .bind (.asm (chk21 _ (hX.lt 4 (by omega)))) fun _ _ => ?_
  exact .ret _ ⟨rfl, rfl⟩

theorem vl_part27 (v805 : BitVec 32) (k0_hw21 : k0_chk21 (V.tk 4)) :
    Tr X (Done V.t X.s4 12) (Done V.u X.s4 12) (k0_part27 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v805 (V.tk 4) k0_hw21 3#32)
      (fun r => r.1 = V.up 4 ∧ r.2.1 = V.s8 4 ∧ r.2.2.2.1 = V.x8 4 0 ∧ r.2.2.2.2.1 = V.x8 4 8 ∧ r.2.2.2.2.2.1 = V.x8 4 16 ∧ r.2.2.2.2.2.2.1 = V.w8 4 24 ∧ r.2.2.2.2.2.2.2 = broadcast S8x128 (V.up 4)) (Done V.t X.s4 12) (Done V.u X.s4 12) := by
  have hs := hX.s; have hs4 := hX.s4
  rw [k0_part27_eq_skeleton]
  unfold k0_part27_skel
  refine .bind (hX.scaleV 4 (by omega) rfl _ _ _) fun v815 e => ?_
  subst e
  refine .bind (hX.words8 4 0 (by omega) (by omega) (k0_off94_eq k0_t2 ⟨0, by decide⟩) (by first | omega | (dsimp only; omega)) _ _ _ _ _) fun v824 e => ?_
  subst e
  refine .bind (hX.words8 4 8 (by omega) (by omega) (k0_off94_eq k0_t2 ⟨1, by decide⟩) (by first | omega | (dsimp only; omega)) _ _ _ _ _) fun v834 e => ?_
  subst e
  refine .bind (hX.words8 4 16 (by omega) (by omega) (k0_off94_eq k0_t2 ⟨2, by decide⟩) (by first | omega | (dsimp only; omega)) _ _ _ _ _) fun v844 e => ?_
  subst e
  refine .bind (hX.words8 4 24 (by omega) (by omega) (k0_off94_eq k0_t2 ⟨3, by decide⟩) (by first | omega | (dsimp only; omega)) _ _ _ _ _) fun v854 e => ?_
  subst e
  exact .ret _ ⟨rfl, rfl, rfl, rfl, rfl, rfl, rfl⟩

theorem vl_part28 (v22 : BitVec 32) (v805 : BitVec 32) (v820 : BitVec 32) :
    Tr X (Done V.t X.s4 12) (Done V.u X.s4 12) (k0_part28 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v805 (V.up 4) (V.s8 4) v820 (V.w8 4 24) (broadcast S8x128 (V.up 4)))
      (fun r => r.1 = V.x8 4 24 ∧ r.2.1 = V.x8 4 32 ∧ r.2.2.1 = V.x4 4 40 ∧ r.2.2.2.1 = V.up 5 ∧ r.2.2.2.2.1 = V.s8 5) (Done V.t X.s4 12) (Done V.u X.s4 12) := by
  have hs := hX.s; have hs4 := hX.s4
  rw [k0_part28_eq_skeleton]
  unfold k0_part28_skel
  refine .bind (hX.words8 4 32 (by omega) (by omega) (k0_off94_eq k0_t2 ⟨4, by decide⟩) (by first | omega | (dsimp only; omega)) _ _ _ _ _) fun v864 e => ?_
  subst e
  refine .bind (hX.words4 4 40 (by omega) (by omega) (k0_off95_eq k0_t2) (by first | omega | (dsimp only; omega)) _ _ _ _ _) fun v874 e => ?_
  subst e
  refine .bind (hX.tokV 5 (by omega) (k0_off96_eq k0_t2) _ _ _) fun v886 e => ?_
  subst e
  refine .bind (.asm (chk22 _ (hX.lt 5 (by omega)))) fun _ _ => ?_
  refine .bind (hX.scaleV 5 (by omega) rfl _ _ _) fun v891 e => ?_
  subst e
  exact .ret _ ⟨rfl, rfl, rfl, rfl, rfl⟩

theorem vl_part29 (v896 : BitVec 32) (v897 : BitVec 32) :
    Tr X (Done V.t X.s4 12) (Done V.u X.s4 12) (k0_part29 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 (V.up 5) (V.s8 5) v896 v897)
      (fun r => r.1 = V.x8 5 0 ∧ r.2.1 = V.x8 5 8 ∧ r.2.2.1 = V.x8 5 16 ∧ r.2.2.2.1 = V.x8 5 24 ∧ r.2.2.2.2 = shrsi (shli (V.w8 5 32) (broadcast S8x128 (V.up 5))) (broadcast S8x128 24#32)) (Done V.t X.s4 12) (Done V.u X.s4 12) := by
  have hs := hX.s; have hs4 := hX.s4
  rw [k0_part29_eq_skeleton]
  unfold k0_part29_skel
  refine .bind (hX.words8 5 0 (by omega) (by omega) (k0_off98_eq k0_t2 ⟨0, by decide⟩) (by first | omega | (dsimp only; omega)) _ _ _ _ _) fun v900 e => ?_
  subst e
  refine .bind (hX.words8 5 8 (by omega) (by omega) (k0_off98_eq k0_t2 ⟨1, by decide⟩) (by first | omega | (dsimp only; omega)) _ _ _ _ _) fun v910 e => ?_
  subst e
  refine .bind (hX.words8 5 16 (by omega) (by omega) (k0_off98_eq k0_t2 ⟨2, by decide⟩) (by first | omega | (dsimp only; omega)) _ _ _ _ _) fun v920 e => ?_
  subst e
  refine .bind (hX.words8 5 24 (by omega) (by omega) (k0_off98_eq k0_t2 ⟨3, by decide⟩) (by first | omega | (dsimp only; omega)) _ _ _ _ _) fun v930 e => ?_
  subst e
  refine .bind (hX.words8 5 32 (by omega) (by omega) (k0_off98_eq k0_t2 ⟨4, by decide⟩) (by first | omega | (dsimp only; omega)) _ _ _ _ _) fun v940 e => ?_
  subst e
  exact .ret _ ⟨rfl, rfl, rfl, rfl, rfl⟩

theorem vl_part30 (v22 : BitVec 32) (v896 : BitVec 32) :
    Tr X (Done V.t X.s4 12) (Done V.u X.s4 12) (k0_part30 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 (V.x8 4 0) (V.x8 4 8) (V.up 5) (V.s8 5) v896 (V.x8 5 0) (V.x8 5 8) (shrsi (shli (V.w8 5 32) (broadcast S8x128 (V.up 5))) (broadcast S8x128 24#32)))
      (fun r => r.1 = V.x8 5 32 ∧ r.2.1 = V.x4 5 40 ∧ r.2.2.2.1 = V.e8 4 0 ∧ r.2.2.2.2.1 = V.e8 5 0 ∧ r.2.2.2.2.2.1 = V.t8 4 8 ∧ r.2.2.2.2.2.2 = V.t8 5 8) (Done V.t X.s4 14) (Done V.u X.s4 12) := by
  have hs := hX.s; have hs4 := hX.s4
  rw [k0_part30_eq_skeleton]
  unfold k0_part30_skel
  refine .bind (hX.words4 5 40 (by omega) (by omega) (k0_off99_eq k0_t2) (by first | omega | (dsimp only; omega)) _ _ _ _ _) fun v950 e => ?_
  subst e
  refine .bind (.loadE (k0_off100_eq k0_t2 ⟨0, by decide⟩) (n := 8) rfl (by omega) (by omega) _ _ _ _ _) fun v965_raw _ => ?_
  refine .bind (hX.putE8 2 0 (by omega) (by omega) (k0_off100_eq k0_t2 ⟨0, by decide⟩) (by first | omega | (dsimp only; omega)) _ _ _ _ _ _ _ rfl) fun _ _ => ?_
  refine .bind (.loadE (k0_off100_eq k0_t2 ⟨1, by decide⟩) (n := 8) rfl (by omega) (by omega) _ _ _ _ _) fun v978_raw _ => ?_
  refine .bind (hX.putE8 2 1 (by omega) (by omega) (k0_off100_eq k0_t2 ⟨1, by decide⟩) (by first | omega | (dsimp only; omega)) _ _ _ _ _ _ _ rfl) fun _ _ => ?_
  exact .ret _ ⟨rfl, rfl, rfl, rfl, rfl, rfl⟩

theorem vl_part31 (v960 : BitVec 32) :
    Tr X (Done V.t X.s4 14) (Done V.u X.s4 12) (k0_part31 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 (V.x8 4 16) (V.x8 4 24) (V.x8 4 32) (V.x8 5 16) (V.x8 5 24) (V.x8 5 32) v960 (V.t8 4 8) (V.t8 5 8))
      (fun r => r.1 = V.e8 4 8 ∧ r.2.1 = V.e8 5 8 ∧ r.2.2.1 = V.e8 4 16 ∧ r.2.2.2.1 = V.e8 5 16 ∧ r.2.2.2.2.1 = V.e8 4 24 ∧ r.2.2.2.2.2.1 = V.e8 5 24 ∧ r.2.2.2.2.2.2.1 = V.t8 4 32 ∧ r.2.2.2.2.2.2.2.1 = V.t8 5 32 ∧ r.2.2.2.2.2.2.2.2 = Vl.il8 (V.t8 4 32) (V.t8 5 32)) (Done V.t X.s4 16) (Done V.u X.s4 12) := by
  have hs := hX.s; have hs4 := hX.s4
  rw [k0_part31_eq_skeleton]
  unfold k0_part31_skel
  refine .bind (.loadE (k0_off100_eq k0_t2 ⟨2, by decide⟩) (n := 8) rfl (by omega) (by omega) _ _ _ _ _) fun v991_raw _ => ?_
  refine .bind (hX.putE8 2 2 (by omega) (by omega) (k0_off100_eq k0_t2 ⟨2, by decide⟩) (by first | omega | (dsimp only; omega)) _ _ _ _ _ _ _ rfl) fun _ _ => ?_
  refine .bind (.loadE (k0_off100_eq k0_t2 ⟨3, by decide⟩) (n := 8) rfl (by omega) (by omega) _ _ _ _ _) fun v1004_raw _ => ?_
  refine .bind (hX.putE8 2 3 (by omega) (by omega) (k0_off100_eq k0_t2 ⟨3, by decide⟩) (by first | omega | (dsimp only; omega)) _ _ _ _ _ _ _ rfl) fun _ _ => ?_
  refine .bind (.loadE (k0_off100_eq k0_t2 ⟨4, by decide⟩) (n := 8) rfl (by omega) (by omega) _ _ _ _ _) fun v1017_raw _ => ?_
  exact .ret _ ⟨rfl, rfl, rfl, rfl, rfl, rfl, rfl, rfl, rfl⟩

theorem vl_part32 (v960 : BitVec 32) :
    Tr X (Done V.t X.s4 16) (Done V.u X.s4 12) (k0_part32 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 (V.x4 4 40) (V.x4 5 40) v960 (V.e8 4 0) (V.e8 4 8) (V.e8 4 16) (V.e8 4 24) (V.t8 4 32) (V.t8 5 32) (Vl.il8 (V.t8 4 32) (V.t8 5 32)))
      (fun r => r.1 = V.e8 4 32 ∧ r.2.1 = V.e8 5 32 ∧ r.2.2.1 = V.e4 4 40 ∧ r.2.2.2.1 = V.e4 5 40 ∧ r.2.2.2.2.1 = V.inv 4 ∧ r.2.2.2.2.2.1 = mulf (V.e8 4 0) (broadcastTo S8x128 (V.inv 4) broadcasts_S1x1_S8x128) ∧ r.2.2.2.2.2.2 = V.W8 0) (Done V.t X.s4 18) (Done V.u X.s4 12) := by
  have hs := hX.s; have hs4 := hX.s4
  rw [k0_part32_eq_skeleton]
  unfold k0_part32_skel
  refine .bind (hX.putE8 2 4 (by omega) (by omega) (k0_off100_eq k0_t2 ⟨4, by decide⟩) (by first | omega | (dsimp only; omega)) _ _ _ _ _ _ _ rfl) fun _ _ => ?_
  refine .bind (.loadE (k0_off101_eq k0_t2) (n := 4) rfl (by omega) (by omega) _ _ _ _ _) fun v1030_raw _ => ?_
  refine .bind (hX.putE4 2 5 (by omega) (by omega) (k0_off101_eq k0_t2) (by first | omega | (dsimp only; omega)) _ _ _ _ _ _ _ rfl) fun _ _ => ?_
  refine .bind (hX.wts8 0 _ _) fun v1063 e => ?_
  subst e
  exact .ret _ ⟨rfl, rfl, rfl, rfl, rfl, rfl, rfl⟩

theorem vl_part33  :
    Tr X (Done V.t X.s4 18) (Done V.u X.s4 12) (k0_part33 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (V.e8 5 0) (V.e8 4 8) (V.e8 5 8) (V.e8 4 16) (V.e8 5 16) (V.e8 4 24) (V.e8 5 24) (V.e8 4 32) (V.e8 5 32) (V.e4 4 40) (V.e4 5 40) (V.inv 4) (mulf (V.e8 4 0) (broadcastTo S8x128 (V.inv 4) broadcasts_S1x1_S8x128)) (V.W8 0))
      (fun r => r.1 = V.n8 4 0 ∧ r.2.1 = V.n8 4 8 ∧ r.2.2.1 = V.n8 4 16 ∧ r.2.2.2.1 = V.n8 4 24 ∧ r.2.2.2.2.1 = V.n8 4 32 ∧ r.2.2.2.2.2.1 = V.n4 4 40 ∧ r.2.2.2.2.2.2 = mulf (shapeCast S1x1 (multiReduction .add [1] S1 (V.col 5) 0x00000000#32 reduces_S1x128_S1 (.inl rfl) rfl) shapeCasts_S1_S1x1) (broadcast S1x1 (Named.named κ "inv_d_model" 0x393A2E8C#32))) (Done V.t X.s4 18) (Done V.u X.s4 12) := by
  have hs := hX.s; have hs4 := hX.s4
  rw [k0_part33_eq_skeleton]
  unfold k0_part33_skel
  refine .bind (hX.wts8 8 _ _) fun v1068 e => ?_
  subst e
  refine .bind (hX.wts8 16 _ _) fun v1073 e => ?_
  subst e
  refine .bind (hX.wts8 24 _ _) fun v1078 e => ?_
  subst e
  refine .bind (hX.wts8 32 _ _) fun v1083 e => ?_
  subst e
  refine .bind (hX.wts4 40 _ _) fun v1088 e => ?_
  subst e
  exact .ret _ ⟨rfl, rfl, rfl, rfl, rfl, rfl, rfl⟩

theorem vl_part34 (v960 : BitVec 32) :
    Tr X (Done V.t X.s4 18) (Done V.u X.s4 12) (k0_part34 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v960 (V.e8 5 0) (V.e8 5 8) (V.e8 5 16) (V.e8 5 24) (V.e8 5 32) (V.e4 5 40) (V.n8 4 0) (mulf (shapeCast S1x1 (multiReduction .add [1] S1 (V.col 5) 0x00000000#32 reduces_S1x128_S1 (.inl rfl) rfl) shapeCasts_S1_S1x1) (broadcast S1x1 (Named.named κ "inv_d_model" 0x393A2E8C#32))))
      (fun r => r.1 = V.n8 5 8 ∧ r.2.1 = V.n8 5 16 ∧ r.2.2.1 = V.n8 5 24 ∧ r.2.2.2.1 = V.n8 5 32 ∧ r.2.2.2.2.1 = V.n4 5 40 ∧ r.2.2.2.2.2 = Vl.il8 (V.u8 4 0) (V.u8 5 0)) (Done V.t X.s4 18) (Done V.u X.s4 12) := by
  have hs := hX.s; have hs4 := hX.s4
  rw [k0_part34_eq_skeleton]
  unfold k0_part34_skel
  refine .bind (hX.wts8 0 _ _) fun v1115 e => ?_
  subst e
  refine .bind (hX.wts8 8 _ _) fun v1120 e => ?_
  subst e
  refine .bind (hX.wts8 16 _ _) fun v1125 e => ?_
  subst e
  refine .bind (hX.wts8 24 _ _) fun v1130 e => ?_
  subst e
  refine .bind (hX.wts8 32 _ _) fun v1135 e => ?_
  subst e
  refine .bind (hX.wts4 40 _ _) fun v1140 e => ?_
  subst e
  refine .bind (.loadO (k0_off100_eq k0_t2 ⟨0, by decide⟩) (n := 8) rfl (by omega) (by omega) _ _ _ _ _) fun v1147_raw _ => ?_
  exact .ret _ ⟨rfl, rfl, rfl, rfl, rfl, rfl⟩

theorem vl_part35 (v960 : BitVec 32) :
    Tr X (Done V.t X.s4 18) (Done V.u X.s4 12) (k0_part35 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v960 (V.n8 4 8) (V.n8 4 16) (V.n8 4 24) (V.n8 4 32) (V.n8 5 8) (V.n8 5 16) (V.n8 5 24) (V.n8 5 32) (Vl.il8 (V.u8 4 0) (V.u8 5 0)))
      (fun r => r = Vl.il8 (V.u8 4 32) (V.u8 5 32)) (Done V.t X.s4 18) (Done V.u X.s4 16) := by
  have hs := hX.s; have hs4 := hX.s4
  rw [k0_part35_eq_skeleton]
  unfold k0_part35_skel
  refine .bind (hX.putO8 2 0 (by omega) (by omega) (k0_off100_eq k0_t2 ⟨0, by decide⟩) (by first | omega | (dsimp only; omega)) _ _ _ _ _ _ _ rfl) fun _ _ => ?_
  refine .bind (.loadO (k0_off100_eq k0_t2 ⟨1, by decide⟩) (n := 8) rfl (by omega) (by omega) _ _ _ _ _) fun v1154_raw _ => ?_
  refine .bind (hX.putO8 2 1 (by omega) (by omega) (k0_off100_eq k0_t2 ⟨1, by decide⟩) (by first | omega | (dsimp only; omega)) _ _ _ _ _ _ _ rfl) fun _ _ => ?_
  refine .bind (.loadO (k0_off100_eq k0_t2 ⟨2, by decide⟩) (n := 8) rfl (by omega) (by omega) _ _ _ _ _) fun v1161_raw _ => ?_
  refine .bind (hX.putO8 2 2 (by omega) (by omega) (k0_off100_eq k0_t2 ⟨2, by decide⟩) (by first | omega | (dsimp only; omega)) _ _ _ _ _ _ _ rfl) fun _ _ => ?_
  refine .bind (.loadO (k0_off100_eq k0_t2 ⟨3, by decide⟩) (n := 8) rfl (by omega) (by omega) _ _ _ _ _) fun v1168_raw _ => ?_
  refine .bind (hX.putO8 2 3 (by omega) (by omega) (k0_off100_eq k0_t2 ⟨3, by decide⟩) (by first | omega | (dsimp only; omega)) _ _ _ _ _ _ _ rfl) fun _ _ => ?_
  refine .bind (.loadO (k0_off100_eq k0_t2 ⟨4, by decide⟩) (n := 8) rfl (by omega) (by omega) _ _ _ _ _) fun v1175_raw _ => ?_
  exact .ret _ rfl

theorem vl_part36 (v22 : BitVec 32) (v960 : BitVec 32) :
    Tr X (Done V.t X.s4 18) (Done V.u X.s4 16) (k0_part36 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v960 (V.n4 4 40) (V.n4 5 40) (Vl.il8 (V.u8 4 32) (V.u8 5 32)))
      (fun r => r.2.1 = V.up 6 ∧ r.2.2.1 = V.s8 6 ∧ r.2.2.2.2.1 = V.x8 6 0 ∧ r.2.2.2.2.2 = 8#32) (Done V.t X.s4 18) (Done V.u X.s4 18) := by
  have hs := hX.s; have hs4 := hX.s4
  rw [k0_part36_eq_skeleton]
  unfold k0_part36_skel
  refine .bind (hX.putO8 2 4 (by omega) (by omega) (k0_off100_eq k0_t2 ⟨4, by decide⟩) (by first | omega | (dsimp only; omega)) _ _ _ _ _ _ _ rfl) fun _ _ => ?_
  refine .bind (.loadO (k0_off101_eq k0_t2) (n := 4) rfl (by omega) (by omega) _ _ _ _ _) fun v1182_raw _ => ?_
  refine .bind (hX.putO4 2 5 (by omega) (by omega) (k0_off101_eq k0_t2) (by first | omega | (dsimp only; omega)) _ _ _ _ _ _ _ rfl) fun _ _ => ?_
  refine .bind (hX.tokV 6 (by omega) (k0_off102_eq k0_t2) _ _ _) fun v1192 e => ?_
  subst e
  refine .bind (.asm (chk23 _ (hX.lt 6 (by omega)))) fun _ _ => ?_
  refine .bind (hX.scaleV 6 (by omega) rfl _ _ _) fun v1197 e => ?_
  subst e
  refine .bind (hX.words8 6 0 (by omega) (by omega) (k0_off104_eq k0_t2 ⟨0, by decide⟩) (by first | omega | (dsimp only; omega)) _ _ _ _ _) fun v1206 e => ?_
  subst e
  exact .ret _ ⟨rfl, rfl, rfl, rfl⟩

theorem vl_part37 (v1202 : BitVec 32) :
    Tr X (Done V.t X.s4 18) (Done V.u X.s4 18) (k0_part37 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 (V.up 6) (V.s8 6) v1202 8#32)
      (fun r => r.1 = V.x8 6 8 ∧ r.2.1 = V.x8 6 16 ∧ r.2.2.1 = V.x8 6 24 ∧ r.2.2.2.1 = V.x8 6 32 ∧ r.2.2.2.2.1 = shli (V.w4 6 40) (broadcast S4x128 (V.up 6)) ∧ r.2.2.2.2.2 = 24#32) (Done V.t X.s4 18) (Done V.u X.s4 18) := by
  have hs := hX.s; have hs4 := hX.s4
  rw [k0_part37_eq_skeleton]
  unfold k0_part37_skel
  refine .bind (hX.words8 6 8 (by omega) (by omega) (k0_off104_eq k0_t2 ⟨1, by decide⟩) (by first | omega | (dsimp only; omega)) _ _ _ _ _) fun v1216 e => ?_
  subst e
  refine .bind (hX.words8 6 16 (by omega) (by omega) (k0_off104_eq k0_t2 ⟨2, by decide⟩) (by first | omega | (dsimp only; omega)) _ _ _ _ _) fun v1226 e => ?_
  subst e
  refine .bind (hX.words8 6 24 (by omega) (by omega) (k0_off104_eq k0_t2 ⟨3, by decide⟩) (by first | omega | (dsimp only; omega)) _ _ _ _ _) fun v1236 e => ?_
  subst e
  refine .bind (hX.words8 6 32 (by omega) (by omega) (k0_off104_eq k0_t2 ⟨4, by decide⟩) (by first | omega | (dsimp only; omega)) _ _ _ _ _) fun v1246 e => ?_
  subst e
  refine .bind (hX.words4 6 40 (by omega) (by omega) (k0_off105_eq k0_t2) (by first | omega | (dsimp only; omega)) _ _ _ _ _) fun v1256 e => ?_
  subst e
  exact .ret _ ⟨rfl, rfl, rfl, rfl, rfl, rfl⟩

theorem vl_part38 (v22 : BitVec 32) (v1187 : BitVec 32) :
    Tr X (Done V.t X.s4 18) (Done V.u X.s4 18) (k0_part38 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 v1187 (V.s8 6) (shli (V.w4 6 40) (broadcast S4x128 (V.up 6))) 24#32)
      (fun r => r.1 = V.x4 6 40 ∧ r.2.1 = V.up 7 ∧ r.2.2.1 = V.s8 7 ∧ r.2.2.2.2.1 = V.x8 7 0 ∧ r.2.2.2.2.2 = V.x8 7 8) (Done V.t X.s4 18) (Done V.u X.s4 18) := by
  have hs := hX.s; have hs4 := hX.s4
  rw [k0_part38_eq_skeleton]
  unfold k0_part38_skel
  refine .bind (hX.tokV 7 (by omega) (k0_off106_eq k0_t2) _ _ _) fun v1268 e => ?_
  subst e
  refine .bind (.asm (chk24 _ (hX.lt 7 (by omega)))) fun _ _ => ?_
  refine .bind (hX.scaleV 7 (by omega) rfl _ _ _) fun v1273 e => ?_
  subst e
  refine .bind (hX.words8 7 0 (by omega) (by omega) (k0_off108_eq k0_t2 ⟨0, by decide⟩) (by first | omega | (dsimp only; omega)) _ _ _ _ _) fun v1282 e => ?_
  subst e
  refine .bind (hX.words8 7 8 (by omega) (by omega) (k0_off108_eq k0_t2 ⟨1, by decide⟩) (by first | omega | (dsimp only; omega)) _ _ _ _ _) fun v1292 e => ?_
  subst e
  exact .ret _ ⟨rfl, rfl, rfl, rfl, rfl⟩

theorem vl_part39 (v22 : BitVec 32) (v1278 : BitVec 32) :
    Tr X (Done V.t X.s4 18) (Done V.u X.s4 18) (k0_part39 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v22 (V.x8 6 0) (V.up 7) (V.s8 7) v1278 (V.x8 7 0))
      (fun r => r.1 = V.x8 7 16 ∧ r.2.1 = V.x8 7 24 ∧ r.2.2.1 = V.x8 7 32 ∧ r.2.2.2.1 = V.x4 7 40 ∧ r.2.2.2.2.2.1 = V.t8 6 0 ∧ r.2.2.2.2.2.2 = V.t8 7 0) (Done V.t X.s4 18) (Done V.u X.s4 18) := by
  have hs := hX.s; have hs4 := hX.s4
  rw [k0_part39_eq_skeleton]
  unfold k0_part39_skel
  refine .bind (hX.words8 7 16 (by omega) (by omega) (k0_off108_eq k0_t2 ⟨2, by decide⟩) (by first | omega | (dsimp only; omega)) _ _ _ _ _) fun v1302 e => ?_
  subst e
  refine .bind (hX.words8 7 24 (by omega) (by omega) (k0_off108_eq k0_t2 ⟨3, by decide⟩) (by first | omega | (dsimp only; omega)) _ _ _ _ _) fun v1312 e => ?_
  subst e
  refine .bind (hX.words8 7 32 (by omega) (by omega) (k0_off108_eq k0_t2 ⟨4, by decide⟩) (by first | omega | (dsimp only; omega)) _ _ _ _ _) fun v1322 e => ?_
  subst e
  refine .bind (hX.words4 7 40 (by omega) (by omega) (k0_off109_eq k0_t2) (by first | omega | (dsimp only; omega)) _ _ _ _ _) fun v1332 e => ?_
  subst e
  exact .ret _ ⟨rfl, rfl, rfl, rfl, rfl, rfl⟩

theorem vl_part40 (v1342 : BitVec 32) :
    Tr X (Done V.t X.s4 18) (Done V.u X.s4 18) (k0_part40 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 (V.x8 6 8) (V.x8 6 16) (V.x8 6 24) (V.x8 7 8) (V.x8 7 16) (V.x8 7 24) v1342 (V.t8 6 0) (V.t8 7 0))
      (fun r => r.1 = V.e8 6 0 ∧ r.2.1 = V.e8 7 0 ∧ r.2.2.1 = V.e8 6 8 ∧ r.2.2.2.1 = V.e8 7 8 ∧ r.2.2.2.2.1 = V.e8 6 16 ∧ r.2.2.2.2.2.1 = V.e8 7 16 ∧ r.2.2.2.2.2.2.1 = V.t8 6 24 ∧ r.2.2.2.2.2.2.2.1 = V.t8 7 24 ∧ r.2.2.2.2.2.2.2.2 = 96#32) (Done V.t X.s4 21) (Done V.u X.s4 18) := by
  have hs := hX.s; have hs4 := hX.s4
  rw [k0_part40_eq_skeleton]
  unfold k0_part40_skel
  refine .bind (.loadE (k0_off110_eq k0_t2 ⟨0, by decide⟩) (n := 8) rfl (by omega) (by omega) _ _ _ _ _) fun v1347_raw _ => ?_
  refine .bind (hX.putE8 3 0 (by omega) (by omega) (k0_off110_eq k0_t2 ⟨0, by decide⟩) (by first | omega | (dsimp only; omega)) _ _ _ _ _ _ _ rfl) fun _ _ => ?_
  refine .bind (.loadE (k0_off110_eq k0_t2 ⟨1, by decide⟩) (n := 8) rfl (by omega) (by omega) _ _ _ _ _) fun v1360_raw _ => ?_
  refine .bind (hX.putE8 3 1 (by omega) (by omega) (k0_off110_eq k0_t2 ⟨1, by decide⟩) (by first | omega | (dsimp only; omega)) _ _ _ _ _ _ _ rfl) fun _ _ => ?_
  refine .bind (.loadE (k0_off110_eq k0_t2 ⟨2, by decide⟩) (n := 8) rfl (by omega) (by omega) _ _ _ _ _) fun v1373_raw _ => ?_
  refine .bind (hX.putE8 3 2 (by omega) (by omega) (k0_off110_eq k0_t2 ⟨2, by decide⟩) (by first | omega | (dsimp only; omega)) _ _ _ _ _ _ _ rfl) fun _ _ => ?_
  exact .ret _ ⟨rfl, rfl, rfl, rfl, rfl, rfl, rfl, rfl, rfl⟩

theorem vl_part41 (v1342 : BitVec 32) :
    Tr X (Done V.t X.s4 21) (Done V.u X.s4 18) (k0_part41 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 (V.x8 6 32) (V.x4 6 40) (V.x8 7 32) (V.x4 7 40) v1342 (V.t8 6 24) (V.t8 7 24) 96#32)
      (fun r => r.1 = V.e8 6 24 ∧ r.2.1 = V.e8 7 24 ∧ r.2.2.1 = V.e8 6 32 ∧ r.2.2.2.1 = V.e8 7 32 ∧ r.2.2.2.2.1 = V.e4 6 40 ∧ r.2.2.2.2.2 = V.e4 7 40) (Done V.t X.s4 24) (Done V.u X.s4 18) := by
  have hs := hX.s; have hs4 := hX.s4
  rw [k0_part41_eq_skeleton]
  unfold k0_part41_skel
  refine .bind (.loadE (k0_off110_eq k0_t2 ⟨3, by decide⟩) (n := 8) rfl (by omega) (by omega) _ _ _ _ _) fun v1386_raw _ => ?_
  refine .bind (hX.putE8 3 3 (by omega) (by omega) (k0_off110_eq k0_t2 ⟨3, by decide⟩) (by first | omega | (dsimp only; omega)) _ _ _ _ _ _ _ rfl) fun _ _ => ?_
  refine .bind (.loadE (k0_off110_eq k0_t2 ⟨4, by decide⟩) (n := 8) rfl (by omega) (by omega) _ _ _ _ _) fun v1399_raw _ => ?_
  refine .bind (hX.putE8 3 4 (by omega) (by omega) (k0_off110_eq k0_t2 ⟨4, by decide⟩) (by first | omega | (dsimp only; omega)) _ _ _ _ _ _ _ rfl) fun _ _ => ?_
  refine .bind (.loadE (k0_off111_eq k0_t2) (n := 4) rfl (by omega) (by omega) _ _ _ _ _) fun v1412_raw _ => ?_
  refine .bind (hX.putE4 3 5 (by omega) (by omega) (k0_off111_eq k0_t2) (by first | omega | (dsimp only; omega)) _ _ _ _ _ _ _ rfl) fun _ _ => ?_
  exact .ret _ ⟨rfl, rfl, rfl, rfl, rfl, rfl⟩

theorem vl_part42  :
    Tr X (Done V.t X.s4 24) (Done V.u X.s4 18) (k0_part42 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (V.e8 6 0) (V.e8 6 8) (V.e8 6 16) (V.e8 6 24) (V.e8 6 32) (V.e4 6 40))
      (fun r => r.1 = V.inv 6 ∧ r.2.1 = V.n8 6 0 ∧ r.2.2.1 = V.n8 6 8 ∧ r.2.2.2.1 = V.n8 6 16 ∧ r.2.2.2.2.1 = V.n8 6 24 ∧ r.2.2.2.2.2.1 = mulf (V.e8 6 32) (broadcastTo S8x128 (V.inv 6) broadcasts_S1x1_S8x128) ∧ r.2.2.2.2.2.2 = V.W8 32) (Done V.t X.s4 24) (Done V.u X.s4 18) := by
  have hs := hX.s; have hs4 := hX.s4
  rw [k0_part42_eq_skeleton]
  unfold k0_part42_skel
  refine .bind (hX.wts8 0 _ _) fun v1445 e => ?_
  subst e
  refine .bind (hX.wts8 8 _ _) fun v1450 e => ?_
  subst e
  refine .bind (hX.wts8 16 _ _) fun v1455 e => ?_
  subst e
  refine .bind (hX.wts8 24 _ _) fun v1460 e => ?_
  subst e
  refine .bind (hX.wts8 32 _ _) fun v1465 e => ?_
  subst e
  exact .ret _ ⟨rfl, rfl, rfl, rfl, rfl, rfl, rfl⟩

theorem vl_part43  :
    Tr X (Done V.t X.s4 24) (Done V.u X.s4 18) (k0_part43 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (V.e8 7 0) (V.e8 7 8) (V.e8 7 16) (V.e8 7 24) (V.e8 7 32) (V.e4 6 40) (V.e4 7 40) (V.inv 6) (mulf (V.e8 6 32) (broadcastTo S8x128 (V.inv 6) broadcasts_S1x1_S8x128)) (V.W8 32))
      (fun r => r.1 = V.n8 6 32 ∧ r.2.1 = V.n4 6 40 ∧ r.2.2.1 = V.inv 7 ∧ r.2.2.2.1 = V.n8 7 0 ∧ r.2.2.2.2.1 = V.n8 7 8 ∧ r.2.2.2.2.2.1 = V.n8 7 16 ∧ r.2.2.2.2.2.2 = mulf (V.e8 7 24) (broadcastTo S8x128 (V.inv 7) broadcasts_S1x1_S8x128)) (Done V.t X.s4 24) (Done V.u X.s4 18) := by
  have hs := hX.s; have hs4 := hX.s4
  rw [k0_part43_eq_skeleton]
  unfold k0_part43_skel
  refine .bind (hX.wts4 40 _ _) fun v1470 e => ?_
  subst e
  refine .bind (hX.wts8 0 _ _) fun v1497 e => ?_
  subst e
  refine .bind (hX.wts8 8 _ _) fun v1502 e => ?_
  subst e
  refine .bind (hX.wts8 16 _ _) fun v1507 e => ?_
  subst e
  exact .ret _ ⟨rfl, rfl, rfl, rfl, rfl, rfl, rfl⟩

theorem vl_part44 (v1342 : BitVec 32) :
    Tr X (Done V.t X.s4 24) (Done V.u X.s4 18) (k0_part44 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 v1342 (V.e8 7 32) (V.e4 7 40) (V.n8 6 0) (V.n8 6 8) (V.n8 6 16) (V.inv 7) (V.n8 7 0) (V.n8 7 8) (V.n8 7 16) (mulf (V.e8 7 24) (broadcastTo S8x128 (V.inv 7) broadcasts_S1x1_S8x128)))
      (fun r => r.1 = V.n8 7 24 ∧ r.2.1 = V.n8 7 32 ∧ r.2.2.1 = V.n4 7 40 ∧ r.2.2.2.1 = V.u8 7 16 ∧ r.2.2.2.2 = V.u8 6 16) (Done V.t X.s4 24) (Done V.u X.s4 20) := by
  have hs := hX.s; have hs4 := hX.s4
  rw [k0_part44_eq_skeleton]
  unfold k0_part44_skel
  refine .bind (hX.wts8 24 _ _) fun v1512 e => ?_
  subst e
  refine .bind (hX.wts8 32 _ _) fun v1517 e => ?_
  subst e
  refine .bind (hX.wts4 40 _ _) fun v1522 e => ?_
  subst e
  refine .bind (.loadO (k0_off110_eq k0_t2 ⟨0, by decide⟩) (n := 8) rfl (by omega) (by omega) _ _ _ _ _) fun v1529_raw _ => ?_
  refine .bind (hX.putO8 3 0 (by omega) (by omega) (k0_off110_eq k0_t2 ⟨0, by decide⟩) (by first | omega | (dsimp only; omega)) _ _ _ _ _ _ _ rfl) fun _ _ => ?_
  refine .bind (.loadO (k0_off110_eq k0_t2 ⟨1, by decide⟩) (n := 8) rfl (by omega) (by omega) _ _ _ _ _) fun v1536_raw _ => ?_
  refine .bind (hX.putO8 3 1 (by omega) (by omega) (k0_off110_eq k0_t2 ⟨1, by decide⟩) (by first | omega | (dsimp only; omega)) _ _ _ _ _ _ _ rfl) fun _ _ => ?_
  refine .bind (.loadO (k0_off110_eq k0_t2 ⟨2, by decide⟩) (n := 8) rfl (by omega) (by omega) _ _ _ _ _) fun v1543_raw _ => ?_
  exact .ret _ ⟨rfl, rfl, rfl, rfl, rfl⟩

/-- A trip: its first part (the copies and waits) loads the group's first token; the rest computes the group and stores
    all of it into the staging slots. -/
theorem vl_body {H G : sProp (MT nD τ sig Unit (Elt F) ℕ (Pipeline.UD sig nD τ) ℕ)} (z : Unit)
    (h7 : H ⊢ wpK X.c (k0_part7 (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 0#32 1#32 k0_t2) (fun r => iprop(CRes X Any Any ∗ (⌜r.2.2.1 = V.tk 0 ∧ r.2.2.2.2.1 = Scalar.muli 8#32 (Scalar.andi (V.tk 0) 3#32) ∧ r.2.2.2.2.2 = 24#32⌝ ∗ G)))) :
    H ⊢ wpK X.c (k0_t2_body (F := F) X.arg0 harg0 (Memref.whole main_v3) (Memref.isWhole_whole _) (Memref.whole main_arg2) (Memref.isWhole_whole _) X.arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 z) (fun _ => iprop(CRes X (Done V.t X.s4 24) (Done V.u X.s4 24) ∗ G)) := by
  have hs := hX.s; have hs4 := hX.s4
  unfold k0_t2_body wpK
  rw [wp_bind, k0_part45_eq_skeleton]
  unfold k0_part45_skel
  rw [wp_bind]
  unfold wpK at h7
  refine h7.trans (wp_mono _ _ _ fun r7 => ?_)
  obtain ⟨v22, v41, v46, k0_hw17, v48, c24_i32⟩ := r7
  dsimp only
  refine pure_mid fun h => ?_
  obtain ⟨rfl, rfl, rfl⟩ := h
  refine (sep_mono_left (CRes_zero V)).trans ?_
  refine Tr.frame (P := fun r => r.2.1 = V.n4 6 40 ∧ r.2.2.1 = V.n4 7 40 ∧ r.2.2.2.1 = V.u8 6 32 ∧ r.2.2.2.2.1 = V.u8 7 32) (DE' := Done V.t X.s4 24) (DO' := Done V.u X.s4 22) ?_ fun rb h => ?_
  · refine .bind (vl_part8 k0_t2 hX harg0 harg3 v41 k0_hw17) fun r8 h => ?_
    obtain ⟨v49, v54, v56, v66, v76, v86, v94⟩ := r8
    dsimp only at h
    obtain ⟨rfl, rfl, rfl, rfl, rfl, rfl⟩ := h
    refine .bind (vl_part9 k0_t2 hX harg0 harg3 v22 v41 v56) fun r9 h => ?_
    obtain ⟨v96, v106, v117, v125, v130, v132, v136, v137⟩ := r9
    dsimp only at h
    obtain ⟨rfl, rfl, rfl, rfl, rfl, rfl, rfl⟩ := h
    refine .bind (vl_part10 k0_t2 hX harg0 harg3 v132) fun r10 h => ?_
    obtain ⟨v142, v152, v162, v172, v182, v183⟩ := r10
    dsimp only at h
    obtain ⟨rfl, rfl, rfl, rfl, rfl⟩ := h
    refine .bind (vl_part11 k0_t2 hX harg0 harg3 v22 v183) fun r11 h => ?_
    obtain ⟨v193, v196, v206, v209, v219, v222⟩ := r11
    dsimp only at h
    obtain ⟨rfl, rfl, rfl, rfl, rfl⟩ := h
    refine .bind (vl_part12 k0_t2 hX harg0 harg3 v196) fun r12 h => ?_
    obtain ⟨v232, v235, v245, v248, v249_hi, v258⟩ := r12
    dsimp only at h
    obtain ⟨rfl, rfl, rfl, rfl, rfl, rfl⟩ := h
    refine .bind (vl_part13 k0_t2 hX harg0 harg3 v196) fun r13 h => ?_
    obtain ⟨v261, v271, v274, v296, v301, v303⟩ := r13
    dsimp only at h
    obtain ⟨rfl, rfl, rfl, rfl, rfl, rfl⟩ := h
    refine .bind (vl_part14 k0_t2 hX harg0 harg3 ) fun r14 h => ?_
    obtain ⟨v306, v311, v316, v321, v326, v348⟩ := r14
    dsimp only at h
    obtain ⟨rfl, rfl, rfl, rfl, rfl, rfl⟩ := h
    refine .bind (vl_part15 k0_t2 hX harg0 harg3 v196) fun r15 h => ?_
    obtain ⟨v363, v368, v373, v378, v386_lo, v386_hi, c32_i32_138⟩ := r15
    dsimp only at h
    obtain ⟨rfl, rfl, rfl, rfl, rfl, rfl, rfl⟩ := h
    refine .bind (vl_part16 k0_t2 hX harg0 harg3 v196) fun r16 h => ?_
    obtain ⟨v414_lo, v414_hi, c160_i32_146⟩ := r16
    dsimp only at h
    obtain ⟨rfl, rfl, rfl⟩ := h
    refine .bind (vl_part17 k0_t2 hX harg0 harg3 v22 v196) fun r17 h => ?_
    obtain ⟨v423, v431, v436, v438, v448⟩ := r17
    dsimp only at h
    obtain ⟨rfl, rfl, rfl⟩ := h
    refine .bind (vl_part18 k0_t2 hX harg0 harg3 v438) fun r18 h => ?_
    obtain ⟨v458, v468, v478, v488, v497, v498⟩ := r18
    dsimp only at h
    obtain ⟨rfl, rfl, rfl, rfl, rfl, rfl⟩ := h
    refine .bind (vl_part19 k0_t2 hX harg0 harg3 v22 v423) fun r19 h => ?_
    obtain ⟨v499, v507, v512, v514, v524, v534, v540, c24_i32_193⟩ := r19
    dsimp only at h
    obtain ⟨rfl, rfl, rfl, rfl, rfl, rfl, rfl⟩ := h
    refine .bind (vl_part20 k0_t2 hX harg0 harg3 v22 v514) fun r20 h => ?_
    obtain ⟨v544, v554, v564, v575, v578, v579_lo, v579_hi, v583_hi⟩ := r20
    dsimp only at h
    obtain ⟨rfl, rfl, rfl, rfl, rfl, rfl⟩ := h
    refine .bind (vl_part21 k0_t2 hX harg0 harg3 v578 v583_hi) fun r21 h => ?_
    obtain ⟨v588, v591, v601, v604, v614, v617, v618_lo, v618_hi, v622_raw⟩ := r21
    dsimp only at h
    obtain ⟨rfl, rfl, rfl, rfl, rfl, rfl, rfl, rfl⟩ := h
    refine .bind (vl_part22 k0_t2 hX harg0 harg3 v578 v622_raw) fun r22 h => ?_
    obtain ⟨v627, v630, v640, v643, v653, v656, v659, v660⟩ := r22
    dsimp only at h
    obtain ⟨rfl, rfl, rfl, rfl, rfl, rfl, rfl, rfl⟩ := h
    refine .bind (vl_part23 k0_t2 hX harg0 harg3 ) fun r23 h => ?_
    obtain ⟨v683, v688, v693, v698, v703, v705⟩ := r23
    dsimp only at h
    obtain ⟨rfl, rfl, rfl, rfl, rfl, rfl⟩ := h
    refine .bind (vl_part24 k0_t2 hX harg0 harg3 ) fun r24 h => ?_
    obtain ⟨v708, v730, v735, v740, v745, v750⟩ := r24
    dsimp only at h
    obtain ⟨rfl, rfl, rfl, rfl, rfl, rfl⟩ := h
    refine .bind (vl_part25 k0_t2 hX harg0 harg3 v578) fun r25 h => ?_
    obtain ⟨v755, v760, v782_lo⟩ := r25
    dsimp only at h
    obtain ⟨rfl, rfl, rfl⟩ := h
    refine .bind (vl_part26 k0_t2 hX harg0 harg3 v22 v578) fun r26 h => ?_
    obtain ⟨v805, v810, k0_hw21, c3_i32_282⟩ := r26
    dsimp only at h
    obtain ⟨rfl, rfl⟩ := h
    refine .bind (vl_part27 k0_t2 hX harg0 harg3 v805 k0_hw21) fun r27 h => ?_
    obtain ⟨v813, v818, v820, v830, v840, v850, v854, v855⟩ := r27
    dsimp only at h
    obtain ⟨rfl, rfl, rfl, rfl, rfl, rfl, rfl⟩ := h
    refine .bind (vl_part28 k0_t2 hX harg0 harg3 v22 v805 v820) fun r28 h => ?_
    obtain ⟨v860, v870, v881, v889, v894, v896, v897⟩ := r28
    dsimp only at h
    obtain ⟨rfl, rfl, rfl, rfl, rfl⟩ := h
    refine .bind (vl_part29 k0_t2 hX harg0 harg3 v896 v897) fun r29 h => ?_
    obtain ⟨v906, v916, v926, v936, v944⟩ := r29
    dsimp only at h
    obtain ⟨rfl, rfl, rfl, rfl, rfl⟩ := h
    refine .bind (vl_part30 k0_t2 hX harg0 harg3 v22 v896) fun r30 h => ?_
    obtain ⟨v946, v957, v960, v970, v973, v974_lo, v974_hi⟩ := r30
    dsimp only at h
    obtain ⟨rfl, rfl, rfl, rfl, rfl, rfl⟩ := h
    refine .bind (vl_part31 k0_t2 hX harg0 harg3 v960) fun r31 h => ?_
    obtain ⟨v983, v986, v996, v999, v1009, v1012, v1013_lo, v1013_hi, k0_w29⟩ := r31
    dsimp only at h
    obtain ⟨rfl, rfl, rfl, rfl, rfl, rfl, rfl, rfl, rfl⟩ := h
    refine .bind (vl_part32 k0_t2 hX harg0 harg3 v960) fun r32 h => ?_
    obtain ⟨v1022, v1025, v1035, v1038, v1060, v1062, v1063⟩ := r32
    dsimp only at h
    obtain ⟨rfl, rfl, rfl, rfl, rfl, rfl, rfl⟩ := h
    refine .bind (vl_part33 k0_t2 hX harg0 harg3 ) fun r33 h => ?_
    obtain ⟨v1065, v1070, v1075, v1080, v1085, v1090, v1109⟩ := r33
    dsimp only at h
    obtain ⟨rfl, rfl, rfl, rfl, rfl, rfl, rfl⟩ := h
    refine .bind (vl_part34 k0_t2 hX harg0 harg3 v960) fun r34 h => ?_
    obtain ⟨v1122, v1127, v1132, v1137, v1142, k0_w31⟩ := r34
    dsimp only at h
    obtain ⟨rfl, rfl, rfl, rfl, rfl, rfl⟩ := h
    refine .bind (vl_part35 k0_t2 hX harg0 harg3 v960) fun r35 h => ?_
    obtain rfl := h
    refine .bind (vl_part36 k0_t2 hX harg0 harg3 v22 v960) fun r36 h => ?_
    obtain ⟨v1187, v1195, v1200, v1202, v1212, c8_i32_417⟩ := r36
    dsimp only at h
    obtain ⟨rfl, rfl, rfl, rfl⟩ := h
    refine .bind (vl_part37 k0_t2 hX harg0 harg3 v1202) fun r37 h => ?_
    obtain ⟨v1222, v1232, v1242, v1252, v1258, c24_i32_431⟩ := r37
    dsimp only at h
    obtain ⟨rfl, rfl, rfl, rfl, rfl, rfl⟩ := h
    refine .bind (vl_part38 k0_t2 hX harg0 harg3 v22 v1187) fun r38 h => ?_
    obtain ⟨v1263, v1271, v1276, v1278, v1288, v1298⟩ := r38
    dsimp only at h
    obtain ⟨rfl, rfl, rfl, rfl, rfl⟩ := h
    refine .bind (vl_part39 k0_t2 hX harg0 harg3 v22 v1278) fun r39 h => ?_
    obtain ⟨v1308, v1318, v1328, v1339, v1342, v1343_lo, v1343_hi⟩ := r39
    dsimp only at h
    obtain ⟨rfl, rfl, rfl, rfl, rfl, rfl⟩ := h
    refine .bind (vl_part40 k0_t2 hX harg0 harg3 v1342) fun r40 h => ?_
    obtain ⟨v1352, v1355, v1365, v1368, v1378, v1381, v1382_lo, v1382_hi, c96_i32_473⟩ := r40
    dsimp only at h
    obtain ⟨rfl, rfl, rfl, rfl, rfl, rfl, rfl, rfl, rfl⟩ := h
    refine .bind (vl_part41 k0_t2 hX harg0 harg3 v1342) fun r41 h => ?_
    obtain ⟨v1391, v1394, v1404, v1407, v1417, v1420⟩ := r41
    dsimp only at h
    obtain ⟨rfl, rfl, rfl, rfl, rfl, rfl⟩ := h
    refine .bind (vl_part42 k0_t2 hX harg0 harg3 ) fun r42 h => ?_
    obtain ⟨v1442, v1447, v1452, v1457, v1462, v1464, v1465⟩ := r42
    dsimp only at h
    obtain ⟨rfl, rfl, rfl, rfl, rfl, rfl, rfl⟩ := h
    refine .bind (vl_part43 k0_t2 hX harg0 harg3 ) fun r43 h => ?_
    obtain ⟨v1467, v1472, v1494, v1499, v1504, v1509, v1511⟩ := r43
    dsimp only at h
    obtain ⟨rfl, rfl, rfl, rfl, rfl, rfl, rfl⟩ := h
    refine .bind (vl_part44 k0_t2 hX harg0 harg3 v1342) fun r44 h => ?_
    obtain ⟨v1514, v1519, v1524, v1539_hi, v1545_lo⟩ := r44
    dsimp only at h
    obtain ⟨rfl, rfl, rfl, rfl, rfl⟩ := h
    refine .bind (hX.putO8 3 2 (by omega) (by omega) (k0_off110_eq k0_t2 ⟨2, by decide⟩) (by first | omega | (dsimp only; omega)) _ _ _ _ _ _ _ rfl) fun _ _ => ?_
    refine .bind (.loadO (k0_off110_eq k0_t2 ⟨3, by decide⟩) (n := 8) rfl (by omega) (by omega) _ _ _ _ _) fun v1550_raw _ => ?_
    refine .bind (hX.putO8 3 3 (by omega) (by omega) (k0_off110_eq k0_t2 ⟨3, by decide⟩) (by first | omega | (dsimp only; omega)) _ _ _ _ _ _ _ rfl) fun _ _ => ?_
    exact .ret _ ⟨rfl, rfl, rfl, rfl⟩
  · obtain ⟨v1342, v1472, v1524, v1553_lo, v1553_hi, v1554⟩ := rb
    dsimp only at h
    obtain ⟨rfl, rfl, rfl, rfl⟩ := h
    refine Tr.frame (P := fun _ => True) (DE' := Done V.t X.s4 24) (DO' := Done V.u X.s4 24) ?_ fun _ _ => .rfl
    refine .bind (.loadO (k0_off110_eq k0_t2 ⟨4, by decide⟩) (n := 8) rfl (by omega) (by omega) _ _ _ _ _) fun v1557_raw _ => ?_
    refine .bind (hX.putO8 3 4 (by omega) (by omega) (k0_off110_eq k0_t2 ⟨4, by decide⟩) (by first | omega | (dsimp only; omega)) _ _ _ _ _ _ _ rfl) fun _ _ => ?_
    refine .bind (.loadO (k0_off111_eq k0_t2) (n := 4) rfl (by omega) (by omega) _ _ _ _ _) fun v1564_raw _ => ?_
    refine .bind (hX.putO4 3 5 (by omega) (by omega) (k0_off111_eq k0_t2) (by first | omega | (dsimp only; omega)) _ _ _ _ _ _ _ rfl) fun _ _ => ?_
    exact .ret _ trivial

end Cert.KernelIdeal.Hand
-- ==== Proof.KI.Body.lean ====
/-
  The body's run: the copy of the scales, the three loops, and the last group's copies out.
-/
module

public import proofs.«01_k».proof.Proof.KI.Ends
public import proofs.«01_k».proof.Proof.KI.Values

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

/-- The proof's user algebra: the pipeline library's beside the transfers' counters. -/
local notation "𝕄" => MT nD τ sig Unit (Elt F) ℕ (Pipeline.UD sig nD τ) ℕ

/-- A counted loop from its invariant. -/
theorem ent_loop {c : Dev nD} {w : ℕ} {σ : Type} (l : Scf.Loop w) (hok : l.OK) (init : σ) (body : Fin l.trips → σ → Prog (TpuEff nD τ sig (Elt F) Λ₀ .tc) σ)
    (I : ℕ → sProp 𝕄) (n : ℕ) (hn : l.trips = n) (h : ∀ (k : Fin l.trips) (u : σ), I k.val ⊢ wpK c (body k u) (fun _ => I (k.val + 1))) :
    I 0 ⊢ wpK c (Scf.Loop.for l hok init body) (fun _ => I n) := by
  subst hn
  refine BIBase.Entails.trans ?_ (Scf.wp_for frame (wpE (defs₀ (F := F)) Variants.none (c : Thread nD τ) none) Set.univ l.lb l.ub l.st hok init body (fun k _ => I k) h)
  iintro H
  isplitl [H]; · iexact H
  iintro %acc H
  iexact H

/-! ## The copy of the scales -/

/-- What the copy of the scales credits. -/
def NS : ℕ := (cc0_scratch3).dmaCredit S64000 .f32
theorem NS_pos : 0 < NS := by decide +kernel

/-- The delivery of the copy of the scales. -/
def DS (c : Dev nD) (fS : S64000.Idx → Elt F .f32) (_ : Fin 1) : sProp 𝕄 :=
  iprop((∃ f : S64000.Idx → Elt F .f32, ⌜f = fS⌝ ∗ ((c : Thread nD τ).loc cc0_scratch3 ↦[Finset.univ]{fullShare} f)) ∗ ((c : Thread nD τ).loc main_arg2 ↦[Finset.univ]{fullShare} fS))

instance DS_storable (c : Dev nD) (fS : S64000.Idx → Elt F .f32) (i : Fin 1) : Storable (upEmb : UEmb _ 𝕄) (DS c fS i) := by unfold DS; infer_instance

/-- The copy of the scales, in flight. -/
abbrev FlS (c : Dev nD) (fS : S64000.Idx → Elt F .f32) : sProp 𝕄 :=
  Transfers.Batch EC (c : Thread nD τ) (.dma cc0_scratch7.sem) () NS (DS c fS) 1 0

theorem fr_scale (c : Dev nD) (fS : S64000.Idx → Elt F .f32) (hw1) (hw2) (hw3) :
    iprop(((c : Thread nD τ).loc main_arg2 ↦[Finset.univ]{fullShare} fS) ∗ (∃ f : S64000.Idx → Elt F .f32, (c : Thread nD τ).loc cc0_scratch3 ↦[Finset.univ]{fullShare} f)
        ∗ semVal ((c : Thread nD τ), SemLoc.dma cc0_scratch7.sem) 0)
      ⊢ wpK c (Prog.lift (.enqueueDma (Memref.whole main_arg2 : Memref sig .tc .hbm S64000 .f32) (.here (Memref.whole cc0_scratch3 : Memref sig .tc .smem S64000 .f32)) (.dma cc0_scratch7.sem) hw1 hw2 hw3)) (fun _ => FlS c fS) := by
  have hT : (Memref.whole main_arg2 : Memref sig .tc .hbm S64000 .f32).view.set = Finset.univ := View.set_whole _
  have hB : (Memref.whole cc0_scratch3 : Memref sig .tc .smem S64000 .f32).view.set = Finset.univ := View.set_whole _
  iintro ⟨HT, ⟨%f0, HB⟩, Hq⟩
  imod (Transfers.batch_alloc' (Lvl := ℕ) (EC (F := F)) (c : Thread nD τ) () NS (DS c fS) (sm := SemLoc.dma cc0_scratch7.sem) (E := Set.univ)) $$ Hq with HBt
  iapply (Transfers.wp_dmaBatch (defs := defs₀ (F := F)) (Q := fun _ => FlS c fS) EC Variants.none (c : Thread nD τ) none () NS
    (src := (Memref.whole main_arg2 : Memref sig .tc .hbm S64000 .f32))
    (dst := (Memref.whole cc0_scratch3 : Memref sig .tc .smem S64000 .f32))
    (q := fullShare) (fs := fS) (fd := f0) (D := DS c fS)
    rfl (Sd := Finset.univ) hB.subset Nat.one_pos (Nat.zero_le _) ?hD) $$ [HT HB HBt]
  case hD =>
    unfold DS
    iintro ⟨Hd, Hs⟩
    isplitl [Hd]
    · iexists _
      isplitr; swap; · iexact Hd
      ipureintro
      exact View.write_whole_univ cc0_scratch3 f0 fS
    · rw [← hT]; iexact Hs
  · isplitl [HT]; · rw [hT]; iexact HT
    isplitl [HB]; · iexact HB
    iexact HBt
  iintro HBt
  rw [wp_ret]
  imodintro
  iexact HBt

theorem fr_scalewait (c : Dev nD) (fS : S64000.Idx → Elt F .f32) (hw1) (hw2) :
    iprop(FlS c fS ∗ (∃ W, owes (c : Thread nD τ) 0 W))
      ⊢ wpK c (Prog.lift (.waitDma2 cc0_scratch7.sem (Memref.whole main_arg2 : Memref sig .tc .hbm S64000 .f32) (Memref.whole cc0_scratch3 : Memref sig .tc .smem S64000 .f32) hw1 hw2))
        (fun _ => iprop((((c : Thread nD τ).loc cc0_scratch3 ↦[Finset.univ]{fullShare} fS) ∗ ((c : Thread nD τ).loc main_arg2 ↦[Finset.univ]{fullShare} fS))
          ∗ semVal ((c : Thread nD τ), SemLoc.dma cc0_scratch7.sem) 0 ∗ (∃ W, owes (c : Thread nD τ) 0 W))) := by
  iintro ⟨HBt, ⟨%W, HW⟩⟩
  iapply (Transfers.wp_waitBatchAll (defs := defs₀ (F := F)) EC Variants.none (c : Thread nD τ) none ()
    (srcw := (Memref.whole main_arg2 : Memref sig .tc .hbm S64000 .f32))
    (dstw := (Memref.whole cc0_scratch3 : Memref sig .tc .smem S64000 .f32))
    (N := NS) (J := NS) rfl NS_pos (D := DS c fS) (u := 0) (by omega) (W := W)) $$ [HBt HW]
  · isplitl [HBt]; · iexact HBt
    iexact HW
  iintro ⟨HD, Hq, HW⟩
  rw [wp_ret]
  imodintro
  ihave HD' := (Entails.of_eq (show bigSep Finset.univ (DS c fS) = DS c fS 0 by
    rw [Finset.univ_unique, bigSep_singleton]; rfl)) $$ HD
  unfold DS
  icases HD' with ⟨⟨%f, %hf, HD1⟩, HD2⟩
  subst hf
  isplitl [HD1 HD2]
  · isplitl [HD1]; · iexact HD1
    iexact HD2
  isplitl [Hq]; · iexact Hq
  iexists _
  iexact HW

section
variable {c : Dev nD} {arg0 : Memref sig .tc .smem S16384 .i32} {fA : Buf (Elt F) (arg0.view.loc (c : Thread nD τ))}
  {fT : S16000x5632.Idx → BitVec 32} {tokF : S16384.Idx → BitVec 32} (hf : arg0.view.read (Elt F) fA = tokF)
  {arg3 : Memref sig .tc .vmem S44x128 .f32} {fW : Buf (Elt F) (arg3.view.loc (c : Thread nD τ))} {fS : S64000.Idx → Elt F .f32}
  (harg0 : arg0.IsWhole) (harg3 : arg3.IsWhole)
  (htk : ∀ n, n < 16384 → (tkOf tokF n).toNat < 64000) (PE PO : ℕ → ℕ → ℕ → Elt F .bf16 → Prop)

/-! ## A trip of the main loop -/

set_option maxHeartbeats 4000000

/-- A computed group, beside the rest of the rings, is the state before the next trip. -/
theorem close_trip (tk : ℕ → BitVec 32) (k : ℕ) {DE DO : Stage F → Prop} (hE : ∀ f, DE f → sGood PE k f) (hO : ∀ f, DO f → sGood PO k f) :
    iprop(CRes (Cg c arg0 fA arg3 fW fS fT tk k) DE DO ∗ Beside c fT tk PE PO k) ⊢ Trip c arg0 fA arg3 fW fS fT tk PE PO (k + 1) := by
  unfold CRes Beside Trip T3
  rw [show OS c PE PO (k + 1) = iprop(Staged c PE PO k ∗ Obase c PE PO (k - 3) k (k + 1)) from rfl, show k + 1 + 63 = k + 64 by omega]
  unfold InR Staged
  rw [show k + 1 + 64 = k + 64 + 1 by omega, bigSep_Ico_succ_top (show min (k + 64) 2048 ≤ k + 64 from Nat.min_le_left _ _)]
  iintro ⟨⟨HA, HWt, HS, ⟨%fb, %hb, HB⟩, ⟨%fe, %he, HE⟩, ⟨%fo, %ho, HO⟩⟩, HW, HK, ⟨HF, HR⟩, HOb, Hqe, Hqo⟩
  ihave HN := (free_in (F := F) c fT k) $$ [HB HK]
  · isplitl [HB]
    · iexists fb; iexact HB
    iexact HK
  isplitl [HA HWt HS]
  · isplitl [HA]; · iexact HA
    isplitl [HWt]; · iexact HWt
    iexact HS
  isplitl [HW]; · iexact HW
  isplitl [HF HR HN]
  · isplitl [HF]; · iexact HF
    isplitl [HN]; · iexact HN
    iexact HR
  isplitr [HOb]
  · isplitl [HE]
    · iexists fe
      isplitr
      · ipureintro; exact hE fe he
      · iexact HE
    isplitl [HO]
    · iexists fo
      isplitr
      · ipureintro; exact hO fo ho
      · iexact HO
    isplitl [Hqe]; · iexact Hqe
    iexact Hqo
  · iexact HOb

include hf htk in
/-- A trip of the main loop: what it leaves in the staging slots is the group's two results. -/
theorem fr_t2 {wF : S44x128.Idx → F .f32} (hw : arg3.view.read (Elt F) fW = wF)
    (hPE : ∀ g r l, PE g r l ((Vk tokF fT fS wF g).t (r % 8) ((r / 8) * 128 + l))) (hPO : ∀ g r l, PO g r l ((Vk tokF fT fS wF g).u (r % 8) ((r / 8) * 128 + l))) (k0_t2 : Fin k0_t2_loop.trips) (u : Unit) :
    Trip c arg0 fA arg3 fW fS fT (tkOf tokF) PE PO k0_t2.val
      ⊢ wpK c (k0_t2_body (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 u)
        (fun _ => Trip c arg0 fA arg3 fW fS fT (tkOf tokF) PE PO (k0_t2.val + 1)) := by
  have hk : k0_t2.val < 2048 := lt_of_lt_of_eq k0_t2.isLt trips2
  have hX := reads_cg (c := c) (fS := fS) (fT := fT) hf htk hw k0_t2.val hk
  refine (vl_body k0_t2 hX harg0 harg3 u (fr_part7 hf harg0 harg3 htk PE PO k0_t2)).trans
    (wp_mono _ _ _ fun _ => close_trip PE PO (tkOf tokF) k0_t2.val (fun f hd i hi => ?_) (fun f hd i hi => ?_))
  · have hlt : (i 0).val < 1408 := (i 0).isLt
    rw [hd i hi (by show 6 * ((((i 0).val - 352 * (k0_t2.val % 4)) % 8) / 2) + (((i 0).val - 352 * (k0_t2.val % 4)) / 8) / 8 < 24; omega)]
    exact hPE _ _ _
  · have hlt : (i 0).val < 1408 := (i 0).isLt
    rw [hd i hi (by show 6 * ((((i 0).val - 352 * (k0_t2.val % 4)) % 8) / 2) + (((i 0).val - 352 * (k0_t2.val % 4)) / 8) / 8 < 24; omega)]
    exact hPO _ _ _

/-! ## The drain -/

/-- A trip of the last loop waits for a group's copies out. -/
theorem fr_t3 (k0_t3 : Fin k0_t3_loop.trips) (u : Unit) :
    iprop((∃ W, owes (c : Thread nD τ) 0 W) ∗ Obase c PE PO (2044 + k0_t3.val) 2048 2048)
      ⊢ wpK c (k0_t3_body (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t3 u)
        (fun _ => iprop((∃ W, owes (c : Thread nD τ) 0 W) ∗ Obase c PE PO (2044 + (k0_t3.val + 1)) 2048 2048)) := by
  have hk : k0_t3.val < 4 := lt_of_lt_of_eq k0_t3.isLt trips3
  have h1 : k0_off114 k0_t3 = ![(2044 + k0_t3.val) % 4] := (k0_off114_eq k0_t3).trans (vec1 (by omega))
  unfold k0_t3_body
  refine BIBase.Entails.trans ?_ (ent_bind (wt_E c PE (2044 + k0_t3.val) h1 _ _ _ _ _ _
    (R := iprop(FlO c PO (2044 + k0_t3.val) ∗ WRest c PE PO (2044 + k0_t3.val) 2048 2048))) fun _ _ => ?_)
  · iintro ⟨HW, HO⟩
    ihave H := (wait_pre (F := F) c PE PO (2044 + k0_t3.val) 2048 2048 (by omega)) $$ HO
    icases H with ⟨H1, H2, HO⟩
    isplitl [H1]; · iexact H1
    isplitl [HW]; · iexact HW
    isplitl [H2]; · iexact H2
    iexact HO
  refine BIBase.Entails.trans ?_ (ent_bind (wt_O c PO (2044 + k0_t3.val) h1 _ _ _ _ _ _
    (R := iprop(BE c PE (2044 + k0_t3.val) ∗ WRest c PE PO (2044 + k0_t3.val) 2048 2048))) fun _ _ => ?_)
  · iintro ⟨HB, HW, HF, HR⟩
    isplitl [HF]; · iexact HF
    isplitl [HW]; · iexact HW
    isplitl [HB]; · iexact HB
    iexact HR
  refine ent_ret ?_
  iintro ⟨HBO, HW, HBE, HR⟩
  isplitl [HW]; · iexact HW
  iapply (wait_post (F := F) c PE PO (2044 + k0_t3.val) 2048 2048 (by omega))
  isplitl [HBE]; · iexact HBE
  isplitl [HBO]; · iexact HBO
  iexact HR

/-! ## The whole body -/

/-- Before trip `k` of the first loop. -/
def L1 (c : Dev nD) (arg0 : Memref sig .tc .smem S16384 .i32) (fA : Buf (Elt F) (arg0.view.loc (c : Thread nD τ))) (fT : S16000x5632.Idx → BitVec 32) (tk : ℕ → BitVec 32) (k : ℕ) : sProp 𝕄 :=
  iprop((arg0.view.loc (c : Thread nD τ) ↦[arg0.view.set]{fullShare} fA)
    ∗ bigSep (Finset.Ico 0 k) (FlightIn (F := F) c fT tk) ∗ bigSep (Finset.Ico k 64) (FreeIn (F := F) c fT))

include hf htk in
theorem fr_t1' (k0_t1 : Fin k0_t1_loop.trips) (u : Unit) :
    L1 c arg0 fA fT (tkOf tokF) k0_t1.val
      ⊢ wpK c (k0_t1_body (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t1 u)
        (fun _ => L1 c arg0 fA fT (tkOf tokF) (k0_t1.val + 1)) := by
  have hk : k0_t1.val < 63 := lt_of_lt_of_eq k0_t1.isLt trips1
  refine BIBase.Entails.trans ?_ ((ent_frame (G := iprop(bigSep (Finset.Ico 0 k0_t1.val) (FlightIn (F := F) c fT (tkOf tokF)) ∗ bigSep (Finset.Ico (k0_t1.val + 1) 64) (FreeIn (F := F) c fT)))
    (fr_t1 (fT := fT) hf harg0 harg3 htk k0_t1 u hk)).trans (wp_mono _ _ _ fun _ => ?_))
  · unfold L1
    rw [bigSep_Ico_succ_bot (show k0_t1.val < 64 by omega)]
    iintro ⟨HA, HF, HN, HR⟩
    isplitl [HA HN]
    · isplitl [HA]; · iexact HA
      iexact HN
    isplitl [HF]; · iexact HF
    iexact HR
  · unfold L1
    rw [bigSep_Ico_succ_top (Nat.zero_le k0_t1.val)]
    iintro ⟨⟨HA, HN⟩, HF, HR⟩
    isplitl [HA]; · iexact HA
    isplitl [HN HF]
    · isplitl [HN]; · iexact HN
      iexact HF
    iexact HR

/-- The body's semaphores at zero. -/
def Sems (c : Dev nD) : sProp 𝕄 :=
  iprop(bigSep (Finset.Ico 0 64) (fun g => semVal ((c : Thread nD τ), SemLoc.dma (semIn (g % 64))) 0)
    ∗ bigSep (Finset.Ico 0 4) (fun g => semVal ((c : Thread nD τ), SemLoc.dma (semE (g % 4))) 0)
    ∗ bigSep (Finset.Ico 0 4) (fun g => semVal ((c : Thread nD τ), SemLoc.dma (semO (g % 4))) 0)
    ∗ semVal ((c : Thread nD τ), SemLoc.dma cc0_scratch7.sem) 0)

/-- What the body starts from. -/
def BodyIn (c : Dev nD) (arg0 : Memref sig .tc .smem S16384 .i32) (fA : Buf (Elt F) (arg0.view.loc (c : Thread nD τ)))
    (arg3 : Memref sig .tc .vmem S44x128 .f32) (fW : Buf (Elt F) (arg3.view.loc (c : Thread nD τ))) (fS : S64000.Idx → Elt F .f32)
    (fT : S16000x5632.Idx → BitVec 32) : sProp 𝕄 :=
  iprop((arg0.view.loc (c : Thread nD τ) ↦[arg0.view.set]{fullShare} fA)
    ∗ (arg3.view.loc (c : Thread nD τ) ↦[arg3.view.set]{fullShare} fW)
    ∗ ptT (F := F) c fullShare Finset.univ fT
    ∗ ((c : Thread nD τ).loc main_arg2 ↦[Finset.univ]{fullShare} fS)
    ∗ (∃ f : S64000.Idx → Elt F .f32, (c : Thread nD τ).loc cc0_scratch3 ↦[Finset.univ]{fullShare} f)
    ∗ (∃ f, ptB (F := F) c Finset.univ f) ∗ (∃ f, ptSE (F := F) c Finset.univ f) ∗ (∃ f, ptSO (F := F) c Finset.univ f)
    ∗ (∃ f, ptE (F := F) c Finset.univ f) ∗ (∃ f, ptO (F := F) c Finset.univ f)
    ∗ Sems (F := F) c ∗ (∃ W, owes (c : Thread nD τ) 0 W))

/-- What it ends at: the results hold every group. -/
def BodyOut (c : Dev nD) (arg0 : Memref sig .tc .smem S16384 .i32) (fA : Buf (Elt F) (arg0.view.loc (c : Thread nD τ)))
    (arg3 : Memref sig .tc .vmem S44x128 .f32) (fW : Buf (Elt F) (arg3.view.loc (c : Thread nD τ))) (fS : S64000.Idx → Elt F .f32)
    (fT : S16000x5632.Idx → BitVec 32) (PE PO : ℕ → ℕ → ℕ → Elt F .bf16 → Prop) : sProp 𝕄 :=
  iprop((arg0.view.loc (c : Thread nD τ) ↦[arg0.view.set]{fullShare} fA)
    ∗ (arg3.view.loc (c : Thread nD τ) ↦[arg3.view.set]{fullShare} fW)
    ∗ ptT (F := F) c fullShare Finset.univ fT
    ∗ ((c : Thread nD τ).loc main_arg2 ↦[Finset.univ]{fullShare} fS)
    ∗ (∃ f : S64000.Idx → Elt F .f32, (c : Thread nD τ).loc cc0_scratch3 ↦[Finset.univ]{fullShare} f)
    ∗ (∃ f, ptB (F := F) c Finset.univ f) ∗ (∃ f, ptSE (F := F) c Finset.univ f) ∗ (∃ f, ptSO (F := F) c Finset.univ f)
    ∗ (∃ f, ⌜∀ g ∈ Finset.Ico 0 2048, oGood PE g f⌝ ∗ ptE c Finset.univ f) ∗ (∃ f, ⌜∀ g ∈ Finset.Ico 0 2048, oGood PO g f⌝ ∗ ptO c Finset.univ f)
    ∗ Sems (F := F) c ∗ (∃ W, owes (c : Thread nD τ) 0 W))

include hf htk in
/-- The body's run, from the run of a trip of its main loop. -/
theorem fr_kernel (f₀ : Elt F .bf16)
    (h2 : ∀ (k0_t2 : Fin k0_t2_loop.trips) (u : Unit), Trip c arg0 fA arg3 fW fS fT (tkOf tokF) PE PO k0_t2.val
      ⊢ wpK c (k0_t2_body (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 u)
        (fun _ => Trip c arg0 fA arg3 fW fS fT (tkOf tokF) PE PO (k0_t2.val + 1))) :
    BodyIn c arg0 fA arg3 fW fS fT
      ⊢ wpK c (cc0_embed_rmsnorm (F := F) arg0 harg0 (Memref.whole main_v3) (Memref.isWhole_whole _) (Memref.whole main_arg2) (Memref.isWhole_whole _) arg3 harg3 (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7)
        (fun _ => BodyOut c arg0 fA arg3 fW fS fT PE PO) := by
  rw [cc0_embed_rmsnorm_eq_skeleton]
  unfold cc0_embed_rmsnorm_skel
  refine BIBase.Entails.trans ?_ (ent_bind' (ent_frame (fr_scale c fS _ _ _)
    (G := iprop(L1 c arg0 fA fT (tkOf tokF) 0 ∗ (arg3.view.loc (c : Thread nD τ) ↦[arg3.view.set]{fullShare} fW) ∗ Obase c PE PO 0 0 0 ∗ (∃ W, owes (c : Thread nD τ) 0 W)))) fun _ => ?_)
  · unfold BodyIn Sems L1
    iintro ⟨HA, HWt, HT, H2, H3, HB, HSE, HSO, HE, HO, ⟨HqI, HqE, HqO, HqS⟩, HW⟩
    ihave HIn := (in_open (F := F) c fT) $$ [HqI HB HT]
    · isplitl [HqI]; · iexact HqI
      isplitl [HB]; · iexact HB
      iexact HT
    ihave HOut := (out_open (F := F) c PE PO) $$ [HSE HSO HE HO HqE HqO]
    · isplitl [HSE]; · iexact HSE
      isplitl [HSO]; · iexact HSO
      isplitl [HE]; · iexact HE
      isplitl [HO]; · iexact HO
      isplitl [HqE]; · iexact HqE
      iexact HqO
    isplitl [H2 H3 HqS]
    · isplitl [H2]; · iexact H2
      isplitl [H3]; · iexact H3
      iexact HqS
    isplitl [HA HIn]
    · isplitl [HA]; · iexact HA
      isplitr
      · rw [Finset.Ico_self, bigSep_empty]; iempintro
      iexact HIn
    isplitl [HWt]; · iexact HWt
    isplitl [HOut]; · iexact HOut
    iexact HW
  refine BIBase.Entails.trans ?_ (ent_bind' (ent_frame (ent_loop k0_t1_loop k0_t1_ok _ _ (L1 c arg0 fA fT (tkOf tokF)) 63 trips1 (fr_t1' hf harg0 harg3 htk))
    (G := iprop(FlS c fS ∗ (arg3.view.loc (c : Thread nD τ) ↦[arg3.view.set]{fullShare} fW) ∗ Obase c PE PO 0 0 0 ∗ (∃ W, owes (c : Thread nD τ) 0 W)))) fun _ => ?_)
  · iintro ⟨HF, HL, HR⟩
    isplitl [HL]; · iexact HL
    isplitl [HF]; · iexact HF
    iexact HR
  refine BIBase.Entails.trans ?_ (ent_bind' (ent_frame (fr_scalewait c fS _ _)
    (G := iprop(L1 c arg0 fA fT (tkOf tokF) 63 ∗ (arg3.view.loc (c : Thread nD τ) ↦[arg3.view.set]{fullShare} fW) ∗ Obase c PE PO 0 0 0))) fun _ => ?_)
  · iintro ⟨HL, HF, HWt, HO, HW⟩
    isplitl [HF HW]
    · isplitl [HF]; · iexact HF
      iexact HW
    isplitl [HL]; · iexact HL
    isplitl [HWt]; · iexact HWt
    iexact HO
  refine BIBase.Entails.trans ?_ (ent_bind' (ent_frame (ent_loop k0_t2_loop k0_t2_ok _ _ (Trip c arg0 fA arg3 fW fS fT (tkOf tokF) PE PO) 2048 trips2 h2)
    (G := iprop(((c : Thread nD τ).loc main_arg2 ↦[Finset.univ]{fullShare} fS) ∗ semVal ((c : Thread nD τ), SemLoc.dma cc0_scratch7.sem) 0))) fun _ => ?_)
  · unfold L1 Trip T3 InR
    rw [show OS c PE PO 0 = Obase c PE PO 0 0 0 from rfl, show min (0 + 63) 2048 = 63 by omega, show 0 + 64 = 64 by omega]
    iintro ⟨⟨⟨HS, H2⟩, HqS, HW⟩, ⟨HA, HF, HR⟩, HWt, HO⟩
    isplitr [H2 HqS]
    · isplitl [HA HWt HS]
      · isplitl [HA]; · iexact HA
        isplitl [HWt]; · iexact HWt
        iexact HS
      isplitl [HW]; · iexact HW
      isplitl [HF HR]
      · isplitl [HF]; · iexact HF
        iexact HR
      iexact HO
    isplitl [H2]; · iexact H2
    iexact HqS
  refine BIBase.Entails.trans ?_ (ent_bind (st_E c PE 2047 (R := iprop(AO c PO 2047 ∗ SRest c PE PO 2044 2047 2048
      ∗ T3 c arg0 fA arg3 fW fS ∗ (∃ W, owes (c : Thread nD τ) 0 W) ∗ InR (F := F) c fT (tkOf tokF) 2048 2048
      ∗ ((c : Thread nD τ).loc main_arg2 ↦[Finset.univ]{fullShare} fS) ∗ semVal ((c : Thread nD τ), SemLoc.dma cc0_scratch7.sem) 0))
    k0_off112_eq rfl k0_off113_eq _ _ _ _ _ _ _ _ _ _ _) fun _ _ => ?_)
  · unfold Trip
    rw [show OS c PE PO 2048 = iprop(Staged c PE PO 2047 ∗ Obase c PE PO 2044 2047 2048) from rfl, show min (2048 + 63) 2048 = 2048 by omega]
    iintro ⟨⟨H3, HW, HIn, HO⟩, H2, HqS⟩
    ihave H := (start_pre (F := F) c PE PO 2044 2047 2048 (by omega)) $$ HO
    icases H with ⟨HE, HO, HR⟩
    isplitl [HE]; · iexact HE
    isplitl [HO]; · iexact HO
    isplitl [HR]; · iexact HR
    isplitl [H3]; · iexact H3
    isplitl [HW]; · iexact HW
    isplitl [HIn]; · iexact HIn
    isplitl [H2]; · iexact H2
    iexact HqS
  refine BIBase.Entails.trans ?_ (ent_bind (st_O c PO 2047 (R := iprop(FlE c PE 2047 ∗ SRest c PE PO 2044 2047 2048
      ∗ T3 c arg0 fA arg3 fW fS ∗ (∃ W, owes (c : Thread nD τ) 0 W) ∗ InR (F := F) c fT (tkOf tokF) 2048 2048
      ∗ ((c : Thread nD τ).loc main_arg2 ↦[Finset.univ]{fullShare} fS) ∗ semVal ((c : Thread nD τ), SemLoc.dma cc0_scratch7.sem) 0))
    k0_off112_eq rfl k0_off113_eq _ _ _ _ _ _ _ _ _ _ _) fun _ _ => ?_)
  · iintro ⟨HE, HO, HR⟩
    isplitl [HO]; · iexact HO
    isplitl [HE]; · iexact HE
    iexact HR
  refine BIBase.Entails.trans ?_ (ent_bind' (ent_frame (ent_loop k0_t3_loop k0_t3_ok _ _ (fun t => iprop((∃ W, owes (c : Thread nD τ) 0 W) ∗ Obase c PE PO (2044 + t) 2048 2048)) 4 trips3 (fr_t3 harg0 harg3 PE PO))
    (G := iprop(T3 c arg0 fA arg3 fW fS ∗ InR (F := F) c fT (tkOf tokF) 2048 2048
      ∗ ((c : Thread nD τ).loc main_arg2 ↦[Finset.univ]{fullShare} fS) ∗ semVal ((c : Thread nD τ), SemLoc.dma cc0_scratch7.sem) 0))) fun _ => ?_)
  · iintro ⟨HFO, HFE, HR, H3, HW, HIn, H2, HqS⟩
    isplitl [HFO HFE HR HW]
    · isplitl [HW]; · iexact HW
      iapply (start_post (F := F) c PE PO 2044 2047 2048 (by omega))
      isplitl [HFE]; · iexact HFE
      isplitl [HFO]; · iexact HFO
      iexact HR
    isplitl [H3]; · iexact H3
    isplitl [HIn]; · iexact HIn
    isplitl [H2]; · iexact H2
    iexact HqS
  refine ent_ret ?_
  unfold BodyOut T3 InR Sems
  rw [show 2044 + 4 = 2048 by omega]
  iintro ⟨⟨HW, HO⟩, ⟨HA, HWt, HS⟩, ⟨-, HIn⟩, H2, HqS⟩
  ihave HIn' := (in_close (F := F) c fT 2048 (by omega)) $$ HIn
  ihave HO' := (out_close (F := F) c PE PO f₀) $$ HO
  icases HIn' with ⟨HqI, HB, HT⟩
  icases HO' with ⟨HSE, HSO, HE, HO, HqE, HqO⟩
  isplitl [HA]; · iexact HA
  isplitl [HWt]; · iexact HWt
  isplitl [HT]; · iexact HT
  isplitl [H2]; · iexact H2
  isplitl [HS]; · iexists fS; iexact HS
  isplitl [HB]; · iexact HB
  isplitl [HSE]; · iexact HSE
  isplitl [HSO]; · iexact HSO
  isplitl [HE]; · iexact HE
  isplitl [HO]; · iexact HO
  isplitr [HW]
  · isplitl [HqI]; · iexact HqI
    isplitl [HqE]; · iexact HqE
    isplitl [HqO]; · iexact HqO
    iexact HqS
  iexact HW
end

end Cert.KernelIdeal.Hand
-- ==== Proof.KI.Launch.lean ====
/-
  The region around the body: what the launch hands the body, cell by cell and buffer by buffer, and the body's run from it.
-/
module

public import proofs.«01_k».proof.Proof.Gen.KernelIdeal.Frame
public import Idealize.ShloMosaic.Lib.Pipeline.FrameBody
public import Idealize.ShloMosaic.Lib.Pipeline.FrameSuffixV
public import proofs.«01_k».proof.Proof.KI.Body

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The body's own cells and buffers -/

/-- The body's own semaphores: every one but the two staging ones. -/
abbrev osem0 : Fin 73 → SemLoc sig := fun j => .dma ⟨2 + j.val, by have := j.isLt; show _ < 75; omega⟩
theorem ownSemFacts0 : Pipeline.OwnSemFacts spec0 osem0 := by decide +kernel

/-- The semaphore of a number. -/
def dcell (s : ℕ) : DmaSem sig := ⟨(2 + s) % 75, by show _ < 75; exact Nat.mod_lt _ (by decide)⟩
theorem dcell_in (g : ℕ) (h : g < 64) : dcell g = semIn (g % 64) := by
  apply Fin.ext; show (2 + g) % 75 = 2 + g % 64 % 64; omega
theorem dcell_E (g : ℕ) (h : g < 4) : dcell (64 + g) = semE (g % 4) := by
  apply Fin.ext; show (2 + (64 + g)) % 75 = 66 + g % 4 % 4; omega
theorem dcell_O (g : ℕ) (h : g < 4) : dcell (68 + g) = semO (g % 4) := by
  apply Fin.ext; show (2 + (68 + g)) % 75 = 70 + g % 4 % 4; omega
theorem dcell_S : dcell 72 = cc0_scratch7.sem := by decide +kernel

theorem ownSems_eq (c : Dev nD) :
    (Pipeline.ownSems0 (Ix := Unit) (Name := ℕ) (U := Pipeline.UD sig nD τ) (Lvl := ℕ) (Val := Elt F) (τ := τ) osem0 c : sProp 𝕄)
      = Sems (F := F) c := by
  have e1 : (Pipeline.ownSems0 (Ix := Unit) (Name := ℕ) (U := Pipeline.UD sig nD τ) (Lvl := ℕ) (Val := Elt F) (τ := τ) osem0 c : sProp 𝕄)
      = bigSep (Finset.Ico 0 73) (fun g => semVal ((c : Thread nD τ), SemLoc.dma (dcell g)) 0) := by
    have hm : Finset.Ico 0 73 = (Finset.univ : Finset (Fin 73)).map Fin.valEmbedding := by decide +kernel
    rw [hm, bigSep_map]
    unfold Pipeline.ownSems0
    refine BI.bigSep_congr fun j _ => ?_
    have hj : (osem0 j) = SemLoc.dma (dcell (Fin.valEmbedding j)) := by
      show SemLoc.dma _ = SemLoc.dma _
      congr 1
      apply Fin.ext
      show 2 + j.val = (2 + j.val) % 75
      have := j.isLt
      omega
    rw [hj]
  rw [e1, sep_consec (show 0 ≤ 64 by omega) (show 64 ≤ 73 by omega), sep_consec (show 64 ≤ 68 by omega) (show 68 ≤ 73 by omega),
    sep_consec (show 68 ≤ 72 by omega) (show 72 ≤ 73 by omega)]
  have a1 : (bigSep (Finset.Ico 0 64) (fun g => semVal ((c : Thread nD τ), SemLoc.dma (dcell g)) 0) : sProp 𝕄)
      = bigSep (Finset.Ico 0 64) (fun g => semVal ((c : Thread nD τ), SemLoc.dma (semIn (g % 64))) 0) :=
    BI.bigSep_congr fun g hg => by rw [dcell_in g (Finset.mem_Ico.mp hg).2]
  have a2 : (bigSep (Finset.Ico 64 68) (fun g => semVal ((c : Thread nD τ), SemLoc.dma (dcell g)) 0) : sProp 𝕄)
      = bigSep (Finset.Ico 0 4) (fun g => semVal ((c : Thread nD τ), SemLoc.dma (semE (g % 4))) 0) :=
    (sep_shift 64 4 _).trans (BI.bigSep_congr fun g hg => by rw [dcell_E g (Finset.mem_Ico.mp hg).2])
  have a3 : (bigSep (Finset.Ico 68 72) (fun g => semVal ((c : Thread nD τ), SemLoc.dma (dcell g)) 0) : sProp 𝕄)
      = bigSep (Finset.Ico 0 4) (fun g => semVal ((c : Thread nD τ), SemLoc.dma (semO (g % 4))) 0) :=
    (sep_shift 68 4 _).trans (BI.bigSep_congr fun g hg => by rw [dcell_O g (Finset.mem_Ico.mp hg).2])
  have a4 : (bigSep (Finset.Ico 72 73) (fun g => semVal ((c : Thread nD τ), SemLoc.dma (dcell g)) 0) : sProp 𝕄)
      = semVal ((c : Thread nD τ), SemLoc.dma cc0_scratch7.sem) 0 := by
    rw [show Finset.Ico 72 73 = {72} by decide, bigSep_singleton, dcell_S]
  rw [a1, a2, a3, a4]
  rfl

/-- The operands the body's copies read, and those they write. -/
def H0 : Finset (Ref sig .tc) := {main_v3, main_arg2}
def R0 : Finset (Ref sig .tc) := {main_v6_0, main_v6_1}
theorem H0_sub : H0 ⊆ Pipeline.restRefs sig spec0 := by decide
theorem R0_sub : R0 ⊆ Pipeline.restRefs sig spec0 \ H0 := by decide

theorem hbmPts0_eq (c : Dev nD) (V : (b : Ref sig .tc) → Buf (Elt F) ((c : Thread nD τ).loc b)) :
    (bigSep H0 (fun b => ((c : Thread nD τ).loc b) ↦{fullShare} V b) : sProp 𝕄)
      = iprop((((c : Thread nD τ).loc main_v3) ↦{fullShare} V main_v3) ∗ (((c : Thread nD τ).loc main_arg2) ↦{fullShare} V main_arg2)) := by
  rw [BI.bigSep_eq_bigSepL_of_eq [main_v3, main_arg2] (by decide) (by decide)]; rfl
theorem resPts0_eq (c : Dev nD) (V : (b : Ref sig .tc) → Buf (Elt F) ((c : Thread nD τ).loc b)) :
    (bigSep R0 (fun b => ((c : Thread nD τ).loc b) ↦{fullShare} V b) : sProp 𝕄)
      = iprop((((c : Thread nD τ).loc main_v6_0) ↦{fullShare} V main_v6_0) ∗ (((c : Thread nD τ).loc main_v6_1) ↦{fullShare} V main_v6_1)) := by
  rw [BI.bigSep_eq_bigSepL_of_eq [main_v6_0, main_v6_1] (by decide) (by decide)]; rfl
/-! ## @main around the region, at this algebra -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The token array as the region finds it: the argument's words. -/
theorem V_tokens (c : Dev nD) :
    V m c main_v0 = (shapeCast S16384 (m ((c : Thread nD τ).loc main_arg0)) shapeCasts_S2x8192_S16384 : S16384.Idx → BitVec 32) := by
  show StableHlo.after hostOps0 _ (Proc.devRef .tc main_v0) = _
  after_results
  rfl

/-- A window's block holds only its array's words. -/
theorem iblk_range {c : Dev nD} (h : ∀ x, (m ((c : Thread nD τ).loc main_arg0) x : BitVec 32).toNat < 64000) (t : Fin cfg0.N) (n : ℕ) (hn : n < 16384) :
    (tkOf (iblk m c 0 t : S16384.Idx → BitVec 32) n).toNat < 64000 := by
  have hx : ∀ y : S16384.Idx, ((iblk m c 0 t : S16384.Idx → BitVec 32) y).toNat < 64000 := by
    intro y
    show ((V m c main_v0 : S16384.Idx → BitVec 32) _).toNat < 64000
    rw [V_tokens]
    exact h _
  unfold tkOf
  first
  | exact hx _
  | (split
     · exact hx _
     · exact hx _)
  | (rw [dif_pos hn]; exact hx _)

/-! ## The windows -/

theorem beforeD0_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD0_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The current staging memrefs. -/
abbrev ms0_0 (t : Fin cfg0.N) : Memref sig .tc .smem S16384 .i32 := win0_0.stage (cfg0.slots t 0)
abbrev ms0_1 (t : Fin cfg0.N) : Memref sig .tc .vmem S44x128 .f32 := win0_1.stage (cfg0.slots t 1)

/-! ## The body's run at a point -/

/-- What the point starts from, beside the pipeline's own: the scoped buffers at anything, the cells at zero, the operands
    the copies read, the results at anything, the windows' blocks, no debt. -/
def PtIn (c : Dev nD) (t : Fin cfg0.N) : sProp 𝕄 :=
  iprop(Pipeline.scopedRest (Ix := Unit) (Name := ℕ) (U := Pipeline.UD sig nD τ) (Lvl := ℕ) (Val := Elt F) spec0 c
    ∗ Pipeline.ownSems0 (Ix := Unit) (Name := ℕ) (U := Pipeline.UD sig nD τ) (Lvl := ℕ) (Val := Elt F) (τ := τ) osem0 c
    ∗ bigSep H0 (fun b => ((c : Thread nD τ).loc b) ↦{fullShare} V m c b)
    ∗ (∃ f, ((c : Thread nD τ).loc main_v6_0) ↦{fullShare} f) ∗ (∃ f, ((c : Thread nD τ).loc main_v6_1) ↦{fullShare} f)
    ∗ owns (c : Thread nD τ) (ms0_0 t) fullShare (iblk m c 0 t) ∗ owns (c : Thread nD τ) (ms0_1 t) fullShare (iblk m c 1 t)
    ∗ (∃ W, owes (c : Thread nD τ) 0 W))

/-- What it ends at: the same, with the results holding every group. -/
def PtOut (c : Dev nD) (t : Fin cfg0.N) (PE PO : ℕ → ℕ → ℕ → Elt F .bf16 → Prop) : sProp 𝕄 :=
  iprop(Pipeline.scopedRest (Ix := Unit) (Name := ℕ) (U := Pipeline.UD sig nD τ) (Lvl := ℕ) (Val := Elt F) spec0 c
    ∗ Pipeline.ownSems0 (Ix := Unit) (Name := ℕ) (U := Pipeline.UD sig nD τ) (Lvl := ℕ) (Val := Elt F) (τ := τ) osem0 c
    ∗ bigSep H0 (fun b => ((c : Thread nD τ).loc b) ↦{fullShare} V m c b)
    ∗ (∃ f, ⌜∀ g ∈ Finset.Ico 0 2048, oGood PO g f⌝ ∗ ((c : Thread nD τ).loc main_v6_0) ↦{fullShare} f)
    ∗ (∃ f, ⌜∀ g ∈ Finset.Ico 0 2048, oGood PE g f⌝ ∗ ((c : Thread nD τ).loc main_v6_1) ↦{fullShare} f)
    ∗ owns (c : Thread nD τ) (ms0_0 t) fullShare (iblk m c 0 t) ∗ owns (c : Thread nD τ) (ms0_1 t) fullShare (iblk m c 1 t)
    ∗ (∃ W, owes (c : Thread nD τ) 0 W))

/-- The run of a trip of the main loop, whatever the staging buffers the windows are on. -/
abbrev TripRuns (c : Dev nD) (t : Fin cfg0.N) (PE PO : ℕ → ℕ → ℕ → Elt F .bf16 → Prop) : Prop :=
  ∀ (fA : Buf (Elt F) ((ms0_0 t).view.loc (c : Thread nD τ))) (fW : Buf (Elt F) ((ms0_1 t).view.loc (c : Thread nD τ))),
    (ms0_0 t).view.read (Elt F) fA = iblk m c 0 t → (ms0_1 t).view.read (Elt F) fW = iblk m c 1 t →
    ∀ (k0_t2 : Fin k0_t2_loop.trips) (u : Unit), Trip c (ms0_0 t) fA (ms0_1 t) fW (V m c main_arg2) (V m c main_v3) (tkOf (iblk m c 0 t : S16384.Idx → BitVec 32)) PE PO k0_t2.val
      ⊢ wpK c (k0_t2_body (F := F) (ms0_0 t) (hstage0_0 0) (Memref.whole main_v3) (Memref.isWhole_whole _) (Memref.whole main_arg2) (Memref.isWhole_whole _) (ms0_1 t) (hstage0_1 0) (Memref.whole main_v6_0) (Memref.isWhole_whole _) (Memref.whole main_v6_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_t2 u)
        (fun _ => Trip c (ms0_0 t) fA (ms0_1 t) fW (V m c main_arg2) (V m c main_v3) (tkOf (iblk m c 0 t : S16384.Idx → BitVec 32)) PE PO (k0_t2.val + 1))

theorem run_point (c : Dev nD) (t : Fin cfg0.N) (PE PO : ℕ → ℕ → ℕ → Elt F .bf16 → Prop)
    (h : ∀ x, (m ((c : Thread nD τ).loc main_arg0) x : BitVec 32).toNat < 64000) (h2 : TripRuns m c t PE PO) :
    PtIn m c t ⊢ wpK c (bodyAt0 t) (fun _ => PtOut m c t PE PO) := by
  unfold PtIn
  rw [scopedRest0_eq, ownSems_eq, hbmPts0_eq]
  unfold owns
  iintro ⟨⟨HB, HSE, HSO, HS⟩, Hq, ⟨HT, H2⟩, HO, HE, ⟨%fA, %hA, HA⟩, ⟨%fW, %hW, HWt⟩, HW⟩
  have f₀ : Elt F .bf16 := (V m c main_v6_0 : S2048x44x8x128.Idx → Elt F .bf16) (ix4 (0 : Fin 2048) (0 : Fin 44) (0 : Fin 8) (0 : Fin 128))
  have hk := fr_kernel (c := c) (arg0 := ms0_0 t) (arg3 := ms0_1 t) (tokF := (iblk m c 0 t : S16384.Idx → BitVec 32)) (fA := fA) (fW := fW) (fT := V m c main_v3) (fS := V m c main_arg2) hA (hstage0_0 0) (hstage0_1 0)
    (fun n hn => iblk_range m h t n hn) PE PO f₀ (h2 fA fW hA hW)
  have hk' := hk.trans (wp_mono _ _ _ fun _ => (show BodyOut c (ms0_0 t) fA (ms0_1 t) fW (V m c main_arg2) (V m c main_v3) PE PO ⊢ PtOut m c t PE PO from by
    unfold BodyOut PtOut
    rw [scopedRest0_eq, ownSems_eq, hbmPts0_eq]
    unfold owns
    iintro ⟨HA, HWt, HT, H2, HS, HB, HSE, HSO, HE, HO, Hq, HW⟩
    isplitl [HB HSE HSO HS]
    · isplitl [HB]; · iexact HB
      isplitl [HSE]; · iexact HSE
      isplitl [HSO]; · iexact HSO
      iexact HS
    isplitl [Hq]; · iexact Hq
    isplitl [HT H2]
    · isplitl [HT]; · iexact HT
      iexact H2
    isplitl [HO]; · iexact HO
    isplitl [HE]; · iexact HE
    isplitl [HA]
    · iexists fA; isplitr; swap; · iexact HA
      ipureintro; exact hA
    isplitl [HWt]
    · iexists fW; isplitr; swap; · iexact HWt
      ipureintro; exact hW
    iexact HW))
  iapply hk'
  unfold BodyIn
  isplitl [HA]; · iexact HA
  isplitl [HWt]; · iexact HWt
  isplitl [HT]; · iexact HT
  isplitl [H2]; · iexact H2
  isplitl [HS]; · iexact HS
  isplitl [HB]; · iexact HB
  isplitl [HSE]; · iexact HSE
  isplitl [HSO]; · iexact HSO
  isplitl [HE]; · iexact HE
  isplitl [HO]; · iexact HO
  isplitl [Hq]; · iexact Hq
  iexact HW

theorem defs₀_row (t : Fin cfg0.N) :
    defs₀ (F := F) .tc cfg0.body (cfg0.bodyArgs t (cfg0.slots t)) = bodyAt0 t := by
  unfold defs₀; rw [Defs.onTc_tc]

end Cert.KernelIdeal.Hand
-- ==== Proof.KI.Frame.lean ====
/-
  The ideal kernel's run with its results' values: after the region the two result arrays hold, group by group, the
  normed and the dequantized rows; the host lines then rearrange them.
-/
module

public import proofs.«01_k».proof.Proof.Gen.KernelIdeal.Frame
public import Idealize.ShloMosaic.Lib.Pipeline.FrameBody
public import Idealize.ShloMosaic.Lib.Pipeline.FrameSuffixV
public import proofs.«01_k».proof.Proof.KI.Launch

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The grid's only point. -/
def pt0 : Fin cfg0.N := ⟨0, by decide⟩

/-- Group `k`'s values in this run. -/
def Vm (c : Dev nD) (k : ℕ) : Vl F := Vk (iblk m c 0 pt0 : S16384.Idx → BitVec 32) (V m c main_v3) (V m c main_arg2) (iblk m c 1 pt0 : S44x128.Idx → F .f32) k

/-- The two results as the region leaves them. -/
def gE (c : Dev nD) : S2048x44x8x128.Idx → F .bf16 := fun i => (Vm m c (i 0).val).t (i 2).val ((i 1).val * 128 + (i 3).val)
def gO (c : Dev nD) : S2048x44x8x128.Idx → F .bf16 := fun i => (Vm m c (i 0).val).u (i 2).val ((i 1).val * 128 + (i 3).val)

def GV (c : Dev nD) (b : Ref sig .tc) : Buf (Elt F) ((c.tc : Thread nD τ).loc b) :=
  if h : b = main_v6_0 then h ▸ (gO m c : Buf (Elt F) ((c.tc : Thread nD τ).loc main_v6_0))
  else if h : b = main_v6_1 then h ▸ (gE m c : Buf (Elt F) ((c.tc : Thread nD τ).loc main_v6_1)) else V m c b

theorem GV_0 (c : Dev nD) : GV m c main_v6_0 = gO m c := by unfold GV; rw [dif_pos rfl]
theorem GV_1 (c : Dev nD) : GV m c main_v6_1 = gE m c := by unfold GV; rw [dif_neg (by decide), dif_pos rfl]

def PEv (c : Dev nD) : ℕ → ℕ → ℕ → Elt F .bf16 → Prop := fun g r l v => v = (Vm m c g).t (r % 8) ((r / 8) * 128 + l)
def POv (c : Dev nD) : ℕ → ℕ → ℕ → Elt F .bf16 → Prop := fun g r l v => v = (Vm m c g).u (r % 8) ((r / 8) * 128 + l)

theorem good_eq {T : ℕ → ℕ → ℕ → F .bf16} {f : S2048x44x8x128.Idx → Elt F .bf16}
    (h : ∀ g ∈ Finset.Ico 0 2048, oGood (fun g r l v => v = T g (r % 8) ((r / 8) * 128 + l)) g f) :
    f = fun i => T (i 0).val (i 2).val ((i 1).val * 128 + (i 3).val) := by
  funext i
  have h0 : (i 0).val < 2048 := (i 0).isLt
  have h2 : (i 2).val < 8 := (i 2).isLt
  have e : f i = T (i 0).val ((8 * (i 1).val + (i 2).val) % 8) (((8 * (i 1).val + (i 2).val) / 8) * 128 + (i 3).val) :=
    h (i 0).val (Finset.mem_Ico.mpr ⟨Nat.zero_le _, h0⟩) i rfl
  rw [e, show (8 * (i 1).val + (i 2).val) % 8 = (i 2).val by omega, show (8 * (i 1).val + (i 2).val) / 8 = (i 1).val by omega]

/-- The proof data: the region's entry contents before the point, the results' values after it. -/
def datsV (_ : Fin 1) (c : Dev nD) : Dat τ (Elt F) Unit ℕ (Pipeline.UD sig nD τ) ℕ cfg0 c where
  A w := V m c (Pipeline.arrRef spec0 w)
  after
    | 0, t => iblk m c 0 t
    | 1, t => iblk m c 1 t
  Φ t := Pipeline.ΦDRV osem0 spec0 H0 R0 (V m) (if t.val = 0 then V m else GV m) c
  q _ := fullShare
  owed _ := 0

theorem A_eqV (c : Dev nD) (w : Fin cfg0.W) : (datsV m 0 c).A w = V m c (Pipeline.arrRef spec0 w) := by
  dsimp only [datsV]

def bodyPreV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d)))
def bodyPostV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t))

theorem pt_eq (t : Fin cfg0.N) : t = pt0 := by
  have h : t.val < 1 := t.isLt
  apply Fin.ext; show t.val = 0; omega

variable (hm : ∀ (c : Dev nD) x, (m ((c : Thread nD τ).loc main_arg0) x : BitVec 32).toNat < 64000)

include hm in
theorem trips_runV (c : Dev nD) (t : Fin cfg0.N) : TripRuns m c t (PEv m c) (POv m c) := fun fA fW hA hW k0_t2 u =>
  fr_t2 hA (hstage0_0 0) (hstage0_1 0) (fun n hn => iblk_range m (hm c) t n hn) (PEv m c) (POv m c) hW
    (fun _ _ _ => by rw [pt_eq t]; exact rfl) (fun _ _ _ => by rw [pt_eq t]; exact rfl) k0_t2 u

include hm in
theorem sound_bodyV (c : Dev nD) (t : Fin cfg0.N) :
    bodyPreV m c t ⊢ wp frame (wpE (defs₀ (F := F)) Variants.none c none) Set.univ (bodyAt0 t) (fun _ => bodyPostV m c t) := by
  have ht : t.val = 0 := by rw [pt_eq t]; rfl
  unfold bodyPreV bodyPostV
  rw [show (datsV m 0 c).Φ t.succ = Pipeline.ΦDRV osem0 spec0 H0 R0 (V m) (GV m) c from by
      show Pipeline.ΦDRV osem0 spec0 H0 R0 (V m) (if t.val + 1 = 0 then V m else GV m) c = _
      rw [if_neg (by omega)],
    show (datsV m 0 c).Φ t.castSucc = Pipeline.ΦDRV osem0 spec0 H0 R0 (V m) (V m) c from by
      show Pipeline.ΦDRV osem0 spec0 H0 R0 (V m) (if t.val = 0 then V m else GV m) c = _
      rw [if_pos ht]]
  unfold Pipeline.ΦDRV
  rw [resPts0_eq, resPts0_eq, GV_0, GV_1]
  unfold Dat.owesAt Pipeline.owesWithin
  rw [show (datsV m 0 c).owed t.castSucc = 0 from rfl, show (datsV m 0 c).owed t.succ = 0 from rfl,
    show (datsV m 0 c).after 0 t = iblk m c 0 t from rfl, show (datsV m 0 c).after 1 t = iblk m c 1 t from rfl]
  have hpost : PtOut m c t (PEv m c) (POv m c) ⊢ iprop((Pipeline.scopedRest (Ix := Unit) (Name := ℕ) (U := Pipeline.UD sig nD τ) (Lvl := ℕ) (Val := Elt F) spec0 c
      ∗ Pipeline.ownSems0 (Ix := Unit) (Name := ℕ) (U := Pipeline.UD sig nD τ) (Lvl := ℕ) (Val := Elt F) (τ := τ) osem0 c
      ∗ (bigSep H0 fun b => ((c : Thread nD τ).loc b) ↦{fullShare} V m c b)
      ∗ (((c : Thread nD τ).loc main_v6_0) ↦{fullShare} gO m c) ∗ (((c : Thread nD τ).loc main_v6_1) ↦{fullShare} gE m c))
      ∗ (∃ W, owes (c : Thread nD τ) 0 W)
      ∗ owns (c : Thread nD τ) (ms0_0 t) fullShare (iblk m c 0 t) ∗ owns (c : Thread nD τ) (ms0_1 t) fullShare (iblk m c 1 t)) := by
    unfold PtOut
    iintro ⟨HS, Hq, HH, ⟨%fo, %ho, HO⟩, ⟨%fe, %he, HE⟩, H0, H1, HW⟩
    have eo : fo = gO m c := good_eq ho
    have ee : fe = gE m c := good_eq he
    subst eo
    subst ee
    isplitl [HS Hq HH HO HE]
    · isplitl [HS]; · iexact HS
      isplitl [Hq]; · iexact Hq
      isplitl [HH]; · iexact HH
      isplitl [HO]; · iexact HO
      iexact HE
    isplitl [HW]; · iexact HW
    isplitl [H0]; · iexact H0
    iexact H1
  have hk := (run_point m c t (PEv m c) (POv m c) (hm c) (trips_runV m hm c t)).trans (wp_mono _ _ _ fun _ => hpost)
  refine BIBase.Entails.trans ?_ (hk.trans (wp_mono _ _ _ fun _ => ?_))
  · unfold PtIn
    iintro ⟨⟨HS, Hq, HH, HO, HE⟩, ⟨%W, -, HW⟩, ⟨%d0, H0⟩, ⟨%d1, H1⟩⟩
    rw [beforeD0_0 m (datsV m 0 c) (A_eqV m c 0) (fun _ => rfl) t d0, beforeD0_1 m (datsV m 0 c) (A_eqV m c 1) (fun _ => rfl) t d1]
    isplitl [HS]; · iexact HS
    isplitl [Hq]; · iexact Hq
    isplitl [HH]; · iexact HH
    isplitl [HO]; · iexists _; iexact HO
    isplitl [HE]; · iexists _; iexact HE
    isplitl [H0]; · iexact H0
    isplitl [H1]; · iexact H1
    iexists W; iexact HW
  · iintro ⟨HP, ⟨%W', HW'⟩, HR⟩
    isplitl [HP]; · iexact HP
    isplitl [HW']
    · iexists W'; isplitr; · ipureintro; exact fun _ _ => Or.inl trivial
      iexact HW'
    iexact HR

include hm in
theorem body_obligationV (c : Dev nD) : BodyObligation (datsV (F := F) m 0 c) (defs₀ (F := F)) Variants.none () Set.univ := fun t => by
  rw [bigSep_W0, bigSep_W0, defs₀_row]
  exact triple_restated (sound_bodyV m hm c t) rfl .rfl fun _ => .rfl

/-- The buffers as the lines after the region find them. -/
def VG (c : Dev nD) : Valuation τ sig (Elt F) :=
  Pipeline.withArrays spec0 c (Pipeline.withR (V0 m c) R0 c (GV m c)) fun w => (datsV m 0 c).arrAt w cfg0.N

include hm in
set_option backward.isDefEq.respectTransparency.types false in
theorem run_mainV : θ_run defs (onTc (τ := τ) (main (F := F))) (s₀ m ρ) (fun r => (∀ c : Dev nD, ∀ b ∈ Pipeline.restRefs sig spec0,
      r.2.mem ((c.tc : Thread nD τ).loc b) = StableHlo.after ([hostOps1] : List (List (HloOp τ sig (Elt F)))).flatten (VG m c) (Proc.devRef .tc b)) ∧ r.2.sem = fun _ => 0) :=
  Pipeline.θ_run_frame_dmaR_aroundV (Q' := _) cfgs (datsV m) (0 : Fin 1) launch0 osem0 defs₀ Variants.none ownSemFacts0 H0 R0 H0_sub R0_sub m ρ main
    (hbody := fun c => (body_obligationV m hm c).loose) (hshare := fun c => (datsV m 0 c).share_full fun _ => rfl)
    (howed := fun _ _ => rfl) (V₀ := V0 m) (opss := [hostOps1]) (hsub := sfx_sub) (hfresh := sfx_fresh) (hkeep := sfx_keeps) (G := GV m)
    (hmain := hmainD m Variants.none) (hA := A_eqV m)
    (hin := fun _ => .rfl) (hout := fun _ => .rfl) (hQ' := fun r h => ⟨fun c => (h.1 c).2, h.2⟩)

end Cert.KernelIdeal.Hand
-- ==== Proof.KI.Host.lean ====
/-
  The ideal kernel's host lines read at an index: the token words, the packed table's bytes, the weights' tiles; and the
  two results' rearrangement.
-/
module

public import proofs.«01_k».proof.Proof.KI.Frame
public import Idealize.ShloMosaic.Lib.BitcastConvert

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.ShloMosaic.ValueIdx Idealize.SL.Sem

variable {F : FTy → Type} [FloatOps F] [Named F]
variable (m : (ℓ : Loc nD τ sig) → Buf (Elt F) ℓ) (ρ : Dev nD → PrngReg)

/-- The arguments, by their contents. -/
abbrev A0 (c : Dev nD) : S2x8192.Idx → BitVec 32 := m ((c : Thread nD τ).loc main_arg0)
abbrev A1 (c : Dev nD) : S64000x5632.Idx → BitVec 8 := m ((c : Thread nD τ).loc main_arg1)
abbrev A2 (c : Dev nD) : S64000.Idx → F .f32 := m ((c : Thread nD τ).loc main_arg2)
abbrev A3 (c : Dev nD) : S5632.Idx → F .bf16 := m ((c : Thread nD τ).loc main_arg3)

/-- The windows' blocks are their arrays. -/
theorem blk_0 (c : Dev nD) (y : S16384.Idx) : (iblk m c 0 pt0 : S16384.Idx → BitVec 32) y = (V m c main_v0 : S16384.Idx → BitVec 32) y := by
  show (V m c main_v0 : S16384.Idx → BitVec 32) _ = _
  refine congrArg (V m c main_v0 : S16384.Idx → BitVec 32) ?_
  funext a; apply Fin.ext; fin_cases a
  exact (Nat.zero_add _).trans (Nat.one_mul _)
theorem blk_1 (c : Dev nD) (y : S44x128.Idx) : (iblk m c 1 pt0 : S44x128.Idx → F .f32) y = (V m c main_v5 : S44x128.Idx → F .f32) y := by
  show (V m c main_v5 : S44x128.Idx → F .f32) _ = _
  refine congrArg (V m c main_v5 : S44x128.Idx → F .f32) ?_
  funext a; apply Fin.ext; fin_cases a <;> exact (Nat.zero_add _).trans (Nat.one_mul _)

theorem V_table (c : Dev nD) : V m c main_v3 = (Host.bitcastConvertWiden S16000x5632 32
    (transpose S16000x5632x4 [0, 2, 1] (shapeCast S16000x4x5632 (A1 m c) shapeCasts_S64000x5632_S16000x4x5632) transposes_S16000x4x5632_S16000x5632x4_0_2_1)
    splits_S16000x5632_w32_S16000x5632x4_w8 : S16000x5632.Idx → BitVec 32) := by
  show StableHlo.after hostOps0 _ (Proc.devRef .tc main_v3) = _
  after_results
  rfl
theorem V_weights (c : Dev nD) : V m c main_v5 = (shapeCast S44x128 (extf .f32 (A3 m c) bitsLt_bf16_f32) shapeCasts_S5632_S44x128 : S44x128.Idx → F .f32) := by
  show StableHlo.after hostOps0 _ (Proc.devRef .tc main_v5) = _
  after_results
  rfl

/-- Token `n`'s word. -/
theorem tok_at (c : Dev nD) (b : Fin 2) (s : Fin 8192) (n : ℕ) (hn : n = 8192 * b.val + s.val) :
    tkOf (iblk m c 0 pt0 : S16384.Idx → BitVec 32) n = A0 m c (ix2 b s) := by
  have hlt : n < 16384 := by omega
  unfold tkOf
  rw [dif_pos hlt, blk_0, V_tokens]
  refine congrArg (A0 m c) ?_
  apply Shape.reshapeEquiv_eq_of_rowMajor
  refine (Shape.rowMajor_val_two (d := ![2, 8192]) _).trans (Eq.trans ?_ (Shape.rowMajor_val_one (d := ![16384]) _).symm)
  show b.val * 8192 + s.val = n
  omega

/-- Byte `b` of the packed table's word. -/
theorem word_at (c : Dev nD) (r : Fin 16000) (d : Fin 5632) (b : Fin 4) (R : Fin 64000) (hR : R.val = 4 * r.val + b.val) (q : ℕ) (hq : q < 8) :
    ((V m c main_v3 : S16000x5632.Idx → BitVec 32) (ix2 r d)).getLsbD (8 * b.val + q) = (A1 m c (ix2 R d)).getLsbD q := by
  have hb := b.isLt
  rw [V_table, Host.bitcastConvertWiden_getLsbD _ _ _ _ _ _ (by omega), show (8 * b.val + q) % 8 = q by omega]
  congr 1
  refine congrArg (A1 m c) ?_
  apply Shape.reshapeEquiv_eq_of_rowMajor
  refine (Shape.rowMajor_val_two (d := ![64000, 5632]) _).trans (Eq.trans ?_ (Shape.rowMajor_val_three (d := ![16000, 4, 5632]) _).symm)
  show R.val * 5632 + d.val = (r.val * 4 + (8 * b.val + q) / 8) * 5632 + d.val
  omega

/-- The weights' tiles are the weights. -/
theorem weight_at (c : Dev nD) (d : Fin 5632) (r : Fin 44) (l : Fin 128) (hd : d.val = r.val * 128 + l.val) :
    (iblk m c 1 pt0 : S44x128.Idx → F .f32) (ix2 r l) = extf .f32 (A3 m c) bitsLt_bf16_f32 (ix1 d) := by
  rw [blk_1, V_weights]
  refine congrArg (extf .f32 (A3 m c) bitsLt_bf16_f32) ?_
  apply Shape.reshapeEquiv_eq_of_rowMajor
  refine (Shape.rowMajor_val_one (d := ![5632]) _).trans (Eq.trans ?_ (Shape.rowMajor_val_two (d := ![44, 128]) _).symm)
  exact hd

/-! ## The results -/

/-- The host lines after the region bring row `n` of the groups to its place. -/
theorem out_at {α : Type} (f : S2048x44x8x128.Idx → α) (b : Fin 2) (s : Fin 8192) (d : Fin 5632) :
    shapeCast S2x8192x5632 (transpose S2048x8x44x128 [0, 2, 1, 3] f transposes_S2048x44x8x128_S2048x8x44x128_0_2_1_3) shapeCasts_S2048x8x44x128_S2x8192x5632 (ix3 b s d)
      = f (ix4 (⟨(8192 * b.val + s.val) / 8, by omega⟩ : Fin 2048) (⟨d.val / 128, by omega⟩ : Fin 44) (⟨(8192 * b.val + s.val) % 8, by omega⟩ : Fin 8) (⟨d.val % 128, by omega⟩ : Fin 128)) := by
  have e : Shape.reshapeEquiv shapeCasts_S2048x8x44x128_S2x8192x5632 (ix3 b s d)
      = ix4 (⟨(8192 * b.val + s.val) / 8, by omega⟩ : Fin 2048) (⟨(8192 * b.val + s.val) % 8, by omega⟩ : Fin 8) (⟨d.val / 128, by omega⟩ : Fin 44) (⟨d.val % 128, by omega⟩ : Fin 128) := by
    apply Shape.reshapeEquiv_eq_of_rowMajor
    refine (Shape.rowMajor_val_four (d := ![2048, 8, 44, 128]) _).trans (Eq.trans ?_ (Shape.rowMajor_val_three (d := ![2, 8192, 5632]) _).symm)
    show ((((8192 * b.val + s.val) / 8) * 8 + (8192 * b.val + s.val) % 8) * 44 + d.val / 128) * 128 + d.val % 128 = (b.val * 8192 + s.val) * 5632 + d.val
    omega
  show f (transposes_S2048x44x8x128_S2048x8x44x128_0_2_1_3.src _) = _
  erw [e]
  refine congrArg f ?_
  funext a; apply Fin.ext; fin_cases a <;> rfl

theorem VG_0 (c : Dev nD) : VG m c (Proc.devRef .tc main_v6_0) = gO m c := by
  unfold VG
  rw [Pipeline.withArrays_of_ne _ _ _ _ main_v6_0 (by decide), Pipeline.withR_of_mem _ _ _ _ main_v6_0 (by decide), GV_0]
theorem VG_1 (c : Dev nD) : VG m c (Proc.devRef .tc main_v6_1) = gE m c := by
  unfold VG
  rw [Pipeline.withArrays_of_ne _ _ _ _ main_v6_1 (by decide), Pipeline.withR_of_mem _ _ _ _ main_v6_1 (by decide), GV_1]
theorem VG_arg (c : Dev nD) (b : Ref sig .tc) (h0 : ∀ w, Pipeline.arrRef spec0 w ≠ b) (h1 : b ∉ R0) : VG m c (Proc.devRef .tc b) = V m c b := by
  unfold VG
  rw [Pipeline.withArrays_of_ne _ _ _ _ b h0, Pipeline.withR_of_not_mem _ _ _ _ b h1]

/-- The results as the run leaves them. -/
def outO (c : Dev nD) : S2x8192x5632.Idx → F .bf16 :=
  shapeCast S2x8192x5632 (transpose S2048x8x44x128 [0, 2, 1, 3] (gO m c) transposes_S2048x44x8x128_S2048x8x44x128_0_2_1_3) shapeCasts_S2048x8x44x128_S2x8192x5632
def outE (c : Dev nD) : S2x8192x5632.Idx → F .bf16 :=
  shapeCast S2x8192x5632 (transpose S2048x8x44x128 [0, 2, 1, 3] (gE m c) transposes_S2048x44x8x128_S2048x8x44x128_0_2_1_3) shapeCasts_S2048x8x44x128_S2x8192x5632

theorem after_o (c : Dev nD) : StableHlo.after ([hostOps1] : List (List (HloOp τ sig (Elt F)))).flatten (VG m c) (Proc.devRef .tc main_v8) = outO m c := by
  show StableHlo.after hostOps1 (VG m c) (Proc.devRef .tc main_v8) = _
  unfold outO
  rw [← VG_0]
  after_results
  rfl
theorem after_e (c : Dev nD) : StableHlo.after ([hostOps1] : List (List (HloOp τ sig (Elt F)))).flatten (VG m c) (Proc.devRef .tc main_v10) = outE m c := by
  show StableHlo.after hostOps1 (VG m c) (Proc.devRef .tc main_v10) = _
  unfold outE
  rw [← VG_1]
  after_results
  rfl
theorem after_0 (c : Dev nD) : StableHlo.after ([hostOps1] : List (List (HloOp τ sig (Elt F)))).flatten (VG m c) (Proc.devRef .tc main_arg0) = m ((c : Thread nD τ).loc main_arg0) := by
  show StableHlo.after hostOps1 (VG m c) (Proc.devRef .tc main_arg0) = _
  rw [← V_main_arg0 m c, ← VG_arg m c main_arg0 (by decide) (by decide)]
  after_results
theorem after_1 (c : Dev nD) : StableHlo.after ([hostOps1] : List (List (HloOp τ sig (Elt F)))).flatten (VG m c) (Proc.devRef .tc main_arg1) = m ((c : Thread nD τ).loc main_arg1) := by
  show StableHlo.after hostOps1 (VG m c) (Proc.devRef .tc main_arg1) = _
  rw [← V_main_arg1 m c, ← VG_arg m c main_arg1 (by decide) (by decide)]
  after_results
theorem after_2 (c : Dev nD) : StableHlo.after ([hostOps1] : List (List (HloOp τ sig (Elt F)))).flatten (VG m c) (Proc.devRef .tc main_arg2) = m ((c : Thread nD τ).loc main_arg2) := by
  show StableHlo.after hostOps1 (VG m c) (Proc.devRef .tc main_arg2) = _
  rw [← V_main_arg2 m c, ← VG_arg m c main_arg2 (by decide) (by decide)]
  after_results
theorem after_3 (c : Dev nD) : StableHlo.after ([hostOps1] : List (List (HloOp τ sig (Elt F)))).flatten (VG m c) (Proc.devRef .tc main_arg3) = m ((c : Thread nD τ).loc main_arg3) := by
  show StableHlo.after hostOps1 (VG m c) (Proc.devRef .tc main_arg3) = _
  rw [← V_main_arg3 m c, ← VG_arg m c main_arg3 (by decide) (by decide)]
  after_results

variable (hm : ∀ (c : Dev nD) x, (m ((c : Thread nD τ).loc main_arg0) x : BitVec 32).toNat < 64000)

include hm in
/-- The run: both results at their values, the arguments as they were, every semaphore at zero. -/
theorem run_all : θ_run defs (onTc (τ := τ) (main (F := F))) ⟨m, fun _ => 0, ρ⟩ (fun r => (∀ c : Dev nD,
      r.2.mem ((c.tc : Thread nD τ).loc main_v8) = outO m c ∧ r.2.mem ((c.tc : Thread nD τ).loc main_v10) = outE m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c main_v8 (Pipeline.mem_restRefs_of main_v8 (by decide) (by decide))).trans (after_o m c),
      (h.1 c main_v10 (Pipeline.mem_restRefs_of main_v10 (by decide) (by decide))).trans (after_e m c),
      (h.1 c main_arg0 (Pipeline.mem_restRefs_of main_arg0 (by decide) (by decide))).trans (after_0 m c),
      (h.1 c main_arg1 (Pipeline.mem_restRefs_of main_arg1 (by decide) (by decide))).trans (after_1 m c),
      (h.1 c main_arg2 (Pipeline.mem_restRefs_of main_arg2 (by decide) (by decide))).trans (after_2 m c),
      (h.1 c main_arg3 (Pipeline.mem_restRefs_of main_arg3 (by decide) (by decide))).trans (after_3 m c)⟩, h.2⟩) (run_mainV m ρ hm)

include hm in
/-- The frame at any number system. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2, h.2⟩) (run_all m ρ hm)

end Cert.KernelIdeal.Hand

end
-- ==== Proof.Spec.lean ====
/-
  What both programs compute, at the extended reals, by plain formulas: the dequantized row of a token and the row
  normed by its root mean square; and the two facts of arithmetic between them, a byte of a word and a sum by tiles.
-/
module

public import Idealize.ShloMosaic.PureOps.Ideal
public import Idealize.ShloMosaic.PureOps.Ideal.Laws
public import Idealize.ShloMosaic.Lib.IdealHost

@[expose] public section

noncomputable section

namespace Cert.Spec

open Idealize.ShloMosaic Idealize.ShloMosaic.ValueIdx

/-- The element a code and a scale make. -/
def deq (code : BitVec 8) (scale : EReal) : EReal := (((code.signExtend 32).toInt : ℝ) : EReal) * scale

/-- The dequantized element `d` of token word `w`. -/
def emb (a1 : (⟨2, ![64000, 5632]⟩ : Shape).Idx → BitVec 8) (a2 : (⟨1, ![64000]⟩ : Shape).Idx → EReal) (w : BitVec 32) (d : Fin 5632) : EReal :=
  deq (a1 (ix2 (⟨w.toNat % 64000, Nat.mod_lt _ (by decide)⟩ : Fin 64000) d)) (a2 (ix1 (⟨w.toNat % 64000, Nat.mod_lt _ (by decide)⟩ : Fin 64000)))

/-- The reciprocal root mean square of a row. -/
def rms (f : Fin 5632 → EReal) : EReal :=
  Ideal.rsqrt ((∑ d, f d * f d) * ((1 / 5632 : ℝ) : EReal) + Ideal.ofBits .f32 0x358637BD#32)

/-- The normed element. -/
def normed (f : Fin 5632 → EReal) (w : (⟨1, ![5632]⟩ : Shape).Idx → EReal) (d : Fin 5632) : EReal := f d * rms f * w (ix1 d)

/-- A product with 1/5632 is the quotient by the float 5632. -/
theorem div_d (x : EReal) : Ideal.div x (Ideal.ofBits .f32 0x45B00000#32) = x * ((1 / 5632 : ℝ) : EReal) := by
  have e : Ideal.ofBits .f32 0x45B00000#32 = ((5632 : ℝ) : EReal) := by
    simp [Ideal.ofBits, Ideal.ieee, -EReal.coe_mul]; norm_num
  rw [e]
  unfold Ideal.div
  rw [if_neg (by norm_cast)]
  congr 1
  rw [one_div]
  exact (EReal.coe_inv _).symm

/-- Byte `b` of a word, brought to the top and shifted down signed, is the byte's signed extension. -/
theorem byte_eq (w : BitVec 32) (v : BitVec 8) (b : ℕ) (hb : b < 4) (h : ∀ q < 8, w.getLsbD (8 * b + q) = v.getLsbD q) :
    (w <<< (24 - 8 * b)).sshiftRight 24 = v.signExtend 32 := by
  have hv : ∀ q < 8, (w <<< (24 - 8 * b)).getLsbD (24 + q) = v.getLsbD q := fun q hq => by
    rw [BitVec.getLsbD_shiftLeft, ← h q hq]
    have h1 : 24 + q < 32 := by omega
    have h2 : ¬ 24 + q < 24 - 8 * b := by omega
    simp only [h1, h2, decide_true, decide_false, Bool.true_and, Bool.not_false]
    congr 1; omega
  apply BitVec.eq_of_getLsbD_eq
  intro i hi
  rw [BitVec.getLsbD_sshiftRight, BitVec.getLsbD_signExtend]
  have h32 : ¬ 32 ≤ i := by omega
  simp only [h32, hi, decide_true, decide_false, Bool.true_and, Bool.not_false]
  by_cases h8 : i < 8
  · rw [if_pos (by omega), if_pos h8, hv i h8]
  · rw [if_neg (by omega), if_neg h8, BitVec.msb_eq_getLsbD_last, BitVec.msb_eq_getLsbD_last]
    exact hv 7 (by decide)

/-- A row's sum taken lane by lane: five tiles of eight rows, then one of four. -/
theorem sum_tiles (f : ℕ → EReal) :
    ∑ l : Fin 128, ((∑ r : Fin 8, (f ((0 + r.val) * 128 + l.val) + f ((8 + r.val) * 128 + l.val) + f ((16 + r.val) * 128 + l.val)
      + f ((24 + r.val) * 128 + l.val) + f ((32 + r.val) * 128 + l.val))) + ∑ r : Fin 4, f ((40 + r.val) * 128 + l.val))
      = ∑ d : Fin 5632, f d.val := by
  have key : ∀ g : ℕ → EReal, (∑ r : Fin 8, (g (0 + r.val) + g (8 + r.val) + g (16 + r.val) + g (24 + r.val) + g (32 + r.val)))
      + ∑ r : Fin 4, g (40 + r.val) = ∑ R : Fin 44, g R.val := by
    intro g
    rw [Fin.sum_univ_eq_sum_range (fun r => g (0 + r) + g (8 + r) + g (16 + r) + g (24 + r) + g (32 + r)) 8,
      Fin.sum_univ_eq_sum_range (fun r => g (40 + r)) 4, Fin.sum_univ_eq_sum_range g 44]
    have h44 : ∑ x ∈ Finset.range 44, g x = ∑ x ∈ Finset.range (8 + 8 + 8 + 8 + 8 + 4), g x := rfl
    rw [h44, Finset.sum_range_add, Finset.sum_range_add, Finset.sum_range_add, Finset.sum_range_add, Finset.sum_range_add]
    simp only [Finset.sum_add_distrib, Nat.zero_add]
  rw [Finset.sum_congr rfl fun l _ => key fun R => f (R * 128 + l.val), Finset.sum_comm,
    ← Fintype.sum_prod_type' (f := fun (R : Fin 44) (l : Fin 128) => f (R.val * 128 + l.val))]
  refine Fintype.sum_equiv (finProdFinEquiv (m := 44) (n := 128)) _ (fun d : Fin 5632 => f d.val) fun p => ?_
  congr 1
  show p.1.val * 128 + p.2.val = p.2.val + 128 * p.1.val
  omega

end Cert.Spec

end
-- ==== Proof.RefVal.lean ====
/-
  The reference's two results at an index, at the extended reals: the formulas of Proof/Spec.lean.
-/
module

public import proofs.«01_k».proof.Proof.Ref
public import proofs.«01_k».proof.Proof.Spec

@[expose] public section

set_option maxHeartbeats 4000000

noncomputable section

namespace Cert.ReferenceIdeal.Hand

open Cert.ReferenceIdeal Cert.ReferenceIdeal.Gen Cert.ReferenceIdeal.Facts
open Idealize.ShloMosaic Idealize.ShloMosaic.TcCoe Idealize.ShloMosaic.StableHlo Idealize.SL.Sem Idealize.ShloMosaic.ValueIdx

/-- The start indices the reference gathers at. -/
def startIdx (a0 : S2x8192.Idx → BitVec 32) : S2x8192x1.Idx → BitVec 32 :=
  broadcastInDim S2x8192x1 ![0, 1] bcast_S2x8192_S2x8192x1_0_1
    (select (cmpi .slt a0 (broadcastInDim S2x8192 ![] bcast_S_S2x8192 (constantI S_ 32 0#32)))
      (addi a0 (broadcastInDim S2x8192 ![] bcast_S_S2x8192 (constantI S_ 32 64000#32))) a0)

/-- A token in the vocabulary is not moved. -/
theorem startIdx_at (a0 : S2x8192.Idx → BitVec 32) (h : ∀ x, (a0 x).toNat < 64000) (j : S2x8192x1.Idx) :
    startIdx a0 j = a0 (ix2 (j 0) (j 1)) := by
  have e : startIdx a0 j = if BitVec.ofBool ((a0 (ix2 (j 0) (j 1))).slt 0#32) = 1#1 then a0 (ix2 (j 0) (j 1)) + 64000#32 else a0 (ix2 (j 0) (j 1)) := by
    unfold startIdx
    have ej : ∀ f : S2x8192.Idx → BitVec 32, broadcastInDim S2x8192x1 ![0, 1] bcast_S2x8192_S2x8192x1_0_1 f j = f (ix2 (j 0) (j 1)) := fun f => by
      unfold broadcastInDim
      refine congrArg f ?_
      funext a; apply Fin.ext; fin_cases a <;> rfl
    rw [ej]
    rfl
  rw [e, if_neg]
  have hx := h (ix2 (j 0) (j 1))
  have hs : (a0 (ix2 (j 0) (j 1))).slt 0#32 = false := by
    simp only [BitVec.slt, decide_eq_false_iff_not, BitVec.toInt, BitVec.toNat_ofNat]
    split <;> omega
  rw [hs]; decide

theorem toInt_toNat {w : BitVec 32} (h : w.toNat < 64000) : w.toInt.toNat = w.toNat := by
  simp only [BitVec.toInt]
  split <;> omega

/-- The gathered codes. -/
theorem codes_at (a0 : S2x8192.Idx → BitVec 32) (h : ∀ x, (a0 x).toNat < 64000) (a1 : S64000x5632.Idx → BitVec 8) (b : Fin 2) (s : Fin 8192) (d : Fin 5632) :
    Host.gather gather_S64000x5632_S2x8192x1_S2x8192x5632_2_0_n_n_0_2_15632 a1 (startIdx a0) (ix3 b s d)
      = a1 (ix2 (⟨(a0 (ix2 b s)).toNat % 64000, Nat.mod_lt _ (by decide)⟩ : Fin 64000) d) := by
  unfold Host.gather
  refine congrArg a1 ?_
  have hx := h (ix2 b s)
  funext a; apply Fin.ext; fin_cases a
  · show min (startIdx a0 _).toInt.toNat (64000 - 1) + 0 + 0 = (a0 (ix2 b s)).toNat % 64000
    rw [startIdx_at a0 h]
    have e : ∀ j : S2x8192x1.Idx, (j 0).val = b.val → (j 1).val = s.val → a0 (ix2 (j 0) (j 1)) = a0 (ix2 b s) := fun j e0 e1 => by
      congr 1; funext a; apply Fin.ext; fin_cases a; exacts [e0, e1]
    rw [e _ rfl rfl, toInt_toNat hx, Nat.mod_eq_of_lt hx]
    omega
  · exact (congrArg (· + d.val) (Nat.add_zero 0)).trans (Nat.zero_add _)

/-- The gathered scales. -/
theorem scales_at {α : Type} (a0 : S2x8192.Idx → BitVec 32) (h : ∀ x, (a0 x).toNat < 64000) (a2 : S64000.Idx → α) (j : S2x8192.Idx) :
    Host.gather gather_S64000_S2x8192x1_S2x8192_n_0_n_n_0_2_1 a2 (startIdx a0) j
      = a2 (ix1 (⟨(a0 j).toNat % 64000, Nat.mod_lt _ (by decide)⟩ : Fin 64000)) := by
  unfold Host.gather
  refine congrArg a2 ?_
  have hx := h j
  funext a; apply Fin.ext; fin_cases a
  show min (startIdx a0 _).toInt.toNat (64000 - 1) + 0 + 0 = (a0 j).toNat % 64000
  rw [startIdx_at a0 h]
  have e : ∀ i : S2x8192x1.Idx, (i 0).val = (j 0).val → (i 1).val = (j 1).val → a0 (ix2 (i 0) (i 1)) = a0 j := fun i e0 e1 => by
    congr 1; funext a; apply Fin.ext; fin_cases a; exacts [e0, e1]
  rw [e _ rfl rfl, toInt_toNat hx, Nat.mod_eq_of_lt hx]
  omega

/-- The reference's emb. -/
def embR (a0 : S2x8192.Idx → BitVec 32) (a1 : S64000x5632.Idx → BitVec 8) (a2 : S64000.Idx → EReal) : FVec Ideal S2x8192x5632 .bf16 :=
  mulf (truncf .bf16 (sitofp .f32 (extsi 32 (Host.gather gather_S64000x5632_S2x8192x1_S2x8192x5632_2_0_n_n_0_2_15632 a1 (startIdx a0)) natLt_8_32)) bitsLt_bf16_f32)
    (broadcastInDim S2x8192x5632 ![0, 1, 2] bcast_S2x8192x1_S2x8192x5632_0_1_2 (broadcastInDim S2x8192x1 ![0, 1] bcast_S2x8192_S2x8192x1_0_1
      (truncf (F := Ideal) .bf16 (Host.gather gather_S64000_S2x8192x1_S2x8192_n_0_n_n_0_2_1 (a2 : FVec Ideal S64000 .f32) (startIdx a0)) bitsLt_bf16_f32)))

/-- The reference's reciprocal root mean squares. -/
def rmsR (E : FVec Ideal S2x8192x5632 .bf16) : FVec Ideal S2x8192x1 .f32 :=
  Host.rsqrt (addf (Host.divf (broadcastInDim S2x8192x1 ![0, 1] bcast_S2x8192_S2x8192x1_0_1
      (Host.reduceAdd (mulf (extf .f32 E bitsLt_bf16_f32) (extf .f32 E bitsLt_bf16_f32)) (constant S_ .f32 0x00000000#32) reducesTo_S2x8192x5632_S2x8192_d2 h_S_))
    (broadcastInDim S2x8192x1 ![] bcast_S_S2x8192x1 (constant S_ .f32 0x45B00000#32)))
    (broadcastInDim S2x8192x1 ![] bcast_S_S2x8192x1 (constant S_ .f32 0x358637BD#32)))

/-- The reference's out. -/
def outR (E : FVec Ideal S2x8192x5632 .bf16) (a3 : FVec Ideal S5632 .bf16) : FVec Ideal S2x8192x5632 .bf16 :=
  truncf .bf16 (mulf (mulf (extf .f32 E bitsLt_bf16_f32) (broadcastInDim S2x8192x5632 ![0, 1, 2] bcast_S2x8192x1_S2x8192x5632_0_1_2 (rmsR E)))
    (broadcastInDim S2x8192x5632 ![0, 1, 2] bcast_S1x1x5632_S2x8192x5632_0_1_2 (broadcastInDim S1x1x5632 ![2] bcast_S5632_S1x1x5632_2 (extf .f32 a3 bitsLt_bf16_f32)))) bitsLt_bf16_f32

theorem after_emb (V : Valuation τ sig (Elt Ideal)) : after ops V (main_v20 : DevRef τ sig)
    = embR (V (main_arg0 : DevRef τ sig)) (V (main_arg1 : DevRef τ sig)) (V (main_arg2 : DevRef τ sig)) := by
  after_results
  rfl
theorem after_out (V : Valuation τ sig (Elt Ideal)) : after ops V (main_v36 : DevRef τ sig)
    = outR (embR (V (main_arg0 : DevRef τ sig)) (V (main_arg1 : DevRef τ sig)) (V (main_arg2 : DevRef τ sig))) (V (main_arg3 : DevRef τ sig)) := by
  after_results
  rfl

theorem bc1 {α : Type} (f : S2x8192.Idx → α) (b : Fin 2) (s : Fin 8192) :
    broadcastInDim S2x8192x1 ![0, 1] bcast_S2x8192_S2x8192x1_0_1 f (ix3 b s 0) = f (ix2 b s) := by
  unfold broadcastInDim
  refine congrArg f ?_
  funext a; apply Fin.ext; fin_cases a <;> rfl
theorem bc2 {α : Type} (f : S2x8192x1.Idx → α) (b : Fin 2) (s : Fin 8192) (d : Fin 5632) :
    broadcastInDim S2x8192x5632 ![0, 1, 2] bcast_S2x8192x1_S2x8192x5632_0_1_2 f (ix3 b s d) = f (ix3 b s 0) := by
  unfold broadcastInDim
  refine congrArg f ?_
  funext a; apply Fin.ext; fin_cases a <;> rfl
theorem bc3 {α : Type} (f : S5632.Idx → α) (b : Fin 2) (s : Fin 8192) (d : Fin 5632) :
    broadcastInDim S2x8192x5632 ![0, 1, 2] bcast_S1x1x5632_S2x8192x5632_0_1_2 (broadcastInDim S1x1x5632 ![2] bcast_S5632_S1x1x5632_2 f) (ix3 b s d) = f (ix1 d) := by
  unfold broadcastInDim
  refine congrArg f ?_
  funext a; apply Fin.ext; fin_cases a; rfl

theorem embR_at (a0 : S2x8192.Idx → BitVec 32) (h : ∀ x, (a0 x).toNat < 64000) (a1 : S64000x5632.Idx → BitVec 8) (a2 : S64000.Idx → EReal)
    (b : Fin 2) (s : Fin 8192) (d : Fin 5632) : embR a0 a1 a2 (ix3 b s d) = Spec.emb a1 a2 (a0 (ix2 b s)) d := by
  show (((((Host.gather gather_S64000x5632_S2x8192x1_S2x8192x5632_2_0_n_n_0_2_15632 a1 (startIdx a0) (ix3 b s d)).signExtend 32).toInt : ℝ) : EReal) : EReal)
    * broadcastInDim S2x8192x5632 ![0, 1, 2] bcast_S2x8192x1_S2x8192x5632_0_1_2 (broadcastInDim S2x8192x1 ![0, 1] bcast_S2x8192_S2x8192x1_0_1
      (Host.gather gather_S64000_S2x8192x1_S2x8192_n_0_n_n_0_2_1 a2 (startIdx a0))) (ix3 b s d) = _
  rw [bc2, bc1, codes_at a0 h, scales_at a0 h]
  rfl

theorem red_d2 : S2x8192x5632.Reduces [(2 : Fin 3)] S2x8192 := by decide

theorem rmsR_at (E : FVec Ideal S2x8192x5632 .bf16) (b : Fin 2) (s : Fin 8192) :
    rmsR E (ix3 b s 0) = Spec.rms fun d => E (ix3 b s d) := by
  have hr : Host.reduceAdd (mulf (extf .f32 E bitsLt_bf16_f32) (extf .f32 E bitsLt_bf16_f32)) (constant S_ .f32 0x00000000#32) reducesTo_S2x8192x5632_S2x8192_d2 h_S_ (ix2 b s)
      = (∑ d : Fin 5632, E (ix3 b s d) * E (ix3 b s d) : EReal) := by
    rw [hostReduceAdd_apply]
    refine (Ideal.hostReduceAdd_single reducesTo_S2x8192x5632_S2x8192_d2 red_d2 _ _ _).trans ?_
    have h0 : (constant S_ .f32 0x00000000#32 : FVec Ideal S_ .f32) (Shape.Idx.first h_S_) = (0 : EReal) := Ideal.ofBits_zero_f32
    rw [h0, zero_add]
    refine Finset.sum_congr rfl fun k _ => ?_
    have e : red_d2.lift (ix2 b s) k = ix3 b s k := by
      funext a; apply Fin.ext; fin_cases a <;> rfl
    rw [e]
    rfl
  have hd : rmsR E (ix3 b s 0) = Ideal.rsqrt (Ideal.div (broadcastInDim S2x8192x1 ![0, 1] bcast_S2x8192_S2x8192x1_0_1
      (Host.reduceAdd (mulf (extf .f32 E bitsLt_bf16_f32) (extf .f32 E bitsLt_bf16_f32)) (constant S_ .f32 0x00000000#32) reducesTo_S2x8192x5632_S2x8192_d2 h_S_) (ix3 b s 0))
      (Ideal.ofBits .f32 0x45B00000#32) + Ideal.ofBits .f32 0x358637BD#32) := rfl
  rw [hd, bc1, hr, Spec.div_d]
  rfl

theorem outR_at (E : FVec Ideal S2x8192x5632 .bf16) (a3 : S5632.Idx → EReal) (b : Fin 2) (s : Fin 8192) (d : Fin 5632) :
    outR E a3 (ix3 b s d) = Spec.normed (fun d => E (ix3 b s d)) a3 d := by
  show (E (ix3 b s d) : EReal) * broadcastInDim S2x8192x5632 ![0, 1, 2] bcast_S2x8192x1_S2x8192x5632_0_1_2 (rmsR E) (ix3 b s d)
    * broadcastInDim S2x8192x5632 ![0, 1, 2] bcast_S1x1x5632_S2x8192x5632_0_1_2 (broadcastInDim S1x1x5632 ![2] bcast_S5632_S1x1x5632_2 a3) (ix3 b s d) = _
  rw [bc2, bc3, rmsR_at]
  rfl

end Cert.ReferenceIdeal.Hand

end
-- ==== Proof.KI.Equal.lean ====
/-
  The ideal kernel's two results at an index, at the extended reals: the formulas of Proof/Spec.lean.
-/
module

public import proofs.«01_k».proof.Proof.KI.Host
public import proofs.«01_k».proof.Proof.Spec

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.ShloMosaic.ValueIdx Idealize.SL.Sem

namespace Vl
variable (V : Vl Ideal)

/-- The sum of a token's squares, lane by lane. -/
theorem col_at (i : ℕ) (y : S1x128.Idx) : V.col i y =
    ((∑ r : Fin 8, (V.e i ((0 + r.val) * 128 + (y 1).val) * V.e i ((0 + r.val) * 128 + (y 1).val) + V.e i ((8 + r.val) * 128 + (y 1).val) * V.e i ((8 + r.val) * 128 + (y 1).val)
      + V.e i ((16 + r.val) * 128 + (y 1).val) * V.e i ((16 + r.val) * 128 + (y 1).val) + V.e i ((24 + r.val) * 128 + (y 1).val) * V.e i ((24 + r.val) * 128 + (y 1).val)
      + V.e i ((32 + r.val) * 128 + (y 1).val) * V.e i ((32 + r.val) * 128 + (y 1).val) : EReal))
    + ∑ r : Fin 4, (V.e i ((40 + r.val) * 128 + (y 1).val) * V.e i ((40 + r.val) * 128 + (y 1).val) : EReal) : EReal) := by
  have hc : ∀ f : S128.Idx → EReal, shapeCast S1x128 f shapeCasts_S128_S1x128 y = f (ix1 (⟨(y 1).val, (y 1).isLt⟩ : Fin 128)) := fun f => by
    have hy : (y 0).val < 1 := (y 0).isLt
    refine congrArg f ?_
    apply Shape.reshapeEquiv_eq_of_rowMajor
    refine (Shape.rowMajor_val_one (d := ![128]) _).trans (Eq.trans ?_ (Shape.rowMajor_val_two (d := ![1, 128]) _).symm)
    show (y 1).val = (y 0).val * 128 + (y 1).val
    omega
  show (shapeCast S1x128 (multiReduction .add [0] S128 (V.acc i) 0x00000000#32 reduces_S8x128_S128 (.inl rfl) rfl) shapeCasts_S128_S1x128 y : EReal)
    + shapeCast S1x128 (multiReduction .add [0] S128 (mulf (V.e4 i 40) (V.e4 i 40)) 0x00000000#32 reduces_S4x128_S128 (.inl rfl) rfl) shapeCasts_S128_S1x128 y = _
  rw [hc, hc]
  refine (congrArg₂ (fun a b : EReal => a + b) (Ideal.multiReduction_add_single (V.acc i) _ _ _ _ _) (Ideal.multiReduction_add_single (mulf (V.e4 i 40) (V.e4 i 40)) _ _ _ _ _)).trans ?_
  rfl

/-- A token's reciprocal root mean square. -/
theorem inv_at (i : ℕ) (z : S1x1.Idx) : V.inv i z = Spec.rms fun d => V.e i d.val := by
  have hc : ∀ (f : S1.Idx → EReal) (g : EReal) (h : ∀ j, f j = g), shapeCast S1x1 f shapeCasts_S1_S1x1 z = g := fun f g h => h _
  have hn : (Named.named (F := Ideal) (φ := .f32) κ "inv_d_model" 0x393A2E8C#32 : EReal) = ((1 / 5632 : ℝ) : EReal) := rfl
  show Ideal.rsqrt ((shapeCast S1x1 (multiReduction .add [1] S1 (V.col i) 0x00000000#32 reduces_S1x128_S1 (.inl rfl) rfl) shapeCasts_S1_S1x1 z : EReal)
    * (Named.named (F := Ideal) (φ := .f32) κ "inv_d_model" 0x393A2E8C#32 : EReal) + Ideal.ofBits .f32 0x358637BD#32) = _
  rw [hn, hc _ (∑ d : Fin 5632, V.e i d.val * V.e i d.val : EReal) fun j => ?_]
  · rfl
  · refine (Ideal.multiReduction_add_single (V.col i) _ _ _ _ _).trans ?_
    refine Eq.trans ?_ (Spec.sum_tiles fun d => (V.e i d * V.e i d : EReal))
    exact Finset.sum_congr rfl fun l _ => V.col_at i _

theorem u_at (i d : ℕ) : V.u i d = (V.e i d * (Spec.rms fun d => V.e i d.val) * V.W (d / 128) (d % 128) : EReal) := by
  show (V.e i d * V.inv i (ix2 0 0) * V.W (d / 128) (d % 128) : EReal) = _
  rw [inv_at]

end Vl

variable (m : (ℓ : Loc nD τ sig) → Buf (Elt Ideal) ℓ)

/-- A token's shift, by its last two bits. -/
theorem up_eq (w : BitVec 32) : Scalar.subi 24#32 (Scalar.muli 8#32 (Scalar.andi w 3#32)) = BitVec.ofNat 32 (24 - 8 * (w.toNat % 4)) := by
  show (24#32 - 8#32 * (w &&& 3#32) : BitVec 32) = _
  have h3 : (w &&& 3#32).toNat = w.toNat % 4 := by
    rw [BitVec.toNat_and]
    exact Nat.and_two_pow_sub_one_eq_mod w.toNat 2
  apply BitVec.eq_of_toNat_eq
  rw [BitVec.toNat_sub, BitVec.toNat_mul, h3, BitVec.toNat_ofNat, BitVec.toNat_ofNat, BitVec.toNat_ofNat]
  omega

/-- The emb element. -/
theorem t_at (c : Dev nD) (hm : ∀ x, (A0 m c x).toNat < 64000) (b : Fin 2) (s : Fin 8192) (k i : ℕ) (hk : 8 * k + i = 8192 * b.val + s.val) (d : Fin 5632) :
    (Vm m c k).t i d.val = Spec.emb (A1 m c) (A2 m c) (A0 m c (ix2 b s)) d := by
  have hw := hm (ix2 b s)
  have htk : tkOf (iblk m c 0 pt0 : S16384.Idx → BitVec 32) (8 * k + i) = A0 m c (ix2 b s) := tok_at m c b s _ hk
  have hrow : rowOf (A0 m c (ix2 b s)) = (A0 m c (ix2 b s)).toNat / 4 := by
    unfold rowOf
    rw [BitVec.toNat_ushiftRight, Nat.shiftRight_eq_div_pow]
  have hr := rowOf_lt hw
  have hwd : (Vm m c k).wd i d.val = (V m c main_v3 : S16000x5632.Idx → BitVec 32) (ix2 (⟨rowOf (A0 m c (ix2 b s)), hr⟩ : Fin 16000) d) := by
    show (V m c main_v3 : S16000x5632.Idx → BitVec 32) (ix2 (⟨rowOf (tkOf (iblk m c 0 pt0 : S16384.Idx → BitVec 32) (8 * k + i)) % 16000, _⟩ : Fin 16000) (⟨d.val % 5632, _⟩ : Fin 5632)) = _
    refine congrArg _ ?_
    funext a; apply Fin.ext; fin_cases a
    · show rowOf (tkOf (iblk m c 0 pt0 : S16384.Idx → BitVec 32) (8 * k + i)) % 16000 = rowOf (A0 m c (ix2 b s))
      rw [htk, Nat.mod_eq_of_lt hr]
    · exact Nat.mod_eq_of_lt d.isLt
  have hsc : (Vm m c k).sc i = A2 m c (ix1 (⟨(A0 m c (ix2 b s)).toNat % 64000, Nat.mod_lt _ (by decide)⟩ : Fin 64000)) := by
    show (V m c main_arg2 : S64000.Idx → EReal) (ix1 (⟨(tkOf (iblk m c 0 pt0 : S16384.Idx → BitVec 32) (8 * k + i)).toNat % 64000, _⟩ : Fin 64000)) = _
    rw [V_main_arg2]
    refine congrArg (A2 m c) ?_
    funext a; apply Fin.ext; fin_cases a
    show (tkOf (iblk m c 0 pt0 : S16384.Idx → BitVec 32) (8 * k + i)).toNat % 64000 = (A0 m c (ix2 b s)).toNat % 64000
    rw [htk]
  have hup : (Vm m c k).up i = BitVec.ofNat 32 (24 - 8 * ((A0 m c (ix2 b s)).toNat % 4)) := by
    show Scalar.subi 24#32 (Scalar.muli 8#32 (Scalar.andi (tkOf (iblk m c 0 pt0 : S16384.Idx → BitVec 32) (8 * k + i)) 3#32)) = _
    rw [htk, up_eq]
  show (((IntOp.shrsi .vector (IntOp.shli .vector ((Vm m c k).wd i d.val) ((Vm m c k).up i)) 24#32 : BitVec 32).toInt : ℝ) : EReal) * ((Vm m c k).sc i : EReal) = _
  rw [hsc, hup, hwd]
  unfold Spec.emb Spec.deq
  congr 4
  have hu : (BitVec.ofNat 32 (24 - 8 * ((A0 m c (ix2 b s)).toNat % 4))).toNat = 24 - 8 * ((A0 m c (ix2 b s)).toNat % 4) := by
    rw [BitVec.toNat_ofNat]; omega
  unfold IntOp.shrsi IntOp.shli
  rw [if_pos (by decide), if_pos (by rw [hu]; omega), BitVec.sshiftRight_eq', BitVec.shiftLeft_eq', hu]
  exact Spec.byte_eq _ _ ((A0 m c (ix2 b s)).toNat % 4) (by omega) fun q hq =>
    word_at m c _ d (⟨(A0 m c (ix2 b s)).toNat % 4, by omega⟩ : Fin 4) _ (by
      show (A0 m c (ix2 b s)).toNat % 64000 = 4 * rowOf (A0 m c (ix2 b s)) + (A0 m c (ix2 b s)).toNat % 4
      rw [hrow, Nat.mod_eq_of_lt hw]; omega) q hq

/-- The kernel's emb. -/
theorem outE_at (c : Dev nD) (hm : ∀ x, (A0 m c x).toNat < 64000) (b : Fin 2) (s : Fin 8192) (d : Fin 5632) :
    outE m c (ix3 b s d) = Spec.emb (A1 m c) (A2 m c) (A0 m c (ix2 b s)) d := by
  unfold outE
  rw [out_at]
  show (Vm m c ((8192 * b.val + s.val) / 8)).t ((8192 * b.val + s.val) % 8) (d.val / 128 * 128 + d.val % 128) = _
  rw [show d.val / 128 * 128 + d.val % 128 = d.val by omega]
  exact t_at m c hm b s _ _ (by omega) d

/-- The kernel's out. -/
theorem outO_at (c : Dev nD) (hm : ∀ x, (A0 m c x).toNat < 64000) (b : Fin 2) (s : Fin 8192) (d : Fin 5632) :
    outO m c (ix3 b s d) = Spec.normed (fun d => Spec.emb (A1 m c) (A2 m c) (A0 m c (ix2 b s)) d) (A3 m c) d := by
  unfold outO
  rw [out_at]
  show (Vm m c ((8192 * b.val + s.val) / 8)).u ((8192 * b.val + s.val) % 8) (d.val / 128 * 128 + d.val % 128) = _
  rw [show d.val / 128 * 128 + d.val % 128 = d.val by omega, Vl.u_at]
  have he : ∀ d : Fin 5632, (Vm m c ((8192 * b.val + s.val) / 8)).e ((8192 * b.val + s.val) % 8) d.val = Spec.emb (A1 m c) (A2 m c) (A0 m c (ix2 b s)) d :=
    fun d => t_at m c hm b s _ _ (by omega) d
  have hW : (Vm m c ((8192 * b.val + s.val) / 8)).W (d.val / 128) (d.val % 128) = A3 m c (ix1 d) := by
    refine Eq.trans ?_ (weight_at m c d (⟨d.val / 128, by omega⟩ : Fin 44) (⟨d.val % 128, by omega⟩ : Fin 128) (by show d.val = d.val / 128 * 128 + d.val % 128; omega))
    show (iblk m c 1 pt0 : S44x128.Idx → EReal) (ix2 (⟨d.val / 128 % 44, _⟩ : Fin 44) (⟨d.val % 128 % 128, _⟩ : Fin 128)) = _
    refine congrArg _ ?_
    funext a; apply Fin.ext; fin_cases a
    · show d.val / 128 % 44 = d.val / 128
      omega
    · show d.val % 128 % 128 = d.val % 128
      omega
  unfold Spec.normed
  rw [hW, he, show (fun d : Fin 5632 => ((Vm m c ((8192 * b.val + s.val) / 8)).e ((8192 * b.val + s.val) % 8) d.val : EReal)) = _ from funext he]

end Cert.KernelIdeal.Hand

end
-- ==== Proof.Algebraic.lean ====
/-
  The value claim: over the extended reals, from the same arguments, the kernel and the reference end with the same two
  results.
-/
module

public import proofs.«01_k».proof.Defs
public import proofs.«01_k».proof.Proof.Pre
public import proofs.«01_k».proof.Proof.RefVal
public import proofs.«01_k».proof.Proof.KI.Equal

@[expose] public section

set_option maxHeartbeats 4000000

noncomputable section

namespace Cert.Proof

open Idealize.ShloMosaic Idealize.ShloMosaic.TcCoe Idealize.ShloMosaic.ValueIdx Idealize.SL.Sem

/-- An index of a result, by its three coordinates. -/
theorem idx_eq (j : (⟨3, ![2, 8192, 5632]⟩ : Shape).Idx) : j = ix3 (j 0 : Fin 2) (j 1 : Fin 8192) (j 2 : Fin 5632) := by
  funext a; apply Fin.ext; fin_cases a <;> rfl

section
variable (m : (ℓ : Loc KernelIdeal.nD KernelIdeal.τ KernelIdeal.sig) → Buf (Elt Ideal) ℓ) (c : Dev KernelIdeal.nD)
  (hm : ∀ x, (KernelIdeal.Hand.A0 m c x).toNat < 64000)
include hm

/-- The two programs' emb are the same array. -/
theorem emb_eq : ReferenceIdeal.Hand.embR (KernelIdeal.Hand.A0 m c) (KernelIdeal.Hand.A1 m c) (KernelIdeal.Hand.A2 m c) = KernelIdeal.Hand.outE m c := by
  funext j
  rw [idx_eq j]
  exact (ReferenceIdeal.Hand.embR_at _ hm _ _ _ _ _).trans (KernelIdeal.Hand.outE_at m c hm _ _ _).symm

/-- The two programs' out are the same array. -/
theorem out_eq : ReferenceIdeal.Hand.outR (ReferenceIdeal.Hand.embR (KernelIdeal.Hand.A0 m c) (KernelIdeal.Hand.A1 m c) (KernelIdeal.Hand.A2 m c)) (KernelIdeal.Hand.A3 m c)
    = KernelIdeal.Hand.outO m c := by
  funext j
  rw [idx_eq j]
  refine (ReferenceIdeal.Hand.outR_at _ _ _ _ _).trans (Eq.trans ?_ (KernelIdeal.Hand.outO_at m c hm _ _ _).symm)
  exact congrArg (fun f => Spec.normed f (KernelIdeal.Hand.A3 m c) _) (funext fun d => ReferenceIdeal.Hand.embR_at _ hm _ _ _ _ _)
end

theorem embR_congr {a0 b0 : ReferenceIdeal.S2x8192.Idx → BitVec 32} {a1 b1 : ReferenceIdeal.S64000x5632.Idx → BitVec 8} {a2 b2 : ReferenceIdeal.S64000.Idx → EReal}
    (e0 : a0 = b0) (e1 : a1 = b1) (e2 : a2 = b2) : ReferenceIdeal.Hand.embR a0 a1 a2 = ReferenceIdeal.Hand.embR b0 b1 b2 := by
  rw [e0, e1, e2]

/-- Kernel and reference compute the same two results over the extended reals. -/
theorem algebraic : Cert.algebraic_KernelIdeal_ReferenceIdeal (hPre_tokens_in_vocabulary := Cert.Pre_tokens_in_vocabulary.Hand.facts) := fun m g m' g' h hargs => by
  have hm : ∀ (c : Dev KernelIdeal.nD) x, (KernelIdeal.Hand.A0 m c x).toNat < 64000 :=
    fun c x => Cert.Pre_tokens_in_vocabulary.Hand.range (F := Ideal) _ _ _ _ (h c) x
  refine ⟨KernelIdeal.Hand.outO m, KernelIdeal.Hand.outE m, (θ_run Cert.KernelIdeal.defs _ _).mono (fun _ h => h.1) (KernelIdeal.Hand.run_all (F := Ideal) m g hm), ?_⟩
  refine (θ_run Cert.ReferenceIdeal.defs _ _).mono (fun r hr c => ?_) (ReferenceIdeal.Hand.run_main (F := Ideal) m' g')
  obtain ⟨e0, e1, e2, e3⟩ := hargs c
  refine ⟨(hr c _).trans ((ReferenceIdeal.Hand.after_out _).trans (Eq.trans ?_ (out_eq m c (hm c)))),
    (hr c _).trans ((ReferenceIdeal.Hand.after_emb _).trans (Eq.trans ?_ (emb_eq m c (hm c)))),
    (hr c _).trans (ReferenceIdeal.Hand.arg_eq _).1, (hr c _).trans (ReferenceIdeal.Hand.arg_eq _).2.1,
    (hr c _).trans (ReferenceIdeal.Hand.arg_eq _).2.2.1, (hr c _).trans (ReferenceIdeal.Hand.arg_eq _).2.2.2⟩
  · exact congrArg₂ ReferenceIdeal.Hand.outR (embR_congr e0 e1 e2) e3
  · exact embR_congr e0 e1 e2

end Cert.Proof

end
-- ==== Proof.lean ====
/-
  The certificate's claims, assembled: the three programs' frames, the idealization, the
  value claim, and the witnesses of the stated side conditions.
-/
module

public import proofs.«01_k».proof.Defs
public import proofs.«01_k».proof.Proof.Pre
public import proofs.«01_k».proof.Proof.Ref
public import proofs.«01_k».proof.Proof.KB.Frame
public import proofs.«01_k».proof.Proof.KI.Host
public import proofs.«01_k».proof.Proof.Algebraic
public import Idealize.ShloMosaic.Lib.Bf16Pair
public import Idealize.ShloMosaic.Adequacy
public import Idealize.ShloMosaic.Init

@[expose] public section

noncomputable section

namespace Cert.Proof

open Idealize.ShloMosaic Idealize.ShloMosaic.TcCoe Idealize.SL.Sem

/-- The kernel's frame, at the bit patterns. -/
theorem frame_p : Cert.quiescent_Kernel (hPre_tokens_in_vocabulary := Cert.Pre_tokens_in_vocabulary.Hand.facts) := fun m ρ h =>
  Cert.Kernel.Hand.frame_run (F := Bits) m ρ fun c x => Cert.Pre_tokens_in_vocabulary.Hand.range (F := Bits) _ _ _ _ (h c) x

/-- The idealized kernel's frame, at the extended reals. -/
theorem frame_pi : Cert.quiescent_KernelIdeal (hPre_tokens_in_vocabulary := Cert.Pre_tokens_in_vocabulary.Hand.facts) := fun m ρ h =>
  Cert.KernelIdeal.Hand.frame_run (F := Ideal) m ρ fun c x => Cert.Pre_tokens_in_vocabulary.Hand.range (F := Ideal) _ _ _ _ (h c) x

/-- The reference's frame. -/
theorem frame_ri : Cert.quiescent_ReferenceIdeal := fun m ρ _ => Cert.ReferenceIdeal.Hand.frame_run (F := Ideal) m ρ

/-- The reference's frame, from the arguments that the value claim speaks of. -/
theorem frame_ri_pre : Cert.quiescent_ReferenceIdeal_pre_tokens_in_vocabulary (hPre_tokens_in_vocabulary := Cert.Pre_tokens_in_vocabulary.Hand.facts) :=
  fun m ρ _ => Cert.ReferenceIdeal.Hand.frame_run (F := Ideal) m ρ

/-- The idealization: each rewrite's statement, closed by its rule's proof. -/
theorem preserves : Cert.preserves_Kernel_KernelIdeal :=
  open Cert.KernelIdeal IdealRules.bf16_pair in
  ⟨packStatement S8x128, statement S8x2x128 S8x1x128, statement S16x128 S8x128, packStatement S4x128,
    statement S4x2x128 S4x1x128, statement S8x128 S4x128, IdealRules.named_const.statement _ _ _ _ _ rfl⟩

/-- Everything claimed. -/
theorem claim : Cert.Claim :=
  ⟨Cert.Kernel.Gen.facts, Cert.KernelIdeal.Gen.facts, Cert.ReferenceIdeal.Gen.facts, Cert.Pre_tokens_in_vocabulary.Hand.facts,
    frame_p, frame_pi, frame_ri, frame_ri_pre, preserves, algebraic⟩

end Cert.Proof

end
